-- ==== Defs.lean ====
def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjRefIdeal (m : (ℓ : Loc Cert.DwProjRefIdeal.nD Cert.DwProjRefIdeal.τ Cert.DwProjRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpAct (m : (ℓ : Loc Cert.MlpAct.nD Cert.MlpAct.τ Cert.MlpAct.sig) → Buf (Elt Bits) ℓ) : Prop :=
  True

def Pre_MlpActIdeal (m : (ℓ : Loc Cert.MlpActIdeal.nD Cert.MlpActIdeal.τ Cert.MlpActIdeal.sig) → Buf (Elt Ideal) ℓ) : Prop :=
  True

def Pre_MlpActRefIdeal (m : (ℓ : Loc Cert.MlpActRefIdeal.nD Cert.MlpActRefIdeal.τ Cert.MlpActRefIdeal.sig) → Buf (Elt Ideal) ℓ) : Prop :=
  True

def Pre_MlpNorm (m : (ℓ : Loc Cert.MlpNorm.nD Cert.MlpNorm.τ Cert.MlpNorm.sig) → Buf (Elt Bits) ℓ) : Prop :=
  True

def Pre_MlpNormIdeal (m : (ℓ : Loc Cert.MlpNormIdeal.nD Cert.MlpNormIdeal.τ Cert.MlpNormIdeal.sig) → Buf (Elt Ideal) ℓ) : Prop :=
  True

def Pre_MlpNormIdeal_finite_mlp_norm [hPre_finite_mlp_norm : Cert.Pre_finite_mlp_norm.Facts] (m : (ℓ : Loc Cert.MlpNormIdeal.nD Cert.MlpNormIdeal.τ Cert.MlpNormIdeal.sig) → Buf (Elt Ideal) ℓ) : Prop :=
  ∀ c : Dev Cert.MlpNormIdeal.nD,
    (Cert.Pre_finite_mlp_norm.fn (F := Ideal) (m ((c.tc : Thread Cert.MlpNormIdeal.nD Cert.MlpNormIdeal.τ).loc Cert.MlpNormIdeal.main_arg0)) (m ((c.tc : Thread Cert.MlpNormIdeal.nD Cert.MlpNormIdeal.τ).loc Cert.MlpNormIdeal.main_arg1)) (m ((c.tc : Thread Cert.MlpNormIdeal.nD Cert.MlpNormIdeal.τ).loc Cert.MlpNormIdeal.main_arg2)) (m ((c.tc : Thread Cert.MlpNormIdeal.nD Cert.MlpNormIdeal.τ).loc Cert.MlpNormIdeal.main_arg3)) (m ((c.tc : Thread Cert.MlpNormIdeal.nD Cert.MlpNormIdeal.τ).loc Cert.MlpNormIdeal.main_arg4))).1 = (fun _ => 1#1)
    ∧ (Cert.Pre_finite_mlp_norm.fn (F := Ideal) (m ((c.tc : Thread Cert.MlpNormIdeal.nD Cert.MlpNormIdeal.τ).loc Cert.MlpNormIdeal.main_arg0)) (m ((c.tc : Thread Cert.MlpNormIdeal.nD Cert.MlpNormIdeal.τ).loc Cert.MlpNormIdeal.main_arg1)) (m ((c.tc : Thread Cert.MlpNormIdeal.nD Cert.MlpNormIdeal.τ).loc Cert.MlpNormIdeal.main_arg2)) (m ((c.tc : Thread Cert.MlpNormIdeal.nD Cert.MlpNormIdeal.τ).loc Cert.MlpNormIdeal.main_arg3)) (m ((c.tc : Thread Cert.MlpNormIdeal.nD Cert.MlpNormIdeal.τ).loc Cert.MlpNormIdeal.main_arg4))).2.1 = (fun _ => 1#1)
    ∧ (Cert.Pre_finite_mlp_norm.fn (F := Ideal) (m ((c.tc : Thread Cert.MlpNormIdeal.nD Cert.MlpNormIdeal.τ).loc Cert.MlpNormIdeal.main_arg0)) (m ((c.tc : Thread Cert.MlpNormIdeal.nD Cert.MlpNormIdeal.τ).loc Cert.MlpNormIdeal.main_arg1)) (m ((c.tc : Thread Cert.MlpNormIdeal.nD Cert.MlpNormIdeal.τ).loc Cert.MlpNormIdeal.main_arg2)) (m ((c.tc : Thread Cert.MlpNormIdeal.nD Cert.MlpNormIdeal.τ).loc Cert.MlpNormIdeal.main_arg3)) (m ((c.tc : Thread Cert.MlpNormIdeal.nD Cert.MlpNormIdeal.τ).loc Cert.MlpNormIdeal.main_arg4))).2.2.1 = (fun _ => 1#1)
    ∧ (Cert.Pre_finite_mlp_norm.fn (F := Ideal) (m ((c.tc : Thread Cert.MlpNormIdeal.nD Cert.MlpNormIdeal.τ).loc Cert.MlpNormIdeal.main_arg0)) (m ((c.tc : Thread Cert.MlpNormIdeal.nD Cert.MlpNormIdeal.τ).loc Cert.MlpNormIdeal.main_arg1)) (m ((c.tc : Thread Cert.MlpNormIdeal.nD Cert.MlpNormIdeal.τ).loc Cert.MlpNormIdeal.main_arg2)) (m ((c.tc : Thread Cert.MlpNormIdeal.nD Cert.MlpNormIdeal.τ).loc Cert.MlpNormIdeal.main_arg3)) (m ((c.tc : Thread Cert.MlpNormIdeal.nD Cert.MlpNormIdeal.τ).loc Cert.MlpNormIdeal.main_arg4))).2.2.2.1 = (fun _ => 1#1)
    ∧ (Cert.Pre_finite_mlp_norm.fn (F := Ideal) (m ((c.tc : Thread Cert.MlpNormIdeal.nD Cert.MlpNormIdeal.τ).loc Cert.MlpNormIdeal.main_arg0)) (m ((c.tc : Thread Cert.MlpNormIdeal.nD Cert.MlpNormIdeal.τ).loc Cert.MlpNormIdeal.main_arg1)) (m ((c.tc : Thread Cert.MlpNormIdeal.nD Cert.MlpNormIdeal.τ).loc Cert.MlpNormIdeal.main_arg2)) (m ((c.tc : Thread Cert.MlpNormIdeal.nD Cert.MlpNormIdeal.τ).loc Cert.MlpNormIdeal.main_arg3)) (m ((c.tc : Thread Cert.MlpNormIdeal.nD Cert.MlpNormIdeal.τ).loc Cert.MlpNormIdeal.main_arg4))).2.2.2.2 = (fun _ => 1#1)

def Pre_MlpNormRefIdeal (m : (ℓ : Loc Cert.MlpNormRefIdeal.nD Cert.MlpNormRefIdeal.τ Cert.MlpNormRefIdeal.sig) → Buf (Elt Ideal) ℓ) : Prop :=
  True

def Pre_MlpNormRefIdeal_finite_mlp_norm [hPre_finite_mlp_norm : Cert.Pre_finite_mlp_norm.Facts] (m : (ℓ : Loc Cert.MlpNormRefIdeal.nD Cert.MlpNormRefIdeal.τ Cert.MlpNormRefIdeal.sig) → Buf (Elt Ideal) ℓ) : Prop :=
  ∀ c : Dev Cert.MlpNormRefIdeal.nD,
    (Cert.Pre_finite_mlp_norm.fn (F := Ideal) (m ((c.tc : Thread Cert.MlpNormRefIdeal.nD Cert.MlpNormRefIdeal.τ).loc Cert.MlpNormRefIdeal.main_arg0)) (m ((c.tc : Thread Cert.MlpNormRefIdeal.nD Cert.MlpNormRefIdeal.τ).loc Cert.MlpNormRefIdeal.main_arg1)) (m ((c.tc : Thread Cert.MlpNormRefIdeal.nD Cert.MlpNormRefIdeal.τ).loc Cert.MlpNormRefIdeal.main_arg2)) (m ((c.tc : Thread Cert.MlpNormRefIdeal.nD Cert.MlpNormRefIdeal.τ).loc Cert.MlpNormRefIdeal.main_arg3)) (m ((c.tc : Thread Cert.MlpNormRefIdeal.nD Cert.MlpNormRefIdeal.τ).loc Cert.MlpNormRefIdeal.main_arg4))).1 = (fun _ => 1#1)
    ∧ (Cert.Pre_finite_mlp_norm.fn (F := Ideal) (m ((c.tc : Thread Cert.MlpNormRefIdeal.nD Cert.MlpNormRefIdeal.τ).loc Cert.MlpNormRefIdeal.main_arg0)) (m ((c.tc : Thread Cert.MlpNormRefIdeal.nD Cert.MlpNormRefIdeal.τ).loc Cert.MlpNormRefIdeal.main_arg1)) (m ((c.tc : Thread Cert.MlpNormRefIdeal.nD Cert.MlpNormRefIdeal.τ).loc Cert.MlpNormRefIdeal.main_arg2)) (m ((c.tc : Thread Cert.MlpNormRefIdeal.nD Cert.MlpNormRefIdeal.τ).loc Cert.MlpNormRefIdeal.main_arg3)) (m ((c.tc : Thread Cert.MlpNormRefIdeal.nD Cert.MlpNormRefIdeal.τ).loc Cert.MlpNormRefIdeal.main_arg4))).2.1 = (fun _ => 1#1)
    ∧ (Cert.Pre_finite_mlp_norm.fn (F := Ideal) (m ((c.tc : Thread Cert.MlpNormRefIdeal.nD Cert.MlpNormRefIdeal.τ).loc Cert.MlpNormRefIdeal.main_arg0)) (m ((c.tc : Thread Cert.MlpNormRefIdeal.nD Cert.MlpNormRefIdeal.τ).loc Cert.MlpNormRefIdeal.main_arg1)) (m ((c.tc : Thread Cert.MlpNormRefIdeal.nD Cert.MlpNormRefIdeal.τ).loc Cert.MlpNormRefIdeal.main_arg2)) (m ((c.tc : Thread Cert.MlpNormRefIdeal.nD Cert.MlpNormRefIdeal.τ).loc Cert.MlpNormRefIdeal.main_arg3)) (m ((c.tc : Thread Cert.MlpNormRefIdeal.nD Cert.MlpNormRefIdeal.τ).loc Cert.MlpNormRefIdeal.main_arg4))).2.2.1 = (fun _ => 1#1)
    ∧ (Cert.Pre_finite_mlp_norm.fn (F := Ideal) (m ((c.tc : Thread Cert.MlpNormRefIdeal.nD Cert.MlpNormRefIdeal.τ).loc Cert.MlpNormRefIdeal.main_arg0)) (m ((c.tc : Thread Cert.MlpNormRefIdeal.nD Cert.MlpNormRefIdeal.τ).loc Cert.MlpNormRefIdeal.main_arg1)) (m ((c.tc : Thread Cert.MlpNormRefIdeal.nD Cert.MlpNormRefIdeal.τ).loc Cert.MlpNormRefIdeal.main_arg2)) (m ((c.tc : Thread Cert.MlpNormRefIdeal.nD Cert.MlpNormRefIdeal.τ).loc Cert.MlpNormRefIdeal.main_arg3)) (m ((c.tc : Thread Cert.MlpNormRefIdeal.nD Cert.MlpNormRefIdeal.τ).loc Cert.MlpNormRefIdeal.main_arg4))).2.2.2.1 = (fun _ => 1#1)
    ∧ (Cert.Pre_finite_mlp_norm.fn (F := Ideal) (m ((c.tc : Thread Cert.MlpNormRefIdeal.nD Cert.MlpNormRefIdeal.τ).loc Cert.MlpNormRefIdeal.main_arg0)) (m ((c.tc : Thread Cert.MlpNormRefIdeal.nD Cert.MlpNormRefIdeal.τ).loc Cert.MlpNormRefIdeal.main_arg1)) (m ((c.tc : Thread Cert.MlpNormRefIdeal.nD Cert.MlpNormRefIdeal.τ).loc Cert.MlpNormRefIdeal.main_arg2)) (m ((c.tc : Thread Cert.MlpNormRefIdeal.nD Cert.MlpNormRefIdeal.τ).loc Cert.MlpNormRefIdeal.main_arg3)) (m ((c.tc : Thread Cert.MlpNormRefIdeal.nD Cert.MlpNormRefIdeal.τ).loc Cert.MlpNormRefIdeal.main_arg4))).2.2.2.2 = (fun _ => 1#1)

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_InNormIdeal_finite_in_norm [hPre_finite_in_norm : Cert.Pre_finite_in_norm.Facts] (m : (ℓ : Loc Cert.InNormIdeal.nD Cert.InNormIdeal.τ Cert.InNormIdeal.sig) → Buf (Elt Ideal) ℓ) : Prop :=
  ∀ c : Dev Cert.InNormIdeal.nD,
    (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))).1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))).2.1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))).2.2.1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))).2.2.2.1 = (fun _ => 1#1)
    ∧ (Cert.Pre_finite_in_norm.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))).2.2.2.2 = (fun _ => 1#1)

def Pre_InNormRefIdeal (m : (ℓ : Loc Cert.InNormRefIdeal.nD Cert.InNormRefIdeal.τ Cert.InNormRefIdeal.sig) → Buf (Elt Ideal) ℓ) : Prop :=
  True

def Pre_InNormRefIdeal_finite_in_norm [hPre_finite_in_norm : Cert.Pre_finite_in_norm.Facts] (m : (ℓ : Loc Cert.InNormRefIdeal.nD Cert.InNormRefIdeal.τ Cert.InNormRefIdeal.sig) → Buf (Elt Ideal) ℓ) : Prop :=
  ∀ c : Dev Cert.InNormRefIdeal.nD,
    (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))).1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))).2.1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))).2.2.1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))).2.2.2.1 = (fun _ => 1#1)
    ∧ (Cert.Pre_finite_in_norm.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))).2.2.2.2 = (fun _ => 1#1)

def Pre_ProjConv (m : (ℓ : Loc Cert.ProjConv.nD Cert.ProjConv.τ Cert.ProjConv.sig) → Buf (Elt Bits) ℓ) : Prop :=
  True

def Pre_ProjConvIdeal (m : (ℓ : Loc Cert.ProjConvIdeal.nD Cert.ProjConvIdeal.τ Cert.ProjConvIdeal.sig) → Buf (Elt Ideal) ℓ) : Prop :=
  True

def Pre_ProjConvRefIdeal (m : (ℓ : Loc Cert.ProjConvRefIdeal.nD Cert.ProjConvRefIdeal.τ Cert.ProjConvRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjRefIdeal [hDwProjRefIdeal : Cert.DwProjRefIdeal.Facts] : Prop :=
  ∀ (m : (ℓ : Loc Cert.DwProjRefIdeal.nD Cert.DwProjRefIdeal.τ Cert.DwProjRefIdeal.sig) → Buf (Elt Ideal) ℓ) (g : Dev Cert.DwProjRefIdeal.nD → PrngReg), Pre_DwProjRefIdeal m →
    θ_run (Cert.DwProjRefIdeal.defs (F := Ideal)) (onTc (τ := Cert.DwProjRefIdeal.τ) (Cert.DwProjRefIdeal.main (F := Ideal))) ⟨m, fun _ => 0, g⟩ (fun r => (∀ c : Dev Cert.DwProjRefIdeal.nD,
      r.2.mem ((c.tc : Thread Cert.DwProjRefIdeal.nD Cert.DwProjRefIdeal.τ).loc Cert.DwProjRefIdeal.main_arg0) = m ((c.tc : Thread Cert.DwProjRefIdeal.nD Cert.DwProjRefIdeal.τ).loc Cert.DwProjRefIdeal.main_arg0)
      ∧ r.2.mem ((c.tc : Thread Cert.DwProjRefIdeal.nD Cert.DwProjRefIdeal.τ).loc Cert.DwProjRefIdeal.main_arg1) = m ((c.tc : Thread Cert.DwProjRefIdeal.nD Cert.DwProjRefIdeal.τ).loc Cert.DwProjRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpAct [hMlpAct : Cert.MlpAct.Facts] : Prop :=
  ∀ (m : (ℓ : Loc Cert.MlpAct.nD Cert.MlpAct.τ Cert.MlpAct.sig) → Buf (Elt Bits) ℓ) (g : Dev Cert.MlpAct.nD → PrngReg), Pre_MlpAct m →
    θ_run (Cert.MlpAct.defs (F := Bits)) (onTc (τ := Cert.MlpAct.τ) (Cert.MlpAct.main (F := Bits))) ⟨m, fun _ => 0, g⟩ (fun r => (∀ c : Dev Cert.MlpAct.nD,
      r.2.mem ((c.tc : Thread Cert.MlpAct.nD Cert.MlpAct.τ).loc Cert.MlpAct.main_arg0) = m ((c.tc : Thread Cert.MlpAct.nD Cert.MlpAct.τ).loc Cert.MlpAct.main_arg0)
      ∧ r.2.mem ((c.tc : Thread Cert.MlpAct.nD Cert.MlpAct.τ).loc Cert.MlpAct.main_arg1) = m ((c.tc : Thread Cert.MlpAct.nD Cert.MlpAct.τ).loc Cert.MlpAct.main_arg1)
      ∧ r.2.mem ((c.tc : Thread Cert.MlpAct.nD Cert.MlpAct.τ).loc Cert.MlpAct.main_arg2) = m ((c.tc : Thread Cert.MlpAct.nD Cert.MlpAct.τ).loc Cert.MlpAct.main_arg2)
      ∧ r.2.mem ((c.tc : Thread Cert.MlpAct.nD Cert.MlpAct.τ).loc Cert.MlpAct.main_arg3) = m ((c.tc : Thread Cert.MlpAct.nD Cert.MlpAct.τ).loc Cert.MlpAct.main_arg3))
      ∧ r.2.sem = fun _ => 0)

def quiescent_MlpActIdeal [hMlpActIdeal : Cert.MlpActIdeal.Facts] : Prop :=
  ∀ (m : (ℓ : Loc Cert.MlpActIdeal.nD Cert.MlpActIdeal.τ Cert.MlpActIdeal.sig) → Buf (Elt Ideal) ℓ) (g : Dev Cert.MlpActIdeal.nD → PrngReg), Pre_MlpActIdeal m →
    θ_run (Cert.MlpActIdeal.defs (F := Ideal)) (onTc (τ := Cert.MlpActIdeal.τ) (Cert.MlpActIdeal.main (F := Ideal))) ⟨m, fun _ => 0, g⟩ (fun r => (∀ c : Dev Cert.MlpActIdeal.nD,
      r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0)
      ∧ r.2.mem ((c.tc : Thread Cert.MlpActIdeal.nD Cert.MlpActIdeal.τ).loc Cert.MlpActIdeal.main_arg1) = m ((c.tc : Thread Cert.MlpActIdeal.nD Cert.MlpActIdeal.τ).loc Cert.MlpActIdeal.main_arg1)
      ∧ r.2.mem ((c.tc : Thread Cert.MlpActIdeal.nD Cert.MlpActIdeal.τ).loc Cert.MlpActIdeal.main_arg2) = m ((c.tc : Thread Cert.MlpActIdeal.nD Cert.MlpActIdeal.τ).loc Cert.MlpActIdeal.main_arg2)
      ∧ r.2.mem ((c.tc : Thread Cert.MlpActIdeal.nD Cert.MlpActIdeal.τ).loc Cert.MlpActIdeal.main_arg3) = m ((c.tc : Thread Cert.MlpActIdeal.nD Cert.MlpActIdeal.τ).loc Cert.MlpActIdeal.main_arg3))
      ∧ r.2.sem = fun _ => 0)

def quiescent_MlpActRefIdeal [hMlpActRefIdeal : Cert.MlpActRefIdeal.Facts] : Prop :=
  ∀ (m : (ℓ : Loc Cert.MlpActRefIdeal.nD Cert.MlpActRefIdeal.τ Cert.MlpActRefIdeal.sig) → Buf (Elt Ideal) ℓ) (g : Dev Cert.MlpActRefIdeal.nD → PrngReg), Pre_MlpActRefIdeal m →
    θ_run (Cert.MlpActRefIdeal.defs (F := Ideal)) (onTc (τ := Cert.MlpActRefIdeal.τ) (Cert.MlpActRefIdeal.main (F := Ideal))) ⟨m, fun _ => 0, g⟩ (fun r => (∀ c : Dev Cert.MlpActRefIdeal.nD,
      r.2.mem ((c.tc : Thread Cert.MlpActRefIdeal.nD Cert.MlpActRefIdeal.τ).loc Cert.MlpActRefIdeal.main_arg0) = m ((c.tc : Thread Cert.MlpActRefIdeal.nD Cert.MlpActRefIdeal.τ).loc Cert.MlpActRefIdeal.main_arg0)
      ∧ r.2.mem ((c.tc : Thread Cert.MlpActRefIdeal.nD Cert.MlpActRefIdeal.τ).loc Cert.MlpActRefIdeal.main_arg1) = m ((c.tc : Thread Cert.MlpActRefIdeal.nD Cert.MlpActRefIdeal.τ).loc Cert.MlpActRefIdeal.main_arg1)
      ∧ r.2.mem ((c.tc : Thread Cert.MlpActRefIdeal.nD Cert.MlpActRefIdeal.τ).loc Cert.MlpActRefIdeal.main_arg2) = m ((c.tc : Thread Cert.MlpActRefIdeal.nD Cert.MlpActRefIdeal.τ).loc Cert.MlpActRefIdeal.main_arg2)
      ∧ r.2.mem ((c.tc : Thread Cert.MlpActRefIdeal.nD Cert.MlpActRefIdeal.τ).loc Cert.MlpActRefIdeal.main_arg3) = m ((c.tc : Thread Cert.MlpActRefIdeal.nD Cert.MlpActRefIdeal.τ).loc Cert.MlpActRefIdeal.main_arg3))
      ∧ r.2.sem = fun _ => 0)

def quiescent_MlpNorm [hMlpNorm : Cert.MlpNorm.Facts] : Prop :=
  ∀ (m : (ℓ : Loc Cert.MlpNorm.nD Cert.MlpNorm.τ Cert.MlpNorm.sig) → Buf (Elt Bits) ℓ) (g : Dev Cert.MlpNorm.nD → PrngReg), Pre_MlpNorm m →
    θ_run (Cert.MlpNorm.defs (F := Bits)) (onTc (τ := Cert.MlpNorm.τ) (Cert.MlpNorm.main (F := Bits))) ⟨m, fun _ => 0, g⟩ (fun r => (∀ c : Dev Cert.MlpNorm.nD,
      r.2.mem ((c.tc : Thread Cert.MlpNorm.nD Cert.MlpNorm.τ).loc Cert.MlpNorm.main_arg0) = m ((c.tc : Thread Cert.MlpNorm.nD Cert.MlpNorm.τ).loc Cert.MlpNorm.main_arg0)
      ∧ r.2.mem ((c.tc : Thread Cert.MlpNorm.nD Cert.MlpNorm.τ).loc Cert.MlpNorm.main_arg1) = m ((c.tc : Thread Cert.MlpNorm.nD Cert.MlpNorm.τ).loc Cert.MlpNorm.main_arg1)
      ∧ r.2.mem ((c.tc : Thread Cert.MlpNorm.nD Cert.MlpNorm.τ).loc Cert.MlpNorm.main_arg2) = m ((c.tc : Thread Cert.MlpNorm.nD Cert.MlpNorm.τ).loc Cert.MlpNorm.main_arg2)
      ∧ r.2.mem ((c.tc : Thread Cert.MlpNorm.nD Cert.MlpNorm.τ).loc Cert.MlpNorm.main_arg3) = m ((c.tc : Thread Cert.MlpNorm.nD Cert.MlpNorm.τ).loc Cert.MlpNorm.main_arg3)
      ∧ r.2.mem ((c.tc : Thread Cert.MlpNorm.nD Cert.MlpNorm.τ).loc Cert.MlpNorm.main_arg4) = m ((c.tc : Thread Cert.MlpNorm.nD Cert.MlpNorm.τ).loc Cert.MlpNorm.main_arg4))
      ∧ r.2.sem = fun _ => 0)

def quiescent_MlpNormIdeal [hMlpNormIdeal : Cert.MlpNormIdeal.Facts] : Prop :=
  ∀ (m : (ℓ : Loc Cert.MlpNormIdeal.nD Cert.MlpNormIdeal.τ Cert.MlpNormIdeal.sig) → Buf (Elt Ideal) ℓ) (g : Dev Cert.MlpNormIdeal.nD → PrngReg), Pre_MlpNormIdeal m →
    θ_run (Cert.MlpNormIdeal.defs (F := Ideal)) (onTc (τ := Cert.MlpNormIdeal.τ) (Cert.MlpNormIdeal.main (F := Ideal))) ⟨m, fun _ => 0, g⟩ (fun r => (∀ c : Dev Cert.MlpNormIdeal.nD,
      r.2.mem ((c.tc : Thread Cert.MlpNormIdeal.nD Cert.MlpNormIdeal.τ).loc Cert.MlpNormIdeal.main_arg0) = m ((c.tc : Thread Cert.MlpNormIdeal.nD Cert.MlpNormIdeal.τ).loc Cert.MlpNormIdeal.main_arg0)
      ∧ r.2.mem ((c.tc : Thread Cert.MlpNormIdeal.nD Cert.MlpNormIdeal.τ).loc Cert.MlpNormIdeal.main_arg1) = m ((c.tc : Thread Cert.MlpNormIdeal.nD Cert.MlpNormIdeal.τ).loc Cert.MlpNormIdeal.main_arg1)
      ∧ r.2.mem ((c.tc : Thread Cert.MlpNormIdeal.nD Cert.MlpNormIdeal.τ).loc Cert.MlpNormIdeal.main_arg2) = m ((c.tc : Thread Cert.MlpNormIdeal.nD Cert.MlpNormIdeal.τ).loc Cert.MlpNormIdeal.main_arg2)
      ∧ r.2.mem ((c.tc : Thread Cert.MlpNormIdeal.nD Cert.MlpNormIdeal.τ).loc Cert.MlpNormIdeal.main_arg3) = m ((c.tc : Thread Cert.MlpNormIdeal.nD Cert.MlpNormIdeal.τ).loc Cert.MlpNormIdeal.main_arg3)
      ∧ r.2.mem ((c.tc : Thread Cert.MlpNormIdeal.nD Cert.MlpNormIdeal.τ).loc Cert.MlpNormIdeal.main_arg4) = m ((c.tc : Thread Cert.MlpNormIdeal.nD Cert.MlpNormIdeal.τ).loc Cert.MlpNormIdeal.main_arg4))
      ∧ r.2.sem = fun _ => 0)

def quiescent_MlpNormIdeal_pre_finite_mlp_norm [hMlpNormIdeal : Cert.MlpNormIdeal.Facts] [hPre_finite_mlp_norm : Cert.Pre_finite_mlp_norm.Facts] : Prop :=
  ∀ (m : (ℓ : Loc Cert.MlpNormIdeal.nD Cert.MlpNormIdeal.τ Cert.MlpNormIdeal.sig) → Buf (Elt Ideal) ℓ) (g : Dev Cert.MlpNormIdeal.nD → PrngReg), Pre_MlpNormIdeal_finite_mlp_norm m →
    θ_run (Cert.MlpNormIdeal.defs (F := Ideal)) (onTc (τ := Cert.MlpNormIdeal.τ) (Cert.MlpNormIdeal.main (F := Ideal))) ⟨m, fun _ => 0, g⟩ (fun r => (∀ c : Dev Cert.MlpNormIdeal.nD,
      r.2.mem ((c.tc : Thread Cert.MlpNormIdeal.nD Cert.MlpNormIdeal.τ).loc Cert.MlpNormIdeal.main_arg0) = m ((c.tc : Thread Cert.MlpNormIdeal.nD Cert.MlpNormIdeal.τ).loc Cert.MlpNormIdeal.main_arg0)
      ∧ r.2.mem ((c.tc : Thread Cert.MlpNormIdeal.nD Cert.MlpNormIdeal.τ).loc Cert.MlpNormIdeal.main_arg1) = m ((c.tc : Thread Cert.MlpNormIdeal.nD Cert.MlpNormIdeal.τ).loc Cert.MlpNormIdeal.main_arg1)
      ∧ r.2.mem ((c.tc : Thread Cert.MlpNormIdeal.nD Cert.MlpNormIdeal.τ).loc Cert.MlpNormIdeal.main_arg2) = m ((c.tc : Thread Cert.MlpNormIdeal.nD Cert.MlpNormIdeal.τ).loc Cert.MlpNormIdeal.main_arg2)
      ∧ r.2.mem ((c.tc : Thread Cert.MlpNormIdeal.nD Cert.MlpNormIdeal.τ).loc Cert.MlpNormIdeal.main_arg3) = m ((c.tc : Thread Cert.MlpNormIdeal.nD Cert.MlpNormIdeal.τ).loc Cert.MlpNormIdeal.main_arg3)
      ∧ r.2.mem ((c.tc : Thread Cert.MlpNormIdeal.nD Cert.MlpNormIdeal.τ).loc Cert.MlpNormIdeal.main_arg4) = m ((c.tc : Thread Cert.MlpNormIdeal.nD Cert.MlpNormIdeal.τ).loc Cert.MlpNormIdeal.main_arg4))
      ∧ r.2.sem = fun _ => 0)

def quiescent_MlpNormRefIdeal [hMlpNormRefIdeal : Cert.MlpNormRefIdeal.Facts] : Prop :=
  ∀ (m : (ℓ : Loc Cert.MlpNormRefIdeal.nD Cert.MlpNormRefIdeal.τ Cert.MlpNormRefIdeal.sig) → Buf (Elt Ideal) ℓ) (g : Dev Cert.MlpNormRefIdeal.nD → PrngReg), Pre_MlpNormRefIdeal m →
    θ_run (Cert.MlpNormRefIdeal.defs (F := Ideal)) (onTc (τ := Cert.MlpNormRefIdeal.τ) (Cert.MlpNormRefIdeal.main (F := Ideal))) ⟨m, fun _ => 0, g⟩ (fun r => (∀ c : Dev Cert.MlpNormRefIdeal.nD,
      r.2.mem ((c.tc : Thread Cert.MlpNormRefIdeal.nD Cert.MlpNormRefIdeal.τ).loc Cert.MlpNormRefIdeal.main_arg0) = m ((c.tc : Thread Cert.MlpNormRefIdeal.nD Cert.MlpNormRefIdeal.τ).loc Cert.MlpNormRefIdeal.main_arg0)
      ∧ r.2.mem ((c.tc : Thread Cert.MlpNormRefIdeal.nD Cert.MlpNormRefIdeal.τ).loc Cert.MlpNormRefIdeal.main_arg1) = m ((c.tc : Thread Cert.MlpNormRefIdeal.nD Cert.MlpNormRefIdeal.τ).loc Cert.MlpNormRefIdeal.main_arg1)
      ∧ r.2.mem ((c.tc : Thread Cert.MlpNormRefIdeal.nD Cert.MlpNormRefIdeal.τ).loc Cert.MlpNormRefIdeal.main_arg2) = m ((c.tc : Thread Cert.MlpNormRefIdeal.nD Cert.MlpNormRefIdeal.τ).loc Cert.MlpNormRefIdeal.main_arg2)
      ∧ r.2.mem ((c.tc : Thread Cert.MlpNormRefIdeal.nD Cert.MlpNormRefIdeal.τ).loc Cert.MlpNormRefIdeal.main_arg3) = m ((c.tc : Thread Cert.MlpNormRefIdeal.nD Cert.MlpNormRefIdeal.τ).loc Cert.MlpNormRefIdeal.main_arg3)
      ∧ r.2.mem ((c.tc : Thread Cert.MlpNormRefIdeal.nD Cert.MlpNormRefIdeal.τ).loc Cert.MlpNormRefIdeal.main_arg4) = m ((c.tc : Thread Cert.MlpNormRefIdeal.nD Cert.MlpNormRefIdeal.τ).loc Cert.MlpNormRefIdeal.main_arg4))
      ∧ r.2.sem = fun _ => 0)

def quiescent_MlpNormRefIdeal_pre_finite_mlp_norm [hMlpNormRefIdeal : Cert.MlpNormRefIdeal.Facts] [hPre_finite_mlp_norm : Cert.Pre_finite_mlp_norm.Facts] : Prop :=
  ∀ (m : (ℓ : Loc Cert.MlpNormRefIdeal.nD Cert.MlpNormRefIdeal.τ Cert.MlpNormRefIdeal.sig) → Buf (Elt Ideal) ℓ) (g : Dev Cert.MlpNormRefIdeal.nD → PrngReg), Pre_MlpNormRefIdeal_finite_mlp_norm m →
    θ_run (Cert.MlpNormRefIdeal.defs (F := Ideal)) (onTc (τ := Cert.MlpNormRefIdeal.τ) (Cert.MlpNormRefIdeal.main (F := Ideal))) ⟨m, fun _ => 0, g⟩ (fun r => (∀ c : Dev Cert.MlpNormRefIdeal.nD,
      r.2.mem ((c.tc : Thread Cert.MlpNormRefIdeal.nD Cert.MlpNormRefIdeal.τ).loc Cert.MlpNormRefIdeal.main_arg0) = m ((c.tc : Thread Cert.MlpNormRefIdeal.nD Cert.MlpNormRefIdeal.τ).loc Cert.MlpNormRefIdeal.main_arg0)
      ∧ r.2.mem ((c.tc : Thread Cert.MlpNormRefIdeal.nD Cert.MlpNormRefIdeal.τ).loc Cert.MlpNormRefIdeal.main_arg1) = m ((c.tc : Thread Cert.MlpNormRefIdeal.nD Cert.MlpNormRefIdeal.τ).loc Cert.MlpNormRefIdeal.main_arg1)
      ∧ r.2.mem ((c.tc : Thread Cert.MlpNormRefIdeal.nD Cert.MlpNormRefIdeal.τ).loc Cert.MlpNormRefIdeal.main_arg2) = m ((c.tc : Thread Cert.MlpNormRefIdeal.nD Cert.MlpNormRefIdeal.τ).loc Cert.MlpNormRefIdeal.main_arg2)
      ∧ r.2.mem ((c.tc : Thread Cert.MlpNormRefIdeal.nD Cert.MlpNormRefIdeal.τ).loc Cert.MlpNormRefIdeal.main_arg3) = m ((c.tc : Thread Cert.MlpNormRefIdeal.nD Cert.MlpNormRefIdeal.τ).loc Cert.MlpNormRefIdeal.main_arg3)
      ∧ r.2.mem ((c.tc : Thread Cert.MlpNormRefIdeal.nD Cert.MlpNormRefIdeal.τ).loc Cert.MlpNormRefIdeal.main_arg4) = m ((c.tc : Thread Cert.MlpNormRefIdeal.nD Cert.MlpNormRefIdeal.τ).loc Cert.MlpNormRefIdeal.main_arg4))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1)
      ∧ r.2.mem ((c.tc : Thread Cert.InNorm.nD Cert.InNorm.τ).loc Cert.InNorm.main_arg2) = m ((c.tc : Thread Cert.InNorm.nD Cert.InNorm.τ).loc Cert.InNorm.main_arg2)
      ∧ r.2.mem ((c.tc : Thread Cert.InNorm.nD Cert.InNorm.τ).loc Cert.InNorm.main_arg3) = m ((c.tc : Thread Cert.InNorm.nD Cert.InNorm.τ).loc Cert.InNorm.main_arg3)
      ∧ r.2.mem ((c.tc : Thread Cert.InNorm.nD Cert.InNorm.τ).loc Cert.InNorm.main_arg4) = m ((c.tc : Thread Cert.InNorm.nD Cert.InNorm.τ).loc Cert.InNorm.main_arg4))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ r.2.sem = fun _ => 0)

def quiescent_InNormIdeal_pre_finite_in_norm [hInNormIdeal : Cert.InNormIdeal.Facts] [hPre_finite_in_norm : Cert.Pre_finite_in_norm.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal_finite_in_norm m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ r.2.sem = fun _ => 0)

def quiescent_InNormRefIdeal [hInNormRefIdeal : Cert.InNormRefIdeal.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4))
      ∧ r.2.sem = fun _ => 0)

def quiescent_InNormRefIdeal_pre_finite_in_norm [hInNormRefIdeal : Cert.InNormRefIdeal.Facts] [hPre_finite_in_norm : Cert.Pre_finite_in_norm.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal_finite_in_norm m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4))
      ∧ r.2.sem = fun _ => 0)

def quiescent_ProjConv [hProjConv : Cert.ProjConv.Facts] : Prop :=
  ∀ (m : (ℓ : Loc Cert.ProjConv.nD Cert.ProjConv.τ Cert.ProjConv.sig) → Buf (Elt Bits) ℓ) (g : Dev Cert.ProjConv.nD → PrngReg), Pre_ProjConv m →
    θ_run (Cert.ProjConv.defs (F := Bits)) (onTc (τ := Cert.ProjConv.τ) (Cert.ProjConv.main (F := Bits))) ⟨m, fun _ => 0, g⟩ (fun r => (∀ c : Dev Cert.ProjConv.nD,
      r.2.mem ((c.tc : Thread Cert.ProjConv.nD Cert.ProjConv.τ).loc Cert.ProjConv.main_arg0) = m ((c.tc : Thread Cert.ProjConv.nD Cert.ProjConv.τ).loc Cert.ProjConv.main_arg0)
      ∧ r.2.mem ((c.tc : Thread Cert.ProjConv.nD Cert.ProjConv.τ).loc Cert.ProjConv.main_arg1) = m ((c.tc : Thread Cert.ProjConv.nD Cert.ProjConv.τ).loc Cert.ProjConv.main_arg1)
      ∧ r.2.mem ((c.tc : Thread Cert.ProjConv.nD Cert.ProjConv.τ).loc Cert.ProjConv.main_arg2) = m ((c.tc : Thread Cert.ProjConv.nD Cert.ProjConv.τ).loc Cert.ProjConv.main_arg2))
      ∧ r.2.sem = fun _ => 0)

def quiescent_ProjConvIdeal [hProjConvIdeal : Cert.ProjConvIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg), Pre_ProjConvIdeal m →
    θ_run (Cert.ProjConvIdeal.defs (F := Ideal)) (onTc (τ := Cert.ProjConvIdeal.τ) (Cert.ProjConvIdeal.main (F := Ideal))) ⟨m, fun _ => 0, g⟩ (fun r => (∀ c : Dev Cert.ProjConvIdeal.nD,
      r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
      ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
      ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2))
      ∧ r.2.sem = fun _ => 0)

def quiescent_ProjConvRefIdeal [hProjConvRefIdeal : Cert.ProjConvRefIdeal.Facts] : Prop :=
  ∀ (m : (ℓ : Loc Cert.ProjConvRefIdeal.nD Cert.ProjConvRefIdeal.τ Cert.ProjConvRefIdeal.sig) → Buf (Elt Ideal) ℓ) (g : Dev Cert.ProjConvRefIdeal.nD → PrngReg), Pre_ProjConvRefIdeal m →
    θ_run (Cert.ProjConvRefIdeal.defs (F := Ideal)) (onTc (τ := Cert.ProjConvRefIdeal.τ) (Cert.ProjConvRefIdeal.main (F := Ideal))) ⟨m, fun _ => 0, g⟩ (fun r => (∀ c : Dev Cert.ProjConvRefIdeal.nD,
      r.2.mem ((c.tc : Thread Cert.ProjConvRefIdeal.nD Cert.ProjConvRefIdeal.τ).loc Cert.ProjConvRefIdeal.main_arg0) = m ((c.tc : Thread Cert.ProjConvRefIdeal.nD Cert.ProjConvRefIdeal.τ).loc Cert.ProjConvRefIdeal.main_arg0)
      ∧ r.2.mem ((c.tc : Thread Cert.ProjConvRefIdeal.nD Cert.ProjConvRefIdeal.τ).loc Cert.ProjConvRefIdeal.main_arg1) = m ((c.tc : Thread Cert.ProjConvRefIdeal.nD Cert.ProjConvRefIdeal.τ).loc Cert.ProjConvRefIdeal.main_arg1)
      ∧ r.2.mem ((c.tc : Thread Cert.ProjConvRefIdeal.nD Cert.ProjConvRefIdeal.τ).loc Cert.ProjConvRefIdeal.main_arg2) = m ((c.tc : Thread Cert.ProjConvRefIdeal.nD Cert.ProjConvRefIdeal.τ).loc Cert.ProjConvRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v6) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwProj_DwProjIdeal : Prop :=
  True

def algebraic_DwProjIdeal_DwProjRefIdeal [hDwProjIdeal : Cert.DwProjIdeal.Facts] [hDwProjRefIdeal : Cert.DwProjRefIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjRefIdeal.nD Cert.DwProjRefIdeal.τ Cert.DwProjRefIdeal.sig) → Buf (Elt Ideal) ℓ) (g' : Dev Cert.DwProjRefIdeal.nD → PrngReg), Pre_DwProjIdeal m →
    (∀ c : Dev Cert.DwProjIdeal.nD,
      m' ((c.tc : Thread Cert.DwProjRefIdeal.nD Cert.DwProjRefIdeal.τ).loc Cert.DwProjRefIdeal.main_arg0) = m ((c.tc : Thread Cert.DwProjIdeal.nD Cert.DwProjIdeal.τ).loc Cert.DwProjIdeal.main_arg0)
      ∧ m' ((c.tc : Thread Cert.DwProjRefIdeal.nD Cert.DwProjRefIdeal.τ).loc Cert.DwProjRefIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v0)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v0) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjRefIdeal.defs (F := Ideal)) (onTc (τ := Cert.DwProjRefIdeal.τ) (Cert.DwProjRefIdeal.main (F := Ideal))) ⟨m', fun _ => 0, g'⟩ (fun r => ∀ c : Dev Cert.DwProjRefIdeal.nD,
          r.2.mem ((c.tc : Thread Cert.DwProjRefIdeal.nD Cert.DwProjRefIdeal.τ).loc Cert.DwProjRefIdeal.main_v5) = v0 c
          ∧ r.2.mem ((c.tc : Thread Cert.DwProjRefIdeal.nD Cert.DwProjRefIdeal.τ).loc Cert.DwProjRefIdeal.main_arg0) = m' ((c.tc : Thread Cert.DwProjRefIdeal.nD Cert.DwProjRefIdeal.τ).loc Cert.DwProjRefIdeal.main_arg0)
          ∧ r.2.mem ((c.tc : Thread Cert.DwProjRefIdeal.nD Cert.DwProjRefIdeal.τ).loc Cert.DwProjRefIdeal.main_arg1) = m' ((c.tc : Thread Cert.DwProjRefIdeal.nD Cert.DwProjRefIdeal.τ).loc Cert.DwProjRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v5) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpAct_MlpActIdeal : Prop :=
  True

def algebraic_MlpActIdeal_MlpActRefIdeal [hMlpActIdeal : Cert.MlpActIdeal.Facts] [hMlpActRefIdeal : Cert.MlpActRefIdeal.Facts] : Prop :=
  ∀ (m : (ℓ : Loc Cert.MlpActIdeal.nD Cert.MlpActIdeal.τ Cert.MlpActIdeal.sig) → Buf (Elt Ideal) ℓ) (g : Dev Cert.MlpActIdeal.nD → PrngReg)
    (m' : (ℓ : Loc Cert.MlpActRefIdeal.nD Cert.MlpActRefIdeal.τ Cert.MlpActRefIdeal.sig) → Buf (Elt Ideal) ℓ) (g' : Dev Cert.MlpActRefIdeal.nD → PrngReg), Pre_MlpActIdeal m →
    (∀ c : Dev Cert.MlpActIdeal.nD,
      m' ((c.tc : Thread Cert.MlpActRefIdeal.nD Cert.MlpActRefIdeal.τ).loc Cert.MlpActRefIdeal.main_arg0) = m ((c.tc : Thread Cert.MlpActIdeal.nD Cert.MlpActIdeal.τ).loc Cert.MlpActIdeal.main_arg0)
      ∧ m' ((c.tc : Thread Cert.MlpActRefIdeal.nD Cert.MlpActRefIdeal.τ).loc Cert.MlpActRefIdeal.main_arg1) = m ((c.tc : Thread Cert.MlpActIdeal.nD Cert.MlpActIdeal.τ).loc Cert.MlpActIdeal.main_arg1)
      ∧ m' ((c.tc : Thread Cert.MlpActRefIdeal.nD Cert.MlpActRefIdeal.τ).loc Cert.MlpActRefIdeal.main_arg2) = m ((c.tc : Thread Cert.MlpActIdeal.nD Cert.MlpActIdeal.τ).loc Cert.MlpActIdeal.main_arg2)
      ∧ m' ((c.tc : Thread Cert.MlpActRefIdeal.nD Cert.MlpActRefIdeal.τ).loc Cert.MlpActRefIdeal.main_arg3) = m ((c.tc : Thread Cert.MlpActIdeal.nD Cert.MlpActIdeal.τ).loc Cert.MlpActIdeal.main_arg3)) →
    ∃ (v0 : (c : Dev Cert.MlpActIdeal.nD) → Buf (Elt Ideal) ((c.tc : Thread Cert.MlpActIdeal.nD Cert.MlpActIdeal.τ).loc Cert.MlpActIdeal.main_v6)),
      θ_run (Cert.MlpActIdeal.defs (F := Ideal)) (onTc (τ := Cert.MlpActIdeal.τ) (Cert.MlpActIdeal.main (F := Ideal))) ⟨m, fun _ => 0, g⟩ (fun r => ∀ c : Dev Cert.MlpActIdeal.nD,
          r.2.mem ((c.tc : Thread Cert.MlpActIdeal.nD Cert.MlpActIdeal.τ).loc Cert.MlpActIdeal.main_v6) = v0 c
          ∧ r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0)
          ∧ r.2.mem ((c.tc : Thread Cert.MlpActIdeal.nD Cert.MlpActIdeal.τ).loc Cert.MlpActIdeal.main_arg1) = m ((c.tc : Thread Cert.MlpActIdeal.nD Cert.MlpActIdeal.τ).loc Cert.MlpActIdeal.main_arg1)
          ∧ r.2.mem ((c.tc : Thread Cert.MlpActIdeal.nD Cert.MlpActIdeal.τ).loc Cert.MlpActIdeal.main_arg2) = m ((c.tc : Thread Cert.MlpActIdeal.nD Cert.MlpActIdeal.τ).loc Cert.MlpActIdeal.main_arg2)
          ∧ r.2.mem ((c.tc : Thread Cert.MlpActIdeal.nD Cert.MlpActIdeal.τ).loc Cert.MlpActIdeal.main_arg3) = m ((c.tc : Thread Cert.MlpActIdeal.nD Cert.MlpActIdeal.τ).loc Cert.MlpActIdeal.main_arg3))
      ∧ θ_run (Cert.MlpActRefIdeal.defs (F := Ideal)) (onTc (τ := Cert.MlpActRefIdeal.τ) (Cert.MlpActRefIdeal.main (F := Ideal))) ⟨m', fun _ => 0, g'⟩ (fun r => ∀ c : Dev Cert.MlpActRefIdeal.nD,
          r.2.mem ((c.tc : Thread Cert.MlpActRefIdeal.nD Cert.MlpActRefIdeal.τ).loc Cert.MlpActRefIdeal.main_v17) = v0 c
          ∧ r.2.mem ((c.tc : Thread Cert.MlpActRefIdeal.nD Cert.MlpActRefIdeal.τ).loc Cert.MlpActRefIdeal.main_arg0) = m' ((c.tc : Thread Cert.MlpActRefIdeal.nD Cert.MlpActRefIdeal.τ).loc Cert.MlpActRefIdeal.main_arg0)
          ∧ r.2.mem ((c.tc : Thread Cert.MlpActRefIdeal.nD Cert.MlpActRefIdeal.τ).loc Cert.MlpActRefIdeal.main_arg1) = m' ((c.tc : Thread Cert.MlpActRefIdeal.nD Cert.MlpActRefIdeal.τ).loc Cert.MlpActRefIdeal.main_arg1)
          ∧ r.2.mem ((c.tc : Thread Cert.MlpActRefIdeal.nD Cert.MlpActRefIdeal.τ).loc Cert.MlpActRefIdeal.main_arg2) = m' ((c.tc : Thread Cert.MlpActRefIdeal.nD Cert.MlpActRefIdeal.τ).loc Cert.MlpActRefIdeal.main_arg2)
          ∧ r.2.mem ((c.tc : Thread Cert.MlpActRefIdeal.nD Cert.MlpActRefIdeal.τ).loc Cert.MlpActRefIdeal.main_arg3) = m' ((c.tc : Thread Cert.MlpActRefIdeal.nD Cert.MlpActRefIdeal.τ).loc Cert.MlpActRefIdeal.main_arg3))

def preserves_MlpNorm_MlpNormIdeal : Prop :=
  True

def algebraic_MlpNormIdeal_MlpNormRefIdeal_pre_finite_mlp_norm [hMlpNormIdeal : Cert.MlpNormIdeal.Facts] [hMlpNormRefIdeal : Cert.MlpNormRefIdeal.Facts] [hPre_finite_mlp_norm : Cert.Pre_finite_mlp_norm.Facts] : Prop :=
  ∀ (m : (ℓ : Loc Cert.MlpNormIdeal.nD Cert.MlpNormIdeal.τ Cert.MlpNormIdeal.sig) → Buf (Elt Ideal) ℓ) (g : Dev Cert.MlpNormIdeal.nD → PrngReg)
    (m' : (ℓ : Loc Cert.MlpNormRefIdeal.nD Cert.MlpNormRefIdeal.τ Cert.MlpNormRefIdeal.sig) → Buf (Elt Ideal) ℓ) (g' : Dev Cert.MlpNormRefIdeal.nD → PrngReg), Pre_MlpNormIdeal_finite_mlp_norm m →
    (∀ c : Dev Cert.MlpNormIdeal.nD,
      m' ((c.tc : Thread Cert.MlpNormRefIdeal.nD Cert.MlpNormRefIdeal.τ).loc Cert.MlpNormRefIdeal.main_arg0) = m ((c.tc : Thread Cert.MlpNormIdeal.nD Cert.MlpNormIdeal.τ).loc Cert.MlpNormIdeal.main_arg0)
      ∧ m' ((c.tc : Thread Cert.MlpNormRefIdeal.nD Cert.MlpNormRefIdeal.τ).loc Cert.MlpNormRefIdeal.main_arg1) = m ((c.tc : Thread Cert.MlpNormIdeal.nD Cert.MlpNormIdeal.τ).loc Cert.MlpNormIdeal.main_arg1)
      ∧ m' ((c.tc : Thread Cert.MlpNormRefIdeal.nD Cert.MlpNormRefIdeal.τ).loc Cert.MlpNormRefIdeal.main_arg2) = m ((c.tc : Thread Cert.MlpNormIdeal.nD Cert.MlpNormIdeal.τ).loc Cert.MlpNormIdeal.main_arg2)
      ∧ m' ((c.tc : Thread Cert.MlpNormRefIdeal.nD Cert.MlpNormRefIdeal.τ).loc Cert.MlpNormRefIdeal.main_arg3) = m ((c.tc : Thread Cert.MlpNormIdeal.nD Cert.MlpNormIdeal.τ).loc Cert.MlpNormIdeal.main_arg3)
      ∧ m' ((c.tc : Thread Cert.MlpNormRefIdeal.nD Cert.MlpNormRefIdeal.τ).loc Cert.MlpNormRefIdeal.main_arg4) = m ((c.tc : Thread Cert.MlpNormIdeal.nD Cert.MlpNormIdeal.τ).loc Cert.MlpNormIdeal.main_arg4)) →
    ∃ (v0 : (c : Dev Cert.MlpNormIdeal.nD) → Buf (Elt Ideal) ((c.tc : Thread Cert.MlpNormIdeal.nD Cert.MlpNormIdeal.τ).loc Cert.MlpNormIdeal.main_v3_0)) (v1 : (c : Dev Cert.MlpNormIdeal.nD) → Buf (Elt Ideal) ((c.tc : Thread Cert.MlpNormIdeal.nD Cert.MlpNormIdeal.τ).loc Cert.MlpNormIdeal.main_v3_1)) (v2 : (c : Dev Cert.MlpNormIdeal.nD) → Buf (Elt Ideal) ((c.tc : Thread Cert.MlpNormIdeal.nD Cert.MlpNormIdeal.τ).loc Cert.MlpNormIdeal.main_v3_2)),
      θ_run (Cert.MlpNormIdeal.defs (F := Ideal)) (onTc (τ := Cert.MlpNormIdeal.τ) (Cert.MlpNormIdeal.main (F := Ideal))) ⟨m, fun _ => 0, g⟩ (fun r => ∀ c : Dev Cert.MlpNormIdeal.nD,
          r.2.mem ((c.tc : Thread Cert.MlpNormIdeal.nD Cert.MlpNormIdeal.τ).loc Cert.MlpNormIdeal.main_v3_0) = v0 c
          ∧ r.2.mem ((c.tc : Thread Cert.MlpNormIdeal.nD Cert.MlpNormIdeal.τ).loc Cert.MlpNormIdeal.main_v3_1) = v1 c
          ∧ r.2.mem ((c.tc : Thread Cert.MlpNormIdeal.nD Cert.MlpNormIdeal.τ).loc Cert.MlpNormIdeal.main_v3_2) = v2 c
          ∧ r.2.mem ((c.tc : Thread Cert.MlpNormIdeal.nD Cert.MlpNormIdeal.τ).loc Cert.MlpNormIdeal.main_arg0) = m ((c.tc : Thread Cert.MlpNormIdeal.nD Cert.MlpNormIdeal.τ).loc Cert.MlpNormIdeal.main_arg0)
          ∧ r.2.mem ((c.tc : Thread Cert.MlpNormIdeal.nD Cert.MlpNormIdeal.τ).loc Cert.MlpNormIdeal.main_arg1) = m ((c.tc : Thread Cert.MlpNormIdeal.nD Cert.MlpNormIdeal.τ).loc Cert.MlpNormIdeal.main_arg1)
          ∧ r.2.mem ((c.tc : Thread Cert.MlpNormIdeal.nD Cert.MlpNormIdeal.τ).loc Cert.MlpNormIdeal.main_arg2) = m ((c.tc : Thread Cert.MlpNormIdeal.nD Cert.MlpNormIdeal.τ).loc Cert.MlpNormIdeal.main_arg2)
          ∧ r.2.mem ((c.tc : Thread Cert.MlpNormIdeal.nD Cert.MlpNormIdeal.τ).loc Cert.MlpNormIdeal.main_arg3) = m ((c.tc : Thread Cert.MlpNormIdeal.nD Cert.MlpNormIdeal.τ).loc Cert.MlpNormIdeal.main_arg3)
          ∧ r.2.mem ((c.tc : Thread Cert.MlpNormIdeal.nD Cert.MlpNormIdeal.τ).loc Cert.MlpNormIdeal.main_arg4) = m ((c.tc : Thread Cert.MlpNormIdeal.nD Cert.MlpNormIdeal.τ).loc Cert.MlpNormIdeal.main_arg4))
      ∧ θ_run (Cert.MlpNormRefIdeal.defs (F := Ideal)) (onTc (τ := Cert.MlpNormRefIdeal.τ) (Cert.MlpNormRefIdeal.main (F := Ideal))) ⟨m', fun _ => 0, g'⟩ (fun r => ∀ c : Dev Cert.MlpNormRefIdeal.nD,
          r.2.mem ((c.tc : Thread Cert.MlpNormRefIdeal.nD Cert.MlpNormRefIdeal.τ).loc Cert.MlpNormRefIdeal.main_v71) = v0 c
          ∧ r.2.mem ((c.tc : Thread Cert.MlpNormRefIdeal.nD Cert.MlpNormRefIdeal.τ).loc Cert.MlpNormRefIdeal.main_v72) = v1 c
          ∧ r.2.mem ((c.tc : Thread Cert.MlpNormRefIdeal.nD Cert.MlpNormRefIdeal.τ).loc Cert.MlpNormRefIdeal.main_v81) = v2 c
          ∧ r.2.mem ((c.tc : Thread Cert.MlpNormRefIdeal.nD Cert.MlpNormRefIdeal.τ).loc Cert.MlpNormRefIdeal.main_arg0) = m' ((c.tc : Thread Cert.MlpNormRefIdeal.nD Cert.MlpNormRefIdeal.τ).loc Cert.MlpNormRefIdeal.main_arg0)
          ∧ r.2.mem ((c.tc : Thread Cert.MlpNormRefIdeal.nD Cert.MlpNormRefIdeal.τ).loc Cert.MlpNormRefIdeal.main_arg1) = m' ((c.tc : Thread Cert.MlpNormRefIdeal.nD Cert.MlpNormRefIdeal.τ).loc Cert.MlpNormRefIdeal.main_arg1)
          ∧ r.2.mem ((c.tc : Thread Cert.MlpNormRefIdeal.nD Cert.MlpNormRefIdeal.τ).loc Cert.MlpNormRefIdeal.main_arg2) = m' ((c.tc : Thread Cert.MlpNormRefIdeal.nD Cert.MlpNormRefIdeal.τ).loc Cert.MlpNormRefIdeal.main_arg2)
          ∧ r.2.mem ((c.tc : Thread Cert.MlpNormRefIdeal.nD Cert.MlpNormRefIdeal.τ).loc Cert.MlpNormRefIdeal.main_arg3) = m' ((c.tc : Thread Cert.MlpNormRefIdeal.nD Cert.MlpNormRefIdeal.τ).loc Cert.MlpNormRefIdeal.main_arg3)
          ∧ r.2.mem ((c.tc : Thread Cert.MlpNormRefIdeal.nD Cert.MlpNormRefIdeal.τ).loc Cert.MlpNormRefIdeal.main_arg4) = m' ((c.tc : Thread Cert.MlpNormRefIdeal.nD Cert.MlpNormRefIdeal.τ).loc Cert.MlpNormRefIdeal.main_arg4))

def preserves_InNorm_InNormIdeal : Prop :=
  True

def algebraic_InNormIdeal_InNormRefIdeal_pre_finite_in_norm [hInNormIdeal : Cert.InNormIdeal.Facts] [hInNormRefIdeal : Cert.InNormRefIdeal.Facts] [hPre_finite_in_norm : Cert.Pre_finite_in_norm.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.InNormRefIdeal.nD Cert.InNormRefIdeal.τ Cert.InNormRefIdeal.sig) → Buf (Elt Ideal) ℓ) (g' : Dev Cert.InNormRefIdeal.nD → PrngReg), Pre_InNormIdeal_finite_in_norm m →
    (∀ c : Dev Cert.InNormIdeal.nD,
      m' ((c.tc : Thread Cert.InNormRefIdeal.nD Cert.InNormRefIdeal.τ).loc Cert.InNormRefIdeal.main_arg0) = m ((c.tc : Thread Cert.InNormIdeal.nD Cert.InNormIdeal.τ).loc Cert.InNormIdeal.main_arg0)
      ∧ m' ((c.tc : Thread Cert.InNormRefIdeal.nD Cert.InNormRefIdeal.τ).loc Cert.InNormRefIdeal.main_arg1) = m ((c.tc : Thread Cert.InNormIdeal.nD Cert.InNormIdeal.τ).loc Cert.InNormIdeal.main_arg1)
      ∧ m' ((c.tc : Thread Cert.InNormRefIdeal.nD Cert.InNormRefIdeal.τ).loc Cert.InNormRefIdeal.main_arg2) = m ((c.tc : Thread Cert.InNormIdeal.nD Cert.InNormIdeal.τ).loc Cert.InNormIdeal.main_arg2)
      ∧ m' ((c.tc : Thread Cert.InNormRefIdeal.nD Cert.InNormRefIdeal.τ).loc Cert.InNormRefIdeal.main_arg3) = m ((c.tc : Thread Cert.InNormIdeal.nD Cert.InNormIdeal.τ).loc Cert.InNormIdeal.main_arg3)
      ∧ m' ((c.tc : Thread Cert.InNormRefIdeal.nD Cert.InNormRefIdeal.τ).loc Cert.InNormRefIdeal.main_arg4) = m ((c.tc : Thread Cert.InNormIdeal.nD Cert.InNormIdeal.τ).loc Cert.InNormIdeal.main_arg4)) →
    ∃ (v0 : (c : Dev Cert.InNormIdeal.nD) → Buf (Elt Ideal) ((c.tc : Thread Cert.InNormIdeal.nD Cert.InNormIdeal.τ).loc Cert.InNormIdeal.main_v2_0)) (v1 : (c : Dev Cert.InNormIdeal.nD) → Buf (Elt Ideal) ((c.tc : Thread Cert.InNormIdeal.nD Cert.InNormIdeal.τ).loc Cert.InNormIdeal.main_v2_1)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v2_0) = v0 c
          ∧ r.2.mem ((c.tc : Thread Cert.InNormIdeal.nD Cert.InNormIdeal.τ).loc Cert.InNormIdeal.main_v2_1) = v1 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
          ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
          ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
          ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ θ_run (Cert.InNormRefIdeal.defs (F := Ideal)) (onTc (τ := Cert.InNormRefIdeal.τ) (Cert.InNormRefIdeal.main (F := Ideal))) ⟨m', fun _ => 0, g'⟩ (fun r => ∀ c : Dev Cert.InNormRefIdeal.nD,
          r.2.mem ((c.tc : Thread Cert.InNormRefIdeal.nD Cert.InNormRefIdeal.τ).loc Cert.InNormRefIdeal.main_v71) = v0 c
          ∧ r.2.mem ((c.tc : Thread Cert.InNormRefIdeal.nD Cert.InNormRefIdeal.τ).loc Cert.InNormRefIdeal.main_v80) = v1 c
          ∧ r.2.mem ((c.tc : Thread Cert.InNormRefIdeal.nD Cert.InNormRefIdeal.τ).loc Cert.InNormRefIdeal.main_arg0) = m' ((c.tc : Thread Cert.InNormRefIdeal.nD Cert.InNormRefIdeal.τ).loc Cert.InNormRefIdeal.main_arg0)
          ∧ r.2.mem ((c.tc : Thread Cert.InNormRefIdeal.nD Cert.InNormRefIdeal.τ).loc Cert.InNormRefIdeal.main_arg1) = m' ((c.tc : Thread Cert.InNormRefIdeal.nD Cert.InNormRefIdeal.τ).loc Cert.InNormRefIdeal.main_arg1)
          ∧ r.2.mem ((c.tc : Thread Cert.InNormRefIdeal.nD Cert.InNormRefIdeal.τ).loc Cert.InNormRefIdeal.main_arg2) = m' ((c.tc : Thread Cert.InNormRefIdeal.nD Cert.InNormRefIdeal.τ).loc Cert.InNormRefIdeal.main_arg2)
          ∧ r.2.mem ((c.tc : Thread Cert.InNormRefIdeal.nD Cert.InNormRefIdeal.τ).loc Cert.InNormRefIdeal.main_arg3) = m' ((c.tc : Thread Cert.InNormRefIdeal.nD Cert.InNormRefIdeal.τ).loc Cert.InNormRefIdeal.main_arg3)
          ∧ r.2.mem ((c.tc : Thread Cert.InNormRefIdeal.nD Cert.InNormRefIdeal.τ).loc Cert.InNormRefIdeal.main_arg4) = m' ((c.tc : Thread Cert.InNormRefIdeal.nD Cert.InNormRefIdeal.τ).loc Cert.InNormRefIdeal.main_arg4))

def preserves_ProjConv_ProjConvIdeal : Prop :=
  True

def algebraic_ProjConvIdeal_ProjConvRefIdeal [hProjConvIdeal : Cert.ProjConvIdeal.Facts] [hProjConvRefIdeal : Cert.ProjConvRefIdeal.Facts] : Prop :=
  ∀ (m : (ℓ : Loc Cert.ProjConvIdeal.nD Cert.ProjConvIdeal.τ Cert.ProjConvIdeal.sig) → Buf (Elt Ideal) ℓ) (g : Dev Cert.ProjConvIdeal.nD → PrngReg)
    (m' : (ℓ : Loc Cert.ProjConvRefIdeal.nD Cert.ProjConvRefIdeal.τ Cert.ProjConvRefIdeal.sig) → Buf (Elt Ideal) ℓ) (g' : Dev Cert.ProjConvRefIdeal.nD → PrngReg), Pre_ProjConvIdeal m →
    (∀ c : Dev Cert.ProjConvIdeal.nD,
      m' ((c.tc : Thread Cert.ProjConvRefIdeal.nD Cert.ProjConvRefIdeal.τ).loc Cert.ProjConvRefIdeal.main_arg0) = m ((c.tc : Thread Cert.ProjConvIdeal.nD Cert.ProjConvIdeal.τ).loc Cert.ProjConvIdeal.main_arg0)
      ∧ m' ((c.tc : Thread Cert.ProjConvRefIdeal.nD Cert.ProjConvRefIdeal.τ).loc Cert.ProjConvRefIdeal.main_arg1) = m ((c.tc : Thread Cert.ProjConvIdeal.nD Cert.ProjConvIdeal.τ).loc Cert.ProjConvIdeal.main_arg1)
      ∧ m' ((c.tc : Thread Cert.ProjConvRefIdeal.nD Cert.ProjConvRefIdeal.τ).loc Cert.ProjConvRefIdeal.main_arg2) = m ((c.tc : Thread Cert.ProjConvIdeal.nD Cert.ProjConvIdeal.τ).loc Cert.ProjConvIdeal.main_arg2)) →
    ∃ (v0 : (c : Dev Cert.ProjConvIdeal.nD) → Buf (Elt Ideal) ((c.tc : Thread Cert.ProjConvIdeal.nD Cert.ProjConvIdeal.τ).loc Cert.ProjConvIdeal.main_v10_0)) (v1 : (c : Dev Cert.ProjConvIdeal.nD) → Buf (Elt Ideal) ((c.tc : Thread Cert.ProjConvIdeal.nD Cert.ProjConvIdeal.τ).loc Cert.ProjConvIdeal.main_v10_1)) (v2 : (c : Dev Cert.ProjConvIdeal.nD) → Buf (Elt Ideal) ((c.tc : Thread Cert.ProjConvIdeal.nD Cert.ProjConvIdeal.τ).loc Cert.ProjConvIdeal.main_v10_2)) (v3 : (c : Dev Cert.ProjConvIdeal.nD) → Buf (Elt Ideal) ((c.tc : Thread Cert.ProjConvIdeal.nD Cert.ProjConvIdeal.τ).loc Cert.ProjConvIdeal.main_v10_3)),
      θ_run (Cert.ProjConvIdeal.defs (F := Ideal)) (onTc (τ := Cert.ProjConvIdeal.τ) (Cert.ProjConvIdeal.main (F := Ideal))) ⟨m, fun _ => 0, g⟩ (fun r => ∀ c : Dev Cert.ProjConvIdeal.nD,
          r.2.mem ((c.tc : Thread Cert.ProjConvIdeal.nD Cert.ProjConvIdeal.τ).loc Cert.ProjConvIdeal.main_v10_0) = v0 c
          ∧ r.2.mem ((c.tc : Thread Cert.ProjConvIdeal.nD Cert.ProjConvIdeal.τ).loc Cert.ProjConvIdeal.main_v10_1) = v1 c
          ∧ r.2.mem ((c.tc : Thread Cert.ProjConvIdeal.nD Cert.ProjConvIdeal.τ).loc Cert.ProjConvIdeal.main_v10_2) = v2 c
          ∧ r.2.mem ((c.tc : Thread Cert.ProjConvIdeal.nD Cert.ProjConvIdeal.τ).loc Cert.ProjConvIdeal.main_v10_3) = v3 c
          ∧ r.2.mem ((c.tc : Thread Cert.ProjConvIdeal.nD Cert.ProjConvIdeal.τ).loc Cert.ProjConvIdeal.main_arg0) = m ((c.tc : Thread Cert.ProjConvIdeal.nD Cert.ProjConvIdeal.τ).loc Cert.ProjConvIdeal.main_arg0)
          ∧ r.2.mem ((c.tc : Thread Cert.ProjConvIdeal.nD Cert.ProjConvIdeal.τ).loc Cert.ProjConvIdeal.main_arg1) = m ((c.tc : Thread Cert.ProjConvIdeal.nD Cert.ProjConvIdeal.τ).loc Cert.ProjConvIdeal.main_arg1)
          ∧ r.2.mem ((c.tc : Thread Cert.ProjConvIdeal.nD Cert.ProjConvIdeal.τ).loc Cert.ProjConvIdeal.main_arg2) = m ((c.tc : Thread Cert.ProjConvIdeal.nD Cert.ProjConvIdeal.τ).loc Cert.ProjConvIdeal.main_arg2))
      ∧ θ_run (Cert.ProjConvRefIdeal.defs (F := Ideal)) (onTc (τ := Cert.ProjConvRefIdeal.τ) (Cert.ProjConvRefIdeal.main (F := Ideal))) ⟨m', fun _ => 0, g'⟩ (fun r => ∀ c : Dev Cert.ProjConvRefIdeal.nD,
          r.2.mem ((c.tc : Thread Cert.ProjConvRefIdeal.nD Cert.ProjConvRefIdeal.τ).loc Cert.ProjConvRefIdeal.main_v44) = v0 c
          ∧ r.2.mem ((c.tc : Thread Cert.ProjConvRefIdeal.nD Cert.ProjConvRefIdeal.τ).loc Cert.ProjConvRefIdeal.main_v46) = v1 c
          ∧ r.2.mem ((c.tc : Thread Cert.ProjConvRefIdeal.nD Cert.ProjConvRefIdeal.τ).loc Cert.ProjConvRefIdeal.main_v47) = v2 c
          ∧ r.2.mem ((c.tc : Thread Cert.ProjConvRefIdeal.nD Cert.ProjConvRefIdeal.τ).loc Cert.ProjConvRefIdeal.main_v48) = v3 c
          ∧ r.2.mem ((c.tc : Thread Cert.ProjConvRefIdeal.nD Cert.ProjConvRefIdeal.τ).loc Cert.ProjConvRefIdeal.main_arg0) = m' ((c.tc : Thread Cert.ProjConvRefIdeal.nD Cert.ProjConvRefIdeal.τ).loc Cert.ProjConvRefIdeal.main_arg0)
          ∧ r.2.mem ((c.tc : Thread Cert.ProjConvRefIdeal.nD Cert.ProjConvRefIdeal.τ).loc Cert.ProjConvRefIdeal.main_arg1) = m' ((c.tc : Thread Cert.ProjConvRefIdeal.nD Cert.ProjConvRefIdeal.τ).loc Cert.ProjConvRefIdeal.main_arg1)
          ∧ r.2.mem ((c.tc : Thread Cert.ProjConvRefIdeal.nD Cert.ProjConvRefIdeal.τ).loc Cert.ProjConvRefIdeal.main_arg2) = m' ((c.tc : Thread Cert.ProjConvRefIdeal.nD Cert.ProjConvRefIdeal.τ).loc Cert.ProjConvRefIdeal.main_arg2))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v109_0)) (v1 : (c : Dev Cert.PoolBwdIdeal.nD) → Buf (Elt Ideal) ((c.tc : Thread Cert.PoolBwdIdeal.nD Cert.PoolBwdIdeal.τ).loc Cert.PoolBwdIdeal.main_v109_1)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v109_0) = v0 c
          ∧ r.2.mem ((c.tc : Thread Cert.PoolBwdIdeal.nD Cert.PoolBwdIdeal.τ).loc Cert.PoolBwdIdeal.main_v109_1) = v1 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v243) = v0 c
          ∧ r.2.mem ((c.tc : Thread Cert.PoolBwdRefIdeal.nD Cert.PoolBwdRefIdeal.τ).loc Cert.PoolBwdRefIdeal.main_v152) = v1 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v81) = v0 c
          ∧ r.2.mem ((c.tc : Thread Cert.ConvBwdRefIdeal.nD Cert.ConvBwdRefIdeal.τ).loc Cert.ConvBwdRefIdeal.main_v83) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v3_0)) (v1 : (c : Dev Cert.LnInIdeal.nD) → Buf (Elt Ideal) ((c.tc : Thread Cert.LnInIdeal.nD Cert.LnInIdeal.τ).loc Cert.LnInIdeal.main_v3_1)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v3_0) = v0 c
          ∧ r.2.mem ((c.tc : Thread Cert.LnInIdeal.nD Cert.LnInIdeal.τ).loc Cert.LnInIdeal.main_v3_1) = v1 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v23) = v0 c
          ∧ r.2.mem ((c.tc : Thread Cert.LnInRefIdeal.nD Cert.LnInRefIdeal.τ).loc Cert.LnInRefIdeal.main_v24) = v1 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v27) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v27) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v0) = v0 c
          ∧ r.2.mem ((c.tc : Thread Cert.AdamProjRefIdeal.nD Cert.AdamProjRefIdeal.τ).loc Cert.AdamProjRefIdeal.main_v27) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v13) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m ((c.tc : Thread Cert.AdamInIdeal.nD Cert.AdamInIdeal.τ).loc Cert.AdamInIdeal.main_arg0) = m' (((0 : Dev Cert.AdamInRefIdeal.nD).tc : Thread Cert.AdamInRefIdeal.nD Cert.AdamInRefIdeal.τ).loc Cert.AdamInRefIdeal.main_arg0)
      ∧ m ((c.tc : Thread Cert.AdamInIdeal.nD Cert.AdamInIdeal.τ).loc Cert.AdamInIdeal.main_arg1) = Layout.block ⟨2, ![512, 1668]⟩ ⟨2, ![1024, 1668]⟩ 0 2 c (m' (((0 : Dev Cert.AdamInRefIdeal.nD).tc : Thread Cert.AdamInRefIdeal.nD Cert.AdamInRefIdeal.τ).loc Cert.AdamInRefIdeal.main_arg1))
      ∧ m ((c.tc : Thread Cert.AdamInIdeal.nD Cert.AdamInIdeal.τ).loc Cert.AdamInIdeal.main_arg2) = Layout.block ⟨2, ![512, 1668]⟩ ⟨2, ![1024, 1668]⟩ 0 2 c (m' (((0 : Dev Cert.AdamInRefIdeal.nD).tc : Thread Cert.AdamInRefIdeal.nD Cert.AdamInRefIdeal.τ).loc Cert.AdamInRefIdeal.main_arg2))
      ∧ m ((c.tc : Thread Cert.AdamInIdeal.nD Cert.AdamInIdeal.τ).loc Cert.AdamInIdeal.main_arg3) = m' (((0 : Dev Cert.AdamInRefIdeal.nD).tc : Thread Cert.AdamInRefIdeal.nD Cert.AdamInRefIdeal.τ).loc Cert.AdamInRefIdeal.main_arg3)
      ∧ m ((c.tc : Thread Cert.AdamInIdeal.nD Cert.AdamInIdeal.τ).loc Cert.AdamInIdeal.main_arg4) = m' (((0 : Dev Cert.AdamInRefIdeal.nD).tc : Thread Cert.AdamInRefIdeal.nD Cert.AdamInRefIdeal.τ).loc Cert.AdamInRefIdeal.main_arg4)) →
    ∃ (v0 : Buf (Elt Ideal) (((0 : Dev Cert.AdamInRefIdeal.nD).tc : Thread Cert.AdamInRefIdeal.nD Cert.AdamInRefIdeal.τ).loc Cert.AdamInRefIdeal.main_v4)) (v1 : Buf (Elt Ideal) (((0 : Dev Cert.AdamInRefIdeal.nD).tc : Thread Cert.AdamInRefIdeal.nD Cert.AdamInRefIdeal.τ).loc Cert.AdamInRefIdeal.main_v34)) (v2 : Buf (Elt Ideal) (((0 : Dev Cert.AdamInRefIdeal.nD).tc : Thread Cert.AdamInRefIdeal.nD Cert.AdamInRefIdeal.τ).loc Cert.AdamInRefIdeal.main_v11)) (v3 : Buf (Elt Ideal) (((0 : Dev Cert.AdamInRefIdeal.nD).tc : Thread Cert.AdamInRefIdeal.nD Cert.AdamInRefIdeal.τ).loc Cert.AdamInRefIdeal.main_v19)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = Layout.block ⟨2, ![1024, 1668]⟩ ⟨2, ![2048, 1668]⟩ 0 2 c v0
          ∧ r.2.mem ((c.tc : Thread Cert.AdamInIdeal.nD Cert.AdamInIdeal.τ).loc Cert.AdamInIdeal.main_v1_1) = Layout.block ⟨2, ![1024, 1668]⟩ ⟨2, ![2048, 1668]⟩ 0 2 c v1
          ∧ r.2.mem ((c.tc : Thread Cert.AdamInIdeal.nD Cert.AdamInIdeal.τ).loc Cert.AdamInIdeal.main_v1_2) = Layout.block ⟨2, ![1024, 1668]⟩ ⟨2, ![2048, 1668]⟩ 0 2 c v2
          ∧ r.2.mem ((c.tc : Thread Cert.AdamInIdeal.nD Cert.AdamInIdeal.τ).loc Cert.AdamInIdeal.main_v1_3) = Layout.block ⟨2, ![1024, 1668]⟩ ⟨2, ![2048, 1668]⟩ 0 2 c v3
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r =>
          r.2.mem (((0 : Dev Cert.AdamInRefIdeal.nD).tc : Thread Cert.AdamInRefIdeal.nD Cert.AdamInRefIdeal.τ).loc Cert.AdamInRefIdeal.main_v4) = v0
          ∧ r.2.mem (((0 : Dev Cert.AdamInRefIdeal.nD).tc : Thread Cert.AdamInRefIdeal.nD Cert.AdamInRefIdeal.τ).loc Cert.AdamInRefIdeal.main_v34) = v1
          ∧ r.2.mem (((0 : Dev Cert.AdamInRefIdeal.nD).tc : Thread Cert.AdamInRefIdeal.nD Cert.AdamInRefIdeal.τ).loc Cert.AdamInRefIdeal.main_v11) = v2
          ∧ r.2.mem (((0 : Dev Cert.AdamInRefIdeal.nD).tc : Thread Cert.AdamInRefIdeal.nD Cert.AdamInRefIdeal.τ).loc Cert.AdamInRefIdeal.main_v19) = v3
          ∧ r.2.mem (((0 : Dev Cert.AdamInRefIdeal.nD).tc : Thread Cert.AdamInRefIdeal.nD Cert.AdamInRefIdeal.τ).loc Cert.AdamInRefIdeal.main_arg0) = m' (((0 : Dev Cert.AdamInRefIdeal.nD).tc : Thread Cert.AdamInRefIdeal.nD Cert.AdamInRefIdeal.τ).loc Cert.AdamInRefIdeal.main_arg0)
          ∧ r.2.mem (((0 : Dev Cert.AdamInRefIdeal.nD).tc : Thread Cert.AdamInRefIdeal.nD Cert.AdamInRefIdeal.τ).loc Cert.AdamInRefIdeal.main_arg1) = m' (((0 : Dev Cert.AdamInRefIdeal.nD).tc : Thread Cert.AdamInRefIdeal.nD Cert.AdamInRefIdeal.τ).loc Cert.AdamInRefIdeal.main_arg1)
          ∧ r.2.mem (((0 : Dev Cert.AdamInRefIdeal.nD).tc : Thread Cert.AdamInRefIdeal.nD Cert.AdamInRefIdeal.τ).loc Cert.AdamInRefIdeal.main_arg2) = m' (((0 : Dev Cert.AdamInRefIdeal.nD).tc : Thread Cert.AdamInRefIdeal.nD Cert.AdamInRefIdeal.τ).loc Cert.AdamInRefIdeal.main_arg2)
          ∧ r.2.mem (((0 : Dev Cert.AdamInRefIdeal.nD).tc : Thread Cert.AdamInRefIdeal.nD Cert.AdamInRefIdeal.τ).loc Cert.AdamInRefIdeal.main_arg3) = m' (((0 : Dev Cert.AdamInRefIdeal.nD).tc : Thread Cert.AdamInRefIdeal.nD Cert.AdamInRefIdeal.τ).loc Cert.AdamInRefIdeal.main_arg3)
          ∧ r.2.mem (((0 : Dev Cert.AdamInRefIdeal.nD).tc : Thread Cert.AdamInRefIdeal.nD Cert.AdamInRefIdeal.τ).loc Cert.AdamInRefIdeal.main_arg4) = m' (((0 : Dev Cert.AdamInRefIdeal.nD).tc : Thread Cert.AdamInRefIdeal.nD Cert.AdamInRefIdeal.τ).loc Cert.AdamInRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m ((c.tc : Thread Cert.AdamPoolIdeal.nD Cert.AdamPoolIdeal.τ).loc Cert.AdamPoolIdeal.main_arg0) = m' (((0 : Dev Cert.AdamPoolRefIdeal.nD).tc : Thread Cert.AdamPoolRefIdeal.nD Cert.AdamPoolRefIdeal.τ).loc Cert.AdamPoolRefIdeal.main_arg0)
      ∧ m ((c.tc : Thread Cert.AdamPoolIdeal.nD Cert.AdamPoolIdeal.τ).loc Cert.AdamPoolIdeal.main_arg1) = Layout.block ⟨2, ![256, 64]⟩ ⟨2, ![512, 64]⟩ 0 2 c (m' (((0 : Dev Cert.AdamPoolRefIdeal.nD).tc : Thread Cert.AdamPoolRefIdeal.nD Cert.AdamPoolRefIdeal.τ).loc Cert.AdamPoolRefIdeal.main_arg1))
      ∧ m ((c.tc : Thread Cert.AdamPoolIdeal.nD Cert.AdamPoolIdeal.τ).loc Cert.AdamPoolIdeal.main_arg2) = Layout.block ⟨2, ![256, 64]⟩ ⟨2, ![512, 64]⟩ 0 2 c (m' (((0 : Dev Cert.AdamPoolRefIdeal.nD).tc : Thread Cert.AdamPoolRefIdeal.nD Cert.AdamPoolRefIdeal.τ).loc Cert.AdamPoolRefIdeal.main_arg2))
      ∧ m ((c.tc : Thread Cert.AdamPoolIdeal.nD Cert.AdamPoolIdeal.τ).loc Cert.AdamPoolIdeal.main_arg3) = m' (((0 : Dev Cert.AdamPoolRefIdeal.nD).tc : Thread Cert.AdamPoolRefIdeal.nD Cert.AdamPoolRefIdeal.τ).loc Cert.AdamPoolRefIdeal.main_arg3)
      ∧ m ((c.tc : Thread Cert.AdamPoolIdeal.nD Cert.AdamPoolIdeal.τ).loc Cert.AdamPoolIdeal.main_arg4) = m' (((0 : Dev Cert.AdamPoolRefIdeal.nD).tc : Thread Cert.AdamPoolRefIdeal.nD Cert.AdamPoolRefIdeal.τ).loc Cert.AdamPoolRefIdeal.main_arg4)) →
    ∃ (v0 : Buf (Elt Ideal) (((0 : Dev Cert.AdamPoolRefIdeal.nD).tc : Thread Cert.AdamPoolRefIdeal.nD Cert.AdamPoolRefIdeal.τ).loc Cert.AdamPoolRefIdeal.main_v4)) (v1 : Buf (Elt Ideal) (((0 : Dev Cert.AdamPoolRefIdeal.nD).tc : Thread Cert.AdamPoolRefIdeal.nD Cert.AdamPoolRefIdeal.τ).loc Cert.AdamPoolRefIdeal.main_v31)) (v2 : Buf (Elt Ideal) (((0 : Dev Cert.AdamPoolRefIdeal.nD).tc : Thread Cert.AdamPoolRefIdeal.nD Cert.AdamPoolRefIdeal.τ).loc Cert.AdamPoolRefIdeal.main_v10)) (v3 : Buf (Elt Ideal) (((0 : Dev Cert.AdamPoolRefIdeal.nD).tc : Thread Cert.AdamPoolRefIdeal.nD Cert.AdamPoolRefIdeal.τ).loc Cert.AdamPoolRefIdeal.main_v17)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v1_0) = Layout.block ⟨2, ![512, 64]⟩ ⟨2, ![1024, 64]⟩ 0 2 c v0
          ∧ r.2.mem ((c.tc : Thread Cert.AdamPoolIdeal.nD Cert.AdamPoolIdeal.τ).loc Cert.AdamPoolIdeal.main_v1_1) = Layout.block ⟨2, ![512, 64]⟩ ⟨2, ![1024, 64]⟩ 0 2 c v1
          ∧ r.2.mem ((c.tc : Thread Cert.AdamPoolIdeal.nD Cert.AdamPoolIdeal.τ).loc Cert.AdamPoolIdeal.main_v1_2) = Layout.block ⟨2, ![512, 64]⟩ ⟨2, ![1024, 64]⟩ 0 2 c v2
          ∧ r.2.mem ((c.tc : Thread Cert.AdamPoolIdeal.nD Cert.AdamPoolIdeal.τ).loc Cert.AdamPoolIdeal.main_v1_3) = Layout.block ⟨2, ![512, 64]⟩ ⟨2, ![1024, 64]⟩ 0 2 c v3
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r =>
          r.2.mem (((0 : Dev Cert.AdamPoolRefIdeal.nD).tc : Thread Cert.AdamPoolRefIdeal.nD Cert.AdamPoolRefIdeal.τ).loc Cert.AdamPoolRefIdeal.main_v4) = v0
          ∧ r.2.mem (((0 : Dev Cert.AdamPoolRefIdeal.nD).tc : Thread Cert.AdamPoolRefIdeal.nD Cert.AdamPoolRefIdeal.τ).loc Cert.AdamPoolRefIdeal.main_v31) = v1
          ∧ r.2.mem (((0 : Dev Cert.AdamPoolRefIdeal.nD).tc : Thread Cert.AdamPoolRefIdeal.nD Cert.AdamPoolRefIdeal.τ).loc Cert.AdamPoolRefIdeal.main_v10) = v2
          ∧ r.2.mem (((0 : Dev Cert.AdamPoolRefIdeal.nD).tc : Thread Cert.AdamPoolRefIdeal.nD Cert.AdamPoolRefIdeal.τ).loc Cert.AdamPoolRefIdeal.main_v17) = v3
          ∧ r.2.mem (((0 : Dev Cert.AdamPoolRefIdeal.nD).tc : Thread Cert.AdamPoolRefIdeal.nD Cert.AdamPoolRefIdeal.τ).loc Cert.AdamPoolRefIdeal.main_arg0) = m' (((0 : Dev Cert.AdamPoolRefIdeal.nD).tc : Thread Cert.AdamPoolRefIdeal.nD Cert.AdamPoolRefIdeal.τ).loc Cert.AdamPoolRefIdeal.main_arg0)
          ∧ r.2.mem (((0 : Dev Cert.AdamPoolRefIdeal.nD).tc : Thread Cert.AdamPoolRefIdeal.nD Cert.AdamPoolRefIdeal.τ).loc Cert.AdamPoolRefIdeal.main_arg1) = m' (((0 : Dev Cert.AdamPoolRefIdeal.nD).tc : Thread Cert.AdamPoolRefIdeal.nD Cert.AdamPoolRefIdeal.τ).loc Cert.AdamPoolRefIdeal.main_arg1)
          ∧ r.2.mem (((0 : Dev Cert.AdamPoolRefIdeal.nD).tc : Thread Cert.AdamPoolRefIdeal.nD Cert.AdamPoolRefIdeal.τ).loc Cert.AdamPoolRefIdeal.main_arg2) = m' (((0 : Dev Cert.AdamPoolRefIdeal.nD).tc : Thread Cert.AdamPoolRefIdeal.nD Cert.AdamPoolRefIdeal.τ).loc Cert.AdamPoolRefIdeal.main_arg2)
          ∧ r.2.mem (((0 : Dev Cert.AdamPoolRefIdeal.nD).tc : Thread Cert.AdamPoolRefIdeal.nD Cert.AdamPoolRefIdeal.τ).loc Cert.AdamPoolRefIdeal.main_arg3) = m' (((0 : Dev Cert.AdamPoolRefIdeal.nD).tc : Thread Cert.AdamPoolRefIdeal.nD Cert.AdamPoolRefIdeal.τ).loc Cert.AdamPoolRefIdeal.main_arg3)
          ∧ r.2.mem (((0 : Dev Cert.AdamPoolRefIdeal.nD).tc : Thread Cert.AdamPoolRefIdeal.nD Cert.AdamPoolRefIdeal.τ).loc Cert.AdamPoolRefIdeal.main_arg4) = m' (((0 : Dev Cert.AdamPoolRefIdeal.nD).tc : Thread Cert.AdamPoolRefIdeal.nD Cert.AdamPoolRefIdeal.τ).loc Cert.AdamPoolRefIdeal.main_arg4))

def Claim : Prop :=
  ∃ (hDwIn : Cert.DwIn.Facts) (hDwInIdeal : Cert.DwInIdeal.Facts) (hDwInRefIdeal : Cert.DwInRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hDwGate : Cert.DwGate.Facts) (hDwGateIdeal : Cert.DwGateIdeal.Facts) (hDwGateRefIdeal : Cert.DwGateRefIdeal.Facts) (hDwProj : Cert.DwProj.Facts) (hDwProjIdeal : Cert.DwProjIdeal.Facts) (hDwProjRefIdeal : Cert.DwProjRefIdeal.Facts) (hMlpUp : Cert.MlpUp.Facts) (hMlpUpIdeal : Cert.MlpUpIdeal.Facts) (hMlpUpRefIdeal : Cert.MlpUpRefIdeal.Facts) (hMlpAct : Cert.MlpAct.Facts) (hMlpActIdeal : Cert.MlpActIdeal.Facts) (hMlpActRefIdeal : Cert.MlpActRefIdeal.Facts) (hMlpNorm : Cert.MlpNorm.Facts) (hMlpNormIdeal : Cert.MlpNormIdeal.Facts) (hMlpNormRefIdeal : Cert.MlpNormRefIdeal.Facts) (hInNorm : Cert.InNorm.Facts) (hInNormIdeal : Cert.InNormIdeal.Facts) (hInNormRefIdeal : Cert.InNormRefIdeal.Facts) (hProjConv : Cert.ProjConv.Facts) (hProjConvIdeal : Cert.ProjConvIdeal.Facts) (hProjConvRefIdeal : Cert.ProjConvRefIdeal.Facts) (hPoolBwd : Cert.PoolBwd.Facts) (hPoolBwdIdeal : Cert.PoolBwdIdeal.Facts) (hPoolBwdRefIdeal : Cert.PoolBwdRefIdeal.Facts) (hConvBwd : Cert.ConvBwd.Facts) (hConvBwdIdeal : Cert.ConvBwdIdeal.Facts) (hConvBwdRefIdeal : Cert.ConvBwdRefIdeal.Facts) (hLnIn : Cert.LnIn.Facts) (hLnInIdeal : Cert.LnInIdeal.Facts) (hLnInRefIdeal : Cert.LnInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamProj : Cert.AdamProj.Facts) (hAdamProjIdeal : Cert.AdamProjIdeal.Facts) (hAdamProjRefIdeal : Cert.AdamProjRefIdeal.Facts) (hAdamIn : Cert.AdamIn.Facts) (hAdamInIdeal : Cert.AdamInIdeal.Facts) (hAdamInRefIdeal : Cert.AdamInRefIdeal.Facts) (hAdamPool : Cert.AdamPool.Facts) (hAdamPoolIdeal : Cert.AdamPoolIdeal.Facts) (hAdamPoolRefIdeal : Cert.AdamPoolRefIdeal.Facts) (hPre_finite_mlp_norm : Cert.Pre_finite_mlp_norm.Facts) (hPre_finite_in_norm : Cert.Pre_finite_in_norm.Facts),
    quiescent_DwIn (hDwIn := hDwIn)
    ∧ quiescent_DwInIdeal (hDwInIdeal := hDwInIdeal)
    ∧ quiescent_DwInRefIdeal (hDwInRefIdeal := hDwInRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwProj (hDwProj := hDwProj)
    ∧ quiescent_DwProjIdeal (hDwProjIdeal := hDwProjIdeal)
    ∧ quiescent_DwProjRefIdeal (hDwProjRefIdeal := hDwProjRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpAct (hMlpAct := hMlpAct)
    ∧ quiescent_MlpActIdeal (hMlpActIdeal := hMlpActIdeal)
    ∧ quiescent_MlpActRefIdeal (hMlpActRefIdeal := hMlpActRefIdeal)
    ∧ quiescent_MlpNorm (hMlpNorm := hMlpNorm)
    ∧ quiescent_MlpNormIdeal (hMlpNormIdeal := hMlpNormIdeal)
    ∧ quiescent_MlpNormIdeal_pre_finite_mlp_norm (hMlpNormIdeal := hMlpNormIdeal) (hPre_finite_mlp_norm := hPre_finite_mlp_norm)
    ∧ quiescent_MlpNormRefIdeal (hMlpNormRefIdeal := hMlpNormRefIdeal)
    ∧ quiescent_MlpNormRefIdeal_pre_finite_mlp_norm (hMlpNormRefIdeal := hMlpNormRefIdeal) (hPre_finite_mlp_norm := hPre_finite_mlp_norm)
    ∧ quiescent_InNorm (hInNorm := hInNorm)
    ∧ quiescent_InNormIdeal (hInNormIdeal := hInNormIdeal)
    ∧ quiescent_InNormIdeal_pre_finite_in_norm (hInNormIdeal := hInNormIdeal) (hPre_finite_in_norm := hPre_finite_in_norm)
    ∧ quiescent_InNormRefIdeal (hInNormRefIdeal := hInNormRefIdeal)
    ∧ quiescent_InNormRefIdeal_pre_finite_in_norm (hInNormRefIdeal := hInNormRefIdeal) (hPre_finite_in_norm := hPre_finite_in_norm)
    ∧ quiescent_ProjConv (hProjConv := hProjConv)
    ∧ quiescent_ProjConvIdeal (hProjConvIdeal := hProjConvIdeal)
    ∧ quiescent_ProjConvRefIdeal (hProjConvRefIdeal := hProjConvRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_LnIn (hLnIn := hLnIn)
    ∧ quiescent_LnInIdeal (hLnInIdeal := hLnInIdeal)
    ∧ quiescent_LnInRefIdeal (hLnInRefIdeal := hLnInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ preserves_DwIn_DwInIdeal
    ∧ algebraic_DwInIdeal_DwInRefIdeal (hDwInIdeal := hDwInIdeal) (hDwInRefIdeal := hDwInRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_DwGate_DwGateIdeal
    ∧ algebraic_DwGateIdeal_DwGateRefIdeal (hDwGateIdeal := hDwGateIdeal) (hDwGateRefIdeal := hDwGateRefIdeal)
    ∧ preserves_DwProj_DwProjIdeal
    ∧ algebraic_DwProjIdeal_DwProjRefIdeal (hDwProjIdeal := hDwProjIdeal) (hDwProjRefIdeal := hDwProjRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpAct_MlpActIdeal
    ∧ algebraic_MlpActIdeal_MlpActRefIdeal (hMlpActIdeal := hMlpActIdeal) (hMlpActRefIdeal := hMlpActRefIdeal)
    ∧ preserves_MlpNorm_MlpNormIdeal
    ∧ algebraic_MlpNormIdeal_MlpNormRefIdeal_pre_finite_mlp_norm (hMlpNormIdeal := hMlpNormIdeal) (hMlpNormRefIdeal := hMlpNormRefIdeal) (hPre_finite_mlp_norm := hPre_finite_mlp_norm)
    ∧ preserves_InNorm_InNormIdeal
    ∧ algebraic_InNormIdeal_InNormRefIdeal_pre_finite_in_norm (hInNormIdeal := hInNormIdeal) (hInNormRefIdeal := hInNormRefIdeal) (hPre_finite_in_norm := hPre_finite_in_norm)
    ∧ preserves_ProjConv_ProjConvIdeal
    ∧ algebraic_ProjConvIdeal_ProjConvRefIdeal (hProjConvIdeal := hProjConvIdeal) (hProjConvRefIdeal := hProjConvRefIdeal)
    ∧ preserves_PoolBwd_PoolBwdIdeal
    ∧ algebraic_PoolBwdIdeal_PoolBwdRefIdeal (hPoolBwdIdeal := hPoolBwdIdeal) (hPoolBwdRefIdeal := hPoolBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_LnIn_LnInIdeal
    ∧ algebraic_LnInIdeal_LnInRefIdeal (hLnInIdeal := hLnInIdeal) (hLnInRefIdeal := hLnInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamIn_AdamInIdeal
    ∧ algebraic_AdamInIdeal_AdamInRefIdeal (hAdamInIdeal := hAdamInIdeal) (hAdamInRefIdeal := hAdamInRefIdeal)
    ∧ preserves_AdamPool_AdamPoolIdeal
    ∧ algebraic_AdamPoolIdeal_AdamPoolRefIdeal (hAdamPoolIdeal := hAdamPoolIdeal) (hAdamPoolRefIdeal := hAdamPoolRefIdeal)
-- ==== Pre_finite_in_norm.lean ====
abbrev S8192x6912 : Shape := ⟨2, ![8192, 6912]⟩
abbrev S1024x6912 : Shape := ⟨2, ![1024, 6912]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x6912 : S_.BroadcastsInDim S8192x6912 (![] : Fin 0 → Fin S8192x6912.rank)
  bcast_S_S1024x6912 : S_.BroadcastsInDim S1024x6912 (![] : Fin 0 → Fin S1024x6912.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x6912 .bf16) (main_arg1 : FVec F S1024x6912 .bf16) (main_arg2 : FVec F S8192x1024 .f32) (main_arg3 : FVec F S8192x1024 .f32) (main_arg4 : FVec F S1024 .f32) : IVec S8192x6912 1 × IVec S1024x6912 1 × IVec S8192x1024 1 × IVec S8192x1024 1 × IVec S1024 1 :=
  let main_v0 : FVec F S8192x6912 .f32 := (extf .f32 · bitsLt_bf16_f32) main_arg0
  let main_v1 : FVec F S8192x6912 .f32 := Host.absf main_v0
  let main_cst : FVec F S_ .f32 := constant S_ .f32 0x7F800000#32
  let main_v2 : FVec F S8192x6912 .f32 := broadcastInDim S8192x6912 ![] bcast_S_S8192x6912 main_cst
  let main_v3 : IVec S8192x6912 1 := cmpf .olt main_v1 main_v2
  let main_v4 : FVec F S1024x6912 .f32 := (extf .f32 · bitsLt_bf16_f32) main_arg1
  let main_v5 : FVec F S1024x6912 .f32 := Host.absf main_v4
  let main_cst_0 : FVec F S_ .f32 := constant S_ .f32 0x7F800000#32
  let main_v6 : FVec F S1024x6912 .f32 := broadcastInDim S1024x6912 ![] bcast_S_S1024x6912 main_cst_0
  let main_v7 : IVec S1024x6912 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v3, main_v7, main_v10, main_v13, main_v16)
-- ==== Pre_finite_mlp_norm.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S1024x4096 : S_.BroadcastsInDim S1024x4096 (![] : Fin 0 → Fin S1024x4096.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x4096 .bf16) (main_arg1 : FVec F S1024x4096 .bf16) (main_arg2 : FVec F S8192x1024 .f32) (main_arg3 : FVec F S8192x1024 .f32) (main_arg4 : FVec F S1024 .f32) : IVec S8192x4096 1 × IVec S1024x4096 1 × IVec S8192x1024 1 × IVec S8192x1024 1 × IVec S1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S1024x4096 .f32 := (extf .f32 · bitsLt_bf16_f32) main_arg1
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S8192x1024 .f32 := Host.absf main_arg3
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v3, main_v7, main_v10, main_v13, main_v16)
-- ==== DwIn.lean ====
abbrev S8192x1024 : Shape := ⟨2, ![8192, 1024]⟩
abbrev S8192x6912 : Shape := ⟨2, ![8192, 6912]⟩
abbrev S1024x6912 : Shape := ⟨2, ![1024, 6912]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S1024x6912, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S8192x6912 : Shape := ⟨2, ![8192, 6912]⟩
abbrev S_ : Shape := ⟨0, ![]⟩
abbrev S1024x6912 : Shape := ⟨2, ![1024, 6912]⟩
abbrev S6912x1024 : Shape := ⟨2, ![6912, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S8192x1024, .f32⟩
  | .hbm, ⟨3, _⟩ => ⟨S8192x6912, .f32⟩
  | .hbm, ⟨4, _⟩ => ⟨S_, .f32⟩
  | .hbm, ⟨5, _⟩ => ⟨S1024x6912, .f32⟩
  | .hbm, ⟨6, _⟩ => ⟨S8192x6912, .f32⟩
  | .hbm, ⟨7, _⟩ => ⟨S6912x1024, .f32⟩
  | .hbm, ⟨8, _⟩ => ⟨S1024x6912, .f32⟩
  | .hbm, ⟨9, _⟩ => ⟨S1024x6912, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwGate.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGateRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwProj.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwProjRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpAct.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S512x1024 : Shape := ⟨2, ![512, 1024]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x4096, .bf16⟩
  | .hbm, ⟨3, _⟩ => ⟨S4096x1024, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpActRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x4096, .bf16⟩
  | .hbm, ⟨3, _⟩ => ⟨S4096x1024, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S4096x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== MlpNorm.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x4x1024, .bf16⟩
  | .hbm, ⟨6, _⟩ => ⟨S4x1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpNormRefIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x4096, .f32⟩
  | .hbm, ⟨44, _⟩ => ⟨S8192x4096, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x4096, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .bf16⟩
  | .hbm, ⟨99, _⟩ => ⟨S8x1024, .i32⟩
  | .hbm, ⟨100, _⟩ => ⟨S_, .i32⟩
  | .hbm, ⟨101, _⟩ => ⟨S8x1024, .i32⟩
  | .hbm, ⟨102, _⟩ => ⟨S8x1024, .i1⟩
  | .hbm, ⟨103, _⟩ => ⟨S1x1024, .f32⟩
  | .hbm, ⟨104, _⟩ => ⟨S_, .i32⟩
  | .hbm, ⟨105, _⟩ => ⟨S8x1024, .i32⟩
  | .hbm, ⟨106, _⟩ => ⟨S8x1024, .i1⟩
  | .hbm, ⟨107, _⟩ => ⟨S1x1024, .f32⟩
  | .hbm, ⟨108, _⟩ => ⟨S_, .f32⟩
  | .hbm, ⟨109, _⟩ => ⟨S_, .f32⟩
  | .hbm, ⟨110, _⟩ => ⟨S8x1024, .f32⟩
  | .hbm, ⟨111, _⟩ => ⟨S8x1024, .f32⟩
  | .hbm, ⟨112, _⟩ => ⟨S8x1024, .f32⟩
  | .hbm, ⟨113, _⟩ => ⟨S8x1024, .f32⟩
  | .hbm, ⟨114, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_20 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_21 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v80 : Ref sig .tc := ⟨.hbm, 112, rfl⟩
abbrev main_call1_v0 : Ref sig .tc := ⟨.hbm, 113, rfl⟩
abbrev main_v81 : Ref sig .tc := ⟨.hbm, 114, rfl⟩

abbrev nD : Nat := 1
abbrev τ : Topo := Topo.v7x

variable {F : FTy → Type} [FloatOps F]
-- ==== InNorm.lean ====
abbrev S8192x6912 : Shape := ⟨2, ![8192, 6912]⟩
abbrev S1024x6912 : Shape := ⟨2, ![1024, 6912]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8x128 : Shape := ⟨2, ![8, 128]⟩
abbrev S8x1024 : Shape := ⟨2, ![8, 1024]⟩
abbrev S256x6912 : Shape := ⟨2, ![256, 6912]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S8x128, .f32⟩
  | .hbm, ⟨8, _⟩ => ⟨S8192x1024, .f32⟩
  | .hbm, ⟨9, _⟩ => ⟨S8x1024, .f32⟩
  | .local _ .vmem, ⟨0, _⟩ => ⟨S256x6912, .bf16⟩
  | .local _ .vmem, ⟨1, _⟩ => ⟨S256x6912, .bf16⟩
  | .local _ .vmem, ⟨2, _⟩ => ⟨S1024x6912, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InNormRefIdeal.lean ====
abbrev S8192x6912 : Shape := ⟨2, ![8192, 6912]⟩
abbrev S1024x6912 : Shape := ⟨2, ![1024, 6912]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x6912, .f32⟩
  | .hbm, ⟨44, _⟩ => ⟨S8192x6912, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x6912, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8x1024, .i32⟩
  | .hbm, ⟨99, _⟩ => ⟨S_, .i32⟩
  | .hbm, ⟨100, _⟩ => ⟨S8x1024, .i32⟩
  | .hbm, ⟨101, _⟩ => ⟨S8x1024, .i1⟩
  | .hbm, ⟨102, _⟩ => ⟨S1x1024, .f32⟩
  | .hbm, ⟨103, _⟩ => ⟨S_, .i32⟩
  | .hbm, ⟨104, _⟩ => ⟨S8x1024, .i32⟩
  | .hbm, ⟨105, _⟩ => ⟨S8x1024, .i1⟩
  | .hbm, ⟨106, _⟩ => ⟨S1x1024, .f32⟩
  | .hbm, ⟨107, _⟩ => ⟨S_, .f32⟩
  | .hbm, ⟨108, _⟩ => ⟨S_, .f32⟩
  | .hbm, ⟨109, _⟩ => ⟨S8x1024, .f32⟩
  | .hbm, ⟨110, _⟩ => ⟨S8x1024, .f32⟩
  | .hbm, ⟨111, _⟩ => ⟨S8x1024, .f32⟩
  | .hbm, ⟨112, _⟩ => ⟨S8x1024, .f32⟩
  | .hbm, ⟨113, _⟩ => ⟨S8x1024, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_20 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_21 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v79 : Ref sig .tc := ⟨.hbm, 111, rfl⟩
abbrev main_call1_v0 : Ref sig .tc := ⟨.hbm, 112, rfl⟩
abbrev main_v80 : Ref sig .tc := ⟨.hbm, 113, rfl⟩

abbrev nD : Nat := 1
abbrev τ : Topo := Topo.v7x

variable {F : FTy → Type} [FloatOps F]
-- ==== ProjConv.lean ====
abbrev S8192x1024 : Shape := ⟨2, ![8192, 1024]⟩
abbrev S1024x6672 : Shape := ⟨2, ![1024, 6672]⟩
abbrev S4x3072 : Shape := ⟨2, ![4, 3072]⟩
abbrev S1024x512 : Shape := ⟨2, ![1024, 512]⟩
abbrev S1024x3072 : Shape := ⟨2, ![1024, 3072]⟩
abbrev S1024x1024 : Shape := ⟨2, ![1024, 1024]⟩
abbrev S1024x8 : Shape := ⟨2, ![1024, 8]⟩
abbrev S_ : Shape := ⟨0, ![]⟩
abbrev S1024x240 : Shape := ⟨2, ![1024, 240]⟩
abbrev S1024x6912 : Shape := ⟨2, ![1024, 6912]⟩
abbrev S8x128 : Shape := ⟨2, ![8, 128]⟩
abbrev S8192x3840 : Shape := ⟨2, ![8192, 3840]⟩
abbrev S8192x3072 : Shape := ⟨2, ![8192, 3072]⟩
abbrev S256x1024 : Shape := ⟨2, ![256, 1024]⟩
abbrev S256x3840 : Shape := ⟨2, ![256, 3840]⟩
abbrev S256x3072 : Shape := ⟨2, ![256, 3072]⟩
abbrev S8x3072 : Shape := ⟨2, ![8, 3072]⟩
abbrev S4x264x768 : Shape := ⟨3, ![4, 264, 768]⟩
abbrev S1024x768 : Shape := ⟨2, ![1024, 768]⟩
abbrev S256x768 : Shape := ⟨2, ![256, 768]⟩
abbrev S8x768 : Shape := ⟨2, ![8, 768]⟩
abbrev S1x8x768 : Shape := ⟨3, ![1, 8, 768]⟩
abbrev S1x256x768 : Shape := ⟨3, ![1, 256, 768]⟩
abbrev S1x768 : Shape := ⟨2, ![1, 768]⟩
abbrev S1x264x768 : Shape := ⟨3, ![1, 264, 768]⟩
abbrev S264x768 : Shape := ⟨2, ![264, 768]⟩
abbrev S32x768 : Shape := ⟨2, ![32, 768]⟩

abbrev nBuf : Space → Nat
  | .hbm => 19
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x6672, .bf16⟩
  | .hbm, ⟨2, _⟩ => ⟨S4x3072, .f32⟩
  | .hbm, ⟨3, _⟩ => ⟨S1024x512, .bf16⟩
  | .hbm, ⟨4, _⟩ => ⟨S1024x3072, .bf16⟩
  | .hbm, ⟨5, _⟩ => ⟨S1024x1024, .bf16⟩
  | .hbm, ⟨6, _⟩ => ⟨S1024x8, .bf16⟩
  | .hbm, ⟨7, _⟩ => ⟨S1024x8, .bf16⟩
  | .hbm, ⟨8, _⟩ => ⟨S1024x1024, .bf16⟩
  | .hbm, ⟨9, _⟩ => ⟨S1024x1024, .bf16⟩
  | .hbm, ⟨10, _⟩ => ⟨S_, .bf16⟩
  | .hbm, ⟨11, _⟩ => ⟨S1024x240, .bf16⟩
  | .hbm, ⟨12, _⟩ => ⟨S1024x6912, .bf16⟩
  | .hbm, ⟨13, _⟩ => ⟨S_, .f32⟩
  | .hbm, ⟨14, _⟩ => ⟨S8x128, .f32⟩
  | .hbm, ⟨15, _⟩ => ⟨S8192x3840, .f32⟩
  | .hbm, ⟨16, _⟩ => ⟨S8192x3072, .bf16⟩
  | .hbm, ⟨17, _⟩ => ⟨S8192x3072, .f32⟩
  | .hbm, ⟨18, _⟩ => ⟨S8192x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x6912, .bf16⟩
  | .local _ .vmem, ⟨3, _⟩ => ⟨S4x3072, .f32⟩
  | .local _ .vmem, ⟨4, _⟩ => ⟨S256x3840, .f32⟩
  | .local _ .vmem, ⟨5, _⟩ => ⟨S256x3840, .f32⟩
  | .local _ .vmem, ⟨6, _⟩ => ⟨S256x3072, .bf16⟩
  | .local _ .vmem, ⟨7, _⟩ => ⟨S256x3072, .bf16⟩
  | .local _ .vmem, ⟨8, _⟩ => ⟨S256x3072, .f32⟩
  | .local _ .vmem, ⟨9, _⟩ => ⟨S256x3072, .f32⟩
  | .local _ .vmem, ⟨10, _⟩ => ⟨S256x3072, .bf16⟩
  | .local _ .vmem, ⟨11, _⟩ => ⟨S256x3072, .bf16⟩
  | .local _ .vmem, ⟨12, _⟩ => ⟨S8x3072, .f32⟩
  | .local _ .vmem, ⟨13, _⟩ => ⟨S4x264x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjConvRefIdeal.lean ====
abbrev S8192x1024 : Shape := ⟨2, ![8192, 1024]⟩
abbrev S1024x6672 : Shape := ⟨2, ![1024, 6672]⟩
abbrev S4x3072 : Shape := ⟨2, ![4, 3072]⟩
abbrev S8192x6672 : Shape := ⟨2, ![8192, 6672]⟩
abbrev S8192x512 : Shape := ⟨2, ![8192, 512]⟩
abbrev S8192x3072 : Shape := ⟨2, ![8192, 3072]⟩
abbrev S8192x8 : Shape := ⟨2, ![8192, 8]⟩
abbrev S_ : Shape := ⟨0, ![]⟩
abbrev S8195x3072 : Shape := ⟨2, ![8195, 3072]⟩
abbrev S1x3072 : Shape := ⟨2, ![1, 3072]⟩
abbrev S3072 : Shape := ⟨1, ![3072]⟩
abbrev S8192x240 : Shape := ⟨2, ![8192, 240]⟩
abbrev S8192x3840 : Shape := ⟨2, ![8192, 3840]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6672, .bf16⟩
  | .hbm, ⟨2, _⟩ => ⟨S4x3072, .f32⟩
  | .hbm, ⟨3, _⟩ => ⟨S8192x1024, .f32⟩
  | .hbm, ⟨4, _⟩ => ⟨S1024x6672, .f32⟩
  | .hbm, ⟨5, _⟩ => ⟨S8192x6672, .f32⟩
  | .hbm, ⟨6, _⟩ => ⟨S8192x512, .f32⟩
  | .hbm, ⟨7, _⟩ => ⟨S8192x3072, .f32⟩
  | .hbm, ⟨8, _⟩ => ⟨S8192x1024, .f32⟩
  | .hbm, ⟨9, _⟩ => ⟨S8192x8, .f32⟩
  | .hbm, ⟨10, _⟩ => ⟨S8192x8, .f32⟩
  | .hbm, ⟨11, _⟩ => ⟨S8192x1024, .f32⟩
  | .hbm, ⟨12, _⟩ => ⟨S8192x1024, .f32⟩
  | .hbm, ⟨13, _⟩ => ⟨S_, .i32⟩
  | .hbm, ⟨14, _⟩ => ⟨S_, .f32⟩
  | .hbm, ⟨15, _⟩ => ⟨S8195x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S1x3072, .f32⟩
  | .hbm, ⟨40, _⟩ => ⟨S3072, .f32⟩
  | .hbm, ⟨41, _⟩ => ⟨S1x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S_, .f32⟩
  | .hbm, ⟨49, _⟩ => ⟨S8192x3072, .f32⟩
  | .hbm, ⟨50, _⟩ => ⟨S8192x3072, .f32⟩
  | .hbm, ⟨51, _⟩ => ⟨S_, .f32⟩
  | .hbm, ⟨52, _⟩ => ⟨S8192x3072, .f32⟩
  | .hbm, ⟨53, _⟩ => ⟨S8192x3072, .f32⟩
  | .hbm, ⟨54, _⟩ => ⟨S_, .f32⟩
  | .hbm, ⟨55, _⟩ => ⟨S8192x3072, .f32⟩
  | .hbm, ⟨56, _⟩ => ⟨S8192x3072, .f32⟩
  | .hbm, ⟨57, _⟩ => ⟨S8192x3072, .f32⟩
  | .hbm, ⟨58, _⟩ => ⟨S8192x3072, .f32⟩
  | .hbm, ⟨59, _⟩ => ⟨S_, .f32⟩
  | .hbm, ⟨60, _⟩ => ⟨S8192x3072, .f32⟩
  | .hbm, ⟨61, _⟩ => ⟨S8192x3072, .f32⟩
  | .hbm, ⟨62, _⟩ => ⟨S8192x3072, .f32⟩
  | .hbm, ⟨63, _⟩ => ⟨S8192x3072, .f32⟩
  | .hbm, ⟨64, _⟩ => ⟨S8192x3072, .f32⟩
  | .hbm, ⟨65, _⟩ => ⟨S_, .f32⟩
  | .hbm, ⟨66, _⟩ => ⟨S8192x240, .f32⟩
  | .hbm, ⟨67, _⟩ => ⟨S8192x3840, .f32⟩
  | .hbm, ⟨68, _⟩ => ⟨S8192x3072, .f32⟩
  | .hbm, ⟨69, _⟩ => ⟨S8192x3072, .bf16⟩
  | .hbm, ⟨70, _⟩ => ⟨S8192x3072, .f32⟩
  | .hbm, ⟨71, _⟩ => ⟨S8192x3072, .f32⟩
  | .hbm, ⟨72, _⟩ => ⟨S_, .f32⟩
  | .hbm, ⟨73, _⟩ => ⟨S8192x3072, .f32⟩
  | .hbm, ⟨74, _⟩ => ⟨S8192x3072, .f32⟩
  | .hbm, ⟨75, _⟩ => ⟨S_, .f32⟩
  | .hbm, ⟨76, _⟩ => ⟨S8192x3072, .f32⟩
  | .hbm, ⟨77, _⟩ => ⟨S8192x3072, .f32⟩
  | .hbm, ⟨78, _⟩ => ⟨S8192x3072, .f32⟩
  | .hbm, ⟨79, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_v40_2 : Ref sig .tc := ⟨.hbm, 53, rfl⟩
abbrev main_call1_cst_1 : Ref sig .tc := ⟨.hbm, 54, rfl⟩
abbrev main_call1_v6 : Ref sig .tc := ⟨.hbm, 55, rfl⟩
abbrev main_call1_v7 : Ref sig .tc := ⟨.hbm, 56, rfl⟩
abbrev main_v40_1 : Ref sig .tc := ⟨.hbm, 57, rfl⟩
abbrev main_v40_0 : Ref sig .tc := ⟨.hbm, 58, rfl⟩
abbrev main_cst_0 : Ref sig .tc := ⟨.hbm, 59, rfl⟩
abbrev main_v41 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v47 : Ref sig .tc := ⟨.hbm, 78, rfl⟩
abbrev main_v48 : Ref sig .tc := ⟨.hbm, 79, rfl⟩

abbrev nD : Nat := 1
abbrev τ : Topo := Topo.v7x

variable {F : FTy → Type} [FloatOps F]
-- ==== PoolBwd.lean ====
abbrev S8192x1024 : Shape := ⟨2, ![8192, 1024]⟩
abbrev S8192x512 : Shape := ⟨2, ![8192, 512]⟩
abbrev S4x128x256 : Shape := ⟨3, ![4, 128, 256]⟩
abbrev S8192x6912 : Shape := ⟨2, ![8192, 6912]⟩
abbrev S8192 : Shape := ⟨1, ![8192]⟩
abbrev S_ : Shape := ⟨0, ![]⟩
abbrev S8192x128 : Shape := ⟨2, ![8192, 128]⟩
abbrev S2x128 : Shape := ⟨2, ![2, 128]⟩
abbrev S8194x128 : Shape := ⟨2, ![8194, 128]⟩
abbrev S8192x1 : Shape := ⟨2, ![8192, 1]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S512x1024 : Shape := ⟨2, ![512, 1024]⟩
abbrev S16x1024 : Shape := ⟨2, ![16, 1024]⟩
abbrev S512x512 : Shape := ⟨2, ![512, 512]⟩
abbrev S528x128 : Shape := ⟨2, ![528, 128]⟩
abbrev S512x256 : Shape := ⟨2, ![512, 256]⟩
abbrev S16x256 : Shape := ⟨2, ![16, 256]⟩
abbrev S1x128x256 : Shape := ⟨3, ![1, 128, 256]⟩
abbrev S128x256 : Shape := ⟨2, ![128, 256]⟩
abbrev S512x128 : Shape := ⟨2, ![512, 128]⟩

abbrev nBuf : Space → Nat
  | .hbm => 128
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S4x128x256, .bf16⟩
  | .hbm, ⟨3, _⟩ => ⟨S8192x6912, .bf16⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192x128, .f32⟩
  | .hbm, ⟨9, _⟩ => ⟨S_, .f32⟩
  | .hbm, ⟨10, _⟩ => ⟨S2x128, .f32⟩
  | .hbm, ⟨11, _⟩ => ⟨S8194x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S8192x1, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S4x128, .f32⟩
  | .hbm, ⟨29, _⟩ => ⟨S8196x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .f32⟩
  | .hbm, ⟨44, _⟩ => ⟨S8192x1, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S8x128, .f32⟩
  | .hbm, ⟨51, _⟩ => ⟨S8200x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S8192x128, .f32⟩
  | .hbm, ⟨68, _⟩ => ⟨S8192x128, .f32⟩
  | .hbm, ⟨69, _⟩ => ⟨S8192x128, .f32⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .f32⟩
  | .hbm, ⟨74, _⟩ => ⟨S8192x1, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S8192x128, .f32⟩
  | .hbm, ⟨79, _⟩ => ⟨S_, .f32⟩
  | .hbm, ⟨80, _⟩ => ⟨S16x128, .f32⟩
  | .hbm, ⟨81, _⟩ => ⟨S8208x128, .f32⟩
  | .hbm, ⟨82, _⟩ => ⟨S8192x128, .f32⟩
  | .hbm, ⟨83, _⟩ => ⟨S_, .f32⟩
  | .hbm, ⟨84, _⟩ => ⟨S8192x128, .f32⟩
  | .hbm, ⟨85, _⟩ => ⟨S8192x128, .f32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S8192x128, .f32⟩
  | .hbm, ⟨90, _⟩ => ⟨S8192x128, .f32⟩
  | .hbm, ⟨91, _⟩ => ⟨S8192x128, .f32⟩
  | .hbm, ⟨92, _⟩ => ⟨S8192x128, .f32⟩
  | .hbm, ⟨93, _⟩ => ⟨S8192x128, .f32⟩
  | .hbm, ⟨94, _⟩ => ⟨S8192x128, .f32⟩
  | .hbm, ⟨95, _⟩ => ⟨S8192x128, .f32⟩
  | .hbm, ⟨96, _⟩ => ⟨S8192x128, .f32⟩
  | .hbm, ⟨97, _⟩ => ⟨S8192x128, .f32⟩
  | .hbm, ⟨98, _⟩ => ⟨S8192x128, .f32⟩
  | .hbm, ⟨99, _⟩ => ⟨S8192x128, .f32⟩
  | .hbm, ⟨100, _⟩ => ⟨S8192x128, .f32⟩
  | .hbm, ⟨101, _⟩ => ⟨S8192x128, .f32⟩
  | .hbm, ⟨102, _⟩ => ⟨S8192x128, .f32⟩
  | .hbm, ⟨103, _⟩ => ⟨S8192x128, .f32⟩
  | .hbm, ⟨104, _⟩ => ⟨S8192x128, .f32⟩
  | .hbm, ⟨105, _⟩ => ⟨S8192x128, .f32⟩
  | .hbm, ⟨106, _⟩ => ⟨S8192x128, .f32⟩
  | .hbm, ⟨107, _⟩ => ⟨S8192x128, .f32⟩
  | .hbm, ⟨108, _⟩ => ⟨S8192x128, .f32⟩
  | .hbm, ⟨109, _⟩ => ⟨S8192x128, .f32⟩
  | .hbm, ⟨110, _⟩ => ⟨S8192x128, .f32⟩
  | .hbm, ⟨111, _⟩ => ⟨S8192x128, .f32⟩
  | .hbm, ⟨112, _⟩ => ⟨S8192x128, .f32⟩
  | .hbm, ⟨113, _⟩ => ⟨S8192x128, .f32⟩
  | .hbm, ⟨114, _⟩ => ⟨S8192x128, .f32⟩
  | .hbm, ⟨115, _⟩ => ⟨S8192x128, .f32⟩
  | .hbm, ⟨116, _⟩ => ⟨S_, .i32⟩
  | .hbm, ⟨117, _⟩ => ⟨S8192, .i32⟩
  | .hbm, ⟨118, _⟩ => ⟨S8192, .i32⟩
  | .hbm, ⟨119, _⟩ => ⟨S8192, .f32⟩
  | .hbm, ⟨120, _⟩ => ⟨S8192x1, .f32⟩
  | .hbm, ⟨121, _⟩ => ⟨S8192x128, .f32⟩
  | .hbm, ⟨122, _⟩ => ⟨S8192x128, .f32⟩
  | .hbm, ⟨123, _⟩ => ⟨S8192x128, .f32⟩
  | .hbm, ⟨124, _⟩ => ⟨S8192x512, .f32⟩
  | .hbm, ⟨125, _⟩ => ⟨S8192x512, .bf16⟩
  | .hbm, ⟨126, _⟩ => ⟨S8192x6912, .bf16⟩
  | .hbm, ⟨127, _⟩ => ⟨S4x128x256, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x512, .bf16⟩
  | .local _ .vmem, ⟨5, _⟩ => ⟨S512x512, .bf16⟩
  | .local _ .vmem, ⟨6, _⟩ => ⟨S4x128x256, .bf16⟩
  | .local _ .vmem, ⟨7, _⟩ => ⟨S512x512, .bf16⟩
  | .local _ .vmem, ⟨8, _⟩ => ⟨S512x512, .bf16⟩
  | .local _ .vmem, ⟨9, _⟩ => ⟨S4x128x256, .f32⟩
  | .local _ .vmem, ⟨10, _⟩ => ⟨S528x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_c_10 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109_0 : Ref sig .tc := ⟨.hbm, 126, rfl⟩
abbrev main_v109_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PoolBwdRefIdeal.lean ====
abbrev S8192x1024 : Shape := ⟨2, ![8192, 1024]⟩
abbrev S8192x512 : Shape := ⟨2, ![8192, 512]⟩
abbrev S4x128x256 : Shape := ⟨3, ![4, 128, 256]⟩
abbrev S8192x6912 : Shape := ⟨2, ![8192, 6912]⟩
abbrev S8192 : Shape := ⟨1, ![8192]⟩
abbrev S_ : Shape := ⟨0, ![]⟩
abbrev S8192x128 : Shape := ⟨2, ![8192, 128]⟩
abbrev S2x128 : Shape := ⟨2, ![2, 128]⟩
abbrev S8194x128 : Shape := ⟨2, ![8194, 128]⟩
abbrev S8192x1 : Shape := ⟨2, ![8192, 1]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S1x128x256 : Shape := ⟨3, ![1, 128, 256]⟩
abbrev S128x256 : Shape := ⟨2, ![128, 256]⟩
abbrev S8192x256 : Shape := ⟨2, ![8192, 256]⟩
abbrev S256x128 : Shape := ⟨2, ![256, 128]⟩
abbrev S8192x6144 : Shape := ⟨2, ![8192, 6144]⟩

abbrev nBuf : Space → Nat
  | .hbm => 303
  | .vmem => 0
  | .smem => 0
  | _ => 0

abbrev hbmTy0_0 (i : Nat) : BufTy := match i % 128 with
  | 0 => ⟨S8192x1024, .bf16⟩
  | 1 => ⟨S8192x512, .f32⟩
  | 2 => ⟨S4x128x256, .bf16⟩
  | 3 => ⟨S8192x6912, .bf16⟩
  | 4 => ⟨S4x128x256, .f32⟩
  | 5 => ⟨S8192, .i32⟩
  | 6 => ⟨S_, .i32⟩
  | 7 => ⟨S8192, .i32⟩
  | 8 => ⟨S8192, .i32⟩
  | 9 => ⟨S8192x128, .f32⟩
  | 10 => ⟨S_, .f32⟩
  | 11 => ⟨S2x128, .f32⟩
  | 12 => ⟨S8194x128, .f32⟩
  | 13 => ⟨S_, .f32⟩
  | 14 => ⟨S2x128, .f32⟩
  | 15 => ⟨S8192x128, .f32⟩
  | 16 => ⟨S_, .f32⟩
  | 17 => ⟨S8192x128, .f32⟩
  | 18 => ⟨S8192x128, .f32⟩
  | 19 => ⟨S8192x128, .f32⟩
  | 20 => ⟨S8192x128, .f32⟩
  | 21 => ⟨S_, .i32⟩
  | 22 => ⟨S8192, .i32⟩
  | 23 => ⟨S8192, .i32⟩
  | 24 => ⟨S8192, .f32⟩
  | 25 => ⟨S8192x1, .f32⟩
  | 26 => ⟨S8192x128, .f32⟩
  | 27 => ⟨S8192x128, .f32⟩
  | 28 => ⟨S8192x128, .f32⟩
  | 29 => ⟨S8192x128, .f32⟩
  | 30 => ⟨S_, .f32⟩
  | 31 => ⟨S4x128, .f32⟩
  | 32 => ⟨S8196x128, .f32⟩
  | 33 => ⟨S_, .f32⟩
  | 34 => ⟨S4x128, .f32⟩
  | 35 => ⟨S8192x128, .f32⟩
  | 36 => ⟨S_, .f32⟩
  | 37 => ⟨S8192x128, .f32⟩
  | 38 => ⟨S8192x128, .f32⟩
  | 39 => ⟨S8192x128, .f32⟩
  | 40 => ⟨S8192x128, .f32⟩
  | 41 => ⟨S8192x128, .f32⟩
  | 42 => ⟨S8192x128, .f32⟩
  | 43 => ⟨S8192x128, .f32⟩
  | 44 => ⟨S8192x128, .f32⟩
  | 45 => ⟨S_, .i32⟩
  | 46 => ⟨S8192, .i32⟩
  | 47 => ⟨S8192, .i32⟩
  | 48 => ⟨S8192, .f32⟩
  | 49 => ⟨S8192x1, .f32⟩
  | 50 => ⟨S8192x128, .f32⟩
  | 51 => ⟨S8192x128, .f32⟩
  | 52 => ⟨S8192x128, .f32⟩
  | 53 => ⟨S8192x128, .f32⟩
  | 54 => ⟨S_, .f32⟩
  | 55 => ⟨S8x128, .f32⟩
  | 56 => ⟨S8200x128, .f32⟩
  | 57 => ⟨S_, .f32⟩
  | 58 => ⟨S8x128, .f32⟩
  | 59 => ⟨S8192x128, .f32⟩
  | 60 => ⟨S_, .f32⟩
  | 61 => ⟨S8192x128, .f32⟩
  | 62 => ⟨S8192x128, .f32⟩
  | 63 => ⟨S8192x128, .f32⟩
  | 64 => ⟨S8192x128, .f32⟩
  | 65 => ⟨S8192x128, .f32⟩
  | 66 => ⟨S8192x128, .f32⟩
  | 67 => ⟨S8192x128, .f32⟩
  | 68 => ⟨S8192x128, .f32⟩
  | 69 => ⟨S8192x128, .f32⟩
  | 70 => ⟨S8192x128, .f32⟩
  | 71 => ⟨S8192x128, .f32⟩
  | 72 => ⟨S8192x128, .f32⟩
  | 73 => ⟨S8192x128, .f32⟩
  | 74 => ⟨S8192x128, .f32⟩
  | 75 => ⟨S8192x128, .f32⟩
  | 76 => ⟨S8192x128, .f32⟩
  | 77 => ⟨S_, .i32⟩
  | 78 => ⟨S8192, .i32⟩
  | 79 => ⟨S8192, .i32⟩
  | 80 => ⟨S8192, .f32⟩
  | 81 => ⟨S8192x1, .f32⟩
  | 82 => ⟨S8192x128, .f32⟩
  | 83 => ⟨S8192x128, .f32⟩
  | 84 => ⟨S8192x128, .f32⟩
  | 85 => ⟨S8192x128, .f32⟩
  | 86 => ⟨S_, .f32⟩
  | 87 => ⟨S16x128, .f32⟩
  | 88 => ⟨S8208x128, .f32⟩
  | 89 => ⟨S_, .f32⟩
  | 90 => ⟨S16x128, .f32⟩
  | 91 => ⟨S8192x128, .f32⟩
  | 92 => ⟨S_, .f32⟩
  | 93 => ⟨S8192x128, .f32⟩
  | 94 => ⟨S8192x128, .f32⟩
  | 95 => ⟨S8192x128, .f32⟩
  | 96 => ⟨S8192x128, .f32⟩
  | 97 => ⟨S8192x128, .f32⟩
  | 98 => ⟨S8192x128, .f32⟩
  | 99 => ⟨S8192x128, .f32⟩
  | 100 => ⟨S8192x128, .f32⟩
  | 101 => ⟨S8192x128, .f32⟩
  | 102 => ⟨S8192x128, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S8192x128, .f32⟩
  | 109 => ⟨S8192x128, .f32⟩
  | 110 => ⟨S8192x128, .f32⟩
  | 111 => ⟨S8192x128, .f32⟩
  | 112 => ⟨S8192x128, .f32⟩
  | 113 => ⟨S8192x128, .f32⟩
  | 114 => ⟨S8192x128, .f32⟩
  | 115 => ⟨S8192x128, .f32⟩
  | 116 => ⟨S8192x128, .f32⟩
  | 117 => ⟨S8192x128, .f32⟩
  | 118 => ⟨S8192x128, .f32⟩
  | 119 => ⟨S8192x128, .f32⟩
  | 120 => ⟨S8192x128, .f32⟩
  | 121 => ⟨S8192x128, .f32⟩
  | 122 => ⟨S8192x128, .f32⟩
  | 123 => ⟨S8192x128, .f32⟩
  | 124 => ⟨S8192x128, .f32⟩
  | 125 => ⟨S_, .i32⟩
  | 126 => ⟨S8192, .i32⟩
  | 127 => ⟨S8192, .i32⟩
  | _ => ⟨S8192x1024, .bf16⟩

abbrev hbmTy0_1 (i : Nat) : BufTy := match i % 128 with
  | 0 => ⟨S8192, .f32⟩
  | 1 => ⟨S8192x1, .f32⟩
  | 2 => ⟨S8192x128, .f32⟩
  | 3 => ⟨S8192x128, .f32⟩
  | 4 => ⟨S8192x128, .f32⟩
  | 5 => ⟨S1x128x256, .f32⟩
  | 6 => ⟨S128x256, .f32⟩
  | 7 => ⟨S8192x256, .f32⟩
  | 8 => ⟨S1x128x256, .f32⟩
  | 9 => ⟨S128x256, .f32⟩
  | 10 => ⟨S8192x256, .f32⟩
  | 11 => ⟨S1x128x256, .f32⟩
  | 12 => ⟨S128x256, .f32⟩
  | 13 => ⟨S8192x256, .f32⟩
  | 14 => ⟨S1x128x256, .f32⟩
  | 15 => ⟨S128x256, .f32⟩
  | 16 => ⟨S8192x256, .f32⟩
  | 17 => ⟨S8192x1024, .f32⟩
  | 18 => ⟨S8192x1024, .f32⟩
  | 19 => ⟨S8192x256, .f32⟩
  | 20 => ⟨S8192x256, .f32⟩
  | 21 => ⟨S8192x256, .f32⟩
  | 22 => ⟨S8192x256, .f32⟩
  | 23 => ⟨S256x128, .f32⟩
  | 24 => ⟨S128x256, .f32⟩
  | 25 => ⟨S8192x128, .f32⟩
  | 26 => ⟨S1x128x256, .f32⟩
  | 27 => ⟨S_, .f32⟩
  | 28 => ⟨S4x128x256, .f32⟩
  | 29 => ⟨S256x128, .f32⟩
  | 30 => ⟨S128x256, .f32⟩
  | 31 => ⟨S8192x128, .f32⟩
  | 32 => ⟨S1x128x256, .f32⟩
  | 33 => ⟨S_, .f32⟩
  | 34 => ⟨S4x128x256, .f32⟩
  | 35 => ⟨S4x128x256, .f32⟩
  | 36 => ⟨S256x128, .f32⟩
  | 37 => ⟨S128x256, .f32⟩
  | 38 => ⟨S8192x128, .f32⟩
  | 39 => ⟨S1x128x256, .f32⟩
  | 40 => ⟨S_, .f32⟩
  | 41 => ⟨S4x128x256, .f32⟩
  | 42 => ⟨S4x128x256, .f32⟩
  | 43 => ⟨S256x128, .f32⟩
  | 44 => ⟨S128x256, .f32⟩
  | 45 => ⟨S8192x128, .f32⟩
  | 46 => ⟨S1x128x256, .f32⟩
  | 47 => ⟨S_, .f32⟩
  | 48 => ⟨S4x128x256, .f32⟩
  | 49 => ⟨S4x128x256, .f32⟩
  | 50 => ⟨S8192x128, .f32⟩
  | 51 => ⟨S8192x128, .f32⟩
  | 52 => ⟨S8192x128, .f32⟩
  | 53 => ⟨S_, .f32⟩
  | 54 => ⟨S8208x128, .f32⟩
  | 55 => ⟨S_, .f32⟩
  | 56 => ⟨S8208x128, .f32⟩
  | 57 => ⟨S8208x128, .f32⟩
  | 58 => ⟨S_, .f32⟩
  | 59 => ⟨S8208x128, .f32⟩
  | 60 => ⟨S8208x128, .f32⟩
  | 61 => ⟨S_, .f32⟩
  | 62 => ⟨S8208x128, .f32⟩
  | 63 => ⟨S8208x128, .f32⟩
  | 64 => ⟨S_, .f32⟩
  | 65 => ⟨S8208x128, .f32⟩
  | 66 => ⟨S8208x128, .f32⟩
  | 67 => ⟨S_, .f32⟩
  | 68 => ⟨S8208x128, .f32⟩
  | 69 => ⟨S8208x128, .f32⟩
  | 70 => ⟨S_, .f32⟩
  | 71 => ⟨S8208x128, .f32⟩
  | 72 => ⟨S8208x128, .f32⟩
  | 73 => ⟨S_, .f32⟩
  | 74 => ⟨S8208x128, .f32⟩
  | 75 => ⟨S8208x128, .f32⟩
  | 76 => ⟨S_, .f32⟩
  | 77 => ⟨S8208x128, .f32⟩
  | 78 => ⟨S8208x128, .f32⟩
  | 79 => ⟨S_, .f32⟩
  | 80 => ⟨S8208x128, .f32⟩
  | 81 => ⟨S8208x128, .f32⟩
  | 82 => ⟨S_, .f32⟩
  | 83 => ⟨S8208x128, .f32⟩
  | 84 => ⟨S8208x128, .f32⟩
  | 85 => ⟨S_, .f32⟩
  | 86 => ⟨S8208x128, .f32⟩
  | 87 => ⟨S8208x128, .f32⟩
  | 88 => ⟨S_, .f32⟩
  | 89 => ⟨S8208x128, .f32⟩
  | 90 => ⟨S8208x128, .f32⟩
  | 91 => ⟨S_, .f32⟩
  | 92 => ⟨S8208x128, .f32⟩
  | 93 => ⟨S8208x128, .f32⟩
  | 94 => ⟨S_, .f32⟩
  | 95 => ⟨S8208x128, .f32⟩
  | 96 => ⟨S8208x128, .f32⟩
  | 97 => ⟨S_, .f32⟩
  | 98 => ⟨S8208x128, .f32⟩
  | 99 => ⟨S8208x128, .f32⟩
  | 100 => ⟨S16x128, .f32⟩
  | 101 => ⟨S8192x128, .f32⟩
  | 102 => ⟨S8192x128, .f32⟩
  | 103 => ⟨S_, .f32⟩
  | 104 => ⟨S8192x512, .f32⟩
  | 105 => ⟨S8192x128, .f32⟩
  | 106 => ⟨S8192x128, .f32⟩
  | 107 => ⟨S8192x128, .f32⟩
  | 108 => ⟨S_, .f32⟩
  | 109 => ⟨S8200x128, .f32⟩
  | 110 => ⟨S_, .f32⟩
  | 111 => ⟨S8200x128, .f32⟩
  | 112 => ⟨S8200x128, .f32⟩
  | 113 => ⟨S_, .f32⟩
  | 114 => ⟨S8200x128, .f32⟩
  | 115 => ⟨S8200x128, .f32⟩
  | 116 => ⟨S_, .f32⟩
  | 117 => ⟨S8200x128, .f32⟩
  | 118 => ⟨S8200x128, .f32⟩
  | 119 => ⟨S_, .f32⟩
  | 120 => ⟨S8200x128, .f32⟩
  | 121 => ⟨S8200x128, .f32⟩
  | 122 => ⟨S_, .f32⟩
  | 123 => ⟨S8200x128, .f32⟩
  | 124 => ⟨S8200x128, .f32⟩
  | 125 => ⟨S_, .f32⟩
  | 126 => ⟨S8200x128, .f32⟩
  | 127 => ⟨S8200x128, .f32⟩
  | _ => ⟨S8192x1024, .bf16⟩

abbrev hbmTy0_2 (i : Nat) : BufTy := match i % 128 with
  | 0 => ⟨S_, .f32⟩
  | 1 => ⟨S8200x128, .f32⟩
  | 2 => ⟨S8200x128, .f32⟩
  | 3 => ⟨S8x128, .f32⟩
  | 4 => ⟨S8192x128, .f32⟩
  | 5 => ⟨S8192x128, .f32⟩
  | 6 => ⟨S_, .f32⟩
  | 7 => ⟨S8192x512, .f32⟩
  | 8 => ⟨S8192x512, .f32⟩
  | 9 => ⟨S8192x128, .f32⟩
  | 10 => ⟨S8192x128, .f32⟩
  | 11 => ⟨S8192x128, .f32⟩
  | 12 => ⟨S_, .f32⟩
  | 13 => ⟨S8196x128, .f32⟩
  | 14 => ⟨S_, .f32⟩
  | 15 => ⟨S8196x128, .f32⟩
  | 16 => ⟨S8196x128, .f32⟩
  | 17 => ⟨S_, .f32⟩
  | 18 => ⟨S8196x128, .f32⟩
  | 19 => ⟨S8196x128, .f32⟩
  | 20 => ⟨S_, .f32⟩
  | 21 => ⟨S8196x128, .f32⟩
  | 22 => ⟨S8196x128, .f32⟩
  | 23 => ⟨S4x128, .f32⟩
  | 24 => ⟨S8192x128, .f32⟩
  | 25 => ⟨S8192x128, .f32⟩
  | 26 => ⟨S_, .f32⟩
  | 27 => ⟨S8192x512, .f32⟩
  | 28 => ⟨S8192x512, .f32⟩
  | 29 => ⟨S8192x128, .f32⟩
  | 30 => ⟨S8192x128, .f32⟩
  | 31 => ⟨S8192x128, .f32⟩
  | 32 => ⟨S_, .f32⟩
  | 33 => ⟨S8194x128, .f32⟩
  | 34 => ⟨S_, .f32⟩
  | 35 => ⟨S8194x128, .f32⟩
  | 36 => ⟨S8194x128, .f32⟩
  | 37 => ⟨S2x128, .f32⟩
  | 38 => ⟨S8192x128, .f32⟩
  | 39 => ⟨S8192x128, .f32⟩
  | 40 => ⟨S_, .f32⟩
  | 41 => ⟨S8192x512, .f32⟩
  | 42 => ⟨S8192x512, .f32⟩
  | 43 => ⟨S8192x6144, .bf16⟩
  | 44 => ⟨S8192x512, .bf16⟩
  | 45 => ⟨S8192x256, .bf16⟩
  | 46 => ⟨S8192x6912, .bf16⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_10 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_c_14 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_cst_15 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_16 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_cst_17 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_cst_18 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_cst_19 : Ref sig .tc := ⟨.hbm, 181, rfl⟩
abbrev main_v156 : Ref sig .tc := ⟨.hbm, 182, rfl⟩
abbrev main_cst_20 : Ref sig .tc := ⟨.hbm, 183, rfl⟩
abbrev main_v157 : Ref sig .tc := ⟨.hbm, 184, rfl⟩
abbrev main_v158 : Ref sig .tc := ⟨.hbm, 185, rfl⟩
abbrev main_cst_21 : Ref sig .tc := ⟨.hbm, 186, rfl⟩
abbrev main_v159 : Ref sig .tc := ⟨.hbm, 187, rfl⟩
abbrev main_v160 : Ref sig .tc := ⟨.hbm, 188, rfl⟩
abbrev main_cst_22 : Ref sig .tc := ⟨.hbm, 189, rfl⟩
abbrev main_v161 : Ref sig .tc := ⟨.hbm, 190, rfl⟩
abbrev main_v162 : Ref sig .tc := ⟨.hbm, 191, rfl⟩
abbrev main_cst_23 : Ref sig .tc := ⟨.hbm, 192, rfl⟩
abbrev main_v163 : Ref sig .tc := ⟨.hbm, 193, rfl⟩
abbrev main_v164 : Ref sig .tc := ⟨.hbm, 194, rfl⟩
abbrev main_cst_24 : Ref sig .tc := ⟨.hbm, 195, rfl⟩
abbrev main_v165 : Ref sig .tc := ⟨.hbm, 196, rfl⟩
abbrev main_v166 : Ref sig .tc := ⟨.hbm, 197, rfl⟩
abbrev main_cst_25 : Ref sig .tc := ⟨.hbm, 198, rfl⟩
abbrev main_v167 : Ref sig .tc := ⟨.hbm, 199, rfl⟩
abbrev main_v168 : Ref sig .tc := ⟨.hbm, 200, rfl⟩
abbrev main_cst_26 : Ref sig .tc := ⟨.hbm, 201, rfl⟩
abbrev main_v169 : Ref sig .tc := ⟨.hbm, 202, rfl⟩
abbrev main_v170 : Ref sig .tc := ⟨.hbm, 203, rfl⟩
abbrev main_cst_27 : Ref sig .tc := ⟨.hbm, 204, rfl⟩
abbrev main_v171 : Ref sig .tc := ⟨.hbm, 205, rfl⟩
abbrev main_v172 : Ref sig .tc := ⟨.hbm, 206, rfl⟩
abbrev main_cst_28 : Ref sig .tc := ⟨.hbm, 207, rfl⟩
abbrev main_v173 : Ref sig .tc := ⟨.hbm, 208, rfl⟩
abbrev main_v174 : Ref sig .tc := ⟨.hbm, 209, rfl⟩
abbrev main_cst_29 : Ref sig .tc := ⟨.hbm, 210, rfl⟩
abbrev main_v175 : Ref sig .tc := ⟨.hbm, 211, rfl⟩
abbrev main_v176 : Ref sig .tc := ⟨.hbm, 212, rfl⟩
abbrev main_cst_30 : Ref sig .tc := ⟨.hbm, 213, rfl⟩
abbrev main_v177 : Ref sig .tc := ⟨.hbm, 214, rfl⟩
abbrev main_v178 : Ref sig .tc := ⟨.hbm, 215, rfl⟩
abbrev main_cst_31 : Ref sig .tc := ⟨.hbm, 216, rfl⟩
abbrev main_v179 : Ref sig .tc := ⟨.hbm, 217, rfl⟩
abbrev main_v180 : Ref sig .tc := ⟨.hbm, 218, rfl⟩
abbrev main_cst_32 : Ref sig .tc := ⟨.hbm, 219, rfl⟩
abbrev main_v181 : Ref sig .tc := ⟨.hbm, 220, rfl⟩
abbrev main_v182 : Ref sig .tc := ⟨.hbm, 221, rfl⟩
abbrev main_cst_33 : Ref sig .tc := ⟨.hbm, 222, rfl⟩
abbrev main_v183 : Ref sig .tc := ⟨.hbm, 223, rfl⟩
abbrev main_v184 : Ref sig .tc := ⟨.hbm, 224, rfl⟩
abbrev main_cst_34 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_35 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_cst_36 : Ref sig .tc := ⟨.hbm, 236, rfl⟩
abbrev main_v194 : Ref sig .tc := ⟨.hbm, 237, rfl⟩
abbrev main_cst_37 : Ref sig .tc := ⟨.hbm, 238, rfl⟩
abbrev main_v195 : Ref sig .tc := ⟨.hbm, 239, rfl⟩
abbrev main_v196 : Ref sig .tc := ⟨.hbm, 240, rfl⟩
abbrev main_cst_38 : Ref sig .tc := ⟨.hbm, 241, rfl⟩
abbrev main_v197 : Ref sig .tc := ⟨.hbm, 242, rfl⟩
abbrev main_v198 : Ref sig .tc := ⟨.hbm, 243, rfl⟩
abbrev main_cst_39 : Ref sig .tc := ⟨.hbm, 244, rfl⟩
abbrev main_v199 : Ref sig .tc := ⟨.hbm, 245, rfl⟩
abbrev main_v200 : Ref sig .tc := ⟨.hbm, 246, rfl⟩
abbrev main_cst_40 : Ref sig .tc := ⟨.hbm, 247, rfl⟩
abbrev main_v201 : Ref sig .tc := ⟨.hbm, 248, rfl⟩
abbrev main_v202 : Ref sig .tc := ⟨.hbm, 249, rfl⟩
abbrev main_cst_41 : Ref sig .tc := ⟨.hbm, 250, rfl⟩
abbrev main_v203 : Ref sig .tc := ⟨.hbm, 251, rfl⟩
abbrev main_v204 : Ref sig .tc := ⟨.hbm, 252, rfl⟩
abbrev main_cst_42 : Ref sig .tc := ⟨.hbm, 253, rfl⟩
abbrev main_v205 : Ref sig .tc := ⟨.hbm, 254, rfl⟩
abbrev main_v206 : Ref sig .tc := ⟨.hbm, 255, rfl⟩
abbrev main_cst_43 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_cst_44 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_cst_45 : Ref sig .tc := ⟨.hbm, 268, rfl⟩
abbrev main_v217 : Ref sig .tc := ⟨.hbm, 269, rfl⟩
abbrev main_cst_46 : Ref sig .tc := ⟨.hbm, 270, rfl⟩
abbrev main_v218 : Ref sig .tc := ⟨.hbm, 271, rfl⟩
abbrev main_v219 : Ref sig .tc := ⟨.hbm, 272, rfl⟩
abbrev main_cst_47 : Ref sig .tc := ⟨.hbm, 273, rfl⟩
abbrev main_v220 : Ref sig .tc := ⟨.hbm, 274, rfl⟩
abbrev main_v221 : Ref sig .tc := ⟨.hbm, 275, rfl⟩
abbrev main_cst_48 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_cst_49 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_cst_50 : Ref sig .tc := ⟨.hbm, 288, rfl⟩
abbrev main_v232 : Ref sig .tc := ⟨.hbm, 289, rfl⟩
abbrev main_cst_51 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_cst_52 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩

abbrev nD : Nat := 1
abbrev τ : Topo := Topo.v7x

variable {F : FTy → Type} [FloatOps F]
-- ==== ConvBwd.lean ====
abbrev S8192x3072 : Shape := ⟨2, ![8192, 3072]⟩
abbrev S8192x3840 : Shape := ⟨2, ![8192, 3840]⟩
abbrev S4x3072 : Shape := ⟨2, ![4, 3072]⟩
abbrev S8192x6912 : Shape := ⟨2, ![8192, 6912]⟩
abbrev S8x3072 : Shape := ⟨2, ![8, 3072]⟩
abbrev S512x512 : Shape := ⟨2, ![512, 512]⟩
abbrev S8x512 : Shape := ⟨2, ![8, 512]⟩
abbrev S16x512 : Shape := ⟨2, ![16, 512]⟩
abbrev S4x512 : Shape := ⟨2, ![4, 512]⟩
abbrev S520x512 : Shape := ⟨2, ![520, 512]⟩
abbrev S1x512 : Shape := ⟨2, ![1, 512]⟩
abbrev S32x512 : Shape := ⟨2, ![32, 512]⟩
abbrev S512 : Shape := ⟨1, ![512]⟩

abbrev nBuf : Space → Nat
  | .hbm => 7
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S8192x3072, .bf16⟩
  | .hbm, ⟨2, _⟩ => ⟨S8192x3840, .f32⟩
  | .hbm, ⟨3, _⟩ => ⟨S4x3072, .f32⟩
  | .hbm, ⟨4, _⟩ => ⟨S8192x6912, .bf16⟩
  | .hbm, ⟨5, _⟩ => ⟨S8192x6912, .bf16⟩
  | .hbm, ⟨6, _⟩ => ⟨S8x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S4x512, .f32⟩
  | .local _ .vmem, ⟨13, _⟩ => ⟨S4x512, .f32⟩
  | .local _ .vmem, ⟨14, _⟩ => ⟨S512x512, .bf16⟩
  | .local _ .vmem, ⟨15, _⟩ => ⟨S512x512, .bf16⟩
  | .local _ .vmem, ⟨16, _⟩ => ⟨S8x512, .f32⟩
  | .local _ .vmem, ⟨17, _⟩ => ⟨S8x512, .f32⟩
  | .local _ .vmem, ⟨18, _⟩ => ⟨S520x512, .f32⟩
  | .local _ .vmem, ⟨19, _⟩ => ⟨S520x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvBwdRefIdeal.lean ====
abbrev S8192x3072 : Shape := ⟨2, ![8192, 3072]⟩
abbrev S8192x3840 : Shape := ⟨2, ![8192, 3840]⟩
abbrev S4x3072 : Shape := ⟨2, ![4, 3072]⟩
abbrev S8192x6912 : Shape := ⟨2, ![8192, 6912]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8x3072 : Shape := ⟨2, ![8, 3072]⟩

abbrev nBuf : Space → Nat
  | .hbm => 109
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .bf16⟩
  | .hbm, ⟨2, _⟩ => ⟨S8192x3840, .f32⟩
  | .hbm, ⟨3, _⟩ => ⟨S4x3072, .f32⟩
  | .hbm, ⟨4, _⟩ => ⟨S8192x6912, .bf16⟩
  | .hbm, ⟨5, _⟩ => ⟨S8192x3072, .f32⟩
  | .hbm, ⟨6, _⟩ => ⟨S_, .f32⟩
  | .hbm, ⟨7, _⟩ => ⟨S3x3072, .f32⟩
  | .hbm, ⟨8, _⟩ => ⟨S8195x3072, .f32⟩
  | .hbm, ⟨9, _⟩ => ⟨S_, .f32⟩
  | .hbm, ⟨10, _⟩ => ⟨S3x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S1x3072, .f32⟩
  | .hbm, ⟨35, _⟩ => ⟨S3072, .f32⟩
  | .hbm, ⟨36, _⟩ => ⟨S1x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S_, .f32⟩
  | .hbm, ⟨47, _⟩ => ⟨S3072, .f32⟩
  | .hbm, ⟨48, _⟩ => ⟨S1x3072, .f32⟩
  | .hbm, ⟨49, _⟩ => ⟨S_, .f32⟩
  | .hbm, ⟨50, _⟩ => ⟨S8195x3072, .f32⟩
  | .hbm, ⟨51, _⟩ => ⟨S_, .f32⟩
  | .hbm, ⟨52, _⟩ => ⟨S3072, .f32⟩
  | .hbm, ⟨53, _⟩ => ⟨S1x3072, .f32⟩
  | .hbm, ⟨54, _⟩ => ⟨S_, .f32⟩
  | .hbm, ⟨55, _⟩ => ⟨S4x3072, .f32⟩
  | .hbm, ⟨56, _⟩ => ⟨S8192x3072, .f32⟩
  | .hbm, ⟨57, _⟩ => ⟨S8192x3072, .f32⟩
  | .hbm, ⟨58, _⟩ => ⟨S8192x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S_, .f32⟩
  | .hbm, ⟨63, _⟩ => ⟨S8195x3072, .f32⟩
  | .hbm, ⟨64, _⟩ => ⟨S8195x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S4x3072, .f32⟩
  | .hbm, ⟨70, _⟩ => ⟨S4x3072, .f32⟩
  | .hbm, ⟨71, _⟩ => ⟨S8192x3072, .f32⟩
  | .hbm, ⟨72, _⟩ => ⟨S8192x3072, .f32⟩
  | .hbm, ⟨73, _⟩ => ⟨S8192x3072, .f32⟩
  | .hbm, ⟨74, _⟩ => ⟨S_, .f32⟩
  | .hbm, ⟨75, _⟩ => ⟨S3072, .f32⟩
  | .hbm, ⟨76, _⟩ => ⟨S1x3072, .f32⟩
  | .hbm, ⟨77, _⟩ => ⟨S_, .f32⟩
  | .hbm, ⟨78, _⟩ => ⟨S8195x3072, .f32⟩
  | .hbm, ⟨79, _⟩ => ⟨S8195x3072, .f32⟩
  | .hbm, ⟨80, _⟩ => ⟨S_, .f32⟩
  | .hbm, ⟨81, _⟩ => ⟨S3072, .f32⟩
  | .hbm, ⟨82, _⟩ => ⟨S1x3072, .f32⟩
  | .hbm, ⟨83, _⟩ => ⟨S_, .f32⟩
  | .hbm, ⟨84, _⟩ => ⟨S4x3072, .f32⟩
  | .hbm, ⟨85, _⟩ => ⟨S4x3072, .f32⟩
  | .hbm, ⟨86, _⟩ => ⟨S8192x3072, .f32⟩
  | .hbm, ⟨87, _⟩ => ⟨S8192x3072, .f32⟩
  | .hbm, ⟨88, _⟩ => ⟨S8192x3072, .f32⟩
  | .hbm, ⟨89, _⟩ => ⟨S_, .f32⟩
  | .hbm, ⟨90, _⟩ => ⟨S3072, .f32⟩
  | .hbm, ⟨91, _⟩ => ⟨S1x3072, .f32⟩
  | .hbm, ⟨92, _⟩ => ⟨S_, .f32⟩
  | .hbm, ⟨93, _⟩ => ⟨S8195x3072, .f32⟩
  | .hbm, ⟨94, _⟩ => ⟨S8195x3072, .f32⟩
  | .hbm, ⟨95, _⟩ => ⟨S_, .f32⟩
  | .hbm, ⟨96, _⟩ => ⟨S3072, .f32⟩
  | .hbm, ⟨97, _⟩ => ⟨S1x3072, .f32⟩
  | .hbm, ⟨98, _⟩ => ⟨S_, .f32⟩
  | .hbm, ⟨99, _⟩ => ⟨S4x3072, .f32⟩
  | .hbm, ⟨100, _⟩ => ⟨S4x3072, .f32⟩
  | .hbm, ⟨101, _⟩ => ⟨S3x3072, .f32⟩
  | .hbm, ⟨102, _⟩ => ⟨S8192x3072, .f32⟩
  | .hbm, ⟨103, _⟩ => ⟨S8192x3072, .bf16⟩
  | .hbm, ⟨104, _⟩ => ⟨S8192x3840, .bf16⟩
  | .hbm, ⟨105, _⟩ => ⟨S8192x6912, .bf16⟩
  | .hbm, ⟨106, _⟩ => ⟨S_, .f32⟩
  | .hbm, ⟨107, _⟩ => ⟨S4x3072, .f32⟩
  | .hbm, ⟨108, _⟩ => ⟨S8x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_cst_15 : Ref sig .tc := ⟨.hbm, 92, rfl⟩
abbrev main_v71 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== LnIn.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8x128, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S256x1024, .f32⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamUp.lean ====
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024x1024, .f32⟩
  | .hbm, ⟨3, _⟩ => ⟨S1x1024x1024, .f32⟩
  | .hbm, ⟨4, _⟩ => ⟨S1x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024x1024, .f32⟩
  | .hbm, ⟨3, _⟩ => ⟨S1x1024x1024, .f32⟩
  | .hbm, ⟨4, _⟩ => ⟨S1x1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S_, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamProj.lean ====
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S256x256, .f32⟩
  | .hbm, ⟨3, _⟩ => ⟨S1x256x256, .f32⟩
  | .hbm, ⟨4, _⟩ => ⟨S1x256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S1x128x256, .f32⟩
  | .local _ .vmem, ⟨1, _⟩ => ⟨S1x128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamProjRefIdeal.lean ====
abbrev S1x256x256 : Shape := ⟨3, ![1, 256, 256]⟩
abbrev S256x256 : Shape := ⟨2, ![256, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S256x256, .f32⟩
  | .hbm, ⟨3, _⟩ => ⟨S1x256x256, .f32⟩
  | .hbm, ⟨4, _⟩ => ⟨S1x256x256, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamIn.lean ====
abbrev S1x1024x1668 : Shape := ⟨3, ![1, 1024, 1668]⟩
abbrev S512x1668 : Shape := ⟨2, ![512, 1668]⟩
abbrev S1024x1668 : Shape := ⟨2, ![1024, 1668]⟩
abbrev S1x256x1668 : Shape := ⟨3, ![1, 256, 1668]⟩
abbrev S256x1668 : Shape := ⟨2, ![256, 1668]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x1668, .f32⟩
  | .hbm, ⟨1, _⟩ => ⟨S512x1668, .f32⟩
  | .hbm, ⟨2, _⟩ => ⟨S512x1668, .f32⟩
  | .hbm, ⟨3, _⟩ => ⟨S1x1024x1668, .f32⟩
  | .hbm, ⟨4, _⟩ => ⟨S1x1024x1668, .f32⟩
  | .hbm, ⟨5, _⟩ => ⟨S1024x1668, .f32⟩
  | .hbm, ⟨6, _⟩ => ⟨S1024x1668, .f32⟩
  | .hbm, ⟨7, _⟩ => ⟨S1024x1668, .f32⟩
  | .hbm, ⟨8, _⟩ => ⟨S1024x1668, .f32⟩
  | .local _ .vmem, ⟨0, _⟩ => ⟨S1x256x1668, .f32⟩
  | .local _ .vmem, ⟨1, _⟩ => ⟨S1x256x1668, .f32⟩
  | .local _ .vmem, ⟨2, _⟩ => ⟨S256x1668, .f32⟩
  | .local _ .vmem, ⟨3, _⟩ => ⟨S256x1668, .f32⟩
  | .local _ .vmem, ⟨4, _⟩ => ⟨S256x1668, .f32⟩
  | .local _ .vmem, ⟨5, _⟩ => ⟨S256x1668, .f32⟩
  | .local _ .vmem, ⟨6, _⟩ => ⟨S1x256x1668, .f32⟩
  | .local _ .vmem, ⟨7, _⟩ => ⟨S1x256x1668, .f32⟩
  | .local _ .vmem, ⟨8, _⟩ => ⟨S1x256x1668, .f32⟩
  | .local _ .vmem, ⟨9, _⟩ => ⟨S1x256x1668, .f32⟩
  | .local _ .vmem, ⟨10, _⟩ => ⟨S256x1668, .f32⟩
  | .local _ .vmem, ⟨11, _⟩ => ⟨S256x1668, .f32⟩
  | .local _ .vmem, ⟨12, _⟩ => ⟨S256x1668, .f32⟩
  | .local _ .vmem, ⟨13, _⟩ => ⟨S256x1668, .f32⟩
  | .local _ .vmem, ⟨14, _⟩ => ⟨S256x1668, .f32⟩
  | .local _ .vmem, ⟨15, _⟩ => ⟨S256x1668, .f32⟩
  | .local _ .vmem, ⟨16, _⟩ => ⟨S256x1668, .f32⟩
  | .local _ .vmem, ⟨17, _⟩ => ⟨S256x1668, .f32⟩
  | _, _ => ⟨S1x1024x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 2
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1668 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1668 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1x1024x1668 : Shape := ⟨3, ![1, 1024, 1668]⟩
abbrev S1024x1668 : Shape := ⟨2, ![1024, 1668]⟩
abbrev S512x1668 : Shape := ⟨2, ![512, 1668]⟩
abbrev S2048x1668 : Shape := ⟨2, ![2048, 1668]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x1668, .f32⟩
  | .hbm, ⟨1, _⟩ => ⟨S1024x1668, .f32⟩
  | .hbm, ⟨2, _⟩ => ⟨S1024x1668, .f32⟩
  | .hbm, ⟨3, _⟩ => ⟨S1x1024x1668, .f32⟩
  | .hbm, ⟨4, _⟩ => ⟨S1x1024x1668, .f32⟩
  | .hbm, ⟨5, _⟩ => ⟨S512x1668, .f32⟩
  | .hbm, ⟨6, _⟩ => ⟨S512x1668, .f32⟩
  | .hbm, ⟨7, _⟩ => ⟨S512x1668, .f32⟩
  | .hbm, ⟨8, _⟩ => ⟨S512x1668, .f32⟩
  | .hbm, ⟨9, _⟩ => ⟨S2048x1668, .f32⟩
  | .hbm, ⟨10, _⟩ => ⟨S1024x1668, .f32⟩
  | .hbm, ⟨11, _⟩ => ⟨S2048x1668, .f32⟩
  | .hbm, ⟨12, _⟩ => ⟨S_, .f32⟩
  | .hbm, ⟨13, _⟩ => ⟨S2048x1668, .f32⟩
  | .hbm, ⟨14, _⟩ => ⟨S2048x1668, .f32⟩
  | .hbm, ⟨15, _⟩ => ⟨S_, .f32⟩
  | .hbm, ⟨16, _⟩ => ⟨S2048x1668, .f32⟩
  | .hbm, ⟨17, _⟩ => ⟨S2048x1668, .f32⟩
  | .hbm, ⟨18, _⟩ => ⟨S2048x1668, .f32⟩
  | .hbm, ⟨19, _⟩ => ⟨S1024x1668, .f32⟩
  | .hbm, ⟨20, _⟩ => ⟨S2048x1668, .f32⟩
  | .hbm, ⟨21, _⟩ => ⟨S_, .f32⟩
  | .hbm, ⟨22, _⟩ => ⟨S2048x1668, .f32⟩
  | .hbm, ⟨23, _⟩ => ⟨S2048x1668, .f32⟩
  | .hbm, ⟨24, _⟩ => ⟨S2048x1668, .f32⟩
  | .hbm, ⟨25, _⟩ => ⟨S_, .f32⟩
  | .hbm, ⟨26, _⟩ => ⟨S2048x1668, .f32⟩
  | .hbm, ⟨27, _⟩ => ⟨S2048x1668, .f32⟩
  | .hbm, ⟨28, _⟩ => ⟨S2048x1668, .f32⟩
  | .hbm, ⟨29, _⟩ => ⟨S_, .f32⟩
  | .hbm, ⟨30, _⟩ => ⟨S2048x1668, .f32⟩
  | .hbm, ⟨31, _⟩ => ⟨S2048x1668, .f32⟩
  | .hbm, ⟨32, _⟩ => ⟨S_, .f32⟩
  | .hbm, ⟨33, _⟩ => ⟨S2048x1668, .f32⟩
  | .hbm, ⟨34, _⟩ => ⟨S2048x1668, .f32⟩
  | .hbm, ⟨35, _⟩ => ⟨S2048x1668, .f32⟩
  | .hbm, ⟨36, _⟩ => ⟨S_, .f32⟩
  | .hbm, ⟨37, _⟩ => ⟨S2048x1668, .f32⟩
  | .hbm, ⟨38, _⟩ => ⟨S2048x1668, .f32⟩
  | .hbm, ⟨39, _⟩ => ⟨S2048x1668, .f32⟩
  | .hbm, ⟨40, _⟩ => ⟨S1024x1668, .f32⟩
  | .hbm, ⟨41, _⟩ => ⟨S2048x1668, .f32⟩
  | .hbm, ⟨42, _⟩ => ⟨S_, .f32⟩
  | .hbm, ⟨43, _⟩ => ⟨S2048x1668, .f32⟩
  | .hbm, ⟨44, _⟩ => ⟨S2048x1668, .f32⟩
  | .hbm, ⟨45, _⟩ => ⟨S2048x1668, .f32⟩
  | .hbm, ⟨46, _⟩ => ⟨S_, .f32⟩
  | .hbm, ⟨47, _⟩ => ⟨S2048x1668, .f32⟩
  | .hbm, ⟨48, _⟩ => ⟨S2048x1668, .f32⟩
  | _, _ => ⟨S1x1024x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== AdamPool.lean ====
abbrev S512x64 : Shape := ⟨2, ![512, 64]⟩
abbrev S256x64 : Shape := ⟨2, ![256, 64]⟩

abbrev nBuf : Space → Nat
  | .hbm => 9
  | .vmem => 16
  | .smem => 0
  | _ => 0

abbrev bufTy : (tb : Table) → Fin (tcTables nBuf tb) → BufTy
  | .hbm, ⟨0, _⟩ => ⟨S512x64, .f32⟩
  | .hbm, ⟨1, _⟩ => ⟨S256x64, .f32⟩
  | .hbm, ⟨2, _⟩ => ⟨S256x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 2
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPoolRefIdeal.lean ====
abbrev S512x64 : Shape := ⟨2, ![512, 64]⟩
abbrev S256x64 : Shape := ⟨2, ![256, 64]⟩
abbrev S1024x64 : Shape := ⟨2, ![1024, 64]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S256x64, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024x64, .f32⟩
  | .hbm, ⟨13, _⟩ => ⟨S1024x64, .f32⟩
  | .hbm, ⟨14, _⟩ => ⟨S_, .f32⟩
  | .hbm, ⟨15, _⟩ => ⟨S1024x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S_, .f32⟩
  | .hbm, ⟨24, _⟩ => ⟨S1024x64, .f32⟩
  | .hbm, ⟨25, _⟩ => ⟨S1024x64, .f32⟩
  | .hbm, ⟨26, _⟩ => ⟨S1024x64, .f32⟩
  | .hbm, ⟨27, _⟩ => ⟨S_, .f32⟩
  | .hbm, ⟨28, _⟩ => ⟨S1024x64, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x64, .f32⟩
  | .hbm, ⟨37, _⟩ => ⟨S1024x64, .f32⟩
  | .hbm, ⟨38, _⟩ => ⟨S1024x64, .f32⟩
  | .hbm, ⟨39, _⟩ => ⟨S_, .f32⟩
  | .hbm, ⟨40, _⟩ => ⟨S1024x64, .f32⟩
  | .hbm, ⟨41, _⟩ => ⟨S1024x64, .f32⟩
  | .hbm, ⟨42, _⟩ => ⟨S1024x64, .f32⟩
  | .hbm, ⟨43, _⟩ => ⟨S_, .f32⟩
  | .hbm, ⟨44, _⟩ => ⟨S1024x64, .f32⟩
  | .hbm, ⟨45, _⟩ => ⟨S1024x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Contract.lean ====
/-
  Products of matrices read at one index, over the extended reals: the product `xᵀ · y` that a weight's gradient is
  (both operands are contracted on their rows), as a kernel's product onto an accumulator and as the host's
  `dot_general`; and a sum over 8192 rows as the sum of its four stretches of 2048 rows.
-/
module

public import Idealize.ShloMosaic.PureOps.Ideal.Laws
public import Idealize.ShloMosaic.Lib.ValueIdxCore
public import Idealize.ShloMosaic.Lib.MatmulPlain

@[expose] public section

namespace Cert.Contract

open Idealize.ShloMosaic Idealize.ShloMosaic.ValueIdx
open scoped BigOperators

/-- The dimension numbers of `xᵀ · y`: `K×M` and `K×N`, both contracted on their first axis. -/
def rowsDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem rowsDims_rank (K M N : ℕ) : (rowsDims K M N).contr.rank = 1 := rfl
theorem rowsDims_size (K M N : ℕ) : (rowsDims K M N).contr.size ⟨0, by rw [rowsDims_rank]; exact Nat.one_pos⟩ = K := rfl

/-- The contraction's index is the row. -/
def rowsEquiv (K M N : ℕ) : (rowsDims K M N).contr.Idx ≃ Fin K :=
  contrEquiv1 _ K (rowsDims_rank K M N) (rowsDims_size K M N)

theorem rows_lhs {K M N : ℕ} (r : Fin M) (c : Fin N) (k : Fin K) :
    (rowsDims K M N).lhsIdx (ix2 r c) ((rowsEquiv K M N).symm k) = ix2 k r := by
  funext a; apply Fin.ext
  match a with
  | ⟨0, _⟩ => exact contrEquiv1_symm_val _ K (rowsDims_rank K M N) (rowsDims_size K M N) k
  | ⟨1, _⟩ => rfl

theorem rows_rhs {K M N : ℕ} (r : Fin M) (c : Fin N) (k : Fin K) :
    (rowsDims K M N).rhsIdx (ix2 r c) ((rowsEquiv K M N).symm k) = ix2 k c := by
  funext a; apply Fin.ext
  match a with
  | ⟨0, _⟩ => exact contrEquiv1_symm_val _ K (rowsDims_rank K M N) (rowsDims_size K M N) k
  | ⟨1, _⟩ => rfl

/-- A kernel's `xᵀ · y` at `(r, c)`: the accumulator and `Σₖ x[k, r] · y[k, c]`. -/
theorem matmul_rows {K M N : ℕ} {φ₁ φ₂ : FTy} (prec : Option ContractPrecision)
    (x : FVec Ideal ⟨2, ![K, M]⟩ φ₁) (y : FVec Ideal ⟨2, ![K, N]⟩ φ₂) (acc : FVec Ideal ⟨2, ![M, N]⟩ .f32) (r : Fin M) (c : Fin N) :
    matmul (rowsDims K M N) prec x y acc (ix2 r c) = acc (ix2 r c) + ∑ k : Fin K, x (ix2 k r) * y (ix2 k c) := by
  show FloatOps.matmul _ prec x y acc (ix2 r c) = _
  rw [Ideal.matmul_apply, ← Equiv.sum_comp (rowsEquiv K M N).symm]
  exact congrArg (acc (ix2 r c) + ·) (Finset.sum_congr rfl fun k _ => by rw [rows_lhs, rows_rhs])

/-- The host's `xᵀ · y` at `(r, c)`. -/
theorem host_rows {K M N : ℕ} {φ₁ φ₂ : FTy} (prec : Option ContractPrecision)
    (x : FVec Ideal ⟨2, ![K, M]⟩ φ₁) (y : FVec Ideal ⟨2, ![K, N]⟩ φ₂) (r : Fin M) (c : Fin N) :
    Host.dotGeneral (rowsDims K M N) prec x y (ix2 r c) = ∑ k : Fin K, x (ix2 k r) * y (ix2 k c) := by
  show FloatOps.dotGeneral _ prec _ x y (ix2 r c) = _
  rw [Ideal.dotGeneral_apply, ← Equiv.sum_comp (rowsEquiv K M N).symm]
  exact Finset.sum_congr rfl fun k _ => by rw [rows_lhs, rows_rhs]

/-- A kernel's `xᵀ · y` onto zeros. -/
theorem matmul_rows_zero {K M N : ℕ} {φ₁ φ₂ : FTy} (prec : Option ContractPrecision)
    (x : FVec Ideal ⟨2, ![K, M]⟩ φ₁) (y : FVec Ideal ⟨2, ![K, N]⟩ φ₂) (r : Fin M) (c : Fin N) :
    matmul (rowsDims K M N) prec x y (constant (F := Ideal) ⟨2, ![M, N]⟩ .f32 0x00000000#32) (ix2 r c)
      = ∑ k : Fin K, x (ix2 k r) * y (ix2 k c) := by
  show FloatOps.matmul _ prec x y (constant (F := Ideal) ⟨2, ![M, N]⟩ .f32 0x00000000#32) (ix2 r c) = _
  rw [Ideal.matmul_constant_zero_apply, ← Equiv.sum_comp (rowsEquiv K M N).symm]
  exact Finset.sum_congr rfl fun k _ => by rw [rows_lhs, rows_rhs]

/-- Row `k` of the `j`-th of four stretches of 2048 rows. -/
abbrev row (j : Fin 4) (k : Fin 2048) : Fin 8192 := ⟨2048 * j.val + k.val, by omega⟩

/-- A sum over `8192` rows is the sum, first to last, of the sums over its four stretches of `2048` rows. -/
theorem sum_stretches (f : Fin 8192 → EReal) :
    ∑ k : Fin 8192, f k
      = ((∑ k : Fin 2048, f (row 0 k) + ∑ k : Fin 2048, f (row 1 k)) + ∑ k : Fin 2048, f (row 2 k))
        + ∑ k : Fin 2048, f (row 3 k) := by
  rw [Fin.sum_univ_add (a := 6144) (b := 2048), Fin.sum_univ_add (a := 4096) (b := 2048), Fin.sum_univ_add (a := 2048) (b := 2048)]
  refine congrArg₂ _ (congrArg₂ _ (congrArg₂ _ ?_ ?_) ?_) ?_ <;>
    exact Finset.sum_congr rfl fun k _ => congrArg f (Fin.ext (by simp <;> omega))

end Cert.Contract

end
-- ==== Proof.DwIn.lean ====
/-
  The gradient of the input projections' weights: what the kernel's run leaves in its result, over the extended reals, is the product
  `xᵀ · y` over all 8192 rows, which is what the plain product of the reference is. The kernel walks the rows in four
  stretches of 2048: it starts a block of the result with the first stretch's product, adds the next two to a scratch
  buffer, and writes the block out with the last one added.
-/
module

public import proofs.«01_k».proof.Proof.Contract
public import proofs.«01_k».proof.Proof.Gen.DwInIdeal.Value
public import proofs.«01_k».proof.Proof.Gen.DwInRefIdeal.Run
public import Idealize.ShloMosaic.Lib.ValueIdx
public import Idealize.ShloMosaic.Lib.ValueLayout

@[expose] public section

noncomputable section

namespace Cert.DwInProof

open Cert.DwInIdeal Cert.DwInIdeal.Gen Cert.DwInIdeal.Value Cert.Contract
open Idealize.ShloMosaic Idealize.ShloMosaic.TcCoe Idealize.ShloMosaic.ValueIdx
open scoped BigOperators

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The first stretch: the scratch holds the product of the two blocks. -/
theorem first (c : Dev nD) (i : grid0.Coords) (a3 : Memref sig .tc .vmem S2048x1024 .bf16) (h3 : a3.IsWhole)
    (a4 : Memref sig .tc .vmem S2048x1152 .bf16) (h4 : a4.IsWhole) (a5 : Memref sig .tc .vmem S1024x1152 .bf16) (h5 : a5.IsWhole)
    (a6 : Memref sig .tc .vmem S1024x1152 .f32) (h6 : a6.IsWhole) (hc0 : cond0_0 i) (hc1 : ¬cond0_1 i) (hc2 : ¬cond0_2 i)
    (x : Vec F S2048x1024 .bf16) (y : Vec F S2048x1152 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1152) hz]

/-- The two stretches between: the blocks' product is added to the scratch. -/
theorem middle (c : Dev nD) (i : grid0.Coords) (a3 : Memref sig .tc .vmem S2048x1024 .bf16) (h3 : a3.IsWhole)
    (a4 : Memref sig .tc .vmem S2048x1152 .bf16) (h4 : a4.IsWhole) (a5 : Memref sig .tc .vmem S1024x1152 .bf16) (h5 : a5.IsWhole)
    (a6 : Memref sig .tc .vmem S1024x1152 .f32) (h6 : a6.IsWhole) (hc0 : ¬cond0_0 i) (hc1 : cond0_1 i) (hc2 : ¬cond0_2 i)
    (x : Vec F S2048x1024 .bf16) (y : Vec F S2048x1152 .bf16) (s : Vec F S1024x1152 .f32) :
    sout0_B_0 c i a3 h3 a4 h4 a5 h5 a6 h6 hc0 hc1 hc2 x y s = k0_pay2 s x y := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1152) hz, View.ld_unit_zero (S := S1024x1152) hz]

/-- The last stretch: the result's block is the scratch and the blocks' product, rounded once. -/
theorem last (c : Dev nD) (i : grid0.Coords) (a3 : Memref sig .tc .vmem S2048x1024 .bf16) (h3 : a3.IsWhole)
    (a4 : Memref sig .tc .vmem S2048x1152 .bf16) (h4 : a4.IsWhole) (a5 : Memref sig .tc .vmem S1024x1152 .bf16) (h5 : a5.IsWhole)
    (a6 : Memref sig .tc .vmem S1024x1152 .f32) (h6 : a6.IsWhole) (hc0 : ¬cond0_0 i) (hc1 : ¬cond0_1 i) (hc2 : cond0_2 i)
    (x : Vec F S2048x1024 .bf16) (y : Vec F S2048x1152 .bf16) (s : Vec F S1024x1152 .f32) :
    out0_C_2 c i a3 h3 a4 h4 a5 h5 a6 h6 hc0 hc1 hc2 x y s = k0_pay3 s x y := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1152) hz, View.ld_unit_zero (S := S1024x1152) hz]

theorem outs_congr (c : Dev nD) {n n' : ℕ} (e : n = n') (h : n < cfg0.N) (h' : n' < cfg0.N) :
    outsAt0 m c n h = outsAt0 m c n' h' := by subst e; rfl

/-- Block `j` of the rows of the operands, at the block `q` of the result. -/
abbrev pt (q : Fin 6) (j : Fin 4) : Fin cfg0.N := ⟨4 * q.val + j.val, lt_of_lt_of_eq (by omega) N_0.symm⟩

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  exact first (F := F) ..

theorem at_middle (c : Dev nD) (t : Fin cfg0.N) (h : 1 ≤ t.val % 4 ∧ t.val % 4 ≤ 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  exact middle (F := F) ..

theorem at_last (c : Dev nD) (t : Fin cfg0.N) (h : t.val % 4 = 3) :
    (outsAt0 m c t.val t.isLt).1
      = k0_pay3 (outsAt0 m c (t.val - 1) (Nat.lt_of_le_of_lt (Nat.sub_le _ _) t.isLt)).2 (iblk m c 0 t) (iblk m c 1 t) := by
  rw [outsAt0_C m c t (by omega) (by omega) h]
  dsimp only
  exact last (F := F) ..

/-- What a run of four points writes out. -/
theorem written (c : Dev nD) (q : Fin 6) :
    (outsAt0 m c (pt q 3).val (pt q 3).isLt).1
      = k0_pay3 (k0_pay2 (k0_pay2 (k0_pay1 (iblk m c 0 (pt q 0)) (iblk m c 1 (pt q 0))) (iblk m c 0 (pt q 1)) (iblk m c 1 (pt q 1)))
          (iblk m c 0 (pt q 2)) (iblk m c 1 (pt q 2))) (iblk m c 0 (pt q 3)) (iblk m c 1 (pt q 3)) := by
  have e0 := at_first m c (pt q 0) (by show (4 * q.val + 0) % 4 = 0; omega)
  have e1 := at_middle m c (pt q 1) (by show 1 ≤ (4 * q.val + 1) % 4 ∧ (4 * q.val + 1) % 4 ≤ 2; omega)
  have e2 := at_middle m c (pt q 2) (by show 1 ≤ (4 * q.val + 2) % 4 ∧ (4 * q.val + 2) % 4 ≤ 2; omega)
  have e3 := at_last m c (pt q 3) (by show (4 * q.val + 3) % 4 = 3; omega)
  rw [outs_congr m c (show (pt q 1).val - 1 = (pt q 0).val by show 4 * q.val + 1 - 1 = 4 * q.val + 0; omega) _ (pt q 0).isLt, e0] at e1
  rw [outs_congr m c (show (pt q 2).val - 1 = (pt q 1).val by show 4 * q.val + 2 - 1 = 4 * q.val + 1; omega) _ (pt q 1).isLt, e1] at e2
  rw [outs_congr m c (show (pt q 3).val - 1 = (pt q 2).val by show 4 * q.val + 3 - 1 = 4 * q.val + 2; omega) _ (pt q 2).isLt, e2] at e3
  exact e3

/-- The two operands. -/
abbrev xs (c : Dev nD) : FVec F S8192x1024 .bf16 := m ((c : Thread nD τ).loc main_arg0)
abbrev ys (c : Dev nD) : FVec F S8192x6912 .bf16 := m ((c : Thread nD τ).loc main_arg1)

/-- Which blocks of the operands a point reads. -/
theorem index_x : ∀ (q : Fin 6) (j : Fin 4), win0_0.index (pt q j) 0 = j.val ∧ win0_0.index (pt q j) 1 = 0 := by decide +kernel
theorem index_y : ∀ (q : Fin 6) (j : Fin 4), win0_1.index (pt q j) 0 = j.val ∧ win0_1.index (pt q j) 1 = q.val := by decide +kernel

theorem block_x (c : Dev nD) (q : Fin 6) (j : Fin 4) (k : Fin 2048) (r : Fin 1024) :
    (iblk m c 0 (pt q j) : FVec F S2048x1024 .bf16) (ix2 k r)
      = xs m c (ix2 (row j k) (⟨0 * 1024 + r.val, by omega⟩ : Fin 1024)) := by
  obtain ⟨h0, h1⟩ := index_x q j
  unfold iblk
  rw [View.read_apply]
  show V m c main_arg0 _ = m (c.tc.loc main_arg0) _
  unfold V
  congr 1
  funext a
  apply Fin.ext
  match a with
  | ⟨0, _⟩ => show win0_0.index (pt q j) 0 * 2048 + 1 * k.val = 2048 * j.val + k.val; rw [h0]; omega
  | ⟨1, _⟩ => show win0_0.index (pt q j) 1 * 1024 + 1 * r.val = 0 * 1024 + r.val; rw [h1]; omega

theorem block_y (c : Dev nD) (q : Fin 6) (j : Fin 4) (k : Fin 2048) (s : Fin 1152) :
    (iblk m c 1 (pt q j) : FVec F S2048x1152 .bf16) (ix2 k s)
      = ys m c (ix2 (row j k) (⟨q.val * 1152 + s.val, by omega⟩ : Fin 6912)) := by
  obtain ⟨h0, h1⟩ := index_y q j
  unfold iblk
  rw [View.read_apply]
  show V m c main_arg1 _ = m (c.tc.loc main_arg1) _
  unfold V
  congr 1
  funext a
  apply Fin.ext
  match a with
  | ⟨0, _⟩ => show win0_1.index (pt q j) 0 * 2048 + 1 * k.val = 2048 * j.val + k.val; rw [h0]; omega
  | ⟨1, _⟩ => show win0_1.index (pt q j) 1 * 1152 + 1 * s.val = q.val * 1152 + s.val; rw [h1]; omega

end AnyFloat

/-! ## Over the extended reals -/

theorem dims : dot_S2048x1024_S2048x1152_S1024x1152_0_0_1_1_n_n = rowsDims 2048 1024 1152 := rfl

theorem pay1_apply (x : FVec Ideal S2048x1024 .bf16) (y : FVec Ideal S2048x1152 .bf16) (r : Fin 1024) (s : Fin 1152) :
    (k0_pay1 (F := Ideal) x y : FVec Ideal S1024x1152 .f32) (ix2 r s) = ∑ k : Fin 2048, x (ix2 k r) * y (ix2 k s) := by
  unfold k0_pay1
  rw [shapeCast_self, dims, matmul_rows_zero]

theorem pay2_apply (a : FVec Ideal S1024x1152 .f32) (x : FVec Ideal S2048x1024 .bf16) (y : FVec Ideal S2048x1152 .bf16) (r : Fin 1024) (s : Fin 1152) :
    (k0_pay2 (F := Ideal) a x y : FVec Ideal S1024x1152 .f32) (ix2 r s) = a (ix2 r s) + ∑ k : Fin 2048, x (ix2 k r) * y (ix2 k s) := by
  unfold k0_pay2
  rw [shapeCast_self, addf_apply, dims, matmul_rows_zero]

theorem pay3_apply (a : FVec Ideal S1024x1152 .f32) (x : FVec Ideal S2048x1024 .bf16) (y : FVec Ideal S2048x1152 .bf16) (r : Fin 1024) (s : Fin 1152) :
    (k0_pay3 (F := Ideal) a x y : FVec Ideal S1024x1152 .bf16) (ix2 r s) = a (ix2 r s) + ∑ k : Fin 2048, x (ix2 k r) * y (ix2 k s) := by
  unfold k0_pay3
  rw [truncf_apply, addf_apply, dims, matmul_rows_zero]

/-- THE KERNEL'S RESULT at one index: the product of the two operands over all rows. -/
theorem kernel_value (m : (ℓ : Loc nD τ sig) → Buf (Elt Ideal) ℓ) (c : Dev nD) (r : Fin 1024) (s : Fin 6912) :
    (G2 m c : FVec Ideal S1024x6912 .bf16) (ix2 r s)
      = ∑ k : Fin 8192, xs m c (ix2 k r)
          * ys m c (ix2 k s) := by
  obtain ⟨q, hq⟩ : ∃ q : Fin 6, q.val = s.val / 1152 := ⟨⟨s.val / 1152, by omega⟩, rfl⟩
  obtain ⟨r', hr⟩ : ∃ r' : Fin 1024, r'.val = r.val % 1024 := ⟨⟨r.val % 1024, by omega⟩, rfl⟩
  obtain ⟨s', hs⟩ : ∃ s' : Fin 1152, s'.val = s.val % 1152 := ⟨⟨s.val % 1152, by omega⟩, rfl⟩
  have hp : pt2Of (ix2 r s : S1024x6912.Idx) = (pt q 3).val := by
    show 4 * (6 * (r.val / 1024 - 0) + 1 * (s.val / 1152 - 0)) + 3 = 4 * q.val + 3
    rw [hq]; omega
  have hl : loc2Of (ix2 r s : S1024x6912.Idx) = ix2 r' s' := by
    funext a; apply Fin.ext
    match a with
    | ⟨0, _⟩ => exact hr.symm
    | ⟨1, _⟩ => exact hs.symm
  have hr' : (⟨0 * 1024 + r'.val, by omega⟩ : Fin 1024) = r := Fin.ext (by show 0 * 1024 + r'.val = r.val; omega)
  have hs' : (⟨q.val * 1152 + s'.val, by omega⟩ : Fin 6912) = s := Fin.ext (by show q.val * 1152 + s'.val = s.val; omega)
  unfold G2
  rw [dif_pos (by rw [hp]; exact (pt q 3).isLt), hl]
  have hw : Pipeline.accAt (fun n h => stAt0 m c n h junk0) (stAt0 m c) 0 (pt2Of (ix2 r s : S1024x6912.Idx))
        (by rw [hp, Nat.zero_add]; exact (pt q 3).isLt)
      = outsAt0 m c (pt q 3).val (pt q 3).isLt := by
    rw [outsAt0_sweep]
    exact fold0_congr m c _ _ _ _ hp
  refine (congrFun (congrArg Prod.fst hw) _).trans ?_
  rw [written, pay3_apply, pay2_apply, pay2_apply, pay1_apply, sum_stretches]
  simp only [block_x, block_y, hr', hs']

/-- THE REFERENCE'S RESULT at one index. -/
theorem reference_value (x : FVec Ideal S8192x1024 .bf16) (y : FVec Ideal S8192x6912 .bf16) (r : Fin 1024) (s : Fin 6912)
    (hb : FTy.bits .bf16 < FTy.bits .f32) (ht : (⟨2, ![6912, 1024]⟩ : Shape).Transposes [1, 0] ⟨2, ![1024, 6912]⟩) :
    (truncf .bf16 (transpose ⟨2, ![1024, 6912]⟩ [1, 0] (Host.dotGeneral (rowsDims 8192 6912 1024) none (extf .f32 y hb) (extf .f32 x hb)) ht) hb : FVec Ideal S1024x6912 .bf16) (ix2 r s)
      = ∑ k : Fin 8192, x (ix2 k r) * y (ix2 k s) := by
  rw [truncf_apply, transpose_ix2_apply, host_rows]
  exact Finset.sum_congr rfl fun k _ => mul_comm _ _

/-- So the two programs' results are the same array. -/
theorem equal (m : (ℓ : Loc nD τ sig) → Buf (Elt Ideal) ℓ) (c : Dev nD)
    (hb : FTy.bits .bf16 < FTy.bits .f32) (ht : (⟨2, ![6912, 1024]⟩ : Shape).Transposes [1, 0] ⟨2, ![1024, 6912]⟩) :
    (G2 m c : FVec Ideal S1024x6912 .bf16) = truncf .bf16 (transpose ⟨2, ![1024, 6912]⟩ [1, 0] (Host.dotGeneral (rowsDims 8192 6912 1024) none (extf .f32 (ys m c) hb) (extf .f32 (xs m c) hb)) ht) hb := by
  funext i
  rw [eq_ix2 i]
  exact (kernel_value m c (i 0) (i 1)).trans (reference_value (xs m c) (ys m c) (i 0) (i 1) hb ht).symm

end Cert.DwInProof

end
-- ==== Proof.Blocks.lean ====
/-
  Products of matrices read at one index, over the extended reals: the plain product `x · y` and the product `x · yᵀ`
  (the right operand is contracted on its columns), as a kernel's product onto zeros and as the host's `dot_general`.
-/
module

public import Idealize.ShloMosaic.PureOps.Ideal.Laws
public import Idealize.ShloMosaic.Lib.ValueIdxCore
public import Idealize.ShloMosaic.Lib.MatmulPlain

@[expose] public section

namespace Cert.Blocks

open Idealize.ShloMosaic Idealize.ShloMosaic.ValueIdx
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-- A kernel's `x · y` onto zeros, at `(r, c)`. -/
theorem matmul_plain_zero {M K N : ℕ} {φ₁ φ₂ : FTy} (prec : Option ContractPrecision)
    (x : FVec Ideal ⟨2, ![M, K]⟩ φ₁) (y : FVec Ideal ⟨2, ![K, N]⟩ φ₂) (r : Fin M) (c : Fin N) :
    matmul (DotDims.plain M K N) prec x y (constant (F := Ideal) ⟨2, ![M, N]⟩ .f32 0x00000000#32) (ix2 r c)
      = ∑ k : Fin K, x (ix2 r k) * y (ix2 k c) := by
  show FloatOps.matmul _ prec x y (constant (F := Ideal) ⟨2, ![M, N]⟩ .f32 0x00000000#32) (ix2 r c) = _
  rw [Ideal.matmul_plain_apply]
  show Ideal.ofBits .f32 0x00000000#32 + _ = _
  rw [Ideal.ofBits_zero_f32, zero_add]

/-- A kernel's `x · yᵀ` onto zeros, at `(r, c)`. -/
theorem matmul_transposed_zero {M K N : ℕ} {φ₁ φ₂ : FTy} (prec : Option ContractPrecision)
    (x : FVec Ideal ⟨2, ![M, K]⟩ φ₁) (y : FVec Ideal ⟨2, ![N, K]⟩ φ₂) (r : Fin M) (c : Fin N) :
    matmul (DotDims.transposedRhs M K N) prec x y (constant (F := Ideal) ⟨2, ![M, N]⟩ .f32 0x00000000#32) (ix2 r c)
      = ∑ k : Fin K, x (ix2 r k) * y (ix2 c k) := by
  show FloatOps.matmul _ prec x y (constant (F := Ideal) ⟨2, ![M, N]⟩ .f32 0x00000000#32) (ix2 r c) = _
  rw [Ideal.matmul_transposedRhs_apply]
  show Ideal.ofBits .f32 0x00000000#32 + _ = _
  rw [Ideal.ofBits_zero_f32, zero_add]

/-- The host's `x · y`, at `(r, c)`. -/
theorem host_plain {M K N : ℕ} {φ₁ φ₂ : FTy} (prec : Option ContractPrecision)
    (x : FVec Ideal ⟨2, ![M, K]⟩ φ₁) (y : FVec Ideal ⟨2, ![K, N]⟩ φ₂) (r : Fin M) (c : Fin N) :
    Host.dotGeneral (DotDims.plain M K N) prec x y (ix2 r c) = ∑ k : Fin K, x (ix2 r k) * y (ix2 k c) := by
  have h := Ideal.matmul_plain_apply prec x y (fun _ => (0 : EReal)) r c
  rw [Ideal.matmul_apply, zero_add, zero_add] at h
  show FloatOps.dotGeneral _ prec _ x y (ix2 r c) = _
  rw [Ideal.dotGeneral_apply]
  exact h

/-- The host's `x · yᵀ`, at `(r, c)`. -/
theorem host_transposed {M K N : ℕ} {φ₁ φ₂ : FTy} (prec : Option ContractPrecision)
    (x : FVec Ideal ⟨2, ![M, K]⟩ φ₁) (y : FVec Ideal ⟨2, ![N, K]⟩ φ₂) (r : Fin M) (c : Fin N) :
    Host.dotGeneral (DotDims.transposedRhs M K N) prec x y (ix2 r c) = ∑ k : Fin K, x (ix2 r k) * y (ix2 c k) := by
  have h := Ideal.matmul_transposedRhs_apply prec x y (fun _ => (0 : EReal)) r c
  rw [Ideal.matmul_apply, zero_add, zero_add] at h
  show FloatOps.dotGeneral _ prec _ x y (ix2 r c) = _
  rw [Ideal.dotGeneral_apply]
  exact h

end Cert.Blocks

end
-- ==== Proof.Norm.lean ====
/-
  The gradient of a layer norm of rows of 1024 numbers, over the extended reals. Two ways of writing a row of it are
  defined here: the closed form, with the mean of the gradient and its mean against the normalised row taken away, and
  the form in which the derivative of the norm's own lines is written, through the variance and the mean. On rows of
  finite numbers they are equal: every intermediate is then a real number, and the rest is algebra.
-/
module

public import Idealize.ShloMosaic.PureOps.Ideal.Laws

@[expose] public section

noncomputable section

namespace Cert.Norm

open Idealize.ShloMosaic
open scoped BigOperators

/-- The constants, as both programs write them: the row's width, what is added to the variance, `2`, `-1/2`, and the
    residual's scale. -/
abbrev width : EReal := Ideal.ofBits .f32 0x44800000#32
abbrev eps : EReal := Ideal.ofBits .f32 0x3727C5AC#32
abbrev two : EReal := Ideal.ofBits .f32 0x40000000#32
abbrev mhalf : EReal := Ideal.ofBits .f32 0xBF000000#32
abbrev alpha : EReal := Ideal.ofBits .f32 0x3F9837F0#32

/-- A pattern of `f32` whose exponent's bits are neither all ones nor all zeros denotes a real number. -/
theorem ofBits_real (b : BitVec 32) (h1 : ¬(b.extractLsb' 23 8).toNat = 2 ^ 8 - 1) (h0 : ¬(b.extractLsb' 23 8).toNat = 0) :
    Ideal.ofBits .f32 b = (((if b.extractLsb' (8 + 23) 1 == 1#1 then (-1 : ℝ) else 1) * (2 ^ 23 + (b.extractLsb' 0 23).toNat : Nat)
      * (2 : ℝ) ^ (((b.extractLsb' 23 8).toNat : Int) - (2 ^ (8 - 1) - 1) - (23 : Nat)) : ℝ) : EReal) := by
  show Ideal.ieee 8 23 b = _
  unfold Ideal.ieee
  rw [if_neg h1, if_neg h0]

theorem width_eq : width = ((1024 : ℝ) : EReal) := by
  unfold width; rw [ofBits_real _ (by decide) (by decide)]; congr 1; simp; norm_num
theorem two_eq : two = ((2 : ℝ) : EReal) := by
  unfold two; rw [ofBits_real _ (by decide) (by decide)]; congr 1; simp; norm_num
theorem mhalf_eq : mhalf = ((-(1 / 2) : ℝ) : EReal) := by
  unfold mhalf; rw [ofBits_real _ (by decide) (by decide)]; congr 1; simp; norm_num
theorem alpha_eq : ∃ a : ℝ, alpha = (a : EReal) := ⟨_, ofBits_real _ (by decide) (by decide)⟩
theorem eps_eq : ∃ e : ℝ, 0 < e ∧ eps = (e : EReal) :=
  ⟨_, by simp, ofBits_real _ (by decide) (by decide)⟩

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-! ## The two ways of writing it -/

/-- A row's mean; its centred entries; the reciprocal root of its variance; the normalised row. -/
def mean (f : Fin 1024 → EReal) : EReal := Ideal.div (∑ j, f j) width
def centre (x : Fin 1024 → EReal) (j : Fin 1024) : EReal := x j - mean x
def spread (x : Fin 1024 → EReal) : EReal := mean (fun j => centre x j * centre x j) + eps
def rstd (x : Fin 1024 → EReal) : EReal := Ideal.rsqrt (spread x)
def unit (x : Fin 1024 → EReal) (j : Fin 1024) : EReal := centre x j * rstd x

/-- The closed form of the gradient with respect to the row `x`, where `y` is the gradient of the normalised row. -/
def closed (x y : Fin 1024 → EReal) (j : Fin 1024) : EReal :=
  rstd x * ((y j - mean y) - unit x j * mean (fun k => y k * unit x k))

/-- The gradient with respect to the variance, and with respect to the centred row through the variance. -/
def backSpread (x y : Fin 1024 → EReal) : EReal :=
  Ideal.div ((∑ k, centre x k * y k) * (mhalf * Ideal.div (rstd x) (spread x))) width
def backCentre (x y : Fin 1024 → EReal) (j : Fin 1024) : EReal := backSpread x y * (two * centre x j)
/-- The gradient as the derivative of the norm's own lines writes it. -/
def derived (x y : Fin 1024 → EReal) (j : Fin 1024) : EReal :=
  (y j * rstd x + backCentre x y j) + Ideal.div ((∑ k, -(y k * rstd x)) + ∑ k, -(backCentre x y k)) width

/-! ## They are equal on finite rows -/

theorem mean_coe (f : Fin 1024 → ℝ) : mean (fun j => (f j : EReal)) = (((∑ j, f j) / 1024 : ℝ) : EReal) := by
  unfold mean
  rw [width_eq, ← coe_sum, Ideal.div_coe (by norm_num), ← EReal.coe_mul]
  congr 1
  ring

theorem centre_coe (x : Fin 1024 → ℝ) (j : Fin 1024) :
    centre (fun j => (x j : EReal)) j = ((x j - (∑ k, x k) / 1024 : ℝ) : EReal) := by
  unfold centre
  rw [mean_coe, ← EReal.coe_sub]

/-- The reciprocal root of a positive real. -/
theorem rsqrt_pos (v : ℝ) (hv : 0 < v) : Ideal.rsqrt (v : EReal) = (((Real.sqrt v)⁻¹ : ℝ) : EReal) := by
  rw [Ideal.rsqrt_coe, if_neg (not_lt.mpr hv.le), if_neg hv.ne']

/-- What a finite row's norm is made of: reals `u` (the centred row, of sum zero), `v` (the variance and the constant),
    and `r`, the reciprocal root of `v`. -/
theorem parts (x : Fin 1024 → ℝ) : ∃ (u : Fin 1024 → ℝ) (v r : ℝ),
    (∀ j, centre (fun j => (x j : EReal)) j = (u j : EReal)) ∧ (∑ j, u j = 0) ∧ 0 < v ∧ r * r * v = 1
      ∧ spread (fun j => (x j : EReal)) = (v : EReal) ∧ rstd (fun j => (x j : EReal)) = (r : EReal) := by
  obtain ⟨e, he, hE⟩ := eps_eq
  have hu : ∀ j, centre (fun j => (x j : EReal)) j = ((x j - (∑ k, x k) / 1024 : ℝ) : EReal) := centre_coe x
  have hs : spread (fun j => (x j : EReal))
      = (((∑ j, (x j - (∑ k, x k) / 1024) * (x j - (∑ k, x k) / 1024)) / 1024 + e : ℝ) : EReal) := by
    unfold spread
    simp only [hu, ← EReal.coe_mul]
    rw [mean_coe, hE, ← EReal.coe_add]
  have hv : 0 < (∑ j, (x j - (∑ k, x k) / 1024) * (x j - (∑ k, x k) / 1024)) / 1024 + e :=
    add_pos_of_nonneg_of_pos (div_nonneg (Finset.sum_nonneg fun j _ => mul_self_nonneg _) (by norm_num)) he
  refine ⟨_, _, _, hu, ?_, hv, ?_, hs, (congrArg Ideal.rsqrt hs).trans (rsqrt_pos _ hv)⟩
  · rw [Finset.sum_sub_distrib, Finset.sum_const, Finset.card_univ, Fintype.card_fin, nsmul_eq_mul]
    push_cast
    ring
  · have h := Real.mul_self_sqrt hv.le
    have h0 := (Real.sqrt_pos.mpr hv).ne'
    rw [← mul_inv, h, inv_mul_cancel₀ hv.ne']

/-- THE EQUATION, on a row of finite numbers. -/
theorem closed_eq_derived (x y : Fin 1024 → ℝ) (j : Fin 1024) :
    closed (fun j => (x j : EReal)) (fun j => (y j : EReal)) j = derived (fun j => (x j : EReal)) (fun j => (y j : EReal)) j := by
  obtain ⟨u, v, r, hu, h0, hv, hr, hs, hR⟩ := parts x
  unfold closed derived backCentre backSpread unit
  simp only [hu, hs, hR, mhalf_eq, two_eq, width_eq, mean_coe, ← EReal.coe_mul, ← EReal.coe_neg, ← coe_sum, ← EReal.coe_sub,
    Ideal.div_coe hv.ne', Ideal.div_coe (show (1024 : ℝ) ≠ 0 by norm_num), ← EReal.coe_add]
  congr 1
  have hv' : 1 / v = r * r := by field_simp; linarith
  have e1 : ∑ k, y k * (u k * r) = r * ∑ k, u k * y k := by
    rw [Finset.mul_sum]; exact Finset.sum_congr rfl fun k _ => by ring
  have e2 : ∑ k, -(y k * r) = -(r * ∑ k, y k) := by
    rw [Finset.mul_sum, ← Finset.sum_neg_distrib]; exact Finset.sum_congr rfl fun k _ => by ring
  generalize hg : ∑ k, u k * y k = g at *
  generalize hb : g * (-(1 / 2) * (r * (1 / v))) * (1 / 1024) = b at *
  have e3 : ∑ k, -(b * (2 * u k)) = 0 := by
    rw [← mul_zero (-(2 * b)), ← h0, Finset.mul_sum]; exact Finset.sum_congr rfl fun k _ => by ring
  rw [e1, e2, e3, ← hb, hv']
  ring

end Cert.Norm

end
-- ==== Proof.Rows.lean ====
/-
  Reductions of a matrix by rows and by columns as a kernel writes them, read at one index over the extended reals; and
  what it means for an array to hold finite numbers.
-/
module

public import Idealize.ShloMosaic.PureOps.Ideal.Laws
public import Idealize.ShloMosaic.Lib.ValueIdxCore
public import Idealize.ShloMosaic.Lib.Pipeline.Value
public import Idealize.ShloMosaic.Lib.WritesUnit
public import proofs.«01_k».proof.Proof.Norm

@[expose] public section

namespace Cert.Rows

open Idealize.ShloMosaic Idealize.ShloMosaic.ValueIdx
open scoped BigOperators

/-- The sums of a matrix's rows, kept as a column, at row `r`. -/
theorem row_total {M N : ℕ} (x : FVec Ideal ⟨2, ![M, N]⟩ .f32) (hr : (⟨2, ![M, N]⟩ : Shape).Reduces [1] ⟨1, ![M]⟩)
    (hf : FKind.Formats .f32) (hz : (0x00000000#32 : BitVec 32) = FKind.add.neutral .f32 hf) (hs : (⟨1, ![M]⟩ : Shape).ShapeCasts ⟨2, ![M, 1]⟩)
    (r : Fin M) (u : Fin 1) :
    shapeCast ⟨2, ![M, 1]⟩ (multiReduction .add [1] ⟨1, ![M]⟩ x 0x00000000#32 hr hf hz) hs (ix2 r u) = ∑ k : Fin N, x (ix2 r k) := by
  rw [shapeCast_apply _ _ _ (ix1 r) (by rw [Shape.rowMajor_val_one, Shape.rowMajor_val_two]; show r.val = r.val * 1 + u.val; omega),
    Ideal.multiReduction_add_single]
  refine Finset.sum_congr rfl fun k _ => congrArg x ?_
  funext a
  match a with
  | ⟨0, _⟩ => rfl
  | ⟨1, _⟩ => rfl

/-- The sums of a matrix's columns, kept as a row, at column `s`. -/
theorem column_total {M N : ℕ} (x : FVec Ideal ⟨2, ![M, N]⟩ .f32) (hr : (⟨2, ![M, N]⟩ : Shape).Reduces [0] ⟨1, ![N]⟩)
    (hf : FKind.Formats .f32) (hz : (0x00000000#32 : BitVec 32) = FKind.add.neutral .f32 hf) (hs : (⟨1, ![N]⟩ : Shape).ShapeCasts ⟨2, ![1, N]⟩)
    (u : Fin 1) (s : Fin N) :
    shapeCast ⟨2, ![1, N]⟩ (multiReduction .add [0] ⟨1, ![N]⟩ x 0x00000000#32 hr hf hz) hs (ix2 u s) = ∑ k : Fin M, x (ix2 k s) := by
  rw [shapeCast_apply _ _ _ (ix1 s) (by rw [Shape.rowMajor_val_one, Shape.rowMajor_val_two]; show s.val = u.val * N + s.val; rw [Nat.lt_one_iff.mp u.isLt]; omega),
    Ideal.multiReduction_add_single]
  refine Finset.sum_congr rfl fun k _ => congrArg x ?_
  funext a
  match a with
  | ⟨0, _⟩ => rfl
  | ⟨1, _⟩ => rfl

/-- A column, repeated along the rows. -/
theorem spread_column {M N : ℕ} (hM : M ≠ 1) {α : Type} (x : (⟨2, ![M, 1]⟩ : Shape).Idx → α) (h : (⟨2, ![M, 1]⟩ : Shape).Broadcasts ⟨2, ![M, N]⟩)
    (r : Fin M) (s : Fin N) : broadcastTo ⟨2, ![M, N]⟩ x h (ix2 r s) = x (ix2 r (0 : Fin 1)) :=
  broadcastTo_apply x h _ _ fun a => match a with
    | ⟨0, _⟩ => (if_neg hM).symm
    | ⟨1, _⟩ => (if_pos rfl).symm

/-- A row, repeated along the columns. -/
theorem spread_row {M N : ℕ} (hN : N ≠ 1) {α : Type} (x : (⟨2, ![1, N]⟩ : Shape).Idx → α) (h : (⟨2, ![1, N]⟩ : Shape).Broadcasts ⟨2, ![M, N]⟩)
    (r : Fin M) (s : Fin N) : broadcastTo ⟨2, ![M, N]⟩ x h (ix2 r s) = x (ix2 (0 : Fin 1) s) :=
  broadcastTo_apply x h _ _ fun a => match a with
    | ⟨0, _⟩ => (if_pos rfl).symm
    | ⟨1, _⟩ => (if_neg hN).symm

/-- `|a| < ∞`, as a comparison's bit, says that `a` is a real number. -/
theorem real_of_finite (a : EReal) (h : Ideal.cmp .olt (max a (-a)) (Ideal.ofBits .f32 0x7F800000#32) = 1#1) : ∃ r : ℝ, a = (r : EReal) := by
  have ht : Ideal.ofBits .f32 0x7F800000#32 = ⊤ := by
    show Ideal.ieee 8 23 0x7F800000#32 = _
    unfold Ideal.ieee
    rw [if_pos (by decide), if_pos (by decide), if_neg (by decide)]
  rw [ht] at h
  have hl : max a (-a) < ⊤ := by
    by_contra hn
    have e : Ideal.cmp .olt (max a (-a)) ⊤ = 0#1 := by simp [Ideal.cmp, hn]
    rw [e] at h
    exact absurd h (by decide)
  induction a using EReal.rec with
  | bot => exact absurd hl (by simp)
  | top => exact absurd hl (by simp)
  | coe r => exact ⟨r, rfl⟩

/-- A sum of products of real numbers, a product of two and a sum of two are real. -/
theorem real_sum {n : ℕ} {f g : Fin n → EReal} (hf : ∀ k, ∃ r : ℝ, f k = r) (hg : ∀ k, ∃ r : ℝ, g k = r) : ∃ r : ℝ, ∑ k, f k * g k = r := by
  choose p hp using hf
  choose q hq using hg
  exact ⟨∑ k, p k * q k, by rw [Cert.Norm.coe_sum]; exact Finset.sum_congr rfl fun k _ => by rw [hp, hq, EReal.coe_mul]⟩
theorem real_mul {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩
theorem real_add {a b : EReal} (ha : ∃ r : ℝ, a = r) (hb : ∃ r : ℝ, b = r) : ∃ r : ℝ, a + b = r := by
  obtain ⟨p, rfl⟩ := ha
  obtain ⟨q, rfl⟩ := hb
  exact ⟨p + q, (EReal.coe_add p q).symm⟩

/-- A sum over `A·B` rows is the sum, over `A` blocks, of the sums over their `B` rows. -/
theorem sum_blocks {A B N : ℕ} (hN : N = A * B) (f : ℕ → EReal) :
    ∑ p : Fin A, ∑ r : Fin B, f (B * p.val + r.val) = ∑ k : Fin N, f k.val := by
  subst hN
  rw [← Fintype.sum_prod_type' (fun (p : Fin A) (r : Fin B) => f (B * p.val + r.val)),
    ← Equiv.sum_comp finProdFinEquiv]
  exact Finset.sum_congr rfl fun q _ => congrArg f (by simp [finProdFinEquiv, add_comm])

/-- Eight rows, the second and then the first stored last: what is read back. -/
theorem two_stores {sig : RefSig} {κ : Kind} {sp : Space} (v : View sig κ sp (⟨2, ![8, 1024]⟩ : Shape) .f32) (f : v.ty.Contents (Elt Ideal))
    (i1 : ∀ a, (![1, 0] : Fin 2 → ℕ) a + (![1, 1024] : Fin 2 → ℕ) a ≤ (![8, 1024] : Fin 2 → ℕ) a)
    (i0 : ∀ a, (![0, 0] : Fin 2 → ℕ) a + (![1, 1024] : Fin 2 → ℕ) a ≤ (![8, 1024] : Fin 2 → ℕ) a)
    (p1 p0 : FVec Ideal (⟨2, ![1, 1024]⟩ : Shape) .f32) (L : List (View.Piece (Elt Ideal) (⟨2, ![8, 1024]⟩ : Shape) .f32)) (q : Fin 8) (j : Fin 1024) :
    v.read (Elt Ideal) (v.writes (Elt Ideal) f (⟨Rect.unit (s := ⟨2, ![8, 1024]⟩) ![1, 0] ![1, 1024] i1, p1⟩
        :: ⟨Rect.unit (s := ⟨2, ![8, 1024]⟩) ![0, 0] ![1, 1024] i0, p0⟩ :: L)) (ix2 q j)
      = if q.val = 1 then p1 (ix2 (0 : Fin 1) j) else if q.val = 0 then p0 (ix2 (0 : Fin 1) j)
        else v.read (Elt Ideal) (v.writes (Elt Ideal) f L) (ix2 q j) := by
  by_cases h1 : q.val = 1
  · rw [if_pos h1]
    exact View.read_writes_cons_rows_of_mem v f (o := 1) i1 p1 _ _ (ix2 (0 : Fin 1) j) rfl (by show q.val = 1 + 0; omega) rfl
  · rw [if_neg h1, View.read_writes_cons_rows_of_not_mem v f (o := 1) (W := 1) i1 p1 _ _ rfl rfl (by show q.val < 1 ∨ 1 + 1 ≤ q.val; omega)]
    by_cases h0 : q.val = 0
    · rw [if_pos h0]
      exact View.read_writes_cons_rows_of_mem v f (o := 0) i0 p0 _ _ (ix2 (0 : Fin 1) j) rfl (by show q.val = 0 + 0; omega) rfl
    · rw [if_neg h0, View.read_writes_cons_rows_of_not_mem v f (o := 0) (W := 1) i0 p0 _ _ rfl rfl (by show q.val < 0 ∨ 0 + 1 ≤ q.val; omega)]

end Cert.Rows
-- ==== Proof.LnIn.lean ====
/-
  The step's first layer norm, forward: what the kernel's run leaves in its two results, over the extended reals, is what
  the norm's lines give of the whole array. Each point of the grid normalises 512 rows, so the proof is one row's equation,
  read once in the kernel's block and once in the reference.
-/
module

public import proofs.«01_k».proof.Proof.Blocks
public import proofs.«01_k».proof.Proof.Rows
public import proofs.«01_k».proof.Proof.Gen.LnInIdeal.Value
public import proofs.«01_k».proof.Proof.Gen.LnInRefIdeal.Read
public import Idealize.ShloMosaic.Lib.ValueIdx
public import Idealize.ShloMosaic.Lib.ValueLayout
public import Idealize.ShloMosaic.Lib.Claim

@[expose] public section

noncomputable section

namespace Cert.LnInProof

open Cert.LnInIdeal Cert.LnInIdeal.Gen Cert.LnInIdeal.Value Cert.Blocks Cert.Rows Cert.Norm
open Idealize.ShloMosaic Idealize.ShloMosaic.TcCoe Idealize.ShloMosaic.ValueIdx
open Idealize.ShloMosaic.Pipeline (Dat)
open scoped BigOperators

/-- A row normalised, scaled and moved. -/
def normed (x g b : Fin 1024 → EReal) (j : Fin 1024) : EReal := unit x j * g j + b j

/-! ## The reference -/

section Reference
open Cert.LnInRefIdeal.Read
open Cert.LnInRefIdeal (S8192 S8192x1)
open Cert.LnInRefIdeal.Gen (h_S_)

variable (x : FVec Ideal S8192x1024 .f32) (g b : FVec Ideal S1024 .f32)

/-- Row `r` of the norm's argument. -/
def row (r : Fin 8192) (j : Fin 1024) : EReal := x (ix2 r j)

theorem at_row (i : S8192x1024.Idx) : x i = row x (i 0) (i 1) := congrArg x (eq_ix2 i)

theorem v0 (i : S8192.Idx) : val_main_v0 (F := Ideal) x i = ∑ k, row x (i 0) k := by
  rw [val_main_v0_apply, show val_main_cst (F := Ideal) (Shape.Idx.first h_S_) = (0 : EReal) from Ideal.ofBits_zero_f32, zero_add]
  exact Finset.sum_congr rfl fun k _ => at_row x _
theorem v3 (i : S8192x1.Idx) : val_main_v3 (F := Ideal) x i = mean (row x (i 0)) := by
  rw [val_main_v3_apply, val_main_v1_apply, v0, val_main_v2_apply, val_main_cst_0_apply]
  rfl
theorem v5 (i : S8192x1024.Idx) : val_main_v5 (F := Ideal) x i = centre (row x (i 0)) (i 1) := by
  rw [val_main_v5_apply, val_main_v4_apply, v3, at_row x]
  rfl
theorem v12 (i : S8192x1024.Idx) : val_main_v12 (F := Ideal) x i = centre (row x (i 0)) (i 1) := by
  rw [val_main_v12_apply, val_main_v11_apply, v3, at_row x]
  rfl
theorem v7 (i : S8192.Idx) : val_main_v7 (F := Ideal) x i = ∑ k, centre (row x (i 0)) k * centre (row x (i 0)) k := by
  rw [val_main_v7_apply, show val_main_cst_1 (F := Ideal) (Shape.Idx.first h_S_) = (0 : EReal) from Ideal.ofBits_zero_f32, zero_add]
  refine Finset.sum_congr rfl fun k _ => ?_
  rw [val_main_v6_apply, v5]
  rfl
theorem v15 (i : S8192x1.Idx) : val_main_v15 (F := Ideal) x i = rstd (row x (i 0)) := by
  rw [val_main_v15_apply, val_main_v14_apply, val_main_v10_apply, val_main_v8_apply, v7, val_main_v9_apply, val_main_cst_2_apply, val_main_v13_apply,
    val_main_cst_3_apply]
  rfl
theorem v17 (i : S8192x1024.Idx) : val_main_v17 (F := Ideal) x i = unit (row x (i 0)) (i 1) := by
  rw [val_main_v17_apply, v12, val_main_v16_apply, v15]
  rfl
/-- THE REFERENCE'S RESULT at one index. -/
theorem v23 (i : S8192x1024.Idx) :
    val_main_v23 (F := Ideal) x g b i = normed (row x (i 0)) (fun j => g (ix1 j)) (fun j => b (ix1 j)) (i 1) := by
  rw [val_main_v23_apply, val_main_v20_apply, v17, val_main_v19_apply, val_main_v18_apply, val_main_v22_apply, val_main_v21_apply]
  exact congrArg₂ (fun u v => unit (row x (i 0)) (i 1) * g u + b v) (eq_ix1 _) (eq_ix1 _)

end Reference

/-! ## A block -/

def block_row (x : FVec Ideal S512x1024 .f32) (r : Fin 512) (j : Fin 1024) : EReal := x (ix2 r j)

theorem across (x : FVec Ideal S512x1024 .f32) (r : Fin 512) (u : Fin 1) :
    shapeCast S512x1 (multiReduction .add [1] S512 x 0x00000000#32 reduces_S512x1024_S512) shapeCasts_S512_S512x1 (ix2 r u) = ∑ k : Fin 1024, x (ix2 r k) :=
  row_total x _ _ _ _ r u
theorem wide (x : FVec Ideal S512x1 .f32) (h) (r : Fin 512) (j : Fin 1024) : broadcastTo S512x1024 x h (ix2 r j) = x (ix2 r (0 : Fin 1)) :=
  spread_column (by decide) x h r j
theorem tall (x : FVec Ideal S1x1024 .f32) (h) (r : Fin 512) (j : Fin 1024) : broadcastTo S512x1024 x h (ix2 r j) = x (ix2 (0 : Fin 1) j) :=
  spread_row (by decide) x h r j

/-- The centred block, as the body writes it. -/
def centred (x : FVec Ideal S512x1024 .f32) : FVec Ideal S512x1024 .f32 :=
  subf x (broadcastTo S512x1024 (divf (shapeCast S512x1 (multiReduction .add [1] S512 x 0x00000000#32 reduces_S512x1024_S512) shapeCasts_S512_S512x1)
    (broadcast S512x1 (Scalar.ofBits .f32 0x44800000#32))) broadcasts_S512x1_S512x1024)
theorem centred_at (x : FVec Ideal S512x1024 .f32) (r : Fin 512) (j : Fin 1024) : centred x (ix2 r j) = centre (block_row x r) j := by
  unfold centred
  rw [subf_apply, wide, divf_apply, across]
  rfl

/-- The column of the rows' reciprocal roots. -/
def roots (x : FVec Ideal S512x1024 .f32) : FVec Ideal S512x1 .f32 :=
  rsqrt (addf (divf (shapeCast S512x1 (multiReduction .add [1] S512 (mulf (centred x) (centred x)) 0x00000000#32 reduces_S512x1024_S512) shapeCasts_S512_S512x1)
    (broadcast S512x1 (Scalar.ofBits .f32 0x44800000#32))) (broadcast S512x1 (Scalar.ofBits .f32 0x3727C5AC#32)))
theorem roots_at (x : FVec Ideal S512x1024 .f32) (r : Fin 512) : roots x (ix2 r (0 : Fin 1)) = rstd (block_row x r) := by
  unfold roots
  show Ideal.rsqrt (Ideal.div (shapeCast S512x1 _ _ (ix2 r (0 : Fin 1))) _ + _) = _
  rw [across]
  simp only [mulf_apply, centred_at]
  rfl

theorem pay1_eq (x : FVec Ideal S512x1024 .f32) (g b : FVec Ideal S1x1024 .f32) :
    (k0_pay1 (F := Ideal) x g b : FVec Ideal S512x1024 .f32)
      = addf (mulf (mulf (centred x) (broadcastTo S512x1024 (roots x) broadcasts_S512x1_S512x1024)) (broadcastTo S512x1024 g broadcasts_S1x1024_S512x1024))
          (broadcastTo S512x1024 b broadcasts_S1x1024_S512x1024) := by
  unfold k0_pay1
  dsimp only
  simp only [shapeCast_self]
  rfl

theorem pay1 (x : FVec Ideal S512x1024 .f32) (g b : FVec Ideal S1x1024 .f32) (r : Fin 512) (j : Fin 1024) :
    (k0_pay1 (F := Ideal) x g b : FVec Ideal S512x1024 .f32) (ix2 r j)
      = normed (block_row x r) (fun j => g (ix2 (0 : Fin 1) j)) (fun j => b (ix2 (0 : Fin 1) j)) j := by
  rw [pay1_eq, addf_apply, mulf_apply, mulf_apply, centred_at, wide, roots_at, tall, tall]
  rfl

/-! ## The kernel's arrays -/

variable (m : (ℓ : Loc nD τ sig) → Buf (Elt Ideal) ℓ)

/-- The operands: the rows, the scale and the offset. -/
abbrev xs (c : Dev nD) : FVec Ideal S8192x1024 .f32 := m ((c : Thread nD τ).loc main_arg0)
abbrev gs (c : Dev nD) : FVec Ideal S1024 .f32 := m ((c : Thread nD τ).loc main_arg1)
abbrev bs (c : Dev nD) : FVec Ideal S1024 .f32 := m ((c : Thread nD τ).loc main_arg2)

abbrev pt (p : Fin 16) : Fin cfg0.N := ⟨p.val, lt_of_lt_of_eq p.isLt N_0.symm⟩

theorem index_x : ∀ p : Fin 16, win0_0.index (pt p) 0 = p.val ∧ win0_0.index (pt p) 1 = 0 := by decide +kernel
theorem index_g : ∀ p : Fin 16, win0_1.index (pt p) 0 = 0 ∧ win0_1.index (pt p) 1 = 0 := by decide +kernel
theorem index_b : ∀ p : Fin 16, win0_2.index (pt p) 0 = 0 ∧ win0_2.index (pt p) 1 = 0 := by decide +kernel
theorem index_3 : ∀ p : Fin 16, win0_3.index (pt p) 0 = p.val ∧ win0_3.index (pt p) 1 = 0 := by decide +kernel
theorem index_4 : ∀ p : Fin 16, win0_4.index (pt p) 0 = p.val ∧ win0_4.index (pt p) 1 = 0 := by decide +kernel
theorem flush_3 : ∀ p : Fin 16, (cfg0.win 3).flush (pt p) = true := by decide +kernel
theorem flush_4 : ∀ p : Fin 16, (cfg0.win 4).flush (pt p) = true := by decide +kernel

theorem one_row (v : FVec Ideal S1024 .f32) (j : Fin 1024) :
    broadcastInDim S1x1024 ![1] bcast_S1024_S1x1024_1 v (ix2 (0 : Fin 1) j) = v (ix1 j) :=
  broadcastInDim_apply _ bcast_S1024_S1x1024_1 v _ _ (fun a => match a with
    | ⟨0, _⟩ => by show j.val = if (1024 : Nat) = 1 then 0 else j.val; rw [if_neg (by decide)])

theorem scale (c : Dev nD) (j : Fin 1024) : (V m c main_v0 : FVec Ideal S1x1024 .f32) (ix2 (0 : Fin 1) j) = gs m c (ix1 j) := by
  have e : (V m c main_v0 : FVec Ideal S1x1024 .f32) = broadcastInDim S1x1024 ![1] bcast_S1024_S1x1024_1 (gs m c) := by
    entry_read
    rfl
  rw [e, one_row]
theorem offset (c : Dev nD) (j : Fin 1024) : (V m c main_v1 : FVec Ideal S1x1024 .f32) (ix2 (0 : Fin 1) j) = bs m c (ix1 j) := by
  have e : (V m c main_v1 : FVec Ideal S1x1024 .f32) = broadcastInDim S1x1024 ![1] bcast_S1024_S1x1024_1 (bs m c) := by
    entry_read
    rfl
  rw [e, one_row]

theorem block_x (c : Dev nD) (p : Fin 16) (r : Fin 512) (k : Fin 1024) :
    (iblk m c 0 (pt p) : FVec Ideal S512x1024 .f32) (ix2 r k) = xs m c (ix2 (⟨512 * p.val + r.val, by omega⟩ : Fin 8192) k) := by
  obtain ⟨h0, h1⟩ := index_x p
  unfold iblk
  rw [View.read_apply]
  show V m c main_arg0 _ = m (c.tc.loc main_arg0) _
  rw [V_main_arg0]
  congr 1
  funext a
  apply Fin.ext
  match a with
  | ⟨0, _⟩ => show win0_0.index (pt p) 0 * 512 + 1 * r.val = 512 * p.val + r.val; rw [h0]; omega
  | ⟨1, _⟩ => show win0_0.index (pt p) 1 * 1024 + 1 * k.val = k.val; rw [h1]; omega

theorem block_g (c : Dev nD) (p : Fin 16) (j : Fin 1024) : (iblk m c 1 (pt p) : FVec Ideal S1x1024 .f32) (ix2 (0 : Fin 1) j) = gs m c (ix1 j) := by
  obtain ⟨h0, h1⟩ := index_g p
  rw [← scale]
  unfold iblk
  rw [View.read_apply]
  show V m c main_v0 _ = V m c main_v0 _
  congr 1
  funext a
  apply Fin.ext
  match a with
  | ⟨0, _⟩ => show win0_1.index (pt p) 0 * 1 + 1 * 0 = 0; rw [h0]
  | ⟨1, _⟩ => show win0_1.index (pt p) 1 * 1024 + 1 * j.val = j.val; rw [h1]; omega

theorem block_b (c : Dev nD) (p : Fin 16) (j : Fin 1024) : (iblk m c 2 (pt p) : FVec Ideal S1x1024 .f32) (ix2 (0 : Fin 1) j) = bs m c (ix1 j) := by
  obtain ⟨h0, h1⟩ := index_b p
  rw [← offset]
  unfold iblk
  rw [View.read_apply]
  show V m c main_v1 _ = V m c main_v1 _
  congr 1
  funext a
  apply Fin.ext
  match a with
  | ⟨0, _⟩ => show win0_2.index (pt p) 0 * 1 + 1 * 0 = 0; rw [h0]
  | ⟨1, _⟩ => show win0_2.index (pt p) 1 * 1024 + 1 * j.val = j.val; rw [h1]; omega

/-- What a run of the body leaves. -/
theorem ahead_3 (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024 .f32) (h3 : a3.IsWhole) (a5 : Memref sig .tc .vmem S512x1024 .f32) (h5 : a5.IsWhole) (a6 : Memref sig .tc .vmem S512x1024 .bf16) (h6 : a6.IsWhole)
    (x0 : Vec Ideal S512x1024 .f32) (x1 x2 : Vec Ideal S1x1024 .f32) :
    out0_A_3 c i a1 h1 a2 h2 a3 h3 a5 h5 a6 h6 x0 x1 x2 = k0_pay1 x0 x1 x2 := by
  unfold out0_A_3
  rw [View.read_writes_eq_canon _ _ _ (cover0_A_3 c i a1 h1 a2 h2 a3 h3 a5 h5 a6 h6 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem ahead_4 (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024 .f32) (h3 : a3.IsWhole) (a5 : Memref sig .tc .vmem S512x1024 .f32) (h5 : a5.IsWhole) (a6 : Memref sig .tc .vmem S512x1024 .bf16) (h6 : a6.IsWhole)
    (x0 : Vec Ideal S512x1024 .f32) (x1 x2 : Vec Ideal S1x1024 .f32) :
    out0_A_4 c i a1 h1 a2 h2 a3 h3 a5 h5 a6 h6 x0 x1 x2 = k0_pay2 x0 x1 x2 := by
  unfold out0_A_4
  rw [View.read_writes_eq_canon _ _ _ (cover0_A_4 c i a1 h1 a2 h2 a3 h3 a5 h5 a6 h6 x0 x1 x2)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

/-- A block's row is the array's, normalised. -/
theorem block_value (c : Dev nD) (p : Fin 16) (r : Fin 512) (j : Fin 1024) (R : Fin 8192) (hR : R.val = 512 * p.val + r.val) :
    (k0_pay1 (F := Ideal) (iblk m c 0 (pt p)) (iblk m c 1 (pt p)) (iblk m c 2 (pt p)) : FVec Ideal S512x1024 .f32) (ix2 r j)
      = Cert.LnInRefIdeal.Read.val_main_v23 (F := Ideal) (xs m c) (gs m c) (bs m c) (ix2 R j) := by
  have e : (⟨512 * p.val + r.val, by omega⟩ : Fin 8192) = R := Fin.ext hR.symm
  have hx : block_row (iblk m c 0 (pt p)) r = row (xs m c) R := by
    funext k
    refine (block_x m c p r k).trans ?_
    rw [e]
    rfl
  refine (pay1 _ _ _ r j).trans ((v23 (xs m c) (gs m c) (bs m c) (ix2 R j)).trans ?_).symm
  rw [hx]
  show normed (row (xs m c) R) _ _ j = normed (row (xs m c) R) _ _ j
  congr 1
  · funext k
    exact (block_g m c p k).symm
  · funext k
    exact (block_b m c p k).symm

theorem split (r : Fin 8192) : ∃ (p : Fin 16) (q : Fin 512), r.val = 512 * p.val + q.val :=
  ⟨⟨r.val / 512, by omega⟩, ⟨r.val % 512, by omega⟩, by show r.val = 512 * (r.val / 512) + r.val % 512; omega⟩

/-- THE FIRST RESULT is the reference's. -/
theorem equal_3 (c : Dev nD) :
    ((dats m 0 c).arrAt 3 cfg0.N : FVec Ideal S8192x1024 .f32) = Cert.LnInRefIdeal.Read.val_main_v23 (F := Ideal) (xs m c) (gs m c) (bs m c) := by
  funext i
  obtain ⟨R, j, rfl⟩ : ∃ R j, i = ix2 R j := ⟨i 0, i 1, eq_ix2 i⟩
  obtain ⟨p, r, hR⟩ := split R
  obtain ⟨h0, h1⟩ := index_3 p
  have h := congrFun (blocks3 m c (pt p) (flush_3 p)) (ix2 r j)
  rw [View.read_apply] at h
  have ei : ((cfg0.win 3).blk (pt p)).view.emb (ix2 r j) = (ix2 R j : S8192x1024.Idx) := by
    funext a
    apply Fin.ext
    match a with
    | ⟨0, _⟩ => show win0_3.index (pt p) 0 * 512 + 1 * r.val = R.val; rw [h0]; omega
    | ⟨1, _⟩ => show win0_3.index (pt p) 1 * 1024 + 1 * j.val = j.val; rw [h1]; omega
  rw [ei] at h
  refine (show _ = _ from h).trans ?_
  rw [flushed3_A]
  show out0_A_3 c _ _ _ _ _ _ _ _ _ _ _ _ _ _ (ix2 r j) = _
  rw [ahead_3]
  exact block_value m c p r j R hR

/-- THE SECOND RESULT, the same rounded, is the reference's. -/
theorem equal_4 (c : Dev nD) :
    ((dats m 0 c).arrAt 4 cfg0.N : FVec Ideal S8192x1024 .bf16) = Cert.LnInRefIdeal.Read.val_main_v24 (F := Ideal) (xs m c) (gs m c) (bs m c) := by
  funext i
  obtain ⟨R, j, rfl⟩ : ∃ R j, i = ix2 R j := ⟨i 0, i 1, eq_ix2 i⟩
  obtain ⟨p, r, hR⟩ := split R
  obtain ⟨h0, h1⟩ := index_4 p
  have h := congrFun (blocks4 m c (pt p) (flush_4 p)) (ix2 r j)
  rw [View.read_apply] at h
  have ei : ((cfg0.win 4).blk (pt p)).view.emb (ix2 r j) = (ix2 R j : S8192x1024.Idx) := by
    funext a
    apply Fin.ext
    match a with
    | ⟨0, _⟩ => show win0_4.index (pt p) 0 * 512 + 1 * r.val = R.val; rw [h0]; omega
    | ⟨1, _⟩ => show win0_4.index (pt p) 1 * 1024 + 1 * j.val = j.val; rw [h1]; omega
  rw [ei] at h
  refine (show _ = _ from h).trans ?_
  rw [flushed4_A]
  show out0_A_4 c _ _ _ _ _ _ _ _ _ _ _ _ _ _ (ix2 r j) = _
  rw [ahead_4]
  exact block_value m c p r j R hR

end Cert.LnInProof

end
-- ==== Proof.AdamStep.lean ====
/-
  One entry of the optimiser's step, over the extended reals.
-/
module

public import Idealize.ShloMosaic.Lib.ValueIdx

@[expose] public section

noncomputable section

namespace Cert.AdamStep

open Idealize.ShloMosaic

/-- The first moment, from the gradient and the moment before. -/
def mean (g a : EReal) : EReal := Ideal.ofBits .f32 0x3F666666#32 * a + Ideal.ofBits .f32 0x3DCCCCCD#32 * g

/-- The second moment. -/
def square (g b : EReal) : EReal := Ideal.ofBits .f32 0x3F7FBE77#32 * b + Ideal.ofBits .f32 0x3A83126F#32 * (g * g)

/-- The weight's change, from the weight and the two new moments. -/
def change (w a b : EReal) : EReal :=
  FloatOps.mulf (F := Ideal) (φ := .f32) (Ideal.ofBits .f32 0xBA83126F#32)
    (FloatOps.addf (F := Ideal) (φ := .f32)
      (FloatOps.divf (F := Ideal) (φ := .f32) (FloatOps.divf (F := Ideal) (φ := .f32) a (Ideal.ofBits .f32 0x3F26BD02#32))
        (FloatOps.addf (F := Ideal) (φ := .f32)
          (FloatOps.sqrt (F := Ideal) (φ := .f32) (FloatOps.divf (F := Ideal) (φ := .f32) b (Ideal.ofBits .f32 0x3C231ACC#32)))
          (Ideal.ofBits .f32 0x322BCC77#32)))
      (FloatOps.mulf (F := Ideal) (φ := .f32) (Ideal.ofBits .f32 0x3C23D70A#32) w))

end Cert.AdamStep

end
-- ==== Proof.AdamOut.lean ====
/-
  The optimiser's step on a weight of 256 rows and 1024 columns: what the kernel's run leaves in its four results, over the extended reals, is what the
  reference computes. The gradient is the sum of two partial sums. The kernel takes a block of 128 rows at each point of
  its grid and works on it entry by entry.
-/
module

public import proofs.«01_k».proof.Proof.Blocks
public import proofs.«01_k».proof.Proof.AdamStep
public import proofs.«01_k».proof.Proof.Gen.AdamOutIdeal.Value
public import proofs.«01_k».proof.Proof.Gen.AdamOutRefIdeal.Read
public import Idealize.ShloMosaic.Lib.ValueIdx
public import Idealize.ShloMosaic.Lib.ValueLayout
public import Idealize.ShloMosaic.Lib.Claim

@[expose] public section

noncomputable section

namespace Cert.AdamOutProof

open Cert.AdamOutIdeal Cert.AdamOutIdeal.Gen Cert.AdamOutIdeal.Value Cert.Blocks Cert.AdamStep
open Idealize.ShloMosaic Idealize.ShloMosaic.TcCoe Idealize.ShloMosaic.ValueIdx

variable (m : (ℓ : Loc nD τ sig) → Buf (Elt Ideal) ℓ)

/-- The operands: the weight, the gradient's two partial sums, and the two moments. -/
abbrev ws (c : Dev nD) : FVec Ideal S1x256x1024 .f32 := m ((c : Thread nD τ).loc main_arg0)
abbrev gs (c : Dev nD) : FVec Ideal S256x1024 .f32 := m ((c : Thread nD τ).loc main_arg1)
abbrev hs (c : Dev nD) : FVec Ideal S256x1024 .f32 := m ((c : Thread nD τ).loc main_arg2)
abbrev ms (c : Dev nD) : FVec Ideal S1x256x1024 .f32 := m ((c : Thread nD τ).loc main_arg3)
abbrev vs (c : Dev nD) : FVec Ideal S1x256x1024 .f32 := m ((c : Thread nD τ).loc main_arg4)

/-- The point of the grid at the `p`-th block of rows. -/
abbrev pt (p : Fin 2) : Fin cfg0.N := ⟨p.val, lt_of_lt_of_eq p.isLt N_0.symm⟩

theorem index_0 : ∀ p : Fin 2, win0_0.index (pt p) 0 = 0 ∧ win0_0.index (pt p) 1 = p.val ∧ win0_0.index (pt p) 2 = 0 := by decide +kernel
theorem index_1 : ∀ p : Fin 2, win0_1.index (pt p) 0 = p.val ∧ win0_1.index (pt p) 1 = 0 := by decide +kernel
theorem index_2 : ∀ p : Fin 2, win0_2.index (pt p) 0 = p.val ∧ win0_2.index (pt p) 1 = 0 := by decide +kernel
theorem index_3 : ∀ p : Fin 2, win0_3.index (pt p) 0 = 0 ∧ win0_3.index (pt p) 1 = p.val ∧ win0_3.index (pt p) 2 = 0 := by decide +kernel
theorem index_4 : ∀ p : Fin 2, win0_4.index (pt p) 0 = 0 ∧ win0_4.index (pt p) 1 = p.val ∧ win0_4.index (pt p) 2 = 0 := by decide +kernel

/-- Row `r` of the `p`-th block of rows, among all rows. -/
abbrev row (p : Fin 2) (r : Fin 128) : Fin 256 := ⟨128 * p.val + r.val, by omega⟩

theorem block_w (c : Dev nD) (p : Fin 2) (r : Fin 128) (k : Fin 1024) :
    (iblk m c 0 (pt p) : FVec Ideal S1x128x1024 .f32) (ix3 (0 : Fin 1) r k) = ws m c (ix3 (0 : Fin 1) (row p r) k) := by
  obtain ⟨h0, h1, h2⟩ := index_0 p
  unfold iblk
  rw [View.read_apply]
  show V m c main_arg0 _ = m (c.tc.loc main_arg0) _
  rw [V_main_arg0]
  congr 1
  funext a
  apply Fin.ext
  match a with
  | ⟨0, _⟩ => show win0_0.index (pt p) 0 * 1 + 1 * 0 = 0; rw [h0]
  | ⟨1, _⟩ => show win0_0.index (pt p) 1 * 128 + 1 * r.val = 128 * p.val + r.val; rw [h1]; omega
  | ⟨2, _⟩ => show win0_0.index (pt p) 2 * 1024 + 1 * k.val = k.val; rw [h2]; omega

theorem block_g (c : Dev nD) (p : Fin 2) (r : Fin 128) (k : Fin 1024) :
    (iblk m c 1 (pt p) : FVec Ideal S128x1024 .f32) (ix2 r k) = gs m c (ix2 (row p r) k) := by
  obtain ⟨h0, h1⟩ := index_1 p
  unfold iblk
  rw [View.read_apply]
  show V m c main_arg1 _ = m (c.tc.loc main_arg1) _
  rw [V_main_arg1]
  congr 1
  funext a
  apply Fin.ext
  match a with
  | ⟨0, _⟩ => show win0_1.index (pt p) 0 * 128 + 1 * r.val = 128 * p.val + r.val; rw [h0]; omega
  | ⟨1, _⟩ => show win0_1.index (pt p) 1 * 1024 + 1 * k.val = k.val; rw [h1]; omega

theorem block_h (c : Dev nD) (p : Fin 2) (r : Fin 128) (k : Fin 1024) :
    (iblk m c 2 (pt p) : FVec Ideal S128x1024 .f32) (ix2 r k) = hs m c (ix2 (row p r) k) := by
  obtain ⟨h0, h1⟩ := index_2 p
  unfold iblk
  rw [View.read_apply]
  show V m c main_arg2 _ = m (c.tc.loc main_arg2) _
  rw [V_main_arg2]
  congr 1
  funext a
  apply Fin.ext
  match a with
  | ⟨0, _⟩ => show win0_2.index (pt p) 0 * 128 + 1 * r.val = 128 * p.val + r.val; rw [h0]; omega
  | ⟨1, _⟩ => show win0_2.index (pt p) 1 * 1024 + 1 * k.val = k.val; rw [h1]; omega

theorem block_m (c : Dev nD) (p : Fin 2) (r : Fin 128) (k : Fin 1024) :
    (iblk m c 3 (pt p) : FVec Ideal S1x128x1024 .f32) (ix3 (0 : Fin 1) r k) = ms m c (ix3 (0 : Fin 1) (row p r) k) := by
  obtain ⟨h0, h1, h2⟩ := index_3 p
  unfold iblk
  rw [View.read_apply]
  show V m c main_arg3 _ = m (c.tc.loc main_arg3) _
  rw [V_main_arg3]
  congr 1
  funext a
  apply Fin.ext
  match a with
  | ⟨0, _⟩ => show win0_3.index (pt p) 0 * 1 + 1 * 0 = 0; rw [h0]
  | ⟨1, _⟩ => show win0_3.index (pt p) 1 * 128 + 1 * r.val = 128 * p.val + r.val; rw [h1]; omega
  | ⟨2, _⟩ => show win0_3.index (pt p) 2 * 1024 + 1 * k.val = k.val; rw [h2]; omega

theorem block_v (c : Dev nD) (p : Fin 2) (r : Fin 128) (k : Fin 1024) :
    (iblk m c 4 (pt p) : FVec Ideal S1x128x1024 .f32) (ix3 (0 : Fin 1) r k) = vs m c (ix3 (0 : Fin 1) (row p r) k) := by
  obtain ⟨h0, h1, h2⟩ := index_4 p
  unfold iblk
  rw [View.read_apply]
  show V m c main_arg4 _ = m (c.tc.loc main_arg4) _
  rw [V_main_arg4]
  congr 1
  funext a
  apply Fin.ext
  match a with
  | ⟨0, _⟩ => show win0_4.index (pt p) 0 * 1 + 1 * 0 = 0; rw [h0]
  | ⟨1, _⟩ => show win0_4.index (pt p) 1 * 128 + 1 * r.val = 128 * p.val + r.val; rw [h1]; omega
  | ⟨2, _⟩ => show win0_4.index (pt p) 2 * 1024 + 1 * k.val = k.val; rw [h2]; omega

/-- A stack of one matrix, read as the matrix. -/
theorem flat (x : FVec Ideal S1x128x1024 .f32) (r : Fin 128) (k : Fin 1024) :
    (shapeCast S128x1024 x shapeCasts_S1x128x1024_S128x1024 : FVec Ideal S128x1024 .f32) (ix2 r k) = x (ix3 (0 : Fin 1) r k) :=
  shapeCast_apply _ _ _ _ (by rw [Shape.rowMajor_val_two, Shape.rowMajor_val_three]; show (0 * 128 + r.val) * 1024 + k.val = r.val * 1024 + k.val; omega)

theorem host_flat (x : FVec Ideal S1x256x1024 .f32) (r : Fin 256) (k : Fin 1024) :
    (shapeCast Cert.AdamOutRefIdeal.S256x1024 x Cert.AdamOutRefIdeal.Gen.shapeCasts_S1x256x1024_S256x1024 : FVec Ideal S256x1024 .f32) (ix2 r k)
      = x (ix3 (0 : Fin 1) r k) :=
  shapeCast_apply _ _ _ _ (by rw [Shape.rowMajor_val_two, Shape.rowMajor_val_three]; show (0 * 256 + r.val) * 1024 + k.val = r.val * 1024 + k.val; omega)

/-! One point's blocks of the results, entry by entry. -/

theorem pay_mean (g h : FVec Ideal S128x1024 .f32) (x : FVec Ideal S1x128x1024 .f32) (r : Fin 128) (k : Fin 1024) :
    (k0_pay2 (F := Ideal) g h x : FVec Ideal S128x1024 .f32) (ix2 r k) = mean (g (ix2 r k) + h (ix2 r k)) (x (ix3 (0 : Fin 1) r k)) := by
  rw [← flat x]; rfl

theorem pay_square (g h : FVec Ideal S128x1024 .f32) (x : FVec Ideal S1x128x1024 .f32) (r : Fin 128) (k : Fin 1024) :
    (k0_pay3 (F := Ideal) g h x : FVec Ideal S128x1024 .f32) (ix2 r k) = square (g (ix2 r k) + h (ix2 r k)) (x (ix3 (0 : Fin 1) r k)) := by
  rw [← flat x]; rfl

theorem pay_change (g h : FVec Ideal S128x1024 .f32) (w x y : FVec Ideal S1x128x1024 .f32) (r : Fin 128) (k : Fin 1024) :
    (k0_pay4 (F := Ideal) g h w x y : FVec Ideal S128x1024 .f32) (ix2 r k)
      = change (w (ix3 (0 : Fin 1) r k)) (mean (g (ix2 r k) + h (ix2 r k)) (x (ix3 (0 : Fin 1) r k)))
          (square (g (ix2 r k) + h (ix2 r k)) (y (ix3 (0 : Fin 1) r k))) := by
  rw [← pay_mean, ← pay_square, ← flat w]; rfl

/-! The reference's results, entry by entry. -/

theorem reference_mean (g h : FVec Ideal S256x1024 .f32) (x : FVec Ideal S1x256x1024 .f32) (r : Fin 256) (k : Fin 1024) :
    (Cert.AdamOutRefIdeal.Read.val_main_v6 (F := Ideal) g h x : FVec Ideal S256x1024 .f32) (ix2 r k)
      = mean (g (ix2 r k) + h (ix2 r k)) (x (ix3 (0 : Fin 1) r k)) := by
  rw [← host_flat x]; rfl

theorem reference_square (g h : FVec Ideal S256x1024 .f32) (x : FVec Ideal S1x256x1024 .f32) (r : Fin 256) (k : Fin 1024) :
    (Cert.AdamOutRefIdeal.Read.val_main_v13 (F := Ideal) g h x : FVec Ideal S256x1024 .f32) (ix2 r k)
      = square (g (ix2 r k) + h (ix2 r k)) (x (ix3 (0 : Fin 1) r k)) := by
  rw [← host_flat x]; rfl

theorem reference_change (g h : FVec Ideal S256x1024 .f32) (w x y : FVec Ideal S1x256x1024 .f32) (r : Fin 256) (k : Fin 1024) :
    (Cert.AdamOutRefIdeal.Read.val_main_v27 (F := Ideal) w g h x y : FVec Ideal S256x1024 .f32) (ix2 r k)
      = change (w (ix3 (0 : Fin 1) r k)) (mean (g (ix2 r k) + h (ix2 r k)) (x (ix3 (0 : Fin 1) r k)))
          (square (g (ix2 r k) + h (ix2 r k)) (y (ix3 (0 : Fin 1) r k))) := by
  rw [← reference_mean, ← reference_square, ← host_flat w]; rfl

/-- Every row lies in one block of rows. -/
theorem split (r : Fin 256) : ∃ (p : Fin 2) (r' : Fin 128), row p r' = r :=
  ⟨⟨r.val / 128, by omega⟩, ⟨r.val % 128, by omega⟩, Fin.ext (by show 128 * (r.val / 128) + r.val % 128 = r.val; omega)⟩

theorem index_5 : ∀ p : Fin 2, win0_5.index (pt p) 0 = p.val ∧ win0_5.index (pt p) 1 = 0 := by decide +kernel
theorem flush_5 : ∀ p : Fin 2, (cfg0.win 5).flush (pt p) = true := by decide +kernel

/-- The gradient: the two programs' results are the same array. -/
theorem equal_5 (c : Dev nD) :
    ((dats m 0 c).arrAt 5 cfg0.N : FVec Ideal S256x1024 .f32) = Cert.AdamOutRefIdeal.Read.val_main_v0 (F := Ideal) (gs m c) (hs m c) := by
  funext i
  obtain ⟨r, k, rfl⟩ : ∃ r k, i = ix2 r k := ⟨i 0, i 1, eq_ix2 i⟩
  obtain ⟨p, r', rfl⟩ := split r
  obtain ⟨h0, h1⟩ := index_5 p
  have h := congrFun (blocks5 m c (pt p) (flush_5 p)) (ix2 r' k)
  rw [View.read_apply] at h
  have ei : ((cfg0.win 5).blk (pt p)).view.emb (ix2 r' k) = (ix2 (row p r') k : S256x1024.Idx) := by
    funext a
    apply Fin.ext
    match a with
    | ⟨0, _⟩ => show win0_5.index (pt p) 0 * 128 + 1 * r'.val = 128 * p.val + r'.val; rw [h0]; omega
    | ⟨1, _⟩ => show win0_5.index (pt p) 1 * 1024 + 1 * k.val = k.val; rw [h1]; omega
  rw [ei] at h
  refine (show _ = _ from h).trans ?_
  rw [flushed5]
  show out0_5 (iblk m c 0 (pt p)) (iblk m c 1 (pt p)) (iblk m c 2 (pt p)) (iblk m c 3 (pt p)) (iblk m c 4 (pt p)) (ix2 r' k) = _
  unfold out0_5
  rw [View.canon_unit_zero hz]
  simp only [View.ld_unit_zero (S := S128x1024) hz]
  exact congrArg₂ (fun a b : EReal => a + b) (block_g m c p r' k) (block_h m c p r' k)

theorem index_6 : ∀ p : Fin 2, win0_6.index (pt p) 0 = p.val ∧ win0_6.index (pt p) 1 = 0 := by decide +kernel
theorem flush_6 : ∀ p : Fin 2, (cfg0.win 6).flush (pt p) = true := by decide +kernel

/-- The step: the two programs' results are the same array. -/
theorem equal_6 (c : Dev nD) :
    ((dats m 0 c).arrAt 6 cfg0.N : FVec Ideal S256x1024 .f32) = Cert.AdamOutRefIdeal.Read.val_main_v27 (F := Ideal) (ws m c) (gs m c) (hs m c) (ms m c) (vs m c) := by
  funext i
  obtain ⟨r, k, rfl⟩ : ∃ r k, i = ix2 r k := ⟨i 0, i 1, eq_ix2 i⟩
  obtain ⟨p, r', rfl⟩ := split r
  obtain ⟨h0, h1⟩ := index_6 p
  have h := congrFun (blocks6 m c (pt p) (flush_6 p)) (ix2 r' k)
  rw [View.read_apply] at h
  have ei : ((cfg0.win 6).blk (pt p)).view.emb (ix2 r' k) = (ix2 (row p r') k : S256x1024.Idx) := by
    funext a
    apply Fin.ext
    match a with
    | ⟨0, _⟩ => show win0_6.index (pt p) 0 * 128 + 1 * r'.val = 128 * p.val + r'.val; rw [h0]; omega
    | ⟨1, _⟩ => show win0_6.index (pt p) 1 * 1024 + 1 * k.val = k.val; rw [h1]; omega
  rw [ei] at h
  refine (show _ = _ from h).trans ?_
  rw [flushed6]
  show out0_6 (iblk m c 0 (pt p)) (iblk m c 1 (pt p)) (iblk m c 2 (pt p)) (iblk m c 3 (pt p)) (iblk m c 4 (pt p)) (ix2 r' k) = _
  unfold out0_6
  rw [View.canon_unit_zero hz]
  simp only [View.ld_unit_zero (S := S128x1024) hz, View.ld_unit_zero (S := S1x128x1024) hz3]
  rw [pay_change, reference_change, block_w, block_g, block_h, block_m, block_v]

theorem index_7 : ∀ p : Fin 2, win0_7.index (pt p) 0 = p.val ∧ win0_7.index (pt p) 1 = 0 := by decide +kernel
theorem flush_7 : ∀ p : Fin 2, (cfg0.win 7).flush (pt p) = true := by decide +kernel

/-- The first moment: the two programs' results are the same array. -/
theorem equal_7 (c : Dev nD) :
    ((dats m 0 c).arrAt 7 cfg0.N : FVec Ideal S256x1024 .f32) = Cert.AdamOutRefIdeal.Read.val_main_v6 (F := Ideal) (gs m c) (hs m c) (ms m c) := by
  funext i
  obtain ⟨r, k, rfl⟩ : ∃ r k, i = ix2 r k := ⟨i 0, i 1, eq_ix2 i⟩
  obtain ⟨p, r', rfl⟩ := split r
  obtain ⟨h0, h1⟩ := index_7 p
  have h := congrFun (blocks7 m c (pt p) (flush_7 p)) (ix2 r' k)
  rw [View.read_apply] at h
  have ei : ((cfg0.win 7).blk (pt p)).view.emb (ix2 r' k) = (ix2 (row p r') k : S256x1024.Idx) := by
    funext a
    apply Fin.ext
    match a with
    | ⟨0, _⟩ => show win0_7.index (pt p) 0 * 128 + 1 * r'.val = 128 * p.val + r'.val; rw [h0]; omega
    | ⟨1, _⟩ => show win0_7.index (pt p) 1 * 1024 + 1 * k.val = k.val; rw [h1]; omega
  rw [ei] at h
  refine (show _ = _ from h).trans ?_
  rw [flushed7]
  show out0_7 (iblk m c 0 (pt p)) (iblk m c 1 (pt p)) (iblk m c 2 (pt p)) (iblk m c 3 (pt p)) (iblk m c 4 (pt p)) (ix2 r' k) = _
  unfold out0_7
  rw [View.canon_unit_zero hz]
  simp only [View.ld_unit_zero (S := S128x1024) hz, View.ld_unit_zero (S := S1x128x1024) hz3]
  rw [pay_mean, reference_mean, block_g, block_h, block_m]

theorem index_8 : ∀ p : Fin 2, win0_8.index (pt p) 0 = p.val ∧ win0_8.index (pt p) 1 = 0 := by decide +kernel
theorem flush_8 : ∀ p : Fin 2, (cfg0.win 8).flush (pt p) = true := by decide +kernel

/-- The second moment: the two programs' results are the same array. -/
theorem equal_8 (c : Dev nD) :
    ((dats m 0 c).arrAt 8 cfg0.N : FVec Ideal S256x1024 .f32) = Cert.AdamOutRefIdeal.Read.val_main_v13 (F := Ideal) (gs m c) (hs m c) (vs m c) := by
  funext i
  obtain ⟨r, k, rfl⟩ : ∃ r k, i = ix2 r k := ⟨i 0, i 1, eq_ix2 i⟩
  obtain ⟨p, r', rfl⟩ := split r
  obtain ⟨h0, h1⟩ := index_8 p
  have h := congrFun (blocks8 m c (pt p) (flush_8 p)) (ix2 r' k)
  rw [View.read_apply] at h
  have ei : ((cfg0.win 8).blk (pt p)).view.emb (ix2 r' k) = (ix2 (row p r') k : S256x1024.Idx) := by
    funext a
    apply Fin.ext
    match a with
    | ⟨0, _⟩ => show win0_8.index (pt p) 0 * 128 + 1 * r'.val = 128 * p.val + r'.val; rw [h0]; omega
    | ⟨1, _⟩ => show win0_8.index (pt p) 1 * 1024 + 1 * k.val = k.val; rw [h1]; omega
  rw [ei] at h
  refine (show _ = _ from h).trans ?_
  rw [flushed8]
  show out0_8 (iblk m c 0 (pt p)) (iblk m c 1 (pt p)) (iblk m c 2 (pt p)) (iblk m c 3 (pt p)) (iblk m c 4 (pt p)) (ix2 r' k) = _
  unfold out0_8
  rw [View.canon_unit_zero hz]
  simp only [View.ld_unit_zero (S := S128x1024) hz, View.ld_unit_zero (S := S1x128x1024) hz3]
  rw [pay_square, reference_square, block_g, block_h, block_v]

end Cert.AdamOutProof

end
-- ==== Proof.AdamUp.lean ====
/-
  The optimiser's step on a weight of 1024 rows and 1024 columns: what the kernel's run leaves in its four results, over the extended reals, is what the
  reference computes. The gradient is the sum of two partial sums. The kernel takes a block of 256 rows at each point of
  its grid and works on it entry by entry.
-/
module

public import proofs.«01_k».proof.Proof.Blocks
public import proofs.«01_k».proof.Proof.AdamStep
public import proofs.«01_k».proof.Proof.Gen.AdamUpIdeal.Value
public import proofs.«01_k».proof.Proof.Gen.AdamUpRefIdeal.Read
public import Idealize.ShloMosaic.Lib.ValueIdx
public import Idealize.ShloMosaic.Lib.ValueLayout
public import Idealize.ShloMosaic.Lib.Claim

@[expose] public section

noncomputable section

namespace Cert.AdamUpProof

open Cert.AdamUpIdeal Cert.AdamUpIdeal.Gen Cert.AdamUpIdeal.Value Cert.Blocks Cert.AdamStep
open Idealize.ShloMosaic Idealize.ShloMosaic.TcCoe Idealize.ShloMosaic.ValueIdx

variable (m : (ℓ : Loc nD τ sig) → Buf (Elt Ideal) ℓ)

/-- The operands: the weight, the gradient's two partial sums, and the two moments. -/
abbrev ws (c : Dev nD) : FVec Ideal S1x1024x1024 .f32 := m ((c : Thread nD τ).loc main_arg0)
abbrev gs (c : Dev nD) : FVec Ideal S1024x1024 .f32 := m ((c : Thread nD τ).loc main_arg1)
abbrev hs (c : Dev nD) : FVec Ideal S1024x1024 .f32 := m ((c : Thread nD τ).loc main_arg2)
abbrev ms (c : Dev nD) : FVec Ideal S1x1024x1024 .f32 := m ((c : Thread nD τ).loc main_arg3)
abbrev vs (c : Dev nD) : FVec Ideal S1x1024x1024 .f32 := m ((c : Thread nD τ).loc main_arg4)

/-- The point of the grid at the `p`-th block of rows. -/
abbrev pt (p : Fin 4) : Fin cfg0.N := ⟨p.val, lt_of_lt_of_eq p.isLt N_0.symm⟩

theorem index_0 : ∀ p : Fin 4, win0_0.index (pt p) 0 = 0 ∧ win0_0.index (pt p) 1 = p.val ∧ win0_0.index (pt p) 2 = 0 := by decide +kernel
theorem index_1 : ∀ p : Fin 4, win0_1.index (pt p) 0 = p.val ∧ win0_1.index (pt p) 1 = 0 := by decide +kernel
theorem index_2 : ∀ p : Fin 4, win0_2.index (pt p) 0 = p.val ∧ win0_2.index (pt p) 1 = 0 := by decide +kernel
theorem index_3 : ∀ p : Fin 4, win0_3.index (pt p) 0 = 0 ∧ win0_3.index (pt p) 1 = p.val ∧ win0_3.index (pt p) 2 = 0 := by decide +kernel
theorem index_4 : ∀ p : Fin 4, win0_4.index (pt p) 0 = 0 ∧ win0_4.index (pt p) 1 = p.val ∧ win0_4.index (pt p) 2 = 0 := by decide +kernel

/-- Row `r` of the `p`-th block of rows, among all rows. -/
abbrev row (p : Fin 4) (r : Fin 256) : Fin 1024 := ⟨256 * p.val + r.val, by omega⟩

theorem block_w (c : Dev nD) (p : Fin 4) (r : Fin 256) (k : Fin 1024) :
    (iblk m c 0 (pt p) : FVec Ideal S1x256x1024 .f32) (ix3 (0 : Fin 1) r k) = ws m c (ix3 (0 : Fin 1) (row p r) k) := by
  obtain ⟨h0, h1, h2⟩ := index_0 p
  unfold iblk
  rw [View.read_apply]
  show V m c main_arg0 _ = m (c.tc.loc main_arg0) _
  rw [V_main_arg0]
  congr 1
  funext a
  apply Fin.ext
  match a with
  | ⟨0, _⟩ => show win0_0.index (pt p) 0 * 1 + 1 * 0 = 0; rw [h0]
  | ⟨1, _⟩ => show win0_0.index (pt p) 1 * 256 + 1 * r.val = 256 * p.val + r.val; rw [h1]; omega
  | ⟨2, _⟩ => show win0_0.index (pt p) 2 * 1024 + 1 * k.val = k.val; rw [h2]; omega

theorem block_g (c : Dev nD) (p : Fin 4) (r : Fin 256) (k : Fin 1024) :
    (iblk m c 1 (pt p) : FVec Ideal S256x1024 .f32) (ix2 r k) = gs m c (ix2 (row p r) k) := by
  obtain ⟨h0, h1⟩ := index_1 p
  unfold iblk
  rw [View.read_apply]
  show V m c main_arg1 _ = m (c.tc.loc main_arg1) _
  rw [V_main_arg1]
  congr 1
  funext a
  apply Fin.ext
  match a with
  | ⟨0, _⟩ => show win0_1.index (pt p) 0 * 256 + 1 * r.val = 256 * p.val + r.val; rw [h0]; omega
  | ⟨1, _⟩ => show win0_1.index (pt p) 1 * 1024 + 1 * k.val = k.val; rw [h1]; omega

theorem block_h (c : Dev nD) (p : Fin 4) (r : Fin 256) (k : Fin 1024) :
    (iblk m c 2 (pt p) : FVec Ideal S256x1024 .f32) (ix2 r k) = hs m c (ix2 (row p r) k) := by
  obtain ⟨h0, h1⟩ := index_2 p
  unfold iblk
  rw [View.read_apply]
  show V m c main_arg2 _ = m (c.tc.loc main_arg2) _
  rw [V_main_arg2]
  congr 1
  funext a
  apply Fin.ext
  match a with
  | ⟨0, _⟩ => show win0_2.index (pt p) 0 * 256 + 1 * r.val = 256 * p.val + r.val; rw [h0]; omega
  | ⟨1, _⟩ => show win0_2.index (pt p) 1 * 1024 + 1 * k.val = k.val; rw [h1]; omega

theorem block_m (c : Dev nD) (p : Fin 4) (r : Fin 256) (k : Fin 1024) :
    (iblk m c 3 (pt p) : FVec Ideal S1x256x1024 .f32) (ix3 (0 : Fin 1) r k) = ms m c (ix3 (0 : Fin 1) (row p r) k) := by
  obtain ⟨h0, h1, h2⟩ := index_3 p
  unfold iblk
  rw [View.read_apply]
  show V m c main_arg3 _ = m (c.tc.loc main_arg3) _
  rw [V_main_arg3]
  congr 1
  funext a
  apply Fin.ext
  match a with
  | ⟨0, _⟩ => show win0_3.index (pt p) 0 * 1 + 1 * 0 = 0; rw [h0]
  | ⟨1, _⟩ => show win0_3.index (pt p) 1 * 256 + 1 * r.val = 256 * p.val + r.val; rw [h1]; omega
  | ⟨2, _⟩ => show win0_3.index (pt p) 2 * 1024 + 1 * k.val = k.val; rw [h2]; omega

theorem block_v (c : Dev nD) (p : Fin 4) (r : Fin 256) (k : Fin 1024) :
    (iblk m c 4 (pt p) : FVec Ideal S1x256x1024 .f32) (ix3 (0 : Fin 1) r k) = vs m c (ix3 (0 : Fin 1) (row p r) k) := by
  obtain ⟨h0, h1, h2⟩ := index_4 p
  unfold iblk
  rw [View.read_apply]
  show V m c main_arg4 _ = m (c.tc.loc main_arg4) _
  rw [V_main_arg4]
  congr 1
  funext a
  apply Fin.ext
  match a with
  | ⟨0, _⟩ => show win0_4.index (pt p) 0 * 1 + 1 * 0 = 0; rw [h0]
  | ⟨1, _⟩ => show win0_4.index (pt p) 1 * 256 + 1 * r.val = 256 * p.val + r.val; rw [h1]; omega
  | ⟨2, _⟩ => show win0_4.index (pt p) 2 * 1024 + 1 * k.val = k.val; rw [h2]; omega

/-- A stack of one matrix, read as the matrix. -/
theorem flat (x : FVec Ideal S1x256x1024 .f32) (r : Fin 256) (k : Fin 1024) :
    (shapeCast S256x1024 x shapeCasts_S1x256x1024_S256x1024 : FVec Ideal S256x1024 .f32) (ix2 r k) = x (ix3 (0 : Fin 1) r k) :=
  shapeCast_apply _ _ _ _ (by rw [Shape.rowMajor_val_two, Shape.rowMajor_val_three]; show (0 * 256 + r.val) * 1024 + k.val = r.val * 1024 + k.val; omega)

theorem host_flat (x : FVec Ideal S1x1024x1024 .f32) (r : Fin 1024) (k : Fin 1024) :
    (shapeCast Cert.AdamUpRefIdeal.S1024x1024 x Cert.AdamUpRefIdeal.Gen.shapeCasts_S1x1024x1024_S1024x1024 : FVec Ideal S1024x1024 .f32) (ix2 r k)
      = x (ix3 (0 : Fin 1) r k) :=
  shapeCast_apply _ _ _ _ (by rw [Shape.rowMajor_val_two, Shape.rowMajor_val_three]; show (0 * 1024 + r.val) * 1024 + k.val = r.val * 1024 + k.val; omega)

/-! One point's blocks of the results, entry by entry. -/

theorem pay_mean (g h : FVec Ideal S256x1024 .f32) (x : FVec Ideal S1x256x1024 .f32) (r : Fin 256) (k : Fin 1024) :
    (k0_pay2 (F := Ideal) g h x : FVec Ideal S256x1024 .f32) (ix2 r k) = mean (g (ix2 r k) + h (ix2 r k)) (x (ix3 (0 : Fin 1) r k)) := by
  rw [← flat x]; rfl

theorem pay_square (g h : FVec Ideal S256x1024 .f32) (x : FVec Ideal S1x256x1024 .f32) (r : Fin 256) (k : Fin 1024) :
    (k0_pay3 (F := Ideal) g h x : FVec Ideal S256x1024 .f32) (ix2 r k) = square (g (ix2 r k) + h (ix2 r k)) (x (ix3 (0 : Fin 1) r k)) := by
  rw [← flat x]; rfl

theorem pay_change (g h : FVec Ideal S256x1024 .f32) (w x y : FVec Ideal S1x256x1024 .f32) (r : Fin 256) (k : Fin 1024) :
    (k0_pay4 (F := Ideal) g h w x y : FVec Ideal S256x1024 .f32) (ix2 r k)
      = change (w (ix3 (0 : Fin 1) r k)) (mean (g (ix2 r k) + h (ix2 r k)) (x (ix3 (0 : Fin 1) r k)))
          (square (g (ix2 r k) + h (ix2 r k)) (y (ix3 (0 : Fin 1) r k))) := by
  rw [← pay_mean, ← pay_square, ← flat w]; rfl

/-! The reference's results, entry by entry. -/

theorem reference_mean (g h : FVec Ideal S1024x1024 .f32) (x : FVec Ideal S1x1024x1024 .f32) (r : Fin 1024) (k : Fin 1024) :
    (Cert.AdamUpRefIdeal.Read.val_main_v6 (F := Ideal) g h x : FVec Ideal S1024x1024 .f32) (ix2 r k)
      = mean (g (ix2 r k) + h (ix2 r k)) (x (ix3 (0 : Fin 1) r k)) := by
  rw [← host_flat x]; rfl

theorem reference_square (g h : FVec Ideal S1024x1024 .f32) (x : FVec Ideal S1x1024x1024 .f32) (r : Fin 1024) (k : Fin 1024) :
    (Cert.AdamUpRefIdeal.Read.val_main_v13 (F := Ideal) g h x : FVec Ideal S1024x1024 .f32) (ix2 r k)
      = square (g (ix2 r k) + h (ix2 r k)) (x (ix3 (0 : Fin 1) r k)) := by
  rw [← host_flat x]; rfl

theorem reference_change (g h : FVec Ideal S1024x1024 .f32) (w x y : FVec Ideal S1x1024x1024 .f32) (r : Fin 1024) (k : Fin 1024) :
    (Cert.AdamUpRefIdeal.Read.val_main_v27 (F := Ideal) w g h x y : FVec Ideal S1024x1024 .f32) (ix2 r k)
      = change (w (ix3 (0 : Fin 1) r k)) (mean (g (ix2 r k) + h (ix2 r k)) (x (ix3 (0 : Fin 1) r k)))
          (square (g (ix2 r k) + h (ix2 r k)) (y (ix3 (0 : Fin 1) r k))) := by
  rw [← reference_mean, ← reference_square, ← host_flat w]; rfl

/-- Every row lies in one block of rows. -/
theorem split (r : Fin 1024) : ∃ (p : Fin 4) (r' : Fin 256), row p r' = r :=
  ⟨⟨r.val / 256, by omega⟩, ⟨r.val % 256, by omega⟩, Fin.ext (by show 256 * (r.val / 256) + r.val % 256 = r.val; omega)⟩

theorem index_5 : ∀ p : Fin 4, win0_5.index (pt p) 0 = p.val ∧ win0_5.index (pt p) 1 = 0 := by decide +kernel
theorem flush_5 : ∀ p : Fin 4, (cfg0.win 5).flush (pt p) = true := by decide +kernel

/-- The gradient: the two programs' results are the same array. -/
theorem equal_5 (c : Dev nD) :
    ((dats m 0 c).arrAt 5 cfg0.N : FVec Ideal S1024x1024 .f32) = Cert.AdamUpRefIdeal.Read.val_main_v0 (F := Ideal) (gs m c) (hs m c) := by
  funext i
  obtain ⟨r, k, rfl⟩ : ∃ r k, i = ix2 r k := ⟨i 0, i 1, eq_ix2 i⟩
  obtain ⟨p, r', rfl⟩ := split r
  obtain ⟨h0, h1⟩ := index_5 p
  have h := congrFun (blocks5 m c (pt p) (flush_5 p)) (ix2 r' k)
  rw [View.read_apply] at h
  have ei : ((cfg0.win 5).blk (pt p)).view.emb (ix2 r' k) = (ix2 (row p r') k : S1024x1024.Idx) := by
    funext a
    apply Fin.ext
    match a with
    | ⟨0, _⟩ => show win0_5.index (pt p) 0 * 256 + 1 * r'.val = 256 * p.val + r'.val; rw [h0]; omega
    | ⟨1, _⟩ => show win0_5.index (pt p) 1 * 1024 + 1 * k.val = k.val; rw [h1]; omega
  rw [ei] at h
  refine (show _ = _ from h).trans ?_
  rw [flushed5]
  show out0_5 (iblk m c 0 (pt p)) (iblk m c 1 (pt p)) (iblk m c 2 (pt p)) (iblk m c 3 (pt p)) (iblk m c 4 (pt p)) (ix2 r' k) = _
  unfold out0_5
  rw [View.canon_unit_zero hz]
  simp only [View.ld_unit_zero (S := S256x1024) hz]
  exact congrArg₂ (fun a b : EReal => a + b) (block_g m c p r' k) (block_h m c p r' k)

theorem index_6 : ∀ p : Fin 4, win0_6.index (pt p) 0 = p.val ∧ win0_6.index (pt p) 1 = 0 := by decide +kernel
theorem flush_6 : ∀ p : Fin 4, (cfg0.win 6).flush (pt p) = true := by decide +kernel

/-- The step: the two programs' results are the same array. -/
theorem equal_6 (c : Dev nD) :
    ((dats m 0 c).arrAt 6 cfg0.N : FVec Ideal S1024x1024 .f32) = Cert.AdamUpRefIdeal.Read.val_main_v27 (F := Ideal) (ws m c) (gs m c) (hs m c) (ms m c) (vs m c) := by
  funext i
  obtain ⟨r, k, rfl⟩ : ∃ r k, i = ix2 r k := ⟨i 0, i 1, eq_ix2 i⟩
  obtain ⟨p, r', rfl⟩ := split r
  obtain ⟨h0, h1⟩ := index_6 p
  have h := congrFun (blocks6 m c (pt p) (flush_6 p)) (ix2 r' k)
  rw [View.read_apply] at h
  have ei : ((cfg0.win 6).blk (pt p)).view.emb (ix2 r' k) = (ix2 (row p r') k : S1024x1024.Idx) := by
    funext a
    apply Fin.ext
    match a with
    | ⟨0, _⟩ => show win0_6.index (pt p) 0 * 256 + 1 * r'.val = 256 * p.val + r'.val; rw [h0]; omega
    | ⟨1, _⟩ => show win0_6.index (pt p) 1 * 1024 + 1 * k.val = k.val; rw [h1]; omega
  rw [ei] at h
  refine (show _ = _ from h).trans ?_
  rw [flushed6]
  show out0_6 (iblk m c 0 (pt p)) (iblk m c 1 (pt p)) (iblk m c 2 (pt p)) (iblk m c 3 (pt p)) (iblk m c 4 (pt p)) (ix2 r' k) = _
  unfold out0_6
  rw [View.canon_unit_zero hz]
  simp only [View.ld_unit_zero (S := S256x1024) hz, View.ld_unit_zero (S := S1x256x1024) hz3]
  rw [pay_change, reference_change, block_w, block_g, block_h, block_m, block_v]

theorem index_7 : ∀ p : Fin 4, win0_7.index (pt p) 0 = p.val ∧ win0_7.index (pt p) 1 = 0 := by decide +kernel
theorem flush_7 : ∀ p : Fin 4, (cfg0.win 7).flush (pt p) = true := by decide +kernel

/-- The first moment: the two programs' results are the same array. -/
theorem equal_7 (c : Dev nD) :
    ((dats m 0 c).arrAt 7 cfg0.N : FVec Ideal S1024x1024 .f32) = Cert.AdamUpRefIdeal.Read.val_main_v6 (F := Ideal) (gs m c) (hs m c) (ms m c) := by
  funext i
  obtain ⟨r, k, rfl⟩ : ∃ r k, i = ix2 r k := ⟨i 0, i 1, eq_ix2 i⟩
  obtain ⟨p, r', rfl⟩ := split r
  obtain ⟨h0, h1⟩ := index_7 p
  have h := congrFun (blocks7 m c (pt p) (flush_7 p)) (ix2 r' k)
  rw [View.read_apply] at h
  have ei : ((cfg0.win 7).blk (pt p)).view.emb (ix2 r' k) = (ix2 (row p r') k : S1024x1024.Idx) := by
    funext a
    apply Fin.ext
    match a with
    | ⟨0, _⟩ => show win0_7.index (pt p) 0 * 256 + 1 * r'.val = 256 * p.val + r'.val; rw [h0]; omega
    | ⟨1, _⟩ => show win0_7.index (pt p) 1 * 1024 + 1 * k.val = k.val; rw [h1]; omega
  rw [ei] at h
  refine (show _ = _ from h).trans ?_
  rw [flushed7]
  show out0_7 (iblk m c 0 (pt p)) (iblk m c 1 (pt p)) (iblk m c 2 (pt p)) (iblk m c 3 (pt p)) (iblk m c 4 (pt p)) (ix2 r' k) = _
  unfold out0_7
  rw [View.canon_unit_zero hz]
  simp only [View.ld_unit_zero (S := S256x1024) hz, View.ld_unit_zero (S := S1x256x1024) hz3]
  rw [pay_mean, reference_mean, block_g, block_h, block_m]

theorem index_8 : ∀ p : Fin 4, win0_8.index (pt p) 0 = p.val ∧ win0_8.index (pt p) 1 = 0 := by decide +kernel
theorem flush_8 : ∀ p : Fin 4, (cfg0.win 8).flush (pt p) = true := by decide +kernel

/-- The second moment: the two programs' results are the same array. -/
theorem equal_8 (c : Dev nD) :
    ((dats m 0 c).arrAt 8 cfg0.N : FVec Ideal S1024x1024 .f32) = Cert.AdamUpRefIdeal.Read.val_main_v13 (F := Ideal) (gs m c) (hs m c) (vs m c) := by
  funext i
  obtain ⟨r, k, rfl⟩ : ∃ r k, i = ix2 r k := ⟨i 0, i 1, eq_ix2 i⟩
  obtain ⟨p, r', rfl⟩ := split r
  obtain ⟨h0, h1⟩ := index_8 p
  have h := congrFun (blocks8 m c (pt p) (flush_8 p)) (ix2 r' k)
  rw [View.read_apply] at h
  have ei : ((cfg0.win 8).blk (pt p)).view.emb (ix2 r' k) = (ix2 (row p r') k : S1024x1024.Idx) := by
    funext a
    apply Fin.ext
    match a with
    | ⟨0, _⟩ => show win0_8.index (pt p) 0 * 256 + 1 * r'.val = 256 * p.val + r'.val; rw [h0]; omega
    | ⟨1, _⟩ => show win0_8.index (pt p) 1 * 1024 + 1 * k.val = k.val; rw [h1]; omega
  rw [ei] at h
  refine (show _ = _ from h).trans ?_
  rw [flushed8]
  show out0_8 (iblk m c 0 (pt p)) (iblk m c 1 (pt p)) (iblk m c 2 (pt p)) (iblk m c 3 (pt p)) (iblk m c 4 (pt p)) (ix2 r' k) = _
  unfold out0_8
  rw [View.canon_unit_zero hz]
  simp only [View.ld_unit_zero (S := S256x1024) hz, View.ld_unit_zero (S := S1x256x1024) hz3]
  rw [pay_square, reference_square, block_g, block_h, block_v]

end Cert.AdamUpProof

end
-- ==== Proof.AdamProj.lean ====
/-
  The optimiser's step on a weight of 256 rows and 256 columns: what the kernel's run leaves in its four results, over the extended reals, is what the
  reference computes. The gradient is the sum of two partial sums. The kernel takes a block of 128 rows at each point of
  its grid and works on it entry by entry.
-/
module

public import proofs.«01_k».proof.Proof.Blocks
public import proofs.«01_k».proof.Proof.AdamStep
public import proofs.«01_k».proof.Proof.Gen.AdamProjIdeal.Value
public import proofs.«01_k».proof.Proof.Gen.AdamProjRefIdeal.Read
public import Idealize.ShloMosaic.Lib.ValueIdx
public import Idealize.ShloMosaic.Lib.ValueLayout
public import Idealize.ShloMosaic.Lib.Claim

@[expose] public section

noncomputable section

namespace Cert.AdamProjProof

open Cert.AdamProjIdeal Cert.AdamProjIdeal.Gen Cert.AdamProjIdeal.Value Cert.Blocks Cert.AdamStep
open Idealize.ShloMosaic Idealize.ShloMosaic.TcCoe Idealize.ShloMosaic.ValueIdx

variable (m : (ℓ : Loc nD τ sig) → Buf (Elt Ideal) ℓ)

/-- The operands: the weight, the gradient's two partial sums, and the two moments. -/
abbrev ws (c : Dev nD) : FVec Ideal S1x256x256 .f32 := m ((c : Thread nD τ).loc main_arg0)
abbrev gs (c : Dev nD) : FVec Ideal S256x256 .f32 := m ((c : Thread nD τ).loc main_arg1)
abbrev hs (c : Dev nD) : FVec Ideal S256x256 .f32 := m ((c : Thread nD τ).loc main_arg2)
abbrev ms (c : Dev nD) : FVec Ideal S1x256x256 .f32 := m ((c : Thread nD τ).loc main_arg3)
abbrev vs (c : Dev nD) : FVec Ideal S1x256x256 .f32 := m ((c : Thread nD τ).loc main_arg4)

/-- The point of the grid at the `p`-th block of rows. -/
abbrev pt (p : Fin 2) : Fin cfg0.N := ⟨p.val, lt_of_lt_of_eq p.isLt N_0.symm⟩

theorem index_0 : ∀ p : Fin 2, win0_0.index (pt p) 0 = 0 ∧ win0_0.index (pt p) 1 = p.val ∧ win0_0.index (pt p) 2 = 0 := by decide +kernel
theorem index_1 : ∀ p : Fin 2, win0_1.index (pt p) 0 = p.val ∧ win0_1.index (pt p) 1 = 0 := by decide +kernel
theorem index_2 : ∀ p : Fin 2, win0_2.index (pt p) 0 = p.val ∧ win0_2.index (pt p) 1 = 0 := by decide +kernel
theorem index_3 : ∀ p : Fin 2, win0_3.index (pt p) 0 = 0 ∧ win0_3.index (pt p) 1 = p.val ∧ win0_3.index (pt p) 2 = 0 := by decide +kernel
theorem index_4 : ∀ p : Fin 2, win0_4.index (pt p) 0 = 0 ∧ win0_4.index (pt p) 1 = p.val ∧ win0_4.index (pt p) 2 = 0 := by decide +kernel

/-- Row `r` of the `p`-th block of rows, among all rows. -/
abbrev row (p : Fin 2) (r : Fin 128) : Fin 256 := ⟨128 * p.val + r.val, by omega⟩

theorem block_w (c : Dev nD) (p : Fin 2) (r : Fin 128) (k : Fin 256) :
    (iblk m c 0 (pt p) : FVec Ideal S1x128x256 .f32) (ix3 (0 : Fin 1) r k) = ws m c (ix3 (0 : Fin 1) (row p r) k) := by
  obtain ⟨h0, h1, h2⟩ := index_0 p
  unfold iblk
  rw [View.read_apply]
  show V m c main_arg0 _ = m (c.tc.loc main_arg0) _
  rw [V_main_arg0]
  congr 1
  funext a
  apply Fin.ext
  match a with
  | ⟨0, _⟩ => show win0_0.index (pt p) 0 * 1 + 1 * 0 = 0; rw [h0]
  | ⟨1, _⟩ => show win0_0.index (pt p) 1 * 128 + 1 * r.val = 128 * p.val + r.val; rw [h1]; omega
  | ⟨2, _⟩ => show win0_0.index (pt p) 2 * 256 + 1 * k.val = k.val; rw [h2]; omega

theorem block_g (c : Dev nD) (p : Fin 2) (r : Fin 128) (k : Fin 256) :
    (iblk m c 1 (pt p) : FVec Ideal S128x256 .f32) (ix2 r k) = gs m c (ix2 (row p r) k) := by
  obtain ⟨h0, h1⟩ := index_1 p
  unfold iblk
  rw [View.read_apply]
  show V m c main_arg1 _ = m (c.tc.loc main_arg1) _
  rw [V_main_arg1]
  congr 1
  funext a
  apply Fin.ext
  match a with
  | ⟨0, _⟩ => show win0_1.index (pt p) 0 * 128 + 1 * r.val = 128 * p.val + r.val; rw [h0]; omega
  | ⟨1, _⟩ => show win0_1.index (pt p) 1 * 256 + 1 * k.val = k.val; rw [h1]; omega

theorem block_h (c : Dev nD) (p : Fin 2) (r : Fin 128) (k : Fin 256) :
    (iblk m c 2 (pt p) : FVec Ideal S128x256 .f32) (ix2 r k) = hs m c (ix2 (row p r) k) := by
  obtain ⟨h0, h1⟩ := index_2 p
  unfold iblk
  rw [View.read_apply]
  show V m c main_arg2 _ = m (c.tc.loc main_arg2) _
  rw [V_main_arg2]
  congr 1
  funext a
  apply Fin.ext
  match a with
  | ⟨0, _⟩ => show win0_2.index (pt p) 0 * 128 + 1 * r.val = 128 * p.val + r.val; rw [h0]; omega
  | ⟨1, _⟩ => show win0_2.index (pt p) 1 * 256 + 1 * k.val = k.val; rw [h1]; omega

theorem block_m (c : Dev nD) (p : Fin 2) (r : Fin 128) (k : Fin 256) :
    (iblk m c 3 (pt p) : FVec Ideal S1x128x256 .f32) (ix3 (0 : Fin 1) r k) = ms m c (ix3 (0 : Fin 1) (row p r) k) := by
  obtain ⟨h0, h1, h2⟩ := index_3 p
  unfold iblk
  rw [View.read_apply]
  show V m c main_arg3 _ = m (c.tc.loc main_arg3) _
  rw [V_main_arg3]
  congr 1
  funext a
  apply Fin.ext
  match a with
  | ⟨0, _⟩ => show win0_3.index (pt p) 0 * 1 + 1 * 0 = 0; rw [h0]
  | ⟨1, _⟩ => show win0_3.index (pt p) 1 * 128 + 1 * r.val = 128 * p.val + r.val; rw [h1]; omega
  | ⟨2, _⟩ => show win0_3.index (pt p) 2 * 256 + 1 * k.val = k.val; rw [h2]; omega

theorem block_v (c : Dev nD) (p : Fin 2) (r : Fin 128) (k : Fin 256) :
    (iblk m c 4 (pt p) : FVec Ideal S1x128x256 .f32) (ix3 (0 : Fin 1) r k) = vs m c (ix3 (0 : Fin 1) (row p r) k) := by
  obtain ⟨h0, h1, h2⟩ := index_4 p
  unfold iblk
  rw [View.read_apply]
  show V m c main_arg4 _ = m (c.tc.loc main_arg4) _
  rw [V_main_arg4]
  congr 1
  funext a
  apply Fin.ext
  match a with
  | ⟨0, _⟩ => show win0_4.index (pt p) 0 * 1 + 1 * 0 = 0; rw [h0]
  | ⟨1, _⟩ => show win0_4.index (pt p) 1 * 128 + 1 * r.val = 128 * p.val + r.val; rw [h1]; omega
  | ⟨2, _⟩ => show win0_4.index (pt p) 2 * 256 + 1 * k.val = k.val; rw [h2]; omega

/-- A stack of one matrix, read as the matrix. -/
theorem flat (x : FVec Ideal S1x128x256 .f32) (r : Fin 128) (k : Fin 256) :
    (shapeCast S128x256 x shapeCasts_S1x128x256_S128x256 : FVec Ideal S128x256 .f32) (ix2 r k) = x (ix3 (0 : Fin 1) r k) :=
  shapeCast_apply _ _ _ _ (by rw [Shape.rowMajor_val_two, Shape.rowMajor_val_three]; show (0 * 128 + r.val) * 256 + k.val = r.val * 256 + k.val; omega)

theorem host_flat (x : FVec Ideal S1x256x256 .f32) (r : Fin 256) (k : Fin 256) :
    (shapeCast Cert.AdamProjRefIdeal.S256x256 x Cert.AdamProjRefIdeal.Gen.shapeCasts_S1x256x256_S256x256 : FVec Ideal S256x256 .f32) (ix2 r k)
      = x (ix3 (0 : Fin 1) r k) :=
  shapeCast_apply _ _ _ _ (by rw [Shape.rowMajor_val_two, Shape.rowMajor_val_three]; show (0 * 256 + r.val) * 256 + k.val = r.val * 256 + k.val; omega)

/-! One point's blocks of the results, entry by entry. -/

theorem pay_mean (g h : FVec Ideal S128x256 .f32) (x : FVec Ideal S1x128x256 .f32) (r : Fin 128) (k : Fin 256) :
    (k0_pay2 (F := Ideal) g h x : FVec Ideal S128x256 .f32) (ix2 r k) = mean (g (ix2 r k) + h (ix2 r k)) (x (ix3 (0 : Fin 1) r k)) := by
  rw [← flat x]; rfl

theorem pay_square (g h : FVec Ideal S128x256 .f32) (x : FVec Ideal S1x128x256 .f32) (r : Fin 128) (k : Fin 256) :
    (k0_pay3 (F := Ideal) g h x : FVec Ideal S128x256 .f32) (ix2 r k) = square (g (ix2 r k) + h (ix2 r k)) (x (ix3 (0 : Fin 1) r k)) := by
  rw [← flat x]; rfl

theorem pay_change (g h : FVec Ideal S128x256 .f32) (w x y : FVec Ideal S1x128x256 .f32) (r : Fin 128) (k : Fin 256) :
    (k0_pay4 (F := Ideal) g h w x y : FVec Ideal S128x256 .f32) (ix2 r k)
      = change (w (ix3 (0 : Fin 1) r k)) (mean (g (ix2 r k) + h (ix2 r k)) (x (ix3 (0 : Fin 1) r k)))
          (square (g (ix2 r k) + h (ix2 r k)) (y (ix3 (0 : Fin 1) r k))) := by
  rw [← pay_mean, ← pay_square, ← flat w]; rfl

/-! The reference's results, entry by entry. -/

theorem reference_mean (g h : FVec Ideal S256x256 .f32) (x : FVec Ideal S1x256x256 .f32) (r : Fin 256) (k : Fin 256) :
    (Cert.AdamProjRefIdeal.Read.val_main_v6 (F := Ideal) g h x : FVec Ideal S256x256 .f32) (ix2 r k)
      = mean (g (ix2 r k) + h (ix2 r k)) (x (ix3 (0 : Fin 1) r k)) := by
  rw [← host_flat x]; rfl

theorem reference_square (g h : FVec Ideal S256x256 .f32) (x : FVec Ideal S1x256x256 .f32) (r : Fin 256) (k : Fin 256) :
    (Cert.AdamProjRefIdeal.Read.val_main_v13 (F := Ideal) g h x : FVec Ideal S256x256 .f32) (ix2 r k)
      = square (g (ix2 r k) + h (ix2 r k)) (x (ix3 (0 : Fin 1) r k)) := by
  rw [← host_flat x]; rfl

theorem reference_change (g h : FVec Ideal S256x256 .f32) (w x y : FVec Ideal S1x256x256 .f32) (r : Fin 256) (k : Fin 256) :
    (Cert.AdamProjRefIdeal.Read.val_main_v27 (F := Ideal) w g h x y : FVec Ideal S256x256 .f32) (ix2 r k)
      = change (w (ix3 (0 : Fin 1) r k)) (mean (g (ix2 r k) + h (ix2 r k)) (x (ix3 (0 : Fin 1) r k)))
          (square (g (ix2 r k) + h (ix2 r k)) (y (ix3 (0 : Fin 1) r k))) := by
  rw [← reference_mean, ← reference_square, ← host_flat w]; rfl

/-- Every row lies in one block of rows. -/
theorem split (r : Fin 256) : ∃ (p : Fin 2) (r' : Fin 128), row p r' = r :=
  ⟨⟨r.val / 128, by omega⟩, ⟨r.val % 128, by omega⟩, Fin.ext (by show 128 * (r.val / 128) + r.val % 128 = r.val; omega)⟩

theorem index_5 : ∀ p : Fin 2, win0_5.index (pt p) 0 = p.val ∧ win0_5.index (pt p) 1 = 0 := by decide +kernel
theorem flush_5 : ∀ p : Fin 2, (cfg0.win 5).flush (pt p) = true := by decide +kernel

/-- The gradient: the two programs' results are the same array. -/
theorem equal_5 (c : Dev nD) :
    ((dats m 0 c).arrAt 5 cfg0.N : FVec Ideal S256x256 .f32) = Cert.AdamProjRefIdeal.Read.val_main_v0 (F := Ideal) (gs m c) (hs m c) := by
  funext i
  obtain ⟨r, k, rfl⟩ : ∃ r k, i = ix2 r k := ⟨i 0, i 1, eq_ix2 i⟩
  obtain ⟨p, r', rfl⟩ := split r
  obtain ⟨h0, h1⟩ := index_5 p
  have h := congrFun (blocks5 m c (pt p) (flush_5 p)) (ix2 r' k)
  rw [View.read_apply] at h
  have ei : ((cfg0.win 5).blk (pt p)).view.emb (ix2 r' k) = (ix2 (row p r') k : S256x256.Idx) := by
    funext a
    apply Fin.ext
    match a with
    | ⟨0, _⟩ => show win0_5.index (pt p) 0 * 128 + 1 * r'.val = 128 * p.val + r'.val; rw [h0]; omega
    | ⟨1, _⟩ => show win0_5.index (pt p) 1 * 256 + 1 * k.val = k.val; rw [h1]; omega
  rw [ei] at h
  refine (show _ = _ from h).trans ?_
  rw [flushed5]
  show out0_5 (iblk m c 0 (pt p)) (iblk m c 1 (pt p)) (iblk m c 2 (pt p)) (iblk m c 3 (pt p)) (iblk m c 4 (pt p)) (ix2 r' k) = _
  unfold out0_5
  rw [View.canon_unit_zero hz]
  simp only [View.ld_unit_zero (S := S128x256) hz]
  exact congrArg₂ (fun a b : EReal => a + b) (block_g m c p r' k) (block_h m c p r' k)

theorem index_6 : ∀ p : Fin 2, win0_6.index (pt p) 0 = p.val ∧ win0_6.index (pt p) 1 = 0 := by decide +kernel
theorem flush_6 : ∀ p : Fin 2, (cfg0.win 6).flush (pt p) = true := by decide +kernel

/-- The step: the two programs' results are the same array. -/
theorem equal_6 (c : Dev nD) :
    ((dats m 0 c).arrAt 6 cfg0.N : FVec Ideal S256x256 .f32) = Cert.AdamProjRefIdeal.Read.val_main_v27 (F := Ideal) (ws m c) (gs m c) (hs m c) (ms m c) (vs m c) := by
  funext i
  obtain ⟨r, k, rfl⟩ : ∃ r k, i = ix2 r k := ⟨i 0, i 1, eq_ix2 i⟩
  obtain ⟨p, r', rfl⟩ := split r
  obtain ⟨h0, h1⟩ := index_6 p
  have h := congrFun (blocks6 m c (pt p) (flush_6 p)) (ix2 r' k)
  rw [View.read_apply] at h
  have ei : ((cfg0.win 6).blk (pt p)).view.emb (ix2 r' k) = (ix2 (row p r') k : S256x256.Idx) := by
    funext a
    apply Fin.ext
    match a with
    | ⟨0, _⟩ => show win0_6.index (pt p) 0 * 128 + 1 * r'.val = 128 * p.val + r'.val; rw [h0]; omega
    | ⟨1, _⟩ => show win0_6.index (pt p) 1 * 256 + 1 * k.val = k.val; rw [h1]; omega
  rw [ei] at h
  refine (show _ = _ from h).trans ?_
  rw [flushed6]
  show out0_6 (iblk m c 0 (pt p)) (iblk m c 1 (pt p)) (iblk m c 2 (pt p)) (iblk m c 3 (pt p)) (iblk m c 4 (pt p)) (ix2 r' k) = _
  unfold out0_6
  rw [View.canon_unit_zero hz]
  simp only [View.ld_unit_zero (S := S128x256) hz, View.ld_unit_zero (S := S1x128x256) hz3]
  rw [pay_change, reference_change, block_w, block_g, block_h, block_m, block_v]

theorem index_7 : ∀ p : Fin 2, win0_7.index (pt p) 0 = p.val ∧ win0_7.index (pt p) 1 = 0 := by decide +kernel
theorem flush_7 : ∀ p : Fin 2, (cfg0.win 7).flush (pt p) = true := by decide +kernel

/-- The first moment: the two programs' results are the same array. -/
theorem equal_7 (c : Dev nD) :
    ((dats m 0 c).arrAt 7 cfg0.N : FVec Ideal S256x256 .f32) = Cert.AdamProjRefIdeal.Read.val_main_v6 (F := Ideal) (gs m c) (hs m c) (ms m c) := by
  funext i
  obtain ⟨r, k, rfl⟩ : ∃ r k, i = ix2 r k := ⟨i 0, i 1, eq_ix2 i⟩
  obtain ⟨p, r', rfl⟩ := split r
  obtain ⟨h0, h1⟩ := index_7 p
  have h := congrFun (blocks7 m c (pt p) (flush_7 p)) (ix2 r' k)
  rw [View.read_apply] at h
  have ei : ((cfg0.win 7).blk (pt p)).view.emb (ix2 r' k) = (ix2 (row p r') k : S256x256.Idx) := by
    funext a
    apply Fin.ext
    match a with
    | ⟨0, _⟩ => show win0_7.index (pt p) 0 * 128 + 1 * r'.val = 128 * p.val + r'.val; rw [h0]; omega
    | ⟨1, _⟩ => show win0_7.index (pt p) 1 * 256 + 1 * k.val = k.val; rw [h1]; omega
  rw [ei] at h
  refine (show _ = _ from h).trans ?_
  rw [flushed7]
  show out0_7 (iblk m c 0 (pt p)) (iblk m c 1 (pt p)) (iblk m c 2 (pt p)) (iblk m c 3 (pt p)) (iblk m c 4 (pt p)) (ix2 r' k) = _
  unfold out0_7
  rw [View.canon_unit_zero hz]
  simp only [View.ld_unit_zero (S := S128x256) hz, View.ld_unit_zero (S := S1x128x256) hz3]
  rw [pay_mean, reference_mean, block_g, block_h, block_m]

theorem index_8 : ∀ p : Fin 2, win0_8.index (pt p) 0 = p.val ∧ win0_8.index (pt p) 1 = 0 := by decide +kernel
theorem flush_8 : ∀ p : Fin 2, (cfg0.win 8).flush (pt p) = true := by decide +kernel

/-- The second moment: the two programs' results are the same array. -/
theorem equal_8 (c : Dev nD) :
    ((dats m 0 c).arrAt 8 cfg0.N : FVec Ideal S256x256 .f32) = Cert.AdamProjRefIdeal.Read.val_main_v13 (F := Ideal) (gs m c) (hs m c) (vs m c) := by
  funext i
  obtain ⟨r, k, rfl⟩ : ∃ r k, i = ix2 r k := ⟨i 0, i 1, eq_ix2 i⟩
  obtain ⟨p, r', rfl⟩ := split r
  obtain ⟨h0, h1⟩ := index_8 p
  have h := congrFun (blocks8 m c (pt p) (flush_8 p)) (ix2 r' k)
  rw [View.read_apply] at h
  have ei : ((cfg0.win 8).blk (pt p)).view.emb (ix2 r' k) = (ix2 (row p r') k : S256x256.Idx) := by
    funext a
    apply Fin.ext
    match a with
    | ⟨0, _⟩ => show win0_8.index (pt p) 0 * 128 + 1 * r'.val = 128 * p.val + r'.val; rw [h0]; omega
    | ⟨1, _⟩ => show win0_8.index (pt p) 1 * 256 + 1 * k.val = k.val; rw [h1]; omega
  rw [ei] at h
  refine (show _ = _ from h).trans ?_
  rw [flushed8]
  show out0_8 (iblk m c 0 (pt p)) (iblk m c 1 (pt p)) (iblk m c 2 (pt p)) (iblk m c 3 (pt p)) (iblk m c 4 (pt p)) (ix2 r' k) = _
  unfold out0_8
  rw [View.canon_unit_zero hz]
  simp only [View.ld_unit_zero (S := S128x256) hz, View.ld_unit_zero (S := S1x128x256) hz3]
  rw [pay_square, reference_square, block_g, block_h, block_v]

end Cert.AdamProjProof

end
-- ==== Proof.DwUp.lean ====
/-
  The gradient of the MLP's first weight, written as four column blocks: what the kernel's run leaves in its result, over the extended reals, is the product
  `xᵀ · y` over all 8192 rows, which is what the plain product of the reference is. The kernel walks the rows in four
  stretches of 2048: it starts a block of the result with the first stretch's product, adds the next two to a scratch
  buffer, and writes the block out with the last one added.
-/
module

public import proofs.«01_k».proof.Proof.Contract
public import proofs.«01_k».proof.Proof.Gen.DwUpIdeal.Value
public import proofs.«01_k».proof.Proof.Gen.DwUpRefIdeal.Run
public import Idealize.ShloMosaic.Lib.ValueIdx
public import Idealize.ShloMosaic.Lib.ValueLayout

@[expose] public section

noncomputable section

namespace Cert.DwUpProof

open Cert.DwUpIdeal Cert.DwUpIdeal.Gen Cert.DwUpIdeal.Value Cert.Contract
open Idealize.ShloMosaic Idealize.ShloMosaic.TcCoe Idealize.ShloMosaic.ValueIdx
open scoped BigOperators

section AnyFloat

variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The first stretch: the scratch holds the product of the two blocks. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : cond0_0 i) (hc1 : ¬cond0_1 i) (hc2 : ¬cond0_2 i)
    (x : Vec F S2048x1024 .bf16) (y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1024) hz]

/-- The two stretches between: the blocks' product is added to the scratch. -/
theorem middle (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : ¬cond0_0 i) (hc1 : cond0_1 i) (hc2 : ¬cond0_2 i)
    (x : Vec F S2048x1024 .bf16) (y : Vec F S2048x1024 .bf16) (s : Vec F S1024x1024 .f32) :
    sout0_B_0 c i a3 h3 a4 h4 a5 h5 a6 h6 hc0 hc1 hc2 x y s = k0_pay2 s x y := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

/-- The last stretch: the result's block is the scratch and the blocks' product, rounded once. -/
theorem last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1x1024x1024 .bf16) (h5 : a5.IsWhole)
    (a6 : Memref sig .tc .vmem S1024x1024 .f32) (h6 : a6.IsWhole) (hc0 : ¬cond0_0 i) (hc1 : ¬cond0_1 i) (hc2 : cond0_2 i)
    (x : Vec F S2048x1024 .bf16) (y : Vec F S2048x1024 .bf16) (s : Vec F S1024x1024 .f32) :
    out0_C_2 c i a3 h3 a4 h4 a5 h5 a6 h6 hc0 hc1 hc2 x y s = k0_pay3 s x y := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz3]
  simp only [View.readAt_eq_ld, h3.read_unread, h4.read_unread, h6.read_unread, View.ld_unit_zero (S := S2048x1024) hz,
    View.ld_unit_zero (S := S2048x1024) hz, View.ld_unit_zero (S := S1024x1024) hz]

theorem outs_congr (c : Dev nD) {n n' : ℕ} (e : n = n') (h : n < cfg0.N) (h' : n' < cfg0.N) :
    outsAt0 m c n h = outsAt0 m c n' h' := by subst e; rfl

/-- Block `j` of the rows of the operands, at the block `q` of the result. -/
abbrev pt (q : Fin 4) (j : Fin 4) : Fin cfg0.N := ⟨4 * q.val + j.val, lt_of_lt_of_eq (by omega) N_0.symm⟩

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  exact first (F := F) ..

theorem at_middle (c : Dev nD) (t : Fin cfg0.N) (h : 1 ≤ t.val % 4 ∧ t.val % 4 ≤ 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  exact middle (F := F) ..

theorem at_last (c : Dev nD) (t : Fin cfg0.N) (h : t.val % 4 = 3) :
    (outsAt0 m c t.val t.isLt).1
      = k0_pay3 (outsAt0 m c (t.val - 1) (Nat.lt_of_le_of_lt (Nat.sub_le _ _) t.isLt)).2 (iblk m c 0 t) (iblk m c 1 t) := by
  rw [outsAt0_C m c t (by omega) (by omega) h]
  dsimp only
  exact last (F := F) ..

/-- What a run of four points writes out. -/
theorem written (c : Dev nD) (q : Fin 4) :
    (outsAt0 m c (pt q 3).val (pt q 3).isLt).1
      = k0_pay3 (k0_pay2 (k0_pay2 (k0_pay1 (iblk m c 0 (pt q 0)) (iblk m c 1 (pt q 0))) (iblk m c 0 (pt q 1)) (iblk m c 1 (pt q 1)))
          (iblk m c 0 (pt q 2)) (iblk m c 1 (pt q 2))) (iblk m c 0 (pt q 3)) (iblk m c 1 (pt q 3)) := by
  have e0 := at_first m c (pt q 0) (by show (4 * q.val + 0) % 4 = 0; omega)
  have e1 := at_middle m c (pt q 1) (by show 1 ≤ (4 * q.val + 1) % 4 ∧ (4 * q.val + 1) % 4 ≤ 2; omega)
  have e2 := at_middle m c (pt q 2) (by show 1 ≤ (4 * q.val + 2) % 4 ∧ (4 * q.val + 2) % 4 ≤ 2; omega)
  have e3 := at_last m c (pt q 3) (by show (4 * q.val + 3) % 4 = 3; omega)
  rw [outs_congr m c (show (pt q 1).val - 1 = (pt q 0).val by show 4 * q.val + 1 - 1 = 4 * q.val + 0; omega) _ (pt q 0).isLt, e0] at e1
  rw [outs_congr m c (show (pt q 2).val - 1 = (pt q 1).val by show 4 * q.val + 2 - 1 = 4 * q.val + 1; omega) _ (pt q 1).isLt, e1] at e2
  rw [outs_congr m c (show (pt q 3).val - 1 = (pt q 2).val by show 4 * q.val + 3 - 1 = 4 * q.val + 2; omega) _ (pt q 2).isLt, e2] at e3
  exact e3

/-- The two operands. -/
abbrev xs (c : Dev nD) : FVec F S8192x1024 .bf16 := m ((c : Thread nD τ).loc main_arg0)
abbrev ys (c : Dev nD) : FVec F S8192x4096 .bf16 := m ((c : Thread nD τ).loc main_arg1)

/-- Which blocks of the operands a point reads. -/
theorem index_x : ∀ (q : Fin 4) (j : Fin 4), win0_0.index (pt q j) 0 = j.val ∧ win0_0.index (pt q j) 1 = 0 := by decide +kernel
theorem index_y : ∀ (q : Fin 4) (j : Fin 4), win0_1.index (pt q j) 0 = j.val ∧ win0_1.index (pt q j) 1 = q.val := by decide +kernel

theorem block_x (c : Dev nD) (q : Fin 4) (j : Fin 4) (k : Fin 2048) (r : Fin 1024) :
    (iblk m c 0 (pt q j) : FVec F S2048x1024 .bf16) (ix2 k r)
      = xs m c (ix2 (row j k) (⟨0 * 1024 + r.val, by omega⟩ : Fin 1024)) := by
  obtain ⟨h0, h1⟩ := index_x q j
  unfold iblk
  rw [View.read_apply]
  show V m c main_arg0 _ = m (c.tc.loc main_arg0) _
  unfold V
  congr 1
  funext a
  apply Fin.ext
  match a with
  | ⟨0, _⟩ => show win0_0.index (pt q j) 0 * 2048 + 1 * k.val = 2048 * j.val + k.val; rw [h0]; omega
  | ⟨1, _⟩ => show win0_0.index (pt q j) 1 * 1024 + 1 * r.val = 0 * 1024 + r.val; rw [h1]; omega

theorem block_y (c : Dev nD) (q : Fin 4) (j : Fin 4) (k : Fin 2048) (s : Fin 1024) :
    (iblk m c 1 (pt q j) : FVec F S2048x1024 .bf16) (ix2 k s)
      = ys m c (ix2 (row j k) (⟨q.val * 1024 + s.val, by omega⟩ : Fin 4096)) := by
  obtain ⟨h0, h1⟩ := index_y q j
  unfold iblk
  rw [View.read_apply]
  show V m c main_arg1 _ = m (c.tc.loc main_arg1) _
  unfold V
  congr 1
  funext a
  apply Fin.ext
  match a with
  | ⟨0, _⟩ => show win0_1.index (pt q j) 0 * 2048 + 1 * k.val = 2048 * j.val + k.val; rw [h0]; omega
  | ⟨1, _⟩ => show win0_1.index (pt q j) 1 * 1024 + 1 * s.val = q.val * 1024 + s.val; rw [h1]; omega

end AnyFloat

/-! ## Over the extended reals -/

theorem dims : dot_S2048x1024_S2048x1024_S1024x1024_0_0_1_1_n_n = rowsDims 2048 1024 1024 := rfl

theorem pay1_apply (x : FVec Ideal S2048x1024 .bf16) (y : FVec Ideal S2048x1024 .bf16) (r : Fin 1024) (s : Fin 1024) :
    (k0_pay1 (F := Ideal) x y : FVec Ideal S1024x1024 .f32) (ix2 r s) = ∑ k : Fin 2048, x (ix2 k r) * y (ix2 k s) := by
  unfold k0_pay1
  rw [shapeCast_self, dims, matmul_rows_zero]

theorem pay2_apply (a : FVec Ideal S1024x1024 .f32) (x : FVec Ideal S2048x1024 .bf16) (y : FVec Ideal S2048x1024 .bf16) (r : Fin 1024) (s : Fin 1024) :
    (k0_pay2 (F := Ideal) a x y : FVec Ideal S1024x1024 .f32) (ix2 r s) = a (ix2 r s) + ∑ k : Fin 2048, x (ix2 k r) * y (ix2 k s) := by
  unfold k0_pay2
  rw [shapeCast_self, addf_apply, dims, matmul_rows_zero]

theorem pay3_apply (a : FVec Ideal S1024x1024 .f32) (x : FVec Ideal S2048x1024 .bf16) (y : FVec Ideal S2048x1024 .bf16) (r : Fin 1024) (s : Fin 1024) :
    (k0_pay3 (F := Ideal) a x y : FVec Ideal S1x1024x1024 .bf16) (ix3 (0 : Fin 1) r s) = a (ix2 r s) + ∑ k : Fin 2048, x (ix2 k r) * y (ix2 k s) := by
  unfold k0_pay3
  rw [shapeCast_apply _ _ (ix3 (0 : Fin 1) r s) (ix2 r s) (by simp [Shape.rowMajor_val_two, Shape.rowMajor_val_three])]
  rw [truncf_apply, addf_apply, dims, matmul_rows_zero]

/-- THE KERNEL'S RESULT at one index: the product of the two operands over all rows. -/
theorem kernel_value (m : (ℓ : Loc nD τ sig) → Buf (Elt Ideal) ℓ) (c : Dev nD) (r : Fin 1024) (s : Fin 4096) :
    (G2 m c : FVec Ideal S4x1024x1024 .bf16) (ix3 (⟨s.val / 1024, by omega⟩ : Fin 4) r (⟨s.val % 1024, by omega⟩ : Fin 1024))
      = ∑ k : Fin 8192, xs m c (ix2 k r)
          * ys m c (ix2 k s) := by
  obtain ⟨q, hq⟩ : ∃ q : Fin 4, q.val = s.val / 1024 := ⟨⟨s.val / 1024, by omega⟩, rfl⟩
  obtain ⟨r', hr⟩ : ∃ r' : Fin 1024, r'.val = r.val % 1024 := ⟨⟨r.val % 1024, by omega⟩, rfl⟩
  obtain ⟨s', hs⟩ : ∃ s' : Fin 1024, s'.val = s.val % 1024 := ⟨⟨s.val % 1024, by omega⟩, rfl⟩
  have hp : pt2Of (ix3 (⟨s.val / 1024, by omega⟩ : Fin 4) r (⟨s.val % 1024, by omega⟩ : Fin 1024) : S4x1024x1024.Idx) = (pt q 3).val := by
    show 4 * (1 * (s.val / 1024 / 1 - 0) + 1 * (r.val / 1024 - 0) + 1 * (s.val % 1024 / 1024 - 0)) + 3 = 4 * q.val + 3
    rw [hq]; omega
  have hl : loc2Of (ix3 (⟨s.val / 1024, by omega⟩ : Fin 4) r (⟨s.val % 1024, by omega⟩ : Fin 1024) : S4x1024x1024.Idx) = ix3 (0 : Fin 1) r' s' := by
    funext a; apply Fin.ext
    match a with
    | ⟨0, _⟩ => show s.val / 1024 % 1 = 0; omega
    | ⟨1, _⟩ => exact hr.symm
    | ⟨2, _⟩ => show s.val % 1024 % 1024 = s'.val; omega
  have hr' : (⟨0 * 1024 + r'.val, by omega⟩ : Fin 1024) = r := Fin.ext (by show 0 * 1024 + r'.val = r.val; omega)
  have hs' : (⟨q.val * 1024 + s'.val, by omega⟩ : Fin 4096) = s := Fin.ext (by show q.val * 1024 + s'.val = s.val; omega)
  unfold G2
  rw [dif_pos (by rw [hp]; exact (pt q 3).isLt), hl]
  have hw : Pipeline.accAt (fun n h => stAt0 m c n h junk0) (stAt0 m c) 0 (pt2Of (ix3 (⟨s.val / 1024, by omega⟩ : Fin 4) r (⟨s.val % 1024, by omega⟩ : Fin 1024) : S4x1024x1024.Idx))
        (by rw [hp, Nat.zero_add]; exact (pt q 3).isLt)
      = outsAt0 m c (pt q 3).val (pt q 3).isLt := by
    rw [outsAt0_sweep]
    exact fold0_congr m c _ _ _ _ hp
  refine (congrFun (congrArg Prod.fst hw) _).trans ?_
  rw [written, pay3_apply, pay2_apply, pay2_apply, pay1_apply, sum_stretches]
  simp only [block_x, block_y, hr', hs']

/-- THE REFERENCE'S RESULT at one index. -/
theorem reference_value (x : FVec Ideal S8192x1024 .bf16) (y : FVec Ideal S8192x4096 .bf16) (r : Fin 1024) (s : Fin 4096)
    (hb : FTy.bits .bf16 < FTy.bits .f32) (ht : (⟨2, ![4096, 1024]⟩ : Shape).Transposes [1, 0] ⟨2, ![1024, 4096]⟩) (hc : (⟨2, ![1024, 4096]⟩ : Shape).ShapeCasts ⟨3, ![1024, 4, 1024]⟩) (ht3 : (⟨3, ![1024, 4, 1024]⟩ : Shape).Transposes [1, 0, 2] ⟨3, ![4, 1024, 1024]⟩) :
    (transpose ⟨3, ![4, 1024, 1024]⟩ [1, 0, 2] (shapeCast ⟨3, ![1024, 4, 1024]⟩ (truncf .bf16 (transpose ⟨2, ![1024, 4096]⟩ [1, 0] (Host.dotGeneral (rowsDims 8192 4096 1024) none (extf .f32 y hb) (extf .f32 x hb)) ht) hb) hc) ht3 : FVec Ideal S4x1024x1024 .bf16) (ix3 (⟨s.val / 1024, by omega⟩ : Fin 4) r (⟨s.val % 1024, by omega⟩ : Fin 1024))
      = ∑ k : Fin 8192, x (ix2 k r) * y (ix2 k s) := by
  rw [transpose_apply _ _ ht3 _ (ix3 r (⟨s.val / 1024, by omega⟩ : Fin 4) (⟨s.val % 1024, by omega⟩ : Fin 1024))
      (by intro b; match b with | ⟨0, _⟩ => rfl | ⟨1, _⟩ => rfl | ⟨2, _⟩ => rfl),
    shapeCast_apply _ hc _ (ix2 r s) (by rw [Shape.rowMajor_val_two, Shape.rowMajor_val_three]; show r.val * 4096 + s.val = (r.val * 4 + s.val / 1024) * 1024 + s.val % 1024; omega)]
  rw [truncf_apply, transpose_ix2_apply, host_rows]
  exact Finset.sum_congr rfl fun k _ => mul_comm _ _

/-- So the two programs' results are the same array. -/
theorem equal (m : (ℓ : Loc nD τ sig) → Buf (Elt Ideal) ℓ) (c : Dev nD)
    (hb : FTy.bits .bf16 < FTy.bits .f32) (ht : (⟨2, ![4096, 1024]⟩ : Shape).Transposes [1, 0] ⟨2, ![1024, 4096]⟩) (hc : (⟨2, ![1024, 4096]⟩ : Shape).ShapeCasts ⟨3, ![1024, 4, 1024]⟩) (ht3 : (⟨3, ![1024, 4, 1024]⟩ : Shape).Transposes [1, 0, 2] ⟨3, ![4, 1024, 1024]⟩) :
    (G2 m c : FVec Ideal S4x1024x1024 .bf16) = transpose ⟨3, ![4, 1024, 1024]⟩ [1, 0, 2] (shapeCast ⟨3, ![1024, 4, 1024]⟩ (truncf .bf16 (transpose ⟨2, ![1024, 4096]⟩ [1, 0] (Host.dotGeneral (rowsDims 8192 4096 1024) none (extf .f32 (ys m c) hb) (extf .f32 (xs m c) hb)) ht) hb) hc) ht3 := by
  funext i
  obtain ⟨p, r, u, rfl⟩ : ∃ p r u, i = ix3 p r u := ⟨i 0, i 1, i 2, eq_ix3 i⟩
  have ep : (⟨(1024 * p.val + u.val) / 1024, by omega⟩ : Fin 4) = p := Fin.ext (by show (1024 * p.val + u.val) / 1024 = p.val; omega)
  have eu : (⟨(1024 * p.val + u.val) % 1024, by omega⟩ : Fin 1024) = u := Fin.ext (by show (1024 * p.val + u.val) % 1024 = u.val; omega)
  have h := (kernel_value m c r (⟨1024 * p.val + u.val, by omega⟩ : Fin 4096)).trans
    (reference_value (xs m c) (ys m c) r _ hb ht hc ht3).symm
  simp only [ep, eu] at h
  exact h

end Cert.DwUpProof

end
-- ==== Proof.DwDown.lean ====
/-
  The gradient of the MLP's second weight: what the kernel's run leaves in its result, over the extended reals, is the product
  `xᵀ · y` over all 8192 rows, which is what the plain product of the reference is. The kernel walks the rows in four
  stretches of 2048: it starts a block of the result with the first stretch's product, adds the next two to a scratch
  buffer, and writes the block out with the last one added.
-/
module

public import proofs.«01_k».proof.Proof.Contract
public import proofs.«01_k».proof.Proof.Gen.DwDownIdeal.Value
public import proofs.«01_k».proof.Proof.Gen.DwDownRefIdeal.Run
public import Idealize.ShloMosaic.Lib.ValueIdx
public import Idealize.ShloMosaic.Lib.ValueLayout

@[expose] public section

noncomputable section

namespace Cert.DwDownProof

open Cert.DwDownIdeal Cert.DwDownIdeal.Gen Cert.DwDownIdeal.Value Cert.Contract
open Idealize.ShloMosaic Idealize.ShloMosaic.TcCoe Idealize.ShloMosaic.ValueIdx
open scoped BigOperators

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The first stretch: the scratch holds the product of the two blocks. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x : Vec F S2048x1024 .bf16) (y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1024) hz]

/-- The two stretches between: the blocks' product is added to the scratch. -/
theorem middle (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : ¬cond0_2 i)
    (x : Vec F S2048x1024 .bf16) (y : Vec F S2048x1024 .bf16) (s : Vec F S1024x1024 .f32) :
    sout0_B_0 c i a3 h3 a4 h4 a5 h5 a6 h6 hc0 hc1 hc2 x y s = k0_pay2 s x y := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

/-- The last stretch: the result's block is the scratch and the blocks' product, rounded once. -/
theorem last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x : Vec F S2048x1024 .bf16) (y : Vec F S2048x1024 .bf16) (s : Vec F S1024x1024 .f32) :
    out0_C_2 c i a3 h3 a4 h4 a5 h5 a6 h6 hc0 hc1 hc2 x y s = k0_pay3 s x y := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem outs_congr (c : Dev nD) {n n' : ℕ} (e : n = n') (h : n < cfg0.N) (h' : n' < cfg0.N) :
    outsAt0 m c n h = outsAt0 m c n' h' := by subst e; rfl

/-- Block `j` of the rows of the operands, at the block `q` of the result. -/
abbrev pt (q : Fin 4) (j : Fin 4) : Fin cfg0.N := ⟨4 * q.val + j.val, lt_of_lt_of_eq (by omega) N_0.symm⟩

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  exact first (F := F) ..

theorem at_middle (c : Dev nD) (t : Fin cfg0.N) (h : 1 ≤ t.val % 4 ∧ t.val % 4 ≤ 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  exact middle (F := F) ..

theorem at_last (c : Dev nD) (t : Fin cfg0.N) (h : t.val % 4 = 3) :
    (outsAt0 m c t.val t.isLt).1
      = k0_pay3 (outsAt0 m c (t.val - 1) (Nat.lt_of_le_of_lt (Nat.sub_le _ _) t.isLt)).2 (iblk m c 0 t) (iblk m c 1 t) := by
  rw [outsAt0_C m c t (by omega) (by omega) h]
  dsimp only
  exact last (F := F) ..

/-- What a run of four points writes out. -/
theorem written (c : Dev nD) (q : Fin 4) :
    (outsAt0 m c (pt q 3).val (pt q 3).isLt).1
      = k0_pay3 (k0_pay2 (k0_pay2 (k0_pay1 (iblk m c 0 (pt q 0)) (iblk m c 1 (pt q 0))) (iblk m c 0 (pt q 1)) (iblk m c 1 (pt q 1)))
          (iblk m c 0 (pt q 2)) (iblk m c 1 (pt q 2))) (iblk m c 0 (pt q 3)) (iblk m c 1 (pt q 3)) := by
  have e0 := at_first m c (pt q 0) (by show (4 * q.val + 0) % 4 = 0; omega)
  have e1 := at_middle m c (pt q 1) (by show 1 ≤ (4 * q.val + 1) % 4 ∧ (4 * q.val + 1) % 4 ≤ 2; omega)
  have e2 := at_middle m c (pt q 2) (by show 1 ≤ (4 * q.val + 2) % 4 ∧ (4 * q.val + 2) % 4 ≤ 2; omega)
  have e3 := at_last m c (pt q 3) (by show (4 * q.val + 3) % 4 = 3; omega)
  rw [outs_congr m c (show (pt q 1).val - 1 = (pt q 0).val by show 4 * q.val + 1 - 1 = 4 * q.val + 0; omega) _ (pt q 0).isLt, e0] at e1
  rw [outs_congr m c (show (pt q 2).val - 1 = (pt q 1).val by show 4 * q.val + 2 - 1 = 4 * q.val + 1; omega) _ (pt q 1).isLt, e1] at e2
  rw [outs_congr m c (show (pt q 3).val - 1 = (pt q 2).val by show 4 * q.val + 3 - 1 = 4 * q.val + 2; omega) _ (pt q 2).isLt, e2] at e3
  exact e3

/-- The two operands. -/
abbrev xs (c : Dev nD) : FVec F S8192x4096 .bf16 := m ((c : Thread nD τ).loc main_arg0)
abbrev ys (c : Dev nD) : FVec F S8192x1024 .bf16 := m ((c : Thread nD τ).loc main_arg1)

/-- Which blocks of the operands a point reads. -/
theorem index_x : ∀ (q : Fin 4) (j : Fin 4), win0_0.index (pt q j) 0 = j.val ∧ win0_0.index (pt q j) 1 = q.val := by decide +kernel
theorem index_y : ∀ (q : Fin 4) (j : Fin 4), win0_1.index (pt q j) 0 = j.val ∧ win0_1.index (pt q j) 1 = 0 := by decide +kernel

theorem block_x (c : Dev nD) (q : Fin 4) (j : Fin 4) (k : Fin 2048) (r : Fin 1024) :
    (iblk m c 0 (pt q j) : FVec F S2048x1024 .bf16) (ix2 k r)
      = xs m c (ix2 (row j k) (⟨q.val * 1024 + r.val, by omega⟩ : Fin 4096)) := by
  obtain ⟨h0, h1⟩ := index_x q j
  unfold iblk
  rw [View.read_apply]
  show V m c main_arg0 _ = m (c.tc.loc main_arg0) _
  unfold V
  congr 1
  funext a
  apply Fin.ext
  match a with
  | ⟨0, _⟩ => show win0_0.index (pt q j) 0 * 2048 + 1 * k.val = 2048 * j.val + k.val; rw [h0]; omega
  | ⟨1, _⟩ => show win0_0.index (pt q j) 1 * 1024 + 1 * r.val = q.val * 1024 + r.val; rw [h1]; omega

theorem block_y (c : Dev nD) (q : Fin 4) (j : Fin 4) (k : Fin 2048) (s : Fin 1024) :
    (iblk m c 1 (pt q j) : FVec F S2048x1024 .bf16) (ix2 k s)
      = ys m c (ix2 (row j k) (⟨0 * 1024 + s.val, by omega⟩ : Fin 1024)) := by
  obtain ⟨h0, h1⟩ := index_y q j
  unfold iblk
  rw [View.read_apply]
  show V m c main_arg1 _ = m (c.tc.loc main_arg1) _
  unfold V
  congr 1
  funext a
  apply Fin.ext
  match a with
  | ⟨0, _⟩ => show win0_1.index (pt q j) 0 * 2048 + 1 * k.val = 2048 * j.val + k.val; rw [h0]; omega
  | ⟨1, _⟩ => show win0_1.index (pt q j) 1 * 1024 + 1 * s.val = 0 * 1024 + s.val; rw [h1]; omega

end AnyFloat

/-! ## Over the extended reals -/

theorem dims : dot_S2048x1024_S2048x1024_S1024x1024_0_0_1_1_n_n = rowsDims 2048 1024 1024 := rfl

theorem pay1_apply (x : FVec Ideal S2048x1024 .bf16) (y : FVec Ideal S2048x1024 .bf16) (r : Fin 1024) (s : Fin 1024) :
    (k0_pay1 (F := Ideal) x y : FVec Ideal S1024x1024 .f32) (ix2 r s) = ∑ k : Fin 2048, x (ix2 k r) * y (ix2 k s) := by
  unfold k0_pay1
  rw [shapeCast_self, dims, matmul_rows_zero]

theorem pay2_apply (a : FVec Ideal S1024x1024 .f32) (x : FVec Ideal S2048x1024 .bf16) (y : FVec Ideal S2048x1024 .bf16) (r : Fin 1024) (s : Fin 1024) :
    (k0_pay2 (F := Ideal) a x y : FVec Ideal S1024x1024 .f32) (ix2 r s) = a (ix2 r s) + ∑ k : Fin 2048, x (ix2 k r) * y (ix2 k s) := by
  unfold k0_pay2
  rw [shapeCast_self, addf_apply, dims, matmul_rows_zero]

theorem pay3_apply (a : FVec Ideal S1024x1024 .f32) (x : FVec Ideal S2048x1024 .bf16) (y : FVec Ideal S2048x1024 .bf16) (r : Fin 1024) (s : Fin 1024) :
    (k0_pay3 (F := Ideal) a x y : FVec Ideal S1024x1024 .bf16) (ix2 r s) = a (ix2 r s) + ∑ k : Fin 2048, x (ix2 k r) * y (ix2 k s) := by
  unfold k0_pay3
  rw [truncf_apply, addf_apply, dims, matmul_rows_zero]

/-- THE KERNEL'S RESULT at one index: the product of the two operands over all rows. -/
theorem kernel_value (m : (ℓ : Loc nD τ sig) → Buf (Elt Ideal) ℓ) (c : Dev nD) (r : Fin 4096) (s : Fin 1024) :
    (G2 m c : FVec Ideal S4096x1024 .bf16) (ix2 r s)
      = ∑ k : Fin 8192, xs m c (ix2 k r)
          * ys m c (ix2 k s) := by
  obtain ⟨q, hq⟩ : ∃ q : Fin 4, q.val = r.val / 1024 := ⟨⟨r.val / 1024, by omega⟩, rfl⟩
  obtain ⟨r', hr⟩ : ∃ r' : Fin 1024, r'.val = r.val % 1024 := ⟨⟨r.val % 1024, by omega⟩, rfl⟩
  obtain ⟨s', hs⟩ : ∃ s' : Fin 1024, s'.val = s.val % 1024 := ⟨⟨s.val % 1024, by omega⟩, rfl⟩
  have hp : pt2Of (ix2 r s : S4096x1024.Idx) = (pt q 3).val := by
    show 4 * (1 * (r.val / 1024 - 0) + 1 * (s.val / 1024 - 0)) + 3 = 4 * q.val + 3
    rw [hq]; omega
  have hl : loc2Of (ix2 r s : S4096x1024.Idx) = ix2 r' s' := by
    funext a; apply Fin.ext
    match a with
    | ⟨0, _⟩ => exact hr.symm
    | ⟨1, _⟩ => exact hs.symm
  have hr' : (⟨q.val * 1024 + r'.val, by omega⟩ : Fin 4096) = r := Fin.ext (by show q.val * 1024 + r'.val = r.val; omega)
  have hs' : (⟨0 * 1024 + s'.val, by omega⟩ : Fin 1024) = s := Fin.ext (by show 0 * 1024 + s'.val = s.val; omega)
  unfold G2
  rw [dif_pos (by rw [hp]; exact (pt q 3).isLt), hl]
  have hw : Pipeline.accAt (fun n h => stAt0 m c n h junk0) (stAt0 m c) 0 (pt2Of (ix2 r s : S4096x1024.Idx))
        (by rw [hp, Nat.zero_add]; exact (pt q 3).isLt)
      = outsAt0 m c (pt q 3).val (pt q 3).isLt := by
    rw [outsAt0_sweep]
    exact fold0_congr m c _ _ _ _ hp
  refine (congrFun (congrArg Prod.fst hw) _).trans ?_
  rw [written, pay3_apply, pay2_apply, pay2_apply, pay1_apply, sum_stretches]
  simp only [block_x, block_y, hr', hs']

/-- THE REFERENCE'S RESULT at one index. -/
theorem reference_value (x : FVec Ideal S8192x4096 .bf16) (y : FVec Ideal S8192x1024 .bf16) (r : Fin 4096) (s : Fin 1024)
    (hb : FTy.bits .bf16 < FTy.bits .f32) (ht : (⟨2, ![1024, 4096]⟩ : Shape).Transposes [1, 0] ⟨2, ![4096, 1024]⟩) :
    (truncf .bf16 (transpose ⟨2, ![4096, 1024]⟩ [1, 0] (Host.dotGeneral (rowsDims 8192 1024 4096) none (extf .f32 y hb) (extf .f32 x hb)) ht) hb : FVec Ideal S4096x1024 .bf16) (ix2 r s)
      = ∑ k : Fin 8192, x (ix2 k r) * y (ix2 k s) := by
  rw [truncf_apply, transpose_ix2_apply, host_rows]
  exact Finset.sum_congr rfl fun k _ => mul_comm _ _

/-- So the two programs' results are the same array. -/
theorem equal (m : (ℓ : Loc nD τ sig) → Buf (Elt Ideal) ℓ) (c : Dev nD)
    (hb : FTy.bits .bf16 < FTy.bits .f32) (ht : (⟨2, ![1024, 4096]⟩ : Shape).Transposes [1, 0] ⟨2, ![4096, 1024]⟩) :
    (G2 m c : FVec Ideal S4096x1024 .bf16) = truncf .bf16 (transpose ⟨2, ![4096, 1024]⟩ [1, 0] (Host.dotGeneral (rowsDims 8192 1024 4096) none (extf .f32 (ys m c) hb) (extf .f32 (xs m c) hb)) ht) hb := by
  funext i
  rw [eq_ix2 i]
  exact (kernel_value m c (i 0) (i 1)).trans (reference_value (xs m c) (ys m c) (i 0) (i 1) hb ht).symm

end Cert.DwDownProof

end
-- ==== Proof.DwOut.lean ====
/-
  The gradient of the output projection's weight: what the kernel's run leaves in its result, over the extended reals, is the product
  `xᵀ · y` over all 8192 rows, which is what the plain product of the reference is. The kernel walks the rows in four
  stretches of 2048: it starts a block of the result with the first stretch's product, adds the next two to a scratch
  buffer, and writes the block out with the last one added.
-/
module

public import proofs.«01_k».proof.Proof.Contract
public import proofs.«01_k».proof.Proof.Gen.DwOutIdeal.Value
public import proofs.«01_k».proof.Proof.Gen.DwOutRefIdeal.Run
public import Idealize.ShloMosaic.Lib.ValueIdx
public import Idealize.ShloMosaic.Lib.ValueLayout

@[expose] public section

noncomputable section

namespace Cert.DwOutProof

open Cert.DwOutIdeal Cert.DwOutIdeal.Gen Cert.DwOutIdeal.Value Cert.Contract
open Idealize.ShloMosaic Idealize.ShloMosaic.TcCoe Idealize.ShloMosaic.ValueIdx
open scoped BigOperators

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The first stretch: the scratch holds the product of the two blocks. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x : Vec F S2048x1024 .bf16) (y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1024) hz]

/-- The two stretches between: the blocks' product is added to the scratch. -/
theorem middle (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : ¬cond0_2 i)
    (x : Vec F S2048x1024 .bf16) (y : Vec F S2048x1024 .bf16) (s : Vec F S1024x1024 .f32) :
    sout0_B_0 c i a3 h3 a4 h4 a5 h5 a6 h6 hc0 hc1 hc2 x y s = k0_pay2 s x y := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

/-- The last stretch: the result's block is the scratch and the blocks' product, rounded once. -/
theorem last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x : Vec F S2048x1024 .bf16) (y : Vec F S2048x1024 .bf16) (s : Vec F S1024x1024 .f32) :
    out0_C_2 c i a3 h3 a4 h4 a5 h5 a6 h6 hc0 hc1 hc2 x y s = k0_pay3 s x y := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem outs_congr (c : Dev nD) {n n' : ℕ} (e : n = n') (h : n < cfg0.N) (h' : n' < cfg0.N) :
    outsAt0 m c n h = outsAt0 m c n' h' := by subst e; rfl

/-- Block `j` of the rows of the operands, at the block `q` of the result. -/
abbrev pt (q : Fin 1) (j : Fin 4) : Fin cfg0.N := ⟨4 * q.val + j.val, lt_of_lt_of_eq (by omega) N_0.symm⟩

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  exact first (F := F) ..

theorem at_middle (c : Dev nD) (t : Fin cfg0.N) (h : 1 ≤ t.val % 4 ∧ t.val % 4 ≤ 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  exact middle (F := F) ..

theorem at_last (c : Dev nD) (t : Fin cfg0.N) (h : t.val % 4 = 3) :
    (outsAt0 m c t.val t.isLt).1
      = k0_pay3 (outsAt0 m c (t.val - 1) (Nat.lt_of_le_of_lt (Nat.sub_le _ _) t.isLt)).2 (iblk m c 0 t) (iblk m c 1 t) := by
  rw [outsAt0_C m c t (by omega) (by omega) h]
  dsimp only
  exact last (F := F) ..

/-- What a run of four points writes out. -/
theorem written (c : Dev nD) (q : Fin 1) :
    (outsAt0 m c (pt q 3).val (pt q 3).isLt).1
      = k0_pay3 (k0_pay2 (k0_pay2 (k0_pay1 (iblk m c 0 (pt q 0)) (iblk m c 1 (pt q 0))) (iblk m c 0 (pt q 1)) (iblk m c 1 (pt q 1)))
          (iblk m c 0 (pt q 2)) (iblk m c 1 (pt q 2))) (iblk m c 0 (pt q 3)) (iblk m c 1 (pt q 3)) := by
  have e0 := at_first m c (pt q 0) (by show (4 * q.val + 0) % 4 = 0; omega)
  have e1 := at_middle m c (pt q 1) (by show 1 ≤ (4 * q.val + 1) % 4 ∧ (4 * q.val + 1) % 4 ≤ 2; omega)
  have e2 := at_middle m c (pt q 2) (by show 1 ≤ (4 * q.val + 2) % 4 ∧ (4 * q.val + 2) % 4 ≤ 2; omega)
  have e3 := at_last m c (pt q 3) (by show (4 * q.val + 3) % 4 = 3; omega)
  rw [outs_congr m c (show (pt q 1).val - 1 = (pt q 0).val by show 4 * q.val + 1 - 1 = 4 * q.val + 0; omega) _ (pt q 0).isLt, e0] at e1
  rw [outs_congr m c (show (pt q 2).val - 1 = (pt q 1).val by show 4 * q.val + 2 - 1 = 4 * q.val + 1; omega) _ (pt q 1).isLt, e1] at e2
  rw [outs_congr m c (show (pt q 3).val - 1 = (pt q 2).val by show 4 * q.val + 3 - 1 = 4 * q.val + 2; omega) _ (pt q 2).isLt, e2] at e3
  exact e3

/-- The two operands. -/
abbrev xs (c : Dev nD) : FVec F S8192x1024 .bf16 := m ((c : Thread nD τ).loc main_arg0)
abbrev ys (c : Dev nD) : FVec F S8192x1024 .bf16 := m ((c : Thread nD τ).loc main_arg1)

/-- Which blocks of the operands a point reads. -/
theorem index_x : ∀ (q : Fin 1) (j : Fin 4), win0_0.index (pt q j) 0 = j.val ∧ win0_0.index (pt q j) 1 = 0 := by decide +kernel
theorem index_y : ∀ (q : Fin 1) (j : Fin 4), win0_1.index (pt q j) 0 = j.val ∧ win0_1.index (pt q j) 1 = 0 := by decide +kernel

theorem block_x (c : Dev nD) (q : Fin 1) (j : Fin 4) (k : Fin 2048) (r : Fin 1024) :
    (iblk m c 0 (pt q j) : FVec F S2048x1024 .bf16) (ix2 k r)
      = xs m c (ix2 (row j k) (⟨0 * 1024 + r.val, by omega⟩ : Fin 1024)) := by
  obtain ⟨h0, h1⟩ := index_x q j
  unfold iblk
  rw [View.read_apply]
  show V m c main_arg0 _ = m (c.tc.loc main_arg0) _
  unfold V
  congr 1
  funext a
  apply Fin.ext
  match a with
  | ⟨0, _⟩ => show win0_0.index (pt q j) 0 * 2048 + 1 * k.val = 2048 * j.val + k.val; rw [h0]; omega
  | ⟨1, _⟩ => show win0_0.index (pt q j) 1 * 1024 + 1 * r.val = 0 * 1024 + r.val; rw [h1]; omega

theorem block_y (c : Dev nD) (q : Fin 1) (j : Fin 4) (k : Fin 2048) (s : Fin 1024) :
    (iblk m c 1 (pt q j) : FVec F S2048x1024 .bf16) (ix2 k s)
      = ys m c (ix2 (row j k) (⟨0 * 1024 + s.val, by omega⟩ : Fin 1024)) := by
  obtain ⟨h0, h1⟩ := index_y q j
  unfold iblk
  rw [View.read_apply]
  show V m c main_arg1 _ = m (c.tc.loc main_arg1) _
  unfold V
  congr 1
  funext a
  apply Fin.ext
  match a with
  | ⟨0, _⟩ => show win0_1.index (pt q j) 0 * 2048 + 1 * k.val = 2048 * j.val + k.val; rw [h0]; omega
  | ⟨1, _⟩ => show win0_1.index (pt q j) 1 * 1024 + 1 * s.val = 0 * 1024 + s.val; rw [h1]; omega

end AnyFloat

/-! ## Over the extended reals -/

theorem dims : dot_S2048x1024_S2048x1024_S1024x1024_0_0_1_1_n_n = rowsDims 2048 1024 1024 := rfl

theorem pay1_apply (x : FVec Ideal S2048x1024 .bf16) (y : FVec Ideal S2048x1024 .bf16) (r : Fin 1024) (s : Fin 1024) :
    (k0_pay1 (F := Ideal) x y : FVec Ideal S1024x1024 .f32) (ix2 r s) = ∑ k : Fin 2048, x (ix2 k r) * y (ix2 k s) := by
  unfold k0_pay1
  rw [shapeCast_self, dims, matmul_rows_zero]

theorem pay2_apply (a : FVec Ideal S1024x1024 .f32) (x : FVec Ideal S2048x1024 .bf16) (y : FVec Ideal S2048x1024 .bf16) (r : Fin 1024) (s : Fin 1024) :
    (k0_pay2 (F := Ideal) a x y : FVec Ideal S1024x1024 .f32) (ix2 r s) = a (ix2 r s) + ∑ k : Fin 2048, x (ix2 k r) * y (ix2 k s) := by
  unfold k0_pay2
  rw [shapeCast_self, addf_apply, dims, matmul_rows_zero]

theorem pay3_apply (a : FVec Ideal S1024x1024 .f32) (x : FVec Ideal S2048x1024 .bf16) (y : FVec Ideal S2048x1024 .bf16) (r : Fin 1024) (s : Fin 1024) :
    (k0_pay3 (F := Ideal) a x y : FVec Ideal S1024x1024 .bf16) (ix2 r s) = a (ix2 r s) + ∑ k : Fin 2048, x (ix2 k r) * y (ix2 k s) := by
  unfold k0_pay3
  rw [truncf_apply, addf_apply, dims, matmul_rows_zero]

/-- THE KERNEL'S RESULT at one index: the product of the two operands over all rows. -/
theorem kernel_value (m : (ℓ : Loc nD τ sig) → Buf (Elt Ideal) ℓ) (c : Dev nD) (r : Fin 1024) (s : Fin 1024) :
    (G2 m c : FVec Ideal S1024x1024 .bf16) (ix2 r s)
      = ∑ k : Fin 8192, xs m c (ix2 k r)
          * ys m c (ix2 k s) := by
  obtain ⟨q, hq⟩ : ∃ q : Fin 1, q.val = 0 := ⟨⟨0, by omega⟩, rfl⟩
  obtain ⟨r', hr⟩ : ∃ r' : Fin 1024, r'.val = r.val % 1024 := ⟨⟨r.val % 1024, by omega⟩, rfl⟩
  obtain ⟨s', hs⟩ : ∃ s' : Fin 1024, s'.val = s.val % 1024 := ⟨⟨s.val % 1024, by omega⟩, rfl⟩
  have hp : pt2Of (ix2 r s : S1024x1024.Idx) = (pt q 3).val := by
    show 4 * (1 * (r.val / 1024 - 0) + 1 * (s.val / 1024 - 0)) + 3 = 4 * q.val + 3
    rw [hq]; omega
  have hl : loc2Of (ix2 r s : S1024x1024.Idx) = ix2 r' s' := by
    funext a; apply Fin.ext
    match a with
    | ⟨0, _⟩ => exact hr.symm
    | ⟨1, _⟩ => exact hs.symm
  have hr' : (⟨0 * 1024 + r'.val, by omega⟩ : Fin 1024) = r := Fin.ext (by show 0 * 1024 + r'.val = r.val; omega)
  have hs' : (⟨0 * 1024 + s'.val, by omega⟩ : Fin 1024) = s := Fin.ext (by show 0 * 1024 + s'.val = s.val; omega)
  unfold G2
  rw [dif_pos (by rw [hp]; exact (pt q 3).isLt), hl]
  have hw : Pipeline.accAt (fun n h => stAt0 m c n h junk0) (stAt0 m c) 0 (pt2Of (ix2 r s : S1024x1024.Idx))
        (by rw [hp, Nat.zero_add]; exact (pt q 3).isLt)
      = outsAt0 m c (pt q 3).val (pt q 3).isLt := by
    rw [outsAt0_sweep]
    exact fold0_congr m c _ _ _ _ hp
  refine (congrFun (congrArg Prod.fst hw) _).trans ?_
  rw [written, pay3_apply, pay2_apply, pay2_apply, pay1_apply, sum_stretches]
  simp only [block_x, block_y, hr', hs']

/-- THE REFERENCE'S RESULT at one index. -/
theorem reference_value (x : FVec Ideal S8192x1024 .bf16) (y : FVec Ideal S8192x1024 .bf16) (r : Fin 1024) (s : Fin 1024)
    (hb : FTy.bits .bf16 < FTy.bits .f32) (ht : (⟨2, ![1024, 1024]⟩ : Shape).Transposes [1, 0] ⟨2, ![1024, 1024]⟩) :
    (truncf .bf16 (transpose ⟨2, ![1024, 1024]⟩ [1, 0] (Host.dotGeneral (rowsDims 8192 1024 1024) none (extf .f32 y hb) (extf .f32 x hb)) ht) hb : FVec Ideal S1024x1024 .bf16) (ix2 r s)
      = ∑ k : Fin 8192, x (ix2 k r) * y (ix2 k s) := by
  rw [truncf_apply, transpose_ix2_apply, host_rows]
  exact Finset.sum_congr rfl fun k _ => mul_comm _ _

/-- So the two programs' results are the same array. -/
theorem equal (m : (ℓ : Loc nD τ sig) → Buf (Elt Ideal) ℓ) (c : Dev nD)
    (hb : FTy.bits .bf16 < FTy.bits .f32) (ht : (⟨2, ![1024, 1024]⟩ : Shape).Transposes [1, 0] ⟨2, ![1024, 1024]⟩) :
    (G2 m c : FVec Ideal S1024x1024 .bf16) = truncf .bf16 (transpose ⟨2, ![1024, 1024]⟩ [1, 0] (Host.dotGeneral (rowsDims 8192 1024 1024) none (extf .f32 (ys m c) hb) (extf .f32 (xs m c) hb)) ht) hb := by
  funext i
  rw [eq_ix2 i]
  exact (kernel_value m c (i 0) (i 1)).trans (reference_value (xs m c) (ys m c) (i 0) (i 1) hb ht).symm

end Cert.DwOutProof

end
-- ==== Proof.DwGate.lean ====
/-
  The gradient of the per-layer embedding gate's weight: what the kernel's run leaves in its result, over the extended reals, is the product
  `xᵀ · y` over all 8192 rows, which is what the plain product of the reference is. The kernel walks the rows in four
  stretches of 2048: it starts a block of the result with the first stretch's product, adds the next two to a scratch
  buffer, and writes the block out with the last one added.
-/
module

public import proofs.«01_k».proof.Proof.Contract
public import proofs.«01_k».proof.Proof.Gen.DwGateIdeal.Value
public import proofs.«01_k».proof.Proof.Gen.DwGateRefIdeal.Run
public import Idealize.ShloMosaic.Lib.ValueIdx
public import Idealize.ShloMosaic.Lib.ValueLayout

@[expose] public section

noncomputable section

namespace Cert.DwGateProof

open Cert.DwGateIdeal Cert.DwGateIdeal.Gen Cert.DwGateIdeal.Value Cert.Contract
open Idealize.ShloMosaic Idealize.ShloMosaic.TcCoe Idealize.ShloMosaic.ValueIdx
open scoped BigOperators

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The first stretch: the scratch holds the product of the two blocks. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x : Vec F S2048x1024 .bf16) (y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz, View.ld_unit_zero (S := S2048x1024) hz]

/-- The two stretches between: the blocks' product is added to the scratch. -/
theorem middle (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : ¬cond0_2 i)
    (x : Vec F S2048x1024 .bf16) (y : Vec F S2048x1024 .bf16) (s : Vec F S1024x1024 .f32) :
    sout0_B_0 c i a3 h3 a4 h4 a5 h5 a6 h6 hc0 hc1 hc2 x y s = k0_pay2 s x y := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

/-- The last stretch: the result's block is the scratch and the blocks' product, rounded once. -/
theorem last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i) (hc2 : cond0_2 i)
    (x : Vec F S2048x1024 .bf16) (y : Vec F S2048x1024 .bf16) (s : Vec F S1024x1024 .f32) :
    out0_C_2 c i a3 h3 a4 h4 a5 h5 a6 h6 hc0 hc1 hc2 x y s = k0_pay3 s x y := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem outs_congr (c : Dev nD) {n n' : ℕ} (e : n = n') (h : n < cfg0.N) (h' : n' < cfg0.N) :
    outsAt0 m c n h = outsAt0 m c n' h' := by subst e; rfl

/-- Block `j` of the rows of the operands, at the block `q` of the result. -/
abbrev pt (q : Fin 1) (j : Fin 4) : Fin cfg0.N := ⟨4 * q.val + j.val, lt_of_lt_of_eq (by omega) N_0.symm⟩

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  exact first (F := F) ..

theorem at_middle (c : Dev nD) (t : Fin cfg0.N) (h : 1 ≤ t.val % 4 ∧ t.val % 4 ≤ 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  exact middle (F := F) ..

theorem at_last (c : Dev nD) (t : Fin cfg0.N) (h : t.val % 4 = 3) :
    (outsAt0 m c t.val t.isLt).1
      = k0_pay3 (outsAt0 m c (t.val - 1) (Nat.lt_of_le_of_lt (Nat.sub_le _ _) t.isLt)).2 (iblk m c 0 t) (iblk m c 1 t) := by
  rw [outsAt0_C m c t (by omega) (by omega) h]
  dsimp only
  exact last (F := F) ..

/-- What a run of four points writes out. -/
theorem written (c : Dev nD) (q : Fin 1) :
    (outsAt0 m c (pt q 3).val (pt q 3).isLt).1
      = k0_pay3 (k0_pay2 (k0_pay2 (k0_pay1 (iblk m c 0 (pt q 0)) (iblk m c 1 (pt q 0))) (iblk m c 0 (pt q 1)) (iblk m c 1 (pt q 1)))
          (iblk m c 0 (pt q 2)) (iblk m c 1 (pt q 2))) (iblk m c 0 (pt q 3)) (iblk m c 1 (pt q 3)) := by
  have e0 := at_first m c (pt q 0) (by show (4 * q.val + 0) % 4 = 0; omega)
  have e1 := at_middle m c (pt q 1) (by show 1 ≤ (4 * q.val + 1) % 4 ∧ (4 * q.val + 1) % 4 ≤ 2; omega)
  have e2 := at_middle m c (pt q 2) (by show 1 ≤ (4 * q.val + 2) % 4 ∧ (4 * q.val + 2) % 4 ≤ 2; omega)
  have e3 := at_last m c (pt q 3) (by show (4 * q.val + 3) % 4 = 3; omega)
  rw [outs_congr m c (show (pt q 1).val - 1 = (pt q 0).val by show 4 * q.val + 1 - 1 = 4 * q.val + 0; omega) _ (pt q 0).isLt, e0] at e1
  rw [outs_congr m c (show (pt q 2).val - 1 = (pt q 1).val by show 4 * q.val + 2 - 1 = 4 * q.val + 1; omega) _ (pt q 1).isLt, e1] at e2
  rw [outs_congr m c (show (pt q 3).val - 1 = (pt q 2).val by show 4 * q.val + 3 - 1 = 4 * q.val + 2; omega) _ (pt q 2).isLt, e2] at e3
  exact e3

/-- The two operands. -/
abbrev xs (c : Dev nD) : FVec F S8192x1024 .bf16 := m ((c : Thread nD τ).loc main_arg0)
abbrev ys (c : Dev nD) : FVec F S8192x1024 .bf16 := m ((c : Thread nD τ).loc main_arg1)

/-- Which blocks of the operands a point reads. -/
theorem index_x : ∀ (q : Fin 1) (j : Fin 4), win0_0.index (pt q j) 0 = j.val ∧ win0_0.index (pt q j) 1 = 0 := by decide +kernel
theorem index_y : ∀ (q : Fin 1) (j : Fin 4), win0_1.index (pt q j) 0 = j.val ∧ win0_1.index (pt q j) 1 = 0 := by decide +kernel

theorem block_x (c : Dev nD) (q : Fin 1) (j : Fin 4) (k : Fin 2048) (r : Fin 1024) :
    (iblk m c 0 (pt q j) : FVec F S2048x1024 .bf16) (ix2 k r)
      = xs m c (ix2 (row j k) (⟨0 * 1024 + r.val, by omega⟩ : Fin 1024)) := by
  obtain ⟨h0, h1⟩ := index_x q j
  unfold iblk
  rw [View.read_apply]
  show V m c main_arg0 _ = m (c.tc.loc main_arg0) _
  unfold V
  congr 1
  funext a
  apply Fin.ext
  match a with
  | ⟨0, _⟩ => show win0_0.index (pt q j) 0 * 2048 + 1 * k.val = 2048 * j.val + k.val; rw [h0]; omega
  | ⟨1, _⟩ => show win0_0.index (pt q j) 1 * 1024 + 1 * r.val = 0 * 1024 + r.val; rw [h1]; omega

theorem block_y (c : Dev nD) (q : Fin 1) (j : Fin 4) (k : Fin 2048) (s : Fin 1024) :
    (iblk m c 1 (pt q j) : FVec F S2048x1024 .bf16) (ix2 k s)
      = ys m c (ix2 (row j k) (⟨0 * 1024 + s.val, by omega⟩ : Fin 1024)) := by
  obtain ⟨h0, h1⟩ := index_y q j
  unfold iblk
  rw [View.read_apply]
  show V m c main_arg1 _ = m (c.tc.loc main_arg1) _
  unfold V
  congr 1
  funext a
  apply Fin.ext
  match a with
  | ⟨0, _⟩ => show win0_1.index (pt q j) 0 * 2048 + 1 * k.val = 2048 * j.val + k.val; rw [h0]; omega
  | ⟨1, _⟩ => show win0_1.index (pt q j) 1 * 1024 + 1 * s.val = 0 * 1024 + s.val; rw [h1]; omega

end AnyFloat

/-! ## Over the extended reals -/

theorem dims : dot_S2048x1024_S2048x1024_S1024x1024_0_0_1_1_n_n = rowsDims 2048 1024 1024 := rfl

theorem pay1_apply (x : FVec Ideal S2048x1024 .bf16) (y : FVec Ideal S2048x1024 .bf16) (r : Fin 1024) (s : Fin 1024) :
    (k0_pay1 (F := Ideal) x y : FVec Ideal S1024x1024 .f32) (ix2 r s) = ∑ k : Fin 2048, x (ix2 k r) * y (ix2 k s) := by
  unfold k0_pay1
  rw [shapeCast_self, dims, matmul_rows_zero]

theorem pay2_apply (a : FVec Ideal S1024x1024 .f32) (x : FVec Ideal S2048x1024 .bf16) (y : FVec Ideal S2048x1024 .bf16) (r : Fin 1024) (s : Fin 1024) :
    (k0_pay2 (F := Ideal) a x y : FVec Ideal S1024x1024 .f32) (ix2 r s) = a (ix2 r s) + ∑ k : Fin 2048, x (ix2 k r) * y (ix2 k s) := by
  unfold k0_pay2
  rw [shapeCast_self, addf_apply, dims, matmul_rows_zero]

theorem pay3_apply (a : FVec Ideal S1024x1024 .f32) (x : FVec Ideal S2048x1024 .bf16) (y : FVec Ideal S2048x1024 .bf16) (r : Fin 1024) (s : Fin 1024) :
    (k0_pay3 (F := Ideal) a x y : FVec Ideal S1024x1024 .bf16) (ix2 r s) = a (ix2 r s) + ∑ k : Fin 2048, x (ix2 k r) * y (ix2 k s) := by
  unfold k0_pay3
  rw [truncf_apply, addf_apply, dims, matmul_rows_zero]

/-- THE KERNEL'S RESULT at one index: the product of the two operands over all rows. -/
theorem kernel_value (m : (ℓ : Loc nD τ sig) → Buf (Elt Ideal) ℓ) (c : Dev nD) (r : Fin 1024) (s : Fin 1024) :
    (G2 m c : FVec Ideal S1024x1024 .bf16) (ix2 r s)
      = ∑ k : Fin 8192, xs m c (ix2 k r)
          * ys m c (ix2 k s) := by
  obtain ⟨q, hq⟩ : ∃ q : Fin 1, q.val = 0 := ⟨⟨0, by omega⟩, rfl⟩
  obtain ⟨r', hr⟩ : ∃ r' : Fin 1024, r'.val = r.val % 1024 := ⟨⟨r.val % 1024, by omega⟩, rfl⟩
  obtain ⟨s', hs⟩ : ∃ s' : Fin 1024, s'.val = s.val % 1024 := ⟨⟨s.val % 1024, by omega⟩, rfl⟩
  have hp : pt2Of (ix2 r s : S1024x1024.Idx) = (pt q 3).val := by
    show 4 * (1 * (r.val / 1024 - 0) + 1 * (s.val / 1024 - 0)) + 3 = 4 * q.val + 3
    rw [hq]; omega
  have hl : loc2Of (ix2 r s : S1024x1024.Idx) = ix2 r' s' := by
    funext a; apply Fin.ext
    match a with
    | ⟨0, _⟩ => exact hr.symm
    | ⟨1, _⟩ => exact hs.symm
  have hr' : (⟨0 * 1024 + r'.val, by omega⟩ : Fin 1024) = r := Fin.ext (by show 0 * 1024 + r'.val = r.val; omega)
  have hs' : (⟨0 * 1024 + s'.val, by omega⟩ : Fin 1024) = s := Fin.ext (by show 0 * 1024 + s'.val = s.val; omega)
  unfold G2
  rw [dif_pos (by rw [hp]; exact (pt q 3).isLt), hl]
  have hw : Pipeline.accAt (fun n h => stAt0 m c n h junk0) (stAt0 m c) 0 (pt2Of (ix2 r s : S1024x1024.Idx))
        (by rw [hp, Nat.zero_add]; exact (pt q 3).isLt)
      = outsAt0 m c (pt q 3).val (pt q 3).isLt := by
    rw [outsAt0_sweep]
    exact fold0_congr m c _ _ _ _ hp
  refine (congrFun (congrArg Prod.fst hw) _).trans ?_
  rw [written, pay3_apply, pay2_apply, pay2_apply, pay1_apply, sum_stretches]
  simp only [block_x, block_y, hr', hs']

/-- THE REFERENCE'S RESULT at one index. -/
theorem reference_value (x : FVec Ideal S8192x1024 .bf16) (y : FVec Ideal S8192x1024 .bf16) (r : Fin 1024) (s : Fin 1024)
    (hb : FTy.bits .bf16 < FTy.bits .f32) (ht : (⟨2, ![1024, 1024]⟩ : Shape).Transposes [1, 0] ⟨2, ![1024, 1024]⟩) :
    (truncf .bf16 (transpose ⟨2, ![1024, 1024]⟩ [1, 0] (Host.dotGeneral (rowsDims 8192 1024 1024) none (extf .f32 y hb) (extf .f32 x hb)) ht) hb : FVec Ideal S1024x1024 .bf16) (ix2 r s)
      = ∑ k : Fin 8192, x (ix2 k r) * y (ix2 k s) := by
  rw [truncf_apply, transpose_ix2_apply, host_rows]
  exact Finset.sum_congr rfl fun k _ => mul_comm _ _

/-- So the two programs' results are the same array. -/
theorem equal (m : (ℓ : Loc nD τ sig) → Buf (Elt Ideal) ℓ) (c : Dev nD)
    (hb : FTy.bits .bf16 < FTy.bits .f32) (ht : (⟨2, ![1024, 1024]⟩ : Shape).Transposes [1, 0] ⟨2, ![1024, 1024]⟩) :
    (G2 m c : FVec Ideal S1024x1024 .bf16) = truncf .bf16 (transpose ⟨2, ![1024, 1024]⟩ [1, 0] (Host.dotGeneral (rowsDims 8192 1024 1024) none (extf .f32 (ys m c) hb) (extf .f32 (xs m c) hb)) ht) hb := by
  funext i
  rw [eq_ix2 i]
  exact (kernel_value m c (i 0) (i 1)).trans (reference_value (xs m c) (ys m c) (i 0) (i 1) hb ht).symm

end Cert.DwGateProof

end
-- ==== Proof.DwProj.lean ====
/-
  The gradient of the per-layer embedding projection's weight: what the kernel's run leaves in its result, over the extended reals, is the product
  `xᵀ · y` over all 8192 rows, which is what the plain product of the reference is. The kernel walks the rows in four
  stretches of 2048: it starts a block of the result with the first stretch's product, adds the next two to a scratch
  buffer, and writes the block out with the last one added.
-/
module

public import proofs.«01_k».proof.Proof.Contract
public import proofs.«01_k».proof.Proof.Gen.DwProjIdeal.Value
public import proofs.«01_k».proof.Proof.Gen.DwProjRefIdeal.Run
public import Idealize.ShloMosaic.Lib.ValueIdx
public import Idealize.ShloMosaic.Lib.ValueLayout

@[expose] public section

noncomputable section

namespace Cert.DwProjProof

open Cert.DwProjIdeal Cert.DwProjIdeal.Gen Cert.DwProjIdeal.Value Cert.Contract
open Idealize.ShloMosaic Idealize.ShloMosaic.TcCoe Idealize.ShloMosaic.ValueIdx
open scoped BigOperators

section AnyFloat

variable {F : FTy → Type} [FloatOps F]
variable (m : (ℓ : Loc nD τ sig) → Buf (Elt F) ℓ)

theorem hz : (![0, 0] : Fin 2 → Nat) = fun _ => 0 := funext fun a => by fin_cases a <;> rfl

/-- The first stretch: the scratch holds the product of the two blocks. -/
theorem first (c : Dev nD) (i : grid0.Coords) (a3 : Memref sig .tc .vmem S2048x256 .f32) (h3 : a3.IsWhole)
    (a4 : Memref sig .tc .vmem S2048x1024 .bf16) (h4 : a4.IsWhole) (a5 : Memref sig .tc .vmem S256x1024 .bf16) (h5 : a5.IsWhole)
    (a6 : Memref sig .tc .vmem S256x1024 .f32) (h6 : a6.IsWhole) (hc0 : cond0_0 i) (hc1 : ¬cond0_1 i) (hc2 : ¬cond0_2 i)
    (x : Vec F S2048x256 .f32) (y : Vec F S2048x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x256) hz, View.ld_unit_zero (S := S2048x1024) hz]

/-- The two stretches between: the blocks' product is added to the scratch. -/
theorem middle (c : Dev nD) (i : grid0.Coords) (a3 : Memref sig .tc .vmem S2048x256 .f32) (h3 : a3.IsWhole)
    (a4 : Memref sig .tc .vmem S2048x1024 .bf16) (h4 : a4.IsWhole) (a5 : Memref sig .tc .vmem S256x1024 .bf16) (h5 : a5.IsWhole)
    (a6 : Memref sig .tc .vmem S256x1024 .f32) (h6 : a6.IsWhole) (hc0 : ¬cond0_0 i) (hc1 : cond0_1 i) (hc2 : ¬cond0_2 i)
    (x : Vec F S2048x256 .f32) (y : Vec F S2048x1024 .bf16) (s : Vec F S256x1024 .f32) :
    sout0_B_0 c i a3 h3 a4 h4 a5 h5 a6 h6 hc0 hc1 hc2 x y s = k0_pay2 s x y := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero hz]
  simp only [View.readAt_eq_ld, h3.read_unread, h4.read_unread, h6.read_unread, View.ld_unit_zero (S := S2048x256) hz,
    View.ld_unit_zero (S := S2048x1024) hz, View.ld_unit_zero (S := S256x1024) hz]

/-- The last stretch: the result's block is the scratch and the blocks' product, rounded once. -/
theorem last (c : Dev nD) (i : grid0.Coords) (a3 : Memref sig .tc .vmem S2048x256 .f32) (h3 : a3.IsWhole)
    (a4 : Memref sig .tc .vmem S2048x1024 .bf16) (h4 : a4.IsWhole) (a5 : Memref sig .tc .vmem S256x1024 .bf16) (h5 : a5.IsWhole)
    (a6 : Memref sig .tc .vmem S256x1024 .f32) (h6 : a6.IsWhole) (hc0 : ¬cond0_0 i) (hc1 : ¬cond0_1 i) (hc2 : cond0_2 i)
    (x : Vec F S2048x256 .f32) (y : Vec F S2048x1024 .bf16) (s : Vec F S256x1024 .f32) :
    out0_C_2 c i a3 h3 a4 h4 a5 h5 a6 h6 hc0 hc1 hc2 x y s = k0_pay3 s x y := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero hz]
  simp only [View.readAt_eq_ld, h3.read_unread, h4.read_unread, h6.read_unread, View.ld_unit_zero (S := S2048x256) hz,
    View.ld_unit_zero (S := S2048x1024) hz, View.ld_unit_zero (S := S256x1024) hz]

theorem outs_congr (c : Dev nD) {n n' : ℕ} (e : n = n') (h : n < cfg0.N) (h' : n' < cfg0.N) :
    outsAt0 m c n h = outsAt0 m c n' h' := by subst e; rfl

/-- Block `j` of the rows of the operands, at the block `q` of the result. -/
abbrev pt (q : Fin 1) (j : Fin 4) : Fin cfg0.N := ⟨4 * q.val + j.val, lt_of_lt_of_eq (by omega) N_0.symm⟩

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  exact first (F := F) ..

theorem at_middle (c : Dev nD) (t : Fin cfg0.N) (h : 1 ≤ t.val % 4 ∧ t.val % 4 ≤ 2) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  exact middle (F := F) ..

theorem at_last (c : Dev nD) (t : Fin cfg0.N) (h : t.val % 4 = 3) :
    (outsAt0 m c t.val t.isLt).1
      = k0_pay3 (outsAt0 m c (t.val - 1) (Nat.lt_of_le_of_lt (Nat.sub_le _ _) t.isLt)).2 (iblk m c 0 t) (iblk m c 1 t) := by
  rw [outsAt0_C m c t (by omega) (by omega) h]
  dsimp only
  exact last (F := F) ..

/-- What a run of four points writes out. -/
theorem written (c : Dev nD) (q : Fin 1) :
    (outsAt0 m c (pt q 3).val (pt q 3).isLt).1
      = k0_pay3 (k0_pay2 (k0_pay2 (k0_pay1 (iblk m c 0 (pt q 0)) (iblk m c 1 (pt q 0))) (iblk m c 0 (pt q 1)) (iblk m c 1 (pt q 1)))
          (iblk m c 0 (pt q 2)) (iblk m c 1 (pt q 2))) (iblk m c 0 (pt q 3)) (iblk m c 1 (pt q 3)) := by
  have e0 := at_first m c (pt q 0) (by show (4 * q.val + 0) % 4 = 0; omega)
  have e1 := at_middle m c (pt q 1) (by show 1 ≤ (4 * q.val + 1) % 4 ∧ (4 * q.val + 1) % 4 ≤ 2; omega)
  have e2 := at_middle m c (pt q 2) (by show 1 ≤ (4 * q.val + 2) % 4 ∧ (4 * q.val + 2) % 4 ≤ 2; omega)
  have e3 := at_last m c (pt q 3) (by show (4 * q.val + 3) % 4 = 3; omega)
  rw [outs_congr m c (show (pt q 1).val - 1 = (pt q 0).val by show 4 * q.val + 1 - 1 = 4 * q.val + 0; omega) _ (pt q 0).isLt, e0] at e1
  rw [outs_congr m c (show (pt q 2).val - 1 = (pt q 1).val by show 4 * q.val + 2 - 1 = 4 * q.val + 1; omega) _ (pt q 1).isLt, e1] at e2
  rw [outs_congr m c (show (pt q 3).val - 1 = (pt q 2).val by show 4 * q.val + 3 - 1 = 4 * q.val + 2; omega) _ (pt q 2).isLt, e2] at e3
  exact e3

/-- The two operands. -/
abbrev xs (c : Dev nD) : FVec F S8192x256 .f32 := m ((c : Thread nD τ).loc main_arg0)
abbrev ys (c : Dev nD) : FVec F S8192x1024 .bf16 := m ((c : Thread nD τ).loc main_arg1)

/-- Which blocks of the operands a point reads. -/
theorem index_x : ∀ (q : Fin 1) (j : Fin 4), win0_0.index (pt q j) 0 = j.val ∧ win0_0.index (pt q j) 1 = 0 := by decide +kernel
theorem index_y : ∀ (q : Fin 1) (j : Fin 4), win0_1.index (pt q j) 0 = j.val ∧ win0_1.index (pt q j) 1 = 0 := by decide +kernel

theorem block_x (c : Dev nD) (q : Fin 1) (j : Fin 4) (k : Fin 2048) (r : Fin 256) :
    (iblk m c 0 (pt q j) : FVec F S2048x256 .f32) (ix2 k r)
      = xs m c (ix2 (row j k) (⟨0 * 256 + r.val, by omega⟩ : Fin 256)) := by
  obtain ⟨h0, h1⟩ := index_x q j
  unfold iblk
  rw [View.read_apply]
  show V m c main_arg0 _ = m (c.tc.loc main_arg0) _
  unfold V
  congr 1
  funext a
  apply Fin.ext
  match a with
  | ⟨0, _⟩ => show win0_0.index (pt q j) 0 * 2048 + 1 * k.val = 2048 * j.val + k.val; rw [h0]; omega
  | ⟨1, _⟩ => show win0_0.index (pt q j) 1 * 256 + 1 * r.val = 0 * 256 + r.val; rw [h1]; omega

theorem block_y (c : Dev nD) (q : Fin 1) (j : Fin 4) (k : Fin 2048) (s : Fin 1024) :
    (iblk m c 1 (pt q j) : FVec F S2048x1024 .bf16) (ix2 k s)
      = ys m c (ix2 (row j k) (⟨0 * 1024 + s.val, by omega⟩ : Fin 1024)) := by
  obtain ⟨h0, h1⟩ := index_y q j
  unfold iblk
  rw [View.read_apply]
  show V m c main_arg1 _ = m (c.tc.loc main_arg1) _
  unfold V
  congr 1
  funext a
  apply Fin.ext
  match a with
  | ⟨0, _⟩ => show win0_1.index (pt q j) 0 * 2048 + 1 * k.val = 2048 * j.val + k.val; rw [h0]; omega
  | ⟨1, _⟩ => show win0_1.index (pt q j) 1 * 1024 + 1 * s.val = 0 * 1024 + s.val; rw [h1]; omega

end AnyFloat

/-! ## Over the extended reals -/

theorem dims : dot_S2048x256_S2048x1024_S256x1024_0_0_1_1_n_n = rowsDims 2048 256 1024 := rfl

theorem pay1_apply (x : FVec Ideal S2048x256 .f32) (y : FVec Ideal S2048x1024 .bf16) (r : Fin 256) (s : Fin 1024) :
    (k0_pay1 (F := Ideal) x y : FVec Ideal S256x1024 .f32) (ix2 r s) = ∑ k : Fin 2048, x (ix2 k r) * y (ix2 k s) := by
  unfold k0_pay1
  rw [shapeCast_self, dims, matmul_rows_zero]
  rfl

theorem pay2_apply (a : FVec Ideal S256x1024 .f32) (x : FVec Ideal S2048x256 .f32) (y : FVec Ideal S2048x1024 .bf16) (r : Fin 256) (s : Fin 1024) :
    (k0_pay2 (F := Ideal) a x y : FVec Ideal S256x1024 .f32) (ix2 r s) = a (ix2 r s) + ∑ k : Fin 2048, x (ix2 k r) * y (ix2 k s) := by
  unfold k0_pay2
  rw [shapeCast_self, addf_apply, dims, matmul_rows_zero]
  rfl

theorem pay3_apply (a : FVec Ideal S256x1024 .f32) (x : FVec Ideal S2048x256 .f32) (y : FVec Ideal S2048x1024 .bf16) (r : Fin 256) (s : Fin 1024) :
    (k0_pay3 (F := Ideal) a x y : FVec Ideal S256x1024 .bf16) (ix2 r s) = a (ix2 r s) + ∑ k : Fin 2048, x (ix2 k r) * y (ix2 k s) := by
  unfold k0_pay3
  rw [truncf_apply, addf_apply, dims, matmul_rows_zero]
  rfl

/-- THE KERNEL'S RESULT at one index: the product of the two operands over all rows. -/
theorem kernel_value (m : (ℓ : Loc nD τ sig) → Buf (Elt Ideal) ℓ) (c : Dev nD) (r : Fin 256) (s : Fin 1024) :
    (G2 m c : FVec Ideal S256x1024 .bf16) (ix2 r s)
      = ∑ k : Fin 8192, xs m c (ix2 k r)
          * ys m c (ix2 k s) := by
  obtain ⟨q, hq⟩ : ∃ q : Fin 1, q.val = 0 := ⟨⟨0, by omega⟩, rfl⟩
  obtain ⟨r', hr⟩ : ∃ r' : Fin 256, r'.val = r.val % 256 := ⟨⟨r.val % 256, by omega⟩, rfl⟩
  obtain ⟨s', hs⟩ : ∃ s' : Fin 1024, s'.val = s.val % 1024 := ⟨⟨s.val % 1024, by omega⟩, rfl⟩
  have hp : pt2Of (ix2 r s : S256x1024.Idx) = (pt q 3).val := by
    show 4 * (1 * (r.val / 256 - 0) + 1 * (s.val / 1024 - 0)) + 3 = 4 * q.val + 3
    rw [hq]; omega
  have hl : loc2Of (ix2 r s : S256x1024.Idx) = ix2 r' s' := by
    funext a; apply Fin.ext
    match a with
    | ⟨0, _⟩ => exact hr.symm
    | ⟨1, _⟩ => exact hs.symm
  have hr' : (⟨0 * 256 + r'.val, by omega⟩ : Fin 256) = r := Fin.ext (by show 0 * 256 + r'.val = r.val; omega)
  have hs' : (⟨0 * 1024 + s'.val, by omega⟩ : Fin 1024) = s := Fin.ext (by show 0 * 1024 + s'.val = s.val; omega)
  unfold G2
  rw [dif_pos (by rw [hp]; exact (pt q 3).isLt), hl]
  have hw : Pipeline.accAt (fun n h => stAt0 m c n h junk0) (stAt0 m c) 0 (pt2Of (ix2 r s : S256x1024.Idx))
        (by rw [hp, Nat.zero_add]; exact (pt q 3).isLt)
      = outsAt0 m c (pt q 3).val (pt q 3).isLt := by
    rw [outsAt0_sweep]
    exact fold0_congr m c _ _ _ _ hp
  refine (congrFun (congrArg Prod.fst hw) _).trans ?_
  rw [written, pay3_apply, pay2_apply, pay2_apply, pay1_apply, sum_stretches]
  simp only [block_x, block_y, hr', hs']

/-- THE REFERENCE'S RESULT at one index. -/
theorem reference_value (x : FVec Ideal S8192x256 .f32) (y : FVec Ideal S8192x1024 .bf16) (r : Fin 256) (s : Fin 1024)
    (hb : FTy.bits .bf16 < FTy.bits .f32) (ht : (⟨2, ![1024, 256]⟩ : Shape).Transposes [1, 0] ⟨2, ![256, 1024]⟩) :
    (truncf .bf16 (transpose ⟨2, ![256, 1024]⟩ [1, 0] (Host.dotGeneral (rowsDims 8192 1024 256) none (extf .f32 y hb) (extf .f32 (truncf .bf16 x hb) hb)) ht) hb : FVec Ideal S256x1024 .bf16) (ix2 r s)
      = ∑ k : Fin 8192, x (ix2 k r) * y (ix2 k s) := by
  rw [truncf_apply, transpose_ix2_apply, host_rows]
  exact Finset.sum_congr rfl fun k _ => mul_comm _ _

/-- So the two programs' results are the same array. -/
theorem equal (m : (ℓ : Loc nD τ sig) → Buf (Elt Ideal) ℓ) (c : Dev nD)
    (hb : FTy.bits .bf16 < FTy.bits .f32) (ht : (⟨2, ![1024, 256]⟩ : Shape).Transposes [1, 0] ⟨2, ![256, 1024]⟩) :
    (G2 m c : FVec Ideal S256x1024 .bf16) = truncf .bf16 (transpose ⟨2, ![256, 1024]⟩ [1, 0] (Host.dotGeneral (rowsDims 8192 1024 256) none (extf .f32 (ys m c) hb) (extf .f32 (truncf .bf16 (xs m c) hb) hb)) ht) hb := by
  funext i
  rw [eq_ix2 i]
  exact (kernel_value m c (i 0) (i 1)).trans (reference_value (xs m c) (ys m c) (i 0) (i 1) hb ht).symm

end Cert.DwProjProof

end
-- ==== Proof.MlpUp.lean ====
/-
  The MLP's first layer and its activation: what the kernel's run leaves in its result, over the extended reals, is the
  square of the positive part of the product, which is what the reference computes. The kernel takes the weight as a stack
  of four blocks of columns and writes one block of 512 rows and 1024 columns at each point of its grid.
-/
module

public import proofs.«01_k».proof.Proof.Blocks
public import proofs.«01_k».proof.Proof.Gen.MlpUpIdeal.Value
public import proofs.«01_k».proof.Proof.Gen.MlpUpRefIdeal.Read
public import Idealize.ShloMosaic.Lib.ValueIdx
public import Idealize.ShloMosaic.Lib.ValueLayout
public import Idealize.ShloMosaic.Lib.Claim

@[expose] public section

noncomputable section

namespace Cert.MlpUpProof

open Cert.MlpUpIdeal Cert.MlpUpIdeal.Gen Cert.MlpUpIdeal.Value Cert.Blocks
open Idealize.ShloMosaic Idealize.ShloMosaic.TcCoe Idealize.ShloMosaic.ValueIdx
open Idealize.ShloMosaic.Pipeline (Dat)
open scoped BigOperators

variable (m : (ℓ : Loc nD τ sig) → Buf (Elt Ideal) ℓ)

/-- The two operands: the rows and the weight. -/
abbrev xs (c : Dev nD) : FVec Ideal S8192x1024 .bf16 := m ((c : Thread nD τ).loc main_arg0)
abbrev ws (c : Dev nD) : FVec Ideal S1024x4096 .bf16 := m ((c : Thread nD τ).loc main_arg1)

/-- The point of the grid at the `q`-th block of columns and the `p`-th block of rows. -/
abbrev pt (q : Fin 4) (p : Fin 16) : Fin cfg0.N := ⟨16 * q.val + p.val, lt_of_lt_of_eq (by omega) N_0.symm⟩

theorem index_x : ∀ (q : Fin 4) (p : Fin 16), win0_0.index (pt q p) 0 = p.val ∧ win0_0.index (pt q p) 1 = 0 := by decide +kernel
theorem index_w : ∀ (q : Fin 4) (p : Fin 16), win0_1.index (pt q p) 0 = q.val ∧ win0_1.index (pt q p) 1 = 0 ∧ win0_1.index (pt q p) 2 = 0 := by
  decide +kernel
theorem index_o : ∀ (q : Fin 4) (p : Fin 16), win0_2.index (pt q p) 0 = p.val ∧ win0_2.index (pt q p) 1 = q.val := by decide +kernel
theorem flush_o : ∀ (q : Fin 4) (p : Fin 16), (cfg0.win 2).flush (pt q p) = true := by decide +kernel

/-- The stack of the weight's blocks of columns, as the region finds it. -/
theorem stack (c : Dev nD) (q : Fin 4) (k s : Fin 1024) :
    (V m c main_v1 : FVec Ideal S4x1024x1024 .bf16) (ix3 q k s) = ws m c (ix2 k (⟨1024 * q.val + s.val, by omega⟩ : Fin 4096)) := by
  have e : (V m c main_v1 : FVec Ideal S4x1024x1024 .bf16)
      = transpose S4x1024x1024 [1, 0, 2] (shapeCast S1024x4x1024 (ws m c) shapeCasts_S1024x4096_S1024x4x1024) transposes_S1024x4x1024_S4x1024x1024_1_0_2 := by
    entry_read
    rfl
  rw [e, transpose_apply _ _ _ _ (ix3 k q s) (by intro b; match b with | ⟨0, _⟩ => rfl | ⟨1, _⟩ => rfl | ⟨2, _⟩ => rfl),
    shapeCast_apply _ _ _ (ix2 k (⟨1024 * q.val + s.val, by omega⟩ : Fin 4096)) (by
      rw [Shape.rowMajor_val_two, Shape.rowMajor_val_three]; show k.val * 4096 + (1024 * q.val + s.val) = (k.val * 4 + q.val) * 1024 + s.val; omega)]

theorem block_x (c : Dev nD) (q : Fin 4) (p : Fin 16) (r : Fin 512) (k : Fin 1024) :
    (iblk m c 0 (pt q p) : FVec Ideal S512x1024 .bf16) (ix2 r k) = xs m c (ix2 (⟨512 * p.val + r.val, by omega⟩ : Fin 8192) k) := by
  obtain ⟨h0, h1⟩ := index_x q p
  unfold iblk
  rw [View.read_apply]
  show V m c main_arg0 _ = m (c.tc.loc main_arg0) _
  rw [V_main_arg0]
  congr 1
  funext a
  apply Fin.ext
  match a with
  | ⟨0, _⟩ => show win0_0.index (pt q p) 0 * 512 + 1 * r.val = 512 * p.val + r.val; rw [h0]; omega
  | ⟨1, _⟩ => show win0_0.index (pt q p) 1 * 1024 + 1 * k.val = k.val; rw [h1]; omega

theorem block_w (c : Dev nD) (q : Fin 4) (p : Fin 16) (k s : Fin 1024) :
    (iblk m c 1 (pt q p) : FVec Ideal S1x1024x1024 .bf16) (ix3 (0 : Fin 1) k s)
      = ws m c (ix2 k (⟨1024 * q.val + s.val, by omega⟩ : Fin 4096)) := by
  obtain ⟨h0, h1, h2⟩ := index_w q p
  rw [← stack]
  unfold iblk
  rw [View.read_apply]
  show V m c main_v1 _ = V m c main_v1 _
  congr 1
  funext a
  apply Fin.ext
  match a with
  | ⟨0, _⟩ => show win0_1.index (pt q p) 0 * 1 + 1 * 0 = q.val; rw [h0]; omega
  | ⟨1, _⟩ => show win0_1.index (pt q p) 1 * 1024 + 1 * k.val = k.val; rw [h1]; omega
  | ⟨2, _⟩ => show win0_1.index (pt q p) 2 * 1024 + 1 * s.val = s.val; rw [h2]; omega

theorem dims : dot_S512x1024_S1024x1024_S512x1024_1_0_0_1_n_n = DotDims.plain 512 1024 1024 := rfl

/-- The positive part, squared. -/
def act (u : EReal) : EReal := max u 0 * max u 0

/-- One point's block of the result. -/
theorem pay_apply (x : FVec Ideal S512x1024 .bf16) (w : FVec Ideal S1x1024x1024 .bf16) (r : Fin 512) (s : Fin 1024) :
    (k0_pay1 (F := Ideal) x w : FVec Ideal S512x1024 .bf16) (ix2 r s) = act (∑ k : Fin 1024, x (ix2 r k) * w (ix3 (0 : Fin 1) k s)) := by
  unfold k0_pay1
  rw [truncf_apply, mulf_apply, maximumf_apply, dims, matmul_plain_zero]
  have e : ∀ k : Fin 1024, (shapeCast S1024x1024 w shapeCasts_S1x1024x1024_S1024x1024 : FVec Ideal S1024x1024 .bf16) (ix2 k s)
      = w (ix3 (0 : Fin 1) k s) := fun k =>
    shapeCast_apply _ _ _ _ (by rw [Shape.rowMajor_val_two, Shape.rowMajor_val_three]; show (0 * 1024 + k.val) * 1024 + s.val = k.val * 1024 + s.val; omega)
  simp only [e]
  show max _ (Ideal.ofBits .f32 0x00000000#32) * max _ (Ideal.ofBits .f32 0x00000000#32) = _
  rw [Ideal.ofBits_zero_f32]
  rfl

/-- THE KERNEL'S RESULT at one index. -/
theorem kernel_value (c : Dev nD) (r : Fin 8192) (s : Fin 4096) :
    ((dats m 0 c).arrAt 2 cfg0.N : FVec Ideal S8192x4096 .bf16) (ix2 r s) = act (∑ k : Fin 1024, xs m c (ix2 r k) * ws m c (ix2 k s)) := by
  obtain ⟨p, hp⟩ : ∃ p : Fin 16, p.val = r.val / 512 := ⟨⟨r.val / 512, by omega⟩, rfl⟩
  obtain ⟨q, hq⟩ : ∃ q : Fin 4, q.val = s.val / 1024 := ⟨⟨s.val / 1024, by omega⟩, rfl⟩
  obtain ⟨r', hr⟩ : ∃ r' : Fin 512, r'.val = r.val % 512 := ⟨⟨r.val % 512, by omega⟩, rfl⟩
  obtain ⟨s', hs⟩ : ∃ s' : Fin 1024, s'.val = s.val % 1024 := ⟨⟨s.val % 1024, by omega⟩, rfl⟩
  have er : (⟨512 * p.val + r'.val, by omega⟩ : Fin 8192) = r := Fin.ext (by show 512 * p.val + r'.val = r.val; omega)
  have es : (⟨1024 * q.val + s'.val, by omega⟩ : Fin 4096) = s := Fin.ext (by show 1024 * q.val + s'.val = s.val; omega)
  obtain ⟨h0, h1⟩ := index_o q p
  have h := congrFun (blocks2 m c (pt q p) (flush_o q p)) (ix2 r' s')
  rw [View.read_apply] at h
  have ei : ((cfg0.win 2).blk (pt q p)).view.emb (ix2 r' s') = (ix2 r s : S8192x4096.Idx) := by
    funext a
    apply Fin.ext
    match a with
    | ⟨0, _⟩ => show win0_2.index (pt q p) 0 * 512 + 1 * r'.val = r.val; rw [h0]; omega
    | ⟨1, _⟩ => show win0_2.index (pt q p) 1 * 1024 + 1 * s'.val = s.val; rw [h1]; omega
  rw [ei] at h
  refine (show _ = _ from h).trans ?_
  rw [flushed2]
  show out0_2 (iblk m c 0 (pt q p)) (iblk m c 1 (pt q p)) (ix2 r' s') = _
  unfold out0_2
  rw [View.canon_unit_zero hz, View.ld_unit_zero (S := S512x1024) hz, View.ld_unit_zero (S := S1x1024x1024) hz3, pay_apply]
  simp only [block_x, block_w, er, es]

theorem host_product (x : FVec Ideal S8192x1024 .bf16) (w : FVec Ideal S1024x4096 .bf16) (r : Fin 8192) (s : Fin 4096) :
    (Cert.MlpUpRefIdeal.Read.val_main_v2 (F := Ideal) x w : FVec Ideal S8192x4096 .f32) (ix2 r s) = ∑ k : Fin 1024, x (ix2 r k) * w (ix2 k s) := by
  unfold Cert.MlpUpRefIdeal.Read.val_main_v2
  exact host_plain none _ _ r s

/-- THE REFERENCE'S RESULT at one index. -/
theorem reference_value (x : FVec Ideal S8192x1024 .bf16) (w : FVec Ideal S1024x4096 .bf16) (r : Fin 8192) (s : Fin 4096) :
    (Cert.MlpUpRefIdeal.Read.val_main_v5 (F := Ideal) x w : FVec Ideal S8192x4096 .bf16) (ix2 r s) = act (∑ k : Fin 1024, x (ix2 r k) * w (ix2 k s)) := by
  rw [Cert.MlpUpRefIdeal.Read.val_main_v5_apply, Cert.MlpUpRefIdeal.Read.val_main_v4_apply, Cert.MlpUpRefIdeal.Read.val_main_v3_apply,
    Cert.MlpUpRefIdeal.Read.val_main_call0_v0_apply, Cert.MlpUpRefIdeal.Read.val_main_call0_cst_apply, host_product]
  show max _ (Ideal.ofBits .f32 0x00000000#32) * max _ (Ideal.ofBits .f32 0x00000000#32) = _
  rw [Ideal.ofBits_zero_f32]
  rfl

/-- So the two programs' results are the same array. -/
theorem equal (c : Dev nD) :
    ((dats m 0 c).arrAt 2 cfg0.N : FVec Ideal S8192x4096 .bf16) = Cert.MlpUpRefIdeal.Read.val_main_v5 (F := Ideal) (xs m c) (ws m c) := by
  funext i
  obtain ⟨r, s, rfl⟩ : ∃ r s, i = ix2 r s := ⟨i 0, i 1, eq_ix2 i⟩
  rw [kernel_value, reference_value]

end Cert.MlpUpProof

end
-- ==== Proof.NatRead.lean ====
/-
  An array read at natural numbers, zero outside: the shifted rows of a convolution or of a pooling window are then written
  without bounds.
-/
module

public import Idealize.ShloMosaic.PureOps.Ideal.Laws
public import Idealize.ShloMosaic.Lib.ValueIdxCore

@[expose] public section

noncomputable section

namespace Cert.NatRead

open Idealize.ShloMosaic Idealize.ShloMosaic.ValueIdx

/-- A matrix and a stack of matrices read at natural numbers, zero outside. -/
def nat2 {R C : ℕ} (x : (⟨2, ![R, C]⟩ : Shape).Idx → EReal) (r c : ℕ) : EReal :=
  if h : r < R ∧ c < C then x (ix2 (⟨r, h.1⟩ : Fin R) (⟨c, h.2⟩ : Fin C)) else 0
def nat3 {A R C : ℕ} (x : (⟨3, ![A, R, C]⟩ : Shape).Idx → EReal) (a r c : ℕ) : EReal :=
  if h : a < A ∧ r < R ∧ c < C then x (ix3 (⟨a, h.1⟩ : Fin A) (⟨r, h.2.1⟩ : Fin R) (⟨c, h.2.2⟩ : Fin C)) else 0

theorem nat2_val {R C : ℕ} (x : (⟨2, ![R, C]⟩ : Shape).Idx → EReal) (i : (⟨2, ![R, C]⟩ : Shape).Idx) (r c : ℕ)
    (hr : (i 0).val = r) (hc : (i 1).val = c) : nat2 x r c = x i := by
  subst hr hc
  unfold nat2
  rw [dif_pos ⟨(i 0).isLt, (i 1).isLt⟩]
  exact congrArg x (eq_ix2 i).symm

theorem nat3_val {A R C : ℕ} (x : (⟨3, ![A, R, C]⟩ : Shape).Idx → EReal) (i : (⟨3, ![A, R, C]⟩ : Shape).Idx) (a r c : ℕ)
    (ha : (i 0).val = a) (hr : (i 1).val = r) (hc : (i 2).val = c) : nat3 x a r c = x i := by
  subst ha hr hc
  unfold nat3
  rw [dif_pos ⟨(i 0).isLt, (i 1).isLt, (i 2).isLt⟩]
  exact congrArg x (eq_ix3 i).symm

end Cert.NatRead

end
-- ==== Proof.AdamIn.lean ====
/-
  The optimiser's step on a weight of 1024 rows and 1668 columns, on two cores that hold the gradient in halves: what each core's run leaves in its four
  results, over the extended reals, is its block of what the reference computes. The kernel takes a block of 256 rows at
  each point of its grid, its gradient from the core's own rows or from the other core's, and works on it entry by entry.
-/
module

public import proofs.«01_k».proof.Proof.Blocks
public import proofs.«01_k».proof.Proof.AdamStep
public import proofs.«01_k».proof.Proof.NatRead
public import proofs.«01_k».proof.Proof.Gen.AdamInIdeal.Value
public import proofs.«01_k».proof.Proof.Gen.AdamInRefIdeal.Read
public import Idealize.ShloMosaic.Lib.ValueIdx
public import Idealize.ShloMosaic.Lib.ValueLayout
public import Idealize.ShloMosaic.Lib.Layout
public import Idealize.ShloMosaic.Lib.Claim
public import Idealize.ShloMosaic.Lib.Pointwise.SelectCore

@[expose] public section

noncomputable section

namespace Cert.AdamInProof

open Cert.Blocks Cert.AdamStep Cert.NatRead
open Idealize.ShloMosaic hiding ix1 ix2 ix3 eq_ix2
open Idealize.ShloMosaic.TcCoe Idealize.ShloMosaic.ValueIdx

/-! ## The reference -/

/-- Row `r` of one core's rows, among the rows of both. -/
abbrev whole (c : Dev Cert.AdamInIdeal.nD) (r : Fin 1024) : Fin 2048 := ⟨1024 * c.val + r.val, by have : c.val < 2 := c.isLt; omega⟩

theorem result_block (v : (⟨2, ![2048, 1668]⟩ : Shape).Idx → EReal) (c : Dev Cert.AdamInIdeal.nD) (r : Fin 1024) (k : Fin 1668) :
    (Layout.block ⟨2, ![1024, 1668]⟩ ⟨2, ![2048, 1668]⟩ 0 2 c v : (⟨2, ![1024, 1668]⟩ : Shape).Idx → EReal) (ix2 r k) = v (ix2 (whole c r) k) := by
  rw [Layout.block_apply]
  congr 1
  funext a
  apply Fin.ext
  match a with
  | ⟨0, _⟩ => show c.val * 1024 + r.val = 1024 * c.val + r.val; omega
  | ⟨1, _⟩ => rfl

/-- One core's row of a half gradient, among the rows of both cores' halves. -/
theorem operand_block (v : (⟨2, ![1024, 1668]⟩ : Shape).Idx → EReal) (c : Dev Cert.AdamInIdeal.nD) (r : Fin 512) (k : Fin 1668) :
    (Layout.block ⟨2, ![512, 1668]⟩ ⟨2, ![1024, 1668]⟩ 0 2 c v : (⟨2, ![512, 1668]⟩ : Shape).Idx → EReal) (ix2 r k) = nat2 v (512 * c.val + r.val) k.val := by
  rw [Layout.block_apply]
  refine (nat2_val v _ _ _ ?_ ?_).symm
  · show c.val * 512 + r.val = 512 * c.val + r.val; omega
  · rfl

section Reference

open Cert.AdamInRefIdeal Cert.AdamInRefIdeal.Gen Cert.AdamInRefIdeal.Read

/-- The gradient's row `r` of the `j`-th quarter of all rows: the quarters are one core's own, what it got from the other,
    what the other got, and the other's own. -/
def quarter (own other : FVec Ideal S1024x1668 .f32) : ℕ → ℕ → ℕ → EReal
  | 0, r, n => nat2 own r n
  | 1, r, n => nat2 other r n
  | 2, r, n => nat2 other (512 + r) n
  | _, r, n => nat2 own (512 + r) n

theorem stack (f0 f1 f2 f3 : FVec Ideal S512x1668 .f32) (N : ℕ → ℕ → ℕ → EReal) (h0 : ∀ i, f0 i = N 0 (i 0).val (i 1).val)
    (h1 : ∀ i, f1 i = N 1 (i 0).val (i 1).val) (h2 : ∀ i, f2 i = N 2 (i 0).val (i 1).val) (h3 : ∀ i, f3 i = N 3 (i 0).val (i 1).val)
    (t : Fin 2048) (n : Fin 1668) :
    (concatenate S2048x1668 0 [⟨S512x1668, f0⟩, ⟨S512x1668, f1⟩, ⟨S512x1668, f2⟩, ⟨S512x1668, f3⟩]
      concatenates_S512x1668_S512x1668_S512x1668_S512x1668_S2048x1668_d0 : FVec Ideal S2048x1668 .f32) (ix2 t n) = N (t.val / 512) (t.val % 512) n.val := by
  rw [concatenate_apply]
  simp only [concatenateAt_cons, concatenateAt_singleton, Shape.Idx.norm_def, h0, h1, h2, h3]
  show (if h : t.val < 512 then N 0 t.val n.val
    else if h : t.val - 512 < 512 then N 1 (t.val - 512) n.val
    else if h : t.val - 512 - 512 < 512 then N 2 (t.val - 512 - 512) n.val
    else N 3 (t.val - 512 - 512 - 512) n.val) = _
  have ht := t.isLt
  by_cases g1 : t.val < 512
  · rw [dif_pos g1, show t.val / 512 = 0 by omega, show t.val % 512 = t.val by omega]
  rw [dif_neg g1]
  by_cases g2 : t.val - 512 < 512
  · rw [dif_pos g2, show t.val / 512 = 1 by omega, show t.val % 512 = t.val - 512 by omega]
  rw [dif_neg g2]
  by_cases g3 : t.val - 512 - 512 < 512
  · rw [dif_pos g3, show t.val / 512 = 2 by omega, show t.val % 512 = t.val - 512 - 512 by omega]
  · rw [dif_neg g3, show t.val / 512 = 3 by omega, show t.val % 512 = t.val - 512 - 512 - 512 by omega]

theorem reference_gradient (own other : FVec Ideal S1024x1668 .f32) (t : Fin 2048) (k : Fin 1668) :
    (val_main_v4 (F := Ideal) own other : FVec Ideal S2048x1668 .f32) (ix2 t k) = quarter own other (t.val / 512) (t.val % 512) k.val := by
  refine stack _ _ _ _ (quarter own other) (fun i => ?_) (fun i => ?_) (fun i => ?_) (fun i => ?_) t k
  · rw [val_main_v0_apply]
    exact (nat2_val own _ _ _ rfl rfl).symm
  · rw [val_main_v1_apply]
    exact (nat2_val other _ _ _ rfl rfl).symm
  · rw [val_main_v2_apply]
    exact (nat2_val other _ _ _ (by rfl) (by rfl)).symm
  · rw [val_main_v3_apply]
    exact (nat2_val own _ _ _ (by rfl) (by rfl)).symm

theorem row_twice (c : Dev Cert.AdamInIdeal.nD) (r : Fin 1024) : (whole c r).val = 1024 + r.val ∨ (whole c r).val = r.val := by
  have hc : c.val < 2 := c.isLt
  show 1024 * c.val + r.val = 1024 + r.val ∨ 1024 * c.val + r.val = r.val
  omega

theorem twice (f : FVec Ideal S1024x1668 .f32) (r : Fin 1024) (n : Fin 1668) (t : Fin 2048) (h : t.val = 1024 + r.val ∨ t.val = r.val) :
    (concatenate S2048x1668 0 [⟨S1024x1668, f⟩, ⟨S1024x1668, f⟩] concatenates_S1024x1668_S1024x1668_S2048x1668_d0 : FVec Ideal S2048x1668 .f32) (ix2 t n)
      = f (ix2 r n) := by
  have hf : ∀ i, f i = nat2 f (i 0).val (i 1).val := fun i => (nat2_val f i _ _ rfl rfl).symm
  rw [concatenate_apply]
  simp only [concatenateAt_cons, concatenateAt_singleton, Shape.Idx.norm_def, hf]
  show (if h : t.val < 1024 then nat2 f t.val n.val else nat2 f (t.val - 1024) n.val) = nat2 f r.val n.val
  have hr := r.isLt
  by_cases g : t.val < 1024
  · rw [dif_pos g, show t.val = r.val by omega]
  · rw [dif_neg g, show t.val - 1024 = r.val by omega]

theorem host_flat (x : FVec Ideal S1x1024x1668 .f32) (r : Fin 1024) (k : Fin 1668) :
    (shapeCast S1024x1668 x shapeCasts_S1x1024x1668_S1024x1668 : FVec Ideal S1024x1668 .f32) (ix2 r k) = x (ix3 (0 : Fin 1) r k) :=
  shapeCast_apply _ _ _ _ (by rw [Shape.rowMajor_val_two, Shape.rowMajor_val_three]; show (0 * 1024 + r.val) * 1668 + k.val = r.val * 1668 + k.val; omega)

/-- An array that both cores hold, its rows twice. -/
theorem both (x : FVec Ideal S1x1024x1668 .f32) (c : Dev Cert.AdamInIdeal.nD) (r : Fin 1024) (k : Fin 1668) :
    (val_main_v6 (F := Ideal) x : FVec Ideal S2048x1668 .f32) (ix2 (whole c r) k) = x (ix3 (0 : Fin 1) r k) := by
  rw [← host_flat x]
  exact twice _ r k _ (row_twice c r)

theorem reference_mean (own other : FVec Ideal S1024x1668 .f32) (x : FVec Ideal S1x1024x1668 .f32) (c : Dev Cert.AdamInIdeal.nD) (r : Fin 1024) (k : Fin 1668) :
    (val_main_v11 (F := Ideal) own other x : FVec Ideal S2048x1668 .f32) (ix2 (whole c r) k)
      = mean (val_main_v4 (F := Ideal) own other (ix2 (whole c r) k)) (x (ix3 (0 : Fin 1) r k)) := by
  rw [← both x c]; rfl

theorem reference_square (own other : FVec Ideal S1024x1668 .f32) (x : FVec Ideal S1x1024x1668 .f32) (c : Dev Cert.AdamInIdeal.nD) (r : Fin 1024) (k : Fin 1668) :
    (val_main_v19 (F := Ideal) own other x : FVec Ideal S2048x1668 .f32) (ix2 (whole c r) k)
      = square (val_main_v4 (F := Ideal) own other (ix2 (whole c r) k)) (x (ix3 (0 : Fin 1) r k)) := by
  rw [← both x c]; rfl

theorem reference_change (own other : FVec Ideal S1024x1668 .f32) (w x y : FVec Ideal S1x1024x1668 .f32) (c : Dev Cert.AdamInIdeal.nD) (r : Fin 1024) (k : Fin 1668) :
    (val_main_v34 (F := Ideal) w own other x y : FVec Ideal S2048x1668 .f32) (ix2 (whole c r) k)
      = change (w (ix3 (0 : Fin 1) r k)) (mean (val_main_v4 (F := Ideal) own other (ix2 (whole c r) k)) (x (ix3 (0 : Fin 1) r k)))
          (square (val_main_v4 (F := Ideal) own other (ix2 (whole c r) k)) (y (ix3 (0 : Fin 1) r k))) := by
  rw [← reference_mean, ← reference_square, ← both w c]; rfl

end Reference

open Cert.AdamInIdeal Cert.AdamInIdeal.Gen Cert.AdamInIdeal.Value

/-! ## One point's blocks of the results, entry by entry -/

/-- The point of the grid at the `p`-th block of rows. -/
abbrev pt (p : Fin 4) : Fin cfg0.N := ⟨p.val, lt_of_lt_of_eq p.isLt N_0.symm⟩

/-- A core's own half of the gradient's rows is the half with the core's number; the other half came from the other core. -/
theorem chosen (p : Fin 4) (c : Dev nD) (a b : FVec Ideal S256x1668 .f32) :
    (k0_pay4 (F := Ideal) (grid0.coords (pt p)) c a b : FVec Ideal S256x1668 .f32) = if p.val / 2 = c.val then a else b := by
  unfold k0_pay4
  dsimp only
  simp only [shapeCast_self]
  refine (congrArg (fun w : BitVec 1 => Scalar.select w a b) (?_ : _ = if p.val / 2 = c.val then 1#1 else 0#1)).trans ?_
  · revert p c
    decide +kernel
  · by_cases h : p.val / 2 = c.val
    · rw [if_pos h, if_pos h]; rfl
    · rw [if_neg h, if_neg h]; rfl

/-- A stack of one matrix, read as the matrix. -/
theorem flat (x : FVec Ideal S1x256x1668 .f32) (r : Fin 256) (k : Fin 1668) :
    (shapeCast S256x1668 x shapeCasts_S1x256x1668_S256x1668 : FVec Ideal S256x1668 .f32) (ix2 r k) = x (ix3 (0 : Fin 1) r k) :=
  shapeCast_apply _ _ _ _ (by rw [Shape.rowMajor_val_two, Shape.rowMajor_val_three]; show (0 * 256 + r.val) * 1668 + k.val = r.val * 1668 + k.val; omega)

theorem pay_mean (g : FVec Ideal S256x1668 .f32) (x : FVec Ideal S1x256x1668 .f32) (r : Fin 256) (k : Fin 1668) :
    (k0_pay1 (F := Ideal) g (k0_pay7 x) (Scalar.ofBits .f32 0x3DCCCCCD#32) : FVec Ideal S256x1668 .f32) (ix2 r k) = mean (g (ix2 r k)) (x (ix3 (0 : Fin 1) r k)) := by
  rw [← flat x]; rfl

theorem pay_square (g : FVec Ideal S256x1668 .f32) (x : FVec Ideal S1x256x1668 .f32) (r : Fin 256) (k : Fin 1668) :
    (k0_pay2 (F := Ideal) g (k0_pay6 x) : FVec Ideal S256x1668 .f32) (ix2 r k) = square (g (ix2 r k)) (x (ix3 (0 : Fin 1) r k)) := by
  rw [← flat x]; rfl

theorem pay_change (g : FVec Ideal S256x1668 .f32) (x : FVec Ideal S256x1668 .f32) (w y : FVec Ideal S1x256x1668 .f32) (r : Fin 256) (k : Fin 1668) :
    (k0_pay3 (F := Ideal) g (k0_pay5 w) (k0_pay6 y) x (Scalar.ofBits .f32 0x3DCCCCCD#32) : FVec Ideal S256x1668 .f32) (ix2 r k)
      = change (w (ix3 (0 : Fin 1) r k)) (k0_pay1 (F := Ideal) g x (Scalar.ofBits .f32 0x3DCCCCCD#32) (ix2 r k)) (square (g (ix2 r k)) (y (ix3 (0 : Fin 1) r k))) := by
  rw [← pay_square, ← flat w]; rfl

/-! ## The kernel's arrays -/

variable (m : (ℓ : Loc nD τ sig) → Buf (Elt Ideal) ℓ)

/-- The operands: the weight, the core's own half of the gradient, the half from the other core, and the two moments. -/
abbrev ws (c : Dev nD) : FVec Ideal S1x1024x1668 .f32 := m ((c : Thread nD τ).loc main_arg0)
abbrev gs (c : Dev nD) : FVec Ideal S512x1668 .f32 := m ((c : Thread nD τ).loc main_arg1)
abbrev hs (c : Dev nD) : FVec Ideal S512x1668 .f32 := m ((c : Thread nD τ).loc main_arg2)
abbrev ms (c : Dev nD) : FVec Ideal S1x1024x1668 .f32 := m ((c : Thread nD τ).loc main_arg3)
abbrev vs (c : Dev nD) : FVec Ideal S1x1024x1668 .f32 := m ((c : Thread nD τ).loc main_arg4)

/-- Row `r` of the `p`-th block of rows, among all rows, and among the half's. -/
abbrev row (p : Fin 4) (r : Fin 256) : Fin 1024 := ⟨256 * p.val + r.val, by omega⟩
abbrev half_row (p : Fin 4) (r : Fin 256) : Fin 512 := ⟨256 * (p.val % 2) + r.val, by omega⟩

theorem index_0 : ∀ p : Fin 4, win0_0.index (pt p) 0 = 0 ∧ win0_0.index (pt p) 1 = p.val ∧ win0_0.index (pt p) 2 = 0 := by decide +kernel
theorem index_1 : ∀ p : Fin 4, win0_1.index (pt p) 0 = p.val % 2 ∧ win0_1.index (pt p) 1 = 0 := by decide +kernel
theorem index_2 : ∀ p : Fin 4, win0_2.index (pt p) 0 = p.val % 2 ∧ win0_2.index (pt p) 1 = 0 := by decide +kernel
theorem index_3 : ∀ p : Fin 4, win0_3.index (pt p) 0 = 0 ∧ win0_3.index (pt p) 1 = p.val ∧ win0_3.index (pt p) 2 = 0 := by decide +kernel
theorem index_4 : ∀ p : Fin 4, win0_4.index (pt p) 0 = 0 ∧ win0_4.index (pt p) 1 = p.val ∧ win0_4.index (pt p) 2 = 0 := by decide +kernel

theorem block_w (c : Dev nD) (p : Fin 4) (r : Fin 256) (k : Fin 1668) :
    (iblk m c 0 (pt p) : FVec Ideal S1x256x1668 .f32) (ix3 (0 : Fin 1) r k) = ws m c (ix3 (0 : Fin 1) (row p r) k) := by
  obtain ⟨h0, h1, h2⟩ := index_0 p
  unfold iblk
  rw [View.read_apply]
  show V m c main_arg0 _ = m (c.tc.loc main_arg0) _
  rw [V_main_arg0]
  congr 1
  funext a
  apply Fin.ext
  match a with
  | ⟨0, _⟩ => show win0_0.index (pt p) 0 * 1 + 1 * 0 = 0; rw [h0]
  | ⟨1, _⟩ => show win0_0.index (pt p) 1 * 256 + 1 * r.val = 256 * p.val + r.val; rw [h1]; omega
  | ⟨2, _⟩ => show win0_0.index (pt p) 2 * 1668 + 1 * k.val = k.val; rw [h2]; omega

theorem block_g (c : Dev nD) (p : Fin 4) (r : Fin 256) (k : Fin 1668) :
    (iblk m c 1 (pt p) : FVec Ideal S256x1668 .f32) (ix2 r k) = gs m c (ix2 (half_row p r) k) := by
  obtain ⟨h0, h1⟩ := index_1 p
  unfold iblk
  rw [View.read_apply]
  show V m c main_arg1 _ = m (c.tc.loc main_arg1) _
  rw [V_main_arg1]
  congr 1
  funext a
  apply Fin.ext
  match a with
  | ⟨0, _⟩ => show win0_1.index (pt p) 0 * 256 + 1 * r.val = 256 * (p.val % 2) + r.val; rw [h0]; omega
  | ⟨1, _⟩ => show win0_1.index (pt p) 1 * 1668 + 1 * k.val = k.val; rw [h1]; omega

theorem block_h (c : Dev nD) (p : Fin 4) (r : Fin 256) (k : Fin 1668) :
    (iblk m c 2 (pt p) : FVec Ideal S256x1668 .f32) (ix2 r k) = hs m c (ix2 (half_row p r) k) := by
  obtain ⟨h0, h1⟩ := index_2 p
  unfold iblk
  rw [View.read_apply]
  show V m c main_arg2 _ = m (c.tc.loc main_arg2) _
  rw [V_main_arg2]
  congr 1
  funext a
  apply Fin.ext
  match a with
  | ⟨0, _⟩ => show win0_2.index (pt p) 0 * 256 + 1 * r.val = 256 * (p.val % 2) + r.val; rw [h0]; omega
  | ⟨1, _⟩ => show win0_2.index (pt p) 1 * 1668 + 1 * k.val = k.val; rw [h1]; omega

theorem block_m (c : Dev nD) (p : Fin 4) (r : Fin 256) (k : Fin 1668) :
    (iblk m c 3 (pt p) : FVec Ideal S1x256x1668 .f32) (ix3 (0 : Fin 1) r k) = ms m c (ix3 (0 : Fin 1) (row p r) k) := by
  obtain ⟨h0, h1, h2⟩ := index_3 p
  unfold iblk
  rw [View.read_apply]
  show V m c main_arg3 _ = m (c.tc.loc main_arg3) _
  rw [V_main_arg3]
  congr 1
  funext a
  apply Fin.ext
  match a with
  | ⟨0, _⟩ => show win0_3.index (pt p) 0 * 1 + 1 * 0 = 0; rw [h0]
  | ⟨1, _⟩ => show win0_3.index (pt p) 1 * 256 + 1 * r.val = 256 * p.val + r.val; rw [h1]; omega
  | ⟨2, _⟩ => show win0_3.index (pt p) 2 * 1668 + 1 * k.val = k.val; rw [h2]; omega

theorem block_v (c : Dev nD) (p : Fin 4) (r : Fin 256) (k : Fin 1668) :
    (iblk m c 4 (pt p) : FVec Ideal S1x256x1668 .f32) (ix3 (0 : Fin 1) r k) = vs m c (ix3 (0 : Fin 1) (row p r) k) := by
  obtain ⟨h0, h1, h2⟩ := index_4 p
  unfold iblk
  rw [View.read_apply]
  show V m c main_arg4 _ = m (c.tc.loc main_arg4) _
  rw [V_main_arg4]
  congr 1
  funext a
  apply Fin.ext
  match a with
  | ⟨0, _⟩ => show win0_4.index (pt p) 0 * 1 + 1 * 0 = 0; rw [h0]
  | ⟨1, _⟩ => show win0_4.index (pt p) 1 * 256 + 1 * r.val = 256 * p.val + r.val; rw [h1]; omega
  | ⟨2, _⟩ => show win0_4.index (pt p) 2 * 1668 + 1 * k.val = k.val; rw [h2]; omega

/-- Every row lies in one block of rows. -/
theorem split (r : Fin 1024) : ∃ (p : Fin 4) (r' : Fin 256), row p r' = r :=
  ⟨⟨r.val / 256, by omega⟩, ⟨r.val % 256, by omega⟩, Fin.ext (by show 256 * (r.val / 256) + r.val % 256 = r.val; omega)⟩

/-- A half of the rows, on a core, is a quarter of all. -/
theorem quarter_at (own other : FVec Ideal S1024x1668 .f32) (c : Dev nD) (q s n : ℕ) (hq : q < 2) :
    quarter own other (2 * c.val + q) s n = if q = c.val then nat2 own (512 * c.val + s) n else nat2 other (512 * c.val + s) n := by
  match c, q with
  | ⟨0, _⟩, 0 => show nat2 own s n = nat2 own (512 * 0 + s) n; rw [show 512 * 0 + s = s by omega]
  | ⟨0, _⟩, 1 => show nat2 other s n = nat2 other (512 * 0 + s) n; rw [show 512 * 0 + s = s by omega]
  | ⟨1, _⟩, 0 => show nat2 other (512 + s) n = nat2 other (512 * 1 + s) n; rfl
  | ⟨1, _⟩, 1 => show nat2 own (512 + s) n = nat2 own (512 * 1 + s) n; rfl

/-- THE GRADIENT of one block of rows is the reference's. -/
theorem gradient (c : Dev nD) (own other : FVec Ideal S1024x1668 .f32)
    (ho : gs m c = Layout.block ⟨2, ![512, 1668]⟩ ⟨2, ![1024, 1668]⟩ 0 2 c own) (hs' : hs m c = Layout.block ⟨2, ![512, 1668]⟩ ⟨2, ![1024, 1668]⟩ 0 2 c other)
    (p : Fin 4) (r : Fin 256) (k : Fin 1668) :
    (k0_pay4 (F := Ideal) (grid0.coords (pt p)) c (iblk m c 1 (pt p)) (iblk m c 2 (pt p)) : FVec Ideal S256x1668 .f32) (ix2 r k)
      = Cert.AdamInRefIdeal.Read.val_main_v4 (F := Ideal) own other (ix2 (whole c (row p r)) k) := by
  have hc : c.val < 2 := c.isLt
  have hp := p.isLt
  have hr := r.isLt
  have e1 : (whole c (row p r)).val / 512 = 2 * c.val + p.val / 2 := by
    show (1024 * c.val + (256 * p.val + r.val)) / 512 = _
    omega
  have e2 : (whole c (row p r)).val % 512 = 256 * (p.val % 2) + r.val := by
    show (1024 * c.val + (256 * p.val + r.val)) % 512 = _
    omega
  have hg : (iblk m c 1 (pt p) : FVec Ideal S256x1668 .f32) (ix2 r k) = nat2 own (512 * c.val + (256 * (p.val % 2) + r.val)) k.val := by
    rw [block_g, ho, operand_block]
  have hh : (iblk m c 2 (pt p) : FVec Ideal S256x1668 .f32) (ix2 r k) = nat2 other (512 * c.val + (256 * (p.val % 2) + r.val)) k.val := by
    rw [block_h, hs', operand_block]
  refine (congrFun (chosen p c _ _) (ix2 r k)).trans ?_
  rw [reference_gradient, e1, e2, quarter_at own other c _ _ _ (by omega)]
  by_cases h : p.val / 2 = c.val
  · rw [if_pos h, if_pos h]; exact hg
  · rw [if_neg h, if_neg h]; exact hh

theorem index_5 : ∀ p : Fin 4, win0_5.index (pt p) 0 = p.val ∧ win0_5.index (pt p) 1 = 0 := by decide +kernel
theorem flush_5 : ∀ p : Fin 4, (cfg0.win 5).flush (pt p) = true := by decide +kernel

variable (c : Dev nD) (i : grid0.Coords) (a1 : Memref sig .tc .vmem S1x256x1668 .f32) (h1 : a1.IsWhole) (a2 : Memref sig .tc .vmem S256x1668 .f32) (h2 : a2.IsWhole)
    (a3 : Memref sig .tc .vmem S256x1668 .f32) (h3 : a3.IsWhole) (a4 : Memref sig .tc .vmem S1x256x1668 .f32) (h4 : a4.IsWhole) (a5 : Memref sig .tc .vmem S1x256x1668 .f32) (h5 : a5.IsWhole)
    (a6 : Memref sig .tc .vmem S256x1668 .f32) (h6 : a6.IsWhole) (a7 : Memref sig .tc .vmem S256x1668 .f32) (h7 : a7.IsWhole)
    (a8 : Memref sig .tc .vmem S256x1668 .f32) (h8 : a8.IsWhole) (a9 : Memref sig .tc .vmem S256x1668 .f32) (h9 : a9.IsWhole)
    (x0 : Vec Ideal S1x256x1668 .f32) (x1 x2 : Vec Ideal S256x1668 .f32) (x3 x4 : Vec Ideal S1x256x1668 .f32)

theorem left_5 :
    out0_A_5 c i a1 h1 a2 h2 a3 h3 a4 h4 a5 h5 a6 h6 a7 h7 a8 h8 a9 h9 x0 x1 x2 x3 x4 = k0_pay4 i c x1 x2 := by
  unfold out0_A_5
  rw [View.read_writes_eq_canon _ _ _ (cover0_A_5 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1668) hz, View.ld_unit_zero (S := S1x256x1668) hz3]

/-- The gradient: a core's result is its block of the reference's. -/
theorem equal_5 (c : Dev nD) (own other : FVec Ideal S1024x1668 .f32)
    (ho : gs m c = Layout.block ⟨2, ![512, 1668]⟩ ⟨2, ![1024, 1668]⟩ 0 2 c own) (hs' : hs m c = Layout.block ⟨2, ![512, 1668]⟩ ⟨2, ![1024, 1668]⟩ 0 2 c other) :
    ((dats m 0 c).arrAt 5 cfg0.N : FVec Ideal S1024x1668 .f32)
      = Layout.block ⟨2, ![1024, 1668]⟩ ⟨2, ![2048, 1668]⟩ 0 2 c (Cert.AdamInRefIdeal.Read.val_main_v4 (F := Ideal) own other) := by
  funext i
  obtain ⟨r, k, rfl⟩ : ∃ r k, i = ix2 r k := ⟨i 0, i 1, eq_ix2 i⟩
  obtain ⟨p, r', rfl⟩ := split r
  obtain ⟨h0, h1⟩ := index_5 p
  have h := congrFun (blocks5 m c (pt p) (flush_5 p)) (ix2 r' k)
  rw [View.read_apply] at h
  have ei : ((cfg0.win 5).blk (pt p)).view.emb (ix2 r' k) = (ix2 (row p r') k : S1024x1668.Idx) := by
    funext a
    apply Fin.ext
    match a with
    | ⟨0, _⟩ => show win0_5.index (pt p) 0 * 256 + 1 * r'.val = 256 * p.val + r'.val; rw [h0]; omega
    | ⟨1, _⟩ => show win0_5.index (pt p) 1 * 1668 + 1 * k.val = k.val; rw [h1]; omega
  rw [ei] at h
  refine (show _ = _ from h).trans ?_
  rw [flushed5_A, result_block]
  show out0_A_5 c _ _ _ _ _ _ _ _ _ _ _ _ _ _ _ _ _ _ _ _ _ _ _ _ (ix2 r' k) = _
  rw [left_5]
  exact gradient m c own other ho hs' p r' k

theorem index_6 : ∀ p : Fin 4, win0_6.index (pt p) 0 = p.val ∧ win0_6.index (pt p) 1 = 0 := by decide +kernel
theorem flush_6 : ∀ p : Fin 4, (cfg0.win 6).flush (pt p) = true := by decide +kernel

theorem left_6 :
    out0_A_6 c i a1 h1 a2 h2 a3 h3 a4 h4 a5 h5 a6 h6 a7 h7 a8 h8 a9 h9 x0 x1 x2 x3 x4 = k0_pay3 (k0_pay4 i c x1 x2) (k0_pay5 x0) (k0_pay6 x4) (k0_pay7 x3) (Scalar.ofBits .f32 0x3DCCCCCD#32) := by
  unfold out0_A_6
  rw [View.read_writes_eq_canon _ _ _ (cover0_A_6 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1668) hz, View.ld_unit_zero (S := S1x256x1668) hz3]

/-- The step: a core's result is its block of the reference's. -/
theorem equal_6 (c : Dev nD) (own other : FVec Ideal S1024x1668 .f32)
    (ho : gs m c = Layout.block ⟨2, ![512, 1668]⟩ ⟨2, ![1024, 1668]⟩ 0 2 c own) (hs' : hs m c = Layout.block ⟨2, ![512, 1668]⟩ ⟨2, ![1024, 1668]⟩ 0 2 c other) :
    ((dats m 0 c).arrAt 6 cfg0.N : FVec Ideal S1024x1668 .f32)
      = Layout.block ⟨2, ![1024, 1668]⟩ ⟨2, ![2048, 1668]⟩ 0 2 c (Cert.AdamInRefIdeal.Read.val_main_v34 (F := Ideal) (ws m c) own other (ms m c) (vs m c)) := by
  funext i
  obtain ⟨r, k, rfl⟩ : ∃ r k, i = ix2 r k := ⟨i 0, i 1, eq_ix2 i⟩
  obtain ⟨p, r', rfl⟩ := split r
  obtain ⟨h0, h1⟩ := index_6 p
  have h := congrFun (blocks6 m c (pt p) (flush_6 p)) (ix2 r' k)
  rw [View.read_apply] at h
  have ei : ((cfg0.win 6).blk (pt p)).view.emb (ix2 r' k) = (ix2 (row p r') k : S1024x1668.Idx) := by
    funext a
    apply Fin.ext
    match a with
    | ⟨0, _⟩ => show win0_6.index (pt p) 0 * 256 + 1 * r'.val = 256 * p.val + r'.val; rw [h0]; omega
    | ⟨1, _⟩ => show win0_6.index (pt p) 1 * 1668 + 1 * k.val = k.val; rw [h1]; omega
  rw [ei] at h
  refine (show _ = _ from h).trans ?_
  rw [flushed6_A, result_block]
  show out0_A_6 c _ _ _ _ _ _ _ _ _ _ _ _ _ _ _ _ _ _ _ _ _ _ _ _ (ix2 r' k) = _
  rw [left_6]
  rw [pay_change, pay_mean, reference_change, gradient m c own other ho hs', block_w, block_m, block_v]

theorem index_7 : ∀ p : Fin 4, win0_7.index (pt p) 0 = p.val ∧ win0_7.index (pt p) 1 = 0 := by decide +kernel
theorem flush_7 : ∀ p : Fin 4, (cfg0.win 7).flush (pt p) = true := by decide +kernel

theorem left_7 :
    out0_A_7 c i a1 h1 a2 h2 a3 h3 a4 h4 a5 h5 a6 h6 a7 h7 a8 h8 a9 h9 x0 x1 x2 x3 x4 = k0_pay1 (k0_pay4 i c x1 x2) (k0_pay7 x3) (Scalar.ofBits .f32 0x3DCCCCCD#32) := by
  unfold out0_A_7
  rw [View.read_writes_eq_canon _ _ _ (cover0_A_7 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1668) hz, View.ld_unit_zero (S := S1x256x1668) hz3]

/-- The first moment: a core's result is its block of the reference's. -/
theorem equal_7 (c : Dev nD) (own other : FVec Ideal S1024x1668 .f32)
    (ho : gs m c = Layout.block ⟨2, ![512, 1668]⟩ ⟨2, ![1024, 1668]⟩ 0 2 c own) (hs' : hs m c = Layout.block ⟨2, ![512, 1668]⟩ ⟨2, ![1024, 1668]⟩ 0 2 c other) :
    ((dats m 0 c).arrAt 7 cfg0.N : FVec Ideal S1024x1668 .f32)
      = Layout.block ⟨2, ![1024, 1668]⟩ ⟨2, ![2048, 1668]⟩ 0 2 c (Cert.AdamInRefIdeal.Read.val_main_v11 (F := Ideal) own other (ms m c)) := by
  funext i
  obtain ⟨r, k, rfl⟩ : ∃ r k, i = ix2 r k := ⟨i 0, i 1, eq_ix2 i⟩
  obtain ⟨p, r', rfl⟩ := split r
  obtain ⟨h0, h1⟩ := index_7 p
  have h := congrFun (blocks7 m c (pt p) (flush_7 p)) (ix2 r' k)
  rw [View.read_apply] at h
  have ei : ((cfg0.win 7).blk (pt p)).view.emb (ix2 r' k) = (ix2 (row p r') k : S1024x1668.Idx) := by
    funext a
    apply Fin.ext
    match a with
    | ⟨0, _⟩ => show win0_7.index (pt p) 0 * 256 + 1 * r'.val = 256 * p.val + r'.val; rw [h0]; omega
    | ⟨1, _⟩ => show win0_7.index (pt p) 1 * 1668 + 1 * k.val = k.val; rw [h1]; omega
  rw [ei] at h
  refine (show _ = _ from h).trans ?_
  rw [flushed7_A, result_block]
  show out0_A_7 c _ _ _ _ _ _ _ _ _ _ _ _ _ _ _ _ _ _ _ _ _ _ _ _ (ix2 r' k) = _
  rw [left_7]
  rw [pay_mean, reference_mean, gradient m c own other ho hs', block_m]

theorem index_8 : ∀ p : Fin 4, win0_8.index (pt p) 0 = p.val ∧ win0_8.index (pt p) 1 = 0 := by decide +kernel
theorem flush_8 : ∀ p : Fin 4, (cfg0.win 8).flush (pt p) = true := by decide +kernel

theorem left_8 :
    out0_A_8 c i a1 h1 a2 h2 a3 h3 a4 h4 a5 h5 a6 h6 a7 h7 a8 h8 a9 h9 x0 x1 x2 x3 x4 = k0_pay2 (k0_pay4 i c x1 x2) (k0_pay6 x4) := by
  unfold out0_A_8
  rw [View.read_writes_eq_canon _ _ _ (cover0_A_8 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1668) hz, View.ld_unit_zero (S := S1x256x1668) hz3]

/-- The second moment: a core's result is its block of the reference's. -/
theorem equal_8 (c : Dev nD) (own other : FVec Ideal S1024x1668 .f32)
    (ho : gs m c = Layout.block ⟨2, ![512, 1668]⟩ ⟨2, ![1024, 1668]⟩ 0 2 c own) (hs' : hs m c = Layout.block ⟨2, ![512, 1668]⟩ ⟨2, ![1024, 1668]⟩ 0 2 c other) :
    ((dats m 0 c).arrAt 8 cfg0.N : FVec Ideal S1024x1668 .f32)
      = Layout.block ⟨2, ![1024, 1668]⟩ ⟨2, ![2048, 1668]⟩ 0 2 c (Cert.AdamInRefIdeal.Read.val_main_v19 (F := Ideal) own other (vs m c)) := by
  funext i
  obtain ⟨r, k, rfl⟩ : ∃ r k, i = ix2 r k := ⟨i 0, i 1, eq_ix2 i⟩
  obtain ⟨p, r', rfl⟩ := split r
  obtain ⟨h0, h1⟩ := index_8 p
  have h := congrFun (blocks8 m c (pt p) (flush_8 p)) (ix2 r' k)
  rw [View.read_apply] at h
  have ei : ((cfg0.win 8).blk (pt p)).view.emb (ix2 r' k) = (ix2 (row p r') k : S1024x1668.Idx) := by
    funext a
    apply Fin.ext
    match a with
    | ⟨0, _⟩ => show win0_8.index (pt p) 0 * 256 + 1 * r'.val = 256 * p.val + r'.val; rw [h0]; omega
    | ⟨1, _⟩ => show win0_8.index (pt p) 1 * 1668 + 1 * k.val = k.val; rw [h1]; omega
  rw [ei] at h
  refine (show _ = _ from h).trans ?_
  rw [flushed8_A, result_block]
  show out0_A_8 c _ _ _ _ _ _ _ _ _ _ _ _ _ _ _ _ _ _ _ _ _ _ _ _ (ix2 r' k) = _
  rw [left_8]
  rw [pay_square, reference_square, gradient m c own other ho hs', block_v]

end Cert.AdamInProof

end
-- ==== Proof.AdamPool.lean ====
/-
  The optimiser's step on a weight of 512 rows and 64 columns, on two cores that hold the gradient in halves: what each core's run leaves in its four
  results, over the extended reals, is its block of what the reference computes. The kernel takes a block of 256 rows at
  each point of its grid, its gradient from the core's own rows or from the other core's, and works on it entry by entry.
-/
module

public import proofs.«01_k».proof.Proof.Blocks
public import proofs.«01_k».proof.Proof.AdamStep
public import proofs.«01_k».proof.Proof.NatRead
public import proofs.«01_k».proof.Proof.Gen.AdamPoolIdeal.Value
public import proofs.«01_k».proof.Proof.Gen.AdamPoolRefIdeal.Read
public import Idealize.ShloMosaic.Lib.ValueIdx
public import Idealize.ShloMosaic.Lib.ValueLayout
public import Idealize.ShloMosaic.Lib.Layout
public import Idealize.ShloMosaic.Lib.Claim
public import Idealize.ShloMosaic.Lib.Pointwise.SelectCore

@[expose] public section

noncomputable section

namespace Cert.AdamPoolProof

open Cert.Blocks Cert.AdamStep Cert.NatRead
open Idealize.ShloMosaic hiding ix1 ix2 ix3 eq_ix2
open Idealize.ShloMosaic.TcCoe Idealize.ShloMosaic.ValueIdx

/-! ## The reference -/

/-- Row `r` of one core's rows, among the rows of both. -/
abbrev whole (c : Dev Cert.AdamPoolIdeal.nD) (r : Fin 512) : Fin 1024 := ⟨512 * c.val + r.val, by have : c.val < 2 := c.isLt; omega⟩

theorem result_block (v : (⟨2, ![1024, 64]⟩ : Shape).Idx → EReal) (c : Dev Cert.AdamPoolIdeal.nD) (r : Fin 512) (k : Fin 64) :
    (Layout.block ⟨2, ![512, 64]⟩ ⟨2, ![1024, 64]⟩ 0 2 c v : (⟨2, ![512, 64]⟩ : Shape).Idx → EReal) (ix2 r k) = v (ix2 (whole c r) k) := by
  rw [Layout.block_apply]
  congr 1
  funext a
  apply Fin.ext
  match a with
  | ⟨0, _⟩ => show c.val * 512 + r.val = 512 * c.val + r.val; omega
  | ⟨1, _⟩ => rfl

/-- One core's row of a half gradient, among the rows of both cores' halves. -/
theorem operand_block (v : (⟨2, ![512, 64]⟩ : Shape).Idx → EReal) (c : Dev Cert.AdamPoolIdeal.nD) (r : Fin 256) (k : Fin 64) :
    (Layout.block ⟨2, ![256, 64]⟩ ⟨2, ![512, 64]⟩ 0 2 c v : (⟨2, ![256, 64]⟩ : Shape).Idx → EReal) (ix2 r k) = nat2 v (256 * c.val + r.val) k.val := by
  rw [Layout.block_apply]
  refine (nat2_val v _ _ _ ?_ ?_).symm
  · show c.val * 256 + r.val = 256 * c.val + r.val; omega
  · rfl

section Reference

open Cert.AdamPoolRefIdeal Cert.AdamPoolRefIdeal.Gen Cert.AdamPoolRefIdeal.Read

/-- The gradient's row `r` of the `j`-th quarter of all rows: the quarters are one core's own, what it got from the other,
    what the other got, and the other's own. -/
def quarter (own other : FVec Ideal S512x64 .f32) : ℕ → ℕ → ℕ → EReal
  | 0, r, n => nat2 own r n
  | 1, r, n => nat2 other r n
  | 2, r, n => nat2 other (256 + r) n
  | _, r, n => nat2 own (256 + r) n

theorem stack (f0 f1 f2 f3 : FVec Ideal S256x64 .f32) (N : ℕ → ℕ → ℕ → EReal) (h0 : ∀ i, f0 i = N 0 (i 0).val (i 1).val)
    (h1 : ∀ i, f1 i = N 1 (i 0).val (i 1).val) (h2 : ∀ i, f2 i = N 2 (i 0).val (i 1).val) (h3 : ∀ i, f3 i = N 3 (i 0).val (i 1).val)
    (t : Fin 1024) (n : Fin 64) :
    (concatenate S1024x64 0 [⟨S256x64, f0⟩, ⟨S256x64, f1⟩, ⟨S256x64, f2⟩, ⟨S256x64, f3⟩]
      concatenates_S256x64_S256x64_S256x64_S256x64_S1024x64_d0 : FVec Ideal S1024x64 .f32) (ix2 t n) = N (t.val / 256) (t.val % 256) n.val := by
  rw [concatenate_apply]
  simp only [concatenateAt_cons, concatenateAt_singleton, Shape.Idx.norm_def, h0, h1, h2, h3]
  show (if h : t.val < 256 then N 0 t.val n.val
    else if h : t.val - 256 < 256 then N 1 (t.val - 256) n.val
    else if h : t.val - 256 - 256 < 256 then N 2 (t.val - 256 - 256) n.val
    else N 3 (t.val - 256 - 256 - 256) n.val) = _
  have ht := t.isLt
  by_cases g1 : t.val < 256
  · rw [dif_pos g1, show t.val / 256 = 0 by omega, show t.val % 256 = t.val by omega]
  rw [dif_neg g1]
  by_cases g2 : t.val - 256 < 256
  · rw [dif_pos g2, show t.val / 256 = 1 by omega, show t.val % 256 = t.val - 256 by omega]
  rw [dif_neg g2]
  by_cases g3 : t.val - 256 - 256 < 256
  · rw [dif_pos g3, show t.val / 256 = 2 by omega, show t.val % 256 = t.val - 256 - 256 by omega]
  · rw [dif_neg g3, show t.val / 256 = 3 by omega, show t.val % 256 = t.val - 256 - 256 - 256 by omega]

theorem reference_gradient (own other : FVec Ideal S512x64 .f32) (t : Fin 1024) (k : Fin 64) :
    (val_main_v4 (F := Ideal) own other : FVec Ideal S1024x64 .f32) (ix2 t k) = quarter own other (t.val / 256) (t.val % 256) k.val := by
  refine stack _ _ _ _ (quarter own other) (fun i => ?_) (fun i => ?_) (fun i => ?_) (fun i => ?_) t k
  · rw [val_main_v0_apply]
    exact (nat2_val own _ _ _ rfl rfl).symm
  · rw [val_main_v1_apply]
    exact (nat2_val other _ _ _ rfl rfl).symm
  · rw [val_main_v2_apply]
    exact (nat2_val other _ _ _ (by rfl) (by rfl)).symm
  · rw [val_main_v3_apply]
    exact (nat2_val own _ _ _ (by rfl) (by rfl)).symm

theorem row_twice (c : Dev Cert.AdamPoolIdeal.nD) (r : Fin 512) : (whole c r).val = 512 + r.val ∨ (whole c r).val = r.val := by
  have hc : c.val < 2 := c.isLt
  show 512 * c.val + r.val = 512 + r.val ∨ 512 * c.val + r.val = r.val
  omega

theorem twice (f : FVec Ideal S512x64 .f32) (r : Fin 512) (n : Fin 64) (t : Fin 1024) (h : t.val = 512 + r.val ∨ t.val = r.val) :
    (concatenate S1024x64 0 [⟨S512x64, f⟩, ⟨S512x64, f⟩] concatenates_S512x64_S512x64_S1024x64_d0 : FVec Ideal S1024x64 .f32) (ix2 t n)
      = f (ix2 r n) := by
  have hf : ∀ i, f i = nat2 f (i 0).val (i 1).val := fun i => (nat2_val f i _ _ rfl rfl).symm
  rw [concatenate_apply]
  simp only [concatenateAt_cons, concatenateAt_singleton, Shape.Idx.norm_def, hf]
  show (if h : t.val < 512 then nat2 f t.val n.val else nat2 f (t.val - 512) n.val) = nat2 f r.val n.val
  have hr := r.isLt
  by_cases g : t.val < 512
  · rw [dif_pos g, show t.val = r.val by omega]
  · rw [dif_neg g, show t.val - 512 = r.val by omega]

/-- An array that both cores hold, its rows twice. -/
theorem both (x : FVec Ideal S512x64 .f32) (c : Dev Cert.AdamPoolIdeal.nD) (r : Fin 512) (k : Fin 64) :
    (val_main_v5 (F := Ideal) x : FVec Ideal S1024x64 .f32) (ix2 (whole c r) k) = x (ix2 r k) :=
  twice _ r k _ (row_twice c r)

theorem reference_mean (own other : FVec Ideal S512x64 .f32) (x : FVec Ideal S512x64 .f32) (c : Dev Cert.AdamPoolIdeal.nD) (r : Fin 512) (k : Fin 64) :
    (val_main_v10 (F := Ideal) own other x : FVec Ideal S1024x64 .f32) (ix2 (whole c r) k)
      = mean (val_main_v4 (F := Ideal) own other (ix2 (whole c r) k)) (x (ix2 r k)) := by
  rw [← both x c]; rfl

theorem reference_square (own other : FVec Ideal S512x64 .f32) (x : FVec Ideal S512x64 .f32) (c : Dev Cert.AdamPoolIdeal.nD) (r : Fin 512) (k : Fin 64) :
    (val_main_v17 (F := Ideal) own other x : FVec Ideal S1024x64 .f32) (ix2 (whole c r) k)
      = square (val_main_v4 (F := Ideal) own other (ix2 (whole c r) k)) (x (ix2 r k)) := by
  rw [← both x c]; rfl

theorem reference_change (own other : FVec Ideal S512x64 .f32) (w x y : FVec Ideal S512x64 .f32) (c : Dev Cert.AdamPoolIdeal.nD) (r : Fin 512) (k : Fin 64) :
    (val_main_v31 (F := Ideal) w own other x y : FVec Ideal S1024x64 .f32) (ix2 (whole c r) k)
      = change (w (ix2 r k)) (mean (val_main_v4 (F := Ideal) own other (ix2 (whole c r) k)) (x (ix2 r k)))
          (square (val_main_v4 (F := Ideal) own other (ix2 (whole c r) k)) (y (ix2 r k))) := by
  rw [← reference_mean, ← reference_square, ← both w c]; rfl

end Reference

open Cert.AdamPoolIdeal Cert.AdamPoolIdeal.Gen Cert.AdamPoolIdeal.Value

/-! ## One point's blocks of the results, entry by entry -/

/-- The point of the grid at the `p`-th block of rows. -/
abbrev pt (p : Fin 2) : Fin cfg0.N := ⟨p.val, lt_of_lt_of_eq p.isLt N_0.symm⟩

/-- A core's own half of the gradient's rows is the half with the core's number; the other half came from the other core. -/
theorem chosen (p : Fin 2) (c : Dev nD) (a b : FVec Ideal S256x64 .f32) :
    (k0_pay3 (F := Ideal) (grid0.coords (pt p)) c a b : FVec Ideal S256x64 .f32) = if p.val / 1 = c.val then a else b := by
  unfold k0_pay3
  dsimp only
  simp only [shapeCast_self]
  refine (congrArg (fun w : BitVec 1 => Scalar.select w a b) (?_ : _ = if p.val / 1 = c.val then 1#1 else 0#1)).trans ?_
  · revert p c
    decide +kernel
  · by_cases h : p.val / 1 = c.val
    · rw [if_pos h, if_pos h]; rfl
    · rw [if_neg h, if_neg h]; rfl

theorem flat (x : FVec Ideal S256x64 .f32) (r : Fin 256) (k : Fin 64) :
    (shapeCast S256x64 x shapeCasts_S256x64_S256x64 : FVec Ideal S256x64 .f32) (ix2 r k) = x (ix2 r k) := by
  rw [shapeCast_self]

theorem pay_mean (i : grid0.Coords) (c : Dev nD) (a b : FVec Ideal S256x64 .f32) (g : FVec Ideal S256x64 .f32) (x : FVec Ideal S256x64 .f32) (r : Fin 256) (k : Fin 64) (hg : k0_pay3 (F := Ideal) i c a b = g) :
    (k0_pay6 (F := Ideal) i c a b x : FVec Ideal S256x64 .f32) (ix2 r k) = mean (g (ix2 r k)) (x (ix2 r k)) := by
  subst hg
  rw [← flat x]; rfl

theorem pay_square (g : FVec Ideal S256x64 .f32) (x : FVec Ideal S256x64 .f32) (r : Fin 256) (k : Fin 64) :
    (k0_pay1 (F := Ideal) g (k0_pay5 x) : FVec Ideal S256x64 .f32) (ix2 r k) = square (g (ix2 r k)) (x (ix2 r k)) := by
  rw [← flat x]; rfl

theorem pay_change (g : FVec Ideal S256x64 .f32) (x : FVec Ideal S256x64 .f32) (w y : FVec Ideal S256x64 .f32) (r : Fin 256) (k : Fin 64) :
    (k0_pay2 (F := Ideal) g (k0_pay4 w) (k0_pay5 y) x : FVec Ideal S256x64 .f32) (ix2 r k)
      = change (w (ix2 r k)) (x (ix2 r k)) (square (g (ix2 r k)) (y (ix2 r k))) := by
  rw [← pay_square, ← flat w]; rfl

/-! ## The kernel's arrays -/

variable (m : (ℓ : Loc nD τ sig) → Buf (Elt Ideal) ℓ)

/-- The operands: the weight, the core's own half of the gradient, the half from the other core, and the two moments. -/
abbrev ws (c : Dev nD) : FVec Ideal S512x64 .f32 := m ((c : Thread nD τ).loc main_arg0)
abbrev gs (c : Dev nD) : FVec Ideal S256x64 .f32 := m ((c : Thread nD τ).loc main_arg1)
abbrev hs (c : Dev nD) : FVec Ideal S256x64 .f32 := m ((c : Thread nD τ).loc main_arg2)
abbrev ms (c : Dev nD) : FVec Ideal S512x64 .f32 := m ((c : Thread nD τ).loc main_arg3)
abbrev vs (c : Dev nD) : FVec Ideal S512x64 .f32 := m ((c : Thread nD τ).loc main_arg4)

/-- Row `r` of the `p`-th block of rows, among all rows, and among the half's. -/
abbrev row (p : Fin 2) (r : Fin 256) : Fin 512 := ⟨256 * p.val + r.val, by omega⟩
abbrev half_row (p : Fin 2) (r : Fin 256) : Fin 256 := ⟨256 * (p.val % 1) + r.val, by omega⟩

theorem index_0 : ∀ p : Fin 2, win0_0.index (pt p) 0 = p.val ∧ win0_0.index (pt p) 1 = 0 := by decide +kernel
theorem index_1 : ∀ p : Fin 2, win0_1.index (pt p) 0 = p.val % 1 ∧ win0_1.index (pt p) 1 = 0 := by decide +kernel
theorem index_2 : ∀ p : Fin 2, win0_2.index (pt p) 0 = p.val % 1 ∧ win0_2.index (pt p) 1 = 0 := by decide +kernel
theorem index_3 : ∀ p : Fin 2, win0_3.index (pt p) 0 = p.val ∧ win0_3.index (pt p) 1 = 0 := by decide +kernel
theorem index_4 : ∀ p : Fin 2, win0_4.index (pt p) 0 = p.val ∧ win0_4.index (pt p) 1 = 0 := by decide +kernel

theorem block_w (c : Dev nD) (p : Fin 2) (r : Fin 256) (k : Fin 64) :
    (iblk m c 0 (pt p) : FVec Ideal S256x64 .f32) (ix2 r k) = ws m c (ix2 (row p r) k) := by
  obtain ⟨h0, h1⟩ := index_0 p
  unfold iblk
  rw [View.read_apply]
  show V m c main_arg0 _ = m (c.tc.loc main_arg0) _
  rw [V_main_arg0]
  congr 1
  funext a
  apply Fin.ext
  match a with
  | ⟨0, _⟩ => show win0_0.index (pt p) 0 * 256 + 1 * r.val = 256 * p.val + r.val; rw [h0]; omega
  | ⟨1, _⟩ => show win0_0.index (pt p) 1 * 64 + 1 * k.val = k.val; rw [h1]; omega

theorem block_g (c : Dev nD) (p : Fin 2) (r : Fin 256) (k : Fin 64) :
    (iblk m c 1 (pt p) : FVec Ideal S256x64 .f32) (ix2 r k) = gs m c (ix2 (half_row p r) k) := by
  obtain ⟨h0, h1⟩ := index_1 p
  unfold iblk
  rw [View.read_apply]
  show V m c main_arg1 _ = m (c.tc.loc main_arg1) _
  rw [V_main_arg1]
  congr 1
  funext a
  apply Fin.ext
  match a with
  | ⟨0, _⟩ => show win0_1.index (pt p) 0 * 256 + 1 * r.val = 256 * (p.val % 1) + r.val; rw [h0]; omega
  | ⟨1, _⟩ => show win0_1.index (pt p) 1 * 64 + 1 * k.val = k.val; rw [h1]; omega

theorem block_h (c : Dev nD) (p : Fin 2) (r : Fin 256) (k : Fin 64) :
    (iblk m c 2 (pt p) : FVec Ideal S256x64 .f32) (ix2 r k) = hs m c (ix2 (half_row p r) k) := by
  obtain ⟨h0, h1⟩ := index_2 p
  unfold iblk
  rw [View.read_apply]
  show V m c main_arg2 _ = m (c.tc.loc main_arg2) _
  rw [V_main_arg2]
  congr 1
  funext a
  apply Fin.ext
  match a with
  | ⟨0, _⟩ => show win0_2.index (pt p) 0 * 256 + 1 * r.val = 256 * (p.val % 1) + r.val; rw [h0]; omega
  | ⟨1, _⟩ => show win0_2.index (pt p) 1 * 64 + 1 * k.val = k.val; rw [h1]; omega

theorem block_m (c : Dev nD) (p : Fin 2) (r : Fin 256) (k : Fin 64) :
    (iblk m c 3 (pt p) : FVec Ideal S256x64 .f32) (ix2 r k) = ms m c (ix2 (row p r) k) := by
  obtain ⟨h0, h1⟩ := index_3 p
  unfold iblk
  rw [View.read_apply]
  show V m c main_arg3 _ = m (c.tc.loc main_arg3) _
  rw [V_main_arg3]
  congr 1
  funext a
  apply Fin.ext
  match a with
  | ⟨0, _⟩ => show win0_3.index (pt p) 0 * 256 + 1 * r.val = 256 * p.val + r.val; rw [h0]; omega
  | ⟨1, _⟩ => show win0_3.index (pt p) 1 * 64 + 1 * k.val = k.val; rw [h1]; omega

theorem block_v (c : Dev nD) (p : Fin 2) (r : Fin 256) (k : Fin 64) :
    (iblk m c 4 (pt p) : FVec Ideal S256x64 .f32) (ix2 r k) = vs m c (ix2 (row p r) k) := by
  obtain ⟨h0, h1⟩ := index_4 p
  unfold iblk
  rw [View.read_apply]
  show V m c main_arg4 _ = m (c.tc.loc main_arg4) _
  rw [V_main_arg4]
  congr 1
  funext a
  apply Fin.ext
  match a with
  | ⟨0, _⟩ => show win0_4.index (pt p) 0 * 256 + 1 * r.val = 256 * p.val + r.val; rw [h0]; omega
  | ⟨1, _⟩ => show win0_4.index (pt p) 1 * 64 + 1 * k.val = k.val; rw [h1]; omega

/-- Every row lies in one block of rows. -/
theorem split (r : Fin 512) : ∃ (p : Fin 2) (r' : Fin 256), row p r' = r :=
  ⟨⟨r.val / 256, by omega⟩, ⟨r.val % 256, by omega⟩, Fin.ext (by show 256 * (r.val / 256) + r.val % 256 = r.val; omega)⟩

/-- A half of the rows, on a core, is a quarter of all. -/
theorem quarter_at (own other : FVec Ideal S512x64 .f32) (c : Dev nD) (q s n : ℕ) (hq : q < 2) :
    quarter own other (2 * c.val + q) s n = if q = c.val then nat2 own (256 * c.val + s) n else nat2 other (256 * c.val + s) n := by
  match c, q with
  | ⟨0, _⟩, 0 => show nat2 own s n = nat2 own (256 * 0 + s) n; rw [show 256 * 0 + s = s by omega]
  | ⟨0, _⟩, 1 => show nat2 other s n = nat2 other (256 * 0 + s) n; rw [show 256 * 0 + s = s by omega]
  | ⟨1, _⟩, 0 => show nat2 other (256 + s) n = nat2 other (256 * 1 + s) n; rfl
  | ⟨1, _⟩, 1 => show nat2 own (256 + s) n = nat2 own (256 * 1 + s) n; rfl

/-- THE GRADIENT of one block of rows is the reference's. -/
theorem gradient (c : Dev nD) (own other : FVec Ideal S512x64 .f32)
    (ho : gs m c = Layout.block ⟨2, ![256, 64]⟩ ⟨2, ![512, 64]⟩ 0 2 c own) (hs' : hs m c = Layout.block ⟨2, ![256, 64]⟩ ⟨2, ![512, 64]⟩ 0 2 c other)
    (p : Fin 2) (r : Fin 256) (k : Fin 64) :
    (k0_pay3 (F := Ideal) (grid0.coords (pt p)) c (iblk m c 1 (pt p)) (iblk m c 2 (pt p)) : FVec Ideal S256x64 .f32) (ix2 r k)
      = Cert.AdamPoolRefIdeal.Read.val_main_v4 (F := Ideal) own other (ix2 (whole c (row p r)) k) := by
  have hc : c.val < 2 := c.isLt
  have hp := p.isLt
  have hr := r.isLt
  have e1 : (whole c (row p r)).val / 256 = 2 * c.val + p.val / 1 := by
    show (512 * c.val + (256 * p.val + r.val)) / 256 = _
    omega
  have e2 : (whole c (row p r)).val % 256 = 256 * (p.val % 1) + r.val := by
    show (512 * c.val + (256 * p.val + r.val)) % 256 = _
    omega
  have hg : (iblk m c 1 (pt p) : FVec Ideal S256x64 .f32) (ix2 r k) = nat2 own (256 * c.val + (256 * (p.val % 1) + r.val)) k.val := by
    rw [block_g, ho, operand_block]
  have hh : (iblk m c 2 (pt p) : FVec Ideal S256x64 .f32) (ix2 r k) = nat2 other (256 * c.val + (256 * (p.val % 1) + r.val)) k.val := by
    rw [block_h, hs', operand_block]
  refine (congrFun (chosen p c _ _) (ix2 r k)).trans ?_
  rw [reference_gradient, e1, e2, quarter_at own other c _ _ _ (by omega)]
  by_cases h : p.val / 1 = c.val
  · rw [if_pos h, if_pos h]; exact hg
  · rw [if_neg h, if_neg h]; exact hh

theorem index_5 : ∀ p : Fin 2, win0_5.index (pt p) 0 = p.val ∧ win0_5.index (pt p) 1 = 0 := by decide +kernel
theorem flush_5 : ∀ p : Fin 2, (cfg0.win 5).flush (pt p) = true := by decide +kernel

variable (c : Dev nD) (i : grid0.Coords) (a1 : Memref sig .tc .vmem S256x64 .f32) (h1 : a1.IsWhole) (a2 : Memref sig .tc .vmem S256x64 .f32) (h2 : a2.IsWhole)
    (a3 : Memref sig .tc .vmem S256x64 .f32) (h3 : a3.IsWhole) (a4 : Memref sig .tc .vmem S256x64 .f32) (h4 : a4.IsWhole) (a5 : Memref sig .tc .vmem S256x64 .f32) (h5 : a5.IsWhole)
    (a6 : Memref sig .tc .vmem S256x64 .f32) (h6 : a6.IsWhole) (a7 : Memref sig .tc .vmem S256x64 .f32) (h7 : a7.IsWhole)
    (a8 : Memref sig .tc .vmem S256x64 .f32) (h8 : a8.IsWhole) (a9 : Memref sig .tc .vmem S256x64 .f32) (h9 : a9.IsWhole)
    (x0 : Vec Ideal S256x64 .f32) (x1 x2 : Vec Ideal S256x64 .f32) (x3 x4 : Vec Ideal S256x64 .f32)

theorem left_5 :
    out0_A_5 c i a1 h1 a2 h2 a3 h3 a4 h4 a5 h5 a6 h6 a7 h7 a8 h8 a9 h9 x0 x1 x2 x3 x4 = k0_pay3 i c x1 x2 := by
  unfold out0_A_5
  rw [View.read_writes_eq_canon _ _ _ (cover0_A_5 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x64) hz]

/-- The gradient: a core's result is its block of the reference's. -/
theorem equal_5 (c : Dev nD) (own other : FVec Ideal S512x64 .f32)
    (ho : gs m c = Layout.block ⟨2, ![256, 64]⟩ ⟨2, ![512, 64]⟩ 0 2 c own) (hs' : hs m c = Layout.block ⟨2, ![256, 64]⟩ ⟨2, ![512, 64]⟩ 0 2 c other) :
    ((dats m 0 c).arrAt 5 cfg0.N : FVec Ideal S512x64 .f32)
      = Layout.block ⟨2, ![512, 64]⟩ ⟨2, ![1024, 64]⟩ 0 2 c (Cert.AdamPoolRefIdeal.Read.val_main_v4 (F := Ideal) own other) := by
  funext i
  obtain ⟨r, k, rfl⟩ : ∃ r k, i = ix2 r k := ⟨i 0, i 1, eq_ix2 i⟩
  obtain ⟨p, r', rfl⟩ := split r
  obtain ⟨h0, h1⟩ := index_5 p
  have h := congrFun (blocks5 m c (pt p) (flush_5 p)) (ix2 r' k)
  rw [View.read_apply] at h
  have ei : ((cfg0.win 5).blk (pt p)).view.emb (ix2 r' k) = (ix2 (row p r') k : S512x64.Idx) := by
    funext a
    apply Fin.ext
    match a with
    | ⟨0, _⟩ => show win0_5.index (pt p) 0 * 256 + 1 * r'.val = 256 * p.val + r'.val; rw [h0]; omega
    | ⟨1, _⟩ => show win0_5.index (pt p) 1 * 64 + 1 * k.val = k.val; rw [h1]; omega
  rw [ei] at h
  refine (show _ = _ from h).trans ?_
  rw [flushed5_A, result_block]
  show out0_A_5 c _ _ _ _ _ _ _ _ _ _ _ _ _ _ _ _ _ _ _ _ _ _ _ _ (ix2 r' k) = _
  rw [left_5]
  exact gradient m c own other ho hs' p r' k

theorem index_6 : ∀ p : Fin 2, win0_6.index (pt p) 0 = p.val ∧ win0_6.index (pt p) 1 = 0 := by decide +kernel
theorem flush_6 : ∀ p : Fin 2, (cfg0.win 6).flush (pt p) = true := by decide +kernel

theorem left_6 :
    out0_A_6 c i a1 h1 a2 h2 a3 h3 a4 h4 a5 h5 a6 h6 a7 h7 a8 h8 a9 h9 x0 x1 x2 x3 x4 = k0_pay2 (k0_pay3 i c x1 x2) (k0_pay4 x0) (k0_pay5 x4) (k0_pay6 i c x1 x2 x3) := by
  unfold out0_A_6
  rw [View.read_writes_eq_canon _ _ _ (cover0_A_6 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x64) hz]

/-- The step: a core's result is its block of the reference's. -/
theorem equal_6 (c : Dev nD) (own other : FVec Ideal S512x64 .f32)
    (ho : gs m c = Layout.block ⟨2, ![256, 64]⟩ ⟨2, ![512, 64]⟩ 0 2 c own) (hs' : hs m c = Layout.block ⟨2, ![256, 64]⟩ ⟨2, ![512, 64]⟩ 0 2 c other) :
    ((dats m 0 c).arrAt 6 cfg0.N : FVec Ideal S512x64 .f32)
      = Layout.block ⟨2, ![512, 64]⟩ ⟨2, ![1024, 64]⟩ 0 2 c (Cert.AdamPoolRefIdeal.Read.val_main_v31 (F := Ideal) (ws m c) own other (ms m c) (vs m c)) := by
  funext i
  obtain ⟨r, k, rfl⟩ : ∃ r k, i = ix2 r k := ⟨i 0, i 1, eq_ix2 i⟩
  obtain ⟨p, r', rfl⟩ := split r
  obtain ⟨h0, h1⟩ := index_6 p
  have h := congrFun (blocks6 m c (pt p) (flush_6 p)) (ix2 r' k)
  rw [View.read_apply] at h
  have ei : ((cfg0.win 6).blk (pt p)).view.emb (ix2 r' k) = (ix2 (row p r') k : S512x64.Idx) := by
    funext a
    apply Fin.ext
    match a with
    | ⟨0, _⟩ => show win0_6.index (pt p) 0 * 256 + 1 * r'.val = 256 * p.val + r'.val; rw [h0]; omega
    | ⟨1, _⟩ => show win0_6.index (pt p) 1 * 64 + 1 * k.val = k.val; rw [h1]; omega
  rw [ei] at h
  refine (show _ = _ from h).trans ?_
  rw [flushed6_A, result_block]
  show out0_A_6 c _ _ _ _ _ _ _ _ _ _ _ _ _ _ _ _ _ _ _ _ _ _ _ _ (ix2 r' k) = _
  rw [left_6]
  rw [pay_change, pay_mean (grid0.coords (pt p)) c _ _ _ _ _ _ rfl, reference_change, gradient m c own other ho hs', block_w, block_m, block_v]

theorem index_7 : ∀ p : Fin 2, win0_7.index (pt p) 0 = p.val ∧ win0_7.index (pt p) 1 = 0 := by decide +kernel
theorem flush_7 : ∀ p : Fin 2, (cfg0.win 7).flush (pt p) = true := by decide +kernel

theorem left_7 :
    out0_A_7 c i a1 h1 a2 h2 a3 h3 a4 h4 a5 h5 a6 h6 a7 h7 a8 h8 a9 h9 x0 x1 x2 x3 x4 = k0_pay6 i c x1 x2 x3 := by
  unfold out0_A_7
  rw [View.read_writes_eq_canon _ _ _ (cover0_A_7 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x64) hz]

/-- The first moment: a core's result is its block of the reference's. -/
theorem equal_7 (c : Dev nD) (own other : FVec Ideal S512x64 .f32)
    (ho : gs m c = Layout.block ⟨2, ![256, 64]⟩ ⟨2, ![512, 64]⟩ 0 2 c own) (hs' : hs m c = Layout.block ⟨2, ![256, 64]⟩ ⟨2, ![512, 64]⟩ 0 2 c other) :
    ((dats m 0 c).arrAt 7 cfg0.N : FVec Ideal S512x64 .f32)
      = Layout.block ⟨2, ![512, 64]⟩ ⟨2, ![1024, 64]⟩ 0 2 c (Cert.AdamPoolRefIdeal.Read.val_main_v10 (F := Ideal) own other (ms m c)) := by
  funext i
  obtain ⟨r, k, rfl⟩ : ∃ r k, i = ix2 r k := ⟨i 0, i 1, eq_ix2 i⟩
  obtain ⟨p, r', rfl⟩ := split r
  obtain ⟨h0, h1⟩ := index_7 p
  have h := congrFun (blocks7 m c (pt p) (flush_7 p)) (ix2 r' k)
  rw [View.read_apply] at h
  have ei : ((cfg0.win 7).blk (pt p)).view.emb (ix2 r' k) = (ix2 (row p r') k : S512x64.Idx) := by
    funext a
    apply Fin.ext
    match a with
    | ⟨0, _⟩ => show win0_7.index (pt p) 0 * 256 + 1 * r'.val = 256 * p.val + r'.val; rw [h0]; omega
    | ⟨1, _⟩ => show win0_7.index (pt p) 1 * 64 + 1 * k.val = k.val; rw [h1]; omega
  rw [ei] at h
  refine (show _ = _ from h).trans ?_
  rw [flushed7_A, result_block]
  show out0_A_7 c _ _ _ _ _ _ _ _ _ _ _ _ _ _ _ _ _ _ _ _ _ _ _ _ (ix2 r' k) = _
  rw [left_7]
  rw [pay_mean (grid0.coords (pt p)) c _ _ _ _ _ _ rfl, reference_mean, gradient m c own other ho hs', block_m]

theorem index_8 : ∀ p : Fin 2, win0_8.index (pt p) 0 = p.val ∧ win0_8.index (pt p) 1 = 0 := by decide +kernel
theorem flush_8 : ∀ p : Fin 2, (cfg0.win 8).flush (pt p) = true := by decide +kernel

theorem left_8 :
    out0_A_8 c i a1 h1 a2 h2 a3 h3 a4 h4 a5 h5 a6 h6 a7 h7 a8 h8 a9 h9 x0 x1 x2 x3 x4 = k0_pay1 (k0_pay3 i c x1 x2) (k0_pay5 x4) := by
  unfold out0_A_8
  rw [View.read_writes_eq_canon _ _ _ (cover0_A_8 c i a1 h1 a2 h2 a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x64) hz]

/-- The second moment: a core's result is its block of the reference's. -/
theorem equal_8 (c : Dev nD) (own other : FVec Ideal S512x64 .f32)
    (ho : gs m c = Layout.block ⟨2, ![256, 64]⟩ ⟨2, ![512, 64]⟩ 0 2 c own) (hs' : hs m c = Layout.block ⟨2, ![256, 64]⟩ ⟨2, ![512, 64]⟩ 0 2 c other) :
    ((dats m 0 c).arrAt 8 cfg0.N : FVec Ideal S512x64 .f32)
      = Layout.block ⟨2, ![512, 64]⟩ ⟨2, ![1024, 64]⟩ 0 2 c (Cert.AdamPoolRefIdeal.Read.val_main_v17 (F := Ideal) own other (vs m c)) := by
  funext i
  obtain ⟨r, k, rfl⟩ : ∃ r k, i = ix2 r k := ⟨i 0, i 1, eq_ix2 i⟩
  obtain ⟨p, r', rfl⟩ := split r
  obtain ⟨h0, h1⟩ := index_8 p
  have h := congrFun (blocks8 m c (pt p) (flush_8 p)) (ix2 r' k)
  rw [View.read_apply] at h
  have ei : ((cfg0.win 8).blk (pt p)).view.emb (ix2 r' k) = (ix2 (row p r') k : S512x64.Idx) := by
    funext a
    apply Fin.ext
    match a with
    | ⟨0, _⟩ => show win0_8.index (pt p) 0 * 256 + 1 * r'.val = 256 * p.val + r'.val; rw [h0]; omega
    | ⟨1, _⟩ => show win0_8.index (pt p) 1 * 64 + 1 * k.val = k.val; rw [h1]; omega
  rw [ei] at h
  refine (show _ = _ from h).trans ?_
  rw [flushed8_A, result_block]
  show out0_A_8 c _ _ _ _ _ _ _ _ _ _ _ _ _ _ _ _ _ _ _ _ _ _ _ _ (ix2 r' k) = _
  rw [left_8]
  rw [pay_square, reference_square, gradient m c own other ho hs', block_v]

end Cert.AdamPoolProof

end
-- ==== Proof.MlpAct.lean ====
/-
  The gradient of the MLP's hidden layer, back through its second weight and the activation: what the kernel's run leaves
  in its result, over the extended reals, is what the derivative of the reference's forward function computes. The kernel
  is given the activations, squares of positive parts, and takes their root where the derivative takes the positive part.
-/
module

public import proofs.«01_k».proof.Proof.Blocks
public import proofs.«01_k».proof.Proof.Gen.MlpActIdeal.Value
public import proofs.«01_k».proof.Proof.Gen.MlpActRefIdeal.Read
public import Idealize.ShloMosaic.Lib.ValueIdx
public import Idealize.ShloMosaic.Lib.ValueLayout
public import Idealize.ShloMosaic.Lib.Claim

@[expose] public section

noncomputable section

namespace Cert.MlpActProof

open Cert.MlpActIdeal Cert.MlpActIdeal.Gen Cert.MlpActIdeal.Value Cert.Blocks
open Idealize.ShloMosaic Idealize.ShloMosaic.TcCoe Idealize.ShloMosaic.ValueIdx
open Idealize.ShloMosaic.Pipeline (Dat)
open scoped BigOperators

variable (m : (ℓ : Loc nD τ sig) → Buf (Elt Ideal) ℓ)

/-- The gradient of the result, the layer's rows and the two weights. -/
abbrev ds (c : Dev nD) : FVec Ideal S8192x1024 .bf16 := m ((c : Thread nD τ).loc main_arg0)
abbrev xs (c : Dev nD) : FVec Ideal S8192x1024 .bf16 := m ((c : Thread nD τ).loc main_arg1)
abbrev us (c : Dev nD) : FVec Ideal S1024x4096 .bf16 := m ((c : Thread nD τ).loc main_arg2)
abbrev ws (c : Dev nD) : FVec Ideal S4096x1024 .bf16 := m ((c : Thread nD τ).loc main_arg3)

/-- The point of the grid at the `q`-th block of columns and the `p`-th block of rows. -/
abbrev pt (q : Fin 4) (p : Fin 16) : Fin cfg0.N := ⟨16 * q.val + p.val, lt_of_lt_of_eq (by omega) N_0.symm⟩

theorem index_d : ∀ (q : Fin 4) (p : Fin 16), win0_0.index (pt q p) 0 = p.val ∧ win0_0.index (pt q p) 1 = 0 := by decide +kernel
theorem index_w : ∀ (q : Fin 4) (p : Fin 16), win0_1.index (pt q p) 0 = q.val ∧ win0_1.index (pt q p) 1 = 0 := by decide +kernel
theorem index_a : ∀ (q : Fin 4) (p : Fin 16), win0_2.index (pt q p) 0 = p.val ∧ win0_2.index (pt q p) 1 = q.val := by decide +kernel
theorem index_o : ∀ (q : Fin 4) (p : Fin 16), win0_3.index (pt q p) 0 = p.val ∧ win0_3.index (pt q p) 1 = q.val := by decide +kernel
theorem flush_o : ∀ (q : Fin 4) (p : Fin 16), (cfg0.win 3).flush (pt q p) = true := by decide +kernel

theorem host_product (x : FVec Ideal S8192x1024 .bf16) (w : FVec Ideal S1024x4096 .bf16) (r : Fin 8192) (s : Fin 4096) :
    (Cert.MlpActRefIdeal.Read.val_main_v2 (F := Ideal) x w : FVec Ideal S8192x4096 .f32) (ix2 r s) = ∑ k : Fin 1024, x (ix2 r k) * w (ix2 k s) := by
  unfold Cert.MlpActRefIdeal.Read.val_main_v2
  exact host_plain none _ _ r s

/-- The positive part, squared. -/
def act (u : EReal) : EReal := max u 0 * max u 0

/-- The activations as the host writes them. -/
def acts (x : FVec Ideal S8192x1024 .bf16) (u : FVec Ideal S1024x4096 .bf16) : FVec Ideal S8192x4096 .bf16 :=
  truncf .bf16 (mulf (maximumf (Cert.MlpActRefIdeal.Read.val_main_v2 (F := Ideal) x u) (broadcastInDim S8192x4096 ![] bcast_S_S8192x4096 (constant S_ .f32 0x00000000#32)))
    (maximumf (Cert.MlpActRefIdeal.Read.val_main_v2 (F := Ideal) x u) (broadcastInDim S8192x4096 ![] bcast_S_S8192x4096 (constant S_ .f32 0x00000000#32)))) bitsLt_bf16_f32

/-- The activations, as the region finds them. -/
theorem activations (c : Dev nD) (r : Fin 8192) (s : Fin 4096) :
    (V m c main_v5 : FVec Ideal S8192x4096 .bf16) (ix2 r s) = act (∑ k : Fin 1024, xs m c (ix2 r k) * us m c (ix2 k s)) := by
  have e : (V m c main_v5 : FVec Ideal S8192x4096 .bf16) = acts (xs m c) (us m c) := by
    entry_read
    rfl
  rw [e]
  unfold acts
  rw [truncf_apply, mulf_apply, maximumf_apply, host_product]
  show max _ (Ideal.ofBits .f32 0x00000000#32) * max _ (Ideal.ofBits .f32 0x00000000#32) = _
  rw [Ideal.ofBits_zero_f32]
  rfl

theorem block_d (c : Dev nD) (q : Fin 4) (p : Fin 16) (r : Fin 512) (k : Fin 1024) :
    (iblk m c 0 (pt q p) : FVec Ideal S512x1024 .bf16) (ix2 r k) = ds m c (ix2 (⟨512 * p.val + r.val, by omega⟩ : Fin 8192) k) := by
  obtain ⟨h0, h1⟩ := index_d q p
  unfold iblk
  rw [View.read_apply]
  show V m c main_arg0 _ = m (c.tc.loc main_arg0) _
  rw [V_main_arg0]
  congr 1
  funext a
  apply Fin.ext
  match a with
  | ⟨0, _⟩ => show win0_0.index (pt q p) 0 * 512 + 1 * r.val = 512 * p.val + r.val; rw [h0]; omega
  | ⟨1, _⟩ => show win0_0.index (pt q p) 1 * 1024 + 1 * k.val = k.val; rw [h1]; omega

theorem block_w (c : Dev nD) (q : Fin 4) (p : Fin 16) (s k : Fin 1024) :
    (iblk m c 1 (pt q p) : FVec Ideal S1024x1024 .bf16) (ix2 s k) = ws m c (ix2 (⟨1024 * q.val + s.val, by omega⟩ : Fin 4096) k) := by
  obtain ⟨h0, h1⟩ := index_w q p
  unfold iblk
  rw [View.read_apply]
  show V m c main_arg3 _ = m (c.tc.loc main_arg3) _
  rw [V_main_arg3]
  congr 1
  funext a
  apply Fin.ext
  match a with
  | ⟨0, _⟩ => show win0_1.index (pt q p) 0 * 1024 + 1 * s.val = 1024 * q.val + s.val; rw [h0]; omega
  | ⟨1, _⟩ => show win0_1.index (pt q p) 1 * 1024 + 1 * k.val = k.val; rw [h1]; omega

theorem block_a (c : Dev nD) (q : Fin 4) (p : Fin 16) (r : Fin 512) (s : Fin 1024) :
    (iblk m c 2 (pt q p) : FVec Ideal S512x1024 .bf16) (ix2 r s)
      = (V m c main_v5 : FVec Ideal S8192x4096 .bf16) (ix2 (⟨512 * p.val + r.val, by omega⟩ : Fin 8192) (⟨1024 * q.val + s.val, by omega⟩ : Fin 4096)) := by
  obtain ⟨h0, h1⟩ := index_a q p
  unfold iblk
  rw [View.read_apply]
  show V m c main_v5 _ = V m c main_v5 _
  congr 1
  funext a
  apply Fin.ext
  match a with
  | ⟨0, _⟩ => show win0_2.index (pt q p) 0 * 512 + 1 * r.val = 512 * p.val + r.val; rw [h0]; omega
  | ⟨1, _⟩ => show win0_2.index (pt q p) 1 * 1024 + 1 * s.val = 1024 * q.val + s.val; rw [h1]; omega

theorem dims : dot_S512x1024_S1024x1024_S512x1024_1_1_0_0_n_n = DotDims.transposedRhs 512 1024 1024 := rfl

/-- The number two, as both programs write it. -/
abbrev two : EReal := Ideal.ofBits .f32 0x40000000#32

/-- One point's block of the result. -/
theorem pay_apply (d : FVec Ideal S512x1024 .bf16) (w : FVec Ideal S1024x1024 .bf16) (a : FVec Ideal S512x1024 .bf16) (r : Fin 512) (s : Fin 1024) :
    (k0_pay1 (F := Ideal) d w a : FVec Ideal S512x1024 .bf16) (ix2 r s)
      = (∑ k : Fin 1024, d (ix2 r k) * w (ix2 s k)) * (two * Ideal.sqrt (a (ix2 r s))) := by
  unfold k0_pay1
  rw [truncf_apply, mulf_apply, dims, matmul_transposed_zero, shapeCast_self]
  rfl

/-- The root of a positive part's square is the positive part, infinities included. -/
theorem sqrt_act (u : EReal) : Ideal.sqrt (act u) = max u 0 := by
  have h : ∀ v : EReal, 0 ≤ v → Ideal.sqrt (v * v) = v := by
    intro v hv
    induction v using EReal.rec with
    | bot => exact absurd hv (by simp)
    | top => rw [EReal.top_mul_top]; rfl
    | coe x =>
      have hx : 0 ≤ x := EReal.coe_nonneg.mp hv
      rw [← EReal.coe_mul, Ideal.sqrt_coe, if_neg (not_lt.mpr (mul_nonneg hx hx)), Real.sqrt_mul_self hx]
  exact h _ (le_max_right _ _)

/-- THE KERNEL'S RESULT at one index. -/
theorem kernel_value (c : Dev nD) (r : Fin 8192) (s : Fin 4096) :
    ((dats m 0 c).arrAt 3 cfg0.N : FVec Ideal S8192x4096 .bf16) (ix2 r s)
      = (∑ k : Fin 1024, ds m c (ix2 r k) * ws m c (ix2 s k)) * (two * max (∑ k : Fin 1024, xs m c (ix2 r k) * us m c (ix2 k s)) 0) := by
  obtain ⟨p, hp⟩ : ∃ p : Fin 16, p.val = r.val / 512 := ⟨⟨r.val / 512, by omega⟩, rfl⟩
  obtain ⟨q, hq⟩ : ∃ q : Fin 4, q.val = s.val / 1024 := ⟨⟨s.val / 1024, by omega⟩, rfl⟩
  obtain ⟨r', hr⟩ : ∃ r' : Fin 512, r'.val = r.val % 512 := ⟨⟨r.val % 512, by omega⟩, rfl⟩
  obtain ⟨s', hs⟩ : ∃ s' : Fin 1024, s'.val = s.val % 1024 := ⟨⟨s.val % 1024, by omega⟩, rfl⟩
  have er : (⟨512 * p.val + r'.val, by omega⟩ : Fin 8192) = r := Fin.ext (by show 512 * p.val + r'.val = r.val; omega)
  have es : (⟨1024 * q.val + s'.val, by omega⟩ : Fin 4096) = s := Fin.ext (by show 1024 * q.val + s'.val = s.val; omega)
  obtain ⟨h0, h1⟩ := index_o q p
  have h := congrFun (blocks3 m c (pt q p) (flush_o q p)) (ix2 r' s')
  rw [View.read_apply] at h
  have ei : ((cfg0.win 3).blk (pt q p)).view.emb (ix2 r' s') = (ix2 r s : S8192x4096.Idx) := by
    funext a
    apply Fin.ext
    match a with
    | ⟨0, _⟩ => show win0_3.index (pt q p) 0 * 512 + 1 * r'.val = r.val; rw [h0]; omega
    | ⟨1, _⟩ => show win0_3.index (pt q p) 1 * 1024 + 1 * s'.val = s.val; rw [h1]; omega
  rw [ei] at h
  refine (show _ = _ from h).trans ?_
  rw [flushed3]
  show out0_3 (iblk m c 0 (pt q p)) (iblk m c 1 (pt q p)) (iblk m c 2 (pt q p)) (ix2 r' s') = _
  unfold out0_3
  rw [View.canon_unit_zero hz, View.ld_unit_zero (S := S512x1024) hz, View.ld_unit_zero (S := S1024x1024) hz, View.ld_unit_zero (S := S512x1024) hz,
    pay_apply]
  simp only [block_d, block_w, block_a, er, es]
  rw [activations, sqrt_act]

theorem host_gradient (d : FVec Ideal S8192x1024 .bf16) (w : FVec Ideal S4096x1024 .bf16) (r : Fin 8192) (s : Fin 4096) :
    (Cert.MlpActRefIdeal.Read.val_main_v13 (F := Ideal) d w : FVec Ideal S8192x4096 .f32) (ix2 r s) = ∑ k : Fin 1024, d (ix2 r k) * w (ix2 s k) := by
  unfold Cert.MlpActRefIdeal.Read.val_main_v13
  exact host_transposed none _ _ r s

/-- THE REFERENCE'S RESULT at one index. -/
theorem reference_value (d x : FVec Ideal S8192x1024 .bf16) (u : FVec Ideal S1024x4096 .bf16) (w : FVec Ideal S4096x1024 .bf16) (r : Fin 8192) (s : Fin 4096) :
    (Cert.MlpActRefIdeal.Read.val_main_v17 (F := Ideal) d x u w : FVec Ideal S8192x4096 .bf16) (ix2 r s)
      = (∑ k : Fin 1024, d (ix2 r k) * w (ix2 s k)) * (two * max (∑ k : Fin 1024, x (ix2 r k) * u (ix2 k s)) 0) := by
  rw [Cert.MlpActRefIdeal.Read.val_main_v17_apply, Cert.MlpActRefIdeal.Read.val_main_v16_apply, Cert.MlpActRefIdeal.Read.val_main_v5_apply,
    Cert.MlpActRefIdeal.Read.val_main_v14_apply, Cert.MlpActRefIdeal.Read.val_main_v15_apply, Cert.MlpActRefIdeal.Read.val_main_cst_2_apply,
    Cert.MlpActRefIdeal.Read.val_main_v9_apply, Cert.MlpActRefIdeal.Read.val_main_v8_apply, Cert.MlpActRefIdeal.Read.val_main_cst_1_apply,
    Cert.MlpActRefIdeal.Read.val_main_v3_apply, Cert.MlpActRefIdeal.Read.val_main_call0_v0_apply, Cert.MlpActRefIdeal.Read.val_main_call0_cst_apply,
    Cert.MlpActRefIdeal.Read.val_main_v4_apply, Cert.MlpActRefIdeal.Read.val_main_cst_apply, host_product, host_gradient]
  generalize (∑ k : Fin 1024, x (ix2 r k) * u (ix2 k s)) = y
  generalize (∑ k : Fin 1024, d (ix2 r k) * w (ix2 s k)) = g
  show Scalar.select (Ideal.cmp .ogt y (Ideal.ofBits .f32 0x00000000#32)) (g * (two * max y (Ideal.ofBits .f32 0x00000000#32))) (Ideal.ofBits .f32 0x00000000#32) = _
  rw [Ideal.ofBits_zero_f32]
  by_cases hy : 0 < y
  · simp [Scalar.select, Ideal.cmp, hy]
  · rw [max_eq_right (not_lt.mp hy), mul_zero, mul_zero]
    simp [Scalar.select, Ideal.cmp, hy]

/-- So the two programs' results are the same array. -/
theorem equal (c : Dev nD) :
    ((dats m 0 c).arrAt 3 cfg0.N : FVec Ideal S8192x4096 .bf16)
      = Cert.MlpActRefIdeal.Read.val_main_v17 (F := Ideal) (ds m c) (xs m c) (us m c) (ws m c) := by
  funext i
  obtain ⟨r, s, rfl⟩ : ∃ r s, i = ix2 r s := ⟨i 0, i 1, eq_ix2 i⟩
  rw [kernel_value, reference_value]

end Cert.MlpActProof

end
-- ==== Proof.ProjConvBlock.lean ====
/-
  One block of rows of the fused projection and causal convolution, as the kernel computes it over the extended reals: the
  product of its rows with the packed weight, the gate columns apart, and the convolution of the product's first columns
  with its four taps, whose first rows read the last rows of the block before.
-/
module

public import proofs.«01_k».proof.Proof.Blocks
public import proofs.«01_k».proof.Proof.Gen.ProjConvIdeal.Value
public import Idealize.ShloMosaic.Lib.ValueIdx
public import Idealize.ShloMosaic.Lib.ValueLayout
public import Idealize.ShloMosaic.Lib.Pipeline.ReadBack

@[expose] public section

noncomputable section

namespace Cert.ProjConvBlock

open Cert.ProjConvIdeal Cert.ProjConvIdeal.Gen Cert.ProjConvIdeal.Value Cert.Blocks
open Idealize.ShloMosaic Idealize.ShloMosaic.TcCoe Idealize.ShloMosaic.ValueIdx
open scoped BigOperators

section lists

variable {sig : RefSig} {κ : Kind} {sp : Space} {e : EltTy} {Val : EltTy → Type} [∀ e, Nonempty (Val e)]

/-- A load within the newest piece reads that piece alone. -/
theorem readCov_head {s : Shape} (v : View sig κ sp s e) (r : Rect s) (w : r.shape.Idx → Val e) (p : View.Piece Val s e)
    (L : List (View.Piece Val s e)) (B : LoadRect s) (h : LoadRect.within r B = true) :
    v.readCov (⟨r, w⟩ :: p :: L) B = v.readCov [⟨r, w⟩] B := by
  rw [View.readCov_eq_canon', View.readCov_eq_canon']
  funext j
  obtain ⟨x, hx⟩ := r.exists_idx_of_mem (LoadRect.idx_mem_of_within h j)
  have hx : r.emb x = B.idx j := hx
  rw [← hx, View.canon_cons_emb, View.canon_cons_emb]

/-- A load that splits at row 8 of the second axis between the two newest pieces reads those two alone. -/
theorem readCov_two (v : View sig κ sp S4x264x768 e) (r r' : Rect S4x264x768) (w : r.shape.Idx → Val e) (w' : r'.shape.Idx → Val e)
    (p : View.Piece Val S4x264x768 e) (L : List (View.Piece Val S4x264x768 e)) (B : LoadRect S4x264x768)
    (h : LoadRect.covChk [r, r'] B (.split 1 (8 - B.off 1) (.leaf 1) (.leaf 0)) = true) :
    v.readCov (⟨r, w⟩ :: ⟨r', w'⟩ :: p :: L) B = v.readCov [⟨r, w⟩, ⟨r', w'⟩] B := by
  rw [View.readCov_eq_canon', View.readCov_eq_canon']
  funext j
  obtain ⟨q, hq, hj⟩ := LoadRect.cover_of_covChk [⟨r, w⟩, ⟨r', w'⟩] B _ h j
  by_cases h1 : B.idx j ∈ r.set
  · obtain ⟨x, hx⟩ := r.exists_idx_of_mem h1
    have hx : r.emb x = B.idx j := hx
    rw [← hx, View.canon_cons_emb, View.canon_cons_emb]
  · rw [View.canon_cons_of_not_mem ⟨r, w⟩ _ h1, View.canon_cons_of_not_mem ⟨r, w⟩ _ h1]
    have h2 : B.idx j ∈ r'.set := by
      rcases List.mem_cons.mp hq with rfl | hq
      · exact absurd hj h1
      · rcases List.mem_cons.mp hq with rfl | hq
        · exact hj
        · exact absurd hq (List.not_mem_nil)
    obtain ⟨x, hx⟩ := r'.exists_idx_of_mem h2
    have hx : r'.emb x = B.idx j := hx
    rw [← hx, View.canon_cons_emb, View.canon_cons_emb]

end lists

section values

variable (x0 : Vec Ideal S256x1024 .bf16) (x1 : Vec Ideal S1024x6912 .bf16) (x2 : Vec Ideal S4x3072 .f32) (y : Vec Ideal S8x3072 .f32)

/-- The product of the block's rows and the packed weight, at row `r` and column `n`. -/
def prod (r n : ℕ) : EReal :=
  if h : r < 256 ∧ n < 6912 then ∑ k : Fin 1024, x0 (ix2 (⟨r, h.1⟩ : Fin 256) k) * x1 (ix2 k (⟨n, h.2⟩ : Fin 6912)) else 0

/-- The convolution's input at row `q` and column `n`: eight rows carried from the block before, then the block's product. -/
def ext (q n : ℕ) : EReal :=
  if q < 8 then (if h : q < 8 ∧ n < 3072 then y (ix2 (⟨q, h.1⟩ : Fin 8) (⟨n, h.2⟩ : Fin 3072)) else 0) else prod x0 x1 (q - 8) n

/-- The tap `k` at column `n`. -/
def tap (k n : ℕ) : EReal := if h : k < 4 ∧ n < 3072 then x2 (ix2 (⟨k, h.1⟩ : Fin 4) (⟨n, h.2⟩ : Fin 3072)) else 0

/-- The convolution at row `r` and column `n`. -/
def conv (r n : ℕ) : EReal :=
  tap x2 0 n * ext x0 x1 y (r + 5) n + tap x2 1 n * ext x0 x1 y (r + 6) n + tap x2 2 n * ext x0 x1 y (r + 7) n
    + tap x2 3 n * ext x0 x1 y (r + 8) n

/-- The logistic function through the hyperbolic tangent. -/
def sigm (z : EReal) : EReal :=
  Ideal.ofBits .f32 0x3F000000#32 * Ideal.tanh (Ideal.ofBits .f32 0x3F000000#32 * z) + Ideal.ofBits .f32 0x3F000000#32

/-- The activation and its slope. -/
def act (z : EReal) : EReal := z * sigm z
def slope (z : EReal) : EReal := sigm z * (Ideal.ofBits .f32 0x3F800000#32 + z * (Ideal.ofBits .f32 0x3F800000#32 - sigm z))

/-- A block of 768 columns of the product. -/
def cols (off : ℕ) : Vec Ideal S256x768 .f32 := fun x => prod x0 x1 (x 0).val (off + (x 1).val)

theorem pay_cols (off : ℕ) (p) : k0_pay3 x0 (View.ld x1 (Rect.unit (s := S1024x6912) ![0, off] ![1024, 768] p)) = cols x0 x1 off := by
  funext x
  obtain ⟨r, n, rfl⟩ : ∃ (r : Fin 256) (n : Fin 768), x = ix2 r n := ⟨x 0, x 1, eq_ix2 x⟩
  unfold k0_pay3
  rw [shapeCast_self]
  refine (matmul_plain_zero (φ₁ := .bf16) (φ₂ := .bf16) none x0 _ r n).trans ?_
  have hp : off + 768 ≤ 6912 := p 1
  have hn : off + n.val < 6912 := by omega
  show _ = prod x0 x1 r.val (off + n.val)
  unfold prod
  rw [dif_pos ⟨r.isLt, hn⟩]
  refine Finset.sum_congr rfl fun k _ => ?_
  refine congrArg (fun j => x0 (ix2 r k) * x1 j) (funext fun a => Fin.ext ?_)
  match a with
  | ⟨0, _⟩ => show 0 + 1 * k.val = k.val; omega
  | ⟨1, _⟩ => show off + 1 * n.val = off + n.val; omega

theorem pay4 : k0_pay4 (F := Ideal) = k0_pay3 := rfl
theorem pay28 : k0_pay28 (F := Ideal) = k0_pay3 := rfl
theorem pay51 : k0_pay51 (F := Ideal) = k0_pay3 := rfl
theorem pay166 : k0_pay166 (F := Ideal) = k0_pay3 := rfl
theorem pay77 (u v) : k0_pay77 (F := Ideal) u v = (k0_pay3 u v : S256x768.Idx → EReal) := rfl
theorem pay97 (u v) : k0_pay97 (F := Ideal) u v = (k0_pay3 u v : S256x768.Idx → EReal) := rfl
theorem pay120 (u v) : k0_pay120 (F := Ideal) u v = (k0_pay3 u v : S256x768.Idx → EReal) := rfl
theorem pay141 (u v) : k0_pay141 (F := Ideal) u v = (k0_pay3 u v : S256x768.Idx → EReal) := rfl

theorem pay54 (v) : k0_pay54 (F := Ideal) v = v := by unfold k0_pay54; simp only [shapeCast_self]
theorem pay7 (v) : k0_pay7 (F := Ideal) v = v := by unfold k0_pay7; simp only [shapeCast_self]
theorem pay100 (v) : k0_pay100 (F := Ideal) v = v := by unfold k0_pay100; simp only [shapeCast_self]
theorem pay145 (v) : k0_pay145 (F := Ideal) v = v := by unfold k0_pay145; simp only [shapeCast_self]

/-- A block of rows put under a leading axis of one. -/
def lead {n : ℕ} (v : Vec Ideal ⟨2, ![n, 768]⟩ .f32) : Vec Ideal ⟨3, ![1, n, 768]⟩ .f32 := fun z => v (ix2 (z 1 : Fin n) (z 2 : Fin 768))

theorem cast_lead {n : ℕ} (v : Vec Ideal ⟨2, ![n, 768]⟩ .f32) (h) : shapeCast ⟨3, ![1, n, 768]⟩ v h = lead v := by
  funext z
  refine shapeCast_apply _ _ _ _ ?_
  rw [Shape.rowMajor_val_two, Shape.rowMajor_val_three]
  have h0 : (z 0).val < 1 := (z 0).isLt
  have h0 : (z 0).val = 0 := by omega
  show (z 1).val * 768 + (z 2).val = ((z 0).val * n + (z 1).val) * 768 + (z 2).val
  rw [h0]; simp

theorem pay5 (v) : k0_pay5 (F := Ideal) v = lead v := by unfold k0_pay5; exact cast_lead v _
theorem pay52 (v) : k0_pay52 (F := Ideal) v = lead v := by unfold k0_pay52; exact cast_lead v _
theorem pay98 (v) : k0_pay98 (F := Ideal) v = lead v := by unfold k0_pay98; exact cast_lead v _
theorem pay142 (v) : k0_pay142 (F := Ideal) v = lead v := by unfold k0_pay142; exact cast_lead v _
theorem pay6 (v) : k0_pay6 (F := Ideal) v = lead v := by unfold k0_pay6; simp only [shapeCast_self]; exact cast_lead v _
theorem pay53 (v) : k0_pay53 (F := Ideal) v = lead v := by unfold k0_pay53; simp only [shapeCast_self]; exact cast_lead v _
theorem pay99 (v) : k0_pay99 (F := Ideal) v = lead v := by unfold k0_pay99; simp only [shapeCast_self]; exact cast_lead v _
theorem pay143 (v) : k0_pay143 (F := Ideal) v = v := by unfold k0_pay143; simp only [shapeCast_self]
theorem pay144 (v) : k0_pay144 (F := Ideal) v = lead v := by unfold k0_pay144; exact cast_lead v _

/-- The last eight rows of a block of columns, read back. -/
theorem last_rows {sg : RefSig} {κ : Kind} {sp : Space} (v : View sg κ sp S256x3840 .f32) (off : ℕ) (p p') :
    v.readCov (Val := Elt Ideal) [⟨Rect.unit (s := S256x3840) ![0, off] ![256, 768] p, cols x0 x1 off⟩] (Rect.unit (s := S256x3840) ![248, off] ![8, 768] p').toLoadRect
      = fun j => prod x0 x1 (248 + (j 0).val) (off + (j 1).val) := by
  rw [View.readCov_eq_canon']
  funext j
  have h0 : (j 0).val < 8 := (j 0).isLt
  have e : (Rect.unit (s := S256x3840) ![248, off] ![8, 768] p').toLoadRect.idx j
      = (Rect.unit (s := S256x3840) ![0, off] ![256, 768] p).emb (ix2 (⟨248 + (j 0).val, by omega⟩ : Fin 256) (j 1 : Fin 768)) := by
    funext a
    apply Fin.ext
    match a with
    | ⟨0, _⟩ => show 248 + 1 * (j 0).val = 0 + 1 * (248 + (j 0).val); omega
    | ⟨1, _⟩ => rfl
  show View.canon _ _ = _
  rw [e, View.canon_cons_emb]
  rfl

/-- The box of 32 rows from row `q` of plane `b`, as the loads through a plane name it. -/
abbrev box (b q : ℕ) (p1 : ∀ a, (![b, 0, 0] : Fin 3 → ℕ) a + (![1, 264, 768] : Fin 3 → ℕ) a ≤ S4x264x768.size a)
    (p2 : ∀ a, (![q, 0] : Fin 2 → ℕ) a + (![32, 768] : Fin 2 → ℕ) a ≤ S264x768.size a) (p3 : (![1, 264, 768] : Fin 3 → ℕ) 0 = 1)
    (p4 : ∀ i : Fin 2, (![1, 264, 768] : Fin 3 → ℕ) i.succ = S264x768.size i)
    (p5 : ∀ a, (Rect.unit (s := S4x264x768) ![b, 0, 0] ![1, 264, 768] p1).stride a = 1) : LoadRect S4x264x768 :=
  (Rect.unit (s := S4x264x768) ![b, 0, 0] ![1, 264, 768] p1).withinL
    (LoadRect.consLift (n := 2) (d := ![264, 768]) (Rect.unit (s := S264x768) ![q, 0] ![32, 768] p2).toLoadRect ![1, 264, 768] p3 p4) p5

theorem box_val (b q : ℕ) (p1 p2 p3 p4 p5) (j : (box b q p1 p2 p3 p4 p5).shape.Idx) :
    ((box b q p1 p2 p3 p4 p5).idx j 0).val = b ∧ ((box b q p1 p2 p3 p4 p5).idx j 1).val = q + (j 1).val ∧ ((box b q p1 p2 p3 p4 p5).idx j 2).val = (j 2).val := by
  have h0 : (j 0).val < 1 := (j 0).isLt
  refine ⟨?_, ?_, ?_⟩
  · show b + 0 + 1 * (j 0).val = b; omega
  · show 0 + q + 1 * (j 1).val = _; omega
  · show 0 + 0 + 1 * (j 2).val = _; omega

theorem along_val (b q : ℕ) (p1 p2 p3 p4 p5) (h : (Rect.unit (s := S264x768) ![q, 0] ![32, 768] p2).toLoadRect.shape.numel = (box b q p1 p2 p3 p4 p5).shape.numel) (x : (Rect.unit (s := S264x768) ![q, 0] ![32, 768] p2).toLoadRect.shape.Idx) :
    Shape.reshapeEquiv h x = (ix3 (0 : Fin 1) (x 0 : Fin 32) (x 1 : Fin 768) : (⟨3, ![1, 32, 768]⟩ : Shape).Idx) := by
  apply Shape.reshapeEquiv_eq_of_rowMajor
  show (Shape.rowMajor (⟨3, ![1, 32, 768]⟩ : Shape) (ix3 (0 : Fin 1) (x 0 : Fin 32) (x 1 : Fin 768))).val = (Shape.rowMajor S32x768 x).val
  rw [Shape.rowMajor_val_two, Shape.rowMajor_val_three]
  show (0 * 32 + (x 0).val) * 768 + (x 1).val = (x 0).val * 768 + (x 1).val
  omega

/-- A load of 32 rows past the carried ones. -/
theorem load_rows {sg : RefSig} {κ : Kind} {sp : Space} (v : View sg κ sp S4x264x768 .f32) (b q off : ℕ) (p p1 p2 p3 p4 p5)
    (h : (Rect.unit (s := S264x768) ![q, 0] ![32, 768] p2).toLoadRect.shape.numel
      = (LoadRect.consLift (n := 2) (d := ![264, 768]) (Rect.unit (s := S264x768) ![q, 0] ![32, 768] p2).toLoadRect ![1, 264, 768] p3 p4).shape.numel) (ho : 8 ≤ q) :
    (LoadRect.valAlong (s₀ := (Rect.unit (s := S4x264x768) ![b, 0, 0] ![1, 264, 768] p1).toLoadRect.shape) (lr := (Rect.unit (s := S264x768) ![q, 0] ![32, 768] p2).toLoadRect)
        (LR := LoadRect.consLift (n := 2) (d := ![264, 768]) (Rect.unit (s := S264x768) ![q, 0] ![32, 768] p2).toLoadRect ![1, 264, 768] p3 p4) h (v.readCov (Val := Elt Ideal) [⟨Rect.unit (s := S4x264x768) ![b, 8, 0] ![1, 256, 768] p, lead (cols x0 x1 off)⟩] (box b q p1 p2 p3 p4 p5)))
      = fun x => ext x0 x1 y (q + (x 0).val) (off + (x 1).val) := by
  rw [View.readCov_eq_canon']
  funext x
  have hx0 : (x 0).val < 32 := (x 0).isLt
  have hx1 : (x 1).val < 768 := (x 1).isLt
  have hq : q + 32 ≤ 264 := p2 0
  have e : (box b q p1 p2 p3 p4 p5).idx (Shape.reshapeEquiv h x)
      = (Rect.unit (s := S4x264x768) ![b, 8, 0] ![1, 256, 768] p).emb (ix3 (0 : Fin 1) (⟨q + (x 0).val - 8, by omega⟩ : Fin 256) (⟨(x 1).val, hx1⟩ : Fin 768)) := by
    refine (congrArg (box b q p1 p2 p3 p4 p5).idx (along_val b q p1 p2 p3 p4 p5 h x)).trans ?_
    obtain ⟨e0, e1, e2⟩ := box_val b q p1 p2 p3 p4 p5 (ix3 (0 : Fin 1) (x 0 : Fin 32) (x 1 : Fin 768))
    funext a
    apply Fin.ext
    match a with
    | ⟨0, _⟩ => refine e0.trans ?_; show b = b + 1 * 0; omega
    | ⟨1, _⟩ => refine e1.trans ?_; show q + (x 0).val = 8 + 1 * (q + (x 0).val - 8); omega
    | ⟨2, _⟩ => refine e2.trans ?_; show (x 1).val = 0 + 1 * (x 1).val; omega
  show View.canon _ ((box b q p1 p2 p3 p4 p5).idx (Shape.reshapeEquiv h x)) = _
  rw [e, View.canon_cons_emb]
  have hlt : ¬ (q + (x 0).val < 8) := by omega
  unfold ext
  rw [if_neg hlt]
  rfl

/-- A load of 32 rows that begins among the carried ones. -/
theorem load_carried {sg : RefSig} {κ : Kind} {sp : Space} (v : View sg κ sp S4x264x768 .f32) (b q off : ℕ) (p p' p'' p1 p2 p3 p4 p5)
    (h : (Rect.unit (s := S264x768) ![q, 0] ![32, 768] p2).toLoadRect.shape.numel
      = (LoadRect.consLift (n := 2) (d := ![264, 768]) (Rect.unit (s := S264x768) ![q, 0] ![32, 768] p2).toLoadRect ![1, 264, 768] p3 p4).shape.numel) :
    (LoadRect.valAlong (s₀ := (Rect.unit (s := S4x264x768) ![b, 0, 0] ![1, 264, 768] p1).toLoadRect.shape) (lr := (Rect.unit (s := S264x768) ![q, 0] ![32, 768] p2).toLoadRect)
        (LR := LoadRect.consLift (n := 2) (d := ![264, 768]) (Rect.unit (s := S264x768) ![q, 0] ![32, 768] p2).toLoadRect ![1, 264, 768] p3 p4) h (v.readCov (Val := Elt Ideal) [⟨Rect.unit (s := S4x264x768) ![b, 8, 0] ![1, 256, 768] p, lead (cols x0 x1 off)⟩,
        ⟨Rect.unit (s := S4x264x768) ![b, 0, 0] ![1, 8, 768] p', lead (View.ld y (Rect.unit (s := S8x3072) ![0, off] ![8, 768] p''))⟩] (box b q p1 p2 p3 p4 p5)))
      = fun x => ext x0 x1 y (q + (x 0).val) (off + (x 1).val) := by
  funext x
  by_cases hlt : q + (x 0).val < 8
  · rw [View.readCov_eq_canon']
    have hx1 : (x 1).val < 768 := (x 1).isLt
    have hoff : off + 768 ≤ 3072 := p'' 1
    have e : (box b q p1 p2 p3 p4 p5).idx (Shape.reshapeEquiv h x)
        = (Rect.unit (s := S4x264x768) ![b, 0, 0] ![1, 8, 768] p').emb (ix3 (0 : Fin 1) (⟨q + (x 0).val, hlt⟩ : Fin 8) (⟨(x 1).val, hx1⟩ : Fin 768)) := by
      refine (congrArg (box b q p1 p2 p3 p4 p5).idx (along_val b q p1 p2 p3 p4 p5 h x)).trans ?_
      obtain ⟨e0, e1, e2⟩ := box_val b q p1 p2 p3 p4 p5 (ix3 (0 : Fin 1) (x 0 : Fin 32) (x 1 : Fin 768))
      funext a
      apply Fin.ext
      match a with
      | ⟨0, _⟩ => refine e0.trans ?_; show b = b + 1 * 0; omega
      | ⟨1, _⟩ => refine e1.trans ?_; show q + (x 0).val = 0 + 1 * (q + (x 0).val); omega
      | ⟨2, _⟩ => refine e2.trans ?_; show (x 1).val = 0 + 1 * (x 1).val; omega
    show View.canon _ ((box b q p1 p2 p3 p4 p5).idx (Shape.reshapeEquiv h x)) = _
    rw [e, View.canon_cons_of_not_mem, View.canon_cons_emb]
    · unfold ext
      have hn : off + (x 1).val < 3072 := by omega
      rw [if_pos hlt, dif_pos ⟨hlt, hn⟩]
      show y _ = y _
      refine congrArg y (funext fun a => Fin.ext ?_)
      match a with
      | ⟨0, _⟩ => show 0 + 1 * (q + (x 0).val) = q + (x 0).val; omega
      | ⟨1, _⟩ => show off + 1 * (x 1).val = off + (x 1).val; omega
    · intro hm
      have h1 := ((Rect.mem_set_unit (inb := p)).mp hm 1).1
      have h2 : (8 : ℕ) ≤ 0 + 1 * (q + (x 0).val) := h1
      omega
  · have hx0 : (x 0).val < 32 := (x 0).isLt
    have hx1 : (x 1).val < 768 := (x 1).isLt
    have hq : q + 32 ≤ 264 := p2 0
    have e : (box b q p1 p2 p3 p4 p5).idx (Shape.reshapeEquiv h x)
        = (Rect.unit (s := S4x264x768) ![b, 8, 0] ![1, 256, 768] p).emb (ix3 (0 : Fin 1) (⟨q + (x 0).val - 8, by omega⟩ : Fin 256) (⟨(x 1).val, hx1⟩ : Fin 768)) := by
      refine (congrArg (box b q p1 p2 p3 p4 p5).idx (along_val b q p1 p2 p3 p4 p5 h x)).trans ?_
      obtain ⟨e0, e1, e2⟩ := box_val b q p1 p2 p3 p4 p5 (ix3 (0 : Fin 1) (x 0 : Fin 32) (x 1 : Fin 768))
      funext a
      apply Fin.ext
      match a with
      | ⟨0, _⟩ => refine e0.trans ?_; show b = b + 1 * 0; omega
      | ⟨1, _⟩ => refine e1.trans ?_; show q + (x 0).val = 8 + 1 * (q + (x 0).val - 8); omega
      | ⟨2, _⟩ => refine e2.trans ?_; show (x 1).val = 0 + 1 * (x 1).val; omega
    rw [View.readCov_eq_canon']
    show View.canon _ ((box b q p1 p2 p3 p4 p5).idx (Shape.reshapeEquiv h x)) = _
    rw [e, View.canon_cons_emb]
    unfold ext
    rw [if_neg hlt]
    rfl

/-- One row of the taps. -/
theorem tap_row (k off : ℕ) (p) (h : S1x768.Broadcasts S32x768) (x : S32x768.Idx) :
    broadcastTo S32x768 (View.ld x2 (Rect.unit (s := S4x3072) ![k, off] ![1, 768] p)) h x = tap x2 k (off + (x 1).val) := by
  obtain ⟨r, n, rfl⟩ : ∃ (r : Fin 32) (n : Fin 768), x = ix2 r n := ⟨x 0, x 1, eq_ix2 x⟩
  refine (broadcastTo_1b_ab_apply _ h r n).trans ?_
  have hk : k + 1 ≤ 4 := p 0
  have hn : off + 768 ≤ 3072 := p 1
  have hk' : k < 4 := by omega
  have hn' : off + n.val < 3072 := by omega
  show _ = tap x2 k (off + n.val)
  unfold tap
  rw [dif_pos ⟨hk', hn'⟩]
  refine congrArg x2 (funext fun a => Fin.ext ?_)
  match a with
  | ⟨0, _⟩ => show k + 1 * 0 = k; omega
  | ⟨1, _⟩ => show off + 1 * n.val = off + n.val; omega

end values

end Cert.ProjConvBlock

end
-- ==== Proof.ProjConvPoint.lean ====
/-
  What one point of the grid leaves in its four results and in the carried rows, for the first block and for a later one.
-/
module

public import proofs.«01_k».proof.Proof.ProjConvBlock

@[expose] public section

noncomputable section

namespace Cert.ProjConvBlock

open Cert.ProjConvIdeal Cert.ProjConvIdeal.Gen Cert.ProjConvIdeal.Value Cert.Blocks
open Idealize.ShloMosaic Idealize.ShloMosaic.TcCoe Idealize.ShloMosaic.ValueIdx
open scoped BigOperators

section values

variable (x0 : Vec Ideal S256x1024 .bf16) (x1 : Vec Ideal S1024x6912 .bf16) (x2 : Vec Ideal S4x3072 .f32) (y : Vec Ideal S8x3072 .f32)

/-- The four results and the carried rows. -/
def outO : Vec Ideal S256x3840 .f32 := fun j => prod x0 x1 (j 0).val (if (j 1).val < 3072 then (j 1).val else (j 1).val + 3072)
def outG : Vec Ideal S256x3072 .bf16 := fun j => prod x0 x1 (j 0).val (3072 + (j 1).val)
def outA : Vec Ideal S256x3072 .f32 := fun j => act (conv x0 x1 x2 y (j 0).val (j 1).val)
def outS : Vec Ideal S256x3072 .bf16 := fun j => slope (conv x0 x1 x2 y (j 0).val (j 1).val)
def outC : Vec Ideal S8x3072 .f32 := fun j => prod x0 x1 (248 + (j 0).val) (j 1).val

theorem piece_low (a : ℕ) (ha : a + 768 ≤ 3072) (p) (x : S256x768.Idx) :
    cols x0 x1 a x = outO x0 x1 ((Rect.unit (s := S256x3840) ![0, a] ![256, 768] p).emb x) := by
  have hx : (x 1).val < 768 := (x 1).isLt
  show prod x0 x1 (x 0).val (a + (x 1).val) = prod x0 x1 (0 + 1 * (x 0).val) (if a + 1 * (x 1).val < 3072 then a + 1 * (x 1).val else a + 1 * (x 1).val + 3072)
  rw [if_pos (by omega), Nat.one_mul, Nat.one_mul, Nat.zero_add]

theorem piece_high (p) (x : S256x768.Idx) :
    cols x0 x1 6144 x = outO x0 x1 ((Rect.unit (s := S256x3840) ![0, 3072] ![256, 768] p).emb x) := by
  show prod x0 x1 (x 0).val (6144 + (x 1).val) = prod x0 x1 (0 + 1 * (x 0).val) (if 3072 + 1 * (x 1).val < 3072 then 3072 + 1 * (x 1).val else 3072 + 1 * (x 1).val + 3072)
  rw [if_neg (by omega), Nat.one_mul, Nat.one_mul, Nat.zero_add]
  congr 1
  omega

theorem piece_gate (a b : ℕ) (hb : b = 3072 + a) (p) (x : S256x768.Idx) :
    cols x0 x1 b x = outG x0 x1 ((Rect.unit (s := S256x3072) ![0, a] ![256, 768] p).emb x) := by
  show prod x0 x1 (x 0).val (b + (x 1).val) = prod x0 x1 (0 + 1 * (x 0).val) (3072 + (a + 1 * (x 1).val))
  rw [hb, Nat.one_mul, Nat.one_mul, Nat.zero_add, Nat.add_assoc]

theorem piece_carry (a : ℕ) (p) (x : S8x768.Idx) :
    prod x0 x1 (248 + (x 0).val) (a + (x 1).val) = outC x0 x1 ((Rect.unit (s := S8x3072) ![0, a] ![8, 768] p).emb x) := by
  show _ = prod x0 x1 (248 + (0 + 1 * (x 0).val)) (a + 1 * (x 1).val)
  rw [Nat.one_mul, Nat.one_mul, Nat.zero_add]

/-- The four products of a convolution's rows, as the loads give them, are the convolution. -/
theorem conv_piece (r a q0 q1 q2 q3 : ℕ) (x : S32x768.Idx) (f : EReal → EReal)
    (e0 : q0 = r + 5 := by rfl) (e1 : q1 = r + 6 := by rfl) (e2 : q2 = r + 7 := by rfl) (e3 : q3 = r + 8 := by rfl)
    (p : ∀ i, (![r, a] : Fin 2 → Nat) i + S32x768.size i ≤ S256x3072.size i := by decide)
    (p0 : ∀ i, (![0, a] : Fin 2 → Nat) i + S1x768.size i ≤ S4x3072.size i := by decide)
    (p1 : ∀ i, (![1, a] : Fin 2 → Nat) i + S1x768.size i ≤ S4x3072.size i := by decide)
    (p2 : ∀ i, (![2, a] : Fin 2 → Nat) i + S1x768.size i ≤ S4x3072.size i := by decide)
    (p3 : ∀ i, (![3, a] : Fin 2 → Nat) i + S1x768.size i ≤ S4x3072.size i := by decide)
    (h : S1x768.Broadcasts S32x768 := broadcasts_S1x768_S32x768) :
    f (broadcastTo S32x768 (View.ld x2 (Rect.unit (s := S4x3072) ![0, a] ![1, 768] p0)) h x * ext x0 x1 y (q0 + (x 0).val) (a + (x 1).val)
        + broadcastTo S32x768 (View.ld x2 (Rect.unit (s := S4x3072) ![1, a] ![1, 768] p1)) h x * ext x0 x1 y (q1 + (x 0).val) (a + (x 1).val)
        + broadcastTo S32x768 (View.ld x2 (Rect.unit (s := S4x3072) ![2, a] ![1, 768] p2)) h x * ext x0 x1 y (q2 + (x 0).val) (a + (x 1).val)
        + broadcastTo S32x768 (View.ld x2 (Rect.unit (s := S4x3072) ![3, a] ![1, 768] p3)) h x * ext x0 x1 y (q3 + (x 0).val) (a + (x 1).val))
      = (fun j : S256x3072.Idx => f (conv x0 x1 x2 y (j 0).val (j 1).val)) ((Rect.unit (s := S256x3072) ![r, a] ![32, 768] p).emb x) := by
  have c0 : (((Rect.unit (s := S256x3072) ![r, a] ![32, 768] p).emb x) 0).val = r + (x 0).val := by
    show r + 1 * (x 0).val = _; omega
  have c1 : (((Rect.unit (s := S256x3072) ![r, a] ![32, 768] p).emb x) 1).val = a + (x 1).val := by
    show a + 1 * (x 1).val = _; omega
  show _ = f (conv x0 x1 x2 y _ _)
  rw [c0, c1, tap_row, tap_row, tap_row, tap_row]
  unfold conv
  rw [show r + (x 0).val + 5 = q0 + (x 0).val by omega, show r + (x 0).val + 6 = q1 + (x 0).val by omega,
    show r + (x 0).val + 7 = q2 + (x 0).val by omega, show r + (x 0).val + 8 = q3 + (x 0).val by omega]

end values

section first

variable (c : Dev nD) (i : grid0.Coords) (a1 : Memref sig .tc .vmem S256x1024 .bf16) (h1 : a1.IsWhole) (a2 : Memref sig .tc .vmem S1024x6912 .bf16) (h2 : a2.IsWhole)
    (a3 : Memref sig .tc .vmem S4x3072 .f32) (h3 : a3.IsWhole) (a5 : Memref sig .tc .vmem S256x3840 .f32) (h5 : a5.IsWhole) (a6 : Memref sig .tc .vmem S256x3072 .bf16) (h6 : a6.IsWhole)
    (a7 : Memref sig .tc .vmem S256x3072 .f32) (h7 : a7.IsWhole) (a8 : Memref sig .tc .vmem S256x3072 .bf16) (h8 : a8.IsWhole) (a9 : Memref sig .tc .vmem S8x3072 .f32) (h9 : a9.IsWhole)
    (a10 : Memref sig .tc .vmem S4x264x768 .f32) (h10 : a10.IsWhole) (hc : cond0_0 i)
    (x0 : Vec Ideal S256x1024 .bf16) (x1 : Vec Ideal S1024x6912 .bf16) (x2 : Vec Ideal S4x3072 .f32)

theorem block_A_3 :
    out0_A_3 c i a1 h1 a2 h2 a3 h3 a5 h5 a6 h6 a7 h7 a8 h8 a9 h9 a10 h10 hc x0 x1 x2 = outO x0 x1 := by
  unfold out0_A_3
  rw [View.read_writes_junk_eq_canon]
  funext j
  refine View.canon_apply_of_pieces (outO x0 x1) _ (View.PiecesOf.mem (G := outO x0 x1) ?_) j (cover0_A_3 c i a1 h1 a2 h2 a3 h3 a5 h5 a6 h6 a7 h7 a8 h8 a9 h9 a10 h10 hc x0 x1 x2 j)
  unfold kernelRun0_A
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  exact ⟨piece_high x0 x1 (by decide), piece_low x0 x1 2304 (by omega) (by decide), piece_low x0 x1 1536 (by omega) (by decide), piece_low x0 x1 768 (by omega) (by decide), piece_low x0 x1 0 (by omega) (by decide), trivial⟩

theorem block_A_4 :
    out0_A_4 c i a1 h1 a2 h2 a3 h3 a5 h5 a6 h6 a7 h7 a8 h8 a9 h9 a10 h10 hc x0 x1 x2 = outG x0 x1 := by
  unfold out0_A_4
  rw [View.read_writes_junk_eq_canon]
  funext j
  refine View.canon_apply_of_pieces (outG x0 x1) _ (View.PiecesOf.mem (G := outG x0 x1) ?_) j (cover0_A_4 c i a1 h1 a2 h2 a3 h3 a5 h5 a6 h6 a7 h7 a8 h8 a9 h9 a10 h10 hc x0 x1 x2 j)
  unfold kernelRun0_A
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  exact ⟨piece_gate x0 x1 2304 5376 rfl (by decide), piece_gate x0 x1 1536 4608 rfl (by decide), piece_gate x0 x1 768 3840 rfl (by decide), piece_gate x0 x1 0 3072 rfl (by decide), trivial⟩

theorem block_A_5 :
    out0_A_5 c i a1 h1 a2 h2 a3 h3 a5 h5 a6 h6 a7 h7 a8 h8 a9 h9 a10 h10 hc x0 x1 x2 = outA x0 x1 x2 (k0_pay2 (F := Ideal)) := by
  unfold out0_A_5
  rw [View.read_writes_junk_eq_canon]
  funext j
  refine View.canon_apply_of_pieces (outA x0 x1 x2 (k0_pay2 (F := Ideal))) _ (View.PiecesOf.mem (G := outA x0 x1 x2 (k0_pay2 (F := Ideal))) ?_) j (cover0_A_5 c i a1 h1 a2 h2 a3 h3 a5 h5 a6 h6 a7 h7 a8 h8 a9 h9 a10 h10 hc x0 x1 x2 j)
  unfold kernelRun0_A
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  simp (disch := decide) only [load_rows x0 x1 (k0_pay2 (F := Ideal)), load_carried x0 x1 (k0_pay2 (F := Ideal))]
  dsimp only [k0_pay1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]
  iterate 32 refine ⟨fun x => conv_piece x0 x1 x2 _ _ _ _ _ _ _ x act, ?_⟩
  exact trivial

theorem block_A_6 :
    out0_A_6 c i a1 h1 a2 h2 a3 h3 a5 h5 a6 h6 a7 h7 a8 h8 a9 h9 a10 h10 hc x0 x1 x2 = outS x0 x1 x2 (k0_pay2 (F := Ideal)) := by
  unfold out0_A_6
  rw [View.read_writes_junk_eq_canon]
  funext j
  refine View.canon_apply_of_pieces (outS x0 x1 x2 (k0_pay2 (F := Ideal))) _ (View.PiecesOf.mem (G := outS x0 x1 x2 (k0_pay2 (F := Ideal))) ?_) j (cover0_A_6 c i a1 h1 a2 h2 a3 h3 a5 h5 a6 h6 a7 h7 a8 h8 a9 h9 a10 h10 hc x0 x1 x2 j)
  unfold kernelRun0_A
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  simp (disch := decide) only [load_rows x0 x1 (k0_pay2 (F := Ideal)), load_carried x0 x1 (k0_pay2 (F := Ideal))]
  dsimp only [k0_pay1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]
  iterate 32 refine ⟨fun x => conv_piece x0 x1 x2 _ _ _ _ _ _ _ x slope, ?_⟩
  exact trivial

theorem block_A_s :
    sout0_A_0 c i a1 h1 a2 h2 a3 h3 a5 h5 a6 h6 a7 h7 a8 h8 a9 h9 a10 h10 hc x0 x1 x2 = outC x0 x1 := by
  unfold sout0_A_0
  rw [View.read_writes_junk_eq_canon]
  funext j
  unfold kernelRun0_A
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  refine View.canon_append_of_piecesOf (outC x0 x1) [_] [_, _, _, _] ⟨piece_carry x0 x1 2304 (by decide), piece_carry x0 x1 1536 (by decide), piece_carry x0 x1 768 (by decide), piece_carry x0 x1 0 (by decide), trivial⟩ j ?_
  have h1 : (j 1).val < 3072 := (j 1).isLt
  have h0 : (j 0).val < 8 := (j 0).isLt
  have hm (a : ℕ) (p) (w : S8x768.Idx → EReal) (L : List (View.Piece (Elt Ideal) S8x3072 .f32)) (ha : a ≤ (j 1).val) (hb : (j 1).val < a + 768)
      (hL : (⟨Rect.unit (s := S8x3072) ![0, a] ![8, 768] p, w⟩ : View.Piece (Elt Ideal) S8x3072 .f32) ∈ L) : ∃ q ∈ L, j ∈ q.1.set :=
    ⟨_, hL, (Rect.mem_set_unit (inb := p)).mpr fun c => match c with
      | ⟨0, _⟩ => ⟨Nat.zero_le _, by show (j 0).val < 0 + 8; omega⟩
      | ⟨1, _⟩ => ⟨ha, hb⟩⟩
  rcases Nat.lt_or_ge (j 1).val 768 with h | h
  · exact hm 0 _ _ _ (by omega) (by omega) (.tail _ (.tail _ (.tail _ (.head _))))
  rcases Nat.lt_or_ge (j 1).val 1536 with h | h
  · exact hm 768 _ _ _ (by omega) (by omega) (.tail _ (.tail _ (.head _)))
  rcases Nat.lt_or_ge (j 1).val 2304 with h | h
  · exact hm 1536 _ _ _ (by omega) (by omega) (.tail _ (.head _))
  · exact hm 2304 _ _ _ (by omega) (by omega) (.head _)

end first

section later

variable (c : Dev nD) (i : grid0.Coords) (a1 : Memref sig .tc .vmem S256x1024 .bf16) (h1 : a1.IsWhole) (a2 : Memref sig .tc .vmem S1024x6912 .bf16) (h2 : a2.IsWhole)
    (a3 : Memref sig .tc .vmem S4x3072 .f32) (h3 : a3.IsWhole) (a5 : Memref sig .tc .vmem S256x3840 .f32) (h5 : a5.IsWhole) (a6 : Memref sig .tc .vmem S256x3072 .bf16) (h6 : a6.IsWhole)
    (a7 : Memref sig .tc .vmem S256x3072 .f32) (h7 : a7.IsWhole) (a8 : Memref sig .tc .vmem S256x3072 .bf16) (h8 : a8.IsWhole) (a9 : Memref sig .tc .vmem S8x3072 .f32) (h9 : a9.IsWhole)
    (a10 : Memref sig .tc .vmem S4x264x768 .f32) (h10 : a10.IsWhole) (hc : ¬cond0_0 i)
    (x0 : Vec Ideal S256x1024 .bf16) (x1 : Vec Ideal S1024x6912 .bf16) (x2 : Vec Ideal S4x3072 .f32) (y : Vec Ideal S8x3072 .f32)

theorem block_B_3 :
    out0_B_3 c i a1 h1 a2 h2 a3 h3 a5 h5 a6 h6 a7 h7 a8 h8 a9 h9 a10 h10 hc x0 x1 x2 y = outO x0 x1 := by
  unfold out0_B_3
  rw [View.read_writes_junk_eq_canon]
  funext j
  refine View.canon_apply_of_pieces (outO x0 x1) _ (View.PiecesOf.mem (G := outO x0 x1) ?_) j (cover0_B_3 c i a1 h1 a2 h2 a3 h3 a5 h5 a6 h6 a7 h7 a8 h8 a9 h9 a10 h10 hc x0 x1 x2 y j)
  unfold kernelRun0_B
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  exact ⟨piece_high x0 x1 (by decide), piece_low x0 x1 2304 (by omega) (by decide), piece_low x0 x1 1536 (by omega) (by decide), piece_low x0 x1 768 (by omega) (by decide), piece_low x0 x1 0 (by omega) (by decide), trivial⟩

theorem block_B_4 :
    out0_B_4 c i a1 h1 a2 h2 a3 h3 a5 h5 a6 h6 a7 h7 a8 h8 a9 h9 a10 h10 hc x0 x1 x2 y = outG x0 x1 := by
  unfold out0_B_4
  rw [View.read_writes_junk_eq_canon]
  funext j
  refine View.canon_apply_of_pieces (outG x0 x1) _ (View.PiecesOf.mem (G := outG x0 x1) ?_) j (cover0_B_4 c i a1 h1 a2 h2 a3 h3 a5 h5 a6 h6 a7 h7 a8 h8 a9 h9 a10 h10 hc x0 x1 x2 y j)
  unfold kernelRun0_B
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  exact ⟨piece_gate x0 x1 2304 5376 rfl (by decide), piece_gate x0 x1 1536 4608 rfl (by decide), piece_gate x0 x1 768 3840 rfl (by decide), piece_gate x0 x1 0 3072 rfl (by decide), trivial⟩

theorem block_B_5 :
    out0_B_5 c i a1 h1 a2 h2 a3 h3 a5 h5 a6 h6 a7 h7 a8 h8 a9 h9 a10 h10 hc x0 x1 x2 y = outA x0 x1 x2 y := by
  unfold out0_B_5
  rw [View.read_writes_junk_eq_canon]
  funext j
  refine View.canon_apply_of_pieces (outA x0 x1 x2 y) _ (View.PiecesOf.mem (G := outA x0 x1 x2 y) ?_) j (cover0_B_5 c i a1 h1 a2 h2 a3 h3 a5 h5 a6 h6 a7 h7 a8 h8 a9 h9 a10 h10 hc x0 x1 x2 y j)
  unfold kernelRun0_B
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  simp (disch := decide) only [load_rows x0 x1 y, load_carried x0 x1 y]
  dsimp only [k0_pay1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]
  iterate 32 refine ⟨fun x => conv_piece x0 x1 x2 y _ _ _ _ _ _ x act, ?_⟩
  exact trivial

theorem block_B_6 :
    out0_B_6 c i a1 h1 a2 h2 a3 h3 a5 h5 a6 h6 a7 h7 a8 h8 a9 h9 a10 h10 hc x0 x1 x2 y = outS x0 x1 x2 y := by
  unfold out0_B_6
  rw [View.read_writes_junk_eq_canon]
  funext j
  refine View.canon_apply_of_pieces (outS x0 x1 x2 y) _ (View.PiecesOf.mem (G := outS x0 x1 x2 y) ?_) j (cover0_B_6 c i a1 h1 a2 h2 a3 h3 a5 h5 a6 h6 a7 h7 a8 h8 a9 h9 a10 h10 hc x0 x1 x2 y j)
  unfold kernelRun0_B
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  simp (disch := decide) only [load_rows x0 x1 y, load_carried x0 x1 y]
  dsimp only [k0_pay1, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184]
  iterate 32 refine ⟨fun x => conv_piece x0 x1 x2 y _ _ _ _ _ _ x slope, ?_⟩
  exact trivial

theorem block_B_s :
    sout0_B_0 c i a1 h1 a2 h2 a3 h3 a5 h5 a6 h6 a7 h7 a8 h8 a9 h9 a10 h10 hc x0 x1 x2 y = outC x0 x1 := by
  unfold sout0_B_0
  rw [View.read_writes_junk_eq_canon]
  funext j
  refine View.canon_apply_of_pieces (outC x0 x1) _ (View.PiecesOf.mem (G := outC x0 x1) ?_) j (scover0_B_0 c i a1 h1 a2 h2 a3 h3 a5 h5 a6 h6 a7 h7 a8 h8 a9 h9 a10 h10 hc x0 x1 x2 y j)
  unfold kernelRun0_B
  dsimp only
  sl_unfold_words
  simp (disch := decide) only [↓ View.readCov_skip, ↓ View.readCov_cons_toLoadRect, ↓ View.readCov_fill, ↓ readCov_head, ↓ readCov_two]
  simp only [View.readAt_eq_ld, h1.read_unread, h2.read_unread, h3.read_unread, h9.read_unread, View.ld_unit_zero (S := S256x1024) hz, pay4, pay28, pay51, pay166, pay77, pay97, pay120, pay141, pay_cols, pay7, pay54, pay100, pay145, pay5, pay52, pay98, pay142, pay6, pay53, pay99, pay143, pay144, last_rows]
  exact ⟨piece_carry x0 x1 2304 (by decide), piece_carry x0 x1 1536 (by decide), piece_carry x0 x1 768 (by decide), piece_carry x0 x1 0 (by decide), trivial⟩

end later

end Cert.ProjConvBlock

end
-- ==== Proof.ProjConvReference.lean ====
/-
  The fused projection and causal convolution as the reference computes them, over the extended reals: each column of the
  results is a column of the product of the rows with the weight, the convolution adds four shifted rows with its taps, and
  the activation and its slope go through the logistic function.
-/
module

public import proofs.«01_k».proof.Proof.ProjConvBlock
public import proofs.«01_k».proof.Proof.Gen.ProjConvRefIdeal.Read
public import Idealize.ShloMosaic.Lib.IdealHost
public import Idealize.ShloMosaic.Lib.Pointwise.SelectCore
public import Idealize.ShloMosaic.Lib.KernelVsHost

@[expose] public section

noncomputable section

namespace Cert.ProjConvReference

open Cert.ProjConvIdeal Cert.ProjConvBlock Cert.Blocks
open Idealize.ShloMosaic hiding ix2 ix1 eq_ix2
open Idealize.ShloMosaic.ValueIdx
open Cert.ProjConvRefIdeal.Read
open scoped BigOperators

variable (h : FVec Ideal S8192x1024 .bf16) (w : FVec Ideal S1024x6672 .bf16) (x2 : FVec Ideal S4x3072 .f32)

/-- The product at row `r` and column `n`, zero beyond the last column. -/
def dotN (r n : ℕ) : EReal :=
  if e : r < 8192 ∧ n < 6672 then ∑ k : Fin 1024, h (ix2 (⟨r, e.1⟩ : Fin 8192) k) * w (ix2 k (⟨n, e.2⟩ : Fin 6672)) else 0

/-- The weight's column that the packed weight holds as column `n`; past the weight's last column it holds zeros. -/
def col (n : ℕ) : ℕ :=
  if n < 4096 then n + 512 else if n < 6144 then n + 528 else if n < 6656 then n - 6144 else if n < 6672 then n - 2048 else 6672

theorem col_a (n : ℕ) (a : n < 4096) : col n = 512 + n := by
  unfold col
  rw [if_pos a, Nat.add_comm]
theorem col_b (n : ℕ) (a : ¬n < 4096) (b : n < 6144) : col n = n + 528 := by
  unfold col
  rw [if_neg a, if_pos b]
theorem col_c (n : ℕ) (b : ¬n < 6144) (c : n < 6656) : col n = n - 6144 := by
  unfold col
  rw [if_neg (by omega), if_neg b, if_pos c]
theorem col_d (n : ℕ) (c : ¬n < 6656) (d : n < 6672) : col n = n - 2048 := by
  unfold col
  rw [if_neg (by omega), if_neg (by omega), if_neg c, if_pos d]
theorem col_e (n : ℕ) (d : ¬n < 6672) : col n = 6672 := by
  unfold col
  rw [if_neg (by omega), if_neg (by omega), if_neg (by omega), if_neg d]

theorem dot_e (r : ℕ) : dotN h w r 6672 = 0 := by
  unfold dotN
  rw [dif_neg (by omega)]

/-- The product's convolved columns with three rows of zeros before them. -/
def past (q n : ℕ) : EReal := if q < 3 then 0 else dotN h w (q - 3) (n + 512)

/-- The convolution of the whole sequence. -/
def convN (r n : ℕ) : EReal :=
  tap x2 0 n * past h w r n + tap x2 1 n * past h w (r + 1) n + tap x2 2 n * past h w (r + 2) n + tap x2 3 n * past h w (r + 3) n

theorem v2 (i : Cert.ProjConvRefIdeal.S8192x6672.Idx) : val_main_v2 (F := Ideal) h w i = dotN h w (i 0).val (i 1).val := by
  have a : (i 0).val < 8192 := (i 0).isLt
  have b : (i 1).val < 6672 := (i 1).isLt
  obtain ⟨r, n, rfl⟩ : ∃ (r : Fin 8192) (n : Fin 6672), i = ix2 r n := ⟨i 0, i 1, eq_ix2 i⟩
  unfold val_main_v2 dotN
  rw [dif_pos ⟨a, b⟩]
  exact host_plain none _ _ r n

theorem v10 (i : Cert.ProjConvRefIdeal.S8195x3072.Idx) : val_main_v10 (F := Ideal) h w i = past h w (i 0).val (i 1).val := by
  unfold val_main_v10 past
  have b : (i 0).val < 8195 := (i 0).isLt
  have b1 : (i 1).val < 3072 := (i 1).isLt
  by_cases hq : (i 0).val < 3
  · rw [if_pos hq, pad_apply_of_not_inside _ _ _ _ _ _ _ _ 0 (by
      intro hh
      have h1 : 3 ≤ (i 0).val := hh.1
      omega)]
    show (((0#32 : BitVec 32).toInt : ℝ) : EReal) = 0
    simp
  · rw [if_neg hq, pad_apply_of_inside _ _ _ _ _ _ _ _ (ix2 (⟨(i 0).val - 3, by omega⟩ : Fin 8192) (⟨(i 1).val, b1⟩ : Fin 3072)) (by
      intro a
      match a with
      | ⟨0, _⟩ => show (i 0).val = 3 + ((i 0).val - 3) * (0 + 1); omega
      | ⟨1, _⟩ => show (i 1).val = 0 + (i 1).val * (0 + 1); omega), val_main_v4_apply, v2]
    show dotN h w ((i 0).val - 3) (512 + (i 1).val) = _
    rw [Nat.add_comm 512]

theorem tap_eq (k : Fin 4) (n : ℕ) (hn : n < 3072) (i : S4x3072.Idx) (h0 : (i 0).val = k.val) (h1 : (i 1).val = n) : x2 i = tap x2 k.val n := by
  unfold tap
  rw [dif_pos ⟨k.isLt, hn⟩]
  refine congrArg x2 (funext fun a => Fin.ext ?_)
  match a with
  | ⟨0, _⟩ => exact h0
  | ⟨1, _⟩ => exact h1

theorem v39 (r : Fin 8192) (n : Fin 3072) : val_main_v39 (F := Ideal) h w x2 (ix2 r n) = convN h w x2 r.val n.val := by
  rw [val_main_v39_apply, val_main_v32_apply, val_main_v25_apply, val_main_v18_apply, val_main_v16_apply, val_main_v24_apply, val_main_v31_apply,
    val_main_v38_apply, val_main_v17_apply, val_main_cst_apply, val_main_v14_apply, val_main_v22_apply, val_main_v29_apply, val_main_v36_apply, v10, v10, v10, v10]
  rw [val_main_v15_apply, val_main_v13_apply, val_main_v12_apply, val_main_v11_apply, val_main_v23_apply, val_main_v21_apply, val_main_v20_apply, val_main_v19_apply,
    val_main_v30_apply, val_main_v28_apply, val_main_v27_apply, val_main_v26_apply, val_main_v37_apply, val_main_v35_apply, val_main_v34_apply, val_main_v33_apply]
  have hm : n.val % 3072 = n.val := Nat.mod_eq_of_lt n.isLt
  rw [tap_eq x2 0 n.val n.isLt _ rfl hm, tap_eq x2 1 n.val n.isLt _ rfl hm, tap_eq x2 2 n.val n.isLt _ rfl hm, tap_eq x2 3 n.val n.isLt _ rfl hm]
  show Ideal.ofBits .f32 0x00000000#32 + _ * past h w r.val n.val + _ * past h w (1 + r.val) n.val + _ * past h w (2 + r.val) n.val + _ * past h w (3 + r.val) n.val = _
  rw [Ideal.ofBits_zero_f32, zero_add, Nat.add_comm 1, Nat.add_comm 2, Nat.add_comm 3]
  rfl

theorem half : Ideal.ofBits .f32 0x3F000000#32 = ((1 / 2 : ℝ) : EReal) := by
  simp [Ideal.ofBits, Ideal.ieee, -EReal.coe_mul]
  norm_num

theorem real_sigm (x : ℝ) : 1 / 2 * Real.tanh (1 / 2 * x) + 1 / 2 = (1 + Real.exp (-x))⁻¹ := by
  have e : Real.exp (-x) = Real.exp (-(1 / 2 * x)) * Real.exp (-(1 / 2 * x)) := by rw [← Real.exp_add]; congr 1; ring
  have hp : 0 < Real.exp (1 / 2 * x) := Real.exp_pos _
  have hq : Real.exp (-(1 / 2 * x)) = (Real.exp (1 / 2 * x))⁻¹ := Real.exp_neg _
  rw [Real.tanh_eq_sinh_div_cosh, Real.sinh_eq, Real.cosh_eq, e, hq]
  generalize Real.exp (1 / 2 * x) = u at hp
  have h1 : u + u⁻¹ ≠ 0 := by positivity
  have h2 : 1 + u⁻¹ * u⁻¹ ≠ 0 := by positivity
  field_simp
  ring

/-- The kernel's logistic function, through the hyperbolic tangent, is the reference's. -/
theorem sigm_eq (z : EReal) : sigm z = Ideal.logistic z := by
  unfold sigm
  rw [half]
  induction z using EReal.rec with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | coe x => rw [← EReal.coe_mul, Ideal.tanh_coe, Ideal.logistic_coe, ← EReal.coe_mul, ← EReal.coe_add, real_sigm]
  | top =>
    rw [EReal.coe_mul_top_of_pos (by norm_num), Ideal.tanh_top, Ideal.logistic_top, ← EReal.coe_one, ← EReal.coe_mul, ← EReal.coe_add]
    norm_num

theorem act_eq (z : EReal) : act z = z * Ideal.logistic z := by
  unfold act
  rw [sigm_eq]

theorem slope_eq (z : EReal) : ProjConvBlock.slope z = 1 * Ideal.logistic z + z * 1 * (Ideal.logistic z * (1 - Ideal.logistic z)) := by
  unfold ProjConvBlock.slope
  rw [sigm_eq, Ideal.ofBits_one_f32, one_mul, mul_one]
  induction z using EReal.rec with
  | bot => rw [Ideal.logistic_bot, zero_mul, zero_mul, mul_zero, add_zero]
  | coe x =>
    rw [Ideal.logistic_coe]
    generalize (1 + Real.exp (-x))⁻¹ = s
    rw [← EReal.coe_one]
    simp only [← EReal.coe_sub, ← EReal.coe_mul, ← EReal.coe_add]
    refine congrArg _ ?_
    ring
  | top =>
    rw [Ideal.logistic_top, ← EReal.coe_one, ← EReal.coe_sub, sub_self, EReal.coe_zero]
    simp only [mul_zero, add_zero]
    rw [EReal.coe_one, one_mul]

theorem v40 (i : S8192x3072.Idx) : val_main_v40_2 (F := Ideal) h w x2 i = Ideal.logistic (val_main_v39 (F := Ideal) h w x2 i) := by
  rw [val_main_v40_2_apply, val_main_call1_v4_apply, val_main_call1_cst_0_apply, val_main_call1_v3_apply, val_main_call1_v2_apply, val_main_call1_cst_apply,
    val_main_call1_v1_apply, val_main_call1_v0_apply]
  show Ideal.div (Ideal.ofBits .f32 0x3F800000#32) (Ideal.ofBits .f32 0x3F800000#32 + Ideal.exp (-_)) = _
  rw [Ideal.ofBits_one_f32]
  rfl

theorem v47 (r : Fin 8192) (n : Fin 3072) : val_main_v47 (F := Ideal) h w x2 (ix2 r n) = act (convN h w x2 r.val n.val) := by
  rw [val_main_v47_apply, act_eq, ← v39, val_main_call3_v5_apply, val_main_call3_v4_apply, val_main_call3_cst_0_apply, val_main_call3_v3_apply,
    val_main_call3_v2_apply, val_main_call3_cst_apply, val_main_call3_v1_apply, val_main_call3_v0_apply]
  show _ * Ideal.div (Ideal.ofBits .f32 0x3F800000#32) (Ideal.ofBits .f32 0x3F800000#32 + Ideal.exp (-_)) = _
  rw [Ideal.ofBits_one_f32]
  rfl

theorem v48 (r : Fin 8192) (n : Fin 3072) : val_main_v48 (F := Ideal) h w x2 (ix2 r n) = ProjConvBlock.slope (convN h w x2 r.val n.val) := by
  rw [val_main_v48_apply, slope_eq, ← v39, val_main_v42_apply, val_main_call2_v1_apply, val_main_call2_v2_apply, val_main_call2_v0_apply, val_main_v40_1_apply,
    val_main_call1_v7_apply, val_main_call1_v6_apply, val_main_call1_cst_1_apply, val_main_v41_apply, val_main_cst_0_apply, v40]
  show Ideal.ofBits .f32 0x3F800000#32 * _ + _ * Ideal.ofBits .f32 0x3F800000#32 * (_ * (Ideal.ofBits .f32 0x3F800000#32 - _)) = _
  rw [Ideal.ofBits_one_f32]

theorem v46 (r : Fin 8192) (n : Fin 3072) : val_main_v46 (F := Ideal) h w (ix2 r n) = dotN h w r.val (col (3072 + n.val)) := by
  rw [val_main_v46_apply]
  show val_main_v45 (F := Ideal) h w (ix2 r n) = _
  unfold val_main_v45
  rw [concatenate_apply]
  simp only [concatenateAt_cons, concatenateAt_singleton, val_main_v5_apply, val_main_v8_apply, val_main_v9_apply, v2, Shape.Idx.norm_def]
  show (if h0 : n.val < 1024 then dotN h w r.val (3584 + n.val)
    else if h1 : n.val - 1024 < 1024 then dotN h w r.val (4624 + (n.val - 1024)) else dotN h w r.val (5648 + (n.val - 1024 - 1024))) = _
  have hn := n.isLt
  split
  · rw [col_a _ (by omega)]
    refine congrArg (dotN h w r.val) ?_
    omega
  split
  · rw [col_b _ (by omega) (by omega)]
    refine congrArg (dotN h w r.val) ?_
    omega
  · rw [col_b _ (by omega) (by omega)]
    refine congrArg (dotN h w r.val) ?_
    omega

theorem v44 (r : Fin 8192) (n : Fin 3840) : val_main_v44 (F := Ideal) h w (ix2 r n)
    = dotN h w r.val (col (if n.val < 3072 then n.val else n.val + 3072)) := by
  unfold val_main_v44
  rw [concatenate_apply]
  simp only [concatenateAt_cons, concatenateAt_singleton, val_main_v4_apply, val_main_v3_apply, val_main_v6_apply, val_main_v7_apply, val_main_v43_apply,
    val_main_cst_1_apply, v2, Shape.Idx.norm_def]
  show (if h0 : n.val < 3072 then dotN h w r.val (512 + n.val)
    else if h1 : n.val - 3072 < 512 then dotN h w r.val (n.val - 3072)
    else if h2 : n.val - 3072 - 512 < 8 then dotN h w r.val (4608 + (n.val - 3072 - 512))
    else if h3 : n.val - 3072 - 512 - 8 < 8 then dotN h w r.val (4616 + (n.val - 3072 - 512 - 8))
    else Ideal.ofBits .f32 0x00000000#32) = _
  rw [Ideal.ofBits_zero_f32]
  have hn := n.isLt
  by_cases h0 : n.val < 3072
  · rw [dif_pos h0, if_pos h0, col_a _ (by omega)]
  rw [dif_neg h0, if_neg h0]
  by_cases h1 : n.val - 3072 < 512
  · rw [dif_pos h1, col_c _ (by omega) (by omega)]
    refine congrArg (dotN h w r.val) ?_
    omega
  rw [dif_neg h1]
  by_cases h2 : n.val - 3072 - 512 < 8
  · rw [dif_pos h2, col_d _ (by omega) (by omega)]
    refine congrArg (dotN h w r.val) ?_
    omega
  rw [dif_neg h2]
  by_cases h3 : n.val - 3072 - 512 - 8 < 8
  · rw [dif_pos h3, col_d _ (by omega) (by omega)]
    refine congrArg (dotN h w r.val) ?_
    omega
  · rw [dif_neg h3, col_e _ (by omega), dot_e]

end Cert.ProjConvReference

end
-- ==== Proof.ProjConv.lean ====
/-
  The fused projection and causal convolution: what the kernel's run leaves in its four results, over the extended reals, is
  what the reference computes. Each point of the grid takes 256 rows; the convolution's first three rows of a block read the
  last rows of the block before, which the kernel carries from point to point, and at the first point zeros.
-/
module

public import proofs.«01_k».proof.Proof.ProjConvPoint
public import proofs.«01_k».proof.Proof.ProjConvReference
public import Idealize.ShloMosaic.Lib.Claim

@[expose] public section

noncomputable section

namespace Cert.ProjConvProof

open Cert.ProjConvIdeal Cert.ProjConvIdeal.Gen Cert.ProjConvIdeal.Value Cert.Blocks Cert.ProjConvBlock Cert.ProjConvReference
open Idealize.ShloMosaic hiding ix1 ix2 eq_ix2
open Idealize.ShloMosaic.TcCoe Idealize.ShloMosaic.ValueIdx
open Idealize.ShloMosaic.Pipeline (Dat)
open scoped BigOperators

variable (m : (ℓ : Loc nD τ sig) → Buf (Elt Ideal) ℓ)

/-- The operands: the rows, the weight and the taps. -/
abbrev xs (c : Dev nD) : FVec Ideal S8192x1024 .bf16 := m ((c : Thread nD τ).loc main_arg0)
abbrev ws (c : Dev nD) : FVec Ideal S1024x6672 .bf16 := m ((c : Thread nD τ).loc main_arg1)
abbrev ts (c : Dev nD) : FVec Ideal S4x3072 .f32 := m ((c : Thread nD τ).loc main_arg2)

/-- The point of the grid at the `p`-th block of rows. -/
abbrev pt (p : Fin 32) : Fin cfg0.N := ⟨p.val, lt_of_lt_of_eq p.isLt N_0.symm⟩

theorem index_x : ∀ p : Fin 32, win0_0.index (pt p) 0 = p.val ∧ win0_0.index (pt p) 1 = 0 := by decide +kernel
theorem index_w : ∀ p : Fin 32, win0_1.index (pt p) 0 = 0 ∧ win0_1.index (pt p) 1 = 0 := by decide +kernel
theorem index_t : ∀ p : Fin 32, win0_2.index (pt p) 0 = 0 ∧ win0_2.index (pt p) 1 = 0 := by decide +kernel
theorem index_3 : ∀ p : Fin 32, win0_3.index (pt p) 0 = p.val ∧ win0_3.index (pt p) 1 = 0 := by decide +kernel
theorem index_4 : ∀ p : Fin 32, win0_4.index (pt p) 0 = p.val ∧ win0_4.index (pt p) 1 = 0 := by decide +kernel
theorem index_5 : ∀ p : Fin 32, win0_5.index (pt p) 0 = p.val ∧ win0_5.index (pt p) 1 = 0 := by decide +kernel
theorem index_6 : ∀ p : Fin 32, win0_6.index (pt p) 0 = p.val ∧ win0_6.index (pt p) 1 = 0 := by decide +kernel
theorem flush_3 : ∀ p : Fin 32, (cfg0.win 3).flush (pt p) = true := by decide +kernel
theorem flush_4 : ∀ p : Fin 32, (cfg0.win 4).flush (pt p) = true := by decide +kernel
theorem flush_5 : ∀ p : Fin 32, (cfg0.win 5).flush (pt p) = true := by decide +kernel
theorem flush_6 : ∀ p : Fin 32, (cfg0.win 6).flush (pt p) = true := by decide +kernel

/-- One element of the weight by its column, zero beyond the last. -/
def wN (w : FVec Ideal S1024x6672 .bf16) (k : Fin 1024) (n : ℕ) : EReal := if e : n < 6672 then w (ix2 k (⟨n, e⟩ : Fin 6672)) else 0

theorem slice_w (w : FVec Ideal S1024x6672 .bf16) {N : ℕ} (off : ℕ) (h) (i : (⟨2, ![1024, N]⟩ : Shape).Idx) (hn : off + N ≤ 6672) :
    extractStridedSlice (⟨2, ![1024, N]⟩ : Shape) ![0, off] w h i = wN w (i 0) (off + (i 1).val) := by
  have b : (i 1).val < N := (i 1).isLt
  unfold wN
  rw [dif_pos (by omega)]
  exact extractStridedSlice_apply ![0, off] w h i _ (fun a => match a with
    | ⟨0, _⟩ => by show (i 0).val = 0 + (i 0).val; omega
    | ⟨1, _⟩ => rfl)

/-- A row of the packed weight, from its eight parts. -/
theorem packed_row (w : FVec Ideal S1024x6672 .bf16) (f1 : FVec Ideal S1024x3072 .bf16) (f2 f3 f4 : FVec Ideal S1024x1024 .bf16) (f5 : FVec Ideal S1024x512 .bf16)
    (f6 f7 : FVec Ideal S1024x8 .bf16) (f8 : FVec Ideal S1024x240 .bf16)
    (h1 : ∀ i, f1 i = wN w (i 0) (512 + (i 1).val)) (h2 : ∀ i, f2 i = wN w (i 0) (3584 + (i 1).val)) (h3 : ∀ i, f3 i = wN w (i 0) (4624 + (i 1).val))
    (h4 : ∀ i, f4 i = wN w (i 0) (5648 + (i 1).val)) (h5 : ∀ i, f5 i = wN w (i 0) (0 + (i 1).val)) (h6 : ∀ i, f6 i = wN w (i 0) (4608 + (i 1).val))
    (h7 : ∀ i, f7 i = wN w (i 0) (4616 + (i 1).val)) (h8 : ∀ i, f8 i = (0 : EReal)) (k : Fin 1024) (n : Fin 6912) :
    concatenate S1024x6912 1 [⟨S1024x3072, f1⟩, ⟨S1024x1024, f2⟩, ⟨S1024x1024, f3⟩, ⟨S1024x1024, f4⟩, ⟨S1024x512, f5⟩, ⟨S1024x8, f6⟩, ⟨S1024x8, f7⟩, ⟨S1024x240, f8⟩]
      concatenates_S1024x3072_S1024x1024_S1024x1024_S1024x1024_S1024x512_S1024x8_S1024x8_S1024x240_S1024x6912_d1 (ix2 k n) = wN w k (col n.val) := by
  rw [concatenate_apply]
  simp only [concatenateAt_cons, concatenateAt_singleton, Shape.Idx.norm_def, h1, h2, h3, h4, h5, h6, h7, h8]
  show (if h : n.val < 3072 then wN w k (512 + n.val)
    else if h : n.val - 3072 < 1024 then wN w k (3584 + (n.val - 3072))
    else if h : n.val - 3072 - 1024 < 1024 then wN w k (4624 + (n.val - 3072 - 1024))
    else if h : n.val - 3072 - 1024 - 1024 < 1024 then wN w k (5648 + (n.val - 3072 - 1024 - 1024))
    else if h : n.val - 3072 - 1024 - 1024 - 1024 < 512 then wN w k (0 + (n.val - 3072 - 1024 - 1024 - 1024))
    else if h : n.val - 3072 - 1024 - 1024 - 1024 - 512 < 8 then wN w k (4608 + (n.val - 3072 - 1024 - 1024 - 1024 - 512))
    else if h : n.val - 3072 - 1024 - 1024 - 1024 - 512 - 8 < 8 then wN w k (4616 + (n.val - 3072 - 1024 - 1024 - 1024 - 512 - 8))
    else 0) = _
  have hn := n.isLt
  by_cases g1 : n.val < 3072
  · rw [dif_pos g1, col_a _ (by omega)]
  rw [dif_neg g1]
  by_cases g2 : n.val - 3072 < 1024
  · rw [dif_pos g2, col_a _ (by omega)]
    refine congrArg (wN w k) ?_
    omega
  rw [dif_neg g2]
  by_cases g3 : n.val - 3072 - 1024 < 1024
  · rw [dif_pos g3, col_b _ (by omega) (by omega)]
    refine congrArg (wN w k) ?_
    omega
  rw [dif_neg g3]
  by_cases g4 : n.val - 3072 - 1024 - 1024 < 1024
  · rw [dif_pos g4, col_b _ (by omega) (by omega)]
    refine congrArg (wN w k) ?_
    omega
  rw [dif_neg g4]
  by_cases g5 : n.val - 3072 - 1024 - 1024 - 1024 < 512
  · rw [dif_pos g5, col_c _ (by omega) (by omega)]
    refine congrArg (wN w k) ?_
    omega
  rw [dif_neg g5]
  by_cases g6 : n.val - 3072 - 1024 - 1024 - 1024 - 512 < 8
  · rw [dif_pos g6, col_d _ (by omega) (by omega)]
    refine congrArg (wN w k) ?_
    omega
  rw [dif_neg g6]
  by_cases g7 : n.val - 3072 - 1024 - 1024 - 1024 - 512 - 8 < 8
  · rw [dif_pos g7, col_d _ (by omega) (by omega)]
    refine congrArg (wN w k) ?_
    omega
  · rw [dif_neg g7, col_e _ (by omega)]
    unfold wN
    rw [dif_neg (by omega)]

/-- The packed weight of its eight parts. -/
def pack (f1 : FVec Ideal S1024x3072 .bf16) (f2 f3 f4 : FVec Ideal S1024x1024 .bf16) (f5 : FVec Ideal S1024x512 .bf16)
    (f6 f7 : FVec Ideal S1024x8 .bf16) (f8 : FVec Ideal S1024x240 .bf16) : FVec Ideal S1024x6912 .bf16 :=
  concatenate S1024x6912 1 [⟨S1024x3072, f1⟩, ⟨S1024x1024, f2⟩, ⟨S1024x1024, f3⟩, ⟨S1024x1024, f4⟩, ⟨S1024x512, f5⟩, ⟨S1024x8, f6⟩, ⟨S1024x8, f7⟩, ⟨S1024x240, f8⟩]
    concatenates_S1024x3072_S1024x1024_S1024x1024_S1024x1024_S1024x512_S1024x8_S1024x8_S1024x240_S1024x6912_d1

open Idealize.ShloMosaic.StableHlo in
/-- The packed weight, as the region finds it, holds what the eight operations before it left. -/
theorem packed_parts (c : Dev nD) : (V m c main_v8 : FVec Ideal S1024x6912 .bf16)
    = pack (V m c main_v1) (V m c main_v2) (V m c main_v5) (V m c main_v6) (V m c main_v0) (V m c main_v3) (V m c main_v4) (V m c main_v7) := by
  have h : ∀ r : Ref sig .tc, V m c r = after (List.drop 9 hostOps0) (after (List.take 9 hostOps0) (fun b => m (c, b))) r := fun r => rfl
  generalize after (List.take 9 hostOps0) (fun b => m (c, b)) = σ at h
  have k : ∀ r : Ref sig .tc, r ≠ main_v8 → r ≠ main_cst_0 → r ≠ main_v9 → V m c r = σ r := fun r h1 h2 h3 =>
    (h r).trans ((unary_result_ne _ _ _ _ _ _ h3).trans ((nullary_result_ne _ _ _ _ h2).trans (nary_result_ne _ _ _ _ _ _ h1)))
  have k8 : V m c main_v8 = pack (σ main_v1) (σ main_v2) (σ main_v5) (σ main_v6) (σ main_v0) (σ main_v3) (σ main_v4) (σ main_v7) := by
    rw [h]
    simp only [hostOps0, List.drop_succ_cons, List.drop_zero, after_cons, after_nil]
    refine (unary_result_ne main_cst_0 main_v9 _ _ _ _ (r := main_v8) (by decide)).trans ?_
    refine (nullary_result_ne main_cst_0 _ _ _ (r := main_v8) (by decide)).trans ?_
    exact nary_result _ _ _ _ _ _
  rw [k main_v1 (by decide) (by decide) (by decide), k main_v2 (by decide) (by decide) (by decide), k main_v5 (by decide) (by decide) (by decide),
    k main_v6 (by decide) (by decide) (by decide), k main_v0 (by decide) (by decide) (by decide), k main_v3 (by decide) (by decide) (by decide),
    k main_v4 (by decide) (by decide) (by decide), k main_v7 (by decide) (by decide) (by decide)]
  exact k8

theorem part_1 (c : Dev nD) : (V m c main_v1 : FVec Ideal S1024x3072 .bf16)
    = extractStridedSlice S1024x3072 ![0, 512] (ws m c) slices_S1024x6672_S1024x3072_0_512 := by
  entry_read
  rfl

theorem part_2 (c : Dev nD) : (V m c main_v2 : FVec Ideal S1024x1024 .bf16)
    = extractStridedSlice S1024x1024 ![0, 3584] (ws m c) slices_S1024x6672_S1024x1024_0_3584 := by
  entry_read
  rfl

theorem part_5 (c : Dev nD) : (V m c main_v5 : FVec Ideal S1024x1024 .bf16)
    = extractStridedSlice S1024x1024 ![0, 4624] (ws m c) slices_S1024x6672_S1024x1024_0_4624 := by
  entry_read
  rfl

theorem part_6 (c : Dev nD) : (V m c main_v6 : FVec Ideal S1024x1024 .bf16)
    = extractStridedSlice S1024x1024 ![0, 5648] (ws m c) slices_S1024x6672_S1024x1024_0_5648 := by
  entry_read
  rfl

theorem part_0 (c : Dev nD) : (V m c main_v0 : FVec Ideal S1024x512 .bf16)
    = extractStridedSlice S1024x512 ![0, 0] (ws m c) slices_S1024x6672_S1024x512_0_0 := by
  entry_read
  rfl

theorem part_3 (c : Dev nD) : (V m c main_v3 : FVec Ideal S1024x8 .bf16)
    = extractStridedSlice S1024x8 ![0, 4608] (ws m c) slices_S1024x6672_S1024x8_0_4608 := by
  entry_read
  rfl

theorem part_4 (c : Dev nD) : (V m c main_v4 : FVec Ideal S1024x8 .bf16)
    = extractStridedSlice S1024x8 ![0, 4616] (ws m c) slices_S1024x6672_S1024x8_0_4616 := by
  entry_read
  rfl

theorem part_7 (c : Dev nD) : (V m c main_v7 : FVec Ideal S1024x240 .bf16)
    = broadcastInDim S1024x240 ![] bcast_S_S1024x240 (constant (F := Ideal) S_ .bf16 0x0000#16) := by
  entry_read
  rfl

/-- The packed weight, entry by entry: a column of `w_in`, or zero. -/
theorem packed (c : Dev nD) (k : Fin 1024) (n : Fin 6912) :
    (V m c main_v8 : FVec Ideal S1024x6912 .bf16) (ix2 k n) = wN (ws m c) k (col n.val) := by
  refine (congrFun (packed_parts m c) _).trans ?_
  exact packed_row (ws m c) _ _ _ _ _ _ _ _
    (fun i => (congrFun (part_1 m c) _).trans (slice_w _ 512 _ i (by omega)))
    (fun i => (congrFun (part_2 m c) _).trans (slice_w _ 3584 _ i (by omega)))
    (fun i => (congrFun (part_5 m c) _).trans (slice_w _ 4624 _ i (by omega)))
    (fun i => (congrFun (part_6 m c) _).trans (slice_w _ 5648 _ i (by omega)))
    (fun i => (congrFun (part_0 m c) _).trans (slice_w _ 0 _ i (by omega)))
    (fun i => (congrFun (part_3 m c) _).trans (slice_w _ 4608 _ i (by omega)))
    (fun i => (congrFun (part_4 m c) _).trans (slice_w _ 4616 _ i (by omega)))
    (fun i => (congrFun (part_7 m c) _).trans Ideal.ofBits_zero_bf16) k n

theorem block_x (c : Dev nD) (p : Fin 32) (r : Fin 256) (k : Fin 1024) :
    (iblk m c 0 (pt p) : FVec Ideal S256x1024 .bf16) (ix2 r k) = xs m c (ix2 (⟨256 * p.val + r.val, by omega⟩ : Fin 8192) k) := by
  obtain ⟨h0, h1⟩ := index_x p
  unfold iblk
  rw [View.read_apply]
  show V m c main_arg0 _ = m (c.tc.loc main_arg0) _
  rw [V_main_arg0]
  congr 1
  funext a
  apply Fin.ext
  match a with
  | ⟨0, _⟩ => show win0_0.index (pt p) 0 * 256 + 1 * r.val = 256 * p.val + r.val; rw [h0]; omega
  | ⟨1, _⟩ => show win0_0.index (pt p) 1 * 1024 + 1 * k.val = k.val; rw [h1]; omega

theorem block_w (c : Dev nD) (p : Fin 32) (k : Fin 1024) (n : Fin 6912) :
    (iblk m c 1 (pt p) : FVec Ideal S1024x6912 .bf16) (ix2 k n) = wN (ws m c) k (col n.val) := by
  obtain ⟨h0, h1⟩ := index_w p
  rw [← packed]
  unfold iblk
  rw [View.read_apply]
  show V m c main_v8 _ = V m c main_v8 _
  congr 1
  funext a
  apply Fin.ext
  match a with
  | ⟨0, _⟩ => show win0_1.index (pt p) 0 * 1024 + 1 * k.val = k.val; rw [h0]; omega
  | ⟨1, _⟩ => show win0_1.index (pt p) 1 * 6912 + 1 * n.val = n.val; rw [h1]; omega

theorem block_t (c : Dev nD) (p : Fin 32) : (iblk m c 2 (pt p) : FVec Ideal S4x3072 .f32) = ts m c := by
  obtain ⟨h0, h1⟩ := index_t p
  funext i
  obtain ⟨k, n, rfl⟩ : ∃ (k : Fin 4) (n : Fin 3072), i = ix2 k n := ⟨i 0, i 1, eq_ix2 i⟩
  unfold iblk
  rw [View.read_apply]
  show V m c main_arg2 _ = m (c.tc.loc main_arg2) _
  rw [V_main_arg2]
  congr 1
  funext a
  apply Fin.ext
  match a with
  | ⟨0, _⟩ => show win0_2.index (pt p) 0 * 4 + 1 * k.val = k.val; rw [h0]; omega
  | ⟨1, _⟩ => show win0_2.index (pt p) 1 * 3072 + 1 * n.val = n.val; rw [h1]; omega

/-- A block's product is the whole product at the block's rows. -/
theorem prod_eq (h : FVec Ideal S8192x1024 .bf16) (w : FVec Ideal S1024x6672 .bf16) (p : Fin 32) (x0 : FVec Ideal S256x1024 .bf16) (x1 : FVec Ideal S1024x6912 .bf16)
    (hx : ∀ (r : Fin 256) (k : Fin 1024), x0 (ix2 r k) = h (ix2 (⟨256 * p.val + r.val, by omega⟩ : Fin 8192) k))
    (hw : ∀ (k : Fin 1024) (n : Fin 6912), x1 (ix2 k n) = wN w k (col n.val)) (r n : ℕ) (hr : r < 256) (hn : n < 6912) :
    prod x0 x1 r n = dotN h w (256 * p.val + r) (col n) := by
  have hp := p.isLt
  unfold prod dotN
  rw [dif_pos ⟨hr, hn⟩]
  by_cases e : col n < 6672
  · rw [dif_pos ⟨by omega, e⟩]
    refine Finset.sum_congr rfl fun k _ => ?_
    rw [hx, hw]
    unfold wN
    rw [dif_pos e]
  · rw [dif_neg (fun g => e g.2)]
    refine Finset.sum_eq_zero fun k _ => ?_
    rw [hw]
    unfold wN
    rw [dif_neg e, mul_zero]

theorem block_prod (c : Dev nD) (p : Fin 32) (r n : ℕ) (hr : r < 256) (hn : n < 6912) :
    prod (iblk m c 0 (pt p)) (iblk m c 1 (pt p)) r n = dotN (xs m c) (ws m c) (256 * p.val + r) (col n) :=
  prod_eq _ _ p _ _ (block_x m c p) (block_w m c p) r n hr hn

/-- What a point reads of the block before: its last eight rows. -/
def Carried (c : Dev nD) (p : Fin 32) (y : FVec Ideal S8x3072 .f32) : Prop :=
  ∀ (q : Fin 8) (n : Fin 3072), 5 ≤ q.val → y (ix2 q n) = past (xs m c) (ws m c) (256 * p.val + q.val - 5) n.val

theorem block_ext (c : Dev nD) (p : Fin 32) (y : FVec Ideal S8x3072 .f32) (hy : Carried m c p y) (q n : ℕ) (h5 : 5 ≤ q) (hq : q < 264) (hn : n < 3072) :
    ext (iblk m c 0 (pt p)) (iblk m c 1 (pt p)) y q n = past (xs m c) (ws m c) (256 * p.val + q - 5) n := by
  unfold ext
  by_cases h : q < 8
  · rw [if_pos h, dif_pos ⟨h, hn⟩]
    exact hy ⟨q, h⟩ ⟨n, hn⟩ h5
  · rw [if_neg h, block_prod m c p _ _ (by omega) (by omega), col_a _ (by omega)]
    unfold past
    rw [if_neg (by omega), Nat.add_comm 512]
    exact congrArg (fun r => dotN (xs m c) (ws m c) r (n + 512)) (by omega)

theorem block_conv (c : Dev nD) (p : Fin 32) (y : FVec Ideal S8x3072 .f32) (hy : Carried m c p y) (r n : ℕ) (hr : r < 256) (hn : n < 3072) :
    conv (iblk m c 0 (pt p)) (iblk m c 1 (pt p)) (iblk m c 2 (pt p)) y r n = convN (xs m c) (ws m c) (ts m c) (256 * p.val + r) n := by
  unfold conv convN
  rw [block_ext m c p y hy _ _ (by omega) (by omega) hn, block_ext m c p y hy _ _ (by omega) (by omega) hn, block_ext m c p y hy _ _ (by omega) (by omega) hn,
    block_ext m c p y hy _ _ (by omega) (by omega) hn, block_t]
  rfl

theorem carried_zero (c : Dev nD) (p : Fin 32) (h : p.val = 0) : Carried m c p (k0_pay2 (F := Ideal)) := by
  intro q n h5
  show Ideal.ofBits .f32 0x00000000#32 = _
  unfold past
  rw [if_pos (by omega), Ideal.ofBits_zero_f32]

theorem carried_rows (c : Dev nD) (p p' : Fin 32) (h : p'.val + 1 = p.val) : Carried m c p (outC (iblk m c 0 (pt p')) (iblk m c 1 (pt p'))) := by
  intro q n h5
  unfold outC
  show prod _ _ (248 + q.val) n.val = _
  rw [block_prod m c p' _ _ (by omega) (by omega), col_a _ (by omega)]
  unfold past
  rw [if_neg (by omega), Nat.add_comm 512]
  exact congrArg (fun r => dotN (xs m c) (ws m c) r (n.val + 512)) (by omega)

theorem outs_congr (c : Dev nD) {n n' : ℕ} (e : n = n') (h : n < cfg0.N) (h' : n' < cfg0.N) : outsAt0 m c n h = outsAt0 m c n' h' := by
  subst e
  rfl

/-- What every point leaves in the carried rows. -/
theorem left (c : Dev nD) (p : Fin 32) :
    ((outsAt0 m c (pt p).val (pt p).isLt).2.2.2.2 : FVec Ideal S8x3072 .f32) = outC (iblk m c 0 (pt p)) (iblk m c 1 (pt p)) := by
  by_cases h0 : (pt p).val % 32 = 0
  · rw [outsAt0_A m c (pt p) h0]
    dsimp only
    exact block_A_s ..
  · rw [outsAt0_B m c (pt p) h0]
    dsimp only
    exact block_B_s ..

theorem carried (c : Dev nD) (p : Fin 32) (h0 : ¬(pt p).val % 32 = 0) (h : (pt p).val - 1 < cfg0.N) :
    Carried m c p ((outsAt0 m c ((pt p).val - 1) h).2.2.2.2) := by
  have hp := p.isLt
  have hp0 : ¬p.val % 32 = 0 := h0
  obtain ⟨p', e⟩ : ∃ p' : Fin 32, p'.val + 1 = p.val := ⟨⟨p.val - 1, by omega⟩, by show p.val - 1 + 1 = p.val; omega⟩
  rw [outs_congr m c (show (pt p).val - 1 = (pt p').val by show p.val - 1 = p'.val; omega) h (pt p').isLt, left]
  exact carried_rows m c p p' e

theorem row (r : Fin 8192) : ∃ (p : Fin 32) (r' : Fin 256), 256 * p.val + r'.val = r.val :=
  ⟨⟨r.val / 256, by omega⟩, ⟨r.val % 256, by omega⟩, by show 256 * (r.val / 256) + r.val % 256 = r.val; omega⟩

/-- THE FIRST RESULT: the convolution's input and the small columns. -/
theorem value_3 (c : Dev nD) (r : Fin 8192) (n : Fin 3840) :
    ((dats m 0 c).arrAt 3 cfg0.N : FVec Ideal S8192x3840 .f32) (ix2 r n)
      = dotN (xs m c) (ws m c) r.val (col (if n.val < 3072 then n.val else n.val + 3072)) := by
  obtain ⟨p, r', er⟩ := row r
  obtain ⟨h0, h1⟩ := index_3 p
  have h := congrFun (blocks3 m c (pt p) (flush_3 p)) (ix2 r' n)
  rw [View.read_apply] at h
  have ei : ((cfg0.win 3).blk (pt p)).view.emb (ix2 r' n) = (ix2 r n : S8192x3840.Idx) := by
    funext a
    apply Fin.ext
    match a with
    | ⟨0, _⟩ => show win0_3.index (pt p) 0 * 256 + 1 * r'.val = r.val; rw [h0]; omega
    | ⟨1, _⟩ => show win0_3.index (pt p) 1 * 3840 + 1 * n.val = n.val; rw [h1, Nat.zero_mul, Nat.zero_add, Nat.one_mul]
  rw [ei] at h
  refine (show _ = _ from h).trans ?_
  have hn := n.isLt
  have e : outO (iblk m c 0 (pt p)) (iblk m c 1 (pt p)) (ix2 r' n)
      = dotN (xs m c) (ws m c) r.val (col (if n.val < 3072 then n.val else n.val + 3072)) := by
    unfold outO
    refine (block_prod m c p r'.val _ r'.isLt ?_).trans ?_
    · show (if n.val < 3072 then n.val else n.val + 3072) < 6912
      split <;> omega
    · rw [er]
  by_cases hc : (pt p).val % 32 = 0
  · rw [flushed3_A m c (pt p) hc, block_A_3]
    exact e
  · rw [flushed3_B m c (pt p) hc, block_B_3]
    exact e

/-- THE SECOND RESULT: the gate columns. -/
theorem value_4 (c : Dev nD) (r : Fin 8192) (n : Fin 3072) :
    ((dats m 0 c).arrAt 4 cfg0.N : FVec Ideal S8192x3072 .bf16) (ix2 r n) = dotN (xs m c) (ws m c) r.val (col (3072 + n.val)) := by
  obtain ⟨p, r', er⟩ := row r
  obtain ⟨h0, h1⟩ := index_4 p
  have h := congrFun (blocks4 m c (pt p) (flush_4 p)) (ix2 r' n)
  rw [View.read_apply] at h
  have ei : ((cfg0.win 4).blk (pt p)).view.emb (ix2 r' n) = (ix2 r n : S8192x3072.Idx) := by
    funext a
    apply Fin.ext
    match a with
    | ⟨0, _⟩ => show win0_4.index (pt p) 0 * 256 + 1 * r'.val = r.val; rw [h0]; omega
    | ⟨1, _⟩ => show win0_4.index (pt p) 1 * 3072 + 1 * n.val = n.val; rw [h1, Nat.zero_mul, Nat.zero_add, Nat.one_mul]
  rw [ei] at h
  refine (show _ = _ from h).trans ?_
  have hn := n.isLt
  have e : outG (iblk m c 0 (pt p)) (iblk m c 1 (pt p)) (ix2 r' n) = dotN (xs m c) (ws m c) r.val (col (3072 + n.val)) := by
    unfold outG
    refine (block_prod m c p r'.val _ r'.isLt ?_).trans ?_
    · show 3072 + n.val < 6912
      omega
    · rw [er]
  by_cases hc : (pt p).val % 32 = 0
  · rw [flushed4_A m c (pt p) hc, block_A_4]
    exact e
  · rw [flushed4_B m c (pt p) hc, block_B_4]
    exact e

/-- THE THIRD RESULT: the activation of the convolution. -/
theorem value_5 (c : Dev nD) (r : Fin 8192) (n : Fin 3072) :
    ((dats m 0 c).arrAt 5 cfg0.N : FVec Ideal S8192x3072 .f32) (ix2 r n) = act (convN (xs m c) (ws m c) (ts m c) r.val n.val) := by
  obtain ⟨p, r', er⟩ := row r
  obtain ⟨h0, h1⟩ := index_5 p
  have h := congrFun (blocks5 m c (pt p) (flush_5 p)) (ix2 r' n)
  rw [View.read_apply] at h
  have ei : ((cfg0.win 5).blk (pt p)).view.emb (ix2 r' n) = (ix2 r n : S8192x3072.Idx) := by
    funext a
    apply Fin.ext
    match a with
    | ⟨0, _⟩ => show win0_5.index (pt p) 0 * 256 + 1 * r'.val = r.val; rw [h0]; omega
    | ⟨1, _⟩ => show win0_5.index (pt p) 1 * 3072 + 1 * n.val = n.val; rw [h1, Nat.zero_mul, Nat.zero_add, Nat.one_mul]
  rw [ei] at h
  refine (show _ = _ from h).trans ?_
  have e : ∀ y, Carried m c p y → outA (iblk m c 0 (pt p)) (iblk m c 1 (pt p)) (iblk m c 2 (pt p)) y (ix2 r' n)
      = act (convN (xs m c) (ws m c) (ts m c) r.val n.val) := fun y hy => by
    unfold outA
    refine congrArg act ((block_conv m c p y hy r'.val n.val r'.isLt n.isLt).trans ?_)
    rw [er]
  by_cases hc : (pt p).val % 32 = 0
  · rw [flushed5_A m c (pt p) hc, block_A_5]
    exact e _ (carried_zero m c p (by have hp := p.isLt; have hc : p.val % 32 = 0 := hc; omega))
  · rw [flushed5_B m c (pt p) hc, block_B_5]
    exact e _ (carried m c p hc _)

/-- THE FOURTH RESULT: the activation's slope there. -/
theorem value_6 (c : Dev nD) (r : Fin 8192) (n : Fin 3072) :
    ((dats m 0 c).arrAt 6 cfg0.N : FVec Ideal S8192x3072 .bf16) (ix2 r n) = ProjConvBlock.slope (convN (xs m c) (ws m c) (ts m c) r.val n.val) := by
  obtain ⟨p, r', er⟩ := row r
  obtain ⟨h0, h1⟩ := index_6 p
  have h := congrFun (blocks6 m c (pt p) (flush_6 p)) (ix2 r' n)
  rw [View.read_apply] at h
  have ei : ((cfg0.win 6).blk (pt p)).view.emb (ix2 r' n) = (ix2 r n : S8192x3072.Idx) := by
    funext a
    apply Fin.ext
    match a with
    | ⟨0, _⟩ => show win0_6.index (pt p) 0 * 256 + 1 * r'.val = r.val; rw [h0]; omega
    | ⟨1, _⟩ => show win0_6.index (pt p) 1 * 3072 + 1 * n.val = n.val; rw [h1, Nat.zero_mul, Nat.zero_add, Nat.one_mul]
  rw [ei] at h
  refine (show _ = _ from h).trans ?_
  have e : ∀ y, Carried m c p y → outS (iblk m c 0 (pt p)) (iblk m c 1 (pt p)) (iblk m c 2 (pt p)) y (ix2 r' n)
      = ProjConvBlock.slope (convN (xs m c) (ws m c) (ts m c) r.val n.val) := fun y hy => by
    unfold outS
    refine congrArg ProjConvBlock.slope ((block_conv m c p y hy r'.val n.val r'.isLt n.isLt).trans ?_)
    rw [er]
  by_cases hc : (pt p).val % 32 = 0
  · rw [flushed6_A m c (pt p) hc, block_A_6]
    exact e _ (carried_zero m c p (by have hp := p.isLt; have hc : p.val % 32 = 0 := hc; omega))
  · rw [flushed6_B m c (pt p) hc, block_B_6]
    exact e _ (carried m c p hc _)

/-! ## The two programs' results are the same arrays -/

theorem equal_3 (c : Dev nD) :
    ((dats m 0 c).arrAt 3 cfg0.N : FVec Ideal S8192x3840 .f32) = Cert.ProjConvRefIdeal.Read.val_main_v44 (F := Ideal) (xs m c) (ws m c) := by
  funext i
  obtain ⟨r, n, rfl⟩ : ∃ r n, i = ix2 r n := ⟨i 0, i 1, eq_ix2 i⟩
  rw [value_3, v44]

theorem equal_4 (c : Dev nD) :
    ((dats m 0 c).arrAt 4 cfg0.N : FVec Ideal S8192x3072 .bf16) = Cert.ProjConvRefIdeal.Read.val_main_v46 (F := Ideal) (xs m c) (ws m c) := by
  funext i
  obtain ⟨r, n, rfl⟩ : ∃ r n, i = ix2 r n := ⟨i 0, i 1, eq_ix2 i⟩
  rw [value_4, v46]

theorem equal_5 (c : Dev nD) :
    ((dats m 0 c).arrAt 5 cfg0.N : FVec Ideal S8192x3072 .f32) = Cert.ProjConvRefIdeal.Read.val_main_v47 (F := Ideal) (xs m c) (ws m c) (ts m c) := by
  funext i
  obtain ⟨r, n, rfl⟩ : ∃ r n, i = ix2 r n := ⟨i 0, i 1, eq_ix2 i⟩
  rw [value_5, v47]

theorem equal_6 (c : Dev nD) :
    ((dats m 0 c).arrAt 6 cfg0.N : FVec Ideal S8192x3072 .bf16) = Cert.ProjConvRefIdeal.Read.val_main_v48 (F := Ideal) (xs m c) (ws m c) (ts m c) := by
  funext i
  obtain ⟨r, n, rfl⟩ : ∃ r n, i = ix2 r n := ⟨i 0, i 1, eq_ix2 i⟩
  rw [value_6, v48]

end Cert.ProjConvProof

end
-- ==== Proof.PoolBlock.lean ====
/-
  One block of the pooling's gradient: what a run of the kernel's body leaves in the two result blocks, over the extended
  reals. Of each of the four channel groups the body multiplies the block's cotangents, and the next sixteen tokens',
  with the group's weights, divides by the count of the tokens averaged, and sums the rows that the window looks back
  from; the products of the pooled channels and the cotangents are added to the block of the weights' gradient.
-/
module

public import proofs.«01_k».proof.Proof.Blocks
public import proofs.«01_k».proof.Proof.Contract
public import proofs.«01_k».proof.Proof.NatRead
public import proofs.«01_k».proof.Proof.Gen.PoolBwdIdeal.Value
public import Idealize.ShloMosaic.Lib.ValueIdx
public import Idealize.ShloMosaic.Lib.ValueLayout
public import Idealize.ShloMosaic.Lib.WordCmp
public import Idealize.ShloMosaic.Lib.Pipeline.ReadBack

@[expose] public section

noncomputable section

namespace Cert.PoolBlock

open Cert.PoolBwdIdeal Cert.PoolBwdIdeal.Gen Cert.PoolBwdIdeal.Value Cert.Blocks Cert.Contract
open Cert.NatRead
open Idealize.ShloMosaic Idealize.ShloMosaic.TcCoe Idealize.ShloMosaic.ValueIdx
open scoped BigOperators

/-- The cotangent of the pooled channel `n` of group `g` at row `r`: the row's cotangents by the group's weights. -/
def back (x : ℕ → ℕ → EReal) (w : ℕ → ℕ → ℕ → EReal) (g r n : ℕ) : EReal := ∑ k : Fin 256, x r (256 * g + k.val) * w g n k.val

/-- The number of tokens a window of `w` averages at token `t`. -/
def count (w t : ℕ) : EReal := FloatOps.sitofp (F := Ideal) .f32 (IntOp.minsi (BitVec.ofNat 32 (t + 1)) (BitVec.ofNat 32 w))

theorem back_product {R : ℕ} (x : Vec Ideal ⟨2, ![R, 1024]⟩ .bf16) (w : Vec Ideal S4x128x256 .bf16) (g off : ℕ) (ho : off = 256 * g) (p q h)
    (r : Fin R) (n : Fin 128) :
    matmul (DotDims.transposedRhs R 256 128) none (φ₁ := .bf16) (φ₂ := .bf16) (View.ld x (Rect.unit (s := ⟨2, ![R, 1024]⟩) ![0, off] ![R, 256] p) : Vec Ideal ⟨2, ![R, 256]⟩ .bf16)
      (shapeCast S128x256 (View.ld w (Rect.unit (s := S4x128x256) ![g, 0, 0] ![1, 128, 256] q)) h) (constant (F := Ideal) ⟨2, ![R, 128]⟩ .f32 0x00000000#32) (ix2 r n)
      = back (nat2 x) (nat3 w) g r.val n.val := by
  subst ho
  refine (matmul_transposed_zero (φ₁ := .bf16) (φ₂ := .bf16) none _ _ r n).trans ?_
  refine Finset.sum_congr rfl fun k _ => congrArg₂ (· * ·) ?_ ?_
  · refine (nat2_val x _ _ _ ?_ ?_).symm
    · show 0 + 1 * r.val = r.val; omega
    · show 256 * g + 1 * k.val = _; omega
  · refine (shapeCast_1ab_ab_apply _ h n k).trans ?_
    refine (nat3_val w _ _ _ _ ?_ ?_ ?_).symm
    · show g + 1 * 0 = g; omega
    · show 0 + 1 * n.val = n.val; omega
    · show 0 + 1 * k.val = k.val; omega

/-- The count as the body computes it. -/
theorem count_word (w i q : ℕ) :
    FloatOps.sitofp (F := Ideal) .f32 (IntOp.minsi (BitVec.ofNat 32 i * 512#32 + BitVec.ofNat 32 q + 1#32) (BitVec.ofNat 32 w)) = count w (512 * i + q) := by
  unfold count
  rw [BitVec.ofNat_add, BitVec.ofNat_add, BitVec.ofNat_mul, BitVec.mul_comm (BitVec.ofNat 32 i)]

section values

variable (i : grid0.Coords) (x0 : Vec Ideal S512x1024 .bf16) (x1 : Vec Ideal S16x1024 .bf16) (x2 : Vec Ideal S512x512 .bf16) (x3 : Vec Ideal S4x128x256 .bf16)

/-- The cotangent of the mean at row `q` of the block: of the block's own rows, then of the next sixteen, which the last block
    takes as zeros. -/
def spread (g w q n : ℕ) : EReal :=
  if q < 512 then Ideal.div (back (nat2 x0) (nat3 x3) g q n) (count w (512 * (i 0).val + q))
  else Ideal.div (if (i 0).val < 15 then back (nat2 x1) (nat3 x3) g (q - 512) n else 0) (count w (512 * (i 0).val + q))

/-- Its rows from `k` on, and its last sixteen. -/
def shifted (g w k : ℕ) : Vec Ideal S512x128 .f32 := fun x => spread i x0 x1 x3 g w (k + (x 0).val) (x 1).val
def tail (g w : ℕ) : Vec Ideal S16x128 .f32 := fun x => spread i x0 x1 x3 g w (512 + (x 0).val) (x 1).val

/-- The products of a group. -/
def product (g : ℕ) : Vec Ideal S512x128 .f32 := fun x => back (nat2 x0) (nat3 x3) g (x 0).val (x 1).val

abbrev dy (off : ℕ) (p : ∀ a, (![0, off] : Fin 2 → ℕ) a + (![512, 256] : Fin 2 → ℕ) a ≤ S512x1024.size a) : Vec Ideal S512x256 .bf16 := View.ld x0 (Rect.unit (s := S512x1024) ![0, off] ![512, 256] p)
abbrev dyn (off : ℕ) (p : ∀ a, (![0, off] : Fin 2 → ℕ) a + (![16, 256] : Fin 2 → ℕ) a ≤ S16x1024.size a) : Vec Ideal S16x256 .bf16 := View.ld x1 (Rect.unit (s := S16x1024) ![0, off] ![16, 256] p)
abbrev pw (g : ℕ) (p : ∀ a, (![g, 0, 0] : Fin 3 → ℕ) a + (![1, 128, 256] : Fin 3 → ℕ) a ≤ S4x128x256.size a) : Vec Ideal S1x128x256 .bf16 := View.ld x3 (Rect.unit (s := S4x128x256) ![g, 0, 0] ![1, 128, 256] p)

/-- The last block takes the second of two arrays, the others the first. -/
theorem last_block {α : Type} (a b : α) : Scalar.select (Scalar.cmpi .slt (BitVec.ofNat 32 (i 0).val) 15#32) a b = if (i 0).val < 15 then a else b := by
  have hi : (i 0).val < 16 := (i 0).isLt
  by_cases h : (i 0).val < 15
  · rw [if_pos h, show Scalar.cmpi .slt (BitVec.ofNat 32 (i 0).val) 15#32 = 1#1 from (WordCmp.cmpi_slt_ofNat_eq_one_iff (by omega) (by omega)).mpr h]
    rfl
  · rw [if_neg h, show Scalar.cmpi .slt (BitVec.ofNat 32 (i 0).val) 15#32 = 0#1 from (WordCmp.cmpi_slt_ofNat_eq_zero_iff (by omega) (by omega)).mpr (by omega)]
    rfl

theorem product0 (p q) : k0_pay6 (F := Ideal) (dy x0 0 p) (pw x3 0 q) = product x0 x3 0 := by
  funext x
  obtain ⟨r, n, rfl⟩ : ∃ (r : Fin 512) (n : Fin 128), x = ix2 r n := ⟨x 0, x 1, eq_ix2 x⟩
  exact back_product x0 x3 0 0 rfl p q _ r n

theorem count0 (q : Fin 528) (n : Fin 128) : k0_pay7 (F := Ideal) i (ix2 q n) = count 2 (512 * (i 0).val + q.val) := by
  refine Eq.trans ?_ (count_word 2 (i 0).val q.val)
  show FloatOps.sitofp (F := Ideal) .f32 (IntOp.minsi (BitVec.ofNat 32 (i 0).val * 512#32 + iota .tc S528x128 32 [0] iota_S528x128_d0_w32 (ix2 q n) + 1#32) _) = _
  rw [iota_single_apply]
  rfl

theorem own0 (p q) : k0_pay8 i (dy x0 0 p) (pw x3 0 q) = shifted i x0 x1 x3 0 2 0 := by
  funext x
  obtain ⟨r, n, rfl⟩ : ∃ (r : Fin 512) (n : Fin 128), x = ix2 r n := ⟨x 0, x 1, eq_ix2 x⟩
  have hr : r.val < 512 := r.isLt
  have h0 : 0 + r.val < 512 := by omega
  unfold k0_pay8
  rw [shapeCast_self]
  show Ideal.div (k0_pay6 (F := Ideal) (dy x0 0 p) (pw x3 0 q) (ix2 r n)) (extractStridedSlice S512x128 ![0, 0] (k0_pay7 (F := Ideal) i) slices_S528x128_o0_0_S512x128 (ix2 r n)) = spread i x0 x1 x3 0 2 (0 + r.val) n.val
  rw [product0, extractStridedSlice_apply ![0, 0] _ slices_S528x128_o0_0_S512x128 (ix2 r n) (ix2 (⟨r.val, by omega⟩ : Fin 528) n)
    (fun a => match a with | ⟨0, _⟩ => (Nat.zero_add _).symm | ⟨1, _⟩ => (Nat.zero_add _).symm), count0]
  unfold spread
  rw [if_pos h0, Nat.zero_add]
  rfl

theorem next0 (p q) : k0_pay9 i (dyn x1 0 p) (pw x3 0 q) = tail i x0 x1 x3 0 2 := by
  funext x
  obtain ⟨r, n, rfl⟩ : ∃ (r : Fin 16) (n : Fin 128), x = ix2 r n := ⟨x 0, x 1, eq_ix2 x⟩
  have hr : r.val < 16 := r.isLt
  have h0 : ¬ 512 + r.val < 512 := by omega
  unfold k0_pay9
  dsimp only
  rw [shapeCast_self]
  show Ideal.div (Scalar.select (Scalar.cmpi .slt (BitVec.ofNat 32 (i 0).val) 15#32)
      (matmul (DotDims.transposedRhs 16 256 128) none (φ₁ := .bf16) (φ₂ := .bf16) (dyn x1 0 p) (shapeCast S128x256 (pw x3 0 q) shapeCasts_S1x128x256_S128x256) (constant (F := Ideal) ⟨2, ![16, 128]⟩ .f32 0x00000000#32))
      (broadcast S16x128 (Scalar.ofBits (F := Ideal) .f32 0x00000000#32)) (ix2 r n))
    (extractStridedSlice S16x128 ![512, 0] (k0_pay7 (F := Ideal) i) slices_S528x128_o512_0_S16x128 (ix2 r n)) = spread i x0 x1 x3 0 2 (512 + r.val) n.val
  rw [extractStridedSlice_apply ![512, 0] _ slices_S528x128_o512_0_S16x128 (ix2 r n) (ix2 (⟨512 + r.val, by omega⟩ : Fin 528) n)
    (fun a => match a with | ⟨0, _⟩ => rfl | ⟨1, _⟩ => (Nat.zero_add _).symm), count0]
  unfold spread
  rw [if_neg h0]
  refine congrArg (fun z => Ideal.div z _) ?_
  rw [last_block i, Nat.add_sub_cancel_left]
  by_cases h : (i 0).val < 15
  · rw [if_pos h, if_pos h]
    exact back_product x1 x3 0 0 rfl p q _ r n
  · rw [if_neg h, if_neg h]
    exact Ideal.ofBits_zero_f32

theorem product1 (p q) : k0_pay13 (F := Ideal) (dy x0 256 p) (pw x3 1 q) = product x0 x3 1 := by
  funext x
  obtain ⟨r, n, rfl⟩ : ∃ (r : Fin 512) (n : Fin 128), x = ix2 r n := ⟨x 0, x 1, eq_ix2 x⟩
  exact back_product x0 x3 1 256 rfl p q _ r n

theorem count1 (q : Fin 528) (n : Fin 128) : k0_pay15 (F := Ideal) (k0_pay4 i) (ix2 q n) = count 4 (512 * (i 0).val + q.val) := by
  refine Eq.trans ?_ (count_word 4 (i 0).val q.val)
  show FloatOps.sitofp (F := Ideal) .f32 (IntOp.minsi (BitVec.ofNat 32 (i 0).val * 512#32 + iota .tc S528x128 32 [0] iota_S528x128_d0_w32 (ix2 q n) + 1#32) _) = _
  rw [iota_single_apply]
  rfl

theorem own1 (p q) : k0_pay17 (k0_pay16 (k0_pay4 i) (dy x0 256 p) (pw x3 1 q)) = shifted i x0 x1 x3 1 4 0 := by
  funext x
  obtain ⟨r, n, rfl⟩ : ∃ (r : Fin 512) (n : Fin 128), x = ix2 r n := ⟨x 0, x 1, eq_ix2 x⟩
  have hr : r.val < 512 := r.isLt
  have h0 : 0 + r.val < 512 := by omega
  unfold k0_pay17
  rw [shapeCast_self]
  show Ideal.div (k0_pay13 (F := Ideal) (dy x0 256 p) (pw x3 1 q) (ix2 r n)) (extractStridedSlice S512x128 ![0, 0] (k0_pay15 (F := Ideal) (k0_pay4 i)) slices_S528x128_o0_0_S512x128 (ix2 r n)) = spread i x0 x1 x3 1 4 (0 + r.val) n.val
  rw [product1, extractStridedSlice_apply ![0, 0] _ slices_S528x128_o0_0_S512x128 (ix2 r n) (ix2 (⟨r.val, by omega⟩ : Fin 528) n)
    (fun a => match a with | ⟨0, _⟩ => (Nat.zero_add _).symm | ⟨1, _⟩ => (Nat.zero_add _).symm), count1]
  unfold spread
  rw [if_pos h0, Nat.zero_add]
  rfl

theorem next1 (p q) : k0_pay18 (k0_pay14 (BitVec.ofNat 32 (i 0).val) (dyn x1 256 p) (pw x3 1 q)) (k0_pay15 (k0_pay4 i)) = tail i x0 x1 x3 1 4 := by
  funext x
  obtain ⟨r, n, rfl⟩ : ∃ (r : Fin 16) (n : Fin 128), x = ix2 r n := ⟨x 0, x 1, eq_ix2 x⟩
  have hr : r.val < 16 := r.isLt
  have h0 : ¬ 512 + r.val < 512 := by omega
  unfold k0_pay18
  dsimp only
  rw [shapeCast_self]
  show Ideal.div (Scalar.select (Scalar.cmpi .slt (BitVec.ofNat 32 (i 0).val) 15#32)
      (matmul (DotDims.transposedRhs 16 256 128) none (φ₁ := .bf16) (φ₂ := .bf16) (dyn x1 256 p) (shapeCast S128x256 (pw x3 1 q) shapeCasts_S1x128x256_S128x256) (constant (F := Ideal) ⟨2, ![16, 128]⟩ .f32 0x00000000#32))
      (broadcast S16x128 (Scalar.ofBits (F := Ideal) .f32 0x00000000#32)) (ix2 r n))
    (extractStridedSlice S16x128 ![512, 0] (k0_pay15 (F := Ideal) (k0_pay4 i)) slices_S528x128_o512_0_S16x128 (ix2 r n)) = spread i x0 x1 x3 1 4 (512 + r.val) n.val
  rw [extractStridedSlice_apply ![512, 0] _ slices_S528x128_o512_0_S16x128 (ix2 r n) (ix2 (⟨512 + r.val, by omega⟩ : Fin 528) n)
    (fun a => match a with | ⟨0, _⟩ => rfl | ⟨1, _⟩ => (Nat.zero_add _).symm), count1]
  unfold spread
  rw [if_neg h0]
  refine congrArg (fun z => Ideal.div z _) ?_
  rw [last_block i, Nat.add_sub_cancel_left]
  by_cases h : (i 0).val < 15
  · rw [if_pos h, if_pos h]
    exact back_product x1 x3 1 256 rfl p q _ r n
  · rw [if_neg h, if_neg h]
    exact Ideal.ofBits_zero_f32

theorem product2 (p q) : k0_pay22 (F := Ideal) (dy x0 512 p) (pw x3 2 q) = product x0 x3 2 := by
  funext x
  obtain ⟨r, n, rfl⟩ : ∃ (r : Fin 512) (n : Fin 128), x = ix2 r n := ⟨x 0, x 1, eq_ix2 x⟩
  exact back_product x0 x3 2 512 rfl p q _ r n

theorem count2 (q : Fin 528) (n : Fin 128) : k0_pay23 (F := Ideal) (k0_pay4 i) (ix2 q n) = count 8 (512 * (i 0).val + q.val) := by
  refine Eq.trans ?_ (count_word 8 (i 0).val q.val)
  show FloatOps.sitofp (F := Ideal) .f32 (IntOp.minsi (BitVec.ofNat 32 (i 0).val * 512#32 + iota .tc S528x128 32 [0] iota_S528x128_d0_w32 (ix2 q n) + 1#32) _) = _
  rw [iota_single_apply]
  rfl

theorem own2 (p q) : k0_pay24 (k0_pay4 i) (dy x0 512 p) (pw x3 2 q) = shifted i x0 x1 x3 2 8 0 := by
  funext x
  obtain ⟨r, n, rfl⟩ : ∃ (r : Fin 512) (n : Fin 128), x = ix2 r n := ⟨x 0, x 1, eq_ix2 x⟩
  have hr : r.val < 512 := r.isLt
  have h0 : 0 + r.val < 512 := by omega
  unfold k0_pay24
  rw [shapeCast_self]
  show Ideal.div (k0_pay22 (F := Ideal) (dy x0 512 p) (pw x3 2 q) (ix2 r n)) (extractStridedSlice S512x128 ![0, 0] (k0_pay23 (F := Ideal) (k0_pay4 i)) slices_S528x128_o0_0_S512x128 (ix2 r n)) = spread i x0 x1 x3 2 8 (0 + r.val) n.val
  rw [product2, extractStridedSlice_apply ![0, 0] _ slices_S528x128_o0_0_S512x128 (ix2 r n) (ix2 (⟨r.val, by omega⟩ : Fin 528) n)
    (fun a => match a with | ⟨0, _⟩ => (Nat.zero_add _).symm | ⟨1, _⟩ => (Nat.zero_add _).symm), count2]
  unfold spread
  rw [if_pos h0, Nat.zero_add]
  rfl

theorem next2 (p q) : k0_pay25 (BitVec.ofNat 32 (i 0).val) (k0_pay4 i) (dyn x1 512 p) (pw x3 2 q) = tail i x0 x1 x3 2 8 := by
  funext x
  obtain ⟨r, n, rfl⟩ : ∃ (r : Fin 16) (n : Fin 128), x = ix2 r n := ⟨x 0, x 1, eq_ix2 x⟩
  have hr : r.val < 16 := r.isLt
  have h0 : ¬ 512 + r.val < 512 := by omega
  unfold k0_pay25
  dsimp only
  rw [shapeCast_self]
  show Ideal.div (Scalar.select (Scalar.cmpi .slt (BitVec.ofNat 32 (i 0).val) 15#32)
      (matmul (DotDims.transposedRhs 16 256 128) none (φ₁ := .bf16) (φ₂ := .bf16) (dyn x1 512 p) (shapeCast S128x256 (pw x3 2 q) shapeCasts_S1x128x256_S128x256) (constant (F := Ideal) ⟨2, ![16, 128]⟩ .f32 0x00000000#32))
      (broadcast S16x128 (Scalar.ofBits (F := Ideal) .f32 0x00000000#32)) (ix2 r n))
    (extractStridedSlice S16x128 ![512, 0] (k0_pay23 (F := Ideal) (k0_pay4 i)) slices_S528x128_o512_0_S16x128 (ix2 r n)) = spread i x0 x1 x3 2 8 (512 + r.val) n.val
  rw [extractStridedSlice_apply ![512, 0] _ slices_S528x128_o512_0_S16x128 (ix2 r n) (ix2 (⟨512 + r.val, by omega⟩ : Fin 528) n)
    (fun a => match a with | ⟨0, _⟩ => rfl | ⟨1, _⟩ => (Nat.zero_add _).symm), count2]
  unfold spread
  rw [if_neg h0]
  refine congrArg (fun z => Ideal.div z _) ?_
  rw [last_block i, Nat.add_sub_cancel_left]
  by_cases h : (i 0).val < 15
  · rw [if_pos h, if_pos h]
    exact back_product x1 x3 2 512 rfl p q _ r n
  · rw [if_neg h, if_neg h]
    exact Ideal.ofBits_zero_f32

theorem product3 (p q) : k0_pay30 (F := Ideal) (dy x0 768 p) (pw x3 3 q) = product x0 x3 3 := by
  funext x
  obtain ⟨r, n, rfl⟩ : ∃ (r : Fin 512) (n : Fin 128), x = ix2 r n := ⟨x 0, x 1, eq_ix2 x⟩
  exact back_product x0 x3 3 768 rfl p q _ r n

theorem count3 (q : Fin 528) (n : Fin 128) : k0_pay32 (F := Ideal) (k0_pay4 i) (ix2 q n) = count 16 (512 * (i 0).val + q.val) := by
  refine Eq.trans ?_ (count_word 16 (i 0).val q.val)
  show FloatOps.sitofp (F := Ideal) .f32 (IntOp.minsi (BitVec.ofNat 32 (i 0).val * 512#32 + iota .tc S528x128 32 [0] iota_S528x128_d0_w32 (ix2 q n) + 1#32) _) = _
  rw [iota_single_apply]
  rfl

theorem own3 (p q) : k0_pay34 (k0_pay33 (k0_pay4 i) (dy x0 768 p) (pw x3 3 q)) = shifted i x0 x1 x3 3 16 0 := by
  funext x
  obtain ⟨r, n, rfl⟩ : ∃ (r : Fin 512) (n : Fin 128), x = ix2 r n := ⟨x 0, x 1, eq_ix2 x⟩
  have hr : r.val < 512 := r.isLt
  have h0 : 0 + r.val < 512 := by omega
  unfold k0_pay34
  rw [shapeCast_self]
  show Ideal.div (k0_pay30 (F := Ideal) (dy x0 768 p) (pw x3 3 q) (ix2 r n)) (extractStridedSlice S512x128 ![0, 0] (k0_pay32 (F := Ideal) (k0_pay4 i)) slices_S528x128_o0_0_S512x128 (ix2 r n)) = spread i x0 x1 x3 3 16 (0 + r.val) n.val
  rw [product3, extractStridedSlice_apply ![0, 0] _ slices_S528x128_o0_0_S512x128 (ix2 r n) (ix2 (⟨r.val, by omega⟩ : Fin 528) n)
    (fun a => match a with | ⟨0, _⟩ => (Nat.zero_add _).symm | ⟨1, _⟩ => (Nat.zero_add _).symm), count3]
  unfold spread
  rw [if_pos h0, Nat.zero_add]
  rfl

theorem next3 (p q) : k0_pay35 (k0_pay31 (BitVec.ofNat 32 (i 0).val) (dyn x1 768 p) (pw x3 3 q)) (k0_pay32 (k0_pay4 i)) = tail i x0 x1 x3 3 16 := by
  funext x
  obtain ⟨r, n, rfl⟩ : ∃ (r : Fin 16) (n : Fin 128), x = ix2 r n := ⟨x 0, x 1, eq_ix2 x⟩
  have hr : r.val < 16 := r.isLt
  have h0 : ¬ 512 + r.val < 512 := by omega
  unfold k0_pay35
  dsimp only
  rw [shapeCast_self]
  show Ideal.div (Scalar.select (Scalar.cmpi .slt (BitVec.ofNat 32 (i 0).val) 15#32)
      (matmul (DotDims.transposedRhs 16 256 128) none (φ₁ := .bf16) (φ₂ := .bf16) (dyn x1 768 p) (shapeCast S128x256 (pw x3 3 q) shapeCasts_S1x128x256_S128x256) (constant (F := Ideal) ⟨2, ![16, 128]⟩ .f32 0x00000000#32))
      (broadcast S16x128 (Scalar.ofBits (F := Ideal) .f32 0x00000000#32)) (ix2 r n))
    (extractStridedSlice S16x128 ![512, 0] (k0_pay32 (F := Ideal) (k0_pay4 i)) slices_S528x128_o512_0_S16x128 (ix2 r n)) = spread i x0 x1 x3 3 16 (512 + r.val) n.val
  rw [extractStridedSlice_apply ![512, 0] _ slices_S528x128_o512_0_S16x128 (ix2 r n) (ix2 (⟨512 + r.val, by omega⟩ : Fin 528) n)
    (fun a => match a with | ⟨0, _⟩ => rfl | ⟨1, _⟩ => (Nat.zero_add _).symm), count3]
  unfold spread
  rw [if_neg h0]
  refine congrArg (fun z => Ideal.div z _) ?_
  rw [last_block i, Nat.add_sub_cancel_left]
  by_cases h : (i 0).val < 15
  · rw [if_pos h, if_pos h]
    exact back_product x1 x3 3 768 rfl p q _ r n
  · rw [if_neg h, if_neg h]
    exact Ideal.ofBits_zero_f32

end values

end Cert.PoolBlock

end
-- ==== Proof.PoolPoint.lean ====
/-
  One block of the pooling's gradient: the two result blocks at an index. Of the gradient of the pooled channels, group by
  group, the sum of the spread cotangents over the window less the token's own; of the weights' gradient, what the block
  held and the products of the block's rows.
-/
module

public import proofs.«01_k».proof.Proof.PoolBlock

@[expose] public section

noncomputable section

namespace Cert.PoolBlock

open Cert.PoolBwdIdeal Cert.PoolBwdIdeal.Gen Cert.PoolBwdIdeal.Value Cert.Blocks Cert.Contract
open Cert.NatRead
open Idealize.ShloMosaic Idealize.ShloMosaic.TcCoe Idealize.ShloMosaic.ValueIdx
open scoped BigOperators

theorem sum_two (f : ℕ → EReal) : ∑ k ∈ Finset.range 2, f k = f 0 + f 1 := by
  simp only [Finset.sum_range_succ, Finset.sum_range_zero, zero_add]
theorem sum_four (f : ℕ → EReal) : ∑ k ∈ Finset.range 4, f k = f 0 + f 1 + f 2 + f 3 := by
  simp only [Finset.sum_range_succ, Finset.sum_range_zero, zero_add]
theorem sum_eight (f : ℕ → EReal) : ∑ k ∈ Finset.range 8, f k = f 0 + f 1 + f 2 + f 3 + f 4 + f 5 + f 6 + f 7 := by
  simp only [Finset.sum_range_succ, Finset.sum_range_zero, zero_add]
theorem sum_sixteen (f : ℕ → EReal) : ∑ k ∈ Finset.range 16, f k = f 0 + f 1 + f 2 + f 3 + f 4 + f 5 + f 6 + f 7 + f 8 + f 9 + f 10 + f 11 + f 12 + f 13 + f 14 + f 15 := by
  simp only [Finset.sum_range_succ, Finset.sum_range_zero, zero_add]

section values

variable (i : grid0.Coords) (x0 : Vec Ideal S512x1024 .bf16) (x1 : Vec Ideal S16x1024 .bf16) (x2 : Vec Ideal S512x512 .bf16) (x3 : Vec Ideal S4x128x256 .bf16)

/-- A load of 512 rows of the scratch reads the block's rows and, past them, the next sixteen. -/
theorem load_rows {sg : RefSig} {κ : Kind} {sp : Space} (v : View sg κ sp S528x128 .f32) (g w k : ℕ) (p p' q) (L : List (View.Piece (Elt Ideal) S528x128 .f32)) :
    v.readCov (Val := Elt Ideal) (⟨Rect.unit (s := S528x128) ![512, 0] ![16, 128] p, tail i x0 x1 x3 g w⟩
        :: ⟨Rect.unit (s := S528x128) ![0, 0] ![512, 128] p', shifted i x0 x1 x3 g w 0⟩ :: L) (Rect.unit (s := S528x128) ![k, 0] ![512, 128] q).toLoadRect
      = shifted i x0 x1 x3 g w k := by
  rw [View.readCov_eq_canon']
  funext x
  have hx0 : (x 0).val < 512 := (x 0).isLt
  have hx1 : (x 1).val < 128 := (x 1).isLt
  have hk : k + 512 ≤ 528 := q 0
  by_cases h : k + (x 0).val < 512
  · have e : (Rect.unit (s := S528x128) ![k, 0] ![512, 128] q).toLoadRect.idx x
        = (Rect.unit (s := S528x128) ![0, 0] ![512, 128] p').emb (ix2 (⟨k + (x 0).val, h⟩ : Fin 512) (⟨(x 1).val, hx1⟩ : Fin 128)) := by
      funext a
      apply Fin.ext
      match a with
      | ⟨0, _⟩ => show k + 1 * (x 0).val = 0 + 1 * (k + (x 0).val); omega
      | ⟨1, _⟩ => rfl
    show View.canon _ _ = _
    rw [e, View.canon_cons_of_not_mem, View.canon_cons_emb]
    · show spread i x0 x1 x3 g w (0 + (k + (x 0).val)) (x 1).val = spread i x0 x1 x3 g w (k + (x 0).val) (x 1).val
      rw [Nat.zero_add]
    · intro hm
      have h1 := ((Rect.mem_set_unit (inb := p)).mp hm 0).1
      have h2 : (512 : ℕ) ≤ 0 + 1 * (k + (x 0).val) := h1
      omega
  · have e : (Rect.unit (s := S528x128) ![k, 0] ![512, 128] q).toLoadRect.idx x
        = (Rect.unit (s := S528x128) ![512, 0] ![16, 128] p).emb (ix2 (⟨k + (x 0).val - 512, by omega⟩ : Fin 16) (⟨(x 1).val, hx1⟩ : Fin 128)) := by
      funext a
      apply Fin.ext
      match a with
      | ⟨0, _⟩ => show k + 1 * (x 0).val = 512 + 1 * (k + (x 0).val - 512); omega
      | ⟨1, _⟩ => rfl
    show View.canon _ _ = _
    rw [e, View.canon_cons_emb]
    show spread i x0 x1 x3 g w (512 + (k + (x 0).val - 512)) (x 1).val = spread i x0 x1 x3 g w (k + (x 0).val) (x 1).val
    rw [Nat.add_sub_cancel' (by omega)]

/-- The gradient of the pooled channel `n` of group `g` at row `r` of the block. -/
def blockDu (g r n : ℕ) : EReal :=
  (∑ k ∈ Finset.range (2 ^ (g + 1)), spread i x0 x1 x3 g (2 ^ (g + 1)) (k + r) n) - back (nat2 x0) (nat3 x3) g r n

def outDu : Vec Ideal S512x512 .bf16 := fun j => blockDu i x0 x1 x3 ((j 1).val / 128) (j 0).val ((j 1).val % 128)

theorem outDu_emb (g off : ℕ) (ho : off = 128 * g) (p) (x : (⟨2, ![512, 128]⟩ : Shape).Idx) (a : EReal)
    (h : a = blockDu i x0 x1 x3 g (x 0).val (x 1).val) :
    a = outDu i x0 x1 x3 ((Rect.unit (s := S512x512) ![0, off] ![512, 128] p).emb x) := by
  subst ho
  have hx1 : (x 1).val < 128 := (x 1).isLt
  have c0 : (((Rect.unit (s := S512x512) ![0, 128 * g] ![512, 128] p).emb x) 0).val = (x 0).val := by
    show 0 + 1 * (x 0).val = _; omega
  have c1 : (((Rect.unit (s := S512x512) ![0, 128 * g] ![512, 128] p).emb x) 1).val = 128 * g + (x 1).val := by
    show 128 * g + 1 * (x 1).val = _; omega
  unfold outDu
  rw [c0, c1, show (128 * g + (x 1).val) / 128 = g by omega, show (128 * g + (x 1).val) % 128 = (x 1).val by omega]
  exact h

theorem piece0 (p) (x : S512x128.Idx) : k0_pay10 (product x0 x3 0) (shifted i x0 x1 x3 0 2 0) (shifted i x0 x1 x3 0 2 1) x = outDu i x0 x1 x3 ((Rect.unit (s := S512x512) ![0, 0] ![512, 128] p).emb x) :=
  outDu_emb i x0 x1 x3 0 0 rfl _ x _ (congrArg (· - back (nat2 x0) (nat3 x3) 0 (x 0).val (x 1).val) (sum_two fun k => spread i x0 x1 x3 0 2 (k + (x 0).val) (x 1).val).symm)

theorem piece1 (p) (x : S512x128.Idx) : k0_pay19 (product x0 x3 1) (shifted i x0 x1 x3 1 4 0) (shifted i x0 x1 x3 1 4 1) (shifted i x0 x1 x3 1 4 2) (shifted i x0 x1 x3 1 4 3) x = outDu i x0 x1 x3 ((Rect.unit (s := S512x512) ![0, 128] ![512, 128] p).emb x) :=
  outDu_emb i x0 x1 x3 1 128 rfl _ x _ (congrArg (· - back (nat2 x0) (nat3 x3) 1 (x 0).val (x 1).val) (sum_four fun k => spread i x0 x1 x3 1 4 (k + (x 0).val) (x 1).val).symm)

theorem piece2 (p) (x : S512x128.Idx) : k0_pay27 (product x0 x3 2) (k0_pay26 (shifted i x0 x1 x3 2 8 0) (shifted i x0 x1 x3 2 8 1) (shifted i x0 x1 x3 2 8 2) (shifted i x0 x1 x3 2 8 3) (shifted i x0 x1 x3 2 8 4) (shifted i x0 x1 x3 2 8 5) (shifted i x0 x1 x3 2 8 6)) (shifted i x0 x1 x3 2 8 7) x = outDu i x0 x1 x3 ((Rect.unit (s := S512x512) ![0, 256] ![512, 128] p).emb x) :=
  outDu_emb i x0 x1 x3 2 256 rfl _ x _ (congrArg (· - back (nat2 x0) (nat3 x3) 2 (x 0).val (x 1).val) (sum_eight fun k => spread i x0 x1 x3 2 8 (k + (x 0).val) (x 1).val).symm)

theorem piece3 (p) (x : S512x128.Idx) : k0_pay1 (product x0 x3 3) (k0_pay36 (shifted i x0 x1 x3 3 16 0) (shifted i x0 x1 x3 3 16 1) (shifted i x0 x1 x3 3 16 2) (shifted i x0 x1 x3 3 16 3) (shifted i x0 x1 x3 3 16 4) (shifted i x0 x1 x3 3 16 5) (shifted i x0 x1 x3 3 16 6) (shifted i x0 x1 x3 3 16 7) (shifted i x0 x1 x3 3 16 8) (shifted i x0 x1 x3 3 16 9) (shifted i x0 x1 x3 3 16 10) (shifted i x0 x1 x3 3 16 11)) (shifted i x0 x1 x3 3 16 12) (shifted i x0 x1 x3 3 16 13) (shifted i x0 x1 x3 3 16 14) (shifted i x0 x1 x3 3 16 15) x = outDu i x0 x1 x3 ((Rect.unit (s := S512x512) ![0, 384] ![512, 128] p).emb x) :=
  outDu_emb i x0 x1 x3 3 384 rfl _ x _ (congrArg (· - back (nat2 x0) (nat3 x3) 3 (x 0).val (x 1).val) (sum_sixteen fun k => spread i x0 x1 x3 3 16 (k + (x 0).val) (x 1).val).symm)

/-- The weights' gradient after the block, `y` before it. -/
def outDw (y : Vec Ideal S4x128x256 .f32) : Vec Ideal S4x128x256 .f32 := fun j =>
  y j + ∑ r : Fin 512, nat2 x2 r.val (128 * (j 0).val + (j 1).val) * nat2 x0 r.val (256 * (j 0).val + (j 2).val)

theorem rows_dims : dot_S512x128_S512x256_S128x256_0_0_1_1_n_n = rowsDims 512 128 256 := rfl

theorem outDw_emb (y : Vec Ideal S4x128x256 .f32) (g o o' : ℕ) (ho : o = 128 * g) (ho' : o' = 256 * g) (p q q' h h') (x : S1x128x256.Idx) :
    shapeCast S1x128x256 (addf (shapeCast S128x256 (View.ld y (Rect.unit (s := S4x128x256) ![g, 0, 0] ![1, 128, 256] p)) h)
        (matmul (rowsDims 512 128 256) none (φ₁ := .bf16) (φ₂ := .bf16) (View.ld x2 (Rect.unit (s := S512x512) ![0, o] ![512, 128] q) : Vec Ideal S512x128 .bf16) (View.ld x0 (Rect.unit (s := S512x1024) ![0, o'] ![512, 256] q'))
          (constant (F := Ideal) ⟨2, ![128, 256]⟩ .f32 0x00000000#32))) h' x
      = outDw x0 x2 y ((Rect.unit (s := S4x128x256) ![g, 0, 0] ![1, 128, 256] p).emb x) := by
  subst ho ho'
  obtain ⟨z, n, d, rfl⟩ : ∃ (z : Fin 1) (n : Fin 128) (d : Fin 256), x = ix3 z n d := ⟨x 0, x 1, x 2, eq_ix3 x⟩
  obtain rfl : z = 0 := Subsingleton.elim _ _
  refine (shapeCast_ab_1ab_apply _ h' 0 n d).trans ?_
  have c0 : (((Rect.unit (s := S4x128x256) ![g, 0, 0] ![1, 128, 256] p).emb (ix3 (0 : Fin 1) n d)) 0).val = g := by
    show g + 1 * 0 = _; omega
  have c1 : (((Rect.unit (s := S4x128x256) ![g, 0, 0] ![1, 128, 256] p).emb (ix3 (0 : Fin 1) n d)) 1).val = n.val := by
    show 0 + 1 * n.val = _; omega
  have c2 : (((Rect.unit (s := S4x128x256) ![g, 0, 0] ![1, 128, 256] p).emb (ix3 (0 : Fin 1) n d)) 2).val = d.val := by
    show 0 + 1 * d.val = _; omega
  unfold outDw
  rw [c0, c1, c2]
  refine congrArg₂ (· + ·) ?_ ?_
  · exact shapeCast_1ab_ab_apply _ h n d
  · refine (matmul_rows_zero (φ₁ := .bf16) (φ₂ := .bf16) none _ _ n d).trans (Finset.sum_congr rfl fun r _ => congrArg₂ (· * ·) ?_ ?_)
    · refine (nat2_val x2 _ _ _ ?_ ?_).symm
      · show 0 + 1 * r.val = r.val; omega
      · show 128 * g + 1 * n.val = _; omega
    · refine (nat2_val x0 _ _ _ ?_ ?_).symm
      · show 0 + 1 * r.val = r.val; omega
      · show 256 * g + 1 * d.val = _; omega

theorem add_dw (y : Vec Ideal S4x128x256 .f32) (f : Vec Ideal S512x256 .bf16 → Vec Ideal S1x128x256 .f32 → Vec Ideal S512x128 .bf16 → FVec Ideal S1x128x256 .f32)
    (hf : f = k0_pay11 (F := Ideal)) (g o o' : ℕ) (ho : o = 128 * g) (ho' : o' = 256 * g) (p q q') (x : S1x128x256.Idx) :
    f (View.ld x0 (Rect.unit (s := S512x1024) ![0, o'] ![512, 256] q')) (View.ld y (Rect.unit (s := S4x128x256) ![g, 0, 0] ![1, 128, 256] p))
        (View.ld x2 (Rect.unit (s := S512x512) ![0, o] ![512, 128] q)) x
      = outDw x0 x2 y ((Rect.unit (s := S4x128x256) ![g, 0, 0] ![1, 128, 256] p).emb x) := by
  subst hf
  unfold k0_pay11
  rw [shapeCast_self, rows_dims]
  exact outDw_emb x0 x2 y g o o' ho ho' p q q' _ _ x

end values

/-- A piece that the newer ones cover is not read. -/
theorem canon_append {S : Shape} (L : List (View.Piece (Elt Ideal) S .f32)) (q : View.Piece (Elt Ideal) S .f32) (y : S.Idx) (h : ∃ p ∈ L, y ∈ p.1.set) :
    View.canon (L ++ [q]) y = View.canon L y := by
  induction L with
  | nil => obtain ⟨p, hp, _⟩ := h; exact absurd hp (List.not_mem_nil)
  | cons p L ih =>
    obtain ⟨r, w⟩ := p
    by_cases hm : y ∈ r.set
    · obtain ⟨x, hx⟩ := r.exists_idx_of_mem hm
      have hx : r.emb x = y := hx
      rw [← hx, List.cons_append, View.canon_cons_emb, View.canon_cons_emb]
    · rw [List.cons_append, View.canon_cons_of_not_mem ⟨r, w⟩ _ hm, View.canon_cons_of_not_mem ⟨r, w⟩ _ hm]
      refine ih ?_
      obtain ⟨p, hp, hy⟩ := h
      rcases List.mem_cons.mp hp with rfl | hp
      · exact absurd hy hm
      · exact ⟨p, hp, hy⟩

/-- An index of the stack lies in its plane. -/
theorem mem_plane (j : S4x128x256.Idx) (g : ℕ) (hg : (j 0).val = g) (p) : j ∈ (Rect.unit (s := S4x128x256) ![g, 0, 0] ![1, 128, 256] p).set := by
  refine (Rect.mem_set_unit (inb := p)).mpr fun a => ?_
  have h1 : (j 1).val < 128 := (j 1).isLt
  have h2 : (j 2).val < 256 := (j 2).isLt
  match a with
  | ⟨0, _⟩ => show g ≤ (j 0).val ∧ (j 0).val < g + 1; omega
  | ⟨1, _⟩ => show 0 ≤ (j 1).val ∧ (j 1).val < 0 + 128; omega
  | ⟨2, _⟩ => show 0 ≤ (j 2).val ∧ (j 2).val < 0 + 256; omega

theorem planes_cover (w0 w1 w2 w3 : FVec Ideal S1x128x256 .f32) (p0 p1 p2 p3) (j : S4x128x256.Idx) :
    ∃ p ∈ ([⟨Rect.unit (s := S4x128x256) ![3, 0, 0] ![1, 128, 256] p3, w3⟩, ⟨Rect.unit (s := S4x128x256) ![2, 0, 0] ![1, 128, 256] p2, w2⟩,
      ⟨Rect.unit (s := S4x128x256) ![1, 0, 0] ![1, 128, 256] p1, w1⟩, ⟨Rect.unit (s := S4x128x256) ![0, 0, 0] ![1, 128, 256] p0, w0⟩] : List (View.Piece (Elt Ideal) S4x128x256 .f32)),
      j ∈ p.1.set := by
  have h : (j 0).val < 4 := (j 0).isLt
  rcases (by omega : (j 0).val = 3 ∨ (j 0).val = 2 ∨ (j 0).val = 1 ∨ (j 0).val = 0) with h | h | h | h
  · exact ⟨_, .head _, mem_plane j 3 h p3⟩
  · exact ⟨_, .tail _ (.head _), mem_plane j 2 h p2⟩
  · exact ⟨_, .tail _ (.tail _ (.head _)), mem_plane j 1 h p1⟩
  · exact ⟨_, .tail _ (.tail _ (.tail _ (.head _))), mem_plane j 0 h p0⟩

theorem block_A_4 (c : Dev nD) (i : grid0.Coords) (a1 : Memref sig .tc .vmem S512x1024 .bf16) (h1 : a1.IsWhole) (a2 : Memref sig .tc .vmem S16x1024 .bf16) (h2 : a2.IsWhole)
    (a3 : Memref sig .tc .vmem S512x512 .bf16) (h3 : a3.IsWhole) (a4 : Memref sig .tc .vmem S4x128x256 .bf16) (h4 : a4.IsWhole) (a6 : Memref sig .tc .vmem S512x512 .bf16) (h6 : a6.IsWhole)
    (a7 : Memref sig .tc .vmem S4x128x256 .f32) (h7 : a7.IsWhole) (a8 : Memref sig .tc .vmem S528x128 .f32) (h8 : a8.IsWhole) (hc : cond0_0 i)
    (x0 : Vec Ideal S512x1024 .bf16) (x1 : Vec Ideal S16x1024 .bf16) (x2 : Vec Ideal S512x512 .bf16) (x3 : Vec Ideal S4x128x256 .bf16) :
    out0_A_4 c i a1 h1 a2 h2 a3 h3 a4 h4 a6 h6 a7 h7 a8 h8 hc x0 x1 x2 x3 = outDu i x0 x1 x3 := by
  unfold out0_A_4
  generalize hG : outDu i x0 x1 x3 = G
  rw [View.read_writes_junk_eq_canon]
  funext j
  refine View.canon_apply_of_pieces (G) _ (View.PiecesOf.mem (G := G) ?_) j (cover0_A_4 c i a1 h1 a2 h2 a3 h3 a4 h4 a6 h6 a7 h7 a8 h8 hc x0 x1 x2 x3 j)
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h7.read_unread]
  simp only [own0 i x0 x1 x3, own1 i x0 x1 x3, own2 i x0 x1 x3, own3 i x0 x1 x3, next0 i x0 x1 x3, next1 i x0 x1 x3, next2 i x0 x1 x3, next3 i x0 x1 x3, product0, product1, product2, product3, load_rows]
  subst hG
  exact ⟨piece3 i x0 x1 x3 inb_S512x512_S512x128_0_384,
    piece2 i x0 x1 x3 inb_S512x512_S512x128_0_256,
    piece1 i x0 x1 x3 inb_S512x512_S512x128_0_128,
    piece0 i x0 x1 x3 inb_S512x512_S512x128_0_0,
    trivial⟩

theorem block_A_5 (c : Dev nD) (i : grid0.Coords) (a1 : Memref sig .tc .vmem S512x1024 .bf16) (h1 : a1.IsWhole) (a2 : Memref sig .tc .vmem S16x1024 .bf16) (h2 : a2.IsWhole)
    (a3 : Memref sig .tc .vmem S512x512 .bf16) (h3 : a3.IsWhole) (a4 : Memref sig .tc .vmem S4x128x256 .bf16) (h4 : a4.IsWhole) (a6 : Memref sig .tc .vmem S512x512 .bf16) (h6 : a6.IsWhole)
    (a7 : Memref sig .tc .vmem S4x128x256 .f32) (h7 : a7.IsWhole) (a8 : Memref sig .tc .vmem S528x128 .f32) (h8 : a8.IsWhole) (hc : cond0_0 i)
    (x0 : Vec Ideal S512x1024 .bf16) (x1 : Vec Ideal S16x1024 .bf16) (x2 : Vec Ideal S512x512 .bf16) (x3 : Vec Ideal S4x128x256 .bf16) :
    out0_A_5 c i a1 h1 a2 h2 a3 h3 a4 h4 a6 h6 a7 h7 a8 h8 hc x0 x1 x2 x3 = outDw x0 x2 (k0_pay3 (F := Ideal)) := by
  unfold out0_A_5
  rw [View.read_writes_junk_eq_canon]
  funext j
  unfold kernelRun0_A
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h7.read_unread]
  refine (canon_append [_, _, _, _] _ j (planes_cover _ _ _ _ _ _ _ _ j)).trans ?_
  refine View.canon_apply_of_pieces (outDw x0 x2 (k0_pay3 (F := Ideal))) _ (View.PiecesOf.mem (G := outDw x0 x2 (k0_pay3 (F := Ideal))) ?_) j (planes_cover _ _ _ _ _ _ _ _ j)
  exact ⟨add_dw x0 x2 (k0_pay3 (F := Ideal)) k0_pay2 rfl 3 384 768 rfl rfl _ _ _,
    add_dw x0 x2 (k0_pay3 (F := Ideal)) k0_pay28 rfl 2 256 512 rfl rfl _ _ _,
    add_dw x0 x2 (k0_pay3 (F := Ideal)) k0_pay20 rfl 1 128 256 rfl rfl _ _ _,
    add_dw x0 x2 (k0_pay3 (F := Ideal)) k0_pay11 rfl 0 0 0 rfl rfl _ _ _, trivial⟩

theorem block_B_4 (c : Dev nD) (i : grid0.Coords) (a1 : Memref sig .tc .vmem S512x1024 .bf16) (h1 : a1.IsWhole) (a2 : Memref sig .tc .vmem S16x1024 .bf16) (h2 : a2.IsWhole)
    (a3 : Memref sig .tc .vmem S512x512 .bf16) (h3 : a3.IsWhole) (a4 : Memref sig .tc .vmem S4x128x256 .bf16) (h4 : a4.IsWhole) (a6 : Memref sig .tc .vmem S512x512 .bf16) (h6 : a6.IsWhole)
    (a7 : Memref sig .tc .vmem S4x128x256 .f32) (h7 : a7.IsWhole) (a8 : Memref sig .tc .vmem S528x128 .f32) (h8 : a8.IsWhole) (hc : ¬cond0_0 i)
    (x0 : Vec Ideal S512x1024 .bf16) (x1 : Vec Ideal S16x1024 .bf16) (x2 : Vec Ideal S512x512 .bf16) (x3 : Vec Ideal S4x128x256 .bf16) (y : Vec Ideal S4x128x256 .f32) :
    out0_B_4 c i a1 h1 a2 h2 a3 h3 a4 h4 a6 h6 a7 h7 a8 h8 hc x0 x1 x2 x3 y = outDu i x0 x1 x3 := by
  unfold out0_B_4
  generalize hG : outDu i x0 x1 x3 = G
  rw [View.read_writes_junk_eq_canon]
  funext j
  refine View.canon_apply_of_pieces (G) _ (View.PiecesOf.mem (G := G) ?_) j (cover0_B_4 c i a1 h1 a2 h2 a3 h3 a4 h4 a6 h6 a7 h7 a8 h8 hc x0 x1 x2 x3 y j)
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h7.read_unread]
  simp only [own0 i x0 x1 x3, own1 i x0 x1 x3, own2 i x0 x1 x3, own3 i x0 x1 x3, next0 i x0 x1 x3, next1 i x0 x1 x3, next2 i x0 x1 x3, next3 i x0 x1 x3, product0, product1, product2, product3, load_rows]
  subst hG
  exact ⟨piece3 i x0 x1 x3 inb_S512x512_S512x128_0_384,
    piece2 i x0 x1 x3 inb_S512x512_S512x128_0_256,
    piece1 i x0 x1 x3 inb_S512x512_S512x128_0_128,
    piece0 i x0 x1 x3 inb_S512x512_S512x128_0_0,
    trivial⟩

theorem block_B_5 (c : Dev nD) (i : grid0.Coords) (a1 : Memref sig .tc .vmem S512x1024 .bf16) (h1 : a1.IsWhole) (a2 : Memref sig .tc .vmem S16x1024 .bf16) (h2 : a2.IsWhole)
    (a3 : Memref sig .tc .vmem S512x512 .bf16) (h3 : a3.IsWhole) (a4 : Memref sig .tc .vmem S4x128x256 .bf16) (h4 : a4.IsWhole) (a6 : Memref sig .tc .vmem S512x512 .bf16) (h6 : a6.IsWhole)
    (a7 : Memref sig .tc .vmem S4x128x256 .f32) (h7 : a7.IsWhole) (a8 : Memref sig .tc .vmem S528x128 .f32) (h8 : a8.IsWhole) (hc : ¬cond0_0 i)
    (x0 : Vec Ideal S512x1024 .bf16) (x1 : Vec Ideal S16x1024 .bf16) (x2 : Vec Ideal S512x512 .bf16) (x3 : Vec Ideal S4x128x256 .bf16) (y : Vec Ideal S4x128x256 .f32) :
    out0_B_5 c i a1 h1 a2 h2 a3 h3 a4 h4 a6 h6 a7 h7 a8 h8 hc x0 x1 x2 x3 y = outDw x0 x2 y := by
  unfold out0_B_5
  rw [View.read_writes_junk_eq_canon]
  funext j
  refine View.canon_apply_of_pieces (outDw x0 x2 y) _ (View.PiecesOf.mem (G := outDw x0 x2 y) ?_) j (cover0_B_5 c i a1 h1 a2 h2 a3 h3 a4 h4 a6 h6 a7 h7 a8 h8 hc x0 x1 x2 x3 y j)
  unfold kernelRun0_B
  dsimp only
  sl_unfold_words
  simp (disch := decide) only [↓ View.readCov_skip, ↓ View.readCov_cons_toLoadRect, ↓ View.readCov_fill]
  simp only [View.readAt_eq_ld, h1.read_unread, h2.read_unread, h3.read_unread, h4.read_unread, h7.read_unread]
  exact ⟨add_dw x0 x2 y k0_pay2 rfl 3 384 768 rfl rfl _ _ _,
    add_dw x0 x2 y k0_pay28 rfl 2 256 512 rfl rfl _ _ _,
    add_dw x0 x2 y k0_pay20 rfl 1 128 256 rfl rfl _ _ _,
    add_dw x0 x2 y k0_pay11 rfl 0 0 0 rfl rfl _ _ _, trivial⟩

end Cert.PoolBlock

end
-- ==== Proof.PoolReference.lean ====
/-
  The pooling's gradient as the reference computes it, over the extended reals: of each of the four channel groups the
  cotangents by the group's weights, divided by the count of the tokens averaged, summed over the tokens whose window holds
  the row, less the row's own; and of the weights the products of the cotangents and the pooled channels.
-/
module

public import proofs.«01_k».proof.Proof.PoolPoint
public import proofs.«01_k».proof.Proof.Gen.PoolBwdRefIdeal.Read
public import Idealize.ShloMosaic.Lib.IdealHost
public import Idealize.ShloMosaic.Lib.Pointwise.SelectCore
public import Idealize.ShloMosaic.Lib.KernelVsHost

@[expose] public section

noncomputable section

namespace Cert.PoolReference

open Cert.PoolBwdIdeal Cert.PoolBlock
open Cert.NatRead
open Idealize.ShloMosaic hiding ix1 ix2 ix3 eq_ix2
open Idealize.ShloMosaic.ValueIdx
open Cert.PoolBwdRefIdeal.Read
open scoped BigOperators

variable (x0 : FVec Ideal S8192x1024 .bf16) (x1 : FVec Ideal S8192x512 .f32) (x2 : FVec Ideal S4x128x256 .bf16)

/-- The cotangent that token `t` spreads over its window in channel `n` of group `g`; past the last token there is none. -/
def wide (g t n : ℕ) : EReal :=
  if t < 8192 then Ideal.div (back (nat2 x0) (nat3 x2) g t n) (PoolBlock.count (2 ^ (g + 1)) t) else 0

/-- The gradient of channel `n` of group `g` at row `r`. -/
def channel (g r n : ℕ) : EReal :=
  (∑ k ∈ Finset.range (2 ^ (g + 1)), wide x0 x2 g (k + r) n) - back (nat2 x0) (nat3 x2) g r n

/-- The pooled channels of a group. -/
def pooled (g : ℕ) : FVec Ideal ⟨2, ![8192, 128]⟩ .f32 :=
  match g with
  | 0 => val_main_v19 (F := Ideal) x1
  | 1 => val_main_v39 (F := Ideal) x1
  | 2 => val_main_v67 (F := Ideal) x1
  | _ => val_main_v111 (F := Ideal) x1

/-- The gradient of a group's weight. -/
def weight (g n d : ℕ) : EReal := ∑ t : Fin 8192, nat2 (pooled x1 g) t.val n * nat2 x0 t.val (256 * g + d)

/-- The count as the reference computes it. -/
theorem count_host (w t : ℕ) :
    FloatOps.sitofp (F := Ideal) .f32 (IntOp.minsi (IntOp.addi 1#32 (BitVec.ofNat 32 t)) (BitVec.ofNat 32 w)) = PoolBlock.count w t := by
  unfold PoolBlock.count
  rw [BitVec.ofNat_add, BitVec.add_comm]
  rfl

/-- Rows moved down by `lo`, zeros before and after. -/
theorem pad_rows {H lo hi : ℕ} (y : FVec Ideal ⟨2, ![8192, 128]⟩ .f32) {u : Shape} (z : u.Idx → EReal) (hz : ∀ e, z e = 0) (p) (hu : 0 < u.numel) (k : ℕ)
    (j : (⟨2, ![H, 128]⟩ : Shape).Idx) (hj : (j 0).val = lo + k) :
    pad (s := ⟨2, ![8192, 128]⟩) ⟨2, ![H, 128]⟩ ![lo, 0] ![hi, 0] ![0, 0] y z p hu j = nat2 y k (j 1).val := by
  have b1 : (j 1).val < 128 := (j 1).isLt
  by_cases hk : k < 8192
  · rw [pad_apply_of_inside _ _ _ _ _ _ _ _ (ix2 (⟨k, hk⟩ : Fin 8192) (⟨(j 1).val, b1⟩ : Fin 128)) (by
      intro a
      match a with
      | ⟨0, _⟩ => show (j 0).val = lo + k * (0 + 1); omega
      | ⟨1, _⟩ => show (j 1).val = 0 + (j 1).val * (0 + 1); omega)]
    exact (nat2_val y _ _ _ rfl rfl).symm
  · rw [pad_apply_of_not_inside _ _ _ _ _ _ _ _ 0 (by
      intro hh
      have h2 : ((j 0).val - lo) / (0 + 1) < 8192 := hh.2.2
      omega), hz]
    unfold nat2
    rw [dif_neg fun h => hk h.1]

/-- Columns moved right by `lo`, zeros before and after. -/
theorem pad_columns {lo hi : ℕ} (y : FVec Ideal ⟨2, ![8192, 128]⟩ .f32) {u : Shape} (z : u.Idx → EReal) (hz : ∀ e, z e = 0) (p) (hu : 0 < u.numel)
    (j : (⟨2, ![8192, 512]⟩ : Shape).Idx) :
    pad (s := ⟨2, ![8192, 128]⟩) ⟨2, ![8192, 512]⟩ ![0, lo] ![0, hi] ![0, 0] y z p hu j
      = if lo ≤ (j 1).val ∧ (j 1).val < lo + 128 then nat2 y (j 0).val ((j 1).val - lo) else 0 := by
  have b0 : (j 0).val < 8192 := (j 0).isLt
  by_cases hk : lo ≤ (j 1).val ∧ (j 1).val < lo + 128
  · rw [if_pos hk, pad_apply_of_inside _ _ _ _ _ _ _ _ (ix2 (⟨(j 0).val, b0⟩ : Fin 8192) (⟨(j 1).val - lo, by omega⟩ : Fin 128)) (by
      intro a
      match a with
      | ⟨0, _⟩ => show (j 0).val = 0 + (j 0).val * (0 + 1); omega
      | ⟨1, _⟩ => show (j 1).val = lo + ((j 1).val - lo) * (0 + 1); omega)]
    exact (nat2_val y _ _ _ rfl rfl).symm
  · rw [if_neg hk, pad_apply_of_not_inside _ _ _ _ _ _ _ _ 1 (by
      intro hh
      have h1 : lo ≤ (j 1).val := hh.1
      have h2 : ((j 1).val - lo) / (0 + 1) < 128 := hh.2.2
      omega), hz]

/-- One plane of the weights' gradient, zeros in the others. -/
theorem pad_plane {lo hi : ℕ} (y : FVec Ideal ⟨3, ![1, 128, 256]⟩ .f32) {u : Shape} (z : u.Idx → EReal) (hz : ∀ e, z e = 0) (p) (hu : 0 < u.numel)
    (j : (⟨3, ![4, 128, 256]⟩ : Shape).Idx) :
    pad (s := ⟨3, ![1, 128, 256]⟩) ⟨3, ![4, 128, 256]⟩ ![lo, 0, 0] ![hi, 0, 0] ![0, 0, 0] y z p hu j
      = if (j 0).val = lo then nat3 y 0 (j 1).val (j 2).val else 0 := by
  have b1 : (j 1).val < 128 := (j 1).isLt
  have b2 : (j 2).val < 256 := (j 2).isLt
  by_cases hk : (j 0).val = lo
  · rw [if_pos hk, pad_apply_of_inside _ _ _ _ _ _ _ _ (ix3 (0 : Fin 1) (⟨(j 1).val, b1⟩ : Fin 128) (⟨(j 2).val, b2⟩ : Fin 256)) (by
      intro a
      match a with
      | ⟨0, _⟩ => show (j 0).val = lo + 0 * (0 + 1); omega
      | ⟨1, _⟩ => show (j 1).val = 0 + (j 1).val * (0 + 1); omega
      | ⟨2, _⟩ => show (j 2).val = 0 + (j 2).val * (0 + 1); omega)]
    exact (nat3_val y _ _ _ _ rfl rfl rfl).symm
  · rw [if_neg hk, pad_apply_of_not_inside _ _ _ _ _ _ _ _ 0 (by
      intro hh
      have h1 : lo ≤ (j 0).val := hh.1
      have h2 : ((j 0).val - lo) / (0 + 1) < 1 := hh.2.2
      omega), hz]

/-- The padding's zero. -/
theorem zero_word {u : Shape} (e : u.Idx) : constant (F := Ideal) u .f32 0x00000000#32 e = (0 : EReal) := by
  show Ideal.ofBits .f32 0x00000000#32 = 0
  exact Idealize.ShloMosaic.Ideal.ofBits_zero_f32

/-! ## Group 0 -/

theorem product_0 (i : (⟨2, ![8192, 128]⟩ : Shape).Idx) : val_main_v149 (F := Ideal) x0 x2 i = back (nat2 x0) (nat3 x2) 0 (i 0).val (i 1).val := by
  rw [val_main_v149_apply]
  refine Finset.sum_congr rfl fun k _ => congrArg₂ (· * ·) ?_ ?_
  · rw [val_main_v126_apply, val_main_v125_apply]
    refine (nat2_val x0 _ _ _ rfl ?_).symm
    show k.val = 256 * 0 + k.val
    omega
  · have h0 : (i 1).val < 128 := (i 1).isLt
    have h1 : k.val < 256 := k.isLt
    rw [val_main_v113_apply, val_main_v112_apply, val_main_v0_apply]
    refine (nat3_val x2 _ _ _ _ rfl ?_ ?_).symm
    · show ((i 1).val * 256 + k.val) / 256 % 128 = (i 1).val
      omega
    · show ((i 1).val * 256 + k.val) % 256 = k.val
      omega

theorem share_0 (i : (⟨2, ![8192, 128]⟩ : Shape).Idx) : val_main_v231 (F := Ideal) x0 x2 i = wide x0 x2 0 (i 0).val (i 1).val := by
  rw [val_main_v231_apply, product_0, val_main_v230_apply, val_main_v16_apply, val_main_v15_apply, val_main_v14_apply,
    val_main_v13_apply, val_main_c_2_apply, val_main_v3_apply, val_main_v2_apply, val_main_c_apply, val_main_v1_apply]
  unfold wide
  rw [if_pos (show (i 0).val < 8192 from (i 0).isLt)]
  exact congrArg (Ideal.div _) (count_host 2 (i 0).val)

theorem share_nat_0 (t n : ℕ) (hn : n < 128) : nat2 (val_main_v231 (F := Ideal) x0 x2) t n = wide x0 x2 0 t n := by
  by_cases ht : t < 8192
  · exact (nat2_val (R := 8192) (C := 128) _ (ix2 (⟨t, ht⟩ : Fin 8192) (⟨n, hn⟩ : Fin 128)) t n rfl rfl).trans (share_0 x0 x2 _)
  · refine (dif_neg fun h => ht h.1).trans ?_
    unfold wide
    rw [if_neg ht]

theorem gathered_0 (i : (⟨2, ![8192, 128]⟩ : Shape).Idx) :
    val_main_v236 (F := Ideal) x0 x2 i = ∑ k ∈ Finset.range 2, wide x0 x2 0 (k + (i 0).val) (i 1).val := by
  have hn : (i 1).val < 128 := (i 1).isLt
  rw [val_main_v236_apply, val_main_v234_apply]
  have h1 : val_main_v232 (F := Ideal) x0 x2 (idx_main_v236 i) = nat2 (val_main_v231 (F := Ideal) x0 x2) (1 + (i 0).val) (i 1).val :=
    pad_rows _ _ zero_word _ _ (1 + (i 0).val) (idx_main_v236 i) (by show 2 + (i 0).val = 1 + (1 + (i 0).val); omega)
  have h2 : val_main_v233 (F := Ideal) x0 x2 (idx_main_v236 i) = nat2 (val_main_v231 (F := Ideal) x0 x2) (0 + (i 0).val) (i 1).val :=
    pad_rows _ _ zero_word _ _ (0 + (i 0).val) (idx_main_v236 i) (by show 2 + (i 0).val = 2 + (0 + (i 0).val); omega)
  rw [h1, h2,
    ← Finset.sum_range_reflect, sum_two]
  show (nat2 _ (1 + (i 0).val) (i 1).val + nat2 _ (0 + (i 0).val) (i 1).val) = _
  simp only [share_nat_0 x0 x2 _ _ hn]

theorem total_0 (i : (⟨2, ![8192, 128]⟩ : Shape).Idx) : val_main_v237 (F := Ideal) x0 x2 i = channel x0 x2 0 (i 0).val (i 1).val := by
  rw [val_main_v237_apply, val_main_v229_apply, product_0, gathered_0]
  unfold channel
  rw [sub_eq_add_neg, add_comm]
  rfl

theorem columns_0 (i : (⟨2, ![8192, 512]⟩ : Shape).Idx) : val_main_v238 (F := Ideal) x0 x2 i
    = if 0 ≤ (i 1).val ∧ (i 1).val < 0 + 128 then channel x0 x2 0 (i 0).val ((i 1).val - 0) else 0 := by
  unfold val_main_v238
  refine (pad_columns _ _ zero_word _ _ i).trans ?_
  by_cases h : 0 ≤ (i 1).val ∧ (i 1).val < 0 + 128
  · rw [if_pos h, if_pos h]
    exact (nat2_val (R := 8192) (C := 128) _ (ix2 (⟨(i 0).val, (i 0).isLt⟩ : Fin 8192) (⟨(i 1).val - 0, by omega⟩ : Fin 128)) _ _ rfl rfl).trans (total_0 x0 x2 _)
  · rw [if_neg h, if_neg h]

theorem plane_0 (i : (⟨3, ![4, 128, 256]⟩ : Shape).Idx) : val_main_v151 (F := Ideal) x0 x1 i
    = if (i 0).val = 0 then weight x0 x1 0 (i 1).val (i 2).val else 0 := by
  unfold val_main_v151
  refine (pad_plane _ _ zero_word _ _ i).trans ?_
  by_cases h : (i 0).val = 0
  · rw [if_pos h, if_pos h]
    refine (nat3_val (A := 1) (R := 128) (C := 256) _ (ix3 (0 : Fin 1) (⟨(i 1).val, (i 1).isLt⟩ : Fin 128) (⟨(i 2).val, (i 2).isLt⟩ : Fin 256)) _ _ _ rfl rfl rfl).trans ?_
    rw [val_main_v150_apply, val_main_v148_apply, val_main_v147_apply]
    refine Finset.sum_congr rfl fun t _ => (mul_comm _ _).trans (congrArg₂ (· * ·) ?_ ?_)
    · exact (nat2_val (R := 8192) (C := 128) (val_main_v19 (F := Ideal) x1) _ _ _ rfl rfl).symm
    · rw [val_main_v126_apply, val_main_v125_apply]
      refine (nat2_val x0 _ _ _ rfl ?_).symm
      show (i 2).val = 256 * 0 + (i 2).val
      omega
  · rw [if_neg h, if_neg h]

/-! ## Group 1 -/

theorem product_1 (i : (⟨2, ![8192, 128]⟩ : Shape).Idx) : val_main_v143 (F := Ideal) x0 x2 i = back (nat2 x0) (nat3 x2) 1 (i 0).val (i 1).val := by
  rw [val_main_v143_apply]
  refine Finset.sum_congr rfl fun k _ => congrArg₂ (· * ·) ?_ ?_
  · rw [val_main_v127_apply, val_main_v125_apply]
    refine (nat2_val x0 _ _ _ rfl ?_).symm
    show 256 + k.val = 256 * 1 + k.val
    omega
  · have h0 : (i 1).val < 128 := (i 1).isLt
    have h1 : k.val < 256 := k.isLt
    rw [val_main_v116_apply, val_main_v115_apply, val_main_v0_apply]
    refine (nat3_val x2 _ _ _ _ rfl ?_ ?_).symm
    · show ((i 1).val * 256 + k.val) / 256 % 128 = (i 1).val
      omega
    · show ((i 1).val * 256 + k.val) % 256 = k.val
      omega

theorem share_1 (i : (⟨2, ![8192, 128]⟩ : Shape).Idx) : val_main_v216 (F := Ideal) x0 x2 i = wide x0 x2 1 (i 0).val (i 1).val := by
  rw [val_main_v216_apply, product_1, val_main_v215_apply, val_main_v36_apply, val_main_v35_apply, val_main_v34_apply,
    val_main_v33_apply, val_main_c_6_apply, val_main_v3_apply, val_main_v2_apply, val_main_c_apply, val_main_v1_apply]
  unfold wide
  rw [if_pos (show (i 0).val < 8192 from (i 0).isLt)]
  exact congrArg (Ideal.div _) (count_host 4 (i 0).val)

theorem share_nat_1 (t n : ℕ) (hn : n < 128) : nat2 (val_main_v216 (F := Ideal) x0 x2) t n = wide x0 x2 1 t n := by
  by_cases ht : t < 8192
  · exact (nat2_val (R := 8192) (C := 128) _ (ix2 (⟨t, ht⟩ : Fin 8192) (⟨n, hn⟩ : Fin 128)) t n rfl rfl).trans (share_1 x0 x2 _)
  · refine (dif_neg fun h => ht h.1).trans ?_
    unfold wide
    rw [if_neg ht]

theorem gathered_1 (i : (⟨2, ![8192, 128]⟩ : Shape).Idx) :
    val_main_v225 (F := Ideal) x0 x2 i = ∑ k ∈ Finset.range 4, wide x0 x2 1 (k + (i 0).val) (i 1).val := by
  have hn : (i 1).val < 128 := (i 1).isLt
  rw [val_main_v225_apply, val_main_v223_apply, val_main_v221_apply, val_main_v219_apply]
  have h1 : val_main_v217 (F := Ideal) x0 x2 (idx_main_v225 i) = nat2 (val_main_v216 (F := Ideal) x0 x2) (3 + (i 0).val) (i 1).val :=
    pad_rows _ _ zero_word _ _ (3 + (i 0).val) (idx_main_v225 i) (by show 4 + (i 0).val = 1 + (3 + (i 0).val); omega)
  have h2 : val_main_v218 (F := Ideal) x0 x2 (idx_main_v225 i) = nat2 (val_main_v216 (F := Ideal) x0 x2) (2 + (i 0).val) (i 1).val :=
    pad_rows _ _ zero_word _ _ (2 + (i 0).val) (idx_main_v225 i) (by show 4 + (i 0).val = 2 + (2 + (i 0).val); omega)
  have h3 : val_main_v220 (F := Ideal) x0 x2 (idx_main_v225 i) = nat2 (val_main_v216 (F := Ideal) x0 x2) (1 + (i 0).val) (i 1).val :=
    pad_rows _ _ zero_word _ _ (1 + (i 0).val) (idx_main_v225 i) (by show 4 + (i 0).val = 3 + (1 + (i 0).val); omega)
  have h4 : val_main_v222 (F := Ideal) x0 x2 (idx_main_v225 i) = nat2 (val_main_v216 (F := Ideal) x0 x2) (0 + (i 0).val) (i 1).val :=
    pad_rows _ _ zero_word _ _ (0 + (i 0).val) (idx_main_v225 i) (by show 4 + (i 0).val = 4 + (0 + (i 0).val); omega)
  rw [h1, h2, h3, h4,
    ← Finset.sum_range_reflect, sum_four]
  show (((nat2 _ (3 + (i 0).val) (i 1).val + nat2 _ (2 + (i 0).val) (i 1).val) + nat2 _ (1 + (i 0).val) (i 1).val) + nat2 _ (0 + (i 0).val) (i 1).val) = _
  simp only [share_nat_1 x0 x2 _ _ hn]

theorem total_1 (i : (⟨2, ![8192, 128]⟩ : Shape).Idx) : val_main_v226 (F := Ideal) x0 x2 i = channel x0 x2 1 (i 0).val (i 1).val := by
  rw [val_main_v226_apply, val_main_v214_apply, product_1, gathered_1]
  unfold channel
  rw [sub_eq_add_neg, add_comm]
  rfl

theorem columns_1 (i : (⟨2, ![8192, 512]⟩ : Shape).Idx) : val_main_v227 (F := Ideal) x0 x2 i
    = if 128 ≤ (i 1).val ∧ (i 1).val < 128 + 128 then channel x0 x2 1 (i 0).val ((i 1).val - 128) else 0 := by
  unfold val_main_v227
  refine (pad_columns _ _ zero_word _ _ i).trans ?_
  by_cases h : 128 ≤ (i 1).val ∧ (i 1).val < 128 + 128
  · rw [if_pos h, if_pos h]
    exact (nat2_val (R := 8192) (C := 128) _ (ix2 (⟨(i 0).val, (i 0).isLt⟩ : Fin 8192) (⟨(i 1).val - 128, by omega⟩ : Fin 128)) _ _ rfl rfl).trans (total_1 x0 x2 _)
  · rw [if_neg h, if_neg h]

theorem plane_1 (i : (⟨3, ![4, 128, 256]⟩ : Shape).Idx) : val_main_v145 (F := Ideal) x0 x1 i
    = if (i 0).val = 1 then weight x0 x1 1 (i 1).val (i 2).val else 0 := by
  unfold val_main_v145
  refine (pad_plane _ _ zero_word _ _ i).trans ?_
  by_cases h : (i 0).val = 1
  · rw [if_pos h, if_pos h]
    refine (nat3_val (A := 1) (R := 128) (C := 256) _ (ix3 (0 : Fin 1) (⟨(i 1).val, (i 1).isLt⟩ : Fin 128) (⟨(i 2).val, (i 2).isLt⟩ : Fin 256)) _ _ _ rfl rfl rfl).trans ?_
    rw [val_main_v144_apply, val_main_v142_apply, val_main_v141_apply]
    refine Finset.sum_congr rfl fun t _ => (mul_comm _ _).trans (congrArg₂ (· * ·) ?_ ?_)
    · exact (nat2_val (R := 8192) (C := 128) (val_main_v39 (F := Ideal) x1) _ _ _ rfl rfl).symm
    · rw [val_main_v127_apply, val_main_v125_apply]
      refine (nat2_val x0 _ _ _ rfl ?_).symm
      show 256 + (i 2).val = 256 * 1 + (i 2).val
      omega
  · rw [if_neg h, if_neg h]

/-! ## Group 2 -/

theorem product_2 (i : (⟨2, ![8192, 128]⟩ : Shape).Idx) : val_main_v137 (F := Ideal) x0 x2 i = back (nat2 x0) (nat3 x2) 2 (i 0).val (i 1).val := by
  rw [val_main_v137_apply]
  refine Finset.sum_congr rfl fun k _ => congrArg₂ (· * ·) ?_ ?_
  · rw [val_main_v128_apply, val_main_v125_apply]
    refine (nat2_val x0 _ _ _ rfl ?_).symm
    show 512 + k.val = 256 * 2 + k.val
    omega
  · have h0 : (i 1).val < 128 := (i 1).isLt
    have h1 : k.val < 256 := k.isLt
    rw [val_main_v119_apply, val_main_v118_apply, val_main_v0_apply]
    refine (nat3_val x2 _ _ _ _ rfl ?_ ?_).symm
    · show ((i 1).val * 256 + k.val) / 256 % 128 = (i 1).val
      omega
    · show ((i 1).val * 256 + k.val) % 256 = k.val
      omega

theorem share_2 (i : (⟨2, ![8192, 128]⟩ : Shape).Idx) : val_main_v193 (F := Ideal) x0 x2 i = wide x0 x2 2 (i 0).val (i 1).val := by
  rw [val_main_v193_apply, product_2, val_main_v192_apply, val_main_v64_apply, val_main_v63_apply, val_main_v62_apply,
    val_main_v61_apply, val_main_c_10_apply, val_main_v3_apply, val_main_v2_apply, val_main_c_apply, val_main_v1_apply]
  unfold wide
  rw [if_pos (show (i 0).val < 8192 from (i 0).isLt)]
  exact congrArg (Ideal.div _) (count_host 8 (i 0).val)

theorem share_nat_2 (t n : ℕ) (hn : n < 128) : nat2 (val_main_v193 (F := Ideal) x0 x2) t n = wide x0 x2 2 t n := by
  by_cases ht : t < 8192
  · exact (nat2_val (R := 8192) (C := 128) _ (ix2 (⟨t, ht⟩ : Fin 8192) (⟨n, hn⟩ : Fin 128)) t n rfl rfl).trans (share_2 x0 x2 _)
  · refine (dif_neg fun h => ht h.1).trans ?_
    unfold wide
    rw [if_neg ht]

theorem gathered_2 (i : (⟨2, ![8192, 128]⟩ : Shape).Idx) :
    val_main_v210 (F := Ideal) x0 x2 i = ∑ k ∈ Finset.range 8, wide x0 x2 2 (k + (i 0).val) (i 1).val := by
  have hn : (i 1).val < 128 := (i 1).isLt
  rw [val_main_v210_apply, val_main_v208_apply, val_main_v206_apply, val_main_v204_apply, val_main_v202_apply, val_main_v200_apply, val_main_v198_apply, val_main_v196_apply]
  have h1 : val_main_v194 (F := Ideal) x0 x2 (idx_main_v210 i) = nat2 (val_main_v193 (F := Ideal) x0 x2) (7 + (i 0).val) (i 1).val :=
    pad_rows _ _ zero_word _ _ (7 + (i 0).val) (idx_main_v210 i) (by show 8 + (i 0).val = 1 + (7 + (i 0).val); omega)
  have h2 : val_main_v195 (F := Ideal) x0 x2 (idx_main_v210 i) = nat2 (val_main_v193 (F := Ideal) x0 x2) (6 + (i 0).val) (i 1).val :=
    pad_rows _ _ zero_word _ _ (6 + (i 0).val) (idx_main_v210 i) (by show 8 + (i 0).val = 2 + (6 + (i 0).val); omega)
  have h3 : val_main_v197 (F := Ideal) x0 x2 (idx_main_v210 i) = nat2 (val_main_v193 (F := Ideal) x0 x2) (5 + (i 0).val) (i 1).val :=
    pad_rows _ _ zero_word _ _ (5 + (i 0).val) (idx_main_v210 i) (by show 8 + (i 0).val = 3 + (5 + (i 0).val); omega)
  have h4 : val_main_v199 (F := Ideal) x0 x2 (idx_main_v210 i) = nat2 (val_main_v193 (F := Ideal) x0 x2) (4 + (i 0).val) (i 1).val :=
    pad_rows _ _ zero_word _ _ (4 + (i 0).val) (idx_main_v210 i) (by show 8 + (i 0).val = 4 + (4 + (i 0).val); omega)
  have h5 : val_main_v201 (F := Ideal) x0 x2 (idx_main_v210 i) = nat2 (val_main_v193 (F := Ideal) x0 x2) (3 + (i 0).val) (i 1).val :=
    pad_rows _ _ zero_word _ _ (3 + (i 0).val) (idx_main_v210 i) (by show 8 + (i 0).val = 5 + (3 + (i 0).val); omega)
  have h6 : val_main_v203 (F := Ideal) x0 x2 (idx_main_v210 i) = nat2 (val_main_v193 (F := Ideal) x0 x2) (2 + (i 0).val) (i 1).val :=
    pad_rows _ _ zero_word _ _ (2 + (i 0).val) (idx_main_v210 i) (by show 8 + (i 0).val = 6 + (2 + (i 0).val); omega)
  have h7 : val_main_v205 (F := Ideal) x0 x2 (idx_main_v210 i) = nat2 (val_main_v193 (F := Ideal) x0 x2) (1 + (i 0).val) (i 1).val :=
    pad_rows _ _ zero_word _ _ (1 + (i 0).val) (idx_main_v210 i) (by show 8 + (i 0).val = 7 + (1 + (i 0).val); omega)
  have h8 : val_main_v207 (F := Ideal) x0 x2 (idx_main_v210 i) = nat2 (val_main_v193 (F := Ideal) x0 x2) (0 + (i 0).val) (i 1).val :=
    pad_rows _ _ zero_word _ _ (0 + (i 0).val) (idx_main_v210 i) (by show 8 + (i 0).val = 8 + (0 + (i 0).val); omega)
  rw [h1, h2, h3, h4, h5, h6, h7, h8,
    ← Finset.sum_range_reflect, sum_eight]
  show (((((((nat2 _ (7 + (i 0).val) (i 1).val + nat2 _ (6 + (i 0).val) (i 1).val) + nat2 _ (5 + (i 0).val) (i 1).val) + nat2 _ (4 + (i 0).val) (i 1).val) + nat2 _ (3 + (i 0).val) (i 1).val) + nat2 _ (2 + (i 0).val) (i 1).val) + nat2 _ (1 + (i 0).val) (i 1).val) + nat2 _ (0 + (i 0).val) (i 1).val) = _
  simp only [share_nat_2 x0 x2 _ _ hn]

theorem total_2 (i : (⟨2, ![8192, 128]⟩ : Shape).Idx) : val_main_v211 (F := Ideal) x0 x2 i = channel x0 x2 2 (i 0).val (i 1).val := by
  rw [val_main_v211_apply, val_main_v191_apply, product_2, gathered_2]
  unfold channel
  rw [sub_eq_add_neg, add_comm]
  rfl

theorem columns_2 (i : (⟨2, ![8192, 512]⟩ : Shape).Idx) : val_main_v212 (F := Ideal) x0 x2 i
    = if 256 ≤ (i 1).val ∧ (i 1).val < 256 + 128 then channel x0 x2 2 (i 0).val ((i 1).val - 256) else 0 := by
  unfold val_main_v212
  refine (pad_columns _ _ zero_word _ _ i).trans ?_
  by_cases h : 256 ≤ (i 1).val ∧ (i 1).val < 256 + 128
  · rw [if_pos h, if_pos h]
    exact (nat2_val (R := 8192) (C := 128) _ (ix2 (⟨(i 0).val, (i 0).isLt⟩ : Fin 8192) (⟨(i 1).val - 256, by omega⟩ : Fin 128)) _ _ rfl rfl).trans (total_2 x0 x2 _)
  · rw [if_neg h, if_neg h]

theorem plane_2 (i : (⟨3, ![4, 128, 256]⟩ : Shape).Idx) : val_main_v139 (F := Ideal) x0 x1 i
    = if (i 0).val = 2 then weight x0 x1 2 (i 1).val (i 2).val else 0 := by
  unfold val_main_v139
  refine (pad_plane _ _ zero_word _ _ i).trans ?_
  by_cases h : (i 0).val = 2
  · rw [if_pos h, if_pos h]
    refine (nat3_val (A := 1) (R := 128) (C := 256) _ (ix3 (0 : Fin 1) (⟨(i 1).val, (i 1).isLt⟩ : Fin 128) (⟨(i 2).val, (i 2).isLt⟩ : Fin 256)) _ _ _ rfl rfl rfl).trans ?_
    rw [val_main_v138_apply, val_main_v136_apply, val_main_v135_apply]
    refine Finset.sum_congr rfl fun t _ => (mul_comm _ _).trans (congrArg₂ (· * ·) ?_ ?_)
    · exact (nat2_val (R := 8192) (C := 128) (val_main_v67 (F := Ideal) x1) _ _ _ rfl rfl).symm
    · rw [val_main_v128_apply, val_main_v125_apply]
      refine (nat2_val x0 _ _ _ rfl ?_).symm
      show 512 + (i 2).val = 256 * 2 + (i 2).val
      omega
  · rw [if_neg h, if_neg h]

/-! ## Group 3 -/

theorem product_3 (i : (⟨2, ![8192, 128]⟩ : Shape).Idx) : val_main_v132 (F := Ideal) x0 x2 i = back (nat2 x0) (nat3 x2) 3 (i 0).val (i 1).val := by
  rw [val_main_v132_apply]
  refine Finset.sum_congr rfl fun k _ => congrArg₂ (· * ·) ?_ ?_
  · rw [val_main_v129_apply, val_main_v125_apply]
    refine (nat2_val x0 _ _ _ rfl ?_).symm
    show 768 + k.val = 256 * 3 + k.val
    omega
  · have h0 : (i 1).val < 128 := (i 1).isLt
    have h1 : k.val < 256 := k.isLt
    rw [val_main_v122_apply, val_main_v121_apply, val_main_v0_apply]
    refine (nat3_val x2 _ _ _ _ rfl ?_ ?_).symm
    · show ((i 1).val * 256 + k.val) / 256 % 128 = (i 1).val
      omega
    · show ((i 1).val * 256 + k.val) % 256 = k.val
      omega

theorem share_3 (i : (⟨2, ![8192, 128]⟩ : Shape).Idx) : val_main_v155 (F := Ideal) x0 x2 i = wide x0 x2 3 (i 0).val (i 1).val := by
  rw [val_main_v155_apply, product_3, val_main_v154_apply, val_main_v108_apply, val_main_v107_apply, val_main_v106_apply,
    val_main_v105_apply, val_main_c_14_apply, val_main_v3_apply, val_main_v2_apply, val_main_c_apply, val_main_v1_apply]
  unfold wide
  rw [if_pos (show (i 0).val < 8192 from (i 0).isLt)]
  exact congrArg (Ideal.div _) (count_host 16 (i 0).val)

theorem share_nat_3 (t n : ℕ) (hn : n < 128) : nat2 (val_main_v155 (F := Ideal) x0 x2) t n = wide x0 x2 3 t n := by
  by_cases ht : t < 8192
  · exact (nat2_val (R := 8192) (C := 128) _ (ix2 (⟨t, ht⟩ : Fin 8192) (⟨n, hn⟩ : Fin 128)) t n rfl rfl).trans (share_3 x0 x2 _)
  · refine (dif_neg fun h => ht h.1).trans ?_
    unfold wide
    rw [if_neg ht]

theorem gathered_3 (i : (⟨2, ![8192, 128]⟩ : Shape).Idx) :
    val_main_v188 (F := Ideal) x0 x2 i = ∑ k ∈ Finset.range 16, wide x0 x2 3 (k + (i 0).val) (i 1).val := by
  have hn : (i 1).val < 128 := (i 1).isLt
  rw [val_main_v188_apply, val_main_v186_apply, val_main_v184_apply, val_main_v182_apply, val_main_v180_apply, val_main_v178_apply, val_main_v176_apply, val_main_v174_apply, val_main_v172_apply, val_main_v170_apply, val_main_v168_apply, val_main_v166_apply, val_main_v164_apply, val_main_v162_apply, val_main_v160_apply, val_main_v158_apply]
  have h1 : val_main_v156 (F := Ideal) x0 x2 (idx_main_v188 i) = nat2 (val_main_v155 (F := Ideal) x0 x2) (15 + (i 0).val) (i 1).val :=
    pad_rows _ _ zero_word _ _ (15 + (i 0).val) (idx_main_v188 i) (by show 16 + (i 0).val = 1 + (15 + (i 0).val); omega)
  have h2 : val_main_v157 (F := Ideal) x0 x2 (idx_main_v188 i) = nat2 (val_main_v155 (F := Ideal) x0 x2) (14 + (i 0).val) (i 1).val :=
    pad_rows _ _ zero_word _ _ (14 + (i 0).val) (idx_main_v188 i) (by show 16 + (i 0).val = 2 + (14 + (i 0).val); omega)
  have h3 : val_main_v159 (F := Ideal) x0 x2 (idx_main_v188 i) = nat2 (val_main_v155 (F := Ideal) x0 x2) (13 + (i 0).val) (i 1).val :=
    pad_rows _ _ zero_word _ _ (13 + (i 0).val) (idx_main_v188 i) (by show 16 + (i 0).val = 3 + (13 + (i 0).val); omega)
  have h4 : val_main_v161 (F := Ideal) x0 x2 (idx_main_v188 i) = nat2 (val_main_v155 (F := Ideal) x0 x2) (12 + (i 0).val) (i 1).val :=
    pad_rows _ _ zero_word _ _ (12 + (i 0).val) (idx_main_v188 i) (by show 16 + (i 0).val = 4 + (12 + (i 0).val); omega)
  have h5 : val_main_v163 (F := Ideal) x0 x2 (idx_main_v188 i) = nat2 (val_main_v155 (F := Ideal) x0 x2) (11 + (i 0).val) (i 1).val :=
    pad_rows _ _ zero_word _ _ (11 + (i 0).val) (idx_main_v188 i) (by show 16 + (i 0).val = 5 + (11 + (i 0).val); omega)
  have h6 : val_main_v165 (F := Ideal) x0 x2 (idx_main_v188 i) = nat2 (val_main_v155 (F := Ideal) x0 x2) (10 + (i 0).val) (i 1).val :=
    pad_rows _ _ zero_word _ _ (10 + (i 0).val) (idx_main_v188 i) (by show 16 + (i 0).val = 6 + (10 + (i 0).val); omega)
  have h7 : val_main_v167 (F := Ideal) x0 x2 (idx_main_v188 i) = nat2 (val_main_v155 (F := Ideal) x0 x2) (9 + (i 0).val) (i 1).val :=
    pad_rows _ _ zero_word _ _ (9 + (i 0).val) (idx_main_v188 i) (by show 16 + (i 0).val = 7 + (9 + (i 0).val); omega)
  have h8 : val_main_v169 (F := Ideal) x0 x2 (idx_main_v188 i) = nat2 (val_main_v155 (F := Ideal) x0 x2) (8 + (i 0).val) (i 1).val :=
    pad_rows _ _ zero_word _ _ (8 + (i 0).val) (idx_main_v188 i) (by show 16 + (i 0).val = 8 + (8 + (i 0).val); omega)
  have h9 : val_main_v171 (F := Ideal) x0 x2 (idx_main_v188 i) = nat2 (val_main_v155 (F := Ideal) x0 x2) (7 + (i 0).val) (i 1).val :=
    pad_rows _ _ zero_word _ _ (7 + (i 0).val) (idx_main_v188 i) (by show 16 + (i 0).val = 9 + (7 + (i 0).val); omega)
  have h10 : val_main_v173 (F := Ideal) x0 x2 (idx_main_v188 i) = nat2 (val_main_v155 (F := Ideal) x0 x2) (6 + (i 0).val) (i 1).val :=
    pad_rows _ _ zero_word _ _ (6 + (i 0).val) (idx_main_v188 i) (by show 16 + (i 0).val = 10 + (6 + (i 0).val); omega)
  have h11 : val_main_v175 (F := Ideal) x0 x2 (idx_main_v188 i) = nat2 (val_main_v155 (F := Ideal) x0 x2) (5 + (i 0).val) (i 1).val :=
    pad_rows _ _ zero_word _ _ (5 + (i 0).val) (idx_main_v188 i) (by show 16 + (i 0).val = 11 + (5 + (i 0).val); omega)
  have h12 : val_main_v177 (F := Ideal) x0 x2 (idx_main_v188 i) = nat2 (val_main_v155 (F := Ideal) x0 x2) (4 + (i 0).val) (i 1).val :=
    pad_rows _ _ zero_word _ _ (4 + (i 0).val) (idx_main_v188 i) (by show 16 + (i 0).val = 12 + (4 + (i 0).val); omega)
  have h13 : val_main_v179 (F := Ideal) x0 x2 (idx_main_v188 i) = nat2 (val_main_v155 (F := Ideal) x0 x2) (3 + (i 0).val) (i 1).val :=
    pad_rows _ _ zero_word _ _ (3 + (i 0).val) (idx_main_v188 i) (by show 16 + (i 0).val = 13 + (3 + (i 0).val); omega)
  have h14 : val_main_v181 (F := Ideal) x0 x2 (idx_main_v188 i) = nat2 (val_main_v155 (F := Ideal) x0 x2) (2 + (i 0).val) (i 1).val :=
    pad_rows _ _ zero_word _ _ (2 + (i 0).val) (idx_main_v188 i) (by show 16 + (i 0).val = 14 + (2 + (i 0).val); omega)
  have h15 : val_main_v183 (F := Ideal) x0 x2 (idx_main_v188 i) = nat2 (val_main_v155 (F := Ideal) x0 x2) (1 + (i 0).val) (i 1).val :=
    pad_rows _ _ zero_word _ _ (1 + (i 0).val) (idx_main_v188 i) (by show 16 + (i 0).val = 15 + (1 + (i 0).val); omega)
  have h16 : val_main_v185 (F := Ideal) x0 x2 (idx_main_v188 i) = nat2 (val_main_v155 (F := Ideal) x0 x2) (0 + (i 0).val) (i 1).val :=
    pad_rows _ _ zero_word _ _ (0 + (i 0).val) (idx_main_v188 i) (by show 16 + (i 0).val = 16 + (0 + (i 0).val); omega)
  rw [h1, h2, h3, h4, h5, h6, h7, h8, h9, h10, h11, h12, h13, h14, h15, h16,
    ← Finset.sum_range_reflect, sum_sixteen]
  show (((((((((((((((nat2 _ (15 + (i 0).val) (i 1).val + nat2 _ (14 + (i 0).val) (i 1).val) + nat2 _ (13 + (i 0).val) (i 1).val) + nat2 _ (12 + (i 0).val) (i 1).val) + nat2 _ (11 + (i 0).val) (i 1).val) + nat2 _ (10 + (i 0).val) (i 1).val) + nat2 _ (9 + (i 0).val) (i 1).val) + nat2 _ (8 + (i 0).val) (i 1).val) + nat2 _ (7 + (i 0).val) (i 1).val) + nat2 _ (6 + (i 0).val) (i 1).val) + nat2 _ (5 + (i 0).val) (i 1).val) + nat2 _ (4 + (i 0).val) (i 1).val) + nat2 _ (3 + (i 0).val) (i 1).val) + nat2 _ (2 + (i 0).val) (i 1).val) + nat2 _ (1 + (i 0).val) (i 1).val) + nat2 _ (0 + (i 0).val) (i 1).val) = _
  simp only [share_nat_3 x0 x2 _ _ hn]

theorem total_3 (i : (⟨2, ![8192, 128]⟩ : Shape).Idx) : val_main_v189 (F := Ideal) x0 x2 i = channel x0 x2 3 (i 0).val (i 1).val := by
  rw [val_main_v189_apply, val_main_v153_apply, product_3, gathered_3]
  unfold channel
  rw [sub_eq_add_neg, add_comm]
  rfl

theorem columns_3 (i : (⟨2, ![8192, 512]⟩ : Shape).Idx) : val_main_v190 (F := Ideal) x0 x2 i
    = if 384 ≤ (i 1).val ∧ (i 1).val < 384 + 128 then channel x0 x2 3 (i 0).val ((i 1).val - 384) else 0 := by
  unfold val_main_v190
  refine (pad_columns _ _ zero_word _ _ i).trans ?_
  by_cases h : 384 ≤ (i 1).val ∧ (i 1).val < 384 + 128
  · rw [if_pos h, if_pos h]
    exact (nat2_val (R := 8192) (C := 128) _ (ix2 (⟨(i 0).val, (i 0).isLt⟩ : Fin 8192) (⟨(i 1).val - 384, by omega⟩ : Fin 128)) _ _ rfl rfl).trans (total_3 x0 x2 _)
  · rw [if_neg h, if_neg h]

theorem plane_3 (i : (⟨3, ![4, 128, 256]⟩ : Shape).Idx) : val_main_v134 (F := Ideal) x0 x1 i
    = if (i 0).val = 3 then weight x0 x1 3 (i 1).val (i 2).val else 0 := by
  unfold val_main_v134
  refine (pad_plane _ _ zero_word _ _ i).trans ?_
  by_cases h : (i 0).val = 3
  · rw [if_pos h, if_pos h]
    refine (nat3_val (A := 1) (R := 128) (C := 256) _ (ix3 (0 : Fin 1) (⟨(i 1).val, (i 1).isLt⟩ : Fin 128) (⟨(i 2).val, (i 2).isLt⟩ : Fin 256)) _ _ _ rfl rfl rfl).trans ?_
    rw [val_main_v133_apply, val_main_v131_apply, val_main_v130_apply]
    refine Finset.sum_congr rfl fun t _ => (mul_comm _ _).trans (congrArg₂ (· * ·) ?_ ?_)
    · exact (nat2_val (R := 8192) (C := 128) (val_main_v111 (F := Ideal) x1) _ _ _ rfl rfl).symm
    · rw [val_main_v129_apply, val_main_v125_apply]
      refine (nat2_val x0 _ _ _ rfl ?_).symm
      show 768 + (i 2).val = 256 * 3 + (i 2).val
      omega
  · rw [if_neg h, if_neg h]

/-! ## The results -/

/-- THE GRADIENT OF THE POOLED CHANNELS. -/
theorem v239 (i : (⟨2, ![8192, 512]⟩ : Shape).Idx) :
    val_main_v239 (F := Ideal) x0 x2 i = channel x0 x2 ((i 1).val / 128) (i 0).val ((i 1).val % 128) := by
  have b : (i 1).val < 512 := (i 1).isLt
  obtain ⟨g, n, hn, e⟩ : ∃ g n, n < 128 ∧ (i 1).val = 128 * g + n := ⟨(i 1).val / 128, (i 1).val % 128, Nat.mod_lt _ (by omega), by omega⟩
  rw [val_main_v239_apply, val_main_v228_apply, val_main_v213_apply, columns_0, columns_1, columns_2, columns_3]
  show ((_ + _) + _) + _ = (_ : EReal)
  rw [e, show (128 * g + n) / 128 = g by omega, show (128 * g + n) % 128 = n by omega]
  have hg : g = 0 ∨ g = 1 ∨ g = 2 ∨ g = 3 := by omega
  rcases hg with rfl | rfl | rfl | rfl
  · rw [if_neg (show ¬(384 ≤ 128 * 0 + n ∧ 128 * 0 + n < 384 + 128) by omega), if_neg (show ¬(256 ≤ 128 * 0 + n ∧ 128 * 0 + n < 256 + 128) by omega), if_neg (show ¬(128 ≤ 128 * 0 + n ∧ 128 * 0 + n < 128 + 128) by omega), if_pos (show (0 ≤ 128 * 0 + n ∧ 128 * 0 + n < 0 + 128) by omega), add_zero, add_zero, zero_add, show 128 * 0 + n - 0 = n by omega]
  · rw [if_neg (show ¬(384 ≤ 128 * 1 + n ∧ 128 * 1 + n < 384 + 128) by omega), if_neg (show ¬(256 ≤ 128 * 1 + n ∧ 128 * 1 + n < 256 + 128) by omega), if_pos (show (128 ≤ 128 * 1 + n ∧ 128 * 1 + n < 128 + 128) by omega), if_neg (show ¬(0 ≤ 128 * 1 + n ∧ 128 * 1 + n < 0 + 128) by omega), add_zero, zero_add, zero_add, show 128 * 1 + n - 128 = n by omega]
  · rw [if_neg (show ¬(384 ≤ 128 * 2 + n ∧ 128 * 2 + n < 384 + 128) by omega), if_pos (show (256 ≤ 128 * 2 + n ∧ 128 * 2 + n < 256 + 128) by omega), if_neg (show ¬(128 ≤ 128 * 2 + n ∧ 128 * 2 + n < 128 + 128) by omega), if_neg (show ¬(0 ≤ 128 * 2 + n ∧ 128 * 2 + n < 0 + 128) by omega), zero_add, add_zero, add_zero, show 128 * 2 + n - 256 = n by omega]
  · rw [if_pos (show (384 ≤ 128 * 3 + n ∧ 128 * 3 + n < 384 + 128) by omega), if_neg (show ¬(256 ≤ 128 * 3 + n ∧ 128 * 3 + n < 256 + 128) by omega), if_neg (show ¬(128 ≤ 128 * 3 + n ∧ 128 * 3 + n < 128 + 128) by omega), if_neg (show ¬(0 ≤ 128 * 3 + n ∧ 128 * 3 + n < 0 + 128) by omega), add_zero, add_zero, add_zero, show 128 * 3 + n - 384 = n by omega]

/-- THE FIRST RESULT: the gradient in the columns from 6144 on, 512 of them; the others are the last argument's. -/
theorem v243 (x3 : FVec Ideal S8192x6912 .bf16) (r : Fin 8192) (n : Fin 6912) :
    val_main_v243 (F := Ideal) x0 x2 x3 (ix2 r n)
      = if 6144 ≤ n.val ∧ n.val < 6656 then channel x0 x2 ((n.val - 6144) / 128) r.val ((n.val - 6144) % 128) else x3 (ix2 r n) := by
  have hv : ∀ i, val_main_v241 (F := Ideal) x0 x2 i = channel x0 x2 ((i 1).val / 128) (i 0).val ((i 1).val % 128) := fun i => v239 x0 x2 i
  have hx : ∀ i, x3 i = nat2 x3 (i 0).val (i 1).val := fun i => (nat2_val x3 i _ _ rfl rfl).symm
  have hn := n.isLt
  unfold val_main_v243
  rw [concatenate_apply]
  simp only [concatenateAt_cons, concatenateAt_singleton, val_main_v240_apply, val_main_v242_apply, hv, Shape.Idx.norm_def, hx]
  show (if h : n.val < 6144 then nat2 x3 r.val n.val
    else if h : n.val - 6144 < 512 then channel x0 x2 ((n.val - 6144) / 128) r.val ((n.val - 6144) % 128)
    else nat2 x3 r.val (6656 + (n.val - 6144 - 512)))
      = if 6144 ≤ n.val ∧ n.val < 6656 then channel x0 x2 ((n.val - 6144) / 128) r.val ((n.val - 6144) % 128) else nat2 x3 r.val n.val
  by_cases h0 : n.val < 6144
  · rw [dif_pos h0, if_neg (by omega)]
  rw [dif_neg h0]
  by_cases h1 : n.val - 6144 < 512
  · rw [dif_pos h1, if_pos (by omega)]
  · rw [dif_neg h1, if_neg (by omega), show 6656 + (n.val - 6144 - 512) = n.val by omega]

/-- THE GRADIENT OF THE WEIGHTS. -/
theorem v152 (i : (⟨3, ![4, 128, 256]⟩ : Shape).Idx) :
    val_main_v152 (F := Ideal) x0 x1 i = weight x0 x1 (i 0).val (i 1).val (i 2).val := by
  have b : (i 0).val < 4 := (i 0).isLt
  rw [val_main_v152_apply, val_main_v146_apply, val_main_v140_apply, plane_0, plane_1, plane_2, plane_3]
  show ((_ + _) + _) + _ = (_ : EReal)
  generalize (i 0).val = g at b ⊢
  have hg : g = 0 ∨ g = 1 ∨ g = 2 ∨ g = 3 := by omega
  rcases hg with rfl | rfl | rfl | rfl <;> simp

end Cert.PoolReference

end
-- ==== Proof.PoolHost.lean ====
/-
  The pooled channels as the host code in front of the pooling's gradient leaves them, over the extended reals: they are the
  reference's own, the four groups side by side.
-/
module

public import proofs.«01_k».proof.Proof.PoolReference
public import proofs.«01_k».proof.Proof.Gen.PoolBwdIdeal.Value

@[expose] public section

noncomputable section

namespace Cert.PoolProof

open Cert.PoolBwdIdeal Cert.PoolBwdIdeal.Gen Cert.PoolBwdIdeal.Value
open Cert.PoolBlock Cert.PoolReference
open Cert.NatRead
open Idealize.ShloMosaic hiding ix1 ix2 ix3 eq_ix2
open Idealize.ShloMosaic.TcCoe Idealize.ShloMosaic.ValueIdx

variable (m : (ℓ : Loc nD τ sig) → Buf (Elt Ideal) ℓ)

/-- The operands: the result's cotangent, the channels that are pooled, the weights, and the array whose columns the first
    result replaces. -/
abbrev ys (c : Dev nD) : FVec Ideal S8192x1024 .bf16 := m ((c : Thread nD τ).loc main_arg0)
abbrev ws (c : Dev nD) : FVec Ideal S4x128x256 .bf16 := m ((c : Thread nD τ).loc main_arg2)
abbrev ps (c : Dev nD) : FVec Ideal S8192x6912 .bf16 := m ((c : Thread nD τ).loc main_arg3)
abbrev us (c : Dev nD) : FVec Ideal S8192x512 .f32 := m ((c : Thread nD τ).loc main_arg1)

/-- The pooled channels of the four groups are the reference's. -/
theorem part_17 (c : Dev nD) : (V m c main_v17 : FVec Ideal S8192x128 .f32) = Cert.PoolBwdRefIdeal.Read.val_main_v19 (F := Ideal) (us m c) := by
  entry_read
  rfl

theorem part_36 (c : Dev nD) : (V m c main_v36 : FVec Ideal S8192x128 .f32) = Cert.PoolBwdRefIdeal.Read.val_main_v39 (F := Ideal) (us m c) := by
  entry_read
  rfl

theorem part_63 (c : Dev nD) : (V m c main_v63 : FVec Ideal S8192x128 .f32) = Cert.PoolBwdRefIdeal.Read.val_main_v67 (F := Ideal) (us m c) := by
  entry_read
  rfl

theorem part_106 (c : Dev nD) : (V m c main_v106 : FVec Ideal S8192x128 .f32) = Cert.PoolBwdRefIdeal.Read.val_main_v111 (F := Ideal) (us m c) := by
  entry_read
  rfl

/-- The first result's array is entered with the fourth operand's contents. -/
theorem alias_in (c : Dev nD) : (V m c main_v109_0 : FVec Ideal S8192x6912 .bf16) = ps m c := by
  entry_read
  rfl

/-- Four groups of channels side by side. -/
def pack (a b c d : FVec Ideal S8192x128 .f32) : FVec Ideal S8192x512 .f32 :=
  concatenate S8192x512 1 [⟨S8192x128, a⟩, ⟨S8192x128, b⟩, ⟨S8192x128, c⟩, ⟨S8192x128, d⟩] concatenates_S8192x128_S8192x128_S8192x128_S8192x128_S8192x512_d1

open Idealize.ShloMosaic.StableHlo in
/-- The operand's columns hold what the three operations before the call left. -/
theorem packed_parts (c : Dev nD) : (V m c main_v108 : FVec Ideal S8192x512 .bf16)
    = truncf (F := Ideal) .bf16 (pack (V m c main_v17) (V m c main_v36) (V m c main_v63) (V m c main_v106)) bitsLt_bf16_f32 := by
  obtain ⟨σ, h⟩ : ∃ σ : Valuation τ sig (Elt Ideal), ∀ r : Ref sig .tc, V m c r = after (List.drop 120 hostOps0) σ r :=
    ⟨after (List.take 120 hostOps0) (fun b => m (c, b)), fun r => by
      rw [← after_append, List.take_append_drop]⟩
  simp only [hostOps0, List.drop_succ_cons, List.drop_zero, after_cons, after_nil] at h
  have k : ∀ r : Ref sig .tc, r ≠ main_v107 → r ≠ main_v108 → r ≠ main_v109_0 → V m c r = σ r := fun r h1 h2 h3 =>
    (h r).trans ((unary_result_ne _ _ _ _ _ _ h3).trans ((unary_result_ne _ _ _ _ _ _ h2).trans (nary_result_ne _ _ _ _ _ _ h1)))
  have k8 : V m c main_v108 = truncf (F := Ideal) .bf16 (pack (σ main_v17) (σ main_v36) (σ main_v63) (σ main_v106)) bitsLt_bf16_f32 := by
    rw [h]
    refine (unary_result_ne main_arg3 main_v109_0 _ _ _ _ (r := main_v108) (by decide)).trans ?_
    refine (unary_result main_v107 main_v108 _ _ _ _).trans ?_
    refine congrArg (fun f : FVec Ideal S8192x512 .f32 => truncf (F := Ideal) .bf16 f bitsLt_bf16_f32) ?_
    exact nary_result _ _ _ _ _ _
  rw [k main_v17 (by decide) (by decide) (by decide), k main_v36 (by decide) (by decide) (by decide),
    k main_v63 (by decide) (by decide) (by decide), k main_v106 (by decide) (by decide) (by decide)]
  exact k8

theorem pack_at (f0 f1 f2 f3 : FVec Ideal S8192x128 .f32) (N : ℕ → ℕ → ℕ → EReal) (h0 : ∀ i, f0 i = N 0 (i 0).val (i 1).val)
    (h1 : ∀ i, f1 i = N 1 (i 0).val (i 1).val) (h2 : ∀ i, f2 i = N 2 (i 0).val (i 1).val) (h3 : ∀ i, f3 i = N 3 (i 0).val (i 1).val)
    (t : Fin 8192) (n : Fin 512) : pack f0 f1 f2 f3 (ix2 t n) = N (n.val / 128) t.val (n.val % 128) := by
  unfold pack
  rw [concatenate_apply]
  simp only [concatenateAt_cons, concatenateAt_singleton, Shape.Idx.norm_def, h0, h1, h2, h3]
  show (if h : n.val < 128 then N 0 t.val n.val
    else if h : n.val - 128 < 128 then N 1 t.val (n.val - 128)
    else if h : n.val - 128 - 128 < 128 then N 2 t.val (n.val - 128 - 128)
    else N 3 t.val (n.val - 128 - 128 - 128)) = _
  have hn := n.isLt
  by_cases g1 : n.val < 128
  · rw [dif_pos g1, show n.val / 128 = 0 by omega, show n.val % 128 = n.val by omega]
  rw [dif_neg g1]
  by_cases g2 : n.val - 128 < 128
  · rw [dif_pos g2, show n.val / 128 = 1 by omega, show n.val % 128 = n.val - 128 by omega]
  rw [dif_neg g2]
  by_cases g3 : n.val - 128 - 128 < 128
  · rw [dif_pos g3, show n.val / 128 = 2 by omega, show n.val % 128 = n.val - 128 - 128 by omega]
  · rw [dif_neg g3, show n.val / 128 = 3 by omega, show n.val % 128 = n.val - 128 - 128 - 128 by omega]

/-- The operand, entry by entry. -/
theorem packed (c : Dev nD) (t : Fin 8192) (n : Fin 512) :
    (V m c main_v108 : FVec Ideal S8192x512 .bf16) (ix2 t n) = nat2 (pooled (us m c) (n.val / 128)) t.val (n.val % 128) := by
  refine (congrFun (packed_parts m c) _).trans ?_
  show pack (V m c main_v17) (V m c main_v36) (V m c main_v63) (V m c main_v106) (ix2 t n) = _
  rw [part_17, part_36, part_63, part_106]
  exact pack_at _ _ _ _ (fun g t n => nat2 (pooled (us m c) g) t n) (fun i => (nat2_val _ i _ _ rfl rfl).symm) (fun i => (nat2_val _ i _ _ rfl rfl).symm)
    (fun i => (nat2_val _ i _ _ rfl rfl).symm) (fun i => (nat2_val _ i _ _ rfl rfl).symm) t n

end Cert.PoolProof

end
-- ==== Proof.Pool.lean ====
/-
  The pooling's gradient: what the kernel's run leaves in its two results, over the extended reals, is what the derivative of
  the pooling's lines computes. A point of the grid takes 512 tokens and looks sixteen tokens ahead; at the last point there
  are none, and the kernel takes zeros. The weights' gradient is gathered from point to point.
-/
module

public import proofs.«01_k».proof.Proof.PoolHost
public import proofs.«01_k».proof.Proof.Rows
public import Idealize.ShloMosaic.Lib.Claim

@[expose] public section

noncomputable section

namespace Cert.PoolProof

open Cert.PoolBwdIdeal Cert.PoolBwdIdeal.Gen Cert.PoolBwdIdeal.Value
open Cert.PoolBlock Cert.PoolReference Cert.Rows
open Cert.NatRead
open Idealize.ShloMosaic hiding ix1 ix2 ix3 eq_ix2
open Idealize.ShloMosaic.TcCoe Idealize.ShloMosaic.ValueIdx
open scoped BigOperators

variable (m : (ℓ : Loc nD τ sig) → Buf (Elt Ideal) ℓ)

/-- The point of the grid at the `p`-th block of rows. -/
abbrev pt (p : Fin 16) : Fin cfg0.N := ⟨p.val, lt_of_lt_of_eq p.isLt N_0.symm⟩

theorem coord : ∀ p : Fin 16, (grid0.coords (pt p) 0).val = p.val := by decide +kernel
theorem index_0 : ∀ p : Fin 16, win0_0.index (pt p) 0 = p.val ∧ win0_0.index (pt p) 1 = 0 := by decide +kernel
theorem index_1 : ∀ p : Fin 16, p.val < 15 → win0_1.index (pt p) 0 = 32 * p.val + 32 ∧ win0_1.index (pt p) 1 = 0 := by decide +kernel
theorem index_2 : ∀ p : Fin 16, win0_2.index (pt p) 0 = p.val ∧ win0_2.index (pt p) 1 = 0 := by decide +kernel
theorem index_3 : ∀ p : Fin 16, win0_3.index (pt p) 0 = 0 ∧ win0_3.index (pt p) 1 = 0 ∧ win0_3.index (pt p) 2 = 0 := by decide +kernel
theorem index_4 : ∀ p : Fin 16, win0_4.index (pt p) 0 = p.val ∧ win0_4.index (pt p) 1 = 12 := by decide +kernel
theorem index_5 : ∀ p : Fin 16, win0_5.index (pt p) 0 = 0 ∧ win0_5.index (pt p) 1 = 0 ∧ win0_5.index (pt p) 2 = 0 := by decide +kernel
theorem flush_4 : ∀ p : Fin 16, (cfg0.win 4).flush (pt p) = true := by decide +kernel

/-- The first result's blocks lie inside its array. -/
theorem fits_4 : ∀ (p : Fin 16) (a : Fin 2), win0_4.xsize (grid0.coords (pt p)) a = 512 := by decide +kernel

theorem index_lt (p : Fin 16) (y : (win0_4.xblock (grid0.coords (pt p))).Idx) (a : Fin 2) : (y a).val < 512 :=
  lt_of_lt_of_eq (show (y a).val < win0_4.xsize (grid0.coords (pt p)) a from (y a).isLt) (fits_4 p a)

/-- What a point writes back of its block, at an index. -/
theorem cut_at (i : grid0.Coords) (X : FVec Ideal S512x512 .bf16) (y : (win0_4.xblock i).Idx) :
    win0_4.cut i X y = X (win0_4.xinj i y) := rfl

/-! ## The blocks a point reads -/

theorem block_0 (c : Dev nD) (p : Fin 16) (i : S512x1024.Idx) :
    (iblk m c 0 (pt p) : FVec Ideal S512x1024 .bf16) i = nat2 (ys m c) (512 * p.val + (i 0).val) (i 1).val := by
  obtain ⟨h0, h1⟩ := index_0 p
  unfold iblk
  rw [View.read_apply]
  show V m c main_arg0 _ = _
  rw [V_main_arg0]
  refine (nat2_val (ys m c) _ _ _ ?_ ?_).symm
  · show win0_0.index (pt p) 0 * 512 + 1 * (i 0).val = 512 * p.val + (i 0).val; rw [h0]; omega
  · show win0_0.index (pt p) 1 * 1024 + 1 * (i 1).val = (i 1).val; rw [h1]; omega

theorem block_1 (c : Dev nD) (p : Fin 16) (hp : p.val < 15) (i : S16x1024.Idx) :
    (iblk m c 1 (pt p) : FVec Ideal S16x1024 .bf16) i = nat2 (ys m c) (512 * p.val + 512 + (i 0).val) (i 1).val := by
  obtain ⟨h0, h1⟩ := index_1 p hp
  unfold iblk
  rw [View.read_apply]
  show V m c main_arg0 _ = _
  rw [V_main_arg0]
  refine (nat2_val (ys m c) _ _ _ ?_ ?_).symm
  · show win0_1.index (pt p) 0 * 16 + 1 * (i 0).val = 512 * p.val + 512 + (i 0).val; rw [h0]; omega
  · show win0_1.index (pt p) 1 * 1024 + 1 * (i 1).val = (i 1).val; rw [h1]; omega

theorem block_2 (c : Dev nD) (p : Fin 16) (r : Fin 512) (n : Fin 512) :
    (iblk m c 2 (pt p) : FVec Ideal S512x512 .bf16) (ix2 r n)
      = nat2 (pooled (us m c) (n.val / 128)) (512 * p.val + r.val) (n.val % 128) := by
  obtain ⟨h0, h1⟩ := index_2 p
  refine Eq.trans ?_ (packed m c (⟨512 * p.val + r.val, by omega⟩ : Fin 8192) n)
  unfold iblk
  rw [View.read_apply]
  show V m c main_v108 _ = V m c main_v108 _
  congr 1
  funext a
  apply Fin.ext
  match a with
  | ⟨0, _⟩ => show win0_2.index (pt p) 0 * 512 + 1 * r.val = 512 * p.val + r.val; rw [h0]; omega
  | ⟨1, _⟩ => show win0_2.index (pt p) 1 * 512 + 1 * n.val = n.val; rw [h1]; omega

theorem block_3 (c : Dev nD) (p : Fin 16) : (iblk m c 3 (pt p) : FVec Ideal S4x128x256 .bf16) = ws m c := by
  obtain ⟨h0, h1, h2⟩ := index_3 p
  funext i
  unfold iblk
  rw [View.read_apply]
  show V m c main_arg2 _ = m (c.tc.loc main_arg2) _
  rw [V_main_arg2]
  congr 1
  funext a
  apply Fin.ext
  match a with
  | ⟨0, _⟩ => show win0_3.index (pt p) 0 * 4 + 1 * (i 0).val = (i 0).val; rw [h0]; omega
  | ⟨1, _⟩ => show win0_3.index (pt p) 1 * 128 + 1 * (i 1).val = (i 1).val; rw [h1]; omega
  | ⟨2, _⟩ => show win0_3.index (pt p) 2 * 256 + 1 * (i 2).val = (i 2).val; rw [h2]; omega

theorem own_nat (c : Dev nD) (p : Fin 16) (q d : ℕ) (hq : q < 512) (hd : d < 1024) :
    nat2 (iblk m c 0 (pt p) : FVec Ideal S512x1024 .bf16) q d = nat2 (ys m c) (512 * p.val + q) d :=
  (nat2_val (R := 512) (C := 1024) _ (ix2 (⟨q, hq⟩ : Fin 512) (⟨d, hd⟩ : Fin 1024)) _ _ rfl rfl).trans (block_0 m c p _)

theorem next_nat (c : Dev nD) (p : Fin 16) (hp : p.val < 15) (q d : ℕ) (hq : q < 16) (hd : d < 1024) :
    nat2 (iblk m c 1 (pt p) : FVec Ideal S16x1024 .bf16) q d = nat2 (ys m c) (512 * p.val + 512 + q) d :=
  (nat2_val (R := 16) (C := 1024) _ (ix2 (⟨q, hq⟩ : Fin 16) (⟨d, hd⟩ : Fin 1024)) _ _ rfl rfl).trans (block_1 m c p hp _)

/-! ## The pooled channels' gradient -/

theorem back_own (c : Dev nD) (p : Fin 16) (g q n : ℕ) (hg : g < 4) (hq : q < 512) :
    back (nat2 (iblk m c 0 (pt p) : FVec Ideal S512x1024 .bf16)) (nat3 (ws m c)) g q n
      = back (nat2 (ys m c)) (nat3 (ws m c)) g (512 * p.val + q) n := by
  unfold back
  exact Finset.sum_congr rfl fun k _ => congrArg (· * _) (own_nat m c p q _ hq (by omega))

theorem back_next (c : Dev nD) (p : Fin 16) (hp : p.val < 15) (g q n : ℕ) (hg : g < 4) (hq : q < 16) :
    back (nat2 (iblk m c 1 (pt p) : FVec Ideal S16x1024 .bf16)) (nat3 (ws m c)) g q n
      = back (nat2 (ys m c)) (nat3 (ws m c)) g (512 * p.val + 512 + q) n := by
  unfold back
  exact Finset.sum_congr rfl fun k _ => congrArg (· * _) (next_nat m c p hp q _ hq (by omega))

/-- The counts past the last token are not zero. -/
theorem count_word_ne : ∀ (g : Fin 4) (q : Fin 16),
    (IntOp.minsi (BitVec.ofNat 32 (8192 + q.val + 1)) (BitVec.ofNat 32 (2 ^ (g.val + 1)))).toInt ≠ 0 := by decide +kernel

theorem count_ne (g q : ℕ) (hg : g < 4) (hq : q < 16) : PoolBlock.count (2 ^ (g + 1)) (8192 + q) ≠ 0 := by
  have h := count_word_ne ⟨g, hg⟩ ⟨q, hq⟩
  show (((IntOp.minsi (BitVec.ofNat 32 (8192 + q + 1)) (BitVec.ofNat 32 (2 ^ (g + 1)))).toInt : ℝ) : EReal) ≠ 0
  exact_mod_cast h

theorem spread_wide (c : Dev nD) (p : Fin 16) (g q n : ℕ) (hg : g < 4) (hq : q < 528) :
    spread (grid0.coords (pt p)) (iblk m c 0 (pt p)) (iblk m c 1 (pt p)) (ws m c) g (2 ^ (g + 1)) q n
      = wide (ys m c) (ws m c) g (512 * p.val + q) n := by
  have hp := p.isLt
  unfold spread wide
  rw [coord]
  by_cases h : q < 512
  · rw [if_pos h, if_pos (by omega), back_own m c p g q n hg h]
  rw [if_neg h]
  by_cases h15 : p.val < 15
  · rw [if_pos h15, if_pos (by omega), back_next m c p h15 g (q - 512) n hg (by omega), show 512 * p.val + 512 + (q - 512) = 512 * p.val + q by omega]
  · rw [if_neg h15, if_neg (by omega)]
    have hc := count_ne g (q - 512) hg (by omega)
    rw [show 8192 + (q - 512) = 512 * p.val + q by omega] at hc
    unfold Ideal.div
    rw [if_neg hc, zero_mul]

theorem block_channel (c : Dev nD) (p : Fin 16) (g r n : ℕ) (hg : g < 4) (hr : r < 512) :
    blockDu (grid0.coords (pt p)) (iblk m c 0 (pt p)) (iblk m c 1 (pt p)) (iblk m c 3 (pt p)) g r n
      = channel (ys m c) (ws m c) g (512 * p.val + r) n := by
  have hw : 2 ^ (g + 1) ≤ 16 := by
    have h : g = 0 ∨ g = 1 ∨ g = 2 ∨ g = 3 := by omega
    rcases h with rfl | rfl | rfl | rfl <;> decide
  rw [block_3]
  unfold blockDu channel
  rw [back_own m c p g r n hg hr]
  refine congrArg (· - _) (Finset.sum_congr rfl fun k hk => ?_)
  have hk' := Finset.mem_range.mp hk
  rw [spread_wide m c p g (k + r) n hg (by omega), show 512 * p.val + (k + r) = k + (512 * p.val + r) by omega]

theorem outs_congr (c : Dev nD) {n n' : ℕ} (e : n = n') (h : n < cfg0.N) (h' : n' < cfg0.N) : outsAt0 m c n h = outsAt0 m c n' h' := by
  subst e
  rfl

/-- THE FIRST RESULT in the columns that the kernel writes. -/
theorem value_inside (c : Dev nD) (r : Fin 8192) (n : Fin 512) :
    ((dats m 0 c).arrAt 4 cfg0.N : FVec Ideal S8192x6912 .bf16) (ix2 r (⟨6144 + n.val, by omega⟩ : Fin 6912))
      = channel (ys m c) (ws m c) (n.val / 128) r.val (n.val % 128) := by
  obtain ⟨p, hp⟩ : ∃ p : Fin 16, p.val = r.val / 512 := ⟨⟨r.val / 512, by omega⟩, rfl⟩
  obtain ⟨r', hr⟩ : ∃ r' : Fin 512, r'.val = r.val % 512 := ⟨⟨r.val % 512, by omega⟩, rfl⟩
  obtain ⟨h0, h1⟩ := index_4 p
  obtain ⟨y, hy⟩ : ∃ y : (win0_4.xblock (grid0.coords (pt p))).Idx, ∀ a : Fin 2, (y a).val = ((ix2 r' n : S512x512.Idx) a).val :=
    ⟨fun a => ⟨((ix2 r' n : S512x512.Idx) a).val, by
      show _ < win0_4.xsize (grid0.coords (pt p)) a
      rw [fits_4 p a]
      match a with
      | ⟨0, _⟩ => exact r'.isLt
      | ⟨1, _⟩ => exact n.isLt⟩, fun _ => rfl⟩
  have ey : win0_4.xinj (grid0.coords (pt p)) y = (ix2 r' n : S512x512.Idx) := by
    funext a
    exact Fin.ext (hy a)
  have y0 : (y (0 : Fin 2)).val = r'.val := hy 0
  have y1 : (y (1 : Fin 2)).val = n.val := hy 1
  have h := congrFun (blocks4 m c (pt p) (flush_4 p)) y
  rw [View.read_apply] at h
  have ei : ((cfg0.win 4).blk (pt p)).view.emb y = (ix2 r (⟨6144 + n.val, by omega⟩ : Fin 6912) : S8192x6912.Idx) := by
    funext a
    apply Fin.ext
    match a with
    | ⟨0, _⟩ => show win0_4.index (pt p) 0 * 512 + 1 * (y (0 : Fin 2)).val = r.val; rw [h0, y0]; omega
    | ⟨1, _⟩ => show win0_4.index (pt p) 1 * 512 + 1 * (y (1 : Fin 2)).val = 6144 + n.val; rw [h1, y1]; omega
  rw [ei] at h
  refine (show _ = _ from h).trans ?_
  have e : outDu (grid0.coords (pt p)) (iblk m c 0 (pt p)) (iblk m c 1 (pt p)) (iblk m c 3 (pt p)) (ix2 r' n)
      = channel (ys m c) (ws m c) (n.val / 128) r.val (n.val % 128) := by
    unfold outDu
    refine (block_channel m c p (n.val / 128) r'.val (n.val % 128) (by omega) r'.isLt).trans ?_
    rw [show 512 * p.val + r'.val = r.val by omega]
  by_cases hc : (pt p).val % 16 = 0
  · rw [flushed4_A m c (pt p) hc]
    refine (cut_at _ _ y).trans ?_
    rw [ey]
    exact (congrFun (block_A_4 (hc := _) ..) _).trans e
  · rw [flushed4_B m c (pt p) hc]
    refine (cut_at _ _ y).trans ?_
    rw [ey]
    exact (congrFun (block_B_4 (hc := _) ..) _).trans e

/-- THE FIRST RESULT in the other columns. -/
theorem value_outside (c : Dev nD) (r : Fin 8192) (n : Fin 6912) (hn : ¬(6144 ≤ n.val ∧ n.val < 6656)) :
    ((dats m 0 c).arrAt 4 cfg0.N : FVec Ideal S8192x6912 .bf16) (ix2 r n) = ps m c (ix2 r n) := by
  rw [entry4 m c (ix2 r n) ?_]
  · exact congrFun (alias_in m c) _
  intro t _ hmem
  obtain ⟨p, rfl⟩ : ∃ p : Fin 16, t = pt p := ⟨⟨t.val, lt_of_lt_of_eq t.isLt N_0⟩, rfl⟩
  obtain ⟨h0, h1⟩ := index_4 p
  obtain ⟨j, -, hj⟩ := Finset.mem_map.mp hmem
  have e1 : (((cfg0.win 4).blk (pt p)).view.emb j : S8192x6912.Idx) 1 = n := (congrFun hj (1 : Fin 2)).trans rfl
  have hv : (((cfg0.win 4).blk (pt p)).view.emb j : S8192x6912.Idx) 1 = n.val := congrArg Fin.val e1
  change win0_4.index (pt p) 1 * 512 + 1 * (j (1 : Fin 2)).val = n.val at hv
  have hl := index_lt p j 1
  rw [h1] at hv
  exact hn ⟨by omega, by omega⟩

/-- The first result is the reference's. -/
theorem equal_4 (c : Dev nD) :
    ((dats m 0 c).arrAt 4 cfg0.N : FVec Ideal S8192x6912 .bf16)
      = Cert.PoolBwdRefIdeal.Read.val_main_v243 (F := Ideal) (ys m c) (ws m c) (ps m c) := by
  funext i
  obtain ⟨r, n, rfl⟩ : ∃ r n, i = ix2 r n := ⟨i 0, i 1, eq_ix2 i⟩
  rw [v243]
  by_cases h : 6144 ≤ n.val ∧ n.val < 6656
  · rw [if_pos h]
    have e : n = (⟨6144 + (⟨n.val - 6144, by omega⟩ : Fin 512).val, by omega⟩ : Fin 6912) := Fin.ext (by show n.val = 6144 + (n.val - 6144); omega)
    exact (congrArg (fun k => ((dats m 0 c).arrAt 4 cfg0.N : FVec Ideal S8192x6912 .bf16) (ix2 r k)) e).trans (value_inside m c r ⟨n.val - 6144, by omega⟩)
  · rw [if_neg h, value_outside m c r n h]

/-! ## The weights' gradient -/

/-- What one token adds to an element of the weights' gradient. -/
def term (c : Dev nD) (g n d t : ℕ) : EReal := nat2 (pooled (us m c) g) t n * nat2 (ys m c) t (256 * g + d)

theorem block_step (c : Dev nD) (p : Fin 16) (y : FVec Ideal S4x128x256 .f32) (i : S4x128x256.Idx) :
    outDw (iblk m c 0 (pt p)) (iblk m c 2 (pt p)) y i
      = y i + ∑ r : Fin 512, term m c (i 0).val (i 1).val (i 2).val (512 * p.val + r.val) := by
  have b0 : (i 0).val < 4 := (i 0).isLt
  have b1 : (i 1).val < 128 := (i 1).isLt
  have b2 : (i 2).val < 256 := (i 2).isLt
  unfold outDw term
  refine congrArg (y i + ·) (Finset.sum_congr rfl fun r _ => congrArg₂ (· * ·) ?_ (own_nat m c p _ _ r.isLt (by omega)))
  refine (nat2_val (R := 512) (C := 512) _ (ix2 r (⟨128 * (i 0).val + (i 1).val, by omega⟩ : Fin 512)) _ _ rfl rfl).trans ((block_2 m c p _ _).trans ?_)
  show nat2 (pooled (us m c) ((128 * (i 0).val + (i 1).val) / 128)) _ ((128 * (i 0).val + (i 1).val) % 128) = _
  rw [show (128 * (i 0).val + (i 1).val) / 128 = (i 0).val by omega, show (128 * (i 0).val + (i 1).val) % 128 = (i 1).val by omega]

/-- The weights' gradient after point `n`: the sums over the blocks up to it. -/
theorem gathered (c : Dev nD) (i : S4x128x256.Idx) (n : ℕ) (hn : n < 16) :
    ((outsAt0 m c (pt ⟨n, hn⟩).val (pt ⟨n, hn⟩).isLt).2 : FVec Ideal S4x128x256 .f32) i
      = ∑ p ∈ Finset.range (n + 1), ∑ r : Fin 512, term m c (i 0).val (i 1).val (i 2).val (512 * p + r.val) := by
  induction n with
  | zero =>
    rw [outsAt0_A m c (pt ⟨0, hn⟩) (by show 0 % 16 = 0; rfl)]
    dsimp only
    refine (congrFun (block_A_5 (hc := _) ..) i).trans ?_
    rw [block_step, Finset.sum_range_one]
    refine (congrArg (· + _) (zero_word i)).trans ?_
    rw [zero_add]
  | succ n ih =>
    rw [outsAt0_B m c (pt ⟨n + 1, hn⟩) (by show ¬(n + 1) % 16 = 0; omega)]
    dsimp only
    refine (congrFun (block_B_5 (hc := _) ..) i).trans ?_
    rw [block_step, Finset.sum_range_succ, ← ih (by omega)]
    rfl

theorem disjoint5 (t t' : Fin cfg0.N) (h : (cfg0.win 5).flush t = true) (h' : (cfg0.win 5).flush t' = true) (hne : t ≠ t') :
    Disjoint ((cfg0.win 5).blk t).view.set ((cfg0.win 5).blk t').view.set := by
  have a := (flush0_5 t).mp h
  have b := (flush0_5 t').mp h'
  have l := lt_of_lt_of_eq t.isLt N_0
  have l' := lt_of_lt_of_eq t'.isLt N_0
  exact absurd (Fin.ext (by omega)) hne

/-- THE SECOND RESULT. -/
theorem value_5 (c : Dev nD) (i : S4x128x256.Idx) :
    ((dats m 0 c).arrAt 5 cfg0.N : FVec Ideal S4x128x256 .f32) i = weight (ys m c) (us m c) (i 0).val (i 1).val (i 2).val := by
  obtain ⟨h0, h1, h2⟩ := index_5 (15 : Fin 16)
  have h := congrFun ((dats m 0 c).read_blk_arrAt_eq_flushed 5 disjoint5 cfg0.N (pt 15) (pt 15).isLt ((flush0_5 _).mpr rfl)) i
  rw [View.read_apply] at h
  have ei : ((cfg0.win 5).blk (pt 15)).view.emb i = i := by
    funext a
    apply Fin.ext
    match a with
    | ⟨0, _⟩ => show win0_5.index (pt 15) 0 * 4 + 1 * (i 0).val = (i 0).val; rw [h0]; omega
    | ⟨1, _⟩ => show win0_5.index (pt 15) 1 * 128 + 1 * (i 1).val = (i 1).val; rw [h1]; omega
    | ⟨2, _⟩ => show win0_5.index (pt 15) 2 * 256 + 1 * (i 2).val = (i 2).val; rw [h2]; omega
  rw [ei] at h
  refine (show _ = _ from h).trans ?_
  rw [flushed5]
  refine (gathered m c i 15 (by omega)).trans ?_
  rw [Finset.sum_range, sum_blocks (A := 16) (B := 512) (N := 8192) rfl]
  rfl

/-- The second result is the reference's. -/
theorem equal_5 (c : Dev nD) :
    ((dats m 0 c).arrAt 5 cfg0.N : FVec Ideal S4x128x256 .f32)
      = Cert.PoolBwdRefIdeal.Read.val_main_v152 (F := Ideal) (ys m c) (us m c) := by
  funext i
  rw [value_5, v152]

end Cert.PoolProof

end
-- ==== Proof.ConvBlock.lean ====
/-
  One block of the convolution's gradient: what a run of the kernel's body leaves in the two result blocks, over the extended
  reals. The body keeps two scratch arrays of 520 rows: the block's own cotangents (times the slope) followed by the first
  eight rows of the next block, and the last eight rows of the previous block followed by the block's own inputs. Shifted
  reads of the first by the four taps give the input's gradient; shifted products of the two give the taps'.
-/
module

public import proofs.«01_k».proof.Proof.NatRead
public import proofs.«01_k».proof.Proof.Blocks
public import proofs.«01_k».proof.Proof.Contract
public import proofs.«01_k».proof.Proof.Rows
public import proofs.«01_k».proof.Proof.Gen.ConvBwdIdeal.Value
public import Idealize.ShloMosaic.Lib.ValueIdx
public import Idealize.ShloMosaic.Lib.ValueLayout
public import Idealize.ShloMosaic.Lib.WordCmp
public import Idealize.ShloMosaic.Lib.Pipeline.ReadBack

@[expose] public section

noncomputable section

namespace Cert.ConvBlock

open Cert.ConvBwdIdeal Cert.ConvBwdIdeal.Gen Cert.ConvBwdIdeal.Value Cert.NatRead Cert.Contract Cert.Rows
open Idealize.ShloMosaic Idealize.ShloMosaic.TcCoe Idealize.ShloMosaic.ValueIdx
open scoped BigOperators

/-- `h` rows, from row `k` on, of an array given by its elements. -/
def block (F : ℕ → ℕ → EReal) (h k : ℕ) : FVec Ideal ⟨2, ![h, 512]⟩ .f32 := fun x => F (k + (x 0).val) (x 1).val

/-- A load of 32 rows that lie in the two newest stores reads the array that the two stores hold. -/
theorem load_two (F : ℕ → ℕ → EReal) {sg : RefSig} {κ : Kind} {sp : Space} (v : View sg κ sp S520x512 .f32) (hi lo a b k : ℕ) (p p' q)
    (L : List (View.Piece (Elt Ideal) S520x512 .f32)) (hab : a + lo = b) (hk : a ≤ k) (hk' : k + 32 ≤ b + hi) :
    v.readCov (Val := Elt Ideal) (⟨Rect.unit (s := S520x512) ![b, 0] ![hi, 512] p, block F hi b⟩
        :: ⟨Rect.unit (s := S520x512) ![a, 0] ![lo, 512] p', block F lo a⟩ :: L) (Rect.unit (s := S520x512) ![k, 0] ![32, 512] q).toLoadRect
      = block F 32 k := by
  rw [View.readCov_eq_canon']
  funext x
  have hx0 : (x 0).val < 32 := (x 0).isLt
  have hx1 : (x 1).val < 512 := (x 1).isLt
  by_cases h : k + (x 0).val < b
  · have e : (Rect.unit (s := S520x512) ![k, 0] ![32, 512] q).toLoadRect.idx x
        = (Rect.unit (s := S520x512) ![a, 0] ![lo, 512] p').emb (ix2 (⟨k + (x 0).val - a, by omega⟩ : Fin lo) (⟨(x 1).val, hx1⟩ : Fin 512)) := by
      funext d
      apply Fin.ext
      match d with
      | ⟨0, _⟩ => show k + 1 * (x 0).val = a + 1 * (k + (x 0).val - a); omega
      | ⟨1, _⟩ => rfl
    show View.canon _ _ = _
    rw [e, View.canon_cons_of_not_mem, View.canon_cons_emb]
    · show F (a + (k + (x 0).val - a)) (x 1).val = F (k + (x 0).val) (x 1).val
      rw [Nat.add_sub_cancel' (by omega)]
    · intro hm
      have h1 := ((Rect.mem_set_unit (inb := p)).mp hm 0).1
      have h2 : b ≤ a + 1 * (k + (x 0).val - a) := h1
      omega
  · have e : (Rect.unit (s := S520x512) ![k, 0] ![32, 512] q).toLoadRect.idx x
        = (Rect.unit (s := S520x512) ![b, 0] ![hi, 512] p).emb (ix2 (⟨k + (x 0).val - b, by omega⟩ : Fin hi) (⟨(x 1).val, hx1⟩ : Fin 512)) := by
      funext d
      apply Fin.ext
      match d with
      | ⟨0, _⟩ => show k + 1 * (x 0).val = b + 1 * (k + (x 0).val - b); omega
      | ⟨1, _⟩ => rfl
    show View.canon _ _ = _
    rw [e, View.canon_cons_emb]
    show F (b + (k + (x 0).val - b)) (x 1).val = F (k + (x 0).val) (x 1).val
    rw [Nat.add_sub_cancel' (by omega)]

section values

variable (i : grid0.Coords) (x0 : Vec Ideal S512x512 .f32) (x1 : Vec Ideal S8x512 .f32) (x2 : Vec Ideal S512x512 .bf16) (x3 : Vec Ideal S16x512 .bf16)
  (x4 : Vec Ideal S512x512 .f32) (x5 : Vec Ideal S8x512 .f32) (x6 : Vec Ideal S4x512 .f32)

/-- The convolution's cotangent at row `q`: of the block's own rows, then of the next eight, which the last block takes as zeros. -/
def cot (q n : ℕ) : EReal :=
  if q < 512 then nat2 x0 q n * nat2 x2 q n else if (i 1).val < 15 then nat2 x1 (q - 512) n * nat2 x3 (q - 512) n else 0

/-- The inputs: eight rows before the block, which the first block takes as zeros, then the block's own. -/
def past (q n : ℕ) : EReal := if q < 8 then if 0 < (i 1).val then nat2 x5 q n else 0 else nat2 x4 (q - 8) n

theorem own_rows (a : ℕ) (p p') (h : FTy.bits .bf16 < FTy.bits .f32) :
    mulf (F := Ideal) (s := S32x512) (View.ld x0 (Rect.unit (s := S512x512) ![a, 0] ![32, 512] p) : FVec Ideal S32x512 .f32)
      (extf (φ := .bf16) (s := S32x512) .f32 (View.ld x2 (Rect.unit (s := S512x512) ![a, 0] ![32, 512] p') : FVec Ideal S32x512 .bf16) h)
      = block (cot i x0 x1 x2 x3) 32 a := by
  funext x
  have hx0 : (x 0).val < 32 := (x 0).isLt
  have ha : a + 32 ≤ 512 := p 0
  show _ = cot i x0 x1 x2 x3 (a + (x 0).val) (x 1).val
  unfold cot
  rw [if_pos (by omega)]
  refine congrArg₂ (· * ·) (nat2_val x0 _ _ _ ?_ ?_).symm (nat2_val x2 _ _ _ ?_ ?_).symm
  · show a + 1 * (x 0).val = _; omega
  · show 0 + 1 * (x 1).val = _; omega
  · show a + 1 * (x 0).val = _; omega
  · show 0 + 1 * (x 1).val = _; omega

theorem next_rows (p p') :
    k0_pay124 (F := Ideal) (BitVec.ofNat 32 (i 1).val) (View.ld x1 (Rect.unit (s := S8x512) ![0, 0] ![8, 512] p)) (View.ld x3 (Rect.unit (s := S16x512) ![0, 0] ![8, 512] p'))
      = block (cot i x0 x1 x2 x3) 8 512 := by
  funext x
  have hx0 : (x 0).val < 8 := (x 0).isLt
  have hi : (i 1).val < 16 := (i 1).isLt
  show _ = cot i x0 x1 x2 x3 (512 + (x 0).val) (x 1).val
  unfold cot k0_pay124
  dsimp only
  rw [if_neg (by omega), shapeCast_self, Nat.add_sub_cancel_left]
  by_cases h : (i 1).val < 15
  · rw [if_pos h, show Scalar.cmpi .slt (BitVec.ofNat 32 (i 1).val) 15#32 = 1#1 from (WordCmp.cmpi_slt_ofNat_eq_one_iff (by omega) (by omega)).mpr h]
    refine congrArg₂ (· * ·) (nat2_val x1 _ _ _ ?_ ?_).symm (nat2_val x3 _ _ _ ?_ ?_).symm
    · show 0 + 1 * (x 0).val = _; omega
    · show 0 + 1 * (x 1).val = _; omega
    · show 0 + 1 * (x 0).val = _; omega
    · show 0 + 1 * (x 1).val = _; omega
  · rw [if_neg h, show Scalar.cmpi .slt (BitVec.ofNat 32 (i 1).val) 15#32 = 0#1 from (WordCmp.cmpi_slt_ofNat_eq_zero_iff (by omega) (by omega)).mpr (by omega)]
    exact Ideal.ofBits_zero_f32

theorem input_rows (p) : k0_pay4 (F := Ideal) (View.ld x4 (Rect.unit (s := S512x512) ![0, 0] ![512, 512] p)) = block (past i x4 x5) 512 8 := by
  funext x
  show _ = past i x4 x5 (8 + (x 0).val) (x 1).val
  unfold past k0_pay4
  dsimp only
  rw [if_neg (by omega), shapeCast_self, Nat.add_sub_cancel_left]
  refine (nat2_val x4 _ _ _ ?_ ?_).symm
  · show 0 + 1 * (x 0).val = _; omega
  · show 0 + 1 * (x 1).val = _; omega

theorem before_rows (p) : k0_pay3 (F := Ideal) i (View.ld x5 (Rect.unit (s := S8x512) ![0, 0] ![8, 512] p)) = block (past i x4 x5) 8 0 := by
  funext x
  have hx0 : (x 0).val < 8 := (x 0).isLt
  have hi : (i 1).val < 16 := (i 1).isLt
  show _ = past i x4 x5 (0 + (x 0).val) (x 1).val
  unfold past k0_pay3
  dsimp only
  rw [if_pos (by omega), shapeCast_self, Nat.zero_add]
  by_cases h : 0 < (i 1).val
  · rw [if_pos h, show Scalar.cmpi .sgt (BitVec.ofNat 32 (i 1).val) 0#32 = 1#1 from (WordCmp.cmpi_sgt_ofNat_eq_one_iff (by omega) (by omega)).mpr h]
    refine (nat2_val x5 _ _ _ ?_ ?_).symm
    · show 0 + 1 * (x 0).val = _; omega
    · show 0 + 1 * (x 1).val = _; omega
  · rw [if_neg h, show Scalar.cmpi .sgt (BitVec.ofNat 32 (i 1).val) 0#32 = 0#1 from (WordCmp.cmpi_sgt_ofNat_eq_zero_iff (by omega) (by omega)).mpr (by omega)]
    exact Ideal.ofBits_zero_f32

/-! ## The input's gradient -/

/-- The input's gradient at row `r` and column `n` of the block. -/
def blockDx (r n : ℕ) : EReal :=
  nat2 x6 0 n * cot i x0 x1 x2 x3 (3 + r) n + nat2 x6 1 n * cot i x0 x1 x2 x3 (2 + r) n
    + nat2 x6 2 n * cot i x0 x1 x2 x3 (1 + r) n + nat2 x6 3 n * cot i x0 x1 x2 x3 r n

def outDx : Vec Ideal S512x512 .bf16 := fun j => blockDx i x0 x1 x2 x3 x6 (j 0).val (j 1).val

theorem tap (k : ℕ) (hb) (q) (F : ℕ → ℕ → EReal) (b r : ℕ) (x : S32x512.Idx) (h : b + (x 0).val = r) :
    (mulf (F := Ideal) (s := S32x512) (φ := .f32)) (broadcastTo (s := S1x512) S32x512 (View.ld x6 (Rect.unit (s := S4x512) ![k, 0] ![1, 512] q) : FVec Ideal S1x512 .f32) hb) (block F 32 b) x
      = nat2 x6 k (x 1).val * F r (x 1).val := by
  subst h
  obtain ⟨u, n, rfl⟩ : ∃ (u : Fin 32) (n : Fin 512), x = ix2 u n := ⟨x 0, x 1, eq_ix2 x⟩
  refine congrArg₂ (· * ·) ?_ rfl
  refine (spread_row (by decide) _ hb u n).trans (nat2_val x6 _ _ _ ?_ ?_).symm
  · show k + 1 * 0 = k; omega
  · show 0 + 1 * n.val = n.val; omega

theorem dx_piece (a b0 b1 b2 : ℕ) (e0 : b0 = a + 3) (e1 : b1 = a + 2) (e2 : b2 = a + 1) (hb hb' hb'' hb''' q0 q1 q2 q3 ht p) (x : S32x512.Idx) :
    (truncf (F := Ideal) (s := S32x512) .bf16 (addf (addf (addf
        (mulf (F := Ideal) (s := S32x512) (broadcastTo (s := S1x512) S32x512 (View.ld x6 (Rect.unit (s := S4x512) ![0, 0] ![1, 512] q0) : FVec Ideal S1x512 .f32) hb) (block (cot i x0 x1 x2 x3) 32 b0))
        (mulf (F := Ideal) (s := S32x512) (broadcastTo (s := S1x512) S32x512 (View.ld x6 (Rect.unit (s := S4x512) ![1, 0] ![1, 512] q1) : FVec Ideal S1x512 .f32) hb') (block (cot i x0 x1 x2 x3) 32 b1)))
        (mulf (F := Ideal) (s := S32x512) (broadcastTo (s := S1x512) S32x512 (View.ld x6 (Rect.unit (s := S4x512) ![2, 0] ![1, 512] q2) : FVec Ideal S1x512 .f32) hb'') (block (cot i x0 x1 x2 x3) 32 b2)))
        (mulf (F := Ideal) (s := S32x512) (broadcastTo (s := S1x512) S32x512 (View.ld x6 (Rect.unit (s := S4x512) ![3, 0] ![1, 512] q3) : FVec Ideal S1x512 .f32) hb''') (block (cot i x0 x1 x2 x3) 32 a))) ht) x
      = outDx i x0 x1 x2 x3 x6 ((Rect.unit (s := S512x512) ![a, 0] ![32, 512] p).emb x) := by
  subst e0 e1 e2
  have c0 : (((Rect.unit (s := S512x512) ![a, 0] ![32, 512] p).emb x) 0).val = a + (x 0).val := by
    show a + 1 * (x 0).val = _; omega
  have c1 : (((Rect.unit (s := S512x512) ![a, 0] ![32, 512] p).emb x) 1).val = (x 1).val := by
    show 0 + 1 * (x 1).val = _; omega
  unfold outDx blockDx
  rw [c0, c1]
  exact congrArg₂ (· + ·) (congrArg₂ (· + ·) (congrArg₂ (· + ·) (tap x6 0 hb q0 (cot i x0 x1 x2 x3) (a + 3) (3 + (a + (x 0).val)) x (by omega)) (tap x6 1 hb' q1 (cot i x0 x1 x2 x3) (a + 2) (2 + (a + (x 0).val)) x (by omega)))
    (tap x6 2 hb'' q2 (cot i x0 x1 x2 x3) (a + 1) (1 + (a + (x 0).val)) x (by omega))) (tap x6 3 hb''' q3 (cot i x0 x1 x2 x3) a (a + (x 0).val) x (by omega))

/-! ## The taps' gradient -/

/-- The running sums of a tap after `q` steps: a step adds its 32 products in four slices of eight rows. -/
def sums (k : ℕ) : ℕ → FVec Ideal S8x512 .f32
  | 0 => broadcast S8x512 (Scalar.ofBits .f32 0x00000000#32)
  | q + 1 =>
    addf (addf (addf (addf (sums k q)
      (extractStridedSlice S8x512 ![0, 0] (mulf (F := Ideal) (s := S32x512) (block (cot i x0 x1 x2 x3) 32 (32 * q)) (block (past i x4 x5) 32 (32 * q + 5 + k))) slices_S32x512_o0_0_S8x512))
      (extractStridedSlice S8x512 ![8, 0] (mulf (F := Ideal) (s := S32x512) (block (cot i x0 x1 x2 x3) 32 (32 * q)) (block (past i x4 x5) 32 (32 * q + 5 + k))) slices_S32x512_o8_0_S8x512))
      (extractStridedSlice S8x512 ![16, 0] (mulf (F := Ideal) (s := S32x512) (block (cot i x0 x1 x2 x3) 32 (32 * q)) (block (past i x4 x5) 32 (32 * q + 5 + k))) slices_S32x512_o16_0_S8x512))
      (extractStridedSlice S8x512 ![24, 0] (mulf (F := Ideal) (s := S32x512) (block (cot i x0 x1 x2 x3) 32 (32 * q)) (block (past i x4 x5) 32 (32 * q + 5 + k))) slices_S32x512_o24_0_S8x512)

/-- One more step of the running sums. -/
theorem sums_succ (k q a e : ℕ) (v : FVec Ideal S8x512 .f32) (ha : a = 32 * q) (he : e = 32 * q + 5 + k) (hv : v = sums i x0 x1 x2 x3 x4 x5 k q) :
    addf (addf (addf (addf v
      (extractStridedSlice S8x512 ![0, 0] (mulf (F := Ideal) (s := S32x512) (block (cot i x0 x1 x2 x3) 32 a) (block (past i x4 x5) 32 e)) slices_S32x512_o0_0_S8x512))
      (extractStridedSlice S8x512 ![8, 0] (mulf (F := Ideal) (s := S32x512) (block (cot i x0 x1 x2 x3) 32 a) (block (past i x4 x5) 32 e)) slices_S32x512_o8_0_S8x512))
      (extractStridedSlice S8x512 ![16, 0] (mulf (F := Ideal) (s := S32x512) (block (cot i x0 x1 x2 x3) 32 a) (block (past i x4 x5) 32 e)) slices_S32x512_o16_0_S8x512))
      (extractStridedSlice S8x512 ![24, 0] (mulf (F := Ideal) (s := S32x512) (block (cot i x0 x1 x2 x3) 32 a) (block (past i x4 x5) 32 e)) slices_S32x512_o24_0_S8x512)
      = sums i x0 x1 x2 x3 x4 x5 k (q + 1) := by
  subst ha he hv
  rfl

/-- What row `r` of the block adds to the gradient of tap `k` at column `n`. -/
def share (k r n : ℕ) : EReal := cot i x0 x1 x2 x3 r n * past i x4 x5 (r + 5 + k) n

theorem slice_share (k q c o : ℕ) (ho : o = 8 * c) (hc : c < 4) (h) (s : Fin 8) (n : Fin 512) :
    extractStridedSlice S8x512 ![o, 0] (mulf (F := Ideal) (s := S32x512) (block (cot i x0 x1 x2 x3) 32 (32 * q)) (block (past i x4 x5) 32 (32 * q + 5 + k))) h (ix2 s n)
      = share i x0 x1 x2 x3 x4 x5 k (8 * (4 * q + c) + s.val) n.val := by
  subst ho
  have hs := s.isLt
  rw [extractStridedSlice_apply ![8 * c, 0] _ h (ix2 s n) (ix2 (⟨8 * c + s.val, by omega⟩ : Fin 32) n)
    (fun a => match a with | ⟨0, _⟩ => rfl | ⟨1, _⟩ => (Nat.zero_add _).symm)]
  unfold share
  refine congrArg₂ (· * ·) ?_ ?_
  · show cot i x0 x1 x2 x3 (32 * q + (8 * c + s.val)) n.val = _
    rw [show 32 * q + (8 * c + s.val) = 8 * (4 * q + c) + s.val by omega]
  · show past i x4 x5 (32 * q + 5 + k + (8 * c + s.val)) n.val = _
    rw [show 32 * q + 5 + k + (8 * c + s.val) = 8 * (4 * q + c) + s.val + 5 + k by omega]

theorem sums_apply (k q : ℕ) (s : Fin 8) (n : Fin 512) :
    sums i x0 x1 x2 x3 x4 x5 k q (ix2 s n) = ∑ t ∈ Finset.range (4 * q), share i x0 x1 x2 x3 x4 x5 k (8 * t + s.val) n.val := by
  induction q with
  | zero => exact Ideal.ofBits_zero_f32
  | succ q ih =>
    rw [show 4 * (q + 1) = 4 * q + 1 + 1 + 1 + 1 by omega, Finset.sum_range_succ, Finset.sum_range_succ, Finset.sum_range_succ, Finset.sum_range_succ, ← ih]
    exact congrArg₂ (· + ·) (congrArg₂ (· + ·) (congrArg₂ (· + ·) (congrArg₂ (· + ·) rfl
      (slice_share i x0 x1 x2 x3 x4 x5 k q 0 0 rfl (by omega) _ s n)) (slice_share i x0 x1 x2 x3 x4 x5 k q 1 8 rfl (by omega) _ s n))
      (slice_share i x0 x1 x2 x3 x4 x5 k q 2 16 rfl (by omega) _ s n)) (slice_share i x0 x1 x2 x3 x4 x5 k q 3 24 rfl (by omega) _ s n)

/-- The taps' gradient after the block, `y` before it: the first four rows are the taps. -/
def outDw (y : Vec Ideal S8x512 .f32) : Vec Ideal S8x512 .f32 := fun j =>
  if (j 0).val < 4 then y j + ∑ r : Fin 512, share i x0 x1 x2 x3 x4 x5 (j 0).val r.val (j 1).val else y j

theorem dw_piece (y : Vec Ideal S8x512 .f32) (k : ℕ) (hk : k < 4) (p hr hf hz hs) (v : FVec Ideal S8x512 .f32)
    (hv : v = sums i x0 x1 x2 x3 x4 x5 k 16) (x : S1x512.Idx) :
    addf (F := Ideal) (s := S1x512) (View.ld y (Rect.unit (s := S8x512) ![k, 0] ![1, 512] p) : FVec Ideal S1x512 .f32)
        (shapeCast S1x512 (multiReduction .add [0] S512 v 0x00000000#32 hr hf hz) hs) x
      = outDw i x0 x1 x2 x3 x4 x5 y ((Rect.unit (s := S8x512) ![k, 0] ![1, 512] p).emb x) := by
  obtain ⟨u, n, rfl⟩ : ∃ (u : Fin 1) (n : Fin 512), x = ix2 u n := ⟨x 0, x 1, eq_ix2 x⟩
  have c0 : (((Rect.unit (s := S8x512) ![k, 0] ![1, 512] p).emb (ix2 u n)) 0).val = k := by
    show k + 1 * u.val = _; omega
  have c1 : (((Rect.unit (s := S8x512) ![k, 0] ![1, 512] p).emb (ix2 u n)) 1).val = n.val := by
    show 0 + 1 * n.val = _; omega
  subst hv
  unfold outDw
  rw [c0, c1, if_pos hk]
  refine congrArg₂ (· + ·) rfl ((column_total _ hr hf hz hs u n).trans ?_)
  simp only [sums_apply]
  rw [Finset.sum_comm, Finset.sum_range]
  exact sum_blocks (A := 64) (B := 8) (N := 512) rfl (fun r => share i x0 x1 x2 x3 x4 x5 k r n.val)

end values

/-- An index lies in its row, and in no other. -/
theorem mem_row (j : S8x512.Idx) (k : ℕ) (hk : (j 0).val = k) (p) : j ∈ (Rect.unit (s := S8x512) ![k, 0] ![1, 512] p).set := by
  refine (Rect.mem_set_unit (inb := p)).mpr fun a => ?_
  have h1 : (j 1).val < 512 := (j 1).isLt
  match a with
  | ⟨0, _⟩ => show k ≤ (j 0).val ∧ (j 0).val < k + 1; omega
  | ⟨1, _⟩ => show 0 ≤ (j 1).val ∧ (j 1).val < 0 + 512; omega

theorem not_row (j : S8x512.Idx) (k : ℕ) (hk : k < (j 0).val) (p) : j ∉ (Rect.unit (s := S8x512) ![k, 0] ![1, 512] p).set := by
  intro hm
  have h := ((Rect.mem_set_unit (inb := p)).mp hm 0).2
  have h' : (j 0).val < k + 1 := h
  omega

theorem rows_cover (w0 w1 w2 w3 : FVec Ideal S1x512 .f32) (p0 p1 p2 p3) (j : S8x512.Idx) (h : (j 0).val < 4) :
    ∃ p ∈ ([⟨Rect.unit (s := S8x512) ![3, 0] ![1, 512] p3, w3⟩, ⟨Rect.unit (s := S8x512) ![2, 0] ![1, 512] p2, w2⟩,
      ⟨Rect.unit (s := S8x512) ![1, 0] ![1, 512] p1, w1⟩, ⟨Rect.unit (s := S8x512) ![0, 0] ![1, 512] p0, w0⟩] : List (View.Piece (Elt Ideal) S8x512 .f32)),
      j ∈ p.1.set := by
  rcases (by omega : (j 0).val = 3 ∨ (j 0).val = 2 ∨ (j 0).val = 1 ∨ (j 0).val = 0) with h | h | h | h
  · exact ⟨_, .head _, mem_row j 3 h p3⟩
  · exact ⟨_, .tail _ (.head _), mem_row j 2 h p2⟩
  · exact ⟨_, .tail _ (.tail _ (.head _)), mem_row j 1 h p1⟩
  · exact ⟨_, .tail _ (.tail _ (.tail _ (.head _))), mem_row j 0 h p0⟩

/-- Four rows stored over a whole array, and over what an array held before. -/
theorem rows_over_whole (G : Vec Ideal S8x512 .f32) {w0 : Vec Ideal S1x512 .f32} {w1 : Vec Ideal S1x512 .f32} {w2 : Vec Ideal S1x512 .f32} {w3 : Vec Ideal S1x512 .f32} {z : Vec Ideal S8x512 .f32} {p0 p1 p2 p3 q}
    (h3 : ∀ x, w3 x = G ((Rect.unit (s := S8x512) ![3, 0] ![1, 512] p3).emb x))
    (h2 : ∀ x, w2 x = G ((Rect.unit (s := S8x512) ![2, 0] ![1, 512] p2).emb x))
    (h1 : ∀ x, w1 x = G ((Rect.unit (s := S8x512) ![1, 0] ![1, 512] p1).emb x))
    (h0 : ∀ x, w0 x = G ((Rect.unit (s := S8x512) ![0, 0] ![1, 512] p0).emb x))
    (j : S8x512.Idx) (hz : ¬ (j 0).val < 4 → z j = G j) :
    View.canon (Val := Elt Ideal) (e := .f32) [⟨Rect.unit (s := S8x512) ![3, 0] ![1, 512] p3, w3⟩, ⟨Rect.unit (s := S8x512) ![2, 0] ![1, 512] p2, w2⟩,
      ⟨Rect.unit (s := S8x512) ![1, 0] ![1, 512] p1, w1⟩, ⟨Rect.unit (s := S8x512) ![0, 0] ![1, 512] p0, w0⟩, ⟨Rect.unit (s := S8x512) ![0, 0] ![8, 512] q, z⟩] j = G j := by
  by_cases h : (j 0).val < 4
  · exact View.canon_append_of_piecesOf G [_] [_, _, _, _] ⟨h3, h2, h1, h0, trivial⟩ j (rows_cover _ _ _ _ _ _ _ _ j h)
  · refine (View.canon_cons_of_not_mem _ _ ?_).trans ((View.canon_cons_of_not_mem _ _ ?_).trans ((View.canon_cons_of_not_mem _ _ ?_).trans
      ((View.canon_cons_of_not_mem _ _ ?_).trans ((congrFun (View.canon_cons_unit_zero Cert.Blocks.hz _ _ _) j).trans (hz h)))))
    · exact not_row j 3 (by omega) p3
    · exact not_row j 2 (by omega) p2
    · exact not_row j 1 (by omega) p1
    · exact not_row j 0 (by omega) p0

theorem rows_over_old (G : Vec Ideal S8x512 .f32) {sg : RefSig} {κ : Kind} {sp : Space} (v : View sg κ sp S8x512 .f32) (f)
    {w0 : Vec Ideal S1x512 .f32} {w1 : Vec Ideal S1x512 .f32} {w2 : Vec Ideal S1x512 .f32} {w3 : Vec Ideal S1x512 .f32} {p0 p1 p2 p3}
    (h3 : ∀ x, w3 x = G ((Rect.unit (s := S8x512) ![3, 0] ![1, 512] p3).emb x))
    (h2 : ∀ x, w2 x = G ((Rect.unit (s := S8x512) ![2, 0] ![1, 512] p2).emb x))
    (h1 : ∀ x, w1 x = G ((Rect.unit (s := S8x512) ![1, 0] ![1, 512] p1).emb x))
    (h0 : ∀ x, w0 x = G ((Rect.unit (s := S8x512) ![0, 0] ![1, 512] p0).emb x))
    (j : S8x512.Idx) (hz : ¬ (j 0).val < 4 → v.read (Elt Ideal) f j = G j) :
    v.read (Elt Ideal) (v.writes (Elt Ideal) f [⟨Rect.unit (s := S8x512) ![3, 0] ![1, 512] p3, w3⟩, ⟨Rect.unit (s := S8x512) ![2, 0] ![1, 512] p2, w2⟩,
      ⟨Rect.unit (s := S8x512) ![1, 0] ![1, 512] p1, w1⟩, ⟨Rect.unit (s := S8x512) ![0, 0] ![1, 512] p0, w0⟩]) j = G j := by
  by_cases h : (j 0).val < 4
  · rw [View.read_writes_apply_eq_canon _ _ _ _ (rows_cover _ _ _ _ _ _ _ _ j h)]
    exact View.canon_apply_of_pieces G _ (View.PiecesOf.mem (G := G) (L := [⟨_, _⟩, ⟨_, _⟩, ⟨_, _⟩, ⟨_, _⟩]) ⟨h3, h2, h1, h0, trivial⟩) j (rows_cover _ _ _ _ _ _ _ _ j h)
  · rw [View.read_writes_cons_rows_of_not_mem (o := 3) (W := 1) _ _ _ _ _ _ rfl rfl (Or.inr (by omega)), View.read_writes_cons_rows_of_not_mem (o := 2) (W := 1) _ _ _ _ _ _ rfl rfl (Or.inr (by omega)),
      View.read_writes_cons_rows_of_not_mem (o := 1) (W := 1) _ _ _ _ _ _ rfl rfl (Or.inr (by omega)), View.read_writes_cons_rows_of_not_mem (o := 0) (W := 1) _ _ _ _ _ _ rfl rfl (Or.inr (by omega)),
      View.writes_nil]
    exact hz h

end Cert.ConvBlock

end
-- ==== Proof.ConvPoint.lean ====
/-
  One block of the convolution's gradient, at the first point of a column of blocks, where the taps' gradient starts from zeros.
-/
module

public import proofs.«01_k».proof.Proof.ConvBlock

@[expose] public section

noncomputable section

namespace Cert.ConvBlock

open Cert.ConvBwdIdeal Cert.ConvBwdIdeal.Gen Cert.ConvBwdIdeal.Value Cert.NatRead
open Idealize.ShloMosaic Idealize.ShloMosaic.TcCoe Idealize.ShloMosaic.ValueIdx

theorem block_A_7 (c : Dev nD) (i : grid0.Coords) (a2 : Memref sig .tc .vmem S512x512 .f32) (h2 : a2.IsWhole) (a3 : Memref sig .tc .vmem S8x512 .f32) (h3 : a3.IsWhole)
    (a4 : Memref sig .tc .vmem S512x512 .bf16) (h4 : a4.IsWhole) (a5 : Memref sig .tc .vmem S16x512 .bf16) (h5 : a5.IsWhole) (a6 : Memref sig .tc .vmem S512x512 .f32) (h6 : a6.IsWhole)
    (a7 : Memref sig .tc .vmem S8x512 .f32) (h7 : a7.IsWhole) (a8 : Memref sig .tc .vmem S4x512 .f32) (h8 : a8.IsWhole) (a10 : Memref sig .tc .vmem S512x512 .bf16) (h10 : a10.IsWhole)
    (a11 : Memref sig .tc .vmem S8x512 .f32) (h11 : a11.IsWhole) (a12 : Memref sig .tc .vmem S520x512 .f32) (h12 : a12.IsWhole) (a13 : Memref sig .tc .vmem S520x512 .f32) (h13 : a13.IsWhole) (hc : cond0_0 i)
    (x0 : Vec Ideal S512x512 .f32) (x1 : Vec Ideal S8x512 .f32) (x2 : Vec Ideal S512x512 .bf16) (x3 : Vec Ideal S16x512 .bf16) (x4 : Vec Ideal S512x512 .f32) (x5 : Vec Ideal S8x512 .f32) (x6 : Vec Ideal S4x512 .f32) :
    out0_A_7 c i a2 h2 a3 h3 a4 h4 a5 h5 a6 h6 a7 h7 a8 h8 a10 h10 a11 h11 a12 h12 a13 h13 hc x0 x1 x2 x3 x4 x5 x6 = outDx i x0 x1 x2 x3 x6 := by
  unfold out0_A_7
  rw [View.read_writes_junk_eq_canon]
  funext j
  refine View.canon_apply_of_pieces (outDx i x0 x1 x2 x3 x6) _ (View.PiecesOf.mem (G := outDx i x0 x1 x2 x3 x6) ?_) j (cover0_A_7 c i a2 h2 a3 h3 a4 h4 a5 h5 a6 h6 a7 h7 a8 h8 a10 h10 a11 h11 a12 h12 a13 h13 hc x0 x1 x2 x3 x4 x5 x6 j)
  unfold kernelRun0_A
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self, input_rows i x4 x5, before_rows i x4 x5, own_rows i x0 x1 x2 x3, next_rows i x0 x1 x2 x3]
  simp (disch := decide) only [load_two]
  exact ⟨dx_piece i x0 x1 x2 x3 x6 480 483 482 481 rfl rfl rfl _ _ _ _ _ _ _ _ _ inb_S512x512_S32x512_480_0,
    dx_piece i x0 x1 x2 x3 x6 448 451 450 449 rfl rfl rfl _ _ _ _ _ _ _ _ _ inb_S512x512_S32x512_448_0,
    dx_piece i x0 x1 x2 x3 x6 416 419 418 417 rfl rfl rfl _ _ _ _ _ _ _ _ _ inb_S512x512_S32x512_416_0,
    dx_piece i x0 x1 x2 x3 x6 384 387 386 385 rfl rfl rfl _ _ _ _ _ _ _ _ _ inb_S512x512_S32x512_384_0,
    dx_piece i x0 x1 x2 x3 x6 352 355 354 353 rfl rfl rfl _ _ _ _ _ _ _ _ _ inb_S512x512_S32x512_352_0,
    dx_piece i x0 x1 x2 x3 x6 320 323 322 321 rfl rfl rfl _ _ _ _ _ _ _ _ _ inb_S512x512_S32x512_320_0,
    dx_piece i x0 x1 x2 x3 x6 288 291 290 289 rfl rfl rfl _ _ _ _ _ _ _ _ _ inb_S512x512_S32x512_288_0,
    dx_piece i x0 x1 x2 x3 x6 256 259 258 257 rfl rfl rfl _ _ _ _ _ _ _ _ _ inb_S512x512_S32x512_256_0,
    dx_piece i x0 x1 x2 x3 x6 224 227 226 225 rfl rfl rfl _ _ _ _ _ _ _ _ _ inb_S512x512_S32x512_224_0,
    dx_piece i x0 x1 x2 x3 x6 192 195 194 193 rfl rfl rfl _ _ _ _ _ _ _ _ _ inb_S512x512_S32x512_192_0,
    dx_piece i x0 x1 x2 x3 x6 160 163 162 161 rfl rfl rfl _ _ _ _ _ _ _ _ _ inb_S512x512_S32x512_160_0,
    dx_piece i x0 x1 x2 x3 x6 128 131 130 129 rfl rfl rfl _ _ _ _ _ _ _ _ _ inb_S512x512_S32x512_128_0,
    dx_piece i x0 x1 x2 x3 x6 96 99 98 97 rfl rfl rfl _ _ _ _ _ _ _ _ _ inb_S512x512_S32x512_96_0,
    dx_piece i x0 x1 x2 x3 x6 64 67 66 65 rfl rfl rfl _ _ _ _ _ _ _ _ _ inb_S512x512_S32x512_64_0,
    dx_piece i x0 x1 x2 x3 x6 32 35 34 33 rfl rfl rfl _ _ _ _ _ _ _ _ _ inb_S512x512_S32x512_32_0,
    dx_piece i x0 x1 x2 x3 x6 0 3 2 1 rfl rfl rfl _ _ _ _ _ _ _ _ _ inb_S512x512_S32x512_0_0,
    trivial⟩

theorem block_A_8 (c : Dev nD) (i : grid0.Coords) (a2 : Memref sig .tc .vmem S512x512 .f32) (h2 : a2.IsWhole) (a3 : Memref sig .tc .vmem S8x512 .f32) (h3 : a3.IsWhole)
    (a4 : Memref sig .tc .vmem S512x512 .bf16) (h4 : a4.IsWhole) (a5 : Memref sig .tc .vmem S16x512 .bf16) (h5 : a5.IsWhole) (a6 : Memref sig .tc .vmem S512x512 .f32) (h6 : a6.IsWhole)
    (a7 : Memref sig .tc .vmem S8x512 .f32) (h7 : a7.IsWhole) (a8 : Memref sig .tc .vmem S4x512 .f32) (h8 : a8.IsWhole) (a10 : Memref sig .tc .vmem S512x512 .bf16) (h10 : a10.IsWhole)
    (a11 : Memref sig .tc .vmem S8x512 .f32) (h11 : a11.IsWhole) (a12 : Memref sig .tc .vmem S520x512 .f32) (h12 : a12.IsWhole) (a13 : Memref sig .tc .vmem S520x512 .f32) (h13 : a13.IsWhole) (hc : cond0_0 i)
    (x0 : Vec Ideal S512x512 .f32) (x1 : Vec Ideal S8x512 .f32) (x2 : Vec Ideal S512x512 .bf16) (x3 : Vec Ideal S16x512 .bf16) (x4 : Vec Ideal S512x512 .f32) (x5 : Vec Ideal S8x512 .f32) (x6 : Vec Ideal S4x512 .f32) :
    out0_A_8 c i a2 h2 a3 h3 a4 h4 a5 h5 a6 h6 a7 h7 a8 h8 a10 h10 a11 h11 a12 h12 a13 h13 hc x0 x1 x2 x3 x4 x5 x6 = outDw i x0 x1 x2 x3 x4 x5 (k0_pay2 (F := Ideal)) := by
  unfold out0_A_8
  rw [View.read_writes_junk_eq_canon]
  funext j
  unfold kernelRun0_A
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self, input_rows i x4 x5, before_rows i x4 x5, own_rows i x0 x1 x2 x3, next_rows i x0 x1 x2 x3]
  simp (disch := decide) only [load_two]
  refine rows_over_whole (outDw i x0 x1 x2 x3 x4 x5 (k0_pay2 (F := Ideal))) (dw_piece i x0 x1 x2 x3 x4 x5 (k0_pay2 (F := Ideal)) 3 (by decide) _ _ _ _ _ _ ?_) (dw_piece i x0 x1 x2 x3 x4 x5 (k0_pay2 (F := Ideal)) 2 (by decide) _ _ _ _ _ _ ?_) (dw_piece i x0 x1 x2 x3 x4 x5 (k0_pay2 (F := Ideal)) 1 (by decide) _ _ _ _ _ _ ?_) (dw_piece i x0 x1 x2 x3 x4 x5 (k0_pay2 (F := Ideal)) 0 (by decide) _ _ _ _ _ _ ?_) j (fun h => (if_neg h).symm)
  all_goals
    iterate 16 refine sums_succ i x0 x1 x2 x3 x4 x5 _ _ _ _ _ rfl rfl ?_
    rfl

end Cert.ConvBlock

end
-- ==== Proof.ConvStep.lean ====
/-
  One block of the convolution's gradient, at the other points, where the taps' gradient goes on from the point before.
-/
module

public import proofs.«01_k».proof.Proof.ConvBlock

@[expose] public section

noncomputable section

namespace Cert.ConvBlock

open Cert.ConvBwdIdeal Cert.ConvBwdIdeal.Gen Cert.ConvBwdIdeal.Value Cert.NatRead
open Idealize.ShloMosaic Idealize.ShloMosaic.TcCoe Idealize.ShloMosaic.ValueIdx

theorem block_B_7 (c : Dev nD) (i : grid0.Coords) (a2 : Memref sig .tc .vmem S512x512 .f32) (h2 : a2.IsWhole) (a3 : Memref sig .tc .vmem S8x512 .f32) (h3 : a3.IsWhole)
    (a4 : Memref sig .tc .vmem S512x512 .bf16) (h4 : a4.IsWhole) (a5 : Memref sig .tc .vmem S16x512 .bf16) (h5 : a5.IsWhole) (a6 : Memref sig .tc .vmem S512x512 .f32) (h6 : a6.IsWhole)
    (a7 : Memref sig .tc .vmem S8x512 .f32) (h7 : a7.IsWhole) (a8 : Memref sig .tc .vmem S4x512 .f32) (h8 : a8.IsWhole) (a10 : Memref sig .tc .vmem S512x512 .bf16) (h10 : a10.IsWhole)
    (a11 : Memref sig .tc .vmem S8x512 .f32) (h11 : a11.IsWhole) (a12 : Memref sig .tc .vmem S520x512 .f32) (h12 : a12.IsWhole) (a13 : Memref sig .tc .vmem S520x512 .f32) (h13 : a13.IsWhole) (hc : ¬cond0_0 i)
    (x0 : Vec Ideal S512x512 .f32) (x1 : Vec Ideal S8x512 .f32) (x2 : Vec Ideal S512x512 .bf16) (x3 : Vec Ideal S16x512 .bf16) (x4 : Vec Ideal S512x512 .f32) (x5 : Vec Ideal S8x512 .f32) (x6 : Vec Ideal S4x512 .f32) (y : Vec Ideal S8x512 .f32) :
    out0_B_7 c i a2 h2 a3 h3 a4 h4 a5 h5 a6 h6 a7 h7 a8 h8 a10 h10 a11 h11 a12 h12 a13 h13 hc x0 x1 x2 x3 x4 x5 x6 y = outDx i x0 x1 x2 x3 x6 := by
  unfold out0_B_7
  rw [View.read_writes_junk_eq_canon]
  funext j
  refine View.canon_apply_of_pieces (outDx i x0 x1 x2 x3 x6) _ (View.PiecesOf.mem (G := outDx i x0 x1 x2 x3 x6) ?_) j (cover0_B_7 c i a2 h2 a3 h3 a4 h4 a5 h5 a6 h6 a7 h7 a8 h8 a10 h10 a11 h11 a12 h12 a13 h13 hc x0 x1 x2 x3 x4 x5 x6 y j)
  unfold kernelRun0_B
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self, input_rows i x4 x5, before_rows i x4 x5, own_rows i x0 x1 x2 x3, next_rows i x0 x1 x2 x3]
  simp (disch := decide) only [load_two]
  exact ⟨dx_piece i x0 x1 x2 x3 x6 480 483 482 481 rfl rfl rfl _ _ _ _ _ _ _ _ _ inb_S512x512_S32x512_480_0,
    dx_piece i x0 x1 x2 x3 x6 448 451 450 449 rfl rfl rfl _ _ _ _ _ _ _ _ _ inb_S512x512_S32x512_448_0,
    dx_piece i x0 x1 x2 x3 x6 416 419 418 417 rfl rfl rfl _ _ _ _ _ _ _ _ _ inb_S512x512_S32x512_416_0,
    dx_piece i x0 x1 x2 x3 x6 384 387 386 385 rfl rfl rfl _ _ _ _ _ _ _ _ _ inb_S512x512_S32x512_384_0,
    dx_piece i x0 x1 x2 x3 x6 352 355 354 353 rfl rfl rfl _ _ _ _ _ _ _ _ _ inb_S512x512_S32x512_352_0,
    dx_piece i x0 x1 x2 x3 x6 320 323 322 321 rfl rfl rfl _ _ _ _ _ _ _ _ _ inb_S512x512_S32x512_320_0,
    dx_piece i x0 x1 x2 x3 x6 288 291 290 289 rfl rfl rfl _ _ _ _ _ _ _ _ _ inb_S512x512_S32x512_288_0,
    dx_piece i x0 x1 x2 x3 x6 256 259 258 257 rfl rfl rfl _ _ _ _ _ _ _ _ _ inb_S512x512_S32x512_256_0,
    dx_piece i x0 x1 x2 x3 x6 224 227 226 225 rfl rfl rfl _ _ _ _ _ _ _ _ _ inb_S512x512_S32x512_224_0,
    dx_piece i x0 x1 x2 x3 x6 192 195 194 193 rfl rfl rfl _ _ _ _ _ _ _ _ _ inb_S512x512_S32x512_192_0,
    dx_piece i x0 x1 x2 x3 x6 160 163 162 161 rfl rfl rfl _ _ _ _ _ _ _ _ _ inb_S512x512_S32x512_160_0,
    dx_piece i x0 x1 x2 x3 x6 128 131 130 129 rfl rfl rfl _ _ _ _ _ _ _ _ _ inb_S512x512_S32x512_128_0,
    dx_piece i x0 x1 x2 x3 x6 96 99 98 97 rfl rfl rfl _ _ _ _ _ _ _ _ _ inb_S512x512_S32x512_96_0,
    dx_piece i x0 x1 x2 x3 x6 64 67 66 65 rfl rfl rfl _ _ _ _ _ _ _ _ _ inb_S512x512_S32x512_64_0,
    dx_piece i x0 x1 x2 x3 x6 32 35 34 33 rfl rfl rfl _ _ _ _ _ _ _ _ _ inb_S512x512_S32x512_32_0,
    dx_piece i x0 x1 x2 x3 x6 0 3 2 1 rfl rfl rfl _ _ _ _ _ _ _ _ _ inb_S512x512_S32x512_0_0,
    trivial⟩

theorem block_B_8 (c : Dev nD) (i : grid0.Coords) (a2 : Memref sig .tc .vmem S512x512 .f32) (h2 : a2.IsWhole) (a3 : Memref sig .tc .vmem S8x512 .f32) (h3 : a3.IsWhole)
    (a4 : Memref sig .tc .vmem S512x512 .bf16) (h4 : a4.IsWhole) (a5 : Memref sig .tc .vmem S16x512 .bf16) (h5 : a5.IsWhole) (a6 : Memref sig .tc .vmem S512x512 .f32) (h6 : a6.IsWhole)
    (a7 : Memref sig .tc .vmem S8x512 .f32) (h7 : a7.IsWhole) (a8 : Memref sig .tc .vmem S4x512 .f32) (h8 : a8.IsWhole) (a10 : Memref sig .tc .vmem S512x512 .bf16) (h10 : a10.IsWhole)
    (a11 : Memref sig .tc .vmem S8x512 .f32) (h11 : a11.IsWhole) (a12 : Memref sig .tc .vmem S520x512 .f32) (h12 : a12.IsWhole) (a13 : Memref sig .tc .vmem S520x512 .f32) (h13 : a13.IsWhole) (hc : ¬cond0_0 i)
    (x0 : Vec Ideal S512x512 .f32) (x1 : Vec Ideal S8x512 .f32) (x2 : Vec Ideal S512x512 .bf16) (x3 : Vec Ideal S16x512 .bf16) (x4 : Vec Ideal S512x512 .f32) (x5 : Vec Ideal S8x512 .f32) (x6 : Vec Ideal S4x512 .f32) (y : Vec Ideal S8x512 .f32) :
    out0_B_8 c i a2 h2 a3 h3 a4 h4 a5 h5 a6 h6 a7 h7 a8 h8 a10 h10 a11 h11 a12 h12 a13 h13 hc x0 x1 x2 x3 x4 x5 x6 y = outDw i x0 x1 x2 x3 x4 x5 y := by
  unfold out0_B_8
  funext j
  unfold kernelRun0_B
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp only [k0_pay1, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, shapeCast_self, input_rows i x4 x5, before_rows i x4 x5, own_rows i x0 x1 x2 x3, next_rows i x0 x1 x2 x3]
  simp (disch := decide) only [load_two]
  refine rows_over_old (outDw i x0 x1 x2 x3 x4 x5 y) _ _ (dw_piece i x0 x1 x2 x3 x4 x5 y 3 (by decide) _ _ _ _ _ _ ?_) (dw_piece i x0 x1 x2 x3 x4 x5 y 2 (by decide) _ _ _ _ _ _ ?_) (dw_piece i x0 x1 x2 x3 x4 x5 y 1 (by decide) _ _ _ _ _ _ ?_) (dw_piece i x0 x1 x2 x3 x4 x5 y 0 (by decide) _ _ _ _ _ _ ?_) j (fun h => (congrFun (h11.read_unread y) j).trans (if_neg h).symm)
  all_goals
    iterate 16 refine sums_succ i x0 x1 x2 x3 x4 x5 _ _ _ _ _ rfl rfl ?_
    rfl

end Cert.ConvBlock

end
-- ==== Proof.ConvReference.lean ====
/-
  The convolution's gradient as the reference computes it, over the extended reals: the input's gradient at a row is the sum,
  over the four taps, of the tap's weight by the cotangent of the row that the tap reaches; a tap's gradient is the sum over
  the rows of the cotangent by the input that the tap reads, with zeros in front of the first.
-/
module

public import proofs.«01_k».proof.Proof.NatRead
public import proofs.«01_k».proof.Proof.Gen.ConvBwdRefIdeal.Read
public import Idealize.ShloMosaic.Lib.IdealHost
public import Idealize.ShloMosaic.Lib.ValueIdx
public import Idealize.ShloMosaic.Lib.ValueLayout
public import Idealize.ShloMosaic.Lib.Pointwise.SelectCore
public import Idealize.ShloMosaic.Lib.KernelVsHost

@[expose] public section

noncomputable section

namespace Cert.ConvReference

open Cert.ConvBwdRefIdeal Cert.NatRead
open Idealize.ShloMosaic hiding ix1 ix2 ix3 eq_ix2
open Idealize.ShloMosaic.ValueIdx
open Cert.ConvBwdRefIdeal.Read
open scoped BigOperators

variable (x0 : FVec Ideal S8192x3072 .f32) (x1 : FVec Ideal S8192x3072 .bf16) (x2 : FVec Ideal S8192x3840 .f32) (x3 : FVec Ideal S4x3072 .f32)
  (x4 : FVec Ideal S8192x6912 .bf16)

/-- The convolution's cotangent: the activation's by its slope. -/
def ct (t n : ℕ) : EReal := nat2 x0 t n * nat2 x1 t n

/-- The inputs behind three rows of zeros. -/
def padded (t n : ℕ) : EReal := if t < 3 then 0 else nat2 x2 (t - 3) n

/-- The input's gradient. -/
def gradX (r n : ℕ) : EReal :=
  nat2 x3 0 n * ct x0 x1 (3 + r) n + nat2 x3 1 n * ct x0 x1 (2 + r) n + nat2 x3 2 n * ct x0 x1 (1 + r) n + nat2 x3 3 n * ct x0 x1 r n

/-- The gradient of tap `k`. -/
def gradW (k n : ℕ) : EReal := ∑ t : Fin 8192, ct x0 x1 t.val n * padded x2 (t.val + k) n

/-- Rows moved down by `lo`, zeros before and after. -/
theorem pad_rows {R H lo hi : ℕ} (y : FVec Ideal ⟨2, ![R, 3072]⟩ .f32) {u : Shape} (z : u.Idx → EReal) (hz : ∀ e, z e = 0) (p) (hu : 0 < u.numel)
    (j : (⟨2, ![H, 3072]⟩ : Shape).Idx) :
    pad (s := ⟨2, ![R, 3072]⟩) ⟨2, ![H, 3072]⟩ ![lo, 0] ![hi, 0] ![0, 0] y z p hu j = if lo ≤ (j 0).val then nat2 y ((j 0).val - lo) (j 1).val else 0 := by
  have b1 : (j 1).val < 3072 := (j 1).isLt
  by_cases hk : lo ≤ (j 0).val ∧ (j 0).val - lo < R
  · rw [if_pos hk.1, pad_apply_of_inside _ _ _ _ _ _ _ _ (ix2 (⟨(j 0).val - lo, hk.2⟩ : Fin R) (⟨(j 1).val, b1⟩ : Fin 3072)) (by
      intro a
      match a with
      | ⟨0, _⟩ => show (j 0).val = lo + ((j 0).val - lo) * (0 + 1); omega
      | ⟨1, _⟩ => show (j 1).val = 0 + (j 1).val * (0 + 1); omega)]
    exact (nat2_val y _ _ _ rfl rfl).symm
  · rw [pad_apply_of_not_inside _ _ _ _ _ _ _ _ 0 (by
      intro hh
      have h1 : lo ≤ (j 0).val := hh.1
      have h2 : ((j 0).val - lo) / (0 + 1) < R := hh.2.2
      omega), hz]
    by_cases h : lo ≤ (j 0).val
    · rw [if_pos h]
      unfold nat2
      rw [dif_neg fun h' => hk ⟨h, h'.1⟩]
    · rw [if_neg h]

/-- The padding's zero. -/
theorem zero_word {u : Shape} (e : u.Idx) : constant (F := Ideal) u .f32 0x00000000#32 e = (0 : EReal) := by
  show Ideal.ofBits .f32 0x00000000#32 = 0
  exact Ideal.ofBits_zero_f32

theorem v34 (i : S8192x3072.Idx) : val_main_v34 (F := Ideal) x0 x1 i = ct x0 x1 (i 0).val (i 1).val := by
  rw [val_main_v34_apply, val_main_v33_apply]
  exact congrArg₂ (· * ·) (nat2_val x0 i _ _ rfl rfl).symm (nat2_val x1 i _ _ rfl rfl).symm

theorem v2 (i : S8195x3072.Idx) : val_main_v2 (F := Ideal) x2 i = padded x2 (i 0).val (i 1).val := by
  have hz : ∀ e, val_main_v1 (F := Ideal) e = (0 : EReal) := fun e => by
    rw [val_main_v1_apply, val_main_cst_apply]
    exact Ideal.ofBits_zero_f32
  have hx : ∀ e, val_main_v0 (F := Ideal) x2 e = nat2 x2 (e 0).val (e 1).val := fun e => by
    rw [val_main_v0_apply]
    exact (nat2_val x2 _ _ _ rfl rfl).symm
  unfold val_main_v2
  rw [concatenate_apply]
  simp only [concatenateAt_cons, concatenateAt_singleton, Shape.Idx.norm_def, hz, hx]
  show (if h : (i 0).val < 3 then (0 : EReal) else nat2 x2 ((i 0).val - 3) (i 1).val) = padded x2 (i 0).val (i 1).val
  unfold padded
  by_cases h : (i 0).val < 3
  · rw [dif_pos h, if_pos h]
  · rw [dif_neg h, if_neg h]

/-- A row of cotangents by a weight, read at a natural number. -/
theorem product_nat (y : FVec Ideal S8192x3072 .f32) (k t n : ℕ) (hn : n < 3072)
    (hy : ∀ i : S8192x3072.Idx, y i = nat2 x3 k (i 1).val * ct x0 x1 (i 0).val (i 1).val) : nat2 y t n = nat2 x3 k n * ct x0 x1 t n := by
  by_cases ht : t < 8192
  · exact (nat2_val (R := 8192) (C := 3072) y (ix2 (⟨t, ht⟩ : Fin 8192) (⟨n, hn⟩ : Fin 3072)) t n rfl rfl).trans (hy _)
  · have e : nat2 x0 t n = 0 := dif_neg fun h => ht h.1
    unfold ct
    rw [e, zero_mul, mul_zero]
    exact dif_neg fun h => ht h.1

/-- A sum over one row is the row. -/
theorem one_row (f : Fin 1 → EReal) (x : EReal) (h : f 0 = x) : ∑ k : Fin 1, f k = x := by
  rw [Fin.sum_univ_one]
  exact h

/-! ## Tap 3 -/

theorem product_3 (i : S8192x3072.Idx) : val_main_v36 (F := Ideal) x0 x1 x3 i = nat2 x3 3 (i 1).val * ct x0 x1 (i 0).val (i 1).val := by
  have h1 : (i 1).val < 3072 := (i 1).isLt
  rw [val_main_v36_apply, v34, val_main_v35_apply, val_main_v28_apply, val_main_v27_apply, val_main_v26_apply]
  refine congrArg (· * _) (nat2_val x3 _ _ _ rfl ?_).symm
  show (i 1).val % 3072 = (i 1).val
  omega

theorem moved_3 (j : S8195x3072.Idx) :
    val_main_v40 (F := Ideal) x0 x1 x3 j = if 3 ≤ (j 0).val then nat2 x3 3 (j 1).val * ct x0 x1 ((j 0).val - 3) (j 1).val else 0 := by
  unfold val_main_v40
  refine (pad_rows (R := 8192) (H := 8195) (lo := 3) _ _ (fun e => zero_word e) _ _ j).trans ?_
  rw [product_nat x0 x1 x3 _ 3 _ _ (j 1).isLt (product_3 x0 x1 x3)]

theorem total_3 (i : S3072.Idx) : val_main_v38 (F := Ideal) x0 x1 x2 i = gradW x0 x1 x2 3 (i 0).val := by
  rw [val_main_v38_apply, val_main_cst_2_apply]
  refine (congrArg₂ (· + ·) Ideal.ofBits_zero_f32 (Finset.sum_congr rfl fun t _ => ?_)).trans (zero_add _)
  rw [val_main_v37_apply, v34, val_main_v29_apply, v2]
  refine congrArg₂ (· * ·) rfl ?_
  refine congrArg₂ (padded x2) ?_ rfl
  show 3 + t.val = t.val + 3
  omega

theorem row_3 (i : S1x3072.Idx) : val_main_v42 (F := Ideal) x0 x1 x2 i = gradW x0 x1 x2 3 (i 1).val := by
  have h1 : (i 1).val < 3072 := (i 1).isLt
  rw [val_main_v42_apply, val_main_v41_apply, val_main_cst_4_apply]
  refine (congrArg₂ (· + ·) Ideal.ofBits_zero_f32 (one_row _ _ ?_)).trans (zero_add _)
  rw [val_main_v39_apply, total_3]
  refine congrArg (gradW x0 x1 x2 3) ?_
  show 0 * 3072 + (i 1).val = (i 1).val
  omega

theorem placed_3 (j : S4x3072.Idx) : val_main_v43 (F := Ideal) x0 x1 x2 j = if (j 0).val = 3 then gradW x0 x1 x2 3 (j 1).val else 0 := by
  have h0 : (j 0).val < 4 := (j 0).isLt
  have h1 : (j 1).val < 3072 := (j 1).isLt
  unfold val_main_v43
  refine (pad_rows (R := 1) (H := 4) (lo := 3) _ _ (fun e => zero_word e) _ _ j).trans ?_
  by_cases h : (j 0).val = 3
  · rw [if_pos (by omega), if_pos h]
    exact (nat2_val (R := 1) (C := 3072) _ (ix2 (0 : Fin 1) (⟨(j 1).val, h1⟩ : Fin 3072)) _ _ (by show 0 = _; omega) rfl).trans (row_3 x0 x1 x2 _)
  · rw [if_neg h]
    by_cases h' : 3 ≤ (j 0).val
    · rw [if_pos h']
      exact dif_neg fun hh => by omega
    · rw [if_neg h']

/-! ## Tap 2 -/

theorem product_2 (i : S8192x3072.Idx) : val_main_v45 (F := Ideal) x0 x1 x3 i = nat2 x3 2 (i 1).val * ct x0 x1 (i 0).val (i 1).val := by
  have h1 : (i 1).val < 3072 := (i 1).isLt
  rw [val_main_v45_apply, v34, val_main_v44_apply, val_main_v21_apply, val_main_v20_apply, val_main_v19_apply]
  refine congrArg (· * _) (nat2_val x3 _ _ _ rfl ?_).symm
  show (i 1).val % 3072 = (i 1).val
  omega

theorem moved_2 (j : S8195x3072.Idx) :
    val_main_v49 (F := Ideal) x0 x1 x3 j = if 2 ≤ (j 0).val then nat2 x3 2 (j 1).val * ct x0 x1 ((j 0).val - 2) (j 1).val else 0 := by
  unfold val_main_v49
  refine (pad_rows (R := 8192) (H := 8195) (lo := 2) _ _ (fun e => zero_word e) _ _ j).trans ?_
  rw [product_nat x0 x1 x3 _ 2 _ _ (j 1).isLt (product_2 x0 x1 x3)]

theorem total_2 (i : S3072.Idx) : val_main_v47 (F := Ideal) x0 x1 x2 i = gradW x0 x1 x2 2 (i 0).val := by
  rw [val_main_v47_apply, val_main_cst_6_apply]
  refine (congrArg₂ (· + ·) Ideal.ofBits_zero_f32 (Finset.sum_congr rfl fun t _ => ?_)).trans (zero_add _)
  rw [val_main_v46_apply, v34, val_main_v22_apply, v2]
  refine congrArg₂ (· * ·) rfl ?_
  refine congrArg₂ (padded x2) ?_ rfl
  show 2 + t.val = t.val + 2
  omega

theorem row_2 (i : S1x3072.Idx) : val_main_v52 (F := Ideal) x0 x1 x2 i = gradW x0 x1 x2 2 (i 1).val := by
  have h1 : (i 1).val < 3072 := (i 1).isLt
  rw [val_main_v52_apply, val_main_v51_apply, val_main_cst_8_apply]
  refine (congrArg₂ (· + ·) Ideal.ofBits_zero_f32 (one_row _ _ ?_)).trans (zero_add _)
  rw [val_main_v48_apply, total_2]
  refine congrArg (gradW x0 x1 x2 2) ?_
  show 0 * 3072 + (i 1).val = (i 1).val
  omega

theorem placed_2 (j : S4x3072.Idx) : val_main_v53 (F := Ideal) x0 x1 x2 j = if (j 0).val = 2 then gradW x0 x1 x2 2 (j 1).val else 0 := by
  have h0 : (j 0).val < 4 := (j 0).isLt
  have h1 : (j 1).val < 3072 := (j 1).isLt
  unfold val_main_v53
  refine (pad_rows (R := 1) (H := 4) (lo := 2) _ _ (fun e => zero_word e) _ _ j).trans ?_
  by_cases h : (j 0).val = 2
  · rw [if_pos (by omega), if_pos h]
    exact (nat2_val (R := 1) (C := 3072) _ (ix2 (0 : Fin 1) (⟨(j 1).val, h1⟩ : Fin 3072)) _ _ (by show 0 = _; omega) rfl).trans (row_2 x0 x1 x2 _)
  · rw [if_neg h]
    by_cases h' : 2 ≤ (j 0).val
    · rw [if_pos h']
      exact dif_neg fun hh => by omega
    · rw [if_neg h']

/-! ## Tap 1 -/

theorem product_1 (i : S8192x3072.Idx) : val_main_v56 (F := Ideal) x0 x1 x3 i = nat2 x3 1 (i 1).val * ct x0 x1 (i 0).val (i 1).val := by
  have h1 : (i 1).val < 3072 := (i 1).isLt
  rw [val_main_v56_apply, v34, val_main_v55_apply, val_main_v14_apply, val_main_v13_apply, val_main_v12_apply]
  refine congrArg (· * _) (nat2_val x3 _ _ _ rfl ?_).symm
  show (i 1).val % 3072 = (i 1).val
  omega

theorem moved_1 (j : S8195x3072.Idx) :
    val_main_v60 (F := Ideal) x0 x1 x3 j = if 1 ≤ (j 0).val then nat2 x3 1 (j 1).val * ct x0 x1 ((j 0).val - 1) (j 1).val else 0 := by
  unfold val_main_v60
  refine (pad_rows (R := 8192) (H := 8195) (lo := 1) _ _ (fun e => zero_word e) _ _ j).trans ?_
  rw [product_nat x0 x1 x3 _ 1 _ _ (j 1).isLt (product_1 x0 x1 x3)]

theorem total_1 (i : S3072.Idx) : val_main_v58 (F := Ideal) x0 x1 x2 i = gradW x0 x1 x2 1 (i 0).val := by
  rw [val_main_v58_apply, val_main_cst_10_apply]
  refine (congrArg₂ (· + ·) Ideal.ofBits_zero_f32 (Finset.sum_congr rfl fun t _ => ?_)).trans (zero_add _)
  rw [val_main_v57_apply, v34, val_main_v15_apply, v2]
  refine congrArg₂ (· * ·) rfl ?_
  refine congrArg₂ (padded x2) ?_ rfl
  show 1 + t.val = t.val + 1
  omega

theorem row_1 (i : S1x3072.Idx) : val_main_v63 (F := Ideal) x0 x1 x2 i = gradW x0 x1 x2 1 (i 1).val := by
  have h1 : (i 1).val < 3072 := (i 1).isLt
  rw [val_main_v63_apply, val_main_v62_apply, val_main_cst_12_apply]
  refine (congrArg₂ (· + ·) Ideal.ofBits_zero_f32 (one_row _ _ ?_)).trans (zero_add _)
  rw [val_main_v59_apply, total_1]
  refine congrArg (gradW x0 x1 x2 1) ?_
  show 0 * 3072 + (i 1).val = (i 1).val
  omega

theorem placed_1 (j : S4x3072.Idx) : val_main_v64 (F := Ideal) x0 x1 x2 j = if (j 0).val = 1 then gradW x0 x1 x2 1 (j 1).val else 0 := by
  have h0 : (j 0).val < 4 := (j 0).isLt
  have h1 : (j 1).val < 3072 := (j 1).isLt
  unfold val_main_v64
  refine (pad_rows (R := 1) (H := 4) (lo := 1) _ _ (fun e => zero_word e) _ _ j).trans ?_
  by_cases h : (j 0).val = 1
  · rw [if_pos (by omega), if_pos h]
    exact (nat2_val (R := 1) (C := 3072) _ (ix2 (0 : Fin 1) (⟨(j 1).val, h1⟩ : Fin 3072)) _ _ (by show 0 = _; omega) rfl).trans (row_1 x0 x1 x2 _)
  · rw [if_neg h]
    by_cases h' : 1 ≤ (j 0).val
    · rw [if_pos h']
      exact dif_neg fun hh => by omega
    · rw [if_neg h']

/-! ## Tap 0 -/

theorem product_0 (i : S8192x3072.Idx) : val_main_v67 (F := Ideal) x0 x1 x3 i = nat2 x3 0 (i 1).val * ct x0 x1 (i 0).val (i 1).val := by
  have h1 : (i 1).val < 3072 := (i 1).isLt
  rw [val_main_v67_apply, v34, val_main_v66_apply, val_main_v6_apply, val_main_v5_apply, val_main_v4_apply]
  refine congrArg (· * _) (nat2_val x3 _ _ _ rfl ?_).symm
  show (i 1).val % 3072 = (i 1).val
  omega

theorem moved_0 (j : S8195x3072.Idx) :
    val_main_v71 (F := Ideal) x0 x1 x3 j = if 0 ≤ (j 0).val then nat2 x3 0 (j 1).val * ct x0 x1 ((j 0).val - 0) (j 1).val else 0 := by
  unfold val_main_v71
  refine (pad_rows (R := 8192) (H := 8195) (lo := 0) _ _ (fun e => zero_word e) _ _ j).trans ?_
  rw [product_nat x0 x1 x3 _ 0 _ _ (j 1).isLt (product_0 x0 x1 x3)]

theorem total_0 (i : S3072.Idx) : val_main_v69 (F := Ideal) x0 x1 x2 i = gradW x0 x1 x2 0 (i 0).val := by
  rw [val_main_v69_apply, val_main_cst_14_apply]
  refine (congrArg₂ (· + ·) Ideal.ofBits_zero_f32 (Finset.sum_congr rfl fun t _ => ?_)).trans (zero_add _)
  rw [val_main_v68_apply, v34, val_main_v7_apply, v2]
  refine congrArg₂ (· * ·) rfl ?_
  refine congrArg₂ (padded x2) ?_ rfl
  show t.val = t.val + 0
  omega

theorem row_0 (i : S1x3072.Idx) : val_main_v74 (F := Ideal) x0 x1 x2 i = gradW x0 x1 x2 0 (i 1).val := by
  have h1 : (i 1).val < 3072 := (i 1).isLt
  rw [val_main_v74_apply, val_main_v73_apply, val_main_cst_16_apply]
  refine (congrArg₂ (· + ·) Ideal.ofBits_zero_f32 (one_row _ _ ?_)).trans (zero_add _)
  rw [val_main_v70_apply, total_0]
  refine congrArg (gradW x0 x1 x2 0) ?_
  show 0 * 3072 + (i 1).val = (i 1).val
  omega

theorem placed_0 (j : S4x3072.Idx) : val_main_v75 (F := Ideal) x0 x1 x2 j = if (j 0).val = 0 then gradW x0 x1 x2 0 (j 1).val else 0 := by
  have h0 : (j 0).val < 4 := (j 0).isLt
  have h1 : (j 1).val < 3072 := (j 1).isLt
  unfold val_main_v75
  refine (pad_rows (R := 1) (H := 4) (lo := 0) _ _ (fun e => zero_word e) _ _ j).trans ?_
  by_cases h : (j 0).val = 0
  · rw [if_pos (by omega), if_pos h]
    exact (nat2_val (R := 1) (C := 3072) _ (ix2 (0 : Fin 1) (⟨(j 1).val, h1⟩ : Fin 3072)) _ _ (by show 0 = _; omega) rfl).trans (row_0 x0 x1 x2 _)
  · rw [if_neg h]
    by_cases h' : 0 ≤ (j 0).val
    · rw [if_pos h']
      exact dif_neg fun hh => by omega
    · rw [if_neg h']

/-! ## The results -/

theorem v78 (i : S8192x3072.Idx) : val_main_v78 (F := Ideal) x0 x1 x3 i = gradX x0 x1 x3 (i 0).val (i 1).val := by
  rw [val_main_v78_apply, val_main_v72_apply, val_main_v61_apply, val_main_v50_apply, moved_0, moved_1, moved_2, moved_3]
  have e : (idx_main_v78 i 0).val = 3 + (i 0).val := rfl
  have e' : (idx_main_v78 i 1).val = (i 1).val := rfl
  rw [e, e', if_pos (by omega), if_pos (by omega), if_pos (by omega), if_pos (by omega), show 3 + (i 0).val - 3 = (i 0).val by omega,
    show 3 + (i 0).val - 2 = 1 + (i 0).val by omega, show 3 + (i 0).val - 1 = 2 + (i 0).val by omega, show 3 + (i 0).val - 0 = 3 + (i 0).val by omega]
  unfold gradX
  generalize nat2 x3 0 (i 1).val * _ = a
  generalize nat2 x3 1 (i 1).val * _ = b
  generalize nat2 x3 2 (i 1).val * _ = c
  generalize nat2 x3 3 (i 1).val * _ = d
  show d + c + b + a = a + b + c + d
  abel

/-- THE FIRST RESULT: the gradient in the first 3072 columns; the others are the last argument's. -/
theorem v81 (r : Fin 8192) (n : Fin 6912) :
    val_main_v81 (F := Ideal) x0 x1 x3 x4 (ix2 r n) = if n.val < 3072 then gradX x0 x1 x3 r.val n.val else x4 (ix2 r n) := by
  have hv : ∀ i, val_main_v79 (F := Ideal) x0 x1 x3 i = gradX x0 x1 x3 (i 0).val (i 1).val := fun i => v78 x0 x1 x3 i
  have hx : ∀ i, x4 i = nat2 x4 (i 0).val (i 1).val := fun i => (nat2_val x4 i _ _ rfl rfl).symm
  unfold val_main_v81
  rw [concatenate_apply]
  simp only [concatenateAt_cons, concatenateAt_singleton, val_main_v80_apply, hv, Shape.Idx.norm_def, hx]
  show (if h : n.val < 3072 then gradX x0 x1 x3 r.val n.val else nat2 x4 r.val (3072 + (n.val - 3072)))
    = if n.val < 3072 then gradX x0 x1 x3 r.val n.val else nat2 x4 r.val n.val
  by_cases h : n.val < 3072
  · rw [dif_pos h, if_pos h]
  · rw [dif_neg h, if_neg h, show 3072 + (n.val - 3072) = n.val by omega]

theorem v76 (j : S4x3072.Idx) : val_main_v76 (F := Ideal) x0 x1 x2 j = gradW x0 x1 x2 (j 0).val (j 1).val := by
  have b : (j 0).val < 4 := (j 0).isLt
  rw [val_main_v76_apply, val_main_v65_apply, val_main_v54_apply, placed_0, placed_1, placed_2, placed_3]
  show ((_ + _) + _) + _ = (_ : EReal)
  generalize (j 0).val = k at b ⊢
  have hk : k = 0 ∨ k = 1 ∨ k = 2 ∨ k = 3 := by omega
  rcases hk with rfl | rfl | rfl | rfl <;> simp

/-- THE SECOND RESULT: the taps' gradient, then four rows of zeros. -/
theorem v83 (k : Fin 8) (n : Fin 3072) :
    val_main_v83 (F := Ideal) x0 x1 x2 (ix2 k n) = if k.val < 4 then gradW x0 x1 x2 k.val n.val else 0 := by
  have hz : ∀ e, val_main_v82 (F := Ideal) e = (0 : EReal) := fun e => by
    rw [val_main_v82_apply, val_main_cst_18_apply]
    exact Ideal.ofBits_zero_f32
  unfold val_main_v83
  rw [concatenate_apply]
  simp only [concatenateAt_cons, concatenateAt_singleton, v76, Shape.Idx.norm_def, hz]
  show (if h : k.val < 4 then gradW x0 x1 x2 k.val n.val else (0 : EReal)) = _
  by_cases h : k.val < 4
  · rw [dif_pos h, if_pos h]
  · rw [dif_neg h, if_neg h]

end Cert.ConvReference

end
-- ==== Proof.Conv.lean ====
/-
  The convolution's gradient: what the kernel's run leaves in its two results, over the extended reals, is what the derivative
  of the convolution's lines computes. A point of the grid takes 512 rows of 512 channels, looks eight rows ahead in the
  cotangents and eight rows back in the inputs; past the ends the kernel takes zeros. The taps' gradient is gathered over the
  blocks of rows, for each block of channels.
-/
module

public import proofs.«01_k».proof.Proof.ConvPoint
public import proofs.«01_k».proof.Proof.ConvStep
public import proofs.«01_k».proof.Proof.ConvReference
public import Idealize.ShloMosaic.Lib.Claim

@[expose] public section

noncomputable section

namespace Cert.ConvProof

open Cert.ConvBwdIdeal Cert.ConvBwdIdeal.Gen Cert.ConvBwdIdeal.Value
open Cert.NatRead Cert.ConvBlock Cert.ConvReference Cert.Rows
open Idealize.ShloMosaic hiding ix1 ix2 ix3 eq_ix2
open Idealize.ShloMosaic.TcCoe Idealize.ShloMosaic.ValueIdx
open scoped BigOperators

variable (m : (ℓ : Loc nD τ sig) → Buf (Elt Ideal) ℓ)

/-- The operands: the activation's cotangent, its slope, the projection that the convolution reads, the taps, and the array
    whose first columns the first result replaces. -/
abbrev ds (c : Dev nD) : FVec Ideal S8192x3072 .f32 := m ((c : Thread nD τ).loc main_arg0)
abbrev ss (c : Dev nD) : FVec Ideal S8192x3072 .bf16 := m ((c : Thread nD τ).loc main_arg1)
abbrev xs (c : Dev nD) : FVec Ideal S8192x3840 .f32 := m ((c : Thread nD τ).loc main_arg2)
abbrev ws (c : Dev nD) : FVec Ideal S4x3072 .f32 := m ((c : Thread nD τ).loc main_arg3)
abbrev ps (c : Dev nD) : FVec Ideal S8192x6912 .bf16 := m ((c : Thread nD τ).loc main_arg4)

/-- The point of the grid at block `p` of the rows and block `j` of the channels. -/
abbrev pt (j : Fin 6) (p : Fin 16) : Fin cfg0.N := ⟨16 * j.val + p.val, lt_of_lt_of_eq (by omega) N_0.symm⟩

theorem coord : ∀ (j : Fin 6) (p : Fin 16), (grid0.coords (pt j p) 1).val = p.val := by decide +kernel
theorem index_0 : ∀ (j : Fin 6) (p : Fin 16), win0_0.index (pt j p) 0 = p.val ∧ win0_0.index (pt j p) 1 = j.val := by decide +kernel
theorem index_1 : ∀ (j : Fin 6) (p : Fin 16), p.val < 15 → win0_1.index (pt j p) 0 = 64 * p.val + 64 ∧ win0_1.index (pt j p) 1 = j.val := by decide +kernel
theorem index_2 : ∀ (j : Fin 6) (p : Fin 16), win0_2.index (pt j p) 0 = p.val ∧ win0_2.index (pt j p) 1 = j.val := by decide +kernel
theorem index_3 : ∀ (j : Fin 6) (p : Fin 16), p.val < 15 → win0_3.index (pt j p) 0 = 32 * p.val + 32 ∧ win0_3.index (pt j p) 1 = j.val := by decide +kernel
theorem index_4 : ∀ (j : Fin 6) (p : Fin 16), win0_4.index (pt j p) 0 = p.val ∧ win0_4.index (pt j p) 1 = j.val := by decide +kernel
theorem index_5 : ∀ (j : Fin 6) (p : Fin 16), 0 < p.val → win0_5.index (pt j p) 0 = 64 * p.val - 1 ∧ win0_5.index (pt j p) 1 = j.val := by decide +kernel
theorem index_6 : ∀ (j : Fin 6) (p : Fin 16), win0_6.index (pt j p) 0 = 0 ∧ win0_6.index (pt j p) 1 = j.val := by decide +kernel
theorem index_7 : ∀ (j : Fin 6) (p : Fin 16), win0_7.index (pt j p) 0 = p.val ∧ win0_7.index (pt j p) 1 = j.val := by decide +kernel
theorem index_8 : ∀ (j : Fin 6) (p : Fin 16), win0_8.index (pt j p) 0 = 0 ∧ win0_8.index (pt j p) 1 = j.val := by decide +kernel
theorem column_8 : ∀ t : Fin cfg0.N, win0_8.index t 1 = t.val / 16 := by decide +kernel

/-- The first result's blocks lie inside its array. -/
theorem fits_7 : ∀ (j : Fin 6) (p : Fin 16) (a : Fin 2), win0_7.xsize (grid0.coords (pt j p)) a = 512 := by decide +kernel

theorem index_lt (j : Fin 6) (p : Fin 16) (y : (win0_7.xblock (grid0.coords (pt j p))).Idx) (a : Fin 2) : (y a).val < 512 :=
  lt_of_lt_of_eq (show (y a).val < win0_7.xsize (grid0.coords (pt j p)) a from (y a).isLt) (fits_7 j p a)

/-- What a point writes back of its block, at an index. -/
theorem cut_at (i : grid0.Coords) (X : FVec Ideal S512x512 .bf16) (y : (win0_7.xblock i).Idx) : win0_7.cut i X y = X (win0_7.xinj i y) := rfl

/-! ## The blocks a point reads -/

theorem read_0 (c : Dev nD) (j : Fin 6) (p : Fin 16) (q n : ℕ) (hq : q < 512) (hn : n < 512) :
    nat2 (iblk m c 0 (pt j p) : FVec Ideal S512x512 .f32) q n = nat2 (ds m c) (512 * p.val + q) (512 * j.val + n) := by
  obtain ⟨h0, h1⟩ := index_0 j p
  refine (nat2_val (R := 512) (C := 512) _ (ix2 (⟨q, hq⟩ : Fin 512) (⟨n, hn⟩ : Fin 512)) _ _ rfl rfl).trans ?_
  unfold iblk
  rw [View.read_apply]
  show V m c main_arg0 _ = _
  rw [V_main_arg0]
  refine (nat2_val (ds m c) _ _ _ ?_ ?_).symm
  · show win0_0.index (pt j p) 0 * 512 + 1 * q = 512 * p.val + q; rw [h0]; omega
  · show win0_0.index (pt j p) 1 * 512 + 1 * n = 512 * j.val + n; rw [h1]; omega

theorem read_1 (c : Dev nD) (j : Fin 6) (p : Fin 16) (hp : p.val < 15) (q n : ℕ) (hq : q < 8) (hn : n < 512) :
    nat2 (iblk m c 1 (pt j p) : FVec Ideal S8x512 .f32) q n = nat2 (ds m c) (512 * p.val + 512 + q) (512 * j.val + n) := by
  obtain ⟨h0, h1⟩ := index_1 j p hp
  refine (nat2_val (R := 8) (C := 512) _ (ix2 (⟨q, hq⟩ : Fin 8) (⟨n, hn⟩ : Fin 512)) _ _ rfl rfl).trans ?_
  unfold iblk
  rw [View.read_apply]
  show V m c main_arg0 _ = _
  rw [V_main_arg0]
  refine (nat2_val (ds m c) _ _ _ ?_ ?_).symm
  · show win0_1.index (pt j p) 0 * 8 + 1 * q = 512 * p.val + 512 + q; rw [h0]; omega
  · show win0_1.index (pt j p) 1 * 512 + 1 * n = 512 * j.val + n; rw [h1]; omega

theorem read_2 (c : Dev nD) (j : Fin 6) (p : Fin 16) (q n : ℕ) (hq : q < 512) (hn : n < 512) :
    nat2 (iblk m c 2 (pt j p) : FVec Ideal S512x512 .bf16) q n = nat2 (ss m c) (512 * p.val + q) (512 * j.val + n) := by
  obtain ⟨h0, h1⟩ := index_2 j p
  refine (nat2_val (R := 512) (C := 512) _ (ix2 (⟨q, hq⟩ : Fin 512) (⟨n, hn⟩ : Fin 512)) _ _ rfl rfl).trans ?_
  unfold iblk
  rw [View.read_apply]
  show V m c main_arg1 _ = _
  rw [V_main_arg1]
  refine (nat2_val (ss m c) _ _ _ ?_ ?_).symm
  · show win0_2.index (pt j p) 0 * 512 + 1 * q = 512 * p.val + q; rw [h0]; omega
  · show win0_2.index (pt j p) 1 * 512 + 1 * n = 512 * j.val + n; rw [h1]; omega

theorem read_3 (c : Dev nD) (j : Fin 6) (p : Fin 16) (hp : p.val < 15) (q n : ℕ) (hq : q < 16) (hn : n < 512) :
    nat2 (iblk m c 3 (pt j p) : FVec Ideal S16x512 .bf16) q n = nat2 (ss m c) (512 * p.val + 512 + q) (512 * j.val + n) := by
  obtain ⟨h0, h1⟩ := index_3 j p hp
  refine (nat2_val (R := 16) (C := 512) _ (ix2 (⟨q, hq⟩ : Fin 16) (⟨n, hn⟩ : Fin 512)) _ _ rfl rfl).trans ?_
  unfold iblk
  rw [View.read_apply]
  show V m c main_arg1 _ = _
  rw [V_main_arg1]
  refine (nat2_val (ss m c) _ _ _ ?_ ?_).symm
  · show win0_3.index (pt j p) 0 * 16 + 1 * q = 512 * p.val + 512 + q; rw [h0]; omega
  · show win0_3.index (pt j p) 1 * 512 + 1 * n = 512 * j.val + n; rw [h1]; omega

theorem read_4 (c : Dev nD) (j : Fin 6) (p : Fin 16) (q n : ℕ) (hq : q < 512) (hn : n < 512) :
    nat2 (X0_4 m c (pt j p) : FVec Ideal S512x512 .f32) q n = nat2 (xs m c) (512 * p.val + q) (512 * j.val + n) := by
  obtain ⟨h0, h1⟩ := index_4 j p
  refine (nat2_val (R := 512) (C := 512) _ (ix2 (⟨q, hq⟩ : Fin 512) (⟨n, hn⟩ : Fin 512)) _ _ rfl rfl).trans ?_
  unfold X0_4 Pipeline.Window.fill
  rw [dif_pos (moved0_4 (pt j p) _)]
  unfold iblk
  rw [View.read_apply]
  show V m c main_arg2 _ = _
  rw [V_main_arg2]
  refine (nat2_val (xs m c) _ _ _ ?_ ?_).symm
  · show win0_4.index (pt j p) 0 * 512 + 1 * q = 512 * p.val + q; rw [h0]; omega
  · show win0_4.index (pt j p) 1 * 512 + 1 * n = 512 * j.val + n; rw [h1]; omega

theorem read_5 (c : Dev nD) (j : Fin 6) (p : Fin 16) (hp : 0 < p.val) (q n : ℕ) (hq : q < 8) (hn : n < 512) :
    nat2 (X0_5 m c (pt j p) : FVec Ideal S8x512 .f32) q n = nat2 (xs m c) (512 * p.val - 8 + q) (512 * j.val + n) := by
  obtain ⟨h0, h1⟩ := index_5 j p hp
  refine (nat2_val (R := 8) (C := 512) _ (ix2 (⟨q, hq⟩ : Fin 8) (⟨n, hn⟩ : Fin 512)) _ _ rfl rfl).trans ?_
  unfold X0_5 Pipeline.Window.fill
  rw [dif_pos (moved0_5 (pt j p) _)]
  unfold iblk
  rw [View.read_apply]
  show V m c main_arg2 _ = _
  rw [V_main_arg2]
  refine (nat2_val (xs m c) _ _ _ ?_ ?_).symm
  · show win0_5.index (pt j p) 0 * 8 + 1 * q = 512 * p.val - 8 + q; rw [h0]; omega
  · show win0_5.index (pt j p) 1 * 512 + 1 * n = 512 * j.val + n; rw [h1]; omega

theorem read_6 (c : Dev nD) (j : Fin 6) (p : Fin 16) (q n : ℕ) (hq : q < 4) (hn : n < 512) :
    nat2 (iblk m c 6 (pt j p) : FVec Ideal S4x512 .f32) q n = nat2 (ws m c) (q) (512 * j.val + n) := by
  obtain ⟨h0, h1⟩ := index_6 j p
  refine (nat2_val (R := 4) (C := 512) _ (ix2 (⟨q, hq⟩ : Fin 4) (⟨n, hn⟩ : Fin 512)) _ _ rfl rfl).trans ?_
  unfold iblk
  rw [View.read_apply]
  show V m c main_arg3 _ = _
  rw [V_main_arg3]
  refine (nat2_val (ws m c) _ _ _ ?_ ?_).symm
  · show win0_6.index (pt j p) 0 * 4 + 1 * q = q; rw [h0]; omega
  · show win0_6.index (pt j p) 1 * 512 + 1 * n = 512 * j.val + n; rw [h1]; omega

/-- A block's cotangents are the array's. -/
theorem cot_eq (c : Dev nD) (j : Fin 6) (p : Fin 16) (q n : ℕ) (hq : q < 520) (hn : n < 512) :
    cot (grid0.coords (pt j p)) (iblk m c 0 (pt j p)) (iblk m c 1 (pt j p)) (iblk m c 2 (pt j p)) (iblk m c 3 (pt j p)) q n
      = ct (ds m c) (ss m c) (512 * p.val + q) (512 * j.val + n) := by
  have hp := p.isLt
  unfold cot ct
  rw [coord]
  by_cases h : q < 512
  · rw [if_pos h]
    exact congrArg₂ (· * ·) (read_0 m c j p q n h hn) (read_2 m c j p q n h hn)
  rw [if_neg h]
  by_cases h15 : p.val < 15
  · rw [if_pos h15]
    have e : 512 * p.val + 512 + (q - 512) = 512 * p.val + q := by omega
    refine congrArg₂ (· * ·) ((read_1 m c j p h15 (q - 512) n (by omega) hn).trans ?_) ((read_3 m c j p h15 (q - 512) n (by omega) hn).trans ?_)
    · rw [e]
    · rw [e]
  · rw [if_neg h15]
    have e : nat2 (ds m c) (512 * p.val + q) (512 * j.val + n) = 0 := dif_neg fun hh => by omega
    rw [e, zero_mul]

/-- A block's inputs are the array's, behind zeros. -/
theorem past_eq (c : Dev nD) (j : Fin 6) (p : Fin 16) (q n : ℕ) (hq : q < 515) (hn : n < 512) :
    past (grid0.coords (pt j p)) (X0_4 m c (pt j p)) (X0_5 m c (pt j p)) (q + 5) n = padded (xs m c) (512 * p.val + q) (512 * j.val + n) := by
  unfold past padded
  rw [coord]
  by_cases h : q + 5 < 8
  · rw [if_pos h]
    by_cases h0 : 0 < p.val
    · rw [if_pos h0, if_neg (by omega)]
      refine (read_5 m c j p h0 (q + 5) n h hn).trans ?_
      rw [show 512 * p.val - 8 + (q + 5) = 512 * p.val + q - 3 by omega]
    · rw [if_neg h0, if_pos (by omega)]
  · rw [if_neg h, if_neg (by omega)]
    refine (read_4 m c j p (q + 5 - 8) n (by omega) hn).trans ?_
    rw [show 512 * p.val + (q + 5 - 8) = 512 * p.val + q - 3 by omega]

/-! ## The input's gradient -/

theorem block_dx (c : Dev nD) (j : Fin 6) (p : Fin 16) (r n : ℕ) (hr : r < 512) (hn : n < 512) :
    blockDx (grid0.coords (pt j p)) (iblk m c 0 (pt j p)) (iblk m c 1 (pt j p)) (iblk m c 2 (pt j p)) (iblk m c 3 (pt j p)) (iblk m c 6 (pt j p)) r n
      = gradX (ds m c) (ss m c) (ws m c) (512 * p.val + r) (512 * j.val + n) := by
  unfold blockDx gradX
  have e (k : ℕ) (hk : k < 4) : cot (grid0.coords (pt j p)) (iblk m c 0 (pt j p)) (iblk m c 1 (pt j p)) (iblk m c 2 (pt j p)) (iblk m c 3 (pt j p)) (k + r) n
      = ct (ds m c) (ss m c) (k + (512 * p.val + r)) (512 * j.val + n) := by
    rw [cot_eq m c j p (k + r) n (by omega) hn, show 512 * p.val + (k + r) = k + (512 * p.val + r) by omega]
  have e0 := e 0 (by omega)
  rw [Nat.zero_add, Nat.zero_add] at e0
  exact congrArg₂ (· + ·) (congrArg₂ (· + ·) (congrArg₂ (· + ·)
    (congrArg₂ (· * ·) (read_6 m c j p 0 n (by omega) hn) (e 3 (by omega))) (congrArg₂ (· * ·) (read_6 m c j p 1 n (by omega) hn) (e 2 (by omega))))
    (congrArg₂ (· * ·) (read_6 m c j p 2 n (by omega) hn) (e 1 (by omega)))) (congrArg₂ (· * ·) (read_6 m c j p 3 n (by omega) hn) e0)

/-- THE FIRST RESULT in the columns that the kernel writes. -/
theorem value_inside (c : Dev nD) (r : Fin 8192) (n : Fin 6912) (hn : n.val < 3072) :
    ((dats m 0 c).arrAt 7 cfg0.N : FVec Ideal S8192x6912 .bf16) (ix2 r n) = gradX (ds m c) (ss m c) (ws m c) r.val n.val := by
  obtain ⟨p, hp⟩ : ∃ p : Fin 16, p.val = r.val / 512 := ⟨⟨r.val / 512, by omega⟩, rfl⟩
  obtain ⟨r', hr⟩ : ∃ r' : Fin 512, r'.val = r.val % 512 := ⟨⟨r.val % 512, by omega⟩, rfl⟩
  obtain ⟨j, hj⟩ : ∃ j : Fin 6, j.val = n.val / 512 := ⟨⟨n.val / 512, by omega⟩, rfl⟩
  obtain ⟨n', hn'⟩ : ∃ n' : Fin 512, n'.val = n.val % 512 := ⟨⟨n.val % 512, by omega⟩, rfl⟩
  obtain ⟨h0, h1⟩ := index_7 j p
  obtain ⟨y, hy⟩ : ∃ y : (win0_7.xblock (grid0.coords (pt j p))).Idx, ∀ a : Fin 2, (y a).val = ((ix2 r' n' : S512x512.Idx) a).val :=
    ⟨fun a => ⟨((ix2 r' n' : S512x512.Idx) a).val, by
      show _ < win0_7.xsize (grid0.coords (pt j p)) a
      rw [fits_7 j p a]
      match a with
      | ⟨0, _⟩ => exact r'.isLt
      | ⟨1, _⟩ => exact n'.isLt⟩, fun _ => rfl⟩
  have ey : win0_7.xinj (grid0.coords (pt j p)) y = (ix2 r' n' : S512x512.Idx) := by
    funext a
    exact Fin.ext (hy a)
  have y0 : (y (0 : Fin 2)).val = r'.val := hy 0
  have y1 : (y (1 : Fin 2)).val = n'.val := hy 1
  have h := congrFun (blocks7 m c (pt j p) (flush0_7 (pt j p))) y
  rw [View.read_apply] at h
  have ei : ((cfg0.win 7).blk (pt j p)).view.emb y = (ix2 r n : S8192x6912.Idx) := by
    funext a
    apply Fin.ext
    match a with
    | ⟨0, _⟩ => show win0_7.index (pt j p) 0 * 512 + 1 * (y (0 : Fin 2)).val = r.val; rw [h0, y0]; omega
    | ⟨1, _⟩ => show win0_7.index (pt j p) 1 * 512 + 1 * (y (1 : Fin 2)).val = n.val; rw [h1, y1]; omega
  rw [ei] at h
  refine (show _ = _ from h).trans ?_
  have e : outDx (grid0.coords (pt j p)) (iblk m c 0 (pt j p)) (iblk m c 1 (pt j p)) (iblk m c 2 (pt j p)) (iblk m c 3 (pt j p)) (iblk m c 6 (pt j p)) (ix2 r' n')
      = gradX (ds m c) (ss m c) (ws m c) r.val n.val := by
    unfold outDx
    refine (block_dx m c j p r'.val n'.val r'.isLt n'.isLt).trans ?_
    rw [show 512 * p.val + r'.val = r.val by omega, show 512 * j.val + n'.val = n.val by omega]
  by_cases hc : (pt j p).val % 16 = 0
  · rw [flushed7_A m c (pt j p) hc]
    refine (cut_at _ _ y).trans ?_
    rw [ey]
    exact (congrFun (block_A_7 (hc := _) ..) _).trans e
  · rw [flushed7_B m c (pt j p) hc]
    refine (cut_at _ _ y).trans ?_
    rw [ey]
    exact (congrFun (block_B_7 (hc := _) ..) _).trans e

/-- The first result's array is entered with the last operand's contents. -/
theorem alias_in (c : Dev nD) : (V m c main_v0_0 : FVec Ideal S8192x6912 .bf16) = ps m c := by
  entry_read
  rfl

/-- THE FIRST RESULT in the other columns. -/
theorem value_outside (c : Dev nD) (r : Fin 8192) (n : Fin 6912) (hn : ¬n.val < 3072) :
    ((dats m 0 c).arrAt 7 cfg0.N : FVec Ideal S8192x6912 .bf16) (ix2 r n) = ps m c (ix2 r n) := by
  rw [entry7 m c (ix2 r n) ?_]
  · exact congrFun (alias_in m c) _
  intro t _ hmem
  have ht : t.val < 96 := lt_of_lt_of_eq t.isLt N_0
  obtain ⟨j, p, rfl⟩ : ∃ (j : Fin 6) (p : Fin 16), t = pt j p :=
    ⟨⟨t.val / 16, by omega⟩, ⟨t.val % 16, by omega⟩, Fin.ext (by show t.val = 16 * (t.val / 16) + t.val % 16; omega)⟩
  obtain ⟨h0, h1⟩ := index_7 j p
  obtain ⟨y, -, hy⟩ := Finset.mem_map.mp hmem
  have e1 : (((cfg0.win 7).blk (pt j p)).view.emb y : S8192x6912.Idx) 1 = n := (congrFun hy (1 : Fin 2)).trans rfl
  have hv : (((cfg0.win 7).blk (pt j p)).view.emb y : S8192x6912.Idx) 1 = n.val := congrArg Fin.val e1
  change win0_7.index (pt j p) 1 * 512 + 1 * (y (1 : Fin 2)).val = n.val at hv
  have hl := index_lt j p y 1
  have hj := j.isLt
  rw [h1] at hv
  omega

/-- The first result is the reference's. -/
theorem equal_7 (c : Dev nD) :
    ((dats m 0 c).arrAt 7 cfg0.N : FVec Ideal S8192x6912 .bf16)
      = Cert.ConvBwdRefIdeal.Read.val_main_v81 (F := Ideal) (ds m c) (ss m c) (ws m c) (ps m c) := by
  funext i
  obtain ⟨r, n, rfl⟩ : ∃ r n, i = ix2 r n := ⟨i 0, i 1, eq_ix2 i⟩
  rw [v81]
  by_cases h : n.val < 3072
  · rw [if_pos h]
    exact value_inside m c r n h
  · rw [if_neg h, value_outside m c r n h]

/-! ## The taps' gradient -/

/-- What one row adds to the gradient of tap `k`. -/
def term (c : Dev nD) (k n t : ℕ) : EReal := ct (ds m c) (ss m c) t n * padded (xs m c) (t + k) n

theorem block_step (c : Dev nD) (j : Fin 6) (p : Fin 16) (y : FVec Ideal S8x512 .f32) (i : S8x512.Idx) :
    outDw (grid0.coords (pt j p)) (iblk m c 0 (pt j p)) (iblk m c 1 (pt j p)) (iblk m c 2 (pt j p)) (iblk m c 3 (pt j p)) (X0_4 m c (pt j p)) (X0_5 m c (pt j p)) y i
      = if (i 0).val < 4 then y i + ∑ r : Fin 512, term m c (i 0).val (512 * j.val + (i 1).val) (512 * p.val + r.val) else y i := by
  have b1 : (i 1).val < 512 := (i 1).isLt
  unfold outDw term share
  by_cases h : (i 0).val < 4
  · rw [if_pos h, if_pos h]
    refine congrArg (y i + ·) (Finset.sum_congr rfl fun r _ => congrArg₂ (· * ·) (cot_eq m c j p r.val _ (by omega) b1) ?_)
    rw [show r.val + 5 + (i 0).val = r.val + (i 0).val + 5 by omega, past_eq m c j p (r.val + (i 0).val) _ (by omega) b1,
      show 512 * p.val + (r.val + (i 0).val) = 512 * p.val + r.val + (i 0).val by omega]
  · rw [if_neg h, if_neg h]

/-- The taps' gradient after block `n` of the rows: the sums over the blocks up to it. -/
theorem gathered (c : Dev nD) (j : Fin 6) (i : S8x512.Idx) (n : ℕ) (hn : n < 16) :
    ((outsAt0 m c (pt j ⟨n, hn⟩).val (pt j ⟨n, hn⟩).isLt).2 : FVec Ideal S8x512 .f32) i
      = if (i 0).val < 4 then ∑ p ∈ Finset.range (n + 1), ∑ r : Fin 512, term m c (i 0).val (512 * j.val + (i 1).val) (512 * p + r.val) else 0 := by
  have z : ∀ e, k0_pay2 (F := Ideal) e = (0 : EReal) := fun _ => Ideal.ofBits_zero_f32
  induction n with
  | zero =>
    rw [outsAt0_A m c (pt j ⟨0, hn⟩) (by show (16 * j.val + 0) % 16 = 0; omega)]
    dsimp only
    refine (congrFun (block_A_8 (hc := _) ..) i).trans ?_
    rw [block_step, Finset.sum_range_one, z, zero_add]
  | succ n ih =>
    rw [outsAt0_B m c (pt j ⟨n + 1, hn⟩) (by show ¬(16 * j.val + (n + 1)) % 16 = 0; omega)]
    dsimp only
    refine (congrFun (block_B_8 (hc := _) ..) i).trans ?_
    rw [block_step]
    have hi := ih (by omega)
    by_cases h : (i 0).val < 4
    · rw [if_pos h] at hi ⊢
      rw [if_pos h, Finset.sum_range_succ, ← hi]
      rfl
    · rw [if_neg h] at hi ⊢
      rw [if_neg h]
      exact hi

theorem disjoint8 (t t' : Fin cfg0.N) (h : (cfg0.win 8).flush t = true) (h' : (cfg0.win 8).flush t' = true) (hne : t ≠ t') :
    Disjoint ((cfg0.win 8).blk t).view.set ((cfg0.win 8).blk t').view.set := by
  have a := (flush0_8 t).mp h
  have b := (flush0_8 t').mp h'
  refine (cfg0.win 8).disjoint_blk fun e => hne (Fin.ext ?_)
  have e1 : win0_8.index t 1 = win0_8.index t' 1 := congrFun e (1 : Fin 2)
  rw [column_8, column_8] at e1
  omega

/-- THE SECOND RESULT. -/
theorem value_8 (c : Dev nD) (k : Fin 8) (n : Fin 3072) :
    ((dats m 0 c).arrAt 8 cfg0.N : FVec Ideal S8x3072 .f32) (ix2 k n)
      = if k.val < 4 then gradW (ds m c) (ss m c) (xs m c) k.val n.val else 0 := by
  obtain ⟨j, hj⟩ : ∃ j : Fin 6, j.val = n.val / 512 := ⟨⟨n.val / 512, by omega⟩, rfl⟩
  obtain ⟨n', hn'⟩ : ∃ n' : Fin 512, n'.val = n.val % 512 := ⟨⟨n.val % 512, by omega⟩, rfl⟩
  obtain ⟨h0, h1⟩ := index_8 j (15 : Fin 16)
  have h := congrFun ((dats m 0 c).read_blk_arrAt_eq_flushed 8 disjoint8 cfg0.N (pt j 15) (pt j 15).isLt
    ((flush0_8 _).mpr (by show (16 * j.val + 15) % 16 = 15; omega))) (ix2 k n' : S8x512.Idx)
  rw [View.read_apply] at h
  have ei : ((cfg0.win 8).blk (pt j 15)).view.emb (ix2 k n' : S8x512.Idx) = (ix2 k n : S8x3072.Idx) := by
    funext a
    apply Fin.ext
    match a with
    | ⟨0, _⟩ => show win0_8.index (pt j 15) 0 * 8 + 1 * k.val = k.val; rw [h0]; omega
    | ⟨1, _⟩ => show win0_8.index (pt j 15) 1 * 512 + 1 * n'.val = n.val; rw [h1]; omega
  rw [ei] at h
  refine (show _ = _ from h).trans ?_
  rw [flushed8]
  refine (gathered m c j (ix2 k n') 15 (by omega)).trans ?_
  show (if k.val < 4 then ∑ p ∈ Finset.range 16, ∑ r : Fin 512, term m c k.val (512 * j.val + n'.val) (512 * p + r.val) else 0) = _
  by_cases hk : k.val < 4
  · rw [if_pos hk, if_pos hk, show 512 * j.val + n'.val = n.val by omega, Finset.sum_range, sum_blocks (A := 16) (B := 512) (N := 8192) rfl]
    rfl
  · rw [if_neg hk, if_neg hk]

/-- The second result is the reference's. -/
theorem equal_8 (c : Dev nD) :
    ((dats m 0 c).arrAt 8 cfg0.N : FVec Ideal S8x3072 .f32)
      = Cert.ConvBwdRefIdeal.Read.val_main_v83 (F := Ideal) (ds m c) (ss m c) (xs m c) := by
  funext i
  obtain ⟨k, n, rfl⟩ : ∃ k n, i = ix2 k n := ⟨i 0, i 1, eq_ix2 i⟩
  rw [value_8, v83]

end Cert.ConvProof

end
-- ==== Proof.MlpNormKernel.lean ====
/-
  What one block of the kernel for the gradient of the layer norm in front of the MLP computes, over the extended reals: 512
  rows of the gradient of the norm's argument, in closed form, and what the block adds to the two accumulated rows.
-/
module

public import proofs.«01_k».proof.Proof.Blocks
public import proofs.«01_k».proof.Proof.Rows
public import proofs.«01_k».proof.Proof.Gen.MlpNormIdeal.Value
public import Idealize.ShloMosaic.Lib.ValueIdx
public import Idealize.ShloMosaic.Lib.ValueLayout

@[expose] public section

noncomputable section

namespace Cert.MlpNormKernel

open Cert.MlpNormIdeal Cert.MlpNormIdeal.Gen Cert.MlpNormIdeal.Value Cert.Blocks Cert.Rows Cert.Norm
open Idealize.ShloMosaic Idealize.ShloMosaic.TcCoe Idealize.ShloMosaic.ValueIdx
open scoped BigOperators

/-! ## The values -/

/-- A block's row, and the gradient of the norm's result on it. -/
def row (x : FVec Ideal S512x1024 .f32) (r : Fin 512) (j : Fin 1024) : EReal := x (ix2 r j)
def grad (d : FVec Ideal S512x4096 .bf16) (w : FVec Ideal S4x1024x1024 .bf16) (a : FVec Ideal S512x1024 .f32) (r : Fin 512) (j : Fin 1024) : EReal :=
  alpha * a (ix2 r j) + ∑ q : Fin 4, ∑ k : Fin 1024, d (ix2 r (⟨1024 * q.val + k.val, by omega⟩ : Fin 4096)) * w (ix3 q j k)

/-! The reductions and broadcasts of a block, at an index. -/

theorem across (x : FVec Ideal S512x1024 .f32) (r : Fin 512) (u : Fin 1) :
    shapeCast S512x1 (multiReduction .add [1] S512 x 0x00000000#32 reduces_S512x1024_S512) shapeCasts_S512_S512x1 (ix2 r u) = ∑ k : Fin 1024, x (ix2 r k) :=
  row_total x _ _ _ _ r u
theorem down (x : FVec Ideal S512x1024 .f32) (u : Fin 1) (j : Fin 1024) :
    shapeCast S1x1024 (multiReduction .add [0] S1024 x 0x00000000#32 reduces_S512x1024_S1024) shapeCasts_S1024_S1x1024 (ix2 u j) = ∑ k : Fin 512, x (ix2 k j) :=
  column_total x _ _ _ _ u j
theorem wide (x : FVec Ideal S512x1 .f32) (h) (r : Fin 512) (j : Fin 1024) : broadcastTo S512x1024 x h (ix2 r j) = x (ix2 r (0 : Fin 1)) :=
  spread_column (by decide) x h r j
theorem tall (x : FVec Ideal S1x1024 .f32) (h) (r : Fin 512) (j : Fin 1024) : broadcastTo S512x1024 x h (ix2 r j) = x (ix2 (0 : Fin 1) j) :=
  spread_row (by decide) x h r j

theorem dims : dot_S512x1024_S1024x1024_S512x1024_1_1_0_0_n_n = DotDims.transposedRhs 512 1024 1024 := rfl

/-- The gradient of the norm's result on a block, from the four products of the slices loaded. -/
def dh (d : Vec Ideal S512x4096 .bf16) (w : Vec Ideal S4x1024x1024 .bf16) (a : Vec Ideal S512x1024 .f32) : FVec Ideal S512x1024 .f32 :=
  k0_pay4 a (View.ld d (Rect.unit ![0, 0] ![512, 1024] inb_S512x4096_S512x1024_0_0))
    (View.ld w (Rect.unit ![0, 0, 0] ![1, 1024, 1024] inb_S4x1024x1024_S1x1024x1024_0_0_0))
    (View.ld d (Rect.unit ![0, 1024] ![512, 1024] inb_S512x4096_S512x1024_0_1024))
    (View.ld w (Rect.unit ![1, 0, 0] ![1, 1024, 1024] inb_S4x1024x1024_S1x1024x1024_1_0_0))
    (View.ld d (Rect.unit ![0, 2048] ![512, 1024] inb_S512x4096_S512x1024_0_2048))
    (View.ld w (Rect.unit ![2, 0, 0] ![1, 1024, 1024] inb_S4x1024x1024_S1x1024x1024_2_0_0))
    (View.ld d (Rect.unit ![0, 3072] ![512, 1024] inb_S512x4096_S512x1024_0_3072))
    (View.ld w (Rect.unit ![3, 0, 0] ![1, 1024, 1024] inb_S4x1024x1024_S1x1024x1024_3_0_0))

/-- One slice of the gradient's columns, and one of the weights as a matrix. -/
theorem slice_d (d : Vec Ideal S512x4096 .bf16) (q : Fin 4) (o : ℕ) (ho : o = 1024 * q.val) (inb : ∀ a, (![0, o] : Fin 2 → ℕ) a + (![512, 1024] : Fin 2 → ℕ) a ≤ S512x4096.size a) (r : Fin 512) (k : Fin 1024) :
    (View.ld d (Rect.unit (s := S512x4096) ![0, o] ![512, 1024] inb) : FVec Ideal S512x1024 .bf16) (ix2 r k) = d (ix2 r (⟨1024 * q.val + k.val, by omega⟩ : Fin 4096)) :=
  congrArg d (funext fun a => Fin.ext (match a with
    | ⟨0, _⟩ => by show 0 + 1 * r.val = r.val; omega
    | ⟨1, _⟩ => by show o + 1 * k.val = 1024 * q.val + k.val; omega))
theorem slice_w (w : Vec Ideal S4x1024x1024 .bf16) (q : Fin 4) (inb : ∀ a, (![q.val, 0, 0] : Fin 3 → ℕ) a + (![1, 1024, 1024] : Fin 3 → ℕ) a ≤ S4x1024x1024.size a) (j k : Fin 1024) :
    shapeCast S1024x1024 (View.ld w (Rect.unit (s := S4x1024x1024) ![q.val, 0, 0] ![1, 1024, 1024] inb) : FVec Ideal S1x1024x1024 .bf16) shapeCasts_S1x1024x1024_S1024x1024 (ix2 j k) = w (ix3 q j k) := by
  rw [shapeCast_apply _ _ (ix2 j k) (ix3 (0 : Fin 1) j k) (by rw [Shape.rowMajor_val_two, Shape.rowMajor_val_three]; show (0 * 1024 + j.val) * 1024 + k.val = j.val * 1024 + k.val; omega)]
  exact congrArg w (funext fun a => Fin.ext (match a with
    | ⟨0, _⟩ => by show q.val + 1 * 0 = q.val; omega
    | ⟨1, _⟩ => by show 0 + 1 * j.val = j.val; omega
    | ⟨2, _⟩ => by show 0 + 1 * k.val = k.val; omega))

theorem pay4 (d : Vec Ideal S512x4096 .bf16) (w : Vec Ideal S4x1024x1024 .bf16) (a : Vec Ideal S512x1024 .f32) (r : Fin 512) (j : Fin 1024) :
    dh d w a (ix2 r j) = grad d w a r j := by
  unfold dh k0_pay4 grad
  simp only [addf_apply, dims, matmul_transposed_zero]
  rw [Fin.sum_univ_four, ← add_assoc, ← add_assoc, ← add_assoc]
  refine congrArg₂ (· + ·) (congrArg₂ (· + ·) (congrArg₂ (· + ·) (congrArg₂ (· + ·) rfl ?_) ?_) ?_) ?_
  · exact Finset.sum_congr rfl fun k _ => congrArg₂ (· * ·) (slice_d d 0 0 rfl _ r k) (slice_w w 0 _ j k)
  · exact Finset.sum_congr rfl fun k _ => congrArg₂ (· * ·) (slice_d d 1 1024 rfl _ r k) (slice_w w 1 _ j k)
  · exact Finset.sum_congr rfl fun k _ => congrArg₂ (· * ·) (slice_d d 2 2048 rfl _ r k) (slice_w w 2 _ j k)
  · exact Finset.sum_congr rfl fun k _ => congrArg₂ (· * ·) (slice_d d 3 3072 rfl _ r k) (slice_w w 3 _ j k)

theorem pay5 (x : FVec Ideal S512x1024 .f32) (r : Fin 512) (j : Fin 1024) :
    (k0_pay5 (F := Ideal) x : FVec Ideal S512x1024 .f32) (ix2 r j) = centre (row x r) j := by
  unfold k0_pay5
  rw [subf_apply, wide, divf_apply, across]
  rfl

theorem pay6 (x : FVec Ideal S512x1024 .f32) (r : Fin 512) : (k0_pay6 (F := Ideal) x : FVec Ideal S512x1 .f32) (ix2 r (0 : Fin 1)) = rstd (row x r) := by
  unfold k0_pay6
  show Ideal.rsqrt (Ideal.div (shapeCast S512x1 _ _ (ix2 r (0 : Fin 1))) _ + _) = _
  rw [across]
  simp only [mulf_apply, pay5]
  rfl

theorem pay7 (x : FVec Ideal S512x1024 .f32) (r : Fin 512) (j : Fin 1024) :
    (k0_pay7 (F := Ideal) x : FVec Ideal S512x1024 .f32) (ix2 r j) = unit (row x r) j := by
  unfold k0_pay7
  rw [mulf_apply, wide, pay5, pay6]
  rfl

/-- The rows of the gradient of the norm's argument. -/
def dx (d : Vec Ideal S512x4096 .bf16) (w : Vec Ideal S4x1024x1024 .bf16) (a x : Vec Ideal S512x1024 .f32) (g : Vec Ideal S1x1024 .f32) : FVec Ideal S512x1024 .f32 :=
  k0_pay1 (k0_pay6 x) (k0_pay7 x) (k0_pay10 (dh d w a) g) (k0_pay11 (dh d w a) g) (k0_pay12 (dh d w a) x g)

theorem pay10 (d : Vec Ideal S512x4096 .bf16) (w : Vec Ideal S4x1024x1024 .bf16) (a : Vec Ideal S512x1024 .f32) (g : Vec Ideal S1x1024 .f32) (r : Fin 512) (j : Fin 1024) :
    (k0_pay10 (F := Ideal) (dh d w a) g : FVec Ideal S512x1024 .f32) (ix2 r j) = grad d w a r j * g (ix2 (0 : Fin 1) j) := by
  unfold k0_pay10
  rw [mulf_apply, tall, shapeCast_self, pay4]

theorem pay1 (d : Vec Ideal S512x4096 .bf16) (w : Vec Ideal S4x1024x1024 .bf16) (a x : Vec Ideal S512x1024 .f32) (g : Vec Ideal S1x1024 .f32)
    (r : Fin 512) (j : Fin 1024) :
    dx d w a x g (ix2 r j) = closed (row x r) (fun k => grad d w a r k * g (ix2 (0 : Fin 1) k)) j := by
  unfold dx k0_pay1 k0_pay11 k0_pay12
  simp only [mulf_apply, subf_apply, divf_apply, wide, pay6, pay7, pay10]
  rw [across, across]
  simp only [mulf_apply, pay7, pay10]
  rfl

/-- What a block adds to the first row, and to the second. -/
theorem pay8 (d : Vec Ideal S512x4096 .bf16) (w : Vec Ideal S4x1024x1024 .bf16) (a x : Vec Ideal S512x1024 .f32) (o : Vec Ideal S1x1024 .f32) (j : Fin 1024) :
    (k0_pay8 (F := Ideal) (dh d w a) x o : FVec Ideal S1x1024 .f32) (ix2 (0 : Fin 1) j)
      = o (ix2 (0 : Fin 1) j) + ∑ r : Fin 512, grad d w a r j * unit (row x r) j := by
  unfold k0_pay8
  rw [addf_apply, down, shapeCast_self]
  simp only [mulf_apply, pay4, pay7]
theorem pay9 (d : Vec Ideal S512x4096 .bf16) (w : Vec Ideal S4x1024x1024 .bf16) (a : Vec Ideal S512x1024 .f32) (o : Vec Ideal S1x1024 .f32) (j : Fin 1024) :
    (k0_pay9 (F := Ideal) (dh d w a) o : FVec Ideal S1x1024 .f32) (ix2 (0 : Fin 1) j)
      = o (ix2 (0 : Fin 1) j) + ∑ r : Fin 512, grad d w a r j := by
  unfold k0_pay9
  rw [addf_apply, down, shapeCast_self]
  simp only [pay4]

/-! ## What a run of the body leaves -/

theorem ahead_A (c : Dev nD) (i : grid0.Coords) (a1 : Memref sig .tc .vmem S512x4096 .bf16) (h1 : a1.IsWhole) (a2 : Memref sig .tc .vmem S4x1024x1024 .bf16) (h2 : a2.IsWhole)
    (a3 : Memref sig .tc .vmem S512x1024 .f32) (h3 : a3.IsWhole) (a4 : Memref sig .tc .vmem S512x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .bf16) (h7 : a7.IsWhole) (a8 : Memref sig .tc .vmem S8x1024 .f32) (h8 : a8.IsWhole) (hc : cond0_0 i)
    (x0 : Vec Ideal S512x4096 .bf16) (x1 : Vec Ideal S4x1024x1024 .bf16) (x2 x3 : Vec Ideal S512x1024 .f32) (x4 : Vec Ideal S1x1024 .f32) :
    out0_A_5 c i a1 h1 a2 h2 a3 h3 a4 h4 a5 h5 a6 h6 a7 h7 a8 h8 hc x0 x1 x2 x3 x4 = dx x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024) hz]
  rfl

theorem ahead_B (c : Dev nD) (i : grid0.Coords) (a1 : Memref sig .tc .vmem S512x4096 .bf16) (h1 : a1.IsWhole) (a2 : Memref sig .tc .vmem S4x1024x1024 .bf16) (h2 : a2.IsWhole)
    (a3 : Memref sig .tc .vmem S512x1024 .f32) (h3 : a3.IsWhole) (a4 : Memref sig .tc .vmem S512x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .bf16) (h7 : a7.IsWhole) (a8 : Memref sig .tc .vmem S8x1024 .f32) (h8 : a8.IsWhole) (hc : ¬cond0_0 i)
    (x0 : Vec Ideal S512x4096 .bf16) (x1 : Vec Ideal S4x1024x1024 .bf16) (x2 x3 : Vec Ideal S512x1024 .f32) (x4 : Vec Ideal S1x1024 .f32) (o : Vec Ideal S8x1024 .f32) :
    out0_B_5 c i a1 h1 a2 h2 a3 h3 a4 h4 a5 h5 a6 h6 a7 h7 a8 h8 hc x0 x1 x2 x3 x4 o = dx x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 o)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024) hz]
  rfl

theorem copy_A (c : Dev nD) (i : grid0.Coords) (a1 : Memref sig .tc .vmem S512x4096 .bf16) (h1 : a1.IsWhole) (a2 : Memref sig .tc .vmem S4x1024x1024 .bf16) (h2 : a2.IsWhole)
    (a3 : Memref sig .tc .vmem S512x1024 .f32) (h3 : a3.IsWhole) (a4 : Memref sig .tc .vmem S512x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .bf16) (h7 : a7.IsWhole) (a8 : Memref sig .tc .vmem S8x1024 .f32) (h8 : a8.IsWhole) (hc : cond0_0 i)
    (x0 : Vec Ideal S512x4096 .bf16) (x1 : Vec Ideal S4x1024x1024 .bf16) (x2 x3 : Vec Ideal S512x1024 .f32) (x4 : Vec Ideal S1x1024 .f32) :
    out0_A_6 c i a1 h1 a2 h2 a3 h3 a4 h4 a5 h5 a6 h6 a7 h7 a8 h8 hc x0 x1 x2 x3 x4 = truncf .bf16 (dx x0 x1 x2 x3 x4) bitsLt_bf16_f32 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024) hz]
  rfl

theorem copy_B (c : Dev nD) (i : grid0.Coords) (a1 : Memref sig .tc .vmem S512x4096 .bf16) (h1 : a1.IsWhole) (a2 : Memref sig .tc .vmem S4x1024x1024 .bf16) (h2 : a2.IsWhole)
    (a3 : Memref sig .tc .vmem S512x1024 .f32) (h3 : a3.IsWhole) (a4 : Memref sig .tc .vmem S512x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .bf16) (h7 : a7.IsWhole) (a8 : Memref sig .tc .vmem S8x1024 .f32) (h8 : a8.IsWhole) (hc : ¬cond0_0 i)
    (x0 : Vec Ideal S512x4096 .bf16) (x1 : Vec Ideal S4x1024x1024 .bf16) (x2 x3 : Vec Ideal S512x1024 .f32) (x4 : Vec Ideal S1x1024 .f32) (o : Vec Ideal S8x1024 .f32) :
    out0_B_6 c i a1 h1 a2 h2 a3 h3 a4 h4 a5 h5 a6 h6 a7 h7 a8 h8 hc x0 x1 x2 x3 x4 o = truncf .bf16 (dx x0 x1 x2 x3 x4) bitsLt_bf16_f32 := by
  unfold out0_B_6
  rw [View.read_writes_eq_canon _ _ _ (cover0_B_6 c i a1 h1 a2 h2 a3 h3 a4 h4 a5 h5 a6 h6 a7 h7 a8 h8 hc x0 x1 x2 x3 x4 o)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x1024) hz, View.ld_unit_zero (S := S1x1024) hz]
  rfl

/-- The two accumulated rows after a block: what the block adds to `o`. -/
def step (d : FVec Ideal S512x4096 .bf16) (w : FVec Ideal S4x1024x1024 .bf16) (a x : FVec Ideal S512x1024 .f32) (q : Fin 8) (j : Fin 1024) (o : EReal) : EReal :=
  if q.val = 1 then o + ∑ r : Fin 512, grad d w a r j
  else if q.val = 0 then o + ∑ r : Fin 512, grad d w a r j * unit (row x r) j else o

theorem rows_B (c : Dev nD) (i : grid0.Coords) (a1 : Memref sig .tc .vmem S512x4096 .bf16) (h1 : a1.IsWhole) (a2 : Memref sig .tc .vmem S4x1024x1024 .bf16) (h2 : a2.IsWhole)
    (a3 : Memref sig .tc .vmem S512x1024 .f32) (h3 : a3.IsWhole) (a4 : Memref sig .tc .vmem S512x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .bf16) (h7 : a7.IsWhole) (a8 : Memref sig .tc .vmem S8x1024 .f32) (h8 : a8.IsWhole) (hc : ¬cond0_0 i)
    (x0 : Vec Ideal S512x4096 .bf16) (x1 : Vec Ideal S4x1024x1024 .bf16) (x2 x3 : Vec Ideal S512x1024 .f32) (x4 : Vec Ideal S1x1024 .f32) (o : Vec Ideal S8x1024 .f32)
    (q : Fin 8) (j : Fin 1024) :
    out0_B_7 c i a1 h1 a2 h2 a3 h3 a4 h4 a5 h5 a6 h6 a7 h7 a8 h8 hc x0 x1 x2 x3 x4 o (ix2 q j) = step x0 x1 x2 x3 q j (o (ix2 q j)) := by
  unfold out0_B_7
  unfold kernelRun0_B
  dsimp only
  sl_unfold_words
  simp only [View.readAt_eq_ld, h1.read_unread, h2.read_unread, h3.read_unread, h4.read_unread, h5.read_unread, h8.read_unread,
    View.ld_unit_zero (S := S512x1024) hz, View.ld_unit_zero (S := S1x1024) hz]
  refine (two_stores _ _ _ _ (k0_pay9 (dh x0 x1 x2) _) (k0_pay8 (dh x0 x1 x2) x3 _) _ q j).trans ?_
  unfold step
  rw [pay9, pay8, View.writes_nil, h8.read_unread]
  have e1 : ∀ (q : Fin 8) (o : Vec Ideal S8x1024 .f32) (e : q.val = 1), View.ld o (Rect.unit (s := S8x1024) ![1, 0] S1x1024.size inb_S8x1024_S1x1024_1_0) (ix2 (0 : Fin 1) j) = o (ix2 q j) :=
    fun q o e => congrArg o (funext fun a => Fin.ext (match a with
      | ⟨0, _⟩ => by show 1 + 1 * 0 = q.val; omega
      | ⟨1, _⟩ => by show 0 + 1 * j.val = j.val; omega))
  have e0 : ∀ (q : Fin 8) (o : Vec Ideal S8x1024 .f32) (e : q.val = 0), View.ld o (Rect.unit (s := S8x1024) ![0, 0] S1x1024.size inb_S8x1024_S1x1024_0_0) (ix2 (0 : Fin 1) j) = o (ix2 q j) :=
    fun q o e => congrArg o (funext fun a => Fin.ext (match a with
      | ⟨0, _⟩ => by show 0 + 1 * 0 = q.val; omega
      | ⟨1, _⟩ => by show 0 + 1 * j.val = j.val; omega))
  by_cases hq1 : q.val = 1
  · rw [if_pos hq1, if_pos hq1]
    exact congrArg (· + _) (e1 q o hq1)
  · rw [if_neg hq1, if_neg hq1]
    by_cases hq0 : q.val = 0
    · rw [if_pos hq0, if_pos hq0]
      exact congrArg (· + _) (e0 q o hq0)
    · rw [if_neg hq0, if_neg hq0]

/-- Column `j` of the one row stored at row `q`. -/
theorem ix (q : Fin 8) (j : Fin 1024) (inb : ∀ a, (![q.val, 0] : Fin 2 → ℕ) a + S1x1024.size a ≤ S8x1024.size a) {b : S8x1024.Idx}
    (hb : b = (Rect.unit (s := S8x1024) ![q.val, 0] S1x1024.size inb).toLoadRect.idx (ix2 (0 : Fin 1) j)) : b = ix2 q j :=
  hb.trans (funext fun a => Fin.ext (match a with
    | ⟨0, _⟩ => by show q.val + 1 * 0 = q.val; omega
    | ⟨1, _⟩ => by show 0 + 1 * j.val = j.val; omega))

theorem zeros (q : Fin 8) (j : Fin 1024) : (k0_pay3 (F := Ideal) : FVec Ideal S8x1024 .f32) (ix2 q j) = 0 := Ideal.ofBits_zero_f32

theorem rows_A (c : Dev nD) (i : grid0.Coords) (a1 : Memref sig .tc .vmem S512x4096 .bf16) (h1 : a1.IsWhole) (a2 : Memref sig .tc .vmem S4x1024x1024 .bf16) (h2 : a2.IsWhole)
    (a3 : Memref sig .tc .vmem S512x1024 .f32) (h3 : a3.IsWhole) (a4 : Memref sig .tc .vmem S512x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .bf16) (h7 : a7.IsWhole) (a8 : Memref sig .tc .vmem S8x1024 .f32) (h8 : a8.IsWhole) (hc : cond0_0 i)
    (x0 : Vec Ideal S512x4096 .bf16) (x1 : Vec Ideal S4x1024x1024 .bf16) (x2 x3 : Vec Ideal S512x1024 .f32) (x4 : Vec Ideal S1x1024 .f32)
    (q : Fin 8) (j : Fin 1024) :
    out0_A_7 c i a1 h1 a2 h2 a3 h3 a4 h4 a5 h5 a6 h6 a7 h7 a8 h8 hc x0 x1 x2 x3 x4 (ix2 q j) = step x0 x1 x2 x3 q j 0 := by
  unfold out0_A_7
  unfold kernelRun0_A
  dsimp only
  sl_unfold_words
  simp only [View.readAt_eq_ld, h1.read_unread, h2.read_unread, h3.read_unread, h4.read_unread, h5.read_unread,
    View.ld_unit_zero (S := S512x1024) hz, View.ld_unit_zero (S := S1x1024) hz]
  refine (two_stores _ _ _ _ (k0_pay9 (dh x0 x1 x2) _) (k0_pay8 (dh x0 x1 x2) x3 _) _ q j).trans ?_
  have e : ∀ {sig : RefSig} {κ : Kind} {sp : Space} (v : View sig κ sp S8x1024 .f32) (f : v.ty.Contents (Elt Ideal)) (q : Fin 8) (j : Fin 1024),
      v.read (Elt Ideal) (v.writes (Elt Ideal) f [⟨Rect.unit (s := S8x1024) ![0, 0] ![8, 1024] inb_S8x1024_S8x1024_0_0, k0_pay3 (F := Ideal)⟩]) (ix2 q j) = (0 : EReal) :=
    fun v f q j => (View.read_writes_cons_rows_of_mem v f (o := 0) inb_S8x1024_S8x1024_0_0 (k0_pay3 (F := Ideal)) [] _ (ix2 q j) rfl
      (by show q.val = 0 + q.val; omega) rfl).trans (zeros q j)
  unfold step
  rw [pay9, pay8]
  by_cases hq1 : q.val = 1
  · rw [if_pos hq1, if_pos hq1]
    refine congrArg (· + _) ((congrArg (a8.view.read (Elt Ideal) _) (ix (1 : Fin 8) j _ rfl)).trans ?_)
    exact (View.read_writes_cons_rows_of_not_mem a8.view _ (o := 0) (W := 1) inb_S8x1024_S1x1024_0_0 _ _ _ rfl rfl (by show (1 : ℕ) < 0 ∨ 0 + 1 ≤ (1 : ℕ); omega)).trans (e _ _ _ _)
  · rw [if_neg hq1, if_neg hq1]
    by_cases hq0 : q.val = 0
    · rw [if_pos hq0, if_pos hq0]
      exact congrArg (· + _) ((congrArg (a8.view.read (Elt Ideal) _) (ix (0 : Fin 8) j _ rfl)).trans (e _ _ _ _))
    · rw [if_neg hq0, if_neg hq0]
      exact e _ _ q j

end Cert.MlpNormKernel

end
-- ==== Proof.MlpNormReference.lean ====
/-
  What the reference computes for the gradient of the layer norm in front of the MLP, over the extended reals: row by row the
  derivative of the norm's lines, and the two sums over all rows that are the gradients of the norm's scale and offset.
-/
module

public import proofs.«01_k».proof.Proof.Blocks
public import proofs.«01_k».proof.Proof.Norm
public import proofs.«01_k».proof.Proof.Gen.MlpNormRefIdeal.Read

@[expose] public section

noncomputable section

namespace Cert.MlpNormReference

open Cert.MlpNormRefIdeal Cert.MlpNormRefIdeal.Gen Cert.MlpNormRefIdeal.Read Cert.Blocks Cert.Norm
open Idealize.ShloMosaic Idealize.ShloMosaic.ValueIdx
open scoped BigOperators

variable (d : FVec Ideal S8192x4096 .bf16) (w : FVec Ideal S1024x4096 .bf16) (a x : FVec Ideal S8192x1024 .f32) (g : FVec Ideal S1024 .f32)

/-- Row `r` of the norm's argument. -/
def row (r : Fin 8192) (j : Fin 1024) : EReal := x (ix2 r j)
/-- The gradient of the norm's result: what comes back through the product and what the residual brings. -/
def grad (r : Fin 8192) (j : Fin 1024) : EReal := alpha * a (ix2 r j) + ∑ k : Fin 4096, d (ix2 r k) * w (ix2 j k)
/-- The gradient of the normalised row: the one of the result, scaled. -/
def back (r : Fin 8192) (j : Fin 1024) : EReal := grad d w a r j * g (ix1 j)

theorem at_row (i : S8192x1024.Idx) : x i = row x (i 0) (i 1) := congrArg x (eq_ix2 i)

/-- A column of one, and a row of one, read as a list. -/
theorem flat_row (i : S8192x1.Idx) : idx_main_v50 i = ix1 (i 0) := by
  have h : (i 1).val < 1 := (i 1).isLt
  funext b
  match b with
  | ⟨0, _⟩ => exact Fin.ext (by show (i 0).val * 1 + (i 1).val = (i 0).val; omega)
theorem flat_column (i : S1x1024.Idx) : idx_main_v40 i = ix1 (i 1) := by
  have h : (i 0).val < 1 := (i 0).isLt
  funext b
  match b with
  | ⟨0, _⟩ => exact Fin.ext (by show (i 0).val * 1024 + (i 1).val = (i 1).val; omega)

/-! ## The norm's own lines -/

theorem v1 (i : S8192.Idx) : val_main_v1 (F := Ideal) x i = ∑ k, row x (i 0) k := by
  rw [val_main_v1_apply, show val_main_cst_0 (F := Ideal) (Shape.Idx.first h_S_) = (0 : EReal) from Ideal.ofBits_zero_f32, zero_add]
  exact Finset.sum_congr rfl fun k _ => at_row x _
theorem v4 (i : S8192x1.Idx) : val_main_v4 (F := Ideal) x i = mean (row x (i 0)) := by
  rw [val_main_v4_apply, val_main_v2_apply, v1, val_main_v3_apply, val_main_cst_1_apply]
  rfl
theorem v6 (i : S8192x1024.Idx) : val_main_v6 (F := Ideal) x i = centre (row x (i 0)) (i 1) := by
  rw [val_main_v6_apply, val_main_v5_apply, v4, at_row x]
  rfl
theorem v15 (i : S8192x1024.Idx) : val_main_v15 (F := Ideal) x i = centre (row x (i 0)) (i 1) := by
  rw [val_main_v15_apply, val_main_v14_apply, v4, at_row x]
  rfl
theorem v9 (i : S8192x1024.Idx) : val_main_v9 (F := Ideal) x i = two * centre (row x (i 0)) (i 1) := by
  rw [val_main_v9_apply, v6, val_main_v8_apply, val_main_cst_2_apply]
  rfl
theorem v10 (i : S8192.Idx) : val_main_v10 (F := Ideal) x i = ∑ k, centre (row x (i 0)) k * centre (row x (i 0)) k := by
  rw [val_main_v10_apply, show val_main_cst_3 (F := Ideal) (Shape.Idx.first h_S_) = (0 : EReal) from Ideal.ofBits_zero_f32, zero_add]
  refine Finset.sum_congr rfl fun k _ => ?_
  rw [val_main_v7_apply, v6]
  rfl
theorem v17 (i : S8192x1.Idx) : val_main_v17 (F := Ideal) x i = spread (row x (i 0)) := by
  rw [val_main_v17_apply, val_main_v13_apply, val_main_v11_apply, v10, val_main_v12_apply, val_main_cst_4_apply, val_main_v16_apply, val_main_cst_5_apply]
  rfl
theorem v18 (i : S8192x1.Idx) : val_main_v18 (F := Ideal) x i = rstd (row x (i 0)) := by
  rw [val_main_v18_apply, v17]
  rfl
theorem v21 (i : S8192x1.Idx) : val_main_v21 (F := Ideal) x i = mhalf * Ideal.div (rstd (row x (i 0))) (spread (row x (i 0))) := by
  rw [val_main_v21_apply, val_main_v19_apply, v18, v17, val_main_v20_apply, val_main_cst_6_apply]
  rfl
theorem v23 (i : S8192x1024.Idx) : val_main_v23 (F := Ideal) x i = unit (row x (i 0)) (i 1) := by
  rw [val_main_v23_apply, v15, val_main_v22_apply, v18]
  rfl

/-! ## The gradient of the result -/

theorem v37 (r : Fin 8192) (j : Fin 1024) :
    val_main_v37 (F := Ideal) d w (ix2 r j) = ∑ k : Fin 4096, d (ix2 r k) * w (ix2 j k) := by
  unfold val_main_v37
  exact host_transposed none _ _ r j
theorem v38 (i : S8192x1024.Idx) : val_main_v38 (F := Ideal) d w a i = grad d w a (i 0) (i 1) := by
  rw [val_main_v38_apply, val_main_v36_apply, val_main_v35_apply, val_main_cst_8_apply]
  exact congrArg₂ (fun u v => alpha * u + v) (congrArg a (eq_ix2 i)) ((congrArg _ (eq_ix2 i)).trans (v37 d w (i 0) (i 1)))
theorem v46 (i : S8192x1024.Idx) : val_main_v46 (F := Ideal) d w a g i = back d w a g (i 0) (i 1) := by
  rw [val_main_v46_apply, v38, val_main_v45_apply, val_main_v24_apply]
  exact congrArg (fun v => grad d w a (i 0) (i 1) * g v) (eq_ix1 _)

/-! ## The gradient of the argument -/

theorem v50 (i : S8192x1.Idx) : val_main_v50 (F := Ideal) d w a x g i = ∑ k, centre (row x (i 0)) k * back d w a g (i 0) k := by
  rw [val_main_v50_apply, show idx_main_v50 i = ix1 (n := 8192) (i 0) from flat_row i, val_main_v49_apply, show val_main_cst_13 (F := Ideal) (Shape.Idx.first h_S_) = (0 : EReal) from Ideal.ofBits_zero_f32, zero_add]
  refine Finset.sum_congr rfl fun k _ => ?_
  rw [val_main_v48_apply, v15, v46]
  rfl
theorem v52 (i : S8192x1024.Idx) : val_main_v52 (F := Ideal) d w a x g i = back d w a g (i 0) (i 1) * rstd (row x (i 0)) := by
  rw [val_main_v52_apply, v46, val_main_v51_apply, v18]
  rfl
theorem v56 (i : S8192x1.Idx) : val_main_v56 (F := Ideal) d w a x g i = ∑ k, -(back d w a g (i 0) k * rstd (row x (i 0))) := by
  rw [val_main_v56_apply, show idx_main_v56 i = ix1 (n := 8192) (i 0) from flat_row i, val_main_v55_apply, show val_main_cst_14 (F := Ideal) (Shape.Idx.first h_S_) = (0 : EReal) from Ideal.ofBits_zero_f32, zero_add]
  refine Finset.sum_congr rfl fun k _ => ?_
  rw [val_main_v54_apply, v52]
  rfl
theorem v58 (i : S8192x1.Idx) : val_main_v58 (F := Ideal) d w a x g i = backSpread (row x (i 0)) (back d w a g (i 0)) := by
  rw [val_main_v58_apply, val_main_v53_apply, v50, v21, val_main_v57_apply, val_main_cst_15_apply]
  rfl
theorem v61 (i : S8192x1024.Idx) : val_main_v61 (F := Ideal) d w a x g i = backCentre (row x (i 0)) (back d w a g (i 0)) (i 1) := by
  rw [val_main_v61_apply, val_main_v60_apply, val_main_v59_apply, v9,
    show val_main_cst_16 (F := Ideal) (Shape.Idx.first h_S_) = (0 : EReal) from Ideal.ofBits_zero_f32, zero_add, Fin.sum_univ_one, v58]
  rfl
theorem v64 (i : S8192x1.Idx) : val_main_v64 (F := Ideal) d w a x g i = ∑ k, -(backCentre (row x (i 0)) (back d w a g (i 0)) k) := by
  rw [val_main_v64_apply, show idx_main_v64 i = ix1 (n := 8192) (i 0) from flat_row i, val_main_v63_apply, show val_main_cst_17 (F := Ideal) (Shape.Idx.first h_S_) = (0 : EReal) from Ideal.ofBits_zero_f32, zero_add]
  refine Finset.sum_congr rfl fun k _ => ?_
  rw [val_main_v62_apply, v61]
  rfl
/-- THE GRADIENT OF THE ARGUMENT at one index. -/
theorem v71 (i : S8192x1024.Idx) : val_main_v71 (F := Ideal) d w a x g i = derived (row x (i 0)) (back d w a g (i 0)) (i 1) := by
  rw [val_main_v71_apply, val_main_v65_apply, v52, v61, val_main_v70_apply, val_main_v69_apply,
    show val_main_cst_19 (F := Ideal) (Shape.Idx.first h_S_) = (0 : EReal) from Ideal.ofBits_zero_f32, zero_add, Fin.sum_univ_one,
    val_main_v68_apply, val_main_v66_apply, v56, v64, val_main_v67_apply, val_main_cst_18_apply]
  rfl

/-! ## The gradients of the scale and the offset -/

theorem v41 (i : S1024.Idx) : val_main_v41 (F := Ideal) d w a i = ∑ r : Fin 8192, grad d w a r (i 0) := by
  rw [val_main_v41_apply, show val_main_cst_10 (F := Ideal) (Shape.Idx.first h_S_) = (0 : EReal) from Ideal.ofBits_zero_f32, zero_add, Fin.sum_univ_one,
    val_main_v40_apply, show idx_main_v40 _ = ix1 (n := 1024) (i 0) from flat_column _, val_main_v39_apply, show val_main_cst_9 (F := Ideal) (Shape.Idx.first h_S_) = (0 : EReal) from Ideal.ofBits_zero_f32, zero_add]
  exact Finset.sum_congr rfl fun r _ => v38 d w a _
theorem v47 (i : S1024.Idx) : val_main_v47 (F := Ideal) d w a x i = ∑ r : Fin 8192, unit (row x r) (i 0) * grad d w a r (i 0) := by
  rw [val_main_v47_apply, show val_main_cst_12 (F := Ideal) (Shape.Idx.first h_S_) = (0 : EReal) from Ideal.ofBits_zero_f32, zero_add, Fin.sum_univ_one,
    val_main_v44_apply, show idx_main_v44 _ = ix1 (n := 1024) (i 0) from flat_column _, val_main_v43_apply, show val_main_cst_11 (F := Ideal) (Shape.Idx.first h_S_) = (0 : EReal) from Ideal.ofBits_zero_f32, zero_add]
  refine Finset.sum_congr rfl fun r _ => ?_
  rw [val_main_v42_apply, v23, v38]
  rfl
/-- THE TWO ROWS: the gradient of the scale, the gradient of the offset, and zeros. -/
def rows (q : Fin 8) (j : Fin 1024) : EReal :=
  if q.val = 0 then ∑ r : Fin 8192, unit (row x r) j * grad d w a r j
  else if q.val = 1 then ∑ r : Fin 8192, grad d w a r j else 0
theorem v81 (q : Fin 8) (j : Fin 1024) : val_main_v81 (F := Ideal) d w a x (ix2 q j) = rows d w a x q j := by
  rw [val_main_v81_apply, val_main_v75_apply, val_main_v73_apply, val_main_v74_apply, val_main_c_apply, val_main_call1_v0_apply, val_main_v76_apply, v47,
    val_main_v80_apply, val_main_v78_apply, val_main_v73_apply, val_main_v77_apply, val_main_c_20_apply, val_main_call0_v1_apply, val_main_v79_apply, v41,
    val_main_call0_v2_apply, val_main_call0_v0_apply, val_main_cst_21_apply]
  show Scalar.select (Scalar.cmpi .eq (BitVec.ofNat 32 q.val) 0#32) (∑ r : Fin 8192, unit (row x r) j * grad d w a r j)
    (Scalar.select (Scalar.cmpi .eq (BitVec.ofNat 32 q.val) 1#32) (∑ r : Fin 8192, grad d w a r j) (Ideal.ofBits .f32 0x00000000#32)) = _
  unfold rows
  rw [Ideal.ofBits_zero_f32]
  generalize (∑ r : Fin 8192, unit (row x r) j * grad d w a r j) = u
  generalize (∑ r : Fin 8192, grad d w a r j) = v
  fin_cases q <;> rfl

end Cert.MlpNormReference

end
-- ==== Proof.MlpNorm.lean ====
/-
  The gradient of the layer norm in front of the MLP: what the kernel's run leaves in its three results, over the extended reals,
  is what the derivative of the norm's lines computes. The rows of the argument's gradient are equal where the arguments
  are finite, for the two closed forms are equal as real numbers; the two sums over all rows are equal everywhere.
-/
module

public import proofs.«01_k».proof.Proof.MlpNormKernel
public import proofs.«01_k».proof.Proof.MlpNormReference
public import proofs.«01_k».proof.Proof.Gen.Pre_finite_mlp_norm
public import Idealize.ShloMosaic.Lib.Claim
public import proofs.«01_k».proof.Defs

@[expose] public section

noncomputable section

namespace Cert.MlpNormProof

open Cert.MlpNormIdeal Cert.MlpNormIdeal.Gen Cert.MlpNormIdeal.Value Cert.Blocks Cert.Norm Cert.Rows
open Idealize.ShloMosaic Idealize.ShloMosaic.TcCoe Idealize.ShloMosaic.ValueIdx
open Idealize.ShloMosaic.Pipeline (Dat)
open Cert.MlpNormReference (row grad back rows)
open scoped BigOperators

variable (m : (ℓ : Loc nD τ sig) → Buf (Elt Ideal) ℓ)

/-- The gradient of the product's result, the weights, the residual's gradient, the norm's argument and its scale. -/
abbrev ds (c : Dev nD) : FVec Ideal S8192x4096 .bf16 := m ((c : Thread nD τ).loc main_arg0)
abbrev ws (c : Dev nD) : FVec Ideal S1024x4096 .bf16 := m ((c : Thread nD τ).loc main_arg1)
abbrev rs (c : Dev nD) : FVec Ideal S8192x1024 .f32 := m ((c : Thread nD τ).loc main_arg2)
abbrev xs (c : Dev nD) : FVec Ideal S8192x1024 .f32 := m ((c : Thread nD τ).loc main_arg3)
abbrev gs (c : Dev nD) : FVec Ideal S1024 .f32 := m ((c : Thread nD τ).loc main_arg4)

/-! ## The blocks a point reads -/

/-- The point of the grid at the `p`-th block of rows. -/
abbrev pt (p : Fin 16) : Fin cfg0.N := ⟨p.val, lt_of_lt_of_eq p.isLt N_0.symm⟩
/-- Row `r` of the `p`-th block. -/
abbrev at_ (p : Fin 16) (r : Fin 512) : Fin 8192 := ⟨512 * p.val + r.val, by omega⟩

theorem index_d : ∀ p : Fin 16, win0_0.index (pt p) 0 = p.val ∧ win0_0.index (pt p) 1 = 0 := by decide +kernel
theorem index_w : ∀ p : Fin 16, win0_1.index (pt p) 0 = 0 ∧ win0_1.index (pt p) 1 = 0 ∧ win0_1.index (pt p) 2 = 0 := by decide +kernel
theorem index_r : ∀ p : Fin 16, win0_2.index (pt p) 0 = p.val ∧ win0_2.index (pt p) 1 = 0 := by decide +kernel
theorem index_x : ∀ p : Fin 16, win0_3.index (pt p) 0 = p.val ∧ win0_3.index (pt p) 1 = 0 := by decide +kernel
theorem index_g : ∀ p : Fin 16, win0_4.index (pt p) 0 = 0 ∧ win0_4.index (pt p) 1 = 0 := by decide +kernel
theorem index_o : ∀ p : Fin 16, win0_5.index (pt p) 0 = p.val ∧ win0_5.index (pt p) 1 = 0 := by decide +kernel
theorem index_t : ∀ p : Fin 16, win0_7.index (pt p) 0 = 0 ∧ win0_7.index (pt p) 1 = 0 := by decide +kernel
theorem index_c : ∀ p : Fin 16, win0_6.index (pt p) 0 = p.val ∧ win0_6.index (pt p) 1 = 0 := by decide +kernel
theorem flush_c : ∀ p : Fin 16, (cfg0.win 6).flush (pt p) = true := by decide +kernel
theorem flush_o : ∀ p : Fin 16, (cfg0.win 5).flush (pt p) = true := by decide +kernel

theorem block_d (c : Dev nD) (p : Fin 16) (r : Fin 512) (k : Fin 4096) :
    (iblk m c 0 (pt p) : FVec Ideal S512x4096 .bf16) (ix2 r k) = ds m c (ix2 (at_ p r) k) := by
  obtain ⟨h0, h1⟩ := index_d p
  unfold iblk
  rw [View.read_apply]
  show V m c main_arg0 _ = m (c.tc.loc main_arg0) _
  rw [V_main_arg0]
  congr 1
  funext a
  apply Fin.ext
  match a with
  | ⟨0, _⟩ => show win0_0.index (pt p) 0 * 512 + 1 * r.val = 512 * p.val + r.val; rw [h0]; omega
  | ⟨1, _⟩ => show win0_0.index (pt p) 1 * 4096 + 1 * k.val = k.val; rw [h1]; omega

/-- The stack of the weight's blocks of columns, as the region finds it. -/
theorem stack (c : Dev nD) (q : Fin 4) (k s : Fin 1024) :
    (V m c main_v1 : FVec Ideal S4x1024x1024 .bf16) (ix3 q k s) = ws m c (ix2 k (⟨1024 * q.val + s.val, by omega⟩ : Fin 4096)) := by
  have e : (V m c main_v1 : FVec Ideal S4x1024x1024 .bf16)
      = transpose S4x1024x1024 [1, 0, 2] (shapeCast S1024x4x1024 (ws m c) shapeCasts_S1024x4096_S1024x4x1024) transposes_S1024x4x1024_S4x1024x1024_1_0_2 := by
    entry_read
    rfl
  rw [e, transpose_apply _ _ _ _ (ix3 k q s) (by intro b; match b with | ⟨0, _⟩ => rfl | ⟨1, _⟩ => rfl | ⟨2, _⟩ => rfl),
    shapeCast_apply _ _ _ (ix2 k (⟨1024 * q.val + s.val, by omega⟩ : Fin 4096)) (by
      rw [Shape.rowMajor_val_two, Shape.rowMajor_val_three]; show k.val * 4096 + (1024 * q.val + s.val) = (k.val * 4 + q.val) * 1024 + s.val; omega)]

theorem block_w (c : Dev nD) (p : Fin 16) (q : Fin 4) (j k : Fin 1024) :
    (iblk m c 1 (pt p) : FVec Ideal S4x1024x1024 .bf16) (ix3 q j k) = ws m c (ix2 j (⟨1024 * q.val + k.val, by omega⟩ : Fin 4096)) := by
  obtain ⟨h0, h1, h2⟩ := index_w p
  rw [← stack]
  unfold iblk
  rw [View.read_apply]
  show V m c main_v1 _ = V m c main_v1 _
  congr 1
  funext a
  apply Fin.ext
  match a with
  | ⟨0, _⟩ => show win0_1.index (pt p) 0 * 4 + 1 * q.val = q.val; rw [h0]; omega
  | ⟨1, _⟩ => show win0_1.index (pt p) 1 * 1024 + 1 * j.val = j.val; rw [h1]; omega
  | ⟨2, _⟩ => show win0_1.index (pt p) 2 * 1024 + 1 * k.val = k.val; rw [h2]; omega

theorem block_r (c : Dev nD) (p : Fin 16) (r : Fin 512) (j : Fin 1024) :
    (iblk m c 2 (pt p) : FVec Ideal S512x1024 .f32) (ix2 r j) = rs m c (ix2 (at_ p r) j) := by
  obtain ⟨h0, h1⟩ := index_r p
  unfold iblk
  rw [View.read_apply]
  show V m c main_arg2 _ = m (c.tc.loc main_arg2) _
  rw [V_main_arg2]
  congr 1
  funext a
  apply Fin.ext
  match a with
  | ⟨0, _⟩ => show win0_2.index (pt p) 0 * 512 + 1 * r.val = 512 * p.val + r.val; rw [h0]; omega
  | ⟨1, _⟩ => show win0_2.index (pt p) 1 * 1024 + 1 * j.val = j.val; rw [h1]; omega

theorem block_x (c : Dev nD) (p : Fin 16) (r : Fin 512) (j : Fin 1024) :
    (iblk m c 3 (pt p) : FVec Ideal S512x1024 .f32) (ix2 r j) = xs m c (ix2 (at_ p r) j) := by
  obtain ⟨h0, h1⟩ := index_x p
  unfold iblk
  rw [View.read_apply]
  show V m c main_arg3 _ = m (c.tc.loc main_arg3) _
  rw [V_main_arg3]
  congr 1
  funext a
  apply Fin.ext
  match a with
  | ⟨0, _⟩ => show win0_3.index (pt p) 0 * 512 + 1 * r.val = 512 * p.val + r.val; rw [h0]; omega
  | ⟨1, _⟩ => show win0_3.index (pt p) 1 * 1024 + 1 * j.val = j.val; rw [h1]; omega

/-- The scale, as one row. -/
def scale (g : FVec Ideal S1024 .f32) : FVec Ideal S1x1024 .f32 := broadcastInDim S1x1024 ![1] bcast_S1024_S1x1024_1 g

theorem block_g (c : Dev nD) (p : Fin 16) (j : Fin 1024) :
    (iblk m c 4 (pt p) : FVec Ideal S1x1024 .f32) (ix2 (0 : Fin 1) j) = gs m c (ix1 j) := by
  obtain ⟨h0, h1⟩ := index_g p
  have e : (V m c main_v2 : FVec Ideal S1x1024 .f32) = scale (gs m c) := by
    entry_read
    rfl
  unfold iblk
  rw [View.read_apply]
  show (V m c main_v2 : FVec Ideal S1x1024 .f32) _ = _
  rw [e]
  show gs m c _ = gs m c _
  congr 1
  funext a
  apply Fin.ext
  match a with
  | ⟨0, _⟩ => show win0_4.index (pt p) 1 * 1024 + 1 * j.val = j.val; rw [h1]; omega

/-! ## The rows of the argument's gradient -/

theorem block_row (c : Dev nD) (p : Fin 16) (r : Fin 512) : Cert.MlpNormKernel.row (iblk m c 3 (pt p)) r = row (xs m c) (at_ p r) :=
  funext fun j => block_x m c p r j
theorem block_grad (c : Dev nD) (p : Fin 16) (r : Fin 512) (j : Fin 1024) :
    Cert.MlpNormKernel.grad (iblk m c 0 (pt p)) (iblk m c 1 (pt p)) (iblk m c 2 (pt p)) r j = grad (ds m c) (ws m c) (rs m c) (at_ p r) j := by
  unfold Cert.MlpNormKernel.grad grad
  rw [block_r]
  simp only [block_d, block_w]
  have e := sum_blocks (A := 4) (B := 1024) (N := 4096) rfl (fun k => if h : k < 4096 then ds m c (ix2 (at_ p r) ⟨k, h⟩) * ws m c (ix2 j ⟨k, h⟩) else 0)
  have e1 : ∀ (q : Fin 4) (k : Fin 1024), 1024 * q.val + k.val < 4096 := fun q k => by omega
  simp only [e1, Fin.isLt, dite_true] at e
  rw [e]

/-- THE FIRST RESULT at one index, in the kernel's closed form. -/
theorem rows_value (c : Dev nD) (r : Fin 8192) (s : Fin 1024) :
    ((dats m 0 c).arrAt 5 cfg0.N : FVec Ideal S8192x1024 .f32) (ix2 r s)
      = closed (row (xs m c) r) (back (ds m c) (ws m c) (rs m c) (gs m c) r) s := by
  obtain ⟨p, hp⟩ : ∃ p : Fin 16, p.val = r.val / 512 := ⟨⟨r.val / 512, by omega⟩, rfl⟩
  obtain ⟨r', hr⟩ : ∃ r' : Fin 512, r'.val = r.val % 512 := ⟨⟨r.val % 512, by omega⟩, rfl⟩
  have er : at_ p r' = r := Fin.ext (by show 512 * p.val + r'.val = r.val; omega)
  obtain ⟨h0, h1⟩ := index_o p
  have h := congrFun (blocks5 m c (pt p) (flush_o p)) (ix2 r' s)
  rw [View.read_apply] at h
  have ei : ((cfg0.win 5).blk (pt p)).view.emb (ix2 r' s) = (ix2 r s : S8192x1024.Idx) := by
    funext a
    apply Fin.ext
    match a with
    | ⟨0, _⟩ => show win0_5.index (pt p) 0 * 512 + 1 * r'.val = r.val; rw [h0]; omega
    | ⟨1, _⟩ => show win0_5.index (pt p) 1 * 1024 + 1 * s.val = s.val; rw [h1]; omega
  rw [ei] at h
  refine (show _ = _ from h).trans ?_
  have e : Cert.MlpNormKernel.dx (iblk m c 0 (pt p)) (iblk m c 1 (pt p)) (iblk m c 2 (pt p)) (iblk m c 3 (pt p)) (iblk m c 4 (pt p)) (ix2 r' s)
      = closed (row (xs m c) r) (back (ds m c) (ws m c) (rs m c) (gs m c) r) s := by
    rw [Cert.MlpNormKernel.pay1, block_row, er]
    refine congrArg (fun f => closed (row (xs m c) r) f s) (funext fun k => ?_)
    unfold back
    rw [block_grad, block_g, er]
  by_cases h0 : (pt p).val % 16 = 0
  · rw [flushed5_A m c (pt p) h0, Cert.MlpNormKernel.ahead_A]
    exact e
  · rw [flushed5_B m c (pt p) h0, Cert.MlpNormKernel.ahead_B]
    exact e

/-- THE SECOND RESULT, the first again in the narrow format. -/
theorem copy_value (c : Dev nD) (r : Fin 8192) (s : Fin 1024) :
    ((dats m 0 c).arrAt 6 cfg0.N : FVec Ideal S8192x1024 .bf16) (ix2 r s)
      = closed (row (xs m c) r) (back (ds m c) (ws m c) (rs m c) (gs m c) r) s := by
  obtain ⟨p, hp⟩ : ∃ p : Fin 16, p.val = r.val / 512 := ⟨⟨r.val / 512, by omega⟩, rfl⟩
  obtain ⟨r', hr⟩ : ∃ r' : Fin 512, r'.val = r.val % 512 := ⟨⟨r.val % 512, by omega⟩, rfl⟩
  have er : at_ p r' = r := Fin.ext (by show 512 * p.val + r'.val = r.val; omega)
  obtain ⟨h0, h1⟩ := index_c p
  have h := congrFun (blocks6 m c (pt p) (flush_c p)) (ix2 r' s)
  rw [View.read_apply] at h
  have ei : ((cfg0.win 6).blk (pt p)).view.emb (ix2 r' s) = (ix2 r s : S8192x1024.Idx) := by
    funext a
    apply Fin.ext
    match a with
    | ⟨0, _⟩ => show win0_6.index (pt p) 0 * 512 + 1 * r'.val = r.val; rw [h0]; omega
    | ⟨1, _⟩ => show win0_6.index (pt p) 1 * 1024 + 1 * s.val = s.val; rw [h1]; omega
  rw [ei] at h
  refine (show _ = _ from h).trans ?_
  have e : Cert.MlpNormKernel.dx (iblk m c 0 (pt p)) (iblk m c 1 (pt p)) (iblk m c 2 (pt p)) (iblk m c 3 (pt p)) (iblk m c 4 (pt p)) (ix2 r' s)
      = closed (row (xs m c) r) (back (ds m c) (ws m c) (rs m c) (gs m c) r) s := by
    rw [Cert.MlpNormKernel.pay1, block_row, er]
    refine congrArg (fun f => closed (row (xs m c) r) f s) (funext fun k => ?_)
    unfold back
    rw [block_grad, block_g, er]
  by_cases h0 : (pt p).val % 16 = 0
  · rw [flushed6_A m c (pt p) h0, Cert.MlpNormKernel.copy_A]
    exact e
  · rw [flushed6_B m c (pt p) h0, Cert.MlpNormKernel.copy_B]
    exact e

/-! ## The two accumulated rows -/

/-- What one row of the arguments adds to row `q` of the accumulated ones. -/
def term (c : Dev nD) (q : Fin 8) (j : Fin 1024) (r : Fin 8192) : EReal :=
  if q.val = 1 then grad (ds m c) (ws m c) (rs m c) r j
  else if q.val = 0 then unit (row (xs m c) r) j * grad (ds m c) (ws m c) (rs m c) r j else 0
def termN (c : Dev nD) (q : Fin 8) (j : Fin 1024) (k : ℕ) : EReal := if h : k < 8192 then term m c q j ⟨k, h⟩ else 0

theorem block_step (c : Dev nD) (p : Fin 16) (q : Fin 8) (j : Fin 1024) (o : EReal) :
    Cert.MlpNormKernel.step (iblk m c 0 (pt p)) (iblk m c 1 (pt p)) (iblk m c 2 (pt p)) (iblk m c 3 (pt p)) q j o
      = o + ∑ r : Fin 512, termN m c q j (512 * p.val + r.val) := by
  have e : ∀ r : Fin 512, termN m c q j (512 * p.val + r.val) = term m c q j (at_ p r) := fun r => dif_pos (at_ p r).isLt
  simp only [e]
  unfold Cert.MlpNormKernel.step term
  by_cases h1 : q.val = 1
  · simp only [if_pos h1, block_grad]
  · by_cases h0 : q.val = 0
    · simp only [if_neg h1, if_pos h0, block_grad, block_row]
      exact congrArg (o + ·) (Finset.sum_congr rfl fun r _ => mul_comm _ _)
    · simp only [if_neg h1, if_neg h0, Finset.sum_const_zero, add_zero]

theorem outs_congr (c : Dev nD) {n n' : ℕ} (e : n = n') (h : n < cfg0.N) (h' : n' < cfg0.N) : outsAt0 m c n h = outsAt0 m c n' h' := by
  subst e
  rfl

/-- The accumulated rows after point `n`: the sums over the blocks up to it. -/
theorem gathered (c : Dev nD) (q : Fin 8) (j : Fin 1024) (n : ℕ) (hn : n < 16) :
    ((outsAt0 m c (pt ⟨n, hn⟩).val (pt ⟨n, hn⟩).isLt).2.2 : FVec Ideal S8x1024 .f32) (ix2 q j)
      = ∑ p ∈ Finset.range (n + 1), ∑ r : Fin 512, termN m c q j (512 * p + r.val) := by
  induction n with
  | zero =>
    rw [outsAt0_A m c (pt ⟨0, hn⟩) (by show 0 % 16 = 0; rfl)]
    dsimp only
    refine (Cert.MlpNormKernel.rows_A (hc := _) ..).trans ?_
    rw [block_step, zero_add, Finset.sum_range_one]
  | succ n ih =>
    rw [outsAt0_B m c (pt ⟨n + 1, hn⟩) (by show ¬(n + 1) % 16 = 0; omega)]
    dsimp only
    refine (Cert.MlpNormKernel.rows_B (hc := _) ..).trans ?_
    rw [block_step, Finset.sum_range_succ, ← ih (by omega)]
    rfl

theorem disjoint7 (t t' : Fin cfg0.N) (h : (cfg0.win 7).flush t = true) (h' : (cfg0.win 7).flush t' = true) (hne : t ≠ t') :
    Disjoint ((cfg0.win 7).blk t).view.set ((cfg0.win 7).blk t').view.set := by
  have a := (flush0_7 t).mp h
  have b := (flush0_7 t').mp h'
  have l := lt_of_lt_of_eq t.isLt N_0
  have l' := lt_of_lt_of_eq t'.isLt N_0
  exact absurd (Fin.ext (by omega)) hne

/-- THE THIRD RESULT at one index. -/
theorem sums_value (c : Dev nD) (q : Fin 8) (j : Fin 1024) :
    ((dats m 0 c).arrAt 7 cfg0.N : FVec Ideal S8x1024 .f32) (ix2 q j) = rows (ds m c) (ws m c) (rs m c) (xs m c) q j := by
  obtain ⟨h0, h1⟩ := index_t (15 : Fin 16)
  have h := congrFun ((dats m 0 c).read_blk_arrAt_eq_flushed 7 disjoint7 cfg0.N (pt 15) (pt 15).isLt ((flush0_7 _).mpr rfl)) (ix2 q j)
  rw [View.read_apply] at h
  have ei : ((cfg0.win 7).blk (pt 15)).view.emb (ix2 q j) = (ix2 q j : S8x1024.Idx) := by
    funext a
    apply Fin.ext
    match a with
    | ⟨0, _⟩ => show win0_7.index (pt 15) 0 * 8 + 1 * q.val = q.val; rw [h0]; omega
    | ⟨1, _⟩ => show win0_7.index (pt 15) 1 * 1024 + 1 * j.val = j.val; rw [h1]; omega
  rw [ei] at h
  refine (show _ = _ from h).trans ?_
  rw [flushed7]
  refine (gathered m c q j 15 (by omega)).trans ?_
  rw [Finset.sum_range, sum_blocks (A := 16) (B := 512) (N := 8192) rfl]
  have e : ∀ k : Fin 8192, termN m c q j k.val = term m c q j k := fun k => dif_pos k.isLt
  simp only [e]
  unfold term rows
  by_cases h1 : q.val = 1
  · simp only [if_pos h1, h1]
    rfl
  · by_cases h0 : q.val = 0
    · simp only [h0]
      rfl
    · simp only [if_neg h1, if_neg h0, Finset.sum_const_zero]

/-! ## The equation -/

/-- Every element of the arguments is a real number. -/
structure Finite (c : Dev nD) : Prop where
  d : ∀ r k, ∃ v : ℝ, ds m c (ix2 r k) = v
  w : ∀ j k, ∃ v : ℝ, ws m c (ix2 j k) = v
  r : ∀ r j, ∃ v : ℝ, rs m c (ix2 r j) = v
  x : ∀ r j, ∃ v : ℝ, xs m c (ix2 r j) = v
  g : ∀ j, ∃ v : ℝ, gs m c (ix1 j) = v

theorem finite (h : Pre_MlpNormIdeal_finite_mlp_norm m) (c : Dev nD) : Finite m c := by
  obtain ⟨h0, h1, h2, h3, h4⟩ := h c
  exact ⟨fun r k => real_of_finite _ (congrFun h0 (ix2 r k)), fun j k => real_of_finite _ (congrFun h1 (ix2 j k)),
    fun r j => real_of_finite _ (congrFun h2 (ix2 r j)), fun r j => real_of_finite _ (congrFun h3 (ix2 r j)),
    fun j => real_of_finite _ (congrFun h4 (ix1 j))⟩

theorem equal_rows (c : Dev nD) (h : Finite m c) :
    ((dats m 0 c).arrAt 5 cfg0.N : FVec Ideal S8192x1024 .f32)
      = Cert.MlpNormRefIdeal.Read.val_main_v71 (F := Ideal) (ds m c) (ws m c) (rs m c) (xs m c) (gs m c) := by
  funext i
  obtain ⟨r, s, rfl⟩ : ∃ r s, i = ix2 r s := ⟨i 0, i 1, eq_ix2 i⟩
  rw [rows_value, Cert.MlpNormReference.v71]
  show _ = derived (row (xs m c) r) (back (ds m c) (ws m c) (rs m c) (gs m c) r) s
  have hx : ∀ j, ∃ v : ℝ, row (xs m c) r j = v := fun j => h.x r j
  have hb : ∀ j, ∃ v : ℝ, back (ds m c) (ws m c) (rs m c) (gs m c) r j = v := fun j =>
    real_mul (real_add (real_mul alpha_eq (h.r r j)) (real_sum (h.d r) (h.w j))) (h.g j)
  choose u hu using hx
  choose v hv using hb
  rw [funext hu, funext hv]
  exact closed_eq_derived u v s

theorem equal_copy (c : Dev nD) (h : Finite m c) :
    ((dats m 0 c).arrAt 6 cfg0.N : FVec Ideal S8192x1024 .bf16)
      = Cert.MlpNormRefIdeal.Read.val_main_v72 (F := Ideal) (ds m c) (ws m c) (rs m c) (xs m c) (gs m c) := by
  funext i
  obtain ⟨r, s, rfl⟩ : ∃ r s, i = ix2 r s := ⟨i 0, i 1, eq_ix2 i⟩
  rw [copy_value, ← rows_value]
  exact congrFun (equal_rows m c h) (ix2 r s)

theorem equal_sums (c : Dev nD) :
    ((dats m 0 c).arrAt 7 cfg0.N : FVec Ideal S8x1024 .f32)
      = Cert.MlpNormRefIdeal.Read.val_main_v81 (F := Ideal) (ds m c) (ws m c) (rs m c) (xs m c) := by
  funext i
  obtain ⟨q, j, rfl⟩ : ∃ q j, i = ix2 q j := ⟨i 0, i 1, eq_ix2 i⟩
  rw [sums_value, Cert.MlpNormReference.v81]

end Cert.MlpNormProof

end
-- ==== Proof.InNormKernel.lean ====
/-
  What one block of the kernel for the gradient of the step's first layer norm computes, over the extended reals: 256
  rows of the gradient of the norm's argument, in closed form, and what the block adds to the two accumulated rows.
-/
module

public import proofs.«01_k».proof.Proof.Blocks
public import proofs.«01_k».proof.Proof.Rows
public import proofs.«01_k».proof.Proof.Gen.InNormIdeal.Value
public import Idealize.ShloMosaic.Lib.ValueIdx
public import Idealize.ShloMosaic.Lib.ValueLayout

@[expose] public section

noncomputable section

namespace Cert.InNormKernel

open Cert.InNormIdeal Cert.InNormIdeal.Gen Cert.InNormIdeal.Value Cert.Blocks Cert.Rows Cert.Norm
open Idealize.ShloMosaic Idealize.ShloMosaic.TcCoe Idealize.ShloMosaic.ValueIdx
open scoped BigOperators

/-! ## The values -/

/-- A block's row, and the gradient of the norm's result on it. -/
def row (x : FVec Ideal S256x1024 .f32) (r : Fin 256) (j : Fin 1024) : EReal := x (ix2 r j)
def grad (d : FVec Ideal S256x6912 .bf16) (w : FVec Ideal S1024x6912 .bf16) (a : FVec Ideal S256x1024 .f32) (r : Fin 256) (j : Fin 1024) : EReal :=
  (∑ k : Fin 6912, d (ix2 r k) * w (ix2 j k)) + alpha * a (ix2 r j)

/-! The reductions and broadcasts of a block, at an index. -/

theorem across (x : FVec Ideal S256x1024 .f32) (r : Fin 256) (u : Fin 1) :
    shapeCast S256x1 (multiReduction .add [1] S256 x 0x00000000#32 reduces_S256x1024_S256) shapeCasts_S256_S256x1 (ix2 r u) = ∑ k : Fin 1024, x (ix2 r k) :=
  row_total x _ _ _ _ r u
theorem down (x : FVec Ideal S256x1024 .f32) (u : Fin 1) (j : Fin 1024) :
    shapeCast S1x1024 (multiReduction .add [0] S1024 x 0x00000000#32 reduces_S256x1024_S1024) shapeCasts_S1024_S1x1024 (ix2 u j) = ∑ k : Fin 256, x (ix2 k j) :=
  column_total x _ _ _ _ u j
theorem wide (x : FVec Ideal S256x1 .f32) (h) (r : Fin 256) (j : Fin 1024) : broadcastTo S256x1024 x h (ix2 r j) = x (ix2 r (0 : Fin 1)) :=
  spread_column (by decide) x h r j
theorem tall (x : FVec Ideal S1x1024 .f32) (h) (r : Fin 256) (j : Fin 1024) : broadcastTo S256x1024 x h (ix2 r j) = x (ix2 (0 : Fin 1) j) :=
  spread_row (by decide) x h r j

theorem dims : dot_S256x6912_S1024x6912_S256x1024_1_1_0_0_n_n = DotDims.transposedRhs 256 6912 1024 := rfl

theorem pay4 (d : FVec Ideal S256x6912 .bf16) (w : FVec Ideal S1024x6912 .bf16) (a : FVec Ideal S256x1024 .f32) (r : Fin 256) (j : Fin 1024) :
    (k0_pay4 (F := Ideal) d w a : FVec Ideal S256x1024 .f32) (ix2 r j) = grad d w a r j := by
  unfold k0_pay4
  rw [addf_apply, dims, matmul_transposed_zero]
  rfl

theorem pay5 (x : FVec Ideal S256x1024 .f32) (r : Fin 256) (j : Fin 1024) :
    (k0_pay5 (F := Ideal) x : FVec Ideal S256x1024 .f32) (ix2 r j) = centre (row x r) j := by
  unfold k0_pay5
  rw [subf_apply, wide, divf_apply, across]
  rfl

theorem pay6 (x : FVec Ideal S256x1024 .f32) (r : Fin 256) : (k0_pay6 (F := Ideal) x : FVec Ideal S256x1 .f32) (ix2 r (0 : Fin 1)) = rstd (row x r) := by
  unfold k0_pay6
  show Ideal.rsqrt (Ideal.div (shapeCast S256x1 _ _ (ix2 r (0 : Fin 1))) _ + _) = _
  rw [across]
  simp only [mulf_apply, pay5]
  rfl

theorem pay7 (x : FVec Ideal S256x1024 .f32) (r : Fin 256) (j : Fin 1024) :
    (k0_pay7 (F := Ideal) x : FVec Ideal S256x1024 .f32) (ix2 r j) = unit (row x r) j := by
  unfold k0_pay7
  rw [mulf_apply, wide, pay5, pay6]
  rfl

/-- The rows of the gradient of the norm's argument. -/
theorem pay2 (d : FVec Ideal S256x6912 .bf16) (w : FVec Ideal S1024x6912 .bf16) (a x : FVec Ideal S256x1024 .f32) (g : FVec Ideal S1x1024 .f32)
    (r : Fin 256) (j : Fin 1024) :
    (k0_pay2 (F := Ideal) (k0_pay4 d w a) (k0_pay6 x) (k0_pay7 x) g : FVec Ideal S256x1024 .f32) (ix2 r j)
      = closed (row x r) (fun k => grad d w a r k * g (ix2 (0 : Fin 1) k)) j := by
  unfold k0_pay2
  simp only [mulf_apply, subf_apply, divf_apply, wide, tall, pay4, pay6, pay7]
  rw [across, across, shapeCast_self]
  simp only [mulf_apply, tall, pay4, pay7]
  rfl

/-- What a block adds to the first row, and to the second. -/
theorem pay8 (d : FVec Ideal S256x6912 .bf16) (w : FVec Ideal S1024x6912 .bf16) (a x : FVec Ideal S256x1024 .f32) (o : FVec Ideal S1x1024 .f32) (j : Fin 1024) :
    (k0_pay8 (F := Ideal) d w a x o : FVec Ideal S1x1024 .f32) (ix2 (0 : Fin 1) j)
      = o (ix2 (0 : Fin 1) j) + ∑ r : Fin 256, grad d w a r j * unit (row x r) j := by
  unfold k0_pay8
  rw [addf_apply, down, shapeCast_self]
  simp only [mulf_apply, pay4, pay7]
theorem pay1 (d : FVec Ideal S256x6912 .bf16) (w : FVec Ideal S1024x6912 .bf16) (a : FVec Ideal S256x1024 .f32) (o : FVec Ideal S1x1024 .f32) (j : Fin 1024) :
    (k0_pay1 (F := Ideal) (k0_pay4 d w a) o : FVec Ideal S1x1024 .f32) (ix2 (0 : Fin 1) j)
      = o (ix2 (0 : Fin 1) j) + ∑ r : Fin 256, grad d w a r j := by
  unfold k0_pay1
  rw [addf_apply, down, shapeCast_self]
  simp only [pay4]

/-! ## What a run of the body leaves -/

theorem ahead_A (c : Dev nD) (i : grid0.Coords) (a1 : Memref sig .tc .vmem S256x6912 .bf16) (h1 : a1.IsWhole) (a2 : Memref sig .tc .vmem S1024x6912 .bf16) (h2 : a2.IsWhole)
    (a3 : Memref sig .tc .vmem S256x1024 .f32) (h3 : a3.IsWhole) (a4 : Memref sig .tc .vmem S256x1024 .f32) (h4 : a4.IsWhole) (a5 : Memref sig .tc .vmem S1x1024 .f32) (h5 : a5.IsWhole)
    (a7 : Memref sig .tc .vmem S256x1024 .f32) (h7 : a7.IsWhole) (a8 : Memref sig .tc .vmem S8x1024 .f32) (h8 : a8.IsWhole) (hc : cond0_0 i)
    (x0 : Vec Ideal S256x6912 .bf16) (x1 : Vec Ideal S1024x6912 .bf16) (x2 x3 : Vec Ideal S256x1024 .f32) (x4 : Vec Ideal S1x1024 .f32) :
    out0_A_5 c i a1 h1 a2 h2 a3 h3 a4 h4 a5 h5 a7 h7 a8 h8 hc x0 x1 x2 x3 x4 = k0_pay2 (k0_pay4 x0 x1 x2) (k0_pay6 x3) (k0_pay7 x3) x4 := by
  unfold out0_A_5
  rw [View.read_writes_eq_canon _ _ _ (cover0_A_5 c i a1 h1 a2 h2 a3 h3 a4 h4 a5 h5 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x6912) hz,
    View.ld_unit_zero (S := S1024x6912) hz, View.ld_unit_zero (S := S256x1024) hz, View.ld_unit_zero (S := S1x1024) hz]

theorem ahead_B (c : Dev nD) (i : grid0.Coords) (a1 : Memref sig .tc .vmem S256x6912 .bf16) (h1 : a1.IsWhole) (a2 : Memref sig .tc .vmem S1024x6912 .bf16) (h2 : a2.IsWhole)
    (a3 : Memref sig .tc .vmem S256x1024 .f32) (h3 : a3.IsWhole) (a4 : Memref sig .tc .vmem S256x1024 .f32) (h4 : a4.IsWhole) (a5 : Memref sig .tc .vmem S1x1024 .f32) (h5 : a5.IsWhole)
    (a7 : Memref sig .tc .vmem S256x1024 .f32) (h7 : a7.IsWhole) (a8 : Memref sig .tc .vmem S8x1024 .f32) (h8 : a8.IsWhole) (hc : ¬cond0_0 i)
    (x0 : Vec Ideal S256x6912 .bf16) (x1 : Vec Ideal S1024x6912 .bf16) (x2 x3 : Vec Ideal S256x1024 .f32) (x4 : Vec Ideal S1x1024 .f32) (o : Vec Ideal S8x1024 .f32) :
    out0_B_5 c i a1 h1 a2 h2 a3 h3 a4 h4 a5 h5 a7 h7 a8 h8 hc x0 x1 x2 x3 x4 o = k0_pay2 (k0_pay4 x0 x1 x2) (k0_pay6 x3) (k0_pay7 x3) x4 := by
  unfold out0_B_5
  rw [View.read_writes_eq_canon _ _ _ (cover0_B_5 c i a1 h1 a2 h2 a3 h3 a4 h4 a5 h5 a7 h7 a8 h8 hc x0 x1 x2 x3 x4 o)]
  unfold kernelRun0_B
  dsimp only
  sl_unfold_words
  rw [View.canon_unit_zero hz]
  simp only [View.readAt_eq_ld, h1.read_unread, h2.read_unread, h3.read_unread, h4.read_unread, h5.read_unread, View.ld_unit_zero (S := S256x6912) hz,
    View.ld_unit_zero (S := S1024x6912) hz, View.ld_unit_zero (S := S256x1024) hz, View.ld_unit_zero (S := S1x1024) hz]

/-- The two accumulated rows after a block: what the block adds to `o`. -/
def step (d : FVec Ideal S256x6912 .bf16) (w : FVec Ideal S1024x6912 .bf16) (a x : FVec Ideal S256x1024 .f32) (q : Fin 8) (j : Fin 1024) (o : EReal) : EReal :=
  if q.val = 1 then o + ∑ r : Fin 256, grad d w a r j
  else if q.val = 0 then o + ∑ r : Fin 256, grad d w a r j * unit (row x r) j else o

theorem rows_B (c : Dev nD) (i : grid0.Coords) (a1 : Memref sig .tc .vmem S256x6912 .bf16) (h1 : a1.IsWhole) (a2 : Memref sig .tc .vmem S1024x6912 .bf16) (h2 : a2.IsWhole)
    (a3 : Memref sig .tc .vmem S256x1024 .f32) (h3 : a3.IsWhole) (a4 : Memref sig .tc .vmem S256x1024 .f32) (h4 : a4.IsWhole) (a5 : Memref sig .tc .vmem S1x1024 .f32) (h5 : a5.IsWhole)
    (a7 : Memref sig .tc .vmem S256x1024 .f32) (h7 : a7.IsWhole) (a8 : Memref sig .tc .vmem S8x1024 .f32) (h8 : a8.IsWhole) (hc : ¬cond0_0 i)
    (x0 : Vec Ideal S256x6912 .bf16) (x1 : Vec Ideal S1024x6912 .bf16) (x2 x3 : Vec Ideal S256x1024 .f32) (x4 : Vec Ideal S1x1024 .f32) (o : Vec Ideal S8x1024 .f32)
    (q : Fin 8) (j : Fin 1024) :
    out0_B_6 c i a1 h1 a2 h2 a3 h3 a4 h4 a5 h5 a7 h7 a8 h8 hc x0 x1 x2 x3 x4 o (ix2 q j) = step x0 x1 x2 x3 q j (o (ix2 q j)) := by
  unfold out0_B_6
  unfold kernelRun0_B
  dsimp only
  sl_unfold_words
  simp only [View.readAt_eq_ld, h1.read_unread, h2.read_unread, h3.read_unread, h4.read_unread, h5.read_unread, h8.read_unread, View.ld_unit_zero (S := S256x6912) hz,
    View.ld_unit_zero (S := S1024x6912) hz, View.ld_unit_zero (S := S256x1024) hz, View.ld_unit_zero (S := S1x1024) hz]
  refine (two_stores _ _ _ _ _ _ _ q j).trans ?_
  unfold step
  rw [pay1, pay8, View.writes_nil, h8.read_unread]
  have e1 : ∀ (q : Fin 8) (o : Vec Ideal S8x1024 .f32) (e : q.val = 1), View.ld o (Rect.unit (s := S8x1024) ![1, 0] S1x1024.size inb_S8x1024_S1x1024_1_0) (ix2 (0 : Fin 1) j) = o (ix2 q j) :=
    fun q o e => congrArg o (funext fun a => Fin.ext (match a with
      | ⟨0, _⟩ => by show 1 + 1 * 0 = q.val; omega
      | ⟨1, _⟩ => by show 0 + 1 * j.val = j.val; omega))
  have e0 : ∀ (q : Fin 8) (o : Vec Ideal S8x1024 .f32) (e : q.val = 0), View.ld o (Rect.unit (s := S8x1024) ![0, 0] S1x1024.size inb_S8x1024_S1x1024_0_0) (ix2 (0 : Fin 1) j) = o (ix2 q j) :=
    fun q o e => congrArg o (funext fun a => Fin.ext (match a with
      | ⟨0, _⟩ => by show 0 + 1 * 0 = q.val; omega
      | ⟨1, _⟩ => by show 0 + 1 * j.val = j.val; omega))
  by_cases hq1 : q.val = 1
  · rw [if_pos hq1, if_pos hq1]
    exact congrArg (· + _) (e1 q o hq1)
  · rw [if_neg hq1, if_neg hq1]
    by_cases hq0 : q.val = 0
    · rw [if_pos hq0, if_pos hq0]
      exact congrArg (· + _) (e0 q o hq0)
    · rw [if_neg hq0, if_neg hq0]

/-- Column `j` of the one row stored at row `q`. -/
theorem ix (q : Fin 8) (j : Fin 1024) (inb : ∀ a, (![q.val, 0] : Fin 2 → ℕ) a + S1x1024.size a ≤ S8x1024.size a) {b : S8x1024.Idx}
    (hb : b = (Rect.unit (s := S8x1024) ![q.val, 0] S1x1024.size inb).toLoadRect.idx (ix2 (0 : Fin 1) j)) : b = ix2 q j :=
  hb.trans (funext fun a => Fin.ext (match a with
    | ⟨0, _⟩ => by show q.val + 1 * 0 = q.val; omega
    | ⟨1, _⟩ => by show 0 + 1 * j.val = j.val; omega))

theorem zeros (q : Fin 8) (j : Fin 1024) : (k0_pay3 (F := Ideal) : FVec Ideal S8x1024 .f32) (ix2 q j) = 0 := Ideal.ofBits_zero_f32

theorem rows_A (c : Dev nD) (i : grid0.Coords) (a1 : Memref sig .tc .vmem S256x6912 .bf16) (h1 : a1.IsWhole) (a2 : Memref sig .tc .vmem S1024x6912 .bf16) (h2 : a2.IsWhole)
    (a3 : Memref sig .tc .vmem S256x1024 .f32) (h3 : a3.IsWhole) (a4 : Memref sig .tc .vmem S256x1024 .f32) (h4 : a4.IsWhole) (a5 : Memref sig .tc .vmem S1x1024 .f32) (h5 : a5.IsWhole)
    (a7 : Memref sig .tc .vmem S256x1024 .f32) (h7 : a7.IsWhole) (a8 : Memref sig .tc .vmem S8x1024 .f32) (h8 : a8.IsWhole) (hc : cond0_0 i)
    (x0 : Vec Ideal S256x6912 .bf16) (x1 : Vec Ideal S1024x6912 .bf16) (x2 x3 : Vec Ideal S256x1024 .f32) (x4 : Vec Ideal S1x1024 .f32)
    (q : Fin 8) (j : Fin 1024) :
    out0_A_6 c i a1 h1 a2 h2 a3 h3 a4 h4 a5 h5 a7 h7 a8 h8 hc x0 x1 x2 x3 x4 (ix2 q j) = step x0 x1 x2 x3 q j 0 := by
  unfold out0_A_6
  unfold kernelRun0_A
  dsimp only
  sl_unfold_words
  simp only [View.readAt_eq_ld, h1.read_unread, h2.read_unread, h3.read_unread, h4.read_unread, h5.read_unread, View.ld_unit_zero (S := S256x6912) hz,
    View.ld_unit_zero (S := S1024x6912) hz, View.ld_unit_zero (S := S256x1024) hz, View.ld_unit_zero (S := S1x1024) hz]
  refine (two_stores _ _ _ _ _ _ _ q j).trans ?_
  have e : ∀ {sig : RefSig} {κ : Kind} {sp : Space} (v : View sig κ sp S8x1024 .f32) (f : v.ty.Contents (Elt Ideal)) (q : Fin 8) (j : Fin 1024),
      v.read (Elt Ideal) (v.writes (Elt Ideal) f [⟨Rect.unit (s := S8x1024) ![0, 0] ![8, 1024] inb_S8x1024_S8x1024_0_0, k0_pay3 (F := Ideal)⟩]) (ix2 q j) = (0 : EReal) :=
    fun v f q j => (View.read_writes_cons_rows_of_mem v f (o := 0) inb_S8x1024_S8x1024_0_0 (k0_pay3 (F := Ideal)) [] _ (ix2 q j) rfl
      (by show q.val = 0 + q.val; omega) rfl).trans (zeros q j)
  unfold step
  rw [pay1, pay8]
  by_cases hq1 : q.val = 1
  · rw [if_pos hq1, if_pos hq1]
    refine congrArg (· + _) ((congrArg (a8.view.read (Elt Ideal) _) (ix (1 : Fin 8) j _ rfl)).trans ?_)
    exact (View.read_writes_cons_rows_of_not_mem a8.view _ (o := 0) (W := 1) inb_S8x1024_S1x1024_0_0 _ _ _ rfl rfl (by show (1 : ℕ) < 0 ∨ 0 + 1 ≤ (1 : ℕ); omega)).trans (e _ _ _ _)
  · rw [if_neg hq1, if_neg hq1]
    by_cases hq0 : q.val = 0
    · rw [if_pos hq0, if_pos hq0]
      exact congrArg (· + _) ((congrArg (a8.view.read (Elt Ideal) _) (ix (0 : Fin 8) j _ rfl)).trans (e _ _ _ _))
    · rw [if_neg hq0, if_neg hq0]
      exact e _ _ q j

end Cert.InNormKernel

end
-- ==== Proof.InNormReference.lean ====
/-
  What the reference computes for the gradient of the step's first layer norm, over the extended reals: row by row the
  derivative of the norm's lines, and the two sums over all rows that are the gradients of the norm's scale and offset.
-/
module

public import proofs.«01_k».proof.Proof.Blocks
public import proofs.«01_k».proof.Proof.Norm
public import proofs.«01_k».proof.Proof.Gen.InNormRefIdeal.Read

@[expose] public section

noncomputable section

namespace Cert.InNormReference

open Cert.InNormRefIdeal Cert.InNormRefIdeal.Gen Cert.InNormRefIdeal.Read Cert.Blocks Cert.Norm
open Idealize.ShloMosaic Idealize.ShloMosaic.ValueIdx
open scoped BigOperators

variable (d : FVec Ideal S8192x6912 .bf16) (w : FVec Ideal S1024x6912 .bf16) (a x : FVec Ideal S8192x1024 .f32) (g : FVec Ideal S1024 .f32)

/-- Row `r` of the norm's argument. -/
def row (r : Fin 8192) (j : Fin 1024) : EReal := x (ix2 r j)
/-- The gradient of the norm's result: what comes back through the product and what the residual brings. -/
def grad (r : Fin 8192) (j : Fin 1024) : EReal := alpha * a (ix2 r j) + ∑ k : Fin 6912, d (ix2 r k) * w (ix2 j k)
/-- The gradient of the normalised row: the one of the result, scaled. -/
def back (r : Fin 8192) (j : Fin 1024) : EReal := grad d w a r j * g (ix1 j)

theorem at_row (i : S8192x1024.Idx) : x i = row x (i 0) (i 1) := congrArg x (eq_ix2 i)

/-- A column of one, and a row of one, read as a list. -/
theorem flat_row (i : S8192x1.Idx) : idx_main_v50 i = ix1 (i 0) := by
  have h : (i 1).val < 1 := (i 1).isLt
  funext b
  match b with
  | ⟨0, _⟩ => exact Fin.ext (by show (i 0).val * 1 + (i 1).val = (i 0).val; omega)
theorem flat_column (i : S1x1024.Idx) : idx_main_v40 i = ix1 (i 1) := by
  have h : (i 0).val < 1 := (i 0).isLt
  funext b
  match b with
  | ⟨0, _⟩ => exact Fin.ext (by show (i 0).val * 1024 + (i 1).val = (i 1).val; omega)

/-! ## The norm's own lines -/

theorem v1 (i : S8192.Idx) : val_main_v1 (F := Ideal) x i = ∑ k, row x (i 0) k := by
  rw [val_main_v1_apply, show val_main_cst_0 (F := Ideal) (Shape.Idx.first h_S_) = (0 : EReal) from Ideal.ofBits_zero_f32, zero_add]
  exact Finset.sum_congr rfl fun k _ => at_row x _
theorem v4 (i : S8192x1.Idx) : val_main_v4 (F := Ideal) x i = mean (row x (i 0)) := by
  rw [val_main_v4_apply, val_main_v2_apply, v1, val_main_v3_apply, val_main_cst_1_apply]
  rfl
theorem v6 (i : S8192x1024.Idx) : val_main_v6 (F := Ideal) x i = centre (row x (i 0)) (i 1) := by
  rw [val_main_v6_apply, val_main_v5_apply, v4, at_row x]
  rfl
theorem v15 (i : S8192x1024.Idx) : val_main_v15 (F := Ideal) x i = centre (row x (i 0)) (i 1) := by
  rw [val_main_v15_apply, val_main_v14_apply, v4, at_row x]
  rfl
theorem v9 (i : S8192x1024.Idx) : val_main_v9 (F := Ideal) x i = two * centre (row x (i 0)) (i 1) := by
  rw [val_main_v9_apply, v6, val_main_v8_apply, val_main_cst_2_apply]
  rfl
theorem v10 (i : S8192.Idx) : val_main_v10 (F := Ideal) x i = ∑ k, centre (row x (i 0)) k * centre (row x (i 0)) k := by
  rw [val_main_v10_apply, show val_main_cst_3 (F := Ideal) (Shape.Idx.first h_S_) = (0 : EReal) from Ideal.ofBits_zero_f32, zero_add]
  refine Finset.sum_congr rfl fun k _ => ?_
  rw [val_main_v7_apply, v6]
  rfl
theorem v17 (i : S8192x1.Idx) : val_main_v17 (F := Ideal) x i = spread (row x (i 0)) := by
  rw [val_main_v17_apply, val_main_v13_apply, val_main_v11_apply, v10, val_main_v12_apply, val_main_cst_4_apply, val_main_v16_apply, val_main_cst_5_apply]
  rfl
theorem v18 (i : S8192x1.Idx) : val_main_v18 (F := Ideal) x i = rstd (row x (i 0)) := by
  rw [val_main_v18_apply, v17]
  rfl
theorem v21 (i : S8192x1.Idx) : val_main_v21 (F := Ideal) x i = mhalf * Ideal.div (rstd (row x (i 0))) (spread (row x (i 0))) := by
  rw [val_main_v21_apply, val_main_v19_apply, v18, v17, val_main_v20_apply, val_main_cst_6_apply]
  rfl
theorem v23 (i : S8192x1024.Idx) : val_main_v23 (F := Ideal) x i = unit (row x (i 0)) (i 1) := by
  rw [val_main_v23_apply, v15, val_main_v22_apply, v18]
  rfl

/-! ## The gradient of the result -/

theorem v37 (r : Fin 8192) (j : Fin 1024) :
    val_main_v37 (F := Ideal) d w (ix2 r j) = ∑ k : Fin 6912, d (ix2 r k) * w (ix2 j k) := by
  unfold val_main_v37
  exact host_transposed none _ _ r j
theorem v38 (i : S8192x1024.Idx) : val_main_v38 (F := Ideal) d w a i = grad d w a (i 0) (i 1) := by
  rw [val_main_v38_apply, val_main_v36_apply, val_main_v35_apply, val_main_cst_8_apply]
  exact congrArg₂ (fun u v => alpha * u + v) (congrArg a (eq_ix2 i)) ((congrArg _ (eq_ix2 i)).trans (v37 d w (i 0) (i 1)))
theorem v46 (i : S8192x1024.Idx) : val_main_v46 (F := Ideal) d w a g i = back d w a g (i 0) (i 1) := by
  rw [val_main_v46_apply, v38, val_main_v45_apply, val_main_v24_apply]
  exact congrArg (fun v => grad d w a (i 0) (i 1) * g v) (eq_ix1 _)

/-! ## The gradient of the argument -/

theorem v50 (i : S8192x1.Idx) : val_main_v50 (F := Ideal) d w a x g i = ∑ k, centre (row x (i 0)) k * back d w a g (i 0) k := by
  rw [val_main_v50_apply, show idx_main_v50 i = ix1 (n := 8192) (i 0) from flat_row i, val_main_v49_apply, show val_main_cst_13 (F := Ideal) (Shape.Idx.first h_S_) = (0 : EReal) from Ideal.ofBits_zero_f32, zero_add]
  refine Finset.sum_congr rfl fun k _ => ?_
  rw [val_main_v48_apply, v15, v46]
  rfl
theorem v52 (i : S8192x1024.Idx) : val_main_v52 (F := Ideal) d w a x g i = back d w a g (i 0) (i 1) * rstd (row x (i 0)) := by
  rw [val_main_v52_apply, v46, val_main_v51_apply, v18]
  rfl
theorem v56 (i : S8192x1.Idx) : val_main_v56 (F := Ideal) d w a x g i = ∑ k, -(back d w a g (i 0) k * rstd (row x (i 0))) := by
  rw [val_main_v56_apply, show idx_main_v56 i = ix1 (n := 8192) (i 0) from flat_row i, val_main_v55_apply, show val_main_cst_14 (F := Ideal) (Shape.Idx.first h_S_) = (0 : EReal) from Ideal.ofBits_zero_f32, zero_add]
  refine Finset.sum_congr rfl fun k _ => ?_
  rw [val_main_v54_apply, v52]
  rfl
theorem v58 (i : S8192x1.Idx) : val_main_v58 (F := Ideal) d w a x g i = backSpread (row x (i 0)) (back d w a g (i 0)) := by
  rw [val_main_v58_apply, val_main_v53_apply, v50, v21, val_main_v57_apply, val_main_cst_15_apply]
  rfl
theorem v61 (i : S8192x1024.Idx) : val_main_v61 (F := Ideal) d w a x g i = backCentre (row x (i 0)) (back d w a g (i 0)) (i 1) := by
  rw [val_main_v61_apply, val_main_v60_apply, val_main_v59_apply, v9,
    show val_main_cst_16 (F := Ideal) (Shape.Idx.first h_S_) = (0 : EReal) from Ideal.ofBits_zero_f32, zero_add, Fin.sum_univ_one, v58]
  rfl
theorem v64 (i : S8192x1.Idx) : val_main_v64 (F := Ideal) d w a x g i = ∑ k, -(backCentre (row x (i 0)) (back d w a g (i 0)) k) := by
  rw [val_main_v64_apply, show idx_main_v64 i = ix1 (n := 8192) (i 0) from flat_row i, val_main_v63_apply, show val_main_cst_17 (F := Ideal) (Shape.Idx.first h_S_) = (0 : EReal) from Ideal.ofBits_zero_f32, zero_add]
  refine Finset.sum_congr rfl fun k _ => ?_
  rw [val_main_v62_apply, v61]
  rfl
/-- THE GRADIENT OF THE ARGUMENT at one index. -/
theorem v71 (i : S8192x1024.Idx) : val_main_v71 (F := Ideal) d w a x g i = derived (row x (i 0)) (back d w a g (i 0)) (i 1) := by
  rw [val_main_v71_apply, val_main_v65_apply, v52, v61, val_main_v70_apply, val_main_v69_apply,
    show val_main_cst_19 (F := Ideal) (Shape.Idx.first h_S_) = (0 : EReal) from Ideal.ofBits_zero_f32, zero_add, Fin.sum_univ_one,
    val_main_v68_apply, val_main_v66_apply, v56, v64, val_main_v67_apply, val_main_cst_18_apply]
  rfl

/-! ## The gradients of the scale and the offset -/

theorem v41 (i : S1024.Idx) : val_main_v41 (F := Ideal) d w a i = ∑ r : Fin 8192, grad d w a r (i 0) := by
  rw [val_main_v41_apply, show val_main_cst_10 (F := Ideal) (Shape.Idx.first h_S_) = (0 : EReal) from Ideal.ofBits_zero_f32, zero_add, Fin.sum_univ_one,
    val_main_v40_apply, show idx_main_v40 _ = ix1 (n := 1024) (i 0) from flat_column _, val_main_v39_apply, show val_main_cst_9 (F := Ideal) (Shape.Idx.first h_S_) = (0 : EReal) from Ideal.ofBits_zero_f32, zero_add]
  exact Finset.sum_congr rfl fun r _ => v38 d w a _
theorem v47 (i : S1024.Idx) : val_main_v47 (F := Ideal) d w a x i = ∑ r : Fin 8192, unit (row x r) (i 0) * grad d w a r (i 0) := by
  rw [val_main_v47_apply, show val_main_cst_12 (F := Ideal) (Shape.Idx.first h_S_) = (0 : EReal) from Ideal.ofBits_zero_f32, zero_add, Fin.sum_univ_one,
    val_main_v44_apply, show idx_main_v44 _ = ix1 (n := 1024) (i 0) from flat_column _, val_main_v43_apply, show val_main_cst_11 (F := Ideal) (Shape.Idx.first h_S_) = (0 : EReal) from Ideal.ofBits_zero_f32, zero_add]
  refine Finset.sum_congr rfl fun r _ => ?_
  rw [val_main_v42_apply, v23, v38]
  rfl
/-- THE TWO ROWS: the gradient of the scale, the gradient of the offset, and zeros. -/
def rows (q : Fin 8) (j : Fin 1024) : EReal :=
  if q.val = 0 then ∑ r : Fin 8192, unit (row x r) j * grad d w a r j
  else if q.val = 1 then ∑ r : Fin 8192, grad d w a r j else 0
theorem v80 (q : Fin 8) (j : Fin 1024) : val_main_v80 (F := Ideal) d w a x (ix2 q j) = rows d w a x q j := by
  rw [val_main_v80_apply, val_main_v74_apply, val_main_v72_apply, val_main_v73_apply, val_main_c_apply, val_main_call1_v0_apply, val_main_v75_apply, v47,
    val_main_v79_apply, val_main_v77_apply, val_main_v72_apply, val_main_v76_apply, val_main_c_20_apply, val_main_call0_v1_apply, val_main_v78_apply, v41,
    val_main_call0_v2_apply, val_main_call0_v0_apply, val_main_cst_21_apply]
  show Scalar.select (Scalar.cmpi .eq (BitVec.ofNat 32 q.val) 0#32) (∑ r : Fin 8192, unit (row x r) j * grad d w a r j)
    (Scalar.select (Scalar.cmpi .eq (BitVec.ofNat 32 q.val) 1#32) (∑ r : Fin 8192, grad d w a r j) (Ideal.ofBits .f32 0x00000000#32)) = _
  unfold rows
  rw [Ideal.ofBits_zero_f32]
  generalize (∑ r : Fin 8192, unit (row x r) j * grad d w a r j) = u
  generalize (∑ r : Fin 8192, grad d w a r j) = v
  fin_cases q <;> rfl

end Cert.InNormReference

end
-- ==== Proof.InNorm.lean ====
/-
  The gradient of the step's first layer norm: what the kernel's run leaves in its two results, over the extended reals,
  is what the derivative of the norm's lines computes. The rows of the argument's gradient are equal where the arguments
  are finite, for the two closed forms are equal as real numbers; the two sums over all rows are equal everywhere.
-/
module

public import proofs.«01_k».proof.Proof.InNormKernel
public import proofs.«01_k».proof.Proof.InNormReference
public import proofs.«01_k».proof.Proof.Gen.Pre_finite_in_norm
public import Idealize.ShloMosaic.Lib.Claim
public import proofs.«01_k».proof.Defs

@[expose] public section

noncomputable section

namespace Cert.InNormProof

open Cert.InNormIdeal Cert.InNormIdeal.Gen Cert.InNormIdeal.Value Cert.Blocks Cert.Norm Cert.Rows
open Idealize.ShloMosaic Idealize.ShloMosaic.TcCoe Idealize.ShloMosaic.ValueIdx
open Idealize.ShloMosaic.Pipeline (Dat)
open Cert.InNormReference (row grad back rows)
open scoped BigOperators

variable (m : (ℓ : Loc nD τ sig) → Buf (Elt Ideal) ℓ)

/-- The gradient of the product's result, the weights, the residual's gradient, the norm's argument and its scale. -/
abbrev ds (c : Dev nD) : FVec Ideal S8192x6912 .bf16 := m ((c : Thread nD τ).loc main_arg0)
abbrev ws (c : Dev nD) : FVec Ideal S1024x6912 .bf16 := m ((c : Thread nD τ).loc main_arg1)
abbrev rs (c : Dev nD) : FVec Ideal S8192x1024 .f32 := m ((c : Thread nD τ).loc main_arg2)
abbrev xs (c : Dev nD) : FVec Ideal S8192x1024 .f32 := m ((c : Thread nD τ).loc main_arg3)
abbrev gs (c : Dev nD) : FVec Ideal S1024 .f32 := m ((c : Thread nD τ).loc main_arg4)

/-! ## The blocks a point reads -/

/-- The point of the grid at the `p`-th block of rows. -/
abbrev pt (p : Fin 32) : Fin cfg0.N := ⟨p.val, lt_of_lt_of_eq p.isLt N_0.symm⟩
/-- Row `r` of the `p`-th block. -/
abbrev at_ (p : Fin 32) (r : Fin 256) : Fin 8192 := ⟨256 * p.val + r.val, by omega⟩

theorem index_d : ∀ p : Fin 32, win0_0.index (pt p) 0 = p.val ∧ win0_0.index (pt p) 1 = 0 := by decide +kernel
theorem index_w : ∀ p : Fin 32, win0_1.index (pt p) 0 = 0 ∧ win0_1.index (pt p) 1 = 0 := by decide +kernel
theorem index_r : ∀ p : Fin 32, win0_2.index (pt p) 0 = p.val ∧ win0_2.index (pt p) 1 = 0 := by decide +kernel
theorem index_x : ∀ p : Fin 32, win0_3.index (pt p) 0 = p.val ∧ win0_3.index (pt p) 1 = 0 := by decide +kernel
theorem index_g : ∀ p : Fin 32, win0_4.index (pt p) 0 = 0 ∧ win0_4.index (pt p) 1 = 0 := by decide +kernel
theorem index_o : ∀ p : Fin 32, win0_5.index (pt p) 0 = p.val ∧ win0_5.index (pt p) 1 = 0 := by decide +kernel
theorem index_t : ∀ p : Fin 32, win0_6.index (pt p) 0 = 0 ∧ win0_6.index (pt p) 1 = 0 := by decide +kernel
theorem flush_o : ∀ p : Fin 32, (cfg0.win 5).flush (pt p) = true := by decide +kernel

theorem block_d (c : Dev nD) (p : Fin 32) (r : Fin 256) (k : Fin 6912) :
    (iblk m c 0 (pt p) : FVec Ideal S256x6912 .bf16) (ix2 r k) = ds m c (ix2 (at_ p r) k) := by
  obtain ⟨h0, h1⟩ := index_d p
  unfold iblk
  rw [View.read_apply]
  show V m c main_arg0 _ = m (c.tc.loc main_arg0) _
  rw [V_main_arg0]
  congr 1
  funext a
  apply Fin.ext
  match a with
  | ⟨0, _⟩ => show win0_0.index (pt p) 0 * 256 + 1 * r.val = 256 * p.val + r.val; rw [h0]; omega
  | ⟨1, _⟩ => show win0_0.index (pt p) 1 * 6912 + 1 * k.val = k.val; rw [h1]; omega

theorem block_w (c : Dev nD) (p : Fin 32) (j : Fin 1024) (k : Fin 6912) :
    (iblk m c 1 (pt p) : FVec Ideal S1024x6912 .bf16) (ix2 j k) = ws m c (ix2 j k) := by
  obtain ⟨h0, h1⟩ := index_w p
  unfold iblk
  rw [View.read_apply]
  show V m c main_arg1 _ = m (c.tc.loc main_arg1) _
  rw [V_main_arg1]
  congr 1
  funext a
  apply Fin.ext
  match a with
  | ⟨0, _⟩ => show win0_1.index (pt p) 0 * 1024 + 1 * j.val = j.val; rw [h0]; omega
  | ⟨1, _⟩ => show win0_1.index (pt p) 1 * 6912 + 1 * k.val = k.val; rw [h1]; omega

theorem block_r (c : Dev nD) (p : Fin 32) (r : Fin 256) (j : Fin 1024) :
    (iblk m c 2 (pt p) : FVec Ideal S256x1024 .f32) (ix2 r j) = rs m c (ix2 (at_ p r) j) := by
  obtain ⟨h0, h1⟩ := index_r p
  unfold iblk
  rw [View.read_apply]
  show V m c main_arg2 _ = m (c.tc.loc main_arg2) _
  rw [V_main_arg2]
  congr 1
  funext a
  apply Fin.ext
  match a with
  | ⟨0, _⟩ => show win0_2.index (pt p) 0 * 256 + 1 * r.val = 256 * p.val + r.val; rw [h0]; omega
  | ⟨1, _⟩ => show win0_2.index (pt p) 1 * 1024 + 1 * j.val = j.val; rw [h1]; omega

theorem block_x (c : Dev nD) (p : Fin 32) (r : Fin 256) (j : Fin 1024) :
    (iblk m c 3 (pt p) : FVec Ideal S256x1024 .f32) (ix2 r j) = xs m c (ix2 (at_ p r) j) := by
  obtain ⟨h0, h1⟩ := index_x p
  unfold iblk
  rw [View.read_apply]
  show V m c main_arg3 _ = m (c.tc.loc main_arg3) _
  rw [V_main_arg3]
  congr 1
  funext a
  apply Fin.ext
  match a with
  | ⟨0, _⟩ => show win0_3.index (pt p) 0 * 256 + 1 * r.val = 256 * p.val + r.val; rw [h0]; omega
  | ⟨1, _⟩ => show win0_3.index (pt p) 1 * 1024 + 1 * j.val = j.val; rw [h1]; omega

/-- The scale, as one row. -/
def scale (g : FVec Ideal S1024 .f32) : FVec Ideal S1x1024 .f32 := broadcastInDim S1x1024 ![1] bcast_S1024_S1x1024_1 g

theorem block_g (c : Dev nD) (p : Fin 32) (j : Fin 1024) :
    (iblk m c 4 (pt p) : FVec Ideal S1x1024 .f32) (ix2 (0 : Fin 1) j) = gs m c (ix1 j) := by
  obtain ⟨h0, h1⟩ := index_g p
  have e : (V m c main_v0 : FVec Ideal S1x1024 .f32) = scale (gs m c) := by
    entry_read
    rfl
  unfold iblk
  rw [View.read_apply]
  show (V m c main_v0 : FVec Ideal S1x1024 .f32) _ = _
  rw [e]
  show gs m c _ = gs m c _
  congr 1
  funext a
  apply Fin.ext
  match a with
  | ⟨0, _⟩ => show win0_4.index (pt p) 1 * 1024 + 1 * j.val = j.val; rw [h1]; omega

/-! ## The rows of the argument's gradient -/

theorem block_row (c : Dev nD) (p : Fin 32) (r : Fin 256) : Cert.InNormKernel.row (iblk m c 3 (pt p)) r = row (xs m c) (at_ p r) :=
  funext fun j => block_x m c p r j
theorem block_grad (c : Dev nD) (p : Fin 32) (r : Fin 256) (j : Fin 1024) :
    Cert.InNormKernel.grad (iblk m c 0 (pt p)) (iblk m c 1 (pt p)) (iblk m c 2 (pt p)) r j = grad (ds m c) (ws m c) (rs m c) (at_ p r) j := by
  unfold Cert.InNormKernel.grad grad
  rw [block_r, add_comm]
  simp only [block_d, block_w]

/-- THE FIRST RESULT at one index, in the kernel's closed form. -/
theorem rows_value (c : Dev nD) (r : Fin 8192) (s : Fin 1024) :
    ((dats m 0 c).arrAt 5 cfg0.N : FVec Ideal S8192x1024 .f32) (ix2 r s)
      = closed (row (xs m c) r) (back (ds m c) (ws m c) (rs m c) (gs m c) r) s := by
  obtain ⟨p, hp⟩ : ∃ p : Fin 32, p.val = r.val / 256 := ⟨⟨r.val / 256, by omega⟩, rfl⟩
  obtain ⟨r', hr⟩ : ∃ r' : Fin 256, r'.val = r.val % 256 := ⟨⟨r.val % 256, by omega⟩, rfl⟩
  have er : at_ p r' = r := Fin.ext (by show 256 * p.val + r'.val = r.val; omega)
  obtain ⟨h0, h1⟩ := index_o p
  have h := congrFun (blocks5 m c (pt p) (flush_o p)) (ix2 r' s)
  rw [View.read_apply] at h
  have ei : ((cfg0.win 5).blk (pt p)).view.emb (ix2 r' s) = (ix2 r s : S8192x1024.Idx) := by
    funext a
    apply Fin.ext
    match a with
    | ⟨0, _⟩ => show win0_5.index (pt p) 0 * 256 + 1 * r'.val = r.val; rw [h0]; omega
    | ⟨1, _⟩ => show win0_5.index (pt p) 1 * 1024 + 1 * s.val = s.val; rw [h1]; omega
  rw [ei] at h
  refine (show _ = _ from h).trans ?_
  have e : (k0_pay2 (F := Ideal) (k0_pay4 (iblk m c 0 (pt p)) (iblk m c 1 (pt p)) (iblk m c 2 (pt p))) (k0_pay6 (iblk m c 3 (pt p))) (k0_pay7 (iblk m c 3 (pt p))) (iblk m c 4 (pt p)) : FVec Ideal S256x1024 .f32) (ix2 r' s)
      = closed (row (xs m c) r) (back (ds m c) (ws m c) (rs m c) (gs m c) r) s := by
    rw [Cert.InNormKernel.pay2, block_row, er]
    refine congrArg (fun f => closed (row (xs m c) r) f s) (funext fun k => ?_)
    unfold back
    rw [block_grad, block_g, er]
  by_cases h0 : (pt p).val % 32 = 0
  · rw [flushed5_A m c (pt p) h0, Cert.InNormKernel.ahead_A]
    exact e
  · rw [flushed5_B m c (pt p) h0, Cert.InNormKernel.ahead_B]
    exact e

/-! ## The two accumulated rows -/

/-- What one row of the arguments adds to row `q` of the accumulated ones. -/
def term (c : Dev nD) (q : Fin 8) (j : Fin 1024) (r : Fin 8192) : EReal :=
  if q.val = 1 then grad (ds m c) (ws m c) (rs m c) r j
  else if q.val = 0 then unit (row (xs m c) r) j * grad (ds m c) (ws m c) (rs m c) r j else 0
def termN (c : Dev nD) (q : Fin 8) (j : Fin 1024) (k : ℕ) : EReal := if h : k < 8192 then term m c q j ⟨k, h⟩ else 0

theorem block_step (c : Dev nD) (p : Fin 32) (q : Fin 8) (j : Fin 1024) (o : EReal) :
    Cert.InNormKernel.step (iblk m c 0 (pt p)) (iblk m c 1 (pt p)) (iblk m c 2 (pt p)) (iblk m c 3 (pt p)) q j o
      = o + ∑ r : Fin 256, termN m c q j (256 * p.val + r.val) := by
  have e : ∀ r : Fin 256, termN m c q j (256 * p.val + r.val) = term m c q j (at_ p r) := fun r => dif_pos (at_ p r).isLt
  simp only [e]
  unfold Cert.InNormKernel.step term
  by_cases h1 : q.val = 1
  · simp only [if_pos h1, block_grad]
  · by_cases h0 : q.val = 0
    · simp only [if_neg h1, if_pos h0, block_grad, block_row]
      exact congrArg (o + ·) (Finset.sum_congr rfl fun r _ => mul_comm _ _)
    · simp only [if_neg h1, if_neg h0, Finset.sum_const_zero, add_zero]

theorem outs_congr (c : Dev nD) {n n' : ℕ} (e : n = n') (h : n < cfg0.N) (h' : n' < cfg0.N) : outsAt0 m c n h = outsAt0 m c n' h' := by
  subst e
  rfl

/-- The accumulated rows after point `n`: the sums over the blocks up to it. -/
theorem gathered (c : Dev nD) (q : Fin 8) (j : Fin 1024) (n : ℕ) (hn : n < 32) :
    ((outsAt0 m c (pt ⟨n, hn⟩).val (pt ⟨n, hn⟩).isLt).2 : FVec Ideal S8x1024 .f32) (ix2 q j)
      = ∑ p ∈ Finset.range (n + 1), ∑ r : Fin 256, termN m c q j (256 * p + r.val) := by
  induction n with
  | zero =>
    rw [outsAt0_A m c (pt ⟨0, hn⟩) (by show 0 % 32 = 0; rfl)]
    dsimp only
    refine (Cert.InNormKernel.rows_A (hc := _) ..).trans ?_
    rw [block_step, zero_add, Finset.sum_range_one]
  | succ n ih =>
    rw [outsAt0_B m c (pt ⟨n + 1, hn⟩) (by show ¬(n + 1) % 32 = 0; omega)]
    dsimp only
    refine (Cert.InNormKernel.rows_B (hc := _) ..).trans ?_
    rw [block_step, Finset.sum_range_succ, ← ih (by omega)]
    rfl

theorem disjoint6 (t t' : Fin cfg0.N) (h : (cfg0.win 6).flush t = true) (h' : (cfg0.win 6).flush t' = true) (hne : t ≠ t') :
    Disjoint ((cfg0.win 6).blk t).view.set ((cfg0.win 6).blk t').view.set := by
  have a := (flush0_6 t).mp h
  have b := (flush0_6 t').mp h'
  have l := lt_of_lt_of_eq t.isLt N_0
  have l' := lt_of_lt_of_eq t'.isLt N_0
  exact absurd (Fin.ext (by omega)) hne

/-- THE SECOND RESULT at one index. -/
theorem sums_value (c : Dev nD) (q : Fin 8) (j : Fin 1024) :
    ((dats m 0 c).arrAt 6 cfg0.N : FVec Ideal S8x1024 .f32) (ix2 q j) = rows (ds m c) (ws m c) (rs m c) (xs m c) q j := by
  obtain ⟨h0, h1⟩ := index_t (31 : Fin 32)
  have h := congrFun ((dats m 0 c).read_blk_arrAt_eq_flushed 6 disjoint6 cfg0.N (pt 31) (pt 31).isLt ((flush0_6 _).mpr rfl)) (ix2 q j)
  rw [View.read_apply] at h
  have ei : ((cfg0.win 6).blk (pt 31)).view.emb (ix2 q j) = (ix2 q j : S8x1024.Idx) := by
    funext a
    apply Fin.ext
    match a with
    | ⟨0, _⟩ => show win0_6.index (pt 31) 0 * 8 + 1 * q.val = q.val; rw [h0]; omega
    | ⟨1, _⟩ => show win0_6.index (pt 31) 1 * 1024 + 1 * j.val = j.val; rw [h1]; omega
  rw [ei] at h
  refine (show _ = _ from h).trans ?_
  rw [flushed6]
  refine (gathered m c q j 31 (by omega)).trans ?_
  rw [Finset.sum_range, sum_blocks (A := 32) (B := 256) (N := 8192) rfl]
  have e : ∀ k : Fin 8192, termN m c q j k.val = term m c q j k := fun k => dif_pos k.isLt
  simp only [e]
  unfold term rows
  by_cases h1 : q.val = 1
  · simp only [if_pos h1, h1]
    rfl
  · by_cases h0 : q.val = 0
    · simp only [h0]
      rfl
    · simp only [if_neg h1, if_neg h0, Finset.sum_const_zero]

/-! ## The equation -/

/-- Every element of the arguments is a real number. -/
structure Finite (c : Dev nD) : Prop where
  d : ∀ r k, ∃ v : ℝ, ds m c (ix2 r k) = v
  w : ∀ j k, ∃ v : ℝ, ws m c (ix2 j k) = v
  r : ∀ r j, ∃ v : ℝ, rs m c (ix2 r j) = v
  x : ∀ r j, ∃ v : ℝ, xs m c (ix2 r j) = v
  g : ∀ j, ∃ v : ℝ, gs m c (ix1 j) = v

theorem finite (h : Pre_InNormIdeal_finite_in_norm m) (c : Dev nD) : Finite m c := by
  obtain ⟨h0, h1, h2, h3, h4⟩ := h c
  exact ⟨fun r k => real_of_finite _ (congrFun h0 (ix2 r k)), fun j k => real_of_finite _ (congrFun h1 (ix2 j k)),
    fun r j => real_of_finite _ (congrFun h2 (ix2 r j)), fun r j => real_of_finite _ (congrFun h3 (ix2 r j)),
    fun j => real_of_finite _ (congrFun h4 (ix1 j))⟩

theorem equal_rows (c : Dev nD) (h : Finite m c) :
    ((dats m 0 c).arrAt 5 cfg0.N : FVec Ideal S8192x1024 .f32)
      = Cert.InNormRefIdeal.Read.val_main_v71 (F := Ideal) (ds m c) (ws m c) (rs m c) (xs m c) (gs m c) := by
  funext i
  obtain ⟨r, s, rfl⟩ : ∃ r s, i = ix2 r s := ⟨i 0, i 1, eq_ix2 i⟩
  rw [rows_value, Cert.InNormReference.v71]
  show _ = derived (row (xs m c) r) (back (ds m c) (ws m c) (rs m c) (gs m c) r) s
  have hx : ∀ j, ∃ v : ℝ, row (xs m c) r j = v := fun j => h.x r j
  have hb : ∀ j, ∃ v : ℝ, back (ds m c) (ws m c) (rs m c) (gs m c) r j = v := fun j =>
    real_mul (real_add (real_mul alpha_eq (h.r r j)) (real_sum (h.d r) (h.w j))) (h.g j)
  choose u hu using hx
  choose v hv using hb
  rw [funext hu, funext hv]
  exact closed_eq_derived u v s

theorem equal_sums (c : Dev nD) :
    ((dats m 0 c).arrAt 6 cfg0.N : FVec Ideal S8x1024 .f32)
      = Cert.InNormRefIdeal.Read.val_main_v80 (F := Ideal) (ds m c) (ws m c) (rs m c) (xs m c) := by
  funext i
  obtain ⟨q, j, rfl⟩ : ∃ q j, i = ix2 q j := ⟨i 0, i 1, eq_ix2 i⟩
  rw [sums_value, Cert.InNormReference.v80]

end Cert.InNormProof

end
-- ==== Proof.lean ====
/-
  The proof of `Cert.Claim`: every kernel's frame from its generated run, and every kernel's result, over the extended
  reals, equal to its reference's (the equations are in the modules DwIn … DwProj, MlpUp,
  MlpAct, MlpNorm, InNorm, ProjConv, Pool, Conv, LnIn, AdamOut, AdamUp and AdamProj).
-/
module

public import proofs.«01_k».proof.Defs
public import proofs.«01_k».proof.Proof.Gen.DwDown.Frame
public import proofs.«01_k».proof.Proof.Gen.DwDownIdeal.Value
public import proofs.«01_k».proof.Proof.Gen.DwDownRefIdeal.Run
public import proofs.«01_k».proof.Proof.Gen.DwGate.Frame
public import proofs.«01_k».proof.Proof.Gen.DwGateIdeal.Value
public import proofs.«01_k».proof.Proof.Gen.DwGateRefIdeal.Run
public import proofs.«01_k».proof.Proof.Gen.DwIn.Frame
public import proofs.«01_k».proof.Proof.Gen.DwInIdeal.Value
public import proofs.«01_k».proof.Proof.Gen.DwInRefIdeal.Run
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwProj.Frame
public import proofs.«01_k».proof.Proof.Gen.DwProjIdeal.Value
public import proofs.«01_k».proof.Proof.Gen.DwProjRefIdeal.Run
public import proofs.«01_k».proof.Proof.Gen.DwUp.Frame
public import proofs.«01_k».proof.Proof.Gen.DwUpIdeal.Value
public import proofs.«01_k».proof.Proof.Gen.DwUpRefIdeal.Run
public import proofs.«01_k».proof.Proof.Gen.MlpUp.Frame
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.MlpAct.Frame
public import proofs.«01_k».proof.Proof.Gen.MlpActIdeal.Value
public import proofs.«01_k».proof.Proof.Gen.MlpActRefIdeal.Run
public import proofs.«01_k».proof.Proof.Gen.MlpActRefIdeal.Read
public import proofs.«01_k».proof.Proof.Gen.MlpNorm.Frame
public import proofs.«01_k».proof.Proof.Gen.MlpNormIdeal.Value
public import proofs.«01_k».proof.Proof.Gen.MlpNormRefIdeal.Run
public import proofs.«01_k».proof.Proof.Gen.MlpNormRefIdeal.Read
public import proofs.«01_k».proof.Proof.Gen.InNorm.Frame
public import proofs.«01_k».proof.Proof.Gen.InNormIdeal.Value
public import proofs.«01_k».proof.Proof.Gen.InNormRefIdeal.Run
public import proofs.«01_k».proof.Proof.Gen.InNormRefIdeal.Read
public import proofs.«01_k».proof.Proof.Gen.Pre_finite_in_norm
public import proofs.«01_k».proof.Proof.Gen.Pre_finite_mlp_norm
public import Idealize.ShloMosaic.Adequacy
public import Idealize.ShloMosaic.Init
public import Idealize.ShloMosaic.Lib.Quiescent
public import proofs.«01_k».proof.Proof.DwIn
public import proofs.«01_k».proof.Proof.LnIn
public import proofs.«01_k».proof.Proof.AdamOut
public import proofs.«01_k».proof.Proof.AdamUp
public import proofs.«01_k».proof.Proof.AdamProj
public import proofs.«01_k».proof.Proof.DwUp
public import proofs.«01_k».proof.Proof.DwDown
public import proofs.«01_k».proof.Proof.DwOut
public import proofs.«01_k».proof.Proof.DwGate
public import proofs.«01_k».proof.Proof.DwProj
public import proofs.«01_k».proof.Proof.Gen.ProjConv.Frame
public import proofs.«01_k».proof.Proof.Gen.ProjConvIdeal.Value
public import proofs.«01_k».proof.Proof.Gen.ProjConvRefIdeal.Run
public import proofs.«01_k».proof.Proof.Gen.ProjConvRefIdeal.Read
public import proofs.«01_k».proof.Proof.Gen.LnIn.Frame
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamPool.Frame
public import proofs.«01_k».proof.Proof.Gen.AdamPoolIdeal.Value
public import proofs.«01_k».proof.Proof.Gen.AdamPoolRefIdeal.Run
public import proofs.«01_k».proof.Proof.Gen.AdamPoolRefIdeal.Read
public import proofs.«01_k».proof.Proof.Gen.LnInIdeal.Value
public import proofs.«01_k».proof.Proof.Gen.LnInRefIdeal.Run
public import proofs.«01_k».proof.Proof.Gen.LnInRefIdeal.Read
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamProj.Frame
public import proofs.«01_k».proof.Proof.Gen.AdamProjIdeal.Value
public import proofs.«01_k».proof.Proof.Gen.AdamProjRefIdeal.Run
public import proofs.«01_k».proof.Proof.Gen.AdamProjRefIdeal.Read
public import proofs.«01_k».proof.Proof.Gen.PoolBwd.Frame
public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.MlpUp
public import proofs.«01_k».proof.Proof.AdamIn
public import proofs.«01_k».proof.Proof.AdamPool
public import proofs.«01_k».proof.Proof.MlpAct
public import proofs.«01_k».proof.Proof.ProjConv
public import proofs.«01_k».proof.Proof.Pool
public import proofs.«01_k».proof.Proof.Conv
public import proofs.«01_k».proof.Proof.MlpNorm
public import proofs.«01_k».proof.Proof.InNorm

@[expose] public section

noncomputable section

namespace Cert.Proof

open Idealize.ShloMosaic Idealize.SL.Sem

theorem quiescent_DwInRefIdeal : quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

theorem quiescent_DwUpRefIdeal : quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

theorem quiescent_DwDownRefIdeal : quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem quiescent_DwOutRefIdeal : quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem quiescent_DwGateRefIdeal : quiescent_DwGateRefIdeal := fun m ρ _ =>
  (θ_run Cert.DwGateRefIdeal.defs _ _).mono (fun r h => ⟨fun c => (h c).2, sem_eq_zero_of_no_sems (by decide) r.2⟩)
    (Cert.DwGateRefIdeal.Value.run (F := Ideal) m ρ)

theorem quiescent_DwProjRefIdeal : quiescent_DwProjRefIdeal := fun m ρ _ =>
  (θ_run Cert.DwProjRefIdeal.defs _ _).mono (fun r h => ⟨fun c => (h c).2, sem_eq_zero_of_no_sems (by decide) r.2⟩)
    (Cert.DwProjRefIdeal.Value.run (F := Ideal) m ρ)

theorem algebraic_DwInIdeal_DwInRefIdeal : algebraic_DwInIdeal_DwInRefIdeal := by
  intro m ρ m' ρ' _ hagree
  refine ⟨_, Cert.DwInIdeal.Value.run (F := Ideal) m ρ, ?_⟩
  refine (θ_run Cert.DwInRefIdeal.defs _ _).mono (fun _ h c => ⟨?_, (h c).2⟩) (Cert.DwInRefIdeal.Value.run (F := Ideal) m' ρ')
  rw [(h c).1]
  simp only [hagree c]
  exact (Cert.DwInProof.equal m c _ _).symm

theorem algebraic_DwUpIdeal_DwUpRefIdeal : algebraic_DwUpIdeal_DwUpRefIdeal := by
  intro m ρ m' ρ' _ hagree
  refine ⟨_, Cert.DwUpIdeal.Value.run (F := Ideal) m ρ, ?_⟩
  refine (θ_run Cert.DwUpRefIdeal.defs _ _).mono (fun _ h c => ⟨?_, (h c).2⟩) (Cert.DwUpRefIdeal.Value.run (F := Ideal) m' ρ')
  rw [(h c).1]
  simp only [hagree c]
  exact (Cert.DwUpProof.equal m c _ _ _ _).symm

theorem algebraic_DwDownIdeal_DwDownRefIdeal : algebraic_DwDownIdeal_DwDownRefIdeal := by
  intro m ρ m' ρ' _ hagree
  refine ⟨_, Cert.DwDownIdeal.Value.run (F := Ideal) m ρ, ?_⟩
  refine (θ_run Cert.DwDownRefIdeal.defs _ _).mono (fun _ h c => ⟨?_, (h c).2⟩) (Cert.DwDownRefIdeal.Value.run (F := Ideal) m' ρ')
  rw [(h c).1]
  simp only [hagree c]
  exact (Cert.DwDownProof.equal m c _ _).symm

theorem algebraic_DwOutIdeal_DwOutRefIdeal : algebraic_DwOutIdeal_DwOutRefIdeal := by
  intro m ρ m' ρ' _ hagree
  refine ⟨_, Cert.DwOutIdeal.Value.run (F := Ideal) m ρ, ?_⟩
  refine (θ_run Cert.DwOutRefIdeal.defs _ _).mono (fun _ h c => ⟨?_, (h c).2⟩) (Cert.DwOutRefIdeal.Value.run (F := Ideal) m' ρ')
  rw [(h c).1]
  simp only [hagree c]
  exact (Cert.DwOutProof.equal m c _ _).symm

theorem algebraic_DwGateIdeal_DwGateRefIdeal : algebraic_DwGateIdeal_DwGateRefIdeal := by
  intro m ρ m' ρ' _ hagree
  refine ⟨_, Cert.DwGateIdeal.Value.run (F := Ideal) m ρ, ?_⟩
  refine (θ_run Cert.DwGateRefIdeal.defs _ _).mono (fun _ h c => ⟨?_, (h c).2⟩) (Cert.DwGateRefIdeal.Value.run (F := Ideal) m' ρ')
  rw [(h c).1]
  simp only [hagree c]
  exact (Cert.DwGateProof.equal m c _ _).symm

theorem algebraic_DwProjIdeal_DwProjRefIdeal : algebraic_DwProjIdeal_DwProjRefIdeal := by
  intro m ρ m' ρ' _ hagree
  refine ⟨_, Cert.DwProjIdeal.Value.run (F := Ideal) m ρ, ?_⟩
  refine (θ_run Cert.DwProjRefIdeal.defs _ _).mono (fun _ h c => ⟨?_, (h c).2⟩) (Cert.DwProjRefIdeal.Value.run (F := Ideal) m' ρ')
  rw [(h c).1]
  simp only [hagree c]
  exact (Cert.DwProjProof.equal m c _ _).symm

theorem quiescent_MlpUpRefIdeal : quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run (F := Ideal) m ρ)

theorem quiescent_MlpActRefIdeal : quiescent_MlpActRefIdeal := fun m ρ _ =>
  (θ_run Cert.MlpActRefIdeal.defs _ _).mono (fun r h => ⟨fun c => (h c).2, sem_eq_zero_of_no_sems (by decide) r.2⟩)
    (Cert.MlpActRefIdeal.Value.run (F := Ideal) m ρ)

theorem quiescent_MlpNormRefIdeal : quiescent_MlpNormRefIdeal := fun m ρ _ =>
  (θ_run Cert.MlpNormRefIdeal.defs _ _).mono (fun r h => ⟨fun c => (h c).2.2.2, sem_eq_zero_of_no_sems (by decide) r.2⟩)
    (Cert.MlpNormRefIdeal.Value.run (F := Ideal) m ρ)

theorem quiescent_InNormRefIdeal : quiescent_InNormRefIdeal := fun m ρ _ =>
  (θ_run Cert.InNormRefIdeal.defs _ _).mono (fun r h => ⟨fun c => (h c).2.2, sem_eq_zero_of_no_sems (by decide) r.2⟩)
    (Cert.InNormRefIdeal.Value.run (F := Ideal) m ρ)

theorem quiescent_ProjConvRefIdeal : quiescent_ProjConvRefIdeal := fun m ρ _ =>
  (θ_run Cert.ProjConvRefIdeal.defs _ _).mono (fun r h => ⟨fun c => (h c).2.2.2.2, sem_eq_zero_of_no_sems (by decide) r.2⟩)
    (Cert.ProjConvRefIdeal.Value.run (F := Ideal) m ρ)

theorem algebraic_MlpUpIdeal_MlpUpRefIdeal : algebraic_MlpUpIdeal_MlpUpRefIdeal := by
  intro m ρ m' ρ' _ hagree
  refine ⟨_, Cert.MlpUpIdeal.Value.run_blocks (F := Ideal) m ρ, ?_⟩
  refine (θ_run Cert.MlpUpRefIdeal.defs _ _).mono (fun _ h c => ⟨?_, (h c).2⟩) (Cert.MlpUpRefIdeal.Value.run (F := Ideal) m' ρ')
  rw [(h c).1]
  simp only [hagree c]
  exact (Cert.MlpUpProof.equal m c).symm

theorem algebraic_MlpActIdeal_MlpActRefIdeal : algebraic_MlpActIdeal_MlpActRefIdeal := by
  intro m ρ m' ρ' _ hagree
  refine ⟨_, Cert.MlpActIdeal.Value.run_blocks (F := Ideal) m ρ, ?_⟩
  refine (θ_run Cert.MlpActRefIdeal.defs _ _).mono (fun _ h c => ⟨?_, (h c).2⟩) (Cert.MlpActRefIdeal.Value.run (F := Ideal) m' ρ')
  rw [(h c).1]
  simp only [hagree c]
  exact (Cert.MlpActProof.equal m c).symm

theorem algebraic_MlpNorm : algebraic_MlpNormIdeal_MlpNormRefIdeal_pre_finite_mlp_norm := by
  intro m ρ m' ρ' hfinite hagree
  refine ⟨_, _, _, Cert.MlpNormIdeal.Value.run_blocks (F := Ideal) m ρ, ?_⟩
  refine (θ_run Cert.MlpNormRefIdeal.defs _ _).mono (fun _ h c => ⟨?_, ?_, ?_, (h c).2.2.2⟩) (Cert.MlpNormRefIdeal.Value.run (F := Ideal) m' ρ')
  · rw [(h c).1]
    simp only [Cert.MlpNormRefIdeal.Value.res_main_v72, Cert.MlpNormRefIdeal.Value.res_main_v71, hagree c]
    exact (Cert.MlpNormProof.equal_rows m c (Cert.MlpNormProof.finite m hfinite c)).symm
  · rw [(h c).2.1]
    simp only [Cert.MlpNormRefIdeal.Value.res_main_v72, Cert.MlpNormRefIdeal.Value.res_main_v71, hagree c]
    exact (Cert.MlpNormProof.equal_copy m c (Cert.MlpNormProof.finite m hfinite c)).symm
  · rw [(h c).2.2.1]
    simp only [Cert.MlpNormRefIdeal.Value.res_main_v72, Cert.MlpNormRefIdeal.Value.res_main_v71, hagree c]
    exact (Cert.MlpNormProof.equal_sums m c).symm

theorem algebraic_InNorm : algebraic_InNormIdeal_InNormRefIdeal_pre_finite_in_norm := by
  intro m ρ m' ρ' hfinite hagree
  refine ⟨_, _, Cert.InNormIdeal.Value.run_blocks (F := Ideal) m ρ, ?_⟩
  refine (θ_run Cert.InNormRefIdeal.defs _ _).mono (fun _ h c => ⟨?_, ?_, (h c).2.2⟩) (Cert.InNormRefIdeal.Value.run (F := Ideal) m' ρ')
  · rw [(h c).1]
    simp only [Cert.InNormRefIdeal.Value.res_main_v71, hagree c]
    exact (Cert.InNormProof.equal_rows m c (Cert.InNormProof.finite m hfinite c)).symm
  · rw [(h c).2.1]
    simp only [Cert.InNormRefIdeal.Value.res_main_v71, hagree c]
    exact (Cert.InNormProof.equal_sums m c).symm

theorem algebraic_ProjConvIdeal_ProjConvRefIdeal : algebraic_ProjConvIdeal_ProjConvRefIdeal := by
  intro m ρ m' ρ' _ hagree
  refine ⟨_, _, _, _, Cert.ProjConvIdeal.Value.run_blocks (F := Ideal) m ρ, ?_⟩
  refine (θ_run Cert.ProjConvRefIdeal.defs _ _).mono (fun _ h c => ⟨?_, ?_, ?_, ?_, (h c).2.2.2.2⟩) (Cert.ProjConvRefIdeal.Value.run (F := Ideal) m' ρ')
  · rw [(h c).1, Cert.ProjConvRefIdeal.Read.val_main_v44_eq]
    simp only [hagree c]
    exact (Cert.ProjConvProof.equal_3 m c).symm
  · rw [(h c).2.1, Cert.ProjConvRefIdeal.Read.val_main_v46_eq]
    simp only [hagree c]
    exact (Cert.ProjConvProof.equal_4 m c).symm
  · rw [(h c).2.2.1, Cert.ProjConvRefIdeal.Read.val_main_v47_eq]
    simp only [hagree c]
    exact (Cert.ProjConvProof.equal_5 m c).symm
  · rw [(h c).2.2.2.1, Cert.ProjConvRefIdeal.Read.val_main_v48_eq]
    simp only [hagree c]
    exact (Cert.ProjConvProof.equal_6 m c).symm

theorem quiescent_PoolBwdRefIdeal : quiescent_PoolBwdRefIdeal := fun m ρ _ =>
  (θ_run Cert.PoolBwdRefIdeal.defs _ _).mono (fun r h => ⟨fun c => (h c).2.2, sem_eq_zero_of_no_sems (by decide) r.2⟩)
    (Cert.PoolBwdRefIdeal.Value.run (F := Ideal) m ρ)

theorem algebraic_PoolBwdIdeal_PoolBwdRefIdeal : algebraic_PoolBwdIdeal_PoolBwdRefIdeal := by
  intro m ρ m' ρ' _ hagree
  refine ⟨_, _, Cert.PoolBwdIdeal.Value.run_blocks (F := Ideal) m ρ, ?_⟩
  refine (θ_run Cert.PoolBwdRefIdeal.defs _ _).mono (fun _ h c => ⟨?_, ?_, (h c).2.2⟩) (Cert.PoolBwdRefIdeal.Value.run (F := Ideal) m' ρ')
  · rw [(h c).1, Cert.PoolBwdRefIdeal.Read.val_main_v243_eq]
    simp only [hagree c]
    exact (Cert.PoolProof.equal_4 m c).symm
  · rw [(h c).2.1, Cert.PoolBwdRefIdeal.Read.val_main_v152_eq]
    simp only [hagree c]
    exact (Cert.PoolProof.equal_5 m c).symm

theorem quiescent_ConvBwdRefIdeal : quiescent_ConvBwdRefIdeal := fun m ρ _ =>
  (θ_run Cert.ConvBwdRefIdeal.defs _ _).mono (fun r h => ⟨fun c => (h c).2.2, sem_eq_zero_of_no_sems (by decide) r.2⟩)
    (Cert.ConvBwdRefIdeal.Value.run (F := Ideal) m ρ)

theorem algebraic_ConvBwdIdeal_ConvBwdRefIdeal : algebraic_ConvBwdIdeal_ConvBwdRefIdeal := by
  intro m ρ m' ρ' _ hagree
  refine ⟨_, _, Cert.ConvBwdIdeal.Value.run_blocks (F := Ideal) m ρ, ?_⟩
  refine (θ_run Cert.ConvBwdRefIdeal.defs _ _).mono (fun _ h c => ⟨?_, ?_, (h c).2.2⟩) (Cert.ConvBwdRefIdeal.Value.run (F := Ideal) m' ρ')
  · rw [(h c).1, Cert.ConvBwdRefIdeal.Read.val_main_v81_eq]
    simp only [hagree c]
    exact (Cert.ConvProof.equal_7 m c).symm
  · rw [(h c).2.1, Cert.ConvBwdRefIdeal.Read.val_main_v83_eq]
    simp only [hagree c]
    exact (Cert.ConvProof.equal_8 m c).symm

theorem quiescent_LnInRefIdeal : quiescent_LnInRefIdeal := fun m ρ _ =>
  (θ_run Cert.LnInRefIdeal.defs _ _).mono (fun r h => ⟨fun c => (h c).2.2, sem_eq_zero_of_no_sems (by decide) r.2⟩)
    (Cert.LnInRefIdeal.Value.run (F := Ideal) m ρ)

theorem algebraic_LnInIdeal_LnInRefIdeal : algebraic_LnInIdeal_LnInRefIdeal := by
  intro m ρ m' ρ' _ hagree
  refine ⟨_, _, Cert.LnInIdeal.Value.run_blocks (F := Ideal) m ρ, ?_⟩
  refine (θ_run Cert.LnInRefIdeal.defs _ _).mono (fun _ h c => ⟨?_, ?_, (h c).2.2⟩) (Cert.LnInRefIdeal.Value.run (F := Ideal) m' ρ')
  · rw [(h c).1, Cert.LnInRefIdeal.Read.val_main_v23_eq]
    simp only [hagree c]
    exact (Cert.LnInProof.equal_3 m c).symm
  · rw [(h c).2.1, Cert.LnInRefIdeal.Read.val_main_v24_eq]
    simp only [hagree c]
    exact (Cert.LnInProof.equal_4 m c).symm

theorem quiescent_AdamOutRefIdeal : quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem algebraic_AdamOutIdeal_AdamOutRefIdeal : algebraic_AdamOutIdeal_AdamOutRefIdeal := by
  intro m ρ m' ρ' _ hagree
  refine ⟨_, _, _, _, Cert.AdamOutIdeal.Value.run_blocks (F := Ideal) m ρ, ?_⟩
  refine (θ_run Cert.AdamOutRefIdeal.defs _ _).mono (fun _ h c => ⟨?_, ?_, ?_, ?_, (h c).2.2.2.2⟩) (Cert.AdamOutRefIdeal.Value.run (F := Ideal) m' ρ')
  · rw [(h c).1, Cert.AdamOutRefIdeal.Read.val_main_v0_eq]
    simp only [hagree c]
    exact (Cert.AdamOutProof.equal_5 m c).symm
  · rw [(h c).2.1, Cert.AdamOutRefIdeal.Read.val_main_v27_eq]
    simp only [hagree c]
    exact (Cert.AdamOutProof.equal_6 m c).symm
  · rw [(h c).2.2.1, Cert.AdamOutRefIdeal.Read.val_main_v6_eq]
    simp only [hagree c]
    exact (Cert.AdamOutProof.equal_7 m c).symm
  · rw [(h c).2.2.2.1, Cert.AdamOutRefIdeal.Read.val_main_v13_eq]
    simp only [hagree c]
    exact (Cert.AdamOutProof.equal_8 m c).symm

theorem quiescent_AdamUpRefIdeal : quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

theorem algebraic_AdamUpIdeal_AdamUpRefIdeal : algebraic_AdamUpIdeal_AdamUpRefIdeal := by
  intro m ρ m' ρ' _ hagree
  refine ⟨_, _, _, _, Cert.AdamUpIdeal.Value.run_blocks (F := Ideal) m ρ, ?_⟩
  refine (θ_run Cert.AdamUpRefIdeal.defs _ _).mono (fun _ h c => ⟨?_, ?_, ?_, ?_, (h c).2.2.2.2⟩) (Cert.AdamUpRefIdeal.Value.run (F := Ideal) m' ρ')
  · rw [(h c).1, Cert.AdamUpRefIdeal.Read.val_main_v0_eq]
    simp only [hagree c]
    exact (Cert.AdamUpProof.equal_5 m c).symm
  · rw [(h c).2.1, Cert.AdamUpRefIdeal.Read.val_main_v27_eq]
    simp only [hagree c]
    exact (Cert.AdamUpProof.equal_6 m c).symm
  · rw [(h c).2.2.1, Cert.AdamUpRefIdeal.Read.val_main_v6_eq]
    simp only [hagree c]
    exact (Cert.AdamUpProof.equal_7 m c).symm
  · rw [(h c).2.2.2.1, Cert.AdamUpRefIdeal.Read.val_main_v13_eq]
    simp only [hagree c]
    exact (Cert.AdamUpProof.equal_8 m c).symm

theorem quiescent_AdamProjRefIdeal : quiescent_AdamProjRefIdeal := fun m ρ _ =>
  (θ_run Cert.AdamProjRefIdeal.defs _ _).mono (fun r h => ⟨fun c => (h c).2.2.2.2, sem_eq_zero_of_no_sems (by decide) r.2⟩)
    (Cert.AdamProjRefIdeal.Value.run (F := Ideal) m ρ)

theorem algebraic_AdamProjIdeal_AdamProjRefIdeal : algebraic_AdamProjIdeal_AdamProjRefIdeal := by
  intro m ρ m' ρ' _ hagree
  refine ⟨_, _, _, _, Cert.AdamProjIdeal.Value.run_blocks (F := Ideal) m ρ, ?_⟩
  refine (θ_run Cert.AdamProjRefIdeal.defs _ _).mono (fun _ h c => ⟨?_, ?_, ?_, ?_, (h c).2.2.2.2⟩) (Cert.AdamProjRefIdeal.Value.run (F := Ideal) m' ρ')
  · rw [(h c).1, Cert.AdamProjRefIdeal.Read.val_main_v0_eq]
    simp only [hagree c]
    exact (Cert.AdamProjProof.equal_5 m c).symm
  · rw [(h c).2.1, Cert.AdamProjRefIdeal.Read.val_main_v27_eq]
    simp only [hagree c]
    exact (Cert.AdamProjProof.equal_6 m c).symm
  · rw [(h c).2.2.1, Cert.AdamProjRefIdeal.Read.val_main_v6_eq]
    simp only [hagree c]
    exact (Cert.AdamProjProof.equal_7 m c).symm
  · rw [(h c).2.2.2.1, Cert.AdamProjRefIdeal.Read.val_main_v13_eq]
    simp only [hagree c]
    exact (Cert.AdamProjProof.equal_8 m c).symm

theorem quiescent_AdamInRefIdeal : quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem algebraic_AdamInIdeal_AdamInRefIdeal : algebraic_AdamInIdeal_AdamInRefIdeal := by
  intro m ρ m' ρ' _ hagree
  refine ⟨Cert.AdamInRefIdeal.Read.val_main_v4 (F := Ideal) (m' (((0 : Dev Cert.AdamInRefIdeal.nD).tc : Thread Cert.AdamInRefIdeal.nD Cert.AdamInRefIdeal.τ).loc Cert.AdamInRefIdeal.main_arg1)) (m' (((0 : Dev Cert.AdamInRefIdeal.nD).tc : Thread Cert.AdamInRefIdeal.nD Cert.AdamInRefIdeal.τ).loc Cert.AdamInRefIdeal.main_arg2)),
    Cert.AdamInRefIdeal.Read.val_main_v34 (F := Ideal) (m' (((0 : Dev Cert.AdamInRefIdeal.nD).tc : Thread Cert.AdamInRefIdeal.nD Cert.AdamInRefIdeal.τ).loc Cert.AdamInRefIdeal.main_arg0)) (m' (((0 : Dev Cert.AdamInRefIdeal.nD).tc : Thread Cert.AdamInRefIdeal.nD Cert.AdamInRefIdeal.τ).loc Cert.AdamInRefIdeal.main_arg1)) (m' (((0 : Dev Cert.AdamInRefIdeal.nD).tc : Thread Cert.AdamInRefIdeal.nD Cert.AdamInRefIdeal.τ).loc Cert.AdamInRefIdeal.main_arg2)) (m' (((0 : Dev Cert.AdamInRefIdeal.nD).tc : Thread Cert.AdamInRefIdeal.nD Cert.AdamInRefIdeal.τ).loc Cert.AdamInRefIdeal.main_arg3)) (m' (((0 : Dev Cert.AdamInRefIdeal.nD).tc : Thread Cert.AdamInRefIdeal.nD Cert.AdamInRefIdeal.τ).loc Cert.AdamInRefIdeal.main_arg4)),
    Cert.AdamInRefIdeal.Read.val_main_v11 (F := Ideal) (m' (((0 : Dev Cert.AdamInRefIdeal.nD).tc : Thread Cert.AdamInRefIdeal.nD Cert.AdamInRefIdeal.τ).loc Cert.AdamInRefIdeal.main_arg1)) (m' (((0 : Dev Cert.AdamInRefIdeal.nD).tc : Thread Cert.AdamInRefIdeal.nD Cert.AdamInRefIdeal.τ).loc Cert.AdamInRefIdeal.main_arg2)) (m' (((0 : Dev Cert.AdamInRefIdeal.nD).tc : Thread Cert.AdamInRefIdeal.nD Cert.AdamInRefIdeal.τ).loc Cert.AdamInRefIdeal.main_arg3)),
    Cert.AdamInRefIdeal.Read.val_main_v19 (F := Ideal) (m' (((0 : Dev Cert.AdamInRefIdeal.nD).tc : Thread Cert.AdamInRefIdeal.nD Cert.AdamInRefIdeal.τ).loc Cert.AdamInRefIdeal.main_arg1)) (m' (((0 : Dev Cert.AdamInRefIdeal.nD).tc : Thread Cert.AdamInRefIdeal.nD Cert.AdamInRefIdeal.τ).loc Cert.AdamInRefIdeal.main_arg2)) (m' (((0 : Dev Cert.AdamInRefIdeal.nD).tc : Thread Cert.AdamInRefIdeal.nD Cert.AdamInRefIdeal.τ).loc Cert.AdamInRefIdeal.main_arg4)), ?_, ?_⟩
  · refine (θ_run Cert.AdamInIdeal.defs _ _).mono (fun _ h c => ⟨?_, ?_, ?_, ?_, (h c).2.2.2.2⟩) (Cert.AdamInIdeal.Value.run_blocks (F := Ideal) m ρ)
    · rw [(h c).1]
      exact Cert.AdamInProof.equal_5 m c _ _ (hagree c).2.1 (hagree c).2.2.1
    · rw [(h c).2.1, ← (hagree c).1, ← (hagree c).2.2.2.1, ← (hagree c).2.2.2.2]
      exact Cert.AdamInProof.equal_6 m c _ _ (hagree c).2.1 (hagree c).2.2.1
    · rw [(h c).2.2.1, ← (hagree c).2.2.2.1]
      exact Cert.AdamInProof.equal_7 m c _ _ (hagree c).2.1 (hagree c).2.2.1
    · rw [(h c).2.2.2.1, ← (hagree c).2.2.2.2]
      exact Cert.AdamInProof.equal_8 m c _ _ (hagree c).2.1 (hagree c).2.2.1
  · refine (θ_run Cert.AdamInRefIdeal.defs _ _).mono (fun _ h => ⟨?_, ?_, ?_, ?_, (h 0).2.2.2.2⟩) (Cert.AdamInRefIdeal.Value.run (F := Ideal) m' ρ')
    · rw [(h 0).1, Cert.AdamInRefIdeal.Read.val_main_v4_eq]
    · rw [(h 0).2.1, Cert.AdamInRefIdeal.Read.val_main_v34_eq]
    · rw [(h 0).2.2.1, Cert.AdamInRefIdeal.Read.val_main_v11_eq]
    · rw [(h 0).2.2.2.1, Cert.AdamInRefIdeal.Read.val_main_v19_eq]

theorem quiescent_AdamPoolRefIdeal : quiescent_AdamPoolRefIdeal := fun m ρ _ =>
  (θ_run Cert.AdamPoolRefIdeal.defs _ _).mono (fun r h => ⟨fun c => (h c).2.2.2.2, sem_eq_zero_of_no_sems (by decide) r.2⟩)
    (Cert.AdamPoolRefIdeal.Value.run (F := Ideal) m ρ)

theorem algebraic_AdamPoolIdeal_AdamPoolRefIdeal : algebraic_AdamPoolIdeal_AdamPoolRefIdeal := by
  intro m ρ m' ρ' _ hagree
  refine ⟨Cert.AdamPoolRefIdeal.Read.val_main_v4 (F := Ideal) (m' (((0 : Dev Cert.AdamPoolRefIdeal.nD).tc : Thread Cert.AdamPoolRefIdeal.nD Cert.AdamPoolRefIdeal.τ).loc Cert.AdamPoolRefIdeal.main_arg1)) (m' (((0 : Dev Cert.AdamPoolRefIdeal.nD).tc : Thread Cert.AdamPoolRefIdeal.nD Cert.AdamPoolRefIdeal.τ).loc Cert.AdamPoolRefIdeal.main_arg2)),
    Cert.AdamPoolRefIdeal.Read.val_main_v31 (F := Ideal) (m' (((0 : Dev Cert.AdamPoolRefIdeal.nD).tc : Thread Cert.AdamPoolRefIdeal.nD Cert.AdamPoolRefIdeal.τ).loc Cert.AdamPoolRefIdeal.main_arg0)) (m' (((0 : Dev Cert.AdamPoolRefIdeal.nD).tc : Thread Cert.AdamPoolRefIdeal.nD Cert.AdamPoolRefIdeal.τ).loc Cert.AdamPoolRefIdeal.main_arg1)) (m' (((0 : Dev Cert.AdamPoolRefIdeal.nD).tc : Thread Cert.AdamPoolRefIdeal.nD Cert.AdamPoolRefIdeal.τ).loc Cert.AdamPoolRefIdeal.main_arg2)) (m' (((0 : Dev Cert.AdamPoolRefIdeal.nD).tc : Thread Cert.AdamPoolRefIdeal.nD Cert.AdamPoolRefIdeal.τ).loc Cert.AdamPoolRefIdeal.main_arg3)) (m' (((0 : Dev Cert.AdamPoolRefIdeal.nD).tc : Thread Cert.AdamPoolRefIdeal.nD Cert.AdamPoolRefIdeal.τ).loc Cert.AdamPoolRefIdeal.main_arg4)),
    Cert.AdamPoolRefIdeal.Read.val_main_v10 (F := Ideal) (m' (((0 : Dev Cert.AdamPoolRefIdeal.nD).tc : Thread Cert.AdamPoolRefIdeal.nD Cert.AdamPoolRefIdeal.τ).loc Cert.AdamPoolRefIdeal.main_arg1)) (m' (((0 : Dev Cert.AdamPoolRefIdeal.nD).tc : Thread Cert.AdamPoolRefIdeal.nD Cert.AdamPoolRefIdeal.τ).loc Cert.AdamPoolRefIdeal.main_arg2)) (m' (((0 : Dev Cert.AdamPoolRefIdeal.nD).tc : Thread Cert.AdamPoolRefIdeal.nD Cert.AdamPoolRefIdeal.τ).loc Cert.AdamPoolRefIdeal.main_arg3)),
    Cert.AdamPoolRefIdeal.Read.val_main_v17 (F := Ideal) (m' (((0 : Dev Cert.AdamPoolRefIdeal.nD).tc : Thread Cert.AdamPoolRefIdeal.nD Cert.AdamPoolRefIdeal.τ).loc Cert.AdamPoolRefIdeal.main_arg1)) (m' (((0 : Dev Cert.AdamPoolRefIdeal.nD).tc : Thread Cert.AdamPoolRefIdeal.nD Cert.AdamPoolRefIdeal.τ).loc Cert.AdamPoolRefIdeal.main_arg2)) (m' (((0 : Dev Cert.AdamPoolRefIdeal.nD).tc : Thread Cert.AdamPoolRefIdeal.nD Cert.AdamPoolRefIdeal.τ).loc Cert.AdamPoolRefIdeal.main_arg4)), ?_, ?_⟩
  · refine (θ_run Cert.AdamPoolIdeal.defs _ _).mono (fun _ h c => ⟨?_, ?_, ?_, ?_, (h c).2.2.2.2⟩) (Cert.AdamPoolIdeal.Value.run_blocks (F := Ideal) m ρ)
    · rw [(h c).1]
      exact Cert.AdamPoolProof.equal_5 m c _ _ (hagree c).2.1 (hagree c).2.2.1
    · rw [(h c).2.1, ← (hagree c).1, ← (hagree c).2.2.2.1, ← (hagree c).2.2.2.2]
      exact Cert.AdamPoolProof.equal_6 m c _ _ (hagree c).2.1 (hagree c).2.2.1
    · rw [(h c).2.2.1, ← (hagree c).2.2.2.1]
      exact Cert.AdamPoolProof.equal_7 m c _ _ (hagree c).2.1 (hagree c).2.2.1
    · rw [(h c).2.2.2.1, ← (hagree c).2.2.2.2]
      exact Cert.AdamPoolProof.equal_8 m c _ _ (hagree c).2.1 (hagree c).2.2.1
  · refine (θ_run Cert.AdamPoolRefIdeal.defs _ _).mono (fun _ h => ⟨?_, ?_, ?_, ?_, (h 0).2.2.2.2⟩) (Cert.AdamPoolRefIdeal.Value.run (F := Ideal) m' ρ')
    · rw [(h 0).1, Cert.AdamPoolRefIdeal.Read.val_main_v4_eq]
    · rw [(h 0).2.1, Cert.AdamPoolRefIdeal.Read.val_main_v31_eq]
    · rw [(h 0).2.2.1, Cert.AdamPoolRefIdeal.Read.val_main_v10_eq]
    · rw [(h 0).2.2.2.1, Cert.AdamPoolRefIdeal.Read.val_main_v17_eq]

theorem claim : Cert.Claim := ⟨Cert.DwIn.Gen.facts, Cert.DwInIdeal.Gen.facts, Cert.DwInRefIdeal.Gen.facts, Cert.DwUp.Gen.facts, Cert.DwUpIdeal.Gen.facts, Cert.DwUpRefIdeal.Gen.facts, Cert.DwDown.Gen.facts, Cert.DwDownIdeal.Gen.facts, Cert.DwDownRefIdeal.Gen.facts, Cert.DwOut.Gen.facts, Cert.DwOutIdeal.Gen.facts, Cert.DwOutRefIdeal.Gen.facts, Cert.DwGate.Gen.facts, Cert.DwGateIdeal.Gen.facts, Cert.DwGateRefIdeal.Gen.facts, Cert.DwProj.Gen.facts, Cert.DwProjIdeal.Gen.facts, Cert.DwProjRefIdeal.Gen.facts, Cert.MlpUp.Gen.facts, Cert.MlpUpIdeal.Gen.facts, Cert.MlpUpRefIdeal.Gen.facts, Cert.MlpAct.Gen.facts, Cert.MlpActIdeal.Gen.facts, Cert.MlpActRefIdeal.Gen.facts, Cert.MlpNorm.Gen.facts, Cert.MlpNormIdeal.Gen.facts, Cert.MlpNormRefIdeal.Gen.facts, Cert.InNorm.Gen.facts, Cert.InNormIdeal.Gen.facts, Cert.InNormRefIdeal.Gen.facts, Cert.ProjConv.Gen.facts, Cert.ProjConvIdeal.Gen.facts, Cert.ProjConvRefIdeal.Gen.facts, Cert.PoolBwd.Gen.facts, Cert.PoolBwdIdeal.Gen.facts, Cert.PoolBwdRefIdeal.Gen.facts, Cert.ConvBwd.Gen.facts, Cert.ConvBwdIdeal.Gen.facts, Cert.ConvBwdRefIdeal.Gen.facts, Cert.LnIn.Gen.facts, Cert.LnInIdeal.Gen.facts, Cert.LnInRefIdeal.Gen.facts, Cert.AdamOut.Gen.facts, Cert.AdamOutIdeal.Gen.facts, Cert.AdamOutRefIdeal.Gen.facts, Cert.AdamUp.Gen.facts, Cert.AdamUpIdeal.Gen.facts, Cert.AdamUpRefIdeal.Gen.facts, Cert.AdamProj.Gen.facts, Cert.AdamProjIdeal.Gen.facts, Cert.AdamProjRefIdeal.Gen.facts, Cert.AdamIn.Gen.facts, Cert.AdamInIdeal.Gen.facts, Cert.AdamInRefIdeal.Gen.facts, Cert.AdamPool.Gen.facts, Cert.AdamPoolIdeal.Gen.facts, Cert.AdamPoolRefIdeal.Gen.facts, Cert.Pre_finite_mlp_norm.Gen.facts, Cert.Pre_finite_in_norm.Gen.facts,
  fun m ρ _ => Cert.DwIn.Gen.frame m ρ, fun m ρ _ => Cert.DwInIdeal.Gen.frame m ρ, quiescent_DwInRefIdeal, fun m ρ _ => Cert.DwUp.Gen.frame m ρ, fun m ρ _ => Cert.DwUpIdeal.Gen.frame m ρ, quiescent_DwUpRefIdeal, fun m ρ _ => Cert.DwDown.Gen.frame m ρ, fun m ρ _ => Cert.DwDownIdeal.Gen.frame m ρ, quiescent_DwDownRefIdeal, fun m ρ _ => Cert.DwOut.Gen.frame m ρ, fun m ρ _ => Cert.DwOutIdeal.Gen.frame m ρ, quiescent_DwOutRefIdeal, fun m ρ _ => Cert.DwGate.Gen.frame m ρ, fun m ρ _ => Cert.DwGateIdeal.Gen.frame m ρ, quiescent_DwGateRefIdeal, fun m ρ _ => Cert.DwProj.Gen.frame m ρ, fun m ρ _ => Cert.DwProjIdeal.Gen.frame m ρ, quiescent_DwProjRefIdeal, fun m ρ _ => Cert.MlpUp.Gen.frame m ρ, fun m ρ _ => Cert.MlpUpIdeal.Gen.frame m ρ, quiescent_MlpUpRefIdeal, fun m ρ _ => Cert.MlpAct.Gen.frame m ρ, fun m ρ _ => Cert.MlpActIdeal.Gen.frame m ρ, quiescent_MlpActRefIdeal, fun m ρ _ => Cert.MlpNorm.Gen.frame m ρ, fun m ρ _ => Cert.MlpNormIdeal.Gen.frame m ρ, fun m ρ _ => Cert.MlpNormIdeal.Gen.frame m ρ, quiescent_MlpNormRefIdeal, fun m ρ _ => quiescent_MlpNormRefIdeal m ρ trivial, fun m ρ _ => Cert.InNorm.Gen.frame m ρ, fun m ρ _ => Cert.InNormIdeal.Gen.frame m ρ, fun m ρ _ => Cert.InNormIdeal.Gen.frame m ρ, quiescent_InNormRefIdeal, fun m ρ _ => quiescent_InNormRefIdeal m ρ trivial, fun m ρ _ => Cert.ProjConv.Gen.frame m ρ, fun m ρ _ => Cert.ProjConvIdeal.Gen.frame m ρ, quiescent_ProjConvRefIdeal, fun m ρ _ => Cert.PoolBwd.Gen.frame m ρ, fun m ρ _ => Cert.PoolBwdIdeal.Gen.frame m ρ, quiescent_PoolBwdRefIdeal, fun m ρ _ => Cert.ConvBwd.Gen.frame m ρ, fun m ρ _ => Cert.ConvBwdIdeal.Gen.frame m ρ, quiescent_ConvBwdRefIdeal, fun m ρ _ => Cert.LnIn.Gen.frame m ρ, fun m ρ _ => Cert.LnInIdeal.Gen.frame m ρ, quiescent_LnInRefIdeal, fun m ρ _ => Cert.AdamOut.Gen.frame m ρ, fun m ρ _ => Cert.AdamOutIdeal.Gen.frame m ρ, quiescent_AdamOutRefIdeal, fun m ρ _ => Cert.AdamUp.Gen.frame m ρ, fun m ρ _ => Cert.AdamUpIdeal.Gen.frame m ρ, quiescent_AdamUpRefIdeal, fun m ρ _ => Cert.AdamProj.Gen.frame m ρ, fun m ρ _ => Cert.AdamProjIdeal.Gen.frame m ρ, quiescent_AdamProjRefIdeal, fun m ρ _ => Cert.AdamIn.Gen.frame m ρ, fun m ρ _ => Cert.AdamInIdeal.Gen.frame m ρ, quiescent_AdamInRefIdeal, fun m ρ _ => Cert.AdamPool.Gen.frame m ρ, fun m ρ _ => Cert.AdamPoolIdeal.Gen.frame m ρ, quiescent_AdamPoolRefIdeal, (trivial : preserves_DwIn_DwInIdeal), algebraic_DwInIdeal_DwInRefIdeal, (trivial : preserves_DwUp_DwUpIdeal), algebraic_DwUpIdeal_DwUpRefIdeal, (trivial : preserves_DwDown_DwDownIdeal), algebraic_DwDownIdeal_DwDownRefIdeal, (trivial : preserves_DwOut_DwOutIdeal), algebraic_DwOutIdeal_DwOutRefIdeal, (trivial : preserves_DwGate_DwGateIdeal), algebraic_DwGateIdeal_DwGateRefIdeal, (trivial : preserves_DwProj_DwProjIdeal), algebraic_DwProjIdeal_DwProjRefIdeal, (trivial : preserves_MlpUp_MlpUpIdeal), algebraic_MlpUpIdeal_MlpUpRefIdeal, (trivial : preserves_MlpAct_MlpActIdeal), algebraic_MlpActIdeal_MlpActRefIdeal, (trivial : preserves_MlpNorm_MlpNormIdeal), algebraic_MlpNorm, (trivial : preserves_InNorm_InNormIdeal), algebraic_InNorm, (trivial : preserves_ProjConv_ProjConvIdeal), algebraic_ProjConvIdeal_ProjConvRefIdeal, (trivial : preserves_PoolBwd_PoolBwdIdeal), algebraic_PoolBwdIdeal_PoolBwdRefIdeal, (trivial : preserves_ConvBwd_ConvBwdIdeal), algebraic_ConvBwdIdeal_ConvBwdRefIdeal, (trivial : preserves_LnIn_LnInIdeal), algebraic_LnInIdeal_LnInRefIdeal, (trivial : preserves_AdamOut_AdamOutIdeal), algebraic_AdamOutIdeal_AdamOutRefIdeal, (trivial : preserves_AdamUp_AdamUpIdeal), algebraic_AdamUpIdeal_AdamUpRefIdeal, (trivial : preserves_AdamProj_AdamProjIdeal), algebraic_AdamProjIdeal_AdamProjRefIdeal, (trivial : preserves_AdamIn_AdamInIdeal), algebraic_AdamInIdeal_AdamInRefIdeal, (trivial : preserves_AdamPool_AdamPoolIdeal), algebraic_AdamPoolIdeal_AdamPoolRefIdeal⟩

end Cert.Proof

end
